-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "s2" .f32 0x3E16C740#32 (((3424635 / 33554432) * (Real.log 2)⁻¹ : ℝ) : EReal)
  ∧ IdealRules.named_const.Statement Cert.Kernel2Ideal.κ "ln2" .f32 0x3F317218#32 ((Real.log 2 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v60)) (v1 : (c : Dev Cert.Kernel2Ideal.nD) → Buf (Elt Ideal) ((c.tc : Thread Cert.Kernel2Ideal.nD Cert.Kernel2Ideal.τ).loc Cert.Kernel2Ideal.main_v63)) (v2 : (c : Dev Cert.Kernel2Ideal.nD) → Buf (Elt Ideal) ((c.tc : Thread Cert.Kernel2Ideal.nD Cert.Kernel2Ideal.τ).loc Cert.Kernel2Ideal.main_v57_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v60) = v0 c
          ∧ r.2.mem ((c.tc : Thread Cert.Kernel2Ideal.nD Cert.Kernel2Ideal.τ).loc Cert.Kernel2Ideal.main_v63) = v1 c
          ∧ r.2.mem ((c.tc : Thread Cert.Kernel2Ideal.nD Cert.Kernel2Ideal.τ).loc Cert.Kernel2Ideal.main_v57_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v76) = v1 c
          ∧ r.2.mem ((c.tc : Thread Cert.Reference2Ideal.nD Cert.Reference2Ideal.τ).loc Cert.Reference2Ideal.main_v77) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "log2e" .f32 0x3FB8AA3B#32 (((Real.log 2)⁻¹ : ℝ) : EReal)
  ∧ IdealRules.named_const.Statement Cert.Kernel3Ideal.κ "s2" .f32 0x3E38AA3B#32 (((1 / 8) * (Real.log 2)⁻¹ : ℝ) : EReal)
  ∧ IdealRules.named_const.Statement Cert.Kernel3Ideal.κ "ln2" .f32 0x3F317218#32 ((Real.log 2 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v56_0)) (v1 : (c : Dev Cert.Kernel3Ideal.nD) → Buf (Elt Ideal) ((c.tc : Thread Cert.Kernel3Ideal.nD Cert.Kernel3Ideal.τ).loc Cert.Kernel3Ideal.main_v56_1)) (v2 : (c : Dev Cert.Kernel3Ideal.nD) → Buf (Elt Ideal) ((c.tc : Thread Cert.Kernel3Ideal.nD Cert.Kernel3Ideal.τ).loc Cert.Kernel3Ideal.main_v56_2)) (v3 : (c : Dev Cert.Kernel3Ideal.nD) → Buf (Elt Ideal) ((c.tc : Thread Cert.Kernel3Ideal.nD Cert.Kernel3Ideal.τ).loc Cert.Kernel3Ideal.main_v57)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v56_0) = v0 c
          ∧ r.2.mem ((c.tc : Thread Cert.Kernel3Ideal.nD Cert.Kernel3Ideal.τ).loc Cert.Kernel3Ideal.main_v56_1) = v1 c
          ∧ r.2.mem ((c.tc : Thread Cert.Kernel3Ideal.nD Cert.Kernel3Ideal.τ).loc Cert.Kernel3Ideal.main_v56_2) = v2 c
          ∧ r.2.mem ((c.tc : Thread Cert.Kernel3Ideal.nD Cert.Kernel3Ideal.τ).loc Cert.Kernel3Ideal.main_v57) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_v94) = v1 c
          ∧ r.2.mem ((c.tc : Thread Cert.Reference3Ideal.nD Cert.Reference3Ideal.τ).loc Cert.Reference3Ideal.main_v95) = v2 c
          ∧ r.2.mem ((c.tc : Thread Cert.Reference3Ideal.nD Cert.Reference3Ideal.τ).loc Cert.Reference3Ideal.main_v85) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v32_0)) (v1 : (c : Dev Cert.Kernel6Ideal.nD) → Buf (Elt Ideal) ((c.tc : Thread Cert.Kernel6Ideal.nD Cert.Kernel6Ideal.τ).loc Cert.Kernel6Ideal.main_v32_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32_0) = v0 c
          ∧ r.2.mem ((c.tc : Thread Cert.Kernel6Ideal.nD Cert.Kernel6Ideal.τ).loc Cert.Kernel6Ideal.main_v32_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)) (v5 : (c : Dev Cert.Kernel7Ideal.nD) → Buf (Elt Ideal) ((c.tc : Thread Cert.Kernel7Ideal.nD Cert.Kernel7Ideal.τ).loc Cert.Kernel7Ideal.main_v4_5)) (v6 : (c : Dev Cert.Kernel7Ideal.nD) → Buf (Elt Ideal) ((c.tc : Thread Cert.Kernel7Ideal.nD Cert.Kernel7Ideal.τ).loc Cert.Kernel7Ideal.main_v4_6)) (v7 : (c : Dev Cert.Kernel7Ideal.nD) → Buf (Elt Ideal) ((c.tc : Thread Cert.Kernel7Ideal.nD Cert.Kernel7Ideal.τ).loc Cert.Kernel7Ideal.main_v4_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_v4_5) = v5 c
          ∧ r.2.mem ((c.tc : Thread Cert.Kernel7Ideal.nD Cert.Kernel7Ideal.τ).loc Cert.Kernel7Ideal.main_v4_6) = v6 c
          ∧ r.2.mem ((c.tc : Thread Cert.Kernel7Ideal.nD Cert.Kernel7Ideal.τ).loc Cert.Kernel7Ideal.main_v4_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_v83) = v1 c
          ∧ r.2.mem ((c.tc : Thread Cert.Reference7Ideal.nD Cert.Reference7Ideal.τ).loc Cert.Reference7Ideal.main_v81) = v2 c
          ∧ r.2.mem ((c.tc : Thread Cert.Reference7Ideal.nD Cert.Reference7Ideal.τ).loc Cert.Reference7Ideal.main_v60) = v3 c
          ∧ r.2.mem ((c.tc : Thread Cert.Reference7Ideal.nD Cert.Reference7Ideal.τ).loc Cert.Reference7Ideal.main_v88) = v4 c
          ∧ r.2.mem ((c.tc : Thread Cert.Reference7Ideal.nD Cert.Reference7Ideal.τ).loc Cert.Reference7Ideal.main_v93) = v5 c
          ∧ r.2.mem ((c.tc : Thread Cert.Reference7Ideal.nD Cert.Reference7Ideal.τ).loc Cert.Reference7Ideal.main_v96) = v6 c
          ∧ r.2.mem ((c.tc : Thread Cert.Reference7Ideal.nD Cert.Reference7Ideal.τ).loc Cert.Reference7Ideal.main_v99) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite2.lean ====
abbrev S4096x768 : Shape := ⟨2, ![4096, 768]⟩
abbrev S4096x512 : Shape := ⟨2, ![4096, 512]⟩
abbrev S_ : Shape := ⟨0, ![]⟩

class Facts : Prop where
  bcast_S_S4096x768 : S_.BroadcastsInDim S4096x768 (![] : Fin 0 → Fin S4096x768.rank)
  bcast_S_S4096x512 : S_.BroadcastsInDim S4096x512 (![] : Fin 0 → Fin S4096x512.rank)

variable [Facts]

def fn {F : FTy → Type} [FloatOps F] (main_arg0 : FVec F S4096x768 .f32) (main_arg1 : FVec F S4096x768 .f32) (main_arg2 : FVec F S4096x512 .f32) (main_arg3 : FVec F S4096x512 .f32) : IVec S4096x768 1 × IVec S4096x768 1 × IVec S4096x512 1 × IVec S4096x512 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S4096x768 .f32 := Host.absf main_arg1
  let main_cst_0 : FVec F S_ .f32 := constant S_ .f32 0x7F800000#32
  let main_v4 : FVec F S4096x768 .f32 := broadcastInDim S4096x768 ![] bcast_S_S4096x768 main_cst_0
  let main_v5 : IVec S4096x768 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== Pre_finite3.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  bcast_S_S4096x8 : S_.BroadcastsInDim S4096x8 (![] : Fin 0 → Fin S4096x8.rank)

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S4096x512 1 × IVec S4096x512 1 × IVec S4096x512 1 × IVec S4096x8 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  (main_v2, main_v5, main_v8, main_v11, main_v14)
-- ==== Pre_finite4.lean ====
abbrev S4096x1024 : Shape := ⟨2, ![4096, 1024]⟩
abbrev S1x1024 : Shape := ⟨2, ![1, 1024]⟩
abbrev S1x1024x4096 : Shape := ⟨3, ![1, 1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S4096x4096 : S_.BroadcastsInDim S4096x4096 (![] : Fin 0 → Fin S4096x4096.rank)

variable [Facts]

def fn {F : FTy → Type} [FloatOps F] (main_arg0 : FVec F S4096x1024 .f32) (main_arg1 : FVec F S1x1024 .f32) (main_arg2 : FVec F S1x1024x4096 .f32) (main_arg3 : FVec F S4096x4096 .f32) (main_arg4 : FVec F S4096x1024 .f32) : IVec S4096x1024 1 × IVec S1x1024 1 × IVec S1x1024x4096 1 × IVec S4096x4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  (main_v2, main_v5, main_v8, main_v11)
-- ==== Pre_finite5.lean ====
abbrev S4096x1024 : Shape := ⟨2, ![4096, 1024]⟩
abbrev S4096x4096 : Shape := ⟨2, ![4096, 4096]⟩
abbrev S1x4096x1024 : Shape := ⟨3, ![1, 4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x4096 : S_.BroadcastsInDim S4096x4096 (![] : Fin 0 → Fin S4096x4096.rank)
  bcast_S_S1x4096x1024 : S_.BroadcastsInDim S1x4096x1024 (![] : Fin 0 → Fin S1x4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x4096 .f32) (main_arg2 : FVec F S1x4096x1024 .f32) (main_arg3 : FVec F S1024 .f32) (main_arg4 : FVec F S4096x1024 .f32) : IVec S4096x1024 1 × IVec S4096x4096 1 × IVec S1x4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite6.lean ====
abbrev S4096x1024 : Shape := ⟨2, ![4096, 1024]⟩
abbrev S1x1024 : Shape := ⟨2, ![1, 1024]⟩
abbrev S1x1024x2216 : Shape := ⟨3, ![1, 1024, 2216]⟩
abbrev S4096x2216 : Shape := ⟨2, ![4096, 2216]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x2216 : S_.BroadcastsInDim S1x1024x2216 (![] : Fin 0 → Fin S1x1024x2216.rank)
  bcast_S_S4096x2216 : S_.BroadcastsInDim S4096x2216 (![] : Fin 0 → Fin S4096x2216.rank)

variable [Facts]

def fn {F : FTy → Type} [FloatOps F] (main_arg0 : FVec F S4096x1024 .f32) (main_arg1 : FVec F S1x1024 .f32) (main_arg2 : FVec F S1x1024x2216 .f32) (main_arg3 : FVec F S4096x2216 .f32) (main_arg4 : FVec F S4096x1024 .f32) : IVec S4096x1024 1 × IVec S1x1024 1 × IVec S1x1024x2216 1 × IVec S4096x2216 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2216 .f32 := Host.absf main_arg2
  let main_cst_1 : FVec F S_ .f32 := constant S_ .f32 0x7F800000#32
  let main_v7 : FVec F S1x1024x2216 .f32 := broadcastInDim S1x1024x2216 ![] bcast_S_S1x1024x2216 main_cst_1
  let main_v8 : IVec S1x1024x2216 1 := cmpf .olt main_v6 main_v7
  let main_v9 : FVec F S4096x2216 .f32 := Host.absf main_arg3
  let main_cst_2 : FVec F S_ .f32 := constant S_ .f32 0x7F800000#32
  let main_v10 : FVec F S4096x2216 .f32 := broadcastInDim S4096x2216 ![] bcast_S_S4096x2216 main_cst_2
  let main_v11 : IVec S4096x2216 1 := cmpf .olt main_v9 main_v10
  (main_v2, main_v5, main_v8, main_v11)
-- ==== Pre_finite7.lean ====
abbrev S4096x512 : Shape := ⟨2, ![4096, 512]⟩
abbrev S1x512 : Shape := ⟨2, ![1, 512]⟩
abbrev S1x1024x1024 : Shape := ⟨3, ![1, 1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S4096x1024 : S_.BroadcastsInDim S4096x1024 (![] : Fin 0 → Fin S4096x1024.rank)

variable [Facts]

def fn {F : FTy → Type} [FloatOps F] (main_arg0 : FVec F S4096x512 .f32) (main_arg1 : FVec F S4096x512 .f32) (main_arg2 : FVec F S1x512 .f32) (main_arg3 : FVec F S1x512 .f32) (main_arg4 : FVec F S1x1024x1024 .f32) (main_arg5 : FVec F S4096x1024 .f32) : IVec S4096x512 1 × IVec S4096x512 1 × IVec S1x512 1 × IVec S1x512 1 × IVec S1x1024x1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite8.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)

variable [Facts]

def fn {F : FTy → Type} [FloatOps F] (main_arg0 : FVec F S4096x128 .f32) : IVec S4096x128 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  main_v2
-- ==== Kernel.lean ====
abbrev S4096x4096 : Shape := ⟨2, ![4096, 4096]⟩
abbrev S1x4096x1024 : Shape := ⟨3, ![1, 4096, 1024]⟩
abbrev S4096x1024 : Shape := ⟨2, ![4096, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x4096, .bf16⟩
  | .hbm, ⟨7, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4096x4096 : Shape := ⟨2, ![4096, 4096]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel2.lean ====
abbrev S4096x768 : Shape := ⟨2, ![4096, 768]⟩
abbrev S4096x512 : Shape := ⟨2, ![4096, 512]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x8x96 : Shape := ⟨3, ![4096, 8, 96]⟩
abbrev S8x4096x96 : Shape := ⟨3, ![8, 4096, 96]⟩
abbrev S8x4096x4096 : Shape := ⟨3, ![8, 4096, 4096]⟩
abbrev S8x4096 : Shape := ⟨2, ![8, 4096]⟩
abbrev S8x4096x1 : Shape := ⟨3, ![8, 4096, 1]⟩
abbrev S4096x8x64 : Shape := ⟨3, ![4096, 8, 64]⟩
abbrev S8x4096x64 : Shape := ⟨3, ![8, 4096, 64]⟩
abbrev S8x4096x2 : Shape := ⟨3, ![8, 4096, 2]⟩
abbrev S4x2x4096x2 : Shape := ⟨4, ![4, 2, 4096, 2]⟩
abbrev S4x4096x2x2 : Shape := ⟨4, ![4, 4096, 2, 2]⟩
abbrev S4x4096x4 : Shape := ⟨3, ![4, 4096, 4]⟩
abbrev S4x4096x128 : Shape := ⟨3, ![4, 4096, 128]⟩
abbrev S4096x8x128 : Shape := ⟨3, ![4096, 8, 128]⟩
abbrev S4096x1024 : Shape := ⟨2, ![4096, 1024]⟩
abbrev S8x512x1024 : Shape := ⟨3, ![8, 512, 1024]⟩
abbrev S8x1024x512 : Shape := ⟨3, ![8, 1024, 512]⟩
abbrev S8x512x512 : Shape := ⟨3, ![8, 512, 512]⟩
abbrev S4096x256 : Shape := ⟨2, ![4096, 256]⟩
abbrev S8x256x512 : Shape := ⟨3, ![8, 256, 512]⟩
abbrev S512x256 : Shape := ⟨2, ![512, 256]⟩
abbrev S512x128 : Shape := ⟨2, ![512, 128]⟩
abbrev S4096x128 : Shape := ⟨2, ![4096, 128]⟩
abbrev S8x128x512 : Shape := ⟨3, ![8, 128, 512]⟩
abbrev S1x4096x128 : Shape := ⟨3, ![1, 4096, 128]⟩
abbrev S128x512 : Shape := ⟨2, ![128, 512]⟩
abbrev S64x512 : Shape := ⟨2, ![64, 512]⟩
abbrev S1x512 : Shape := ⟨2, ![1, 512]⟩
abbrev S1x256x512 : Shape := ⟨3, ![1, 256, 512]⟩
abbrev S256x512 : Shape := ⟨2, ![256, 512]⟩
abbrev S1x128 : Shape := ⟨2, ![1, 128]⟩
abbrev S1x128x512 : Shape := ⟨3, ![1, 128, 512]⟩
abbrev S1x512x128 : Shape := ⟨3, ![1, 512, 128]⟩
abbrev S512x512 : Shape := ⟨2, ![512, 512]⟩
abbrev S512x1 : Shape := ⟨2, ![512, 1]⟩
abbrev S1024x256 : Shape := ⟨2, ![1024, 256]⟩
abbrev S1024x128 : Shape := ⟨2, ![1024, 128]⟩
abbrev S256x1024 : Shape := ⟨2, ![256, 1024]⟩
abbrev S128x1024 : Shape := ⟨2, ![128, 1024]⟩
abbrev S1x1024x128 : Shape := ⟨3, ![1, 1024, 128]⟩
abbrev S1024x512 : Shape := ⟨2, ![1024, 512]⟩
abbrev S1024x1 : Shape := ⟨2, ![1024, 1]⟩
abbrev S64x1024 : Shape := ⟨2, ![64, 1024]⟩

abbrev nBuf : Space → Nat
  | .hbm => 86
  | .vmem => 20
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x8x96, .f32⟩
  | .hbm, ⟨16, _⟩ => ⟨S8x4096x96, .f32⟩
  | .hbm, ⟨17, _⟩ => ⟨S4096x8x96, .f32⟩
  | .hbm, ⟨18, _⟩ => ⟨S8x4096x96, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S4096x8x64, .f32⟩
  | .hbm, ⟨38, _⟩ => ⟨S8x4096x64, .f32⟩
  | .hbm, ⟨39, _⟩ => ⟨S8x4096x64, .f32⟩
  | .hbm, ⟨40, _⟩ => ⟨S8x4096x64, .f32⟩
  | .hbm, ⟨41, _⟩ => ⟨S8x4096x64, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S4096x8x64, .f32⟩
  | .hbm, ⟨47, _⟩ => ⟨S8x4096x64, .f32⟩
  | .hbm, ⟨48, _⟩ => ⟨S8x4096x64, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x2, .f32⟩
  | .hbm, ⟨53, _⟩ => ⟨S4x2x4096x2, .f32⟩
  | .hbm, ⟨54, _⟩ => ⟨S4x4096x2x2, .f32⟩
  | .hbm, ⟨55, _⟩ => ⟨S4x4096x4, .f32⟩
  | .hbm, ⟨56, _⟩ => ⟨S_, .i32⟩
  | .hbm, ⟨57, _⟩ => ⟨S_, .f32⟩
  | .hbm, ⟨58, _⟩ => ⟨S4x4096x128, .f32⟩
  | .hbm, ⟨59, _⟩ => ⟨S4096x8x96, .f32⟩
  | .hbm, ⟨60, _⟩ => ⟨S_, .i32⟩
  | .hbm, ⟨61, _⟩ => ⟨S_, .f32⟩
  | .hbm, ⟨62, _⟩ => ⟨S4096x8x128, .f32⟩
  | .hbm, ⟨63, _⟩ => ⟨S4096x1024, .f32⟩
  | .hbm, ⟨64, _⟩ => ⟨S4096x1024, .bf16⟩
  | .hbm, ⟨65, _⟩ => ⟨S4096x8x96, .f32⟩
  | .hbm, ⟨66, _⟩ => ⟨S_, .i32⟩
  | .hbm, ⟨67, _⟩ => ⟨S_, .f32⟩
  | .hbm, ⟨68, _⟩ => ⟨S4096x8x128, .f32⟩
  | .hbm, ⟨69, _⟩ => ⟨S4096x1024, .f32⟩
  | .hbm, ⟨70, _⟩ => ⟨S4096x1024, .bf16⟩
  | .hbm, ⟨71, _⟩ => ⟨S4096x512, .bf16⟩
  | .hbm, ⟨72, _⟩ => ⟨S8x512x1024, .bf16⟩
  | .hbm, ⟨73, _⟩ => ⟨S8x1024x512, .bf16⟩
  | .hbm, ⟨74, _⟩ => ⟨S4096x512, .bf16⟩
  | .hbm, ⟨75, _⟩ => ⟨S8x512x512, .bf16⟩
  | .hbm, ⟨76, _⟩ => ⟨S8x512x512, .bf16⟩
  | .hbm, ⟨77, _⟩ => ⟨S4096x1024, .f32⟩
  | .hbm, ⟨78, _⟩ => ⟨S4096x1024, .bf16⟩
  | .hbm, ⟨79, _⟩ => ⟨S4096x512, .bf16⟩
  | .hbm, ⟨80, _⟩ => ⟨S4096x8x128, .f32⟩
  | .hbm, ⟨81, _⟩ => ⟨S4096x8x96, .f32⟩
  | .hbm, ⟨82, _⟩ => ⟨S4096x768, .f32⟩
  | .hbm, ⟨83, _⟩ => ⟨S4096x8x128, .bf16⟩
  | .hbm, ⟨84, _⟩ => ⟨S4096x8x96, .bf16⟩
  | .hbm, ⟨85, _⟩ => ⟨S4096x768, .bf16⟩
  | .local _ .vmem, ⟨0, _⟩ => ⟨S4096x256, .bf16⟩
  | .local _ .vmem, ⟨1, _⟩ => ⟨S4096x256, .bf16⟩
  | .local _ .vmem, ⟨2, _⟩ => ⟨S8x256x512, .bf16⟩
  | .local _ .vmem, ⟨3, _⟩ => ⟨S8x256x512, .bf16⟩
  | .local _ .vmem, ⟨4, _⟩ => ⟨S512x256, .bf16⟩
  | .local _ .vmem, ⟨5, _⟩ => ⟨S512x256, .bf16⟩
  | .local _ .vmem, ⟨6, _⟩ => ⟨S512x128, .bf16⟩
  | .local _ .vmem, ⟨7, _⟩ => ⟨S512x128, .bf16⟩
  | .local _ .vmem, ⟨8, _⟩ => ⟨S4096x128, .bf16⟩
  | .local _ .vmem, ⟨9, _⟩ => ⟨S4096x128, .bf16⟩
  | .local _ .vmem, ⟨10, _⟩ => ⟨S8x128x512, .bf16⟩
  | .local _ .vmem, ⟨11, _⟩ => ⟨S8x128x512, .bf16⟩
  | .local _ .vmem, ⟨12, _⟩ => ⟨S1x4096x128, .f32⟩
  | .local _ .vmem, ⟨13, _⟩ => ⟨S1x4096x128, .f32⟩
  | .local _ .vmem, ⟨14, _⟩ => ⟨S4096x256, .f32⟩
  | .local _ .vmem, ⟨15, _⟩ => ⟨S4096x256, .f32⟩
  | .local _ .vmem, ⟨16, _⟩ => ⟨S512x256, .bf16⟩
  | .local _ .vmem, ⟨17, _⟩ => ⟨S512x256, .bf16⟩
  | .local _ .vmem, ⟨18, _⟩ => ⟨S512x128, .bf16⟩
  | .local _ .vmem, ⟨19, _⟩ => ⟨S512x128, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call1_v0 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_call2_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_call3_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57_0 : Ref sig .tc := ⟨.hbm, 77, rfl⟩
abbrev main_v57_1 : Ref sig .tc := ⟨.hbm, 78, rfl⟩
abbrev main_v57_2 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_9 : Index := 0#32
  ![v17.toNat, 0]
def k0_off2 (i : grid0.Coords) : Fin 3 → Nat :=
  let arg1 : BitVec 32 := BitVec.ofNat 32 (i 1).val
  let c0_i32_11 : BitVec 32 := 0#32
  let v26 : BitVec 32 := Scalar.addi arg1 c0_i32_11
  let v27 : Index := Scalar.indexCast v26
  let c0_12 : Index := 0#32
  let c0_13 : Index := 0#32
  ![v27.toNat, 0, 0]
def k0_off3 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v34 : Index := Scalar.indexCast v16
  let c0_15 : Index := 0#32
  ![v34.toNat, 0]
def k0_off4 (i : grid0.Coords) : Fin 3 → Nat :=
  let arg1 : BitVec 32 := BitVec.ofNat 32 (i 1).val
  let c0_i32_18 : BitVec 32 := 0#32
  let v53 : BitVec 32 := Scalar.addi arg1 c0_i32_18
  let v54 : Index := Scalar.indexCast v53
  let c0_19 : Index := 0#32
  let c0_20 : Index := 0#32
  ![v54.toNat, 0, 0]
def k0_off5 (i : grid0.Coords) : Fin 3 → Nat :=
  let c0_21 : Index := 0#32
  let arg1 : BitVec 32 := BitVec.ofNat 32 (i 1).val
  let c512_i32 : BitVec 32 := 512#32
  let v15 : BitVec 32 := Scalar.muli arg1 c512_i32
  let v16 : BitVec 32 := v15
  let v57 : Index := Scalar.indexCast v16
  let c0_22 : Index := 0#32
  ![0, v57.toNat, 0]
@[reducible] def k0_t1_loop (i : grid0.Coords) : Scf.Loop 32 :=
  let arg1 : BitVec 32 := BitVec.ofNat 32 (i 1).val
  let c1_i32_44 : BitVec 32 := 1#32
  let v135 : BitVec 32 := Scalar.addi arg1 c1_i32_44
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c2_i32_45 : BitVec 32 := 2#32
  let v136 : BitVec 32 := Scalar.muli v134 c2_i32_45
  let v137 : BitVec 32 := Scalar.subi v136 v135
  let c1_i32_46 : BitVec 32 := 1#32
  let v139 : BitVec 32 := Scalar.divsi v137 c1_i32_46
  let v140 : BitVec 32 := Scalar.muli v139 c1_i32_46
  let v141 : BitVec 32 := Scalar.addi v135 v140
  let c1_i32_47 : BitVec 32 := 1#32
  ⟨v135, v141, c1_i32_47⟩
def k0_mult2 (i : grid0.Coords) (k0_t1 : Fin (k0_t1_loop i).trips) : BitVec 32 :=
  let arg1 : BitVec 32 := BitVec.ofNat 32 (i 1).val
  let c1_i32_44 : BitVec 32 := 1#32
  let v135 : BitVec 32 := Scalar.addi arg1 c1_i32_44
  let c1_i32_47 : BitVec 32 := 1#32
  let arg12 : BitVec 32 := Scf.iv v135 c1_i32_47 k0_t1
  let c512_i32_57 : BitVec 32 := 512#32
  let v161 : BitVec 32 := Scalar.muli arg12 c512_i32_57
  v161
def k0_off6 (i : grid0.Coords) (k0_t1 : Fin (k0_t1_loop i).trips) : Fin 2 → Nat :=
  let arg1 : BitVec 32 := BitVec.ofNat 32 (i 1).val
  let c1_i32_44 : BitVec 32 := 1#32
  let v135 : BitVec 32 := Scalar.addi arg1 c1_i32_44
  let c1_i32_47 : BitVec 32 := 1#32
  let arg12 : BitVec 32 := Scf.iv v135 c1_i32_47 k0_t1
  let c512_i32_57 : BitVec 32 := 512#32
  let v161 : BitVec 32 := Scalar.muli arg12 c512_i32_57
  let v162 : BitVec 32 := v161
  let v163 : Index := Scalar.indexCast v162
  let c0_58 : Index := 0#32
  ![v163.toNat, 0]
def k0_off7 (i : grid0.Coords) (k0_t1 : Fin (k0_t1_loop i).trips) : Fin 3 → Nat :=
  let arg1 : BitVec 32 := BitVec.ofNat 32 (i 1).val
  let c1_i32_44 : BitVec 32 := 1#32
  let v135 : BitVec 32 := Scalar.addi arg1 c1_i32_44
  let c1_i32_47 : BitVec 32 := 1#32
  let arg12 : BitVec 32 := Scf.iv v135 c1_i32_47 k0_t1
  let c0_i32_60 : BitVec 32 := 0#32
  let v172 : BitVec 32 := Scalar.addi arg12 c0_i32_60
  let v173 : Index := Scalar.indexCast v172
  let c0_61 : Index := 0#32
  let c0_62 : Index := 0#32
  ![v173.toNat, 0, 0]
def k0_off8 (i : grid0.Coords) (k0_t1 : Fin (k0_t1_loop i).trips) : Fin 2 → Nat :=
  let arg1 : BitVec 32 := BitVec.ofNat 32 (i 1).val
  let c1_i32_44 : BitVec 32 := 1#32
  let v135 : BitVec 32 := Scalar.addi arg1 c1_i32_44
  let c1_i32_47 : BitVec 32 := 1#32
  let arg12 : BitVec 32 := Scf.iv v135 c1_i32_47 k0_t1
  let c512_i32_57 : BitVec 32 := 512#32
  let v161 : BitVec 32 := Scalar.muli arg12 c512_i32_57
  let v162 : BitVec 32 := v161
  let v180 : Index := Scalar.indexCast v162
  let c0_64 : Index := 0#32
  ![v180.toNat, 0]
def k0_off9 (i : grid0.Coords) (k0_t1 : Fin (k0_t1_loop i).trips) : Fin 3 → Nat :=
  let arg1 : BitVec 32 := BitVec.ofNat 32 (i 1).val
  let c1_i32_44 : BitVec 32 := 1#32
  let v135 : BitVec 32 := Scalar.addi arg1 c1_i32_44
  let c1_i32_47 : BitVec 32 := 1#32
  let arg12 : BitVec 32 := Scf.iv v135 c1_i32_47 k0_t1
  let c0_i32_68 : BitVec 32 := 0#32
  let v199 : BitVec 32 := Scalar.addi arg12 c0_i32_68
  let v200 : Index := Scalar.indexCast v199
  let c0_69 : Index := 0#32
  let c0_70 : Index := 0#32
  ![v200.toNat, 0, 0]
def k0_off10 (i : grid0.Coords) (k0_t1 : Fin (k0_t1_loop i).trips) : Fin 3 → Nat :=
  let c0_71 : Index := 0#32
  let arg1 : BitVec 32 := BitVec.ofNat 32 (i 1).val
  let c1_i32_44 : BitVec 32 := 1#32
  let v135 : BitVec 32 := Scalar.addi arg1 c1_i32_44
  let c1_i32_47 : BitVec 32 := 1#32
  let arg12 : BitVec 32 := Scf.iv v135 c1_i32_47 k0_t1
  let c512_i32_57 : BitVec 32 := 512#32
  let v161 : BitVec 32 := Scalar.muli arg12 c512_i32_57
  let v162 : BitVec 32 := v161
  let v203 : Index := Scalar.indexCast v162
  let c0_72 : Index := 0#32
  ![0, v203.toNat, 0]
@[reducible] def k0_t2_loop (i : grid0.Coords) : Scf.Loop 32 :=
  let arg1 : BitVec 32 := BitVec.ofNat 32 (i 1).val
  let c1_i32_44 : BitVec 32 := 1#32
  let v135 : BitVec 32 := Scalar.addi arg1 c1_i32_44
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c2_i32_45 : BitVec 32 := 2#32
  let v136 : BitVec 32 := Scalar.muli v134 c2_i32_45
  let v137 : BitVec 32 := Scalar.subi v136 v135
  let c1_i32_46 : BitVec 32 := 1#32
  let v139 : BitVec 32 := Scalar.divsi v137 c1_i32_46
  let v140 : BitVec 32 := Scalar.muli v139 c1_i32_46
  let v141 : BitVec 32 := Scalar.addi v135 v140
  let v138 : BitVec 32 := Scalar.addi v135 v137
  let c1_i32_48 : BitVec 32 := 1#32
  ⟨v141, v138, c1_i32_48⟩
def k0_mult3 (i : grid0.Coords) (k0_t2 : Fin (k0_t2_loop i).trips) : BitVec 32 :=
  let arg1 : BitVec 32 := BitVec.ofNat 32 (i 1).val
  let c1_i32_44 : BitVec 32 := 1#32
  let v135 : BitVec 32 := Scalar.addi arg1 c1_i32_44
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c2_i32_45 : BitVec 32 := 2#32
  let v136 : BitVec 32 := Scalar.muli v134 c2_i32_45
  let v137 : BitVec 32 := Scalar.subi v136 v135
  let c1_i32_46 : BitVec 32 := 1#32
  let v139 : BitVec 32 := Scalar.divsi v137 c1_i32_46
  let v140 : BitVec 32 := Scalar.muli v139 c1_i32_46
  let v141 : BitVec 32 := Scalar.addi v135 v140
  let c1_i32_48 : BitVec 32 := 1#32
  let arg12 : BitVec 32 := Scf.iv v141 c1_i32_48 k0_t2
  let c512_i32_57 : BitVec 32 := 512#32
  let v161 : BitVec 32 := Scalar.muli arg12 c512_i32_57
  v161
def k0_off11 (i : grid0.Coords) (k0_t2 : Fin (k0_t2_loop i).trips) : Fin 2 → Nat :=
  let arg1 : BitVec 32 := BitVec.ofNat 32 (i 1).val
  let c1_i32_44 : BitVec 32 := 1#32
  let v135 : BitVec 32 := Scalar.addi arg1 c1_i32_44
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c2_i32_45 : BitVec 32 := 2#32
  let v136 : BitVec 32 := Scalar.muli v134 c2_i32_45
  let v137 : BitVec 32 := Scalar.subi v136 v135
  let c1_i32_46 : BitVec 32 := 1#32
  let v139 : BitVec 32 := Scalar.divsi v137 c1_i32_46
  let v140 : BitVec 32 := Scalar.muli v139 c1_i32_46
  let v141 : BitVec 32 := Scalar.addi v135 v140
  let c1_i32_48 : BitVec 32 := 1#32
  let arg12 : BitVec 32 := Scf.iv v141 c1_i32_48 k0_t2
  let c512_i32_57 : BitVec 32 := 512#32
  let v161 : BitVec 32 := Scalar.muli arg12 c512_i32_57
  let v162 : BitVec 32 := v161
  let v163 : Index := Scalar.indexCast v162
  let c0_58 : Index := 0#32
  ![v163.toNat, 0]
def k0_off12 (i : grid0.Coords) (k0_t2 : Fin (k0_t2_loop i).trips) : Fin 3 → Nat :=
  let arg1 : BitVec 32 := BitVec.ofNat 32 (i 1).val
  let c1_i32_44 : BitVec 32 := 1#32
  let v135 : BitVec 32 := Scalar.addi arg1 c1_i32_44
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c2_i32_45 : BitVec 32 := 2#32
  let v136 : BitVec 32 := Scalar.muli v134 c2_i32_45
  let v137 : BitVec 32 := Scalar.subi v136 v135
  let c1_i32_46 : BitVec 32 := 1#32
  let v139 : BitVec 32 := Scalar.divsi v137 c1_i32_46
  let v140 : BitVec 32 := Scalar.muli v139 c1_i32_46
  let v141 : BitVec 32 := Scalar.addi v135 v140
  let c1_i32_48 : BitVec 32 := 1#32
  let arg12 : BitVec 32 := Scf.iv v141 c1_i32_48 k0_t2
  let c0_i32_60 : BitVec 32 := 0#32
  let v172 : BitVec 32 := Scalar.addi arg12 c0_i32_60
  let v173 : Index := Scalar.indexCast v172
  let c0_61 : Index := 0#32
  let c0_62 : Index := 0#32
  ![v173.toNat, 0, 0]
def k0_off13 (i : grid0.Coords) (k0_t2 : Fin (k0_t2_loop i).trips) : Fin 2 → Nat :=
  let arg1 : BitVec 32 := BitVec.ofNat 32 (i 1).val
  let c1_i32_44 : BitVec 32 := 1#32
  let v135 : BitVec 32 := Scalar.addi arg1 c1_i32_44
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c2_i32_45 : BitVec 32 := 2#32
  let v136 : BitVec 32 := Scalar.muli v134 c2_i32_45
  let v137 : BitVec 32 := Scalar.subi v136 v135
  let c1_i32_46 : BitVec 32 := 1#32
  let v139 : BitVec 32 := Scalar.divsi v137 c1_i32_46
  let v140 : BitVec 32 := Scalar.muli v139 c1_i32_46
  let v141 : BitVec 32 := Scalar.addi v135 v140
  let c1_i32_48 : BitVec 32 := 1#32
  let arg12 : BitVec 32 := Scf.iv v141 c1_i32_48 k0_t2
  let c512_i32_57 : BitVec 32 := 512#32
  let v161 : BitVec 32 := Scalar.muli arg12 c512_i32_57
  let v162 : BitVec 32 := v161
  let v180 : Index := Scalar.indexCast v162
  let c0_64 : Index := 0#32
  ![v180.toNat, 0]
def k0_off14 (i : grid0.Coords) (k0_t2 : Fin (k0_t2_loop i).trips) : Fin 3 → Nat :=
  let arg1 : BitVec 32 := BitVec.ofNat 32 (i 1).val
  let c1_i32_44 : BitVec 32 := 1#32
  let v135 : BitVec 32 := Scalar.addi arg1 c1_i32_44
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c2_i32_45 : BitVec 32 := 2#32
  let v136 : BitVec 32 := Scalar.muli v134 c2_i32_45
  let v137 : BitVec 32 := Scalar.subi v136 v135
  let c1_i32_46 : BitVec 32 := 1#32
  let v139 : BitVec 32 := Scalar.divsi v137 c1_i32_46
  let v140 : BitVec 32 := Scalar.muli v139 c1_i32_46
  let v141 : BitVec 32 := Scalar.addi v135 v140
  let c1_i32_48 : BitVec 32 := 1#32
  let arg12 : BitVec 32 := Scf.iv v141 c1_i32_48 k0_t2
  let c0_i32_68 : BitVec 32 := 0#32
  let v199 : BitVec 32 := Scalar.addi arg12 c0_i32_68
  let v200 : Index := Scalar.indexCast v199
  let c0_69 : Index := 0#32
  let c0_70 : Index := 0#32
  ![v200.toNat, 0, 0]
def k0_off15 (i : grid0.Coords) (k0_t2 : Fin (k0_t2_loop i).trips) : Fin 3 → Nat :=
  let c0_71 : Index := 0#32
  let arg1 : BitVec 32 := BitVec.ofNat 32 (i 1).val
  let c1_i32_44 : BitVec 32 := 1#32
  let v135 : BitVec 32 := Scalar.addi arg1 c1_i32_44
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c2_i32_45 : BitVec 32 := 2#32
  let v136 : BitVec 32 := Scalar.muli v134 c2_i32_45
  let v137 : BitVec 32 := Scalar.subi v136 v135
  let c1_i32_46 : BitVec 32 := 1#32
  let v139 : BitVec 32 := Scalar.divsi v137 c1_i32_46
  let v140 : BitVec 32 := Scalar.muli v139 c1_i32_46
  let v141 : BitVec 32 := Scalar.addi v135 v140
  let c1_i32_48 : BitVec 32 := 1#32
  let arg12 : BitVec 32 := Scf.iv v141 c1_i32_48 k0_t2
  let c512_i32_57 : BitVec 32 := 512#32
  let v161 : BitVec 32 := Scalar.muli arg12 c512_i32_57
  let v162 : BitVec 32 := v161
  let v203 : Index := Scalar.indexCast v162
  let c0_72 : Index := 0#32
  ![0, v203.toNat, 0]
@[reducible] def k0_t3_loop (i : grid0.Coords) : Scf.Loop 32 :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c4_i32 : BitVec 32 := 4#32
  let v144 : BitVec 32 := Scalar.subi c4_i32 v134
  let c1_i32_49 : BitVec 32 := 1#32
  let v146 : BitVec 32 := Scalar.divsi v144 c1_i32_49
  let v147 : BitVec 32 := Scalar.muli v146 c1_i32_49
  let v148 : BitVec 32 := Scalar.addi v134 v147
  let c1_i32_50 : BitVec 32 := 1#32
  ⟨v134, v148, c1_i32_50⟩
def k0_mult4 (i : grid0.Coords) (k0_t3 : Fin (k0_t3_loop i).trips) : BitVec 32 :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c1_i32_50 : BitVec 32 := 1#32
  let arg12 : BitVec 32 := Scf.iv v134 c1_i32_50 k0_t3
  let c2_i32_57 : BitVec 32 := 2#32
  let v161 : BitVec 32 := Scalar.muli arg12 c2_i32_57
  let c512_i32_58 : BitVec 32 := 512#32
  let v162 : BitVec 32 := Scalar.muli v161 c512_i32_58
  v162
def k0_off16 (i : grid0.Coords) (k0_t3 : Fin (k0_t3_loop i).trips) : Fin 2 → Nat :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c1_i32_50 : BitVec 32 := 1#32
  let arg12 : BitVec 32 := Scf.iv v134 c1_i32_50 k0_t3
  let c2_i32_57 : BitVec 32 := 2#32
  let v161 : BitVec 32 := Scalar.muli arg12 c2_i32_57
  let c512_i32_58 : BitVec 32 := 512#32
  let v162 : BitVec 32 := Scalar.muli v161 c512_i32_58
  let v163 : BitVec 32 := v162
  let v164 : Index := Scalar.indexCast v163
  let c0_59 : Index := 0#32
  ![v164.toNat, 0]
def k0_off17 (i : grid0.Coords) (k0_t3 : Fin (k0_t3_loop i).trips) (c0_i32_61 : BitVec 32) : Fin 3 → Nat :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c1_i32_50 : BitVec 32 := 1#32
  let arg12 : BitVec 32 := Scf.iv v134 c1_i32_50 k0_t3
  let c2_i32_57 : BitVec 32 := 2#32
  let v161 : BitVec 32 := Scalar.muli arg12 c2_i32_57
  let v173 : BitVec 32 := Scalar.addi v161 c0_i32_61
  let v174 : Index := Scalar.indexCast v173
  let c0_62 : Index := 0#32
  let c0_63 : Index := 0#32
  ![v174.toNat, 0, 0]
def k0_off18 (i : grid0.Coords) (k0_t3 : Fin (k0_t3_loop i).trips) : Fin 2 → Nat :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c1_i32_50 : BitVec 32 := 1#32
  let arg12 : BitVec 32 := Scf.iv v134 c1_i32_50 k0_t3
  let c2_i32_57 : BitVec 32 := 2#32
  let v161 : BitVec 32 := Scalar.muli arg12 c2_i32_57
  let c512_i32_58 : BitVec 32 := 512#32
  let v162 : BitVec 32 := Scalar.muli v161 c512_i32_58
  let v163 : BitVec 32 := v162
  let v186 : Index := Scalar.indexCast v163
  let c0_68 : Index := 0#32
  ![v186.toNat, 0]
def k0_off19 (i : grid0.Coords) (k0_t3 : Fin (k0_t3_loop i).trips) (c0_i32_72 : BitVec 32) : Fin 3 → Nat :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c1_i32_50 : BitVec 32 := 1#32
  let arg12 : BitVec 32 := Scf.iv v134 c1_i32_50 k0_t3
  let c2_i32_57 : BitVec 32 := 2#32
  let v161 : BitVec 32 := Scalar.muli arg12 c2_i32_57
  let v205 : BitVec 32 := Scalar.addi v161 c0_i32_72
  let v206 : Index := Scalar.indexCast v205
  let c0_73 : Index := 0#32
  let c0_74 : Index := 0#32
  ![v206.toNat, 0, 0]
def k0_off20 (i : grid0.Coords) (k0_t3 : Fin (k0_t3_loop i).trips) : Fin 3 → Nat :=
  let c0_78 : Index := 0#32
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c1_i32_50 : BitVec 32 := 1#32
  let arg12 : BitVec 32 := Scf.iv v134 c1_i32_50 k0_t3
  let c2_i32_57 : BitVec 32 := 2#32
  let v161 : BitVec 32 := Scalar.muli arg12 c2_i32_57
  let c512_i32_58 : BitVec 32 := 512#32
  let v162 : BitVec 32 := Scalar.muli v161 c512_i32_58
  let v163 : BitVec 32 := v162
  let v214 : Index := Scalar.indexCast v163
  let c0_79 : Index := 0#32
  ![0, v214.toNat, 0]
@[reducible] def k0_t4_loop (i : grid0.Coords) : Scf.Loop 32 :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c4_i32 : BitVec 32 := 4#32
  let v144 : BitVec 32 := Scalar.subi c4_i32 v134
  let c1_i32_49 : BitVec 32 := 1#32
  let v146 : BitVec 32 := Scalar.divsi v144 c1_i32_49
  let v147 : BitVec 32 := Scalar.muli v146 c1_i32_49
  let v148 : BitVec 32 := Scalar.addi v134 v147
  let v145 : BitVec 32 := Scalar.addi v134 v144
  let c1_i32_51 : BitVec 32 := 1#32
  ⟨v148, v145, c1_i32_51⟩
def k0_mult5 (i : grid0.Coords) (k0_t4 : Fin (k0_t4_loop i).trips) : BitVec 32 :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c4_i32 : BitVec 32 := 4#32
  let v144 : BitVec 32 := Scalar.subi c4_i32 v134
  let c1_i32_49 : BitVec 32 := 1#32
  let v146 : BitVec 32 := Scalar.divsi v144 c1_i32_49
  let v147 : BitVec 32 := Scalar.muli v146 c1_i32_49
  let v148 : BitVec 32 := Scalar.addi v134 v147
  let c1_i32_51 : BitVec 32 := 1#32
  let arg12 : BitVec 32 := Scf.iv v148 c1_i32_51 k0_t4
  let c2_i32_57 : BitVec 32 := 2#32
  let v161 : BitVec 32 := Scalar.muli arg12 c2_i32_57
  let c512_i32_58 : BitVec 32 := 512#32
  let v162 : BitVec 32 := Scalar.muli v161 c512_i32_58
  v162
def k0_off21 (i : grid0.Coords) (k0_t4 : Fin (k0_t4_loop i).trips) : Fin 2 → Nat :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c4_i32 : BitVec 32 := 4#32
  let v144 : BitVec 32 := Scalar.subi c4_i32 v134
  let c1_i32_49 : BitVec 32 := 1#32
  let v146 : BitVec 32 := Scalar.divsi v144 c1_i32_49
  let v147 : BitVec 32 := Scalar.muli v146 c1_i32_49
  let v148 : BitVec 32 := Scalar.addi v134 v147
  let c1_i32_51 : BitVec 32 := 1#32
  let arg12 : BitVec 32 := Scf.iv v148 c1_i32_51 k0_t4
  let c2_i32_57 : BitVec 32 := 2#32
  let v161 : BitVec 32 := Scalar.muli arg12 c2_i32_57
  let c512_i32_58 : BitVec 32 := 512#32
  let v162 : BitVec 32 := Scalar.muli v161 c512_i32_58
  let v163 : BitVec 32 := v162
  let v164 : Index := Scalar.indexCast v163
  let c0_59 : Index := 0#32
  ![v164.toNat, 0]
def k0_off22 (i : grid0.Coords) (k0_t4 : Fin (k0_t4_loop i).trips) (c0_i32_61 : BitVec 32) : Fin 3 → Nat :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c4_i32 : BitVec 32 := 4#32
  let v144 : BitVec 32 := Scalar.subi c4_i32 v134
  let c1_i32_49 : BitVec 32 := 1#32
  let v146 : BitVec 32 := Scalar.divsi v144 c1_i32_49
  let v147 : BitVec 32 := Scalar.muli v146 c1_i32_49
  let v148 : BitVec 32 := Scalar.addi v134 v147
  let c1_i32_51 : BitVec 32 := 1#32
  let arg12 : BitVec 32 := Scf.iv v148 c1_i32_51 k0_t4
  let c2_i32_57 : BitVec 32 := 2#32
  let v161 : BitVec 32 := Scalar.muli arg12 c2_i32_57
  let v173 : BitVec 32 := Scalar.addi v161 c0_i32_61
  let v174 : Index := Scalar.indexCast v173
  let c0_62 : Index := 0#32
  let c0_63 : Index := 0#32
  ![v174.toNat, 0, 0]
def k0_off23 (i : grid0.Coords) (k0_t4 : Fin (k0_t4_loop i).trips) : Fin 2 → Nat :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c4_i32 : BitVec 32 := 4#32
  let v144 : BitVec 32 := Scalar.subi c4_i32 v134
  let c1_i32_49 : BitVec 32 := 1#32
  let v146 : BitVec 32 := Scalar.divsi v144 c1_i32_49
  let v147 : BitVec 32 := Scalar.muli v146 c1_i32_49
  let v148 : BitVec 32 := Scalar.addi v134 v147
  let c1_i32_51 : BitVec 32 := 1#32
  let arg12 : BitVec 32 := Scf.iv v148 c1_i32_51 k0_t4
  let c2_i32_57 : BitVec 32 := 2#32
  let v161 : BitVec 32 := Scalar.muli arg12 c2_i32_57
  let c512_i32_58 : BitVec 32 := 512#32
  let v162 : BitVec 32 := Scalar.muli v161 c512_i32_58
  let v163 : BitVec 32 := v162
  let v186 : Index := Scalar.indexCast v163
  let c0_68 : Index := 0#32
  ![v186.toNat, 0]
def k0_off24 (i : grid0.Coords) (k0_t4 : Fin (k0_t4_loop i).trips) (c0_i32_72 : BitVec 32) : Fin 3 → Nat :=
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c4_i32 : BitVec 32 := 4#32
  let v144 : BitVec 32 := Scalar.subi c4_i32 v134
  let c1_i32_49 : BitVec 32 := 1#32
  let v146 : BitVec 32 := Scalar.divsi v144 c1_i32_49
  let v147 : BitVec 32 := Scalar.muli v146 c1_i32_49
  let v148 : BitVec 32 := Scalar.addi v134 v147
  let c1_i32_51 : BitVec 32 := 1#32
  let arg12 : BitVec 32 := Scf.iv v148 c1_i32_51 k0_t4
  let c2_i32_57 : BitVec 32 := 2#32
  let v161 : BitVec 32 := Scalar.muli arg12 c2_i32_57
  let v205 : BitVec 32 := Scalar.addi v161 c0_i32_72
  let v206 : Index := Scalar.indexCast v205
  let c0_73 : Index := 0#32
  let c0_74 : Index := 0#32
  ![v206.toNat, 0, 0]
def k0_off25 (i : grid0.Coords) (k0_t4 : Fin (k0_t4_loop i).trips) : Fin 3 → Nat :=
  let c0_78 : Index := 0#32
  let arg1 : BitVec 32 := BitVec.ofNat 32 (i 1).val
  let c0_i32_38 : BitVec 32 := 0#32
  let v118 : BitVec 1 := Scalar.cmpi .sgt arg1 c0_i32_38
  let v119 : BitVec 32 := Scalar.extui v118
  let c0_i32_39 : BitVec 32 := 0#32
  let v120 : BitVec 1 := Scalar.cmpi .slt arg1 c0_i32_39
  let v121 : BitVec 32 := Scalar.extui v120
  let v122 : BitVec 32 := Scalar.subi v119 v121
  let c2_i32 : BitVec 32 := 2#32
  let c0_i32_40 : BitVec 32 := 0#32
  let v123 : BitVec 1 := Scalar.cmpi .sgt c2_i32 c0_i32_40
  let v124 : BitVec 32 := Scalar.extui v123
  let c0_i32_41 : BitVec 32 := 0#32
  let v125 : BitVec 1 := Scalar.cmpi .slt c2_i32 c0_i32_41
  let v126 : BitVec 32 := Scalar.extui v125
  let v127 : BitVec 32 := Scalar.subi v124 v126
  let v128 : BitVec 1 := Scalar.cmpi .ne v122 v127
  let v129 : BitVec 32 := Scalar.remsi arg1 c2_i32
  let c0_i32_42 : BitVec 32 := 0#32
  let v130 : BitVec 1 := Scalar.cmpi .ne v129 c0_i32_42
  let v131 : BitVec 1 := Scalar.andi v128 v130
  let v117 : BitVec 32 := Scalar.divsi arg1 c2_i32
  let c1_i32 : BitVec 32 := 1#32
  let v132 : BitVec 32 := Scalar.subi v117 c1_i32
  let v133 : BitVec 32 := Scalar.select v131 v132 v117
  let c1_i32_43 : BitVec 32 := 1#32
  let v134 : BitVec 32 := Scalar.addi v133 c1_i32_43
  let c4_i32 : BitVec 32 := 4#32
  let v144 : BitVec 32 := Scalar.subi c4_i32 v134
  let c1_i32_49 : BitVec 32 := 1#32
  let v146 : BitVec 32 := Scalar.divsi v144 c1_i32_49
  let v147 : BitVec 32 := Scalar.muli v146 c1_i32_49
  let v148 : BitVec 32 := Scalar.addi v134 v147
  let c1_i32_51 : BitVec 32 := 1#32
  let arg12 : BitVec 32 := Scf.iv v148 c1_i32_51 k0_t4
  let c2_i32_57 : BitVec 32 := 2#32
  let v161 : BitVec 32 := Scalar.muli arg12 c2_i32_57
  let c512_i32_58 : BitVec 32 := 512#32
  let v162 : BitVec 32 := Scalar.muli v161 c512_i32_58
  let v163 : BitVec 32 := v162
  let v214 : Index := Scalar.indexCast v163
  let c0_79 : Index := 0#32
  ![0, v214.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2Ideal.lean ====
variable {F : FTy → Type} [FloatOps F] [Named F]
def κ : String → Option EReal := fun
  | "ln2" => some ((Real.log 2 : ℝ) : EReal)
  | "s2" => some (((3424635 / 33554432) * (Real.log 2)⁻¹ : ℝ) : EReal)
  | _ => none
-- ==== Reference2Ideal.lean ====
abbrev S4096x768 : Shape := ⟨2, ![4096, 768]⟩
abbrev S4096x512 : Shape := ⟨2, ![4096, 512]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x8x96 : Shape := ⟨3, ![4096, 8, 96]⟩
abbrev S8x4096x96 : Shape := ⟨3, ![8, 4096, 96]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S4096x8x64 : Shape := ⟨3, ![4096, 8, 64]⟩
abbrev S8x4096x64 : Shape := ⟨3, ![8, 4096, 64]⟩
abbrev S8x64x4096 : Shape := ⟨3, ![8, 64, 4096]⟩

abbrev nBuf : Space → Nat
  | .hbm => 104
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x512, .f32⟩
  | .hbm, ⟨3, _⟩ => ⟨S4096x512, .f32⟩
  | .hbm, ⟨4, _⟩ => ⟨S4096, .i32⟩
  | .hbm, ⟨5, _⟩ => ⟨S1x4096, .i32⟩
  | .hbm, ⟨6, _⟩ => ⟨S4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S4096x8x96, .f32⟩
  | .hbm, ⟨12, _⟩ => ⟨S8x4096x96, .f32⟩
  | .hbm, ⟨13, _⟩ => ⟨S4096x8x96, .f32⟩
  | .hbm, ⟨14, _⟩ => ⟨S8x4096x96, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S8x4096, .i1⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S4096x8x64, .f32⟩
  | .hbm, ⟨65, _⟩ => ⟨S8x4096x64, .f32⟩
  | .hbm, ⟨66, _⟩ => ⟨S8x4096x64, .f32⟩
  | .hbm, ⟨67, _⟩ => ⟨S4096x8x64, .f32⟩
  | .hbm, ⟨68, _⟩ => ⟨S4096x512, .f32⟩
  | .hbm, ⟨69, _⟩ => ⟨S4096x8x64, .f32⟩
  | .hbm, ⟨70, _⟩ => ⟨S8x4096x64, .f32⟩
  | .hbm, ⟨71, _⟩ => ⟨S8x64x4096, .f32⟩
  | .hbm, ⟨72, _⟩ => ⟨S8x4096x64, .f32⟩
  | .hbm, ⟨73, _⟩ => ⟨S8x4096x4096, .f32⟩
  | .hbm, ⟨74, _⟩ => ⟨S4096x8x64, .f32⟩
  | .hbm, ⟨75, _⟩ => ⟨S4096x512, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096, .f32⟩
  | .hbm, ⟨87, _⟩ => ⟨S8x4096x4096, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096x4096, .f32⟩
  | .hbm, ⟨92, _⟩ => ⟨S8x4096x4096, .f32⟩
  | .hbm, ⟨93, _⟩ => ⟨S_, .f32⟩
  | .hbm, ⟨94, _⟩ => ⟨S8x4096x4096, .f32⟩
  | .hbm, ⟨95, _⟩ => ⟨S8x4096x4096, .f32⟩
  | .hbm, ⟨96, _⟩ => ⟨S8x4096x96, .f32⟩
  | .hbm, ⟨97, _⟩ => ⟨S8x4096x96, .f32⟩
  | .hbm, ⟨98, _⟩ => ⟨S4096x8x96, .f32⟩
  | .hbm, ⟨99, _⟩ => ⟨S4096x768, .f32⟩
  | .hbm, ⟨100, _⟩ => ⟨S4096x8x96, .f32⟩
  | .hbm, ⟨101, _⟩ => ⟨S4096x768, .f32⟩
  | .hbm, ⟨102, _⟩ => ⟨S4096x768, .bf16⟩
  | .hbm, ⟨103, _⟩ => ⟨S4096x512, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Kernel3.lean ====
abbrev S4096x512 : Shape := ⟨2, ![4096, 512]⟩
abbrev S4096x8 : Shape := ⟨2, ![4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S8x4096 : Shape := ⟨2, ![8, 4096]⟩
abbrev S8x1x4096 : Shape := ⟨3, ![8, 1, 4096]⟩
abbrev S8x4096x1 : Shape := ⟨3, ![8, 4096, 1]⟩
abbrev S8x4096x2 : Shape := ⟨3, ![8, 4096, 2]⟩
abbrev S4x2x4096x2 : Shape := ⟨4, ![4, 2, 4096, 2]⟩
abbrev S4x4096x2x2 : Shape := ⟨4, ![4, 4096, 2, 2]⟩
abbrev S4x4096x4 : Shape := ⟨3, ![4, 4096, 4]⟩
abbrev S4x4096x128 : Shape := ⟨3, ![4, 4096, 128]⟩
abbrev S4096x1536 : Shape := ⟨2, ![4096, 1536]⟩
abbrev S8x512x1536 : Shape := ⟨3, ![8, 512, 1536]⟩
abbrev S8x1536x512 : Shape := ⟨3, ![8, 1536, 512]⟩
abbrev S8x512x512 : Shape := ⟨3, ![8, 512, 512]⟩
abbrev S8x512x8 : Shape := ⟨3, ![8, 512, 8]⟩
abbrev S8x8x512 : Shape := ⟨3, ![8, 8, 512]⟩
abbrev S4096x128 : Shape := ⟨2, ![4096, 128]⟩
abbrev S8x128x512 : Shape := ⟨3, ![8, 128, 512]⟩
abbrev S512x128 : Shape := ⟨2, ![512, 128]⟩
abbrev S1x4096x128 : Shape := ⟨3, ![1, 4096, 128]⟩
abbrev S1x8x512 : Shape := ⟨3, ![1, 8, 512]⟩
abbrev S8x512 : Shape := ⟨2, ![8, 512]⟩
abbrev S8x1 : Shape := ⟨2, ![8, 1]⟩
abbrev S512 : Shape := ⟨1, ![512]⟩
abbrev S1x512 : Shape := ⟨2, ![1, 512]⟩
abbrev S64x512 : Shape := ⟨2, ![64, 512]⟩
abbrev S1x128 : Shape := ⟨2, ![1, 128]⟩
abbrev S1x128x512 : Shape := ⟨3, ![1, 128, 512]⟩
abbrev S128x512 : Shape := ⟨2, ![128, 512]⟩
abbrev S1x512x128 : Shape := ⟨3, ![1, 512, 128]⟩
abbrev S512x512 : Shape := ⟨2, ![512, 512]⟩
abbrev S512x1 : Shape := ⟨2, ![512, 1]⟩
abbrev S1024x128 : Shape := ⟨2, ![1024, 128]⟩
abbrev S128x1024 : Shape := ⟨2, ![128, 1024]⟩
abbrev S1x1024x128 : Shape := ⟨3, ![1, 1024, 128]⟩
abbrev S1024x512 : Shape := ⟨2, ![1024, 512]⟩
abbrev S1024x1 : Shape := ⟨2, ![1024, 1]⟩
abbrev S64x1024 : Shape := ⟨2, ![64, 1024]⟩
abbrev S1024 : Shape := ⟨1, ![1024]⟩
abbrev S128x1 : Shape := ⟨2, ![128, 1]⟩

abbrev nBuf : Space → Nat
  | .hbm => 78
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096, .i32⟩
  | .hbm, ⟨10, _⟩ => ⟨S1x4096, .i32⟩
  | .hbm, ⟨11, _⟩ => ⟨S4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x8x64, .f32⟩
  | .hbm, ⟨17, _⟩ => ⟨S8x4096x64, .f32⟩
  | .hbm, ⟨18, _⟩ => ⟨S4096x8x64, .f32⟩
  | .hbm, ⟨19, _⟩ => ⟨S8x4096x64, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096, .f32⟩
  | .hbm, ⟨25, _⟩ => ⟨S8x1x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S4096x8x64, .f32⟩
  | .hbm, ⟨43, _⟩ => ⟨S8x4096x64, .f32⟩
  | .hbm, ⟨44, _⟩ => ⟨S8x4096x64, .f32⟩
  | .hbm, ⟨45, _⟩ => ⟨S8x4096x64, .f32⟩
  | .hbm, ⟨46, _⟩ => ⟨S8x4096x64, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S4096x8x64, .f32⟩
  | .hbm, ⟨52, _⟩ => ⟨S8x4096x64, .f32⟩
  | .hbm, ⟨53, _⟩ => ⟨S8x4096x64, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S8x4096x2, .f32⟩
  | .hbm, ⟨58, _⟩ => ⟨S4x2x4096x2, .f32⟩
  | .hbm, ⟨59, _⟩ => ⟨S4x4096x2x2, .f32⟩
  | .hbm, ⟨60, _⟩ => ⟨S4x4096x4, .f32⟩
  | .hbm, ⟨61, _⟩ => ⟨S_, .i32⟩
  | .hbm, ⟨62, _⟩ => ⟨S_, .f32⟩
  | .hbm, ⟨63, _⟩ => ⟨S4x4096x128, .f32⟩
  | .hbm, ⟨64, _⟩ => ⟨S4096x1536, .f32⟩
  | .hbm, ⟨65, _⟩ => ⟨S4096x1536, .bf16⟩
  | .hbm, ⟨66, _⟩ => ⟨S4096x512, .bf16⟩
  | .hbm, ⟨67, _⟩ => ⟨S8x512x1536, .bf16⟩
  | .hbm, ⟨68, _⟩ => ⟨S8x1536x512, .bf16⟩
  | .hbm, ⟨69, _⟩ => ⟨S8x512x512, .bf16⟩
  | .hbm, ⟨70, _⟩ => ⟨S8x512x512, .bf16⟩
  | .hbm, ⟨71, _⟩ => ⟨S8x512x8, .f32⟩
  | .hbm, ⟨72, _⟩ => ⟨S8x8x512, .f32⟩
  | .hbm, ⟨73, _⟩ => ⟨S4096x512, .f32⟩
  | .hbm, ⟨74, _⟩ => ⟨S4096x512, .bf16⟩
  | .hbm, ⟨75, _⟩ => ⟨S4096x512, .bf16⟩
  | .hbm, ⟨76, _⟩ => ⟨S4096x128, .f32⟩
  | .hbm, ⟨77, _⟩ => ⟨S4096x8, .f32⟩
  | .local _ .vmem, ⟨0, _⟩ => ⟨S4096x128, .bf16⟩
  | .local _ .vmem, ⟨1, _⟩ => ⟨S4096x128, .bf16⟩
  | .local _ .vmem, ⟨2, _⟩ => ⟨S8x128x512, .bf16⟩
  | .local _ .vmem, ⟨3, _⟩ => ⟨S8x128x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S4096x128, .bf16⟩
  | .local _ .vmem, ⟨9, _⟩ => ⟨S4096x128, .bf16⟩
  | .local _ .vmem, ⟨10, _⟩ => ⟨S8x128x512, .bf16⟩
  | .local _ .vmem, ⟨11, _⟩ => ⟨S8x128x512, .bf16⟩
  | .local _ .vmem, ⟨12, _⟩ => ⟨S1x4096x128, .f32⟩
  | .local _ .vmem, ⟨13, _⟩ => ⟨S1x4096x128, .f32⟩
  | .local _ .vmem, ⟨14, _⟩ => ⟨S1x8x512, .f32⟩
  | .local _ .vmem, ⟨15, _⟩ => ⟨S1x8x512, .f32⟩
  | .local _ .vmem, ⟨16, _⟩ => ⟨S4096x128, .f32⟩
  | .local _ .vmem, ⟨17, _⟩ => ⟨S4096x128, .f32⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_call1_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56_0 : Ref sig .tc := ⟨.hbm, 73, rfl⟩
abbrev main_v56_1 : Ref sig .tc := ⟨.hbm, 74, rfl⟩
abbrev main_v56_2 : Ref sig .tc := ⟨.hbm, 75, rfl⟩
abbrev main_v56_3 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v48 : BitVec 32 := Scalar.muli arg1 c512_i32
  v48
def k0_off1 (i : grid0.Coords) : Fin 2 → Nat :=
  let arg1 : BitVec 32 := BitVec.ofNat 32 (i 1).val
  let c512_i32 : BitVec 32 := 512#32
  let v48 : BitVec 32 := Scalar.muli arg1 c512_i32
  let v49 : BitVec 32 := v48
  let v50 : Index := Scalar.indexCast v49
  let c0_25 : Index := 0#32
  ![v50.toNat, 0]
def k0_off2 (i : grid0.Coords) : Fin 3 → Nat :=
  let arg1 : BitVec 32 := BitVec.ofNat 32 (i 1).val
  let c0_i32_29 : BitVec 32 := 0#32
  let v70 : BitVec 32 := Scalar.addi arg1 c0_i32_29
  let v71 : Index := Scalar.indexCast v70
  let c0_30 : Index := 0#32
  let c0_31 : Index := 0#32
  ![v71.toNat, 0, 0]
def k0_off3 (i : grid0.Coords) : Fin 3 → Nat :=
  let c0_40 : Index := 0#32
  let arg1 : BitVec 32 := BitVec.ofNat 32 (i 1).val
  let c512_i32 : BitVec 32 := 512#32
  let v48 : BitVec 32 := Scalar.muli arg1 c512_i32
  let v49 : BitVec 32 := v48
  let v101 : Index := Scalar.indexCast v49
  let c0_41 : Index := 0#32
  ![0, v101.toNat, 0]
@[reducible] def k0_t1_loop (i : grid0.Coords) : Scf.Loop 32 :=
  let arg1 : BitVec 32 := BitVec.ofNat 32 (i 1).val
  let c1_i32_76 : BitVec 32 := 1#32
  let v224 : BitVec 32 := Scalar.addi arg1 c1_i32_76
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c2_i32_77 : BitVec 32 := 2#32
  let v225 : BitVec 32 := Scalar.muli v223 c2_i32_77
  let v226 : BitVec 32 := Scalar.subi v225 v224
  let c1_i32_78 : BitVec 32 := 1#32
  let v228 : BitVec 32 := Scalar.divsi v226 c1_i32_78
  let v229 : BitVec 32 := Scalar.muli v228 c1_i32_78
  let v230 : BitVec 32 := Scalar.addi v224 v229
  let c1_i32_79 : BitVec 32 := 1#32
  ⟨v224, v230, c1_i32_79⟩
def k0_mult2 (i : grid0.Coords) (k0_t1 : Fin (k0_t1_loop i).trips) : BitVec 32 :=
  let arg1 : BitVec 32 := BitVec.ofNat 32 (i 1).val
  let c1_i32_76 : BitVec 32 := 1#32
  let v224 : BitVec 32 := Scalar.addi arg1 c1_i32_76
  let c1_i32_79 : BitVec 32 := 1#32
  let arg14 : BitVec 32 := Scf.iv v224 c1_i32_79 k0_t1
  let c512_i32_96 : BitVec 32 := 512#32
  let v278 : BitVec 32 := Scalar.muli arg14 c512_i32_96
  v278
def k0_off4 (i : grid0.Coords) (k0_t1 : Fin (k0_t1_loop i).trips) : Fin 2 → Nat :=
  let arg1 : BitVec 32 := BitVec.ofNat 32 (i 1).val
  let c1_i32_76 : BitVec 32 := 1#32
  let v224 : BitVec 32 := Scalar.addi arg1 c1_i32_76
  let c1_i32_79 : BitVec 32 := 1#32
  let arg14 : BitVec 32 := Scf.iv v224 c1_i32_79 k0_t1
  let c512_i32_96 : BitVec 32 := 512#32
  let v278 : BitVec 32 := Scalar.muli arg14 c512_i32_96
  let v279 : BitVec 32 := v278
  let v280 : Index := Scalar.indexCast v279
  let c0_97 : Index := 0#32
  ![v280.toNat, 0]
def k0_off5 (i : grid0.Coords) (k0_t1 : Fin (k0_t1_loop i).trips) : Fin 3 → Nat :=
  let arg1 : BitVec 32 := BitVec.ofNat 32 (i 1).val
  let c1_i32_76 : BitVec 32 := 1#32
  let v224 : BitVec 32 := Scalar.addi arg1 c1_i32_76
  let c1_i32_79 : BitVec 32 := 1#32
  let arg14 : BitVec 32 := Scf.iv v224 c1_i32_79 k0_t1
  let c0_i32_102 : BitVec 32 := 0#32
  let v300 : BitVec 32 := Scalar.addi arg14 c0_i32_102
  let v301 : Index := Scalar.indexCast v300
  let c0_103 : Index := 0#32
  let c0_104 : Index := 0#32
  ![v301.toNat, 0, 0]
def k0_off6 (i : grid0.Coords) (k0_t1 : Fin (k0_t1_loop i).trips) : Fin 3 → Nat :=
  let c0_113 : Index := 0#32
  let arg1 : BitVec 32 := BitVec.ofNat 32 (i 1).val
  let c1_i32_76 : BitVec 32 := 1#32
  let v224 : BitVec 32 := Scalar.addi arg1 c1_i32_76
  let c1_i32_79 : BitVec 32 := 1#32
  let arg14 : BitVec 32 := Scf.iv v224 c1_i32_79 k0_t1
  let c512_i32_96 : BitVec 32 := 512#32
  let v278 : BitVec 32 := Scalar.muli arg14 c512_i32_96
  let v279 : BitVec 32 := v278
  let v331 : Index := Scalar.indexCast v279
  let c0_114 : Index := 0#32
  ![0, v331.toNat, 0]
@[reducible] def k0_t2_loop (i : grid0.Coords) : Scf.Loop 32 :=
  let arg1 : BitVec 32 := BitVec.ofNat 32 (i 1).val
  let c1_i32_76 : BitVec 32 := 1#32
  let v224 : BitVec 32 := Scalar.addi arg1 c1_i32_76
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c2_i32_77 : BitVec 32 := 2#32
  let v225 : BitVec 32 := Scalar.muli v223 c2_i32_77
  let v226 : BitVec 32 := Scalar.subi v225 v224
  let c1_i32_78 : BitVec 32 := 1#32
  let v228 : BitVec 32 := Scalar.divsi v226 c1_i32_78
  let v229 : BitVec 32 := Scalar.muli v228 c1_i32_78
  let v230 : BitVec 32 := Scalar.addi v224 v229
  let v227 : BitVec 32 := Scalar.addi v224 v226
  let c1_i32_80 : BitVec 32 := 1#32
  ⟨v230, v227, c1_i32_80⟩
def k0_mult3 (i : grid0.Coords) (k0_t2 : Fin (k0_t2_loop i).trips) : BitVec 32 :=
  let arg1 : BitVec 32 := BitVec.ofNat 32 (i 1).val
  let c1_i32_76 : BitVec 32 := 1#32
  let v224 : BitVec 32 := Scalar.addi arg1 c1_i32_76
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c2_i32_77 : BitVec 32 := 2#32
  let v225 : BitVec 32 := Scalar.muli v223 c2_i32_77
  let v226 : BitVec 32 := Scalar.subi v225 v224
  let c1_i32_78 : BitVec 32 := 1#32
  let v228 : BitVec 32 := Scalar.divsi v226 c1_i32_78
  let v229 : BitVec 32 := Scalar.muli v228 c1_i32_78
  let v230 : BitVec 32 := Scalar.addi v224 v229
  let c1_i32_80 : BitVec 32 := 1#32
  let arg14 : BitVec 32 := Scf.iv v230 c1_i32_80 k0_t2
  let c512_i32_96 : BitVec 32 := 512#32
  let v278 : BitVec 32 := Scalar.muli arg14 c512_i32_96
  v278
def k0_off7 (i : grid0.Coords) (k0_t2 : Fin (k0_t2_loop i).trips) : Fin 2 → Nat :=
  let arg1 : BitVec 32 := BitVec.ofNat 32 (i 1).val
  let c1_i32_76 : BitVec 32 := 1#32
  let v224 : BitVec 32 := Scalar.addi arg1 c1_i32_76
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c2_i32_77 : BitVec 32 := 2#32
  let v225 : BitVec 32 := Scalar.muli v223 c2_i32_77
  let v226 : BitVec 32 := Scalar.subi v225 v224
  let c1_i32_78 : BitVec 32 := 1#32
  let v228 : BitVec 32 := Scalar.divsi v226 c1_i32_78
  let v229 : BitVec 32 := Scalar.muli v228 c1_i32_78
  let v230 : BitVec 32 := Scalar.addi v224 v229
  let c1_i32_80 : BitVec 32 := 1#32
  let arg14 : BitVec 32 := Scf.iv v230 c1_i32_80 k0_t2
  let c512_i32_96 : BitVec 32 := 512#32
  let v278 : BitVec 32 := Scalar.muli arg14 c512_i32_96
  let v279 : BitVec 32 := v278
  let v280 : Index := Scalar.indexCast v279
  let c0_97 : Index := 0#32
  ![v280.toNat, 0]
def k0_off8 (i : grid0.Coords) (k0_t2 : Fin (k0_t2_loop i).trips) : Fin 3 → Nat :=
  let arg1 : BitVec 32 := BitVec.ofNat 32 (i 1).val
  let c1_i32_76 : BitVec 32 := 1#32
  let v224 : BitVec 32 := Scalar.addi arg1 c1_i32_76
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c2_i32_77 : BitVec 32 := 2#32
  let v225 : BitVec 32 := Scalar.muli v223 c2_i32_77
  let v226 : BitVec 32 := Scalar.subi v225 v224
  let c1_i32_78 : BitVec 32 := 1#32
  let v228 : BitVec 32 := Scalar.divsi v226 c1_i32_78
  let v229 : BitVec 32 := Scalar.muli v228 c1_i32_78
  let v230 : BitVec 32 := Scalar.addi v224 v229
  let c1_i32_80 : BitVec 32 := 1#32
  let arg14 : BitVec 32 := Scf.iv v230 c1_i32_80 k0_t2
  let c0_i32_102 : BitVec 32 := 0#32
  let v300 : BitVec 32 := Scalar.addi arg14 c0_i32_102
  let v301 : Index := Scalar.indexCast v300
  let c0_103 : Index := 0#32
  let c0_104 : Index := 0#32
  ![v301.toNat, 0, 0]
def k0_off9 (i : grid0.Coords) (k0_t2 : Fin (k0_t2_loop i).trips) : Fin 3 → Nat :=
  let c0_113 : Index := 0#32
  let arg1 : BitVec 32 := BitVec.ofNat 32 (i 1).val
  let c1_i32_76 : BitVec 32 := 1#32
  let v224 : BitVec 32 := Scalar.addi arg1 c1_i32_76
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c2_i32_77 : BitVec 32 := 2#32
  let v225 : BitVec 32 := Scalar.muli v223 c2_i32_77
  let v226 : BitVec 32 := Scalar.subi v225 v224
  let c1_i32_78 : BitVec 32 := 1#32
  let v228 : BitVec 32 := Scalar.divsi v226 c1_i32_78
  let v229 : BitVec 32 := Scalar.muli v228 c1_i32_78
  let v230 : BitVec 32 := Scalar.addi v224 v229
  let c1_i32_80 : BitVec 32 := 1#32
  let arg14 : BitVec 32 := Scf.iv v230 c1_i32_80 k0_t2
  let c512_i32_96 : BitVec 32 := 512#32
  let v278 : BitVec 32 := Scalar.muli arg14 c512_i32_96
  let v279 : BitVec 32 := v278
  let v331 : Index := Scalar.indexCast v279
  let c0_114 : Index := 0#32
  ![0, v331.toNat, 0]
@[reducible] def k0_t3_loop (i : grid0.Coords) : Scf.Loop 32 :=
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c4_i32 : BitVec 32 := 4#32
  let v233 : BitVec 32 := Scalar.subi c4_i32 v223
  let c1_i32_81 : BitVec 32 := 1#32
  let v235 : BitVec 32 := Scalar.divsi v233 c1_i32_81
  let v236 : BitVec 32 := Scalar.muli v235 c1_i32_81
  let v237 : BitVec 32 := Scalar.addi v223 v236
  let c1_i32_82 : BitVec 32 := 1#32
  ⟨v223, v237, c1_i32_82⟩
def k0_mult4 (i : grid0.Coords) (k0_t3 : Fin (k0_t3_loop i).trips) : BitVec 32 :=
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c1_i32_82 : BitVec 32 := 1#32
  let arg14 : BitVec 32 := Scf.iv v223 c1_i32_82 k0_t3
  let c2_i32_96 : BitVec 32 := 2#32
  let v278 : BitVec 32 := Scalar.muli arg14 c2_i32_96
  let c512_i32_97 : BitVec 32 := 512#32
  let v279 : BitVec 32 := Scalar.muli v278 c512_i32_97
  v279
def k0_off10 (i : grid0.Coords) (k0_t3 : Fin (k0_t3_loop i).trips) : Fin 2 → Nat :=
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c1_i32_82 : BitVec 32 := 1#32
  let arg14 : BitVec 32 := Scf.iv v223 c1_i32_82 k0_t3
  let c2_i32_96 : BitVec 32 := 2#32
  let v278 : BitVec 32 := Scalar.muli arg14 c2_i32_96
  let c512_i32_97 : BitVec 32 := 512#32
  let v279 : BitVec 32 := Scalar.muli v278 c512_i32_97
  let v280 : BitVec 32 := v279
  let v281 : Index := Scalar.indexCast v280
  let c0_98 : Index := 0#32
  ![v281.toNat, 0]
def k0_off11 (i : grid0.Coords) (k0_t3 : Fin (k0_t3_loop i).trips) (c0_i32_103 : BitVec 32) : Fin 3 → Nat :=
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c1_i32_82 : BitVec 32 := 1#32
  let arg14 : BitVec 32 := Scf.iv v223 c1_i32_82 k0_t3
  let c2_i32_96 : BitVec 32 := 2#32
  let v278 : BitVec 32 := Scalar.muli arg14 c2_i32_96
  let v301 : BitVec 32 := Scalar.addi v278 c0_i32_103
  let v302 : Index := Scalar.indexCast v301
  let c0_104 : Index := 0#32
  let c0_105 : Index := 0#32
  ![v302.toNat, 0, 0]
def k0_off12 (i : grid0.Coords) (k0_t3 : Fin (k0_t3_loop i).trips) : Fin 3 → Nat :=
  let c0_120 : Index := 0#32
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c1_i32_82 : BitVec 32 := 1#32
  let arg14 : BitVec 32 := Scf.iv v223 c1_i32_82 k0_t3
  let c2_i32_96 : BitVec 32 := 2#32
  let v278 : BitVec 32 := Scalar.muli arg14 c2_i32_96
  let c512_i32_97 : BitVec 32 := 512#32
  let v279 : BitVec 32 := Scalar.muli v278 c512_i32_97
  let v280 : BitVec 32 := v279
  let v342 : Index := Scalar.indexCast v280
  let c0_121 : Index := 0#32
  ![0, v342.toNat, 0]
@[reducible] def k0_t4_loop (i : grid0.Coords) : Scf.Loop 32 :=
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c4_i32 : BitVec 32 := 4#32
  let v233 : BitVec 32 := Scalar.subi c4_i32 v223
  let c1_i32_81 : BitVec 32 := 1#32
  let v235 : BitVec 32 := Scalar.divsi v233 c1_i32_81
  let v236 : BitVec 32 := Scalar.muli v235 c1_i32_81
  let v237 : BitVec 32 := Scalar.addi v223 v236
  let v234 : BitVec 32 := Scalar.addi v223 v233
  let c1_i32_83 : BitVec 32 := 1#32
  ⟨v237, v234, c1_i32_83⟩
def k0_mult5 (i : grid0.Coords) (k0_t4 : Fin (k0_t4_loop i).trips) : BitVec 32 :=
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c4_i32 : BitVec 32 := 4#32
  let v233 : BitVec 32 := Scalar.subi c4_i32 v223
  let c1_i32_81 : BitVec 32 := 1#32
  let v235 : BitVec 32 := Scalar.divsi v233 c1_i32_81
  let v236 : BitVec 32 := Scalar.muli v235 c1_i32_81
  let v237 : BitVec 32 := Scalar.addi v223 v236
  let c1_i32_83 : BitVec 32 := 1#32
  let arg14 : BitVec 32 := Scf.iv v237 c1_i32_83 k0_t4
  let c2_i32_96 : BitVec 32 := 2#32
  let v278 : BitVec 32 := Scalar.muli arg14 c2_i32_96
  let c512_i32_97 : BitVec 32 := 512#32
  let v279 : BitVec 32 := Scalar.muli v278 c512_i32_97
  v279
def k0_off13 (i : grid0.Coords) (k0_t4 : Fin (k0_t4_loop i).trips) : Fin 2 → Nat :=
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c4_i32 : BitVec 32 := 4#32
  let v233 : BitVec 32 := Scalar.subi c4_i32 v223
  let c1_i32_81 : BitVec 32 := 1#32
  let v235 : BitVec 32 := Scalar.divsi v233 c1_i32_81
  let v236 : BitVec 32 := Scalar.muli v235 c1_i32_81
  let v237 : BitVec 32 := Scalar.addi v223 v236
  let c1_i32_83 : BitVec 32 := 1#32
  let arg14 : BitVec 32 := Scf.iv v237 c1_i32_83 k0_t4
  let c2_i32_96 : BitVec 32 := 2#32
  let v278 : BitVec 32 := Scalar.muli arg14 c2_i32_96
  let c512_i32_97 : BitVec 32 := 512#32
  let v279 : BitVec 32 := Scalar.muli v278 c512_i32_97
  let v280 : BitVec 32 := v279
  let v281 : Index := Scalar.indexCast v280
  let c0_98 : Index := 0#32
  ![v281.toNat, 0]
def k0_off14 (i : grid0.Coords) (k0_t4 : Fin (k0_t4_loop i).trips) (c0_i32_103 : BitVec 32) : Fin 3 → Nat :=
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c4_i32 : BitVec 32 := 4#32
  let v233 : BitVec 32 := Scalar.subi c4_i32 v223
  let c1_i32_81 : BitVec 32 := 1#32
  let v235 : BitVec 32 := Scalar.divsi v233 c1_i32_81
  let v236 : BitVec 32 := Scalar.muli v235 c1_i32_81
  let v237 : BitVec 32 := Scalar.addi v223 v236
  let c1_i32_83 : BitVec 32 := 1#32
  let arg14 : BitVec 32 := Scf.iv v237 c1_i32_83 k0_t4
  let c2_i32_96 : BitVec 32 := 2#32
  let v278 : BitVec 32 := Scalar.muli arg14 c2_i32_96
  let v301 : BitVec 32 := Scalar.addi v278 c0_i32_103
  let v302 : Index := Scalar.indexCast v301
  let c0_104 : Index := 0#32
  let c0_105 : Index := 0#32
  ![v302.toNat, 0, 0]
def k0_off15 (i : grid0.Coords) (k0_t4 : Fin (k0_t4_loop i).trips) : Fin 3 → Nat :=
  let c0_120 : Index := 0#32
  let arg1 : BitVec 32 := BitVec.ofNat 32 (i 1).val
  let c0_i32_69 : BitVec 32 := 0#32
  let v207 : BitVec 1 := Scalar.cmpi .sgt arg1 c0_i32_69
  let v208 : BitVec 32 := Scalar.extui v207
  let c0_i32_70 : BitVec 32 := 0#32
  let v209 : BitVec 1 := Scalar.cmpi .slt arg1 c0_i32_70
  let v210 : BitVec 32 := Scalar.extui v209
  let v211 : BitVec 32 := Scalar.subi v208 v210
  let c2_i32_68 : BitVec 32 := 2#32
  let c0_i32_71 : BitVec 32 := 0#32
  let v212 : BitVec 1 := Scalar.cmpi .sgt c2_i32_68 c0_i32_71
  let v213 : BitVec 32 := Scalar.extui v212
  let c0_i32_72 : BitVec 32 := 0#32
  let v214 : BitVec 1 := Scalar.cmpi .slt c2_i32_68 c0_i32_72
  let v215 : BitVec 32 := Scalar.extui v214
  let v216 : BitVec 32 := Scalar.subi v213 v215
  let v217 : BitVec 1 := Scalar.cmpi .ne v211 v216
  let v218 : BitVec 32 := Scalar.remsi arg1 c2_i32_68
  let c0_i32_73 : BitVec 32 := 0#32
  let v219 : BitVec 1 := Scalar.cmpi .ne v218 c0_i32_73
  let v220 : BitVec 1 := Scalar.andi v217 v219
  let v206 : BitVec 32 := Scalar.divsi arg1 c2_i32_68
  let c1_i32_74 : BitVec 32 := 1#32
  let v221 : BitVec 32 := Scalar.subi v206 c1_i32_74
  let v222 : BitVec 32 := Scalar.select v220 v221 v206
  let c1_i32_75 : BitVec 32 := 1#32
  let v223 : BitVec 32 := Scalar.addi v222 c1_i32_75
  let c4_i32 : BitVec 32 := 4#32
  let v233 : BitVec 32 := Scalar.subi c4_i32 v223
  let c1_i32_81 : BitVec 32 := 1#32
  let v235 : BitVec 32 := Scalar.divsi v233 c1_i32_81
  let v236 : BitVec 32 := Scalar.muli v235 c1_i32_81
  let v237 : BitVec 32 := Scalar.addi v223 v236
  let c1_i32_83 : BitVec 32 := 1#32
  let arg14 : BitVec 32 := Scf.iv v237 c1_i32_83 k0_t4
  let c2_i32_96 : BitVec 32 := 2#32
  let v278 : BitVec 32 := Scalar.muli arg14 c2_i32_96
  let c512_i32_97 : BitVec 32 := 512#32
  let v279 : BitVec 32 := Scalar.muli v278 c512_i32_97
  let v280 : BitVec 32 := v279
  let v342 : Index := Scalar.indexCast v280
  let c0_121 : Index := 0#32
  ![0, v342.toNat, 0]
def k0_mult6 (i : grid0.Coords) : BitVec 32 :=
  let arg1 : BitVec 32 := BitVec.ofNat 32 (i 1).val
  let c512_i32_93 : BitVec 32 := 512#32
  let v269 : BitVec 32 := Scalar.muli arg1 c512_i32_93
  v269
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Kernel3Ideal.lean ====
variable {F : FTy → Type} [FloatOps F] [Named F]
def κ : String → Option EReal := fun
  | "ln2" => some ((Real.log 2 : ℝ) : EReal)
  | "log2e" => some (((Real.log 2)⁻¹ : ℝ) : EReal)
  | "s2" => some (((1 / 8) * (Real.log 2)⁻¹ : ℝ) : EReal)
  | _ => none
-- ==== Reference3Ideal.lean ====
abbrev S4096x512 : Shape := ⟨2, ![4096, 512]⟩
abbrev S4096x8 : Shape := ⟨2, ![4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x64x4096 : Shape := ⟨3, ![8, 64, 4096]⟩

abbrev nBuf : Space → Nat
  | .hbm => 127
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S4096, .i32⟩
  | .hbm, ⟨6, _⟩ => ⟨S1x4096, .i32⟩
  | .hbm, ⟨7, _⟩ => ⟨S4096, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4096x8x64, .f32⟩
  | .hbm, ⟨13, _⟩ => ⟨S8x4096x64, .f32⟩
  | .hbm, ⟨14, _⟩ => ⟨S4096x8x64, .f32⟩
  | .hbm, ⟨15, _⟩ => ⟨S8x4096x64, .f32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x4096, .f32⟩
  | .hbm, ⟨21, _⟩ => ⟨S8x4096x1, .f32⟩
  | .hbm, ⟨22, _⟩ => ⟨S8x4096, .f32⟩
  | .hbm, ⟨23, _⟩ => ⟨S8x1x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .i1⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x4096, .f32⟩
  | .hbm, ⟨68, _⟩ => ⟨S8x4096x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S4096x8x64, .f32⟩
  | .hbm, ⟨74, _⟩ => ⟨S8x4096x64, .f32⟩
  | .hbm, ⟨75, _⟩ => ⟨S8x4096x64, .f32⟩
  | .hbm, ⟨76, _⟩ => ⟨S4096x8x64, .f32⟩
  | .hbm, ⟨77, _⟩ => ⟨S4096x512, .f32⟩
  | .hbm, ⟨78, _⟩ => ⟨S4096x8x64, .f32⟩
  | .hbm, ⟨79, _⟩ => ⟨S8x4096x64, .f32⟩
  | .hbm, ⟨80, _⟩ => ⟨S8x64x4096, .f32⟩
  | .hbm, ⟨81, _⟩ => ⟨S8x4096x64, .f32⟩
  | .hbm, ⟨82, _⟩ => ⟨S8x4096x4096, .f32⟩
  | .hbm, ⟨83, _⟩ => ⟨S4096x8x64, .f32⟩
  | .hbm, ⟨84, _⟩ => ⟨S4096x512, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S8x4096x1, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096, .f32⟩
  | .hbm, ⟨96, _⟩ => ⟨S8x4096x4096, .f32⟩
  | .hbm, ⟨97, _⟩ => ⟨S8x4096x4096, .f32⟩
  | .hbm, ⟨98, _⟩ => ⟨S8x4096x4096, .f32⟩
  | .hbm, ⟨99, _⟩ => ⟨S_, .f32⟩
  | .hbm, ⟨100, _⟩ => ⟨S8x4096x4096, .f32⟩
  | .hbm, ⟨101, _⟩ => ⟨S8x4096x4096, .f32⟩
  | .hbm, ⟨102, _⟩ => ⟨S_, .f32⟩
  | .hbm, ⟨103, _⟩ => ⟨S8x4096, .f32⟩
  | .hbm, ⟨104, _⟩ => ⟨S8x4096x1, .f32⟩
  | .hbm, ⟨105, _⟩ => ⟨S8x4096x4096, .f32⟩
  | .hbm, ⟨106, _⟩ => ⟨S_, .f32⟩
  | .hbm, ⟨107, _⟩ => ⟨S8x4096, .f32⟩
  | .hbm, ⟨108, _⟩ => ⟨S8x1x4096, .f32⟩
  | .hbm, ⟨109, _⟩ => ⟨S_, .f32⟩
  | .hbm, ⟨110, _⟩ => ⟨S8x4096, .f32⟩
  | .hbm, ⟨111, _⟩ => ⟨S4096x8, .f32⟩
  | .hbm, ⟨112, _⟩ => ⟨S_, .f32⟩
  | .hbm, ⟨113, _⟩ => ⟨S8x4096, .f32⟩
  | .hbm, ⟨114, _⟩ => ⟨S4096x8, .f32⟩
  | .hbm, ⟨115, _⟩ => ⟨S4096x8, .f32⟩
  | .hbm, ⟨116, _⟩ => ⟨S_, .f32⟩
  | .hbm, ⟨117, _⟩ => ⟨S8x4096x4096, .f32⟩
  | .hbm, ⟨118, _⟩ => ⟨S8x4096x4096, .f32⟩
  | .hbm, ⟨119, _⟩ => ⟨S8x4096x64, .f32⟩
  | .hbm, ⟨120, _⟩ => ⟨S8x4096x64, .f32⟩
  | .hbm, ⟨121, _⟩ => ⟨S4096x8x64, .f32⟩
  | .hbm, ⟨122, _⟩ => ⟨S4096x512, .f32⟩
  | .hbm, ⟨123, _⟩ => ⟨S4096x8x64, .f32⟩
  | .hbm, ⟨124, _⟩ => ⟨S4096x512, .f32⟩
  | .hbm, ⟨125, _⟩ => ⟨S4096x512, .bf16⟩
  | .hbm, ⟨126, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call1_cst : Ref sig .tc := ⟨.hbm, 99, rfl⟩
abbrev main_call1_v0 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1x1024x4096 : Shape := ⟨3, ![1, 1024, 4096]⟩
abbrev S4096x4096 : Shape := ⟨2, ![4096, 4096]⟩
abbrev S1024x4096 : Shape := ⟨2, ![1024, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4096, .f32⟩
  | .hbm, ⟨3, _⟩ => ⟨S4096x4096, .f32⟩
  | .hbm, ⟨4, _⟩ => ⟨S4096x1024, .f32⟩
  | .hbm, ⟨5, _⟩ => ⟨S4096x4096, .bf16⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference4Ideal.lean ====
abbrev S4096x1024 : Shape := ⟨2, ![4096, 1024]⟩
abbrev S1x1024 : Shape := ⟨2, ![1, 1024]⟩
abbrev S1x1024x4096 : Shape := ⟨3, ![1, 1024, 4096]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4096, .f32⟩
  | .hbm, ⟨3, _⟩ => ⟨S4096x4096, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S1x4096x1024 : Shape := ⟨3, ![1, 4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1x4096x1024, .f32⟩
  | .hbm, ⟨3, _⟩ => ⟨S1024, .f32⟩
  | .hbm, ⟨4, _⟩ => ⟨S4096x1024, .f32⟩
  | .hbm, ⟨5, _⟩ => ⟨S4096x4096, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== Reference5Ideal.lean ====
abbrev S4096x1024 : Shape := ⟨2, ![4096, 1024]⟩
abbrev S4096x4096 : Shape := ⟨2, ![4096, 4096]⟩
abbrev S1x4096x1024 : Shape := ⟨3, ![1, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1x4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .bf16⟩
  | .hbm, ⟨81, _⟩ => ⟨S1x1024, .f32⟩
  | .hbm, ⟨82, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1x1024x2216 : Shape := ⟨3, ![1, 1024, 2216]⟩
abbrev S4096x2216 : Shape := ⟨2, ![4096, 2216]⟩
abbrev S1024x2216 : Shape := ⟨2, ![1024, 2216]⟩
abbrev S4096x512 : Shape := ⟨2, ![4096, 512]⟩
abbrev S1024x512 : Shape := ⟨2, ![1024, 512]⟩
abbrev S512x1024 : Shape := ⟨2, ![512, 1024]⟩
abbrev S4096x640 : Shape := ⟨2, ![4096, 640]⟩
abbrev S_ : Shape := ⟨0, ![]⟩
abbrev S4096x64 : Shape := ⟨2, ![4096, 64]⟩
abbrev S4096x32 : Shape := ⟨2, ![4096, 32]⟩
abbrev S4096x8 : Shape := ⟨2, ![4096, 8]⟩
abbrev S4096x248 : Shape := ⟨2, ![4096, 248]⟩
abbrev S1024x640 : Shape := ⟨2, ![1024, 640]⟩
abbrev S1024x64 : Shape := ⟨2, ![1024, 64]⟩
abbrev S1024x32 : Shape := ⟨2, ![1024, 32]⟩
abbrev S1024x8 : Shape := ⟨2, ![1024, 8]⟩
abbrev S1024x248 : Shape := ⟨2, ![1024, 248]⟩
abbrev S1024x1024 : Shape := ⟨2, ![1024, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 45
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2216, .f32⟩
  | .hbm, ⟨3, _⟩ => ⟨S4096x2216, .f32⟩
  | .hbm, ⟨4, _⟩ => ⟨S4096x1024, .f32⟩
  | .hbm, ⟨5, _⟩ => ⟨S1024x2216, .f32⟩
  | .hbm, ⟨6, _⟩ => ⟨S4096x512, .f32⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S1024x512, .f32⟩
  | .hbm, ⟨12, _⟩ => ⟨S512x1024, .f32⟩
  | .hbm, ⟨13, _⟩ => ⟨S512x1024, .bf16⟩
  | .hbm, ⟨14, _⟩ => ⟨S1024x512, .f32⟩
  | .hbm, ⟨15, _⟩ => ⟨S512x1024, .f32⟩
  | .hbm, ⟨16, _⟩ => ⟨S512x1024, .bf16⟩
  | .hbm, ⟨17, _⟩ => ⟨S1024x512, .f32⟩
  | .hbm, ⟨18, _⟩ => ⟨S512x1024, .f32⟩
  | .hbm, ⟨19, _⟩ => ⟨S512x1024, .bf16⟩
  | .hbm, ⟨20, _⟩ => ⟨S4096x640, .f32⟩
  | .hbm, ⟨21, _⟩ => ⟨S_, .f32⟩
  | .hbm, ⟨22, _⟩ => ⟨S4096x64, .f32⟩
  | .hbm, ⟨23, _⟩ => ⟨S4096x32, .f32⟩
  | .hbm, ⟨24, _⟩ => ⟨S_, .f32⟩
  | .hbm, ⟨25, _⟩ => ⟨S4096x32, .f32⟩
  | .hbm, ⟨26, _⟩ => ⟨S4096x8, .f32⟩
  | .hbm, ⟨27, _⟩ => ⟨S_, .f32⟩
  | .hbm, ⟨28, _⟩ => ⟨S4096x248, .f32⟩
  | .hbm, ⟨29, _⟩ => ⟨S4096x1024, .f32⟩
  | .hbm, ⟨30, _⟩ => ⟨S4096x1024, .bf16⟩
  | .hbm, ⟨31, _⟩ => ⟨S1024x640, .f32⟩
  | .hbm, ⟨32, _⟩ => ⟨S_, .f32⟩
  | .hbm, ⟨33, _⟩ => ⟨S1024x64, .f32⟩
  | .hbm, ⟨34, _⟩ => ⟨S1024x32, .f32⟩
  | .hbm, ⟨35, _⟩ => ⟨S_, .f32⟩
  | .hbm, ⟨36, _⟩ => ⟨S1024x32, .f32⟩
  | .hbm, ⟨37, _⟩ => ⟨S1024x8, .f32⟩
  | .hbm, ⟨38, _⟩ => ⟨S_, .f32⟩
  | .hbm, ⟨39, _⟩ => ⟨S1024x248, .f32⟩
  | .hbm, ⟨40, _⟩ => ⟨S1024x1024, .f32⟩
  | .hbm, ⟨41, _⟩ => ⟨S1024x1024, .f32⟩
  | .hbm, ⟨42, _⟩ => ⟨S1024x1024, .bf16⟩
  | .hbm, ⟨43, _⟩ => ⟨S4096x1024, .f32⟩
  | .hbm, ⟨44, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]
-- ==== Reference6Ideal.lean ====
abbrev S4096x1024 : Shape := ⟨2, ![4096, 1024]⟩
abbrev S1x1024 : Shape := ⟨2, ![1, 1024]⟩
abbrev S1x1024x2216 : Shape := ⟨3, ![1, 1024, 2216]⟩
abbrev S4096x2216 : Shape := ⟨2, ![4096, 2216]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2216 : Shape := ⟨2, ![1024, 2216]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2216, .f32⟩
  | .hbm, ⟨3, _⟩ => ⟨S4096x2216, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x2216, .f32⟩
  | .hbm, ⟨27, _⟩ => ⟨S4096x2216, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S4096x512 : Shape := ⟨2, ![4096, 512]⟩
abbrev S1x512 : Shape := ⟨2, ![1, 512]⟩
abbrev S1x1024x1024 : Shape := ⟨3, ![1, 1024, 1024]⟩
abbrev S4096x1024 : Shape := ⟨2, ![4096, 1024]⟩
abbrev S_ : Shape := ⟨0, ![]⟩
abbrev S4x4096x128 : Shape := ⟨3, ![4, 4096, 128]⟩
abbrev S1024x1024 : Shape := ⟨2, ![1024, 1024]⟩
abbrev S8x512x512 : Shape := ⟨3, ![8, 512, 512]⟩
abbrev S512x1024 : Shape := ⟨2, ![512, 1024]⟩
abbrev S512x512 : Shape := ⟨2, ![512, 512]⟩
abbrev S4x512x128 : Shape := ⟨3, ![4, 512, 128]⟩
abbrev S1x512x512 : Shape := ⟨3, ![1, 512, 512]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S1x512x128 : Shape := ⟨3, ![1, 512, 128]⟩

abbrev nBuf : Space → Nat
  | .hbm => 19
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S4096x1024, .f32⟩
  | .hbm, ⟨6, _⟩ => ⟨S_, .f32⟩
  | .hbm, ⟨7, _⟩ => ⟨S4x4096x128, .f32⟩
  | .hbm, ⟨8, _⟩ => ⟨S4096x1024, .bf16⟩
  | .hbm, ⟨9, _⟩ => ⟨S1024x1024, .f32⟩
  | .hbm, ⟨10, _⟩ => ⟨S1024x1024, .bf16⟩
  | .hbm, ⟨11, _⟩ => ⟨S4096x512, .bf16⟩
  | .hbm, ⟨12, _⟩ => ⟨S4096x512, .bf16⟩
  | .hbm, ⟨13, _⟩ => ⟨S1x512, .f32⟩
  | .hbm, ⟨14, _⟩ => ⟨S1x512, .f32⟩
  | .hbm, ⟨15, _⟩ => ⟨S4x4096x128, .f32⟩
  | .hbm, ⟨16, _⟩ => ⟨S4x4096x128, .f32⟩
  | .hbm, ⟨17, _⟩ => ⟨S8x512x512, .bf16⟩
  | .hbm, ⟨18, _⟩ => ⟨S8x512x512, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S1x512, .f32⟩
  | .local _ .vmem, ⟨18, _⟩ => ⟨S1x512, .f32⟩
  | .local _ .vmem, ⟨19, _⟩ => ⟨S4x512x128, .f32⟩
  | .local _ .vmem, ⟨20, _⟩ => ⟨S4x512x128, .f32⟩
  | .local _ .vmem, ⟨21, _⟩ => ⟨S4x512x128, .f32⟩
  | .local _ .vmem, ⟨22, _⟩ => ⟨S4x512x128, .f32⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S4096x512 : Shape := ⟨2, ![4096, 512]⟩
abbrev S1x512 : Shape := ⟨2, ![1, 512]⟩
abbrev S1x1024x1024 : Shape := ⟨3, ![1, 1024, 1024]⟩
abbrev S4096x1024 : Shape := ⟨2, ![4096, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S4096x4x2x64 : Shape := ⟨4, ![4096, 4, 2, 64]⟩
abbrev S4096x4x2 : Shape := ⟨3, ![4096, 4, 2]⟩
abbrev S4x4096x2 : Shape := ⟨3, ![4, 4096, 2]⟩
abbrev S4x4096x128 : Shape := ⟨3, ![4, 4096, 128]⟩
abbrev S8x512x512 : Shape := ⟨3, ![8, 512, 512]⟩

abbrev nBuf : Space → Nat
  | .hbm => 130
  | .vmem => 0
  | .smem => 0
  | _ => 0

abbrev hbmTy0_0 (i : Nat) : BufTy := match i % 128 with
  | 0 => ⟨S4096x512, .f32⟩
  | 1 => ⟨S4096x512, .f32⟩
  | 2 => ⟨S1x512, .f32⟩
  | 3 => ⟨S1x512, .f32⟩
  | 4 => ⟨S1x1024x1024, .f32⟩
  | 5 => ⟨S4096x1024, .f32⟩
  | 6 => ⟨S512, .f32⟩
  | 7 => ⟨S4096x512, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x512, .f32⟩
  | 23 => ⟨S4096x512, .f32⟩
  | 24 => ⟨S1x512, .f32⟩
  | 25 => ⟨S4096x512, .f32⟩
  | 26 => ⟨S4096x512, .f32⟩
  | 27 => ⟨S512, .f32⟩
  | 28 => ⟨S4096x512, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x512, .f32⟩
  | 44 => ⟨S4096x512, .f32⟩
  | 45 => ⟨S1x512, .f32⟩
  | 46 => ⟨S4096x512, .f32⟩
  | 47 => ⟨S4096x512, .f32⟩
  | 48 => ⟨S4096x1024, .f32⟩
  | 49 => ⟨S1024x1024, .f32⟩
  | 50 => ⟨S4096x1024, .f32⟩
  | 51 => ⟨S4096x1024, .f32⟩
  | 52 => ⟨S4096x512, .f32⟩
  | 53 => ⟨S4096x512, .f32⟩
  | 54 => ⟨S4096x512, .f32⟩
  | 55 => ⟨S_, .f32⟩
  | 56 => ⟨S512, .f32⟩
  | 57 => ⟨S1x512, .f32⟩
  | 58 => ⟨S4096x512, .f32⟩
  | 59 => ⟨S4096x512, .f32⟩
  | 60 => ⟨S_, .f32⟩
  | 61 => ⟨S512, .f32⟩
  | 62 => ⟨S4096x512, .f32⟩
  | 63 => ⟨S_, .f32⟩
  | 64 => ⟨S4096, .f32⟩
  | 65 => ⟨S4096x1, .f32⟩
  | 66 => ⟨S4096x512, .f32⟩
  | 67 => ⟨S4096x512, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S1x512, .f32⟩
  | 80 => ⟨S4096x512, .f32⟩
  | 81 => ⟨S_, .f32⟩
  | 82 => ⟨S512, .f32⟩
  | 83 => ⟨S1x512, .f32⟩
  | 84 => ⟨S4096x512, .f32⟩
  | 85 => ⟨S4096x512, .f32⟩
  | 86 => ⟨S_, .f32⟩
  | 87 => ⟨S512, .f32⟩
  | 88 => ⟨S4096x512, .f32⟩
  | 89 => ⟨S_, .f32⟩
  | 90 => ⟨S4096, .f32⟩
  | 91 => ⟨S4096x1, .f32⟩
  | 92 => ⟨S4096x512, .f32⟩
  | 93 => ⟨S4096x512, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S1x512, .f32⟩
  | 106 => ⟨S4096x512, .bf16⟩
  | 107 => ⟨S4096x512, .bf16⟩
  | 108 => ⟨S4096x512, .f32⟩
  | 109 => ⟨S4096x4x2x64, .f32⟩
  | 110 => ⟨S_, .f32⟩
  | 111 => ⟨S4096x4x2, .f32⟩
  | 112 => ⟨S4x4096x2, .f32⟩
  | 113 => ⟨S_, .i32⟩
  | 114 => ⟨S_, .f32⟩
  | 115 => ⟨S4x4096x128, .f32⟩
  | 116 => ⟨S4096x512, .f32⟩
  | 117 => ⟨S4096x4x2x64, .f32⟩
  | 118 => ⟨S_, .f32⟩
  | 119 => ⟨S4096x4x2, .f32⟩
  | 120 => ⟨S4x4096x2, .f32⟩
  | 121 => ⟨S_, .i32⟩
  | 122 => ⟨S_, .f32⟩
  | 123 => ⟨S4x4096x128, .f32⟩
  | 124 => ⟨S8x512x512, .f32⟩
  | 125 => ⟨S8x512x512, .f32⟩
  | 126 => ⟨S8x512x512, .bf16⟩
  | 127 => ⟨S8x512x512, .f32⟩
  | _ => ⟨S4096x512, .f32⟩

abbrev hbmTy0_1 (i : Nat) : BufTy := match i % 128 with
  | 0 => ⟨S8x512x512, .f32⟩
  | 1 => ⟨S8x512x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_c : Ref sig .tc := ⟨.hbm, 113, rfl⟩
abbrev main_call0_v0 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_18 : Ref sig .tc := ⟨.hbm, 118, rfl⟩
abbrev main_v91 : Ref sig .tc := ⟨.hbm, 119, rfl⟩
abbrev main_v92 : Ref sig .tc := ⟨.hbm, 120, rfl⟩
abbrev main_c_19 : Ref sig .tc := ⟨.hbm, 121, rfl⟩
abbrev main_call1_v0 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== Kernel8.lean ====
abbrev S4096x128 : Shape := ⟨2, ![4096, 128]⟩
abbrev S512x128 : Shape := ⟨2, ![512, 128]⟩
abbrev S8x128 : Shape := ⟨2, ![8, 128]⟩
abbrev S512x512 : Shape := ⟨2, ![512, 512]⟩
abbrev S1x128 : Shape := ⟨2, ![1, 128]⟩

abbrev nBuf : Space → Nat
  | .hbm => 2
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S4096x128 : Shape := ⟨2, ![4096, 128]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S_, .f32⟩
  | .hbm, ⟨2, _⟩ => ⟨S_, .f32⟩
  | .hbm, ⟨3, _⟩ => ⟨S4096x128, .f32⟩
  | .hbm, ⟨4, _⟩ => ⟨S_, .f32⟩
  | .hbm, ⟨5, _⟩ => ⟨S_, .f32⟩
  | .hbm, ⟨6, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_call1_call0_cst : Ref sig .tc := ⟨.hbm, 4, rfl⟩
abbrev main_call1_call0_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Kernel9.lean ====
abbrev S4096x680 : Shape := ⟨2, ![4096, 680]⟩
abbrev S4096 : Shape := ⟨1, ![4096]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x8 : Shape := ⟨2, ![1, 8]⟩
abbrev S4096x768 : Shape := ⟨2, ![4096, 768]⟩
abbrev S4096x512 : Shape := ⟨2, ![4096, 512]⟩
abbrev S4096x8 : Shape := ⟨2, ![4096, 8]⟩
abbrev S384x768 : Shape := ⟨2, ![384, 768]⟩
abbrev S384x8x96 : Shape := ⟨3, ![384, 8, 96]⟩
abbrev S_ : Shape := ⟨0, ![]⟩
abbrev S384x8x128 : Shape := ⟨3, ![384, 8, 128]⟩
abbrev S384x1024 : Shape := ⟨2, ![384, 1024]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S1x128 : Shape := ⟨2, ![1, 128]⟩
abbrev S16 : Shape := ⟨1, ![16]⟩
abbrev S64 : Shape := ⟨1, ![64]⟩
abbrev S32 : Shape := ⟨1, ![32]⟩
abbrev S128 : Shape := ⟨1, ![128]⟩
abbrev S4096x1 : Shape := ⟨2, ![4096, 1]⟩
abbrev S4096x640 : Shape := ⟨2, ![4096, 640]⟩
abbrev S4096x64 : Shape := ⟨2, ![4096, 64]⟩
abbrev S4096x32 : Shape := ⟨2, ![4096, 32]⟩
abbrev S4096x248 : Shape := ⟨2, ![4096, 248]⟩
abbrev S4096x1024 : Shape := ⟨2, ![4096, 1024]⟩
abbrev S4096x8x96 : Shape := ⟨3, ![4096, 8, 96]⟩
abbrev S4096x8x128 : Shape := ⟨3, ![4096, 8, 128]⟩
abbrev S4096x128 : Shape := ⟨2, ![4096, 128]⟩
abbrev S4096x1536 : Shape := ⟨2, ![4096, 1536]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S512x1536 : Shape := ⟨2, ![512, 1536]⟩
abbrev S512x384 : Shape := ⟨2, ![512, 384]⟩
abbrev S512 : Shape := ⟨1, ![512]⟩
abbrev S384 : Shape := ⟨1, ![384]⟩
abbrev S512x256 : Shape := ⟨2, ![512, 256]⟩
abbrev S256 : Shape := ⟨1, ![256]⟩

abbrev nBuf : Space → Nat
  | .hbm => 93
  | .vmem => 27
  | .smem => 0
  | _ => 0

abbrev bufTy : (tb : Table) → Fin (tcTables nBuf tb) → BufTy
  | .hbm, ⟨0, _⟩ => ⟨S4096x680, .f32⟩
  | .hbm, ⟨1, _⟩ => ⟨S4096, .i32⟩
  | .hbm, ⟨2, _⟩ => ⟨S1x384, .f32⟩
  | .hbm, ⟨3, _⟩ => ⟨S1x384x768, .f32⟩
  | .hbm, ⟨4, _⟩ => ⟨S1x256, .f32⟩
  | .hbm, ⟨5, _⟩ => ⟨S1x256x1024, .f32⟩
  | .hbm, ⟨6, _⟩ => ⟨S1x8, .f32⟩
  | .hbm, ⟨7, _⟩ => ⟨S4096x768, .f32⟩
  | .hbm, ⟨8, _⟩ => ⟨S4096x768, .f32⟩
  | .hbm, ⟨9, _⟩ => ⟨S4096x512, .f32⟩
  | .hbm, ⟨10, _⟩ => ⟨S4096x8, .f32⟩
  | .hbm, ⟨11, _⟩ => ⟨S384x768, .f32⟩
  | .hbm, ⟨12, _⟩ => ⟨S384x8x96, .f32⟩
  | .hbm, ⟨13, _⟩ => ⟨S_, .i32⟩
  | .hbm, ⟨14, _⟩ => ⟨S_, .f32⟩
  | .hbm, ⟨15, _⟩ => ⟨S384x8x128, .f32⟩
  | .hbm, ⟨16, _⟩ => ⟨S384x1024, .f32⟩
  | .hbm, ⟨17, _⟩ => ⟨S256x1024, .f32⟩
  | .hbm, ⟨18, _⟩ => ⟨S256x8x128, .f32⟩
  | .hbm, ⟨19, _⟩ => ⟨S256x8x64, .f32⟩
  | .hbm, ⟨20, _⟩ => ⟨S256x512, .f32⟩
  | .hbm, ⟨21, _⟩ => ⟨S256x8x64, .f32⟩
  | .hbm, ⟨22, _⟩ => ⟨S_, .i32⟩
  | .hbm, ⟨23, _⟩ => ⟨S_, .f32⟩
  | .hbm, ⟨24, _⟩ => ⟨S256x8x128, .f32⟩
  | .hbm, ⟨25, _⟩ => ⟨S256x1024, .f32⟩
  | .hbm, ⟨26, _⟩ => ⟨S256x8x64, .f32⟩
  | .hbm, ⟨27, _⟩ => ⟨S256x512, .f32⟩
  | .hbm, ⟨28, _⟩ => ⟨S256x1536, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S32, .f32⟩
  | .hbm, ⟨50, _⟩ => ⟨S128, .f32⟩
  | .hbm, ⟨51, _⟩ => ⟨S4096, .f32⟩
  | .hbm, ⟨52, _⟩ => ⟨S4096x1, .f32⟩
  | .hbm, ⟨53, _⟩ => ⟨S1x128, .f32⟩
  | .hbm, ⟨54, _⟩ => ⟨S4096x640, .f32⟩
  | .hbm, ⟨55, _⟩ => ⟨S_, .f32⟩
  | .hbm, ⟨56, _⟩ => ⟨S4096x64, .f32⟩
  | .hbm, ⟨57, _⟩ => ⟨S4096x32, .f32⟩
  | .hbm, ⟨58, _⟩ => ⟨S_, .f32⟩
  | .hbm, ⟨59, _⟩ => ⟨S4096x32, .f32⟩
  | .hbm, ⟨60, _⟩ => ⟨S4096x8, .f32⟩
  | .hbm, ⟨61, _⟩ => ⟨S_, .f32⟩
  | .hbm, ⟨62, _⟩ => ⟨S4096x248, .f32⟩
  | .hbm, ⟨63, _⟩ => ⟨S4096x1024, .f32⟩
  | .hbm, ⟨64, _⟩ => ⟨S4096x8x96, .f32⟩
  | .hbm, ⟨65, _⟩ => ⟨S_, .i32⟩
  | .hbm, ⟨66, _⟩ => ⟨S_, .f32⟩
  | .hbm, ⟨67, _⟩ => ⟨S4096x8x128, .f32⟩
  | .hbm, ⟨68, _⟩ => ⟨S4096x1024, .f32⟩
  | .hbm, ⟨69, _⟩ => ⟨S4096x8x96, .f32⟩
  | .hbm, ⟨70, _⟩ => ⟨S_, .i32⟩
  | .hbm, ⟨71, _⟩ => ⟨S_, .f32⟩
  | .hbm, ⟨72, _⟩ => ⟨S4096x8x128, .f32⟩
  | .hbm, ⟨73, _⟩ => ⟨S4096x1024, .f32⟩
  | .hbm, ⟨74, _⟩ => ⟨S4096x1024, .bf16⟩
  | .hbm, ⟨75, _⟩ => ⟨S4096x512, .bf16⟩
  | .hbm, ⟨76, _⟩ => ⟨S_, .i32⟩
  | .hbm, ⟨77, _⟩ => ⟨S_, .f32⟩
  | .hbm, ⟨78, _⟩ => ⟨S4096x128, .f32⟩
  | .hbm, ⟨79, _⟩ => ⟨S384x1024, .bf16⟩
  | .hbm, ⟨80, _⟩ => ⟨S256x1536, .bf16⟩
  | .hbm, ⟨81, _⟩ => ⟨S4096x1024, .bf16⟩
  | .hbm, ⟨82, _⟩ => ⟨S4096x1024, .bf16⟩
  | .hbm, ⟨83, _⟩ => ⟨S4096x1536, .bf16⟩
  | .hbm, ⟨84, _⟩ => ⟨S1x384, .f32⟩
  | .hbm, ⟨85, _⟩ => ⟨S1x256, .f32⟩
  | .hbm, ⟨86, _⟩ => ⟨S1x128, .f32⟩
  | .hbm, ⟨87, _⟩ => ⟨S4096x1024, .f32⟩
  | .hbm, ⟨88, _⟩ => ⟨S4096x8, .f32⟩
  | .hbm, ⟨89, _⟩ => ⟨S4096x640, .f32⟩
  | .hbm, ⟨90, _⟩ => ⟨S4096x32, .f32⟩
  | .hbm, ⟨91, _⟩ => ⟨S4096x680, .f32⟩
  | .hbm, ⟨92, _⟩ => ⟨S1x8, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | .local _ .vmem, ⟨10, _⟩ => ⟨S1x384, .f32⟩
  | .local _ .vmem, ⟨11, _⟩ => ⟨S1x256, .f32⟩
  | .local _ .vmem, ⟨12, _⟩ => ⟨S384x1024, .bf16⟩
  | .local _ .vmem, ⟨13, _⟩ => ⟨S256x1536, .bf16⟩
  | .local _ .vmem, ⟨14, _⟩ => ⟨S512x1, .f32⟩
  | .local _ .vmem, ⟨15, _⟩ => ⟨S512x1, .f32⟩
  | .local _ .vmem, ⟨16, _⟩ => ⟨S1x128, .f32⟩
  | .local _ .vmem, ⟨17, _⟩ => ⟨S1x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1536, .bf16⟩
  | .local _ .vmem, ⟨23, _⟩ => ⟨S512x1536, .bf16⟩
  | .local _ .vmem, ⟨24, _⟩ => ⟨S1x384, .f32⟩
  | .local _ .vmem, ⟨25, _⟩ => ⟨S1x256, .f32⟩
  | .local _ .vmem, ⟨26, _⟩ => ⟨S1x128, .f32⟩
  | _, _ => ⟨S4096x680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_call3_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_call4_v0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_call5_v0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49_0 : Ref sig .tc := ⟨.hbm, 81, rfl⟩
abbrev main_v49_1 : Ref sig .tc := ⟨.hbm, 82, rfl⟩
abbrev main_v49_2 : Ref sig .tc := ⟨.hbm, 83, rfl⟩
abbrev main_v49_3 : Ref sig .tc := ⟨.hbm, 84, rfl⟩
abbrev main_v49_4 : Ref sig .tc := ⟨.hbm, 85, rfl⟩
abbrev main_v49_5 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Proof.Relu.Block.lean ====
/- The gradient of the squared relu, one block of the kernel: what the body computes from the blocks it loads, over the
   extended reals. -/
module

public import proofs.«01_k».proof.Proof.Gen.KernelIdeal.Value
public import Idealize.ShloMosaic.Lib.MatmulPlain
public import Idealize.ShloMosaic.Lib.ValueIdx

@[expose] public section

set_option maxRecDepth 16384

noncomputable section

namespace Cert.KernelIdeal.ReluValue

open Cert.KernelIdeal Cert.KernelIdeal.Gen Idealize.ShloMosaic Idealize.ShloMosaic.TcCoe Idealize.SL.Sem
open Idealize.ShloMosaic.ValueIdx

/-- The float word of two, read as an extended real. -/
theorem two_f32 : Ideal.ofBits .f32 (0x40000000#32) = (2 : EReal) := by
  simp [Ideal.ofBits, Ideal.ieee, -EReal.coe_mul]; norm_num; rfl

/-- The float word of zero, read as an extended real. -/
theorem zero_f32 : Ideal.ofBits .f32 (0x00000000#32) = (0 : EReal) := Ideal.ofBits_zero_f32

/-- One element of the block the body stores: row `r` of the incoming gradient against row `s` of the weights, times
    twice the positive part of the pre-activation. -/
theorem pay_apply (d : Vec Ideal S1024x1024 .bf16) (w : Vec Ideal S2048x1024 .bf16) (u : Vec Ideal S1024x2048 .bf16)
    (r : Fin 1024) (s : Fin 2048) :
    k0_pay1 d w u (ix2 r s) = (∑ k : Fin 1024, d (ix2 r k) * w (ix2 s k)) * (2 * max (u (ix2 r s)) 0) := by
  unfold k0_pay1
  simp only [shapeCast_self]
  show FloatOps.matmul (DotDims.transposedRhs 1024 1024 2048) none d w _ (ix2 r s)
    * (Ideal.ofBits .f32 0x40000000#32 * max (u (ix2 r s)) (Ideal.ofBits .f32 0x00000000#32)) = _
  rw [Ideal.matmul_transposedRhs_apply, two_f32, zero_f32]
  show (Ideal.ofBits .f32 0x00000000#32 + _) * _ = _
  rw [zero_f32, zero_add]

end Cert.KernelIdeal.ReluValue

end
-- ==== Proof.Relu.Kernel.lean ====
/- The gradient of the squared relu, the whole array: the eight blocks the kernel writes back are the blocks of one
   function of the arguments, so the array ends holding it. -/
module

public import proofs.«01_k».proof.Proof.Relu.Block

@[expose] public section

set_option maxRecDepth 16384

noncomputable section

namespace Cert.KernelIdeal.ReluValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The gradient with respect to the pre-activation `u`, from `u`, the weights `w` and the gradient `d` of the block's
    output: at (i, f), `Σ_k d[i,k]·w[f,k]` times `2·max(u[i,f], 0)`. -/
def grad (u : S4096x4096.Idx → EReal) (w : S1x4096x1024.Idx → EReal) (d : S4096x1024.Idx → EReal) (i : S4096x4096.Idx) : EReal :=
  (∑ k : Fin 1024, d (ix2 (i 0) k) * w (ix3 0 (i 1) k)) * (2 * max (u i) 0)

/-- The kernel's result on device `c`. -/
abbrev G (c : Dev nD) : S4096x4096.Idx → EReal :=
  grad (m ((c : Thread nD τ).loc main_arg0)) (m ((c : Thread nD τ).loc main_arg1)) (m ((c : Thread nD τ).loc main_arg2))

/-- The host prefix leaves the rounded gradient in the first operand. -/
theorem V_v0 (c : Dev nD) (i : S4096x1024.Idx) : V m c main_v0 i = m ((c : Thread nD τ).loc main_arg2) i := by
  have h : V m c main_v0 = truncf (F := Ideal) .bf16 (m ((c : Thread nD τ).loc main_arg2)) bitsLt_bf16_f32 := by
    show StableHlo.after hostOps0 (fun b => m (c, b)) _ = _
    unfold hostOps0; after_results <;> rfl
  rw [h]; rfl

/-- The second operand is the weight matrix without its leading axis. -/
theorem V_v2 (c : Dev nD) (r : Fin 4096) (k : Fin 1024) :
    V m c main_v2 (ix2 r k) = m ((c : Thread nD τ).loc main_arg1) (ix3 0 r k) := by
  have h : V m c main_v2 = truncf (F := Ideal) .bf16
      (shapeCast S4096x1024 (m ((c : Thread nD τ).loc main_arg1)) shapeCasts_S1x4096x1024_S4096x1024) bitsLt_bf16_f32 := by
    show StableHlo.after hostOps0 (fun b => m (c, b)) _ = _
    unfold hostOps0; after_results <;> rfl
  rw [h, truncf_apply]
  refine shapeCast_apply _ shapeCasts_S1x4096x1024_S4096x1024 (ix2 r k) (ix3 0 r k) ?_
  rewrite [Shape.rowMajor_val_three, Shape.rowMajor_val_two]
  show (0 * 4096 + r.val) * 1024 + k.val = r.val * 1024 + k.val
  omega

/-- The third operand is the pre-activation. -/
theorem V_v3 (c : Dev nD) (i : S4096x4096.Idx) : V m c main_v3 i = m ((c : Thread nD τ).loc main_arg0) i := by
  have h : V m c main_v3 = truncf (F := Ideal) .bf16 (m ((c : Thread nD τ).loc main_arg0)) bitsLt_bf16_f32 := by
    show StableHlo.after hostOps0 (fun b => m (c, b)) _ = _
    unfold hostOps0; after_results <;> rfl
  rw [h]; rfl

/-- Point `t` of the grid takes row block `t / 2` of the gradient, all of its columns; -/
theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
/-- row block `t % 2` of the weights; -/
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
/-- block (`t / 2`, `t % 2`) of the pre-activation; -/
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
/-- and the same block of the result. -/
theorem idx3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- The block of the gradient at point `t`. -/
theorem iblk0 (c : Dev nD) (t : Fin cfg0.N) (r k : Fin 1024) (r' : Fin 4096) (hr : r'.val = t.val / 2 * 1024 + r.val) :
    iblk m c 0 t (ix2 r k) = m ((c : Thread nD τ).loc main_arg2) (ix2 r' k) := by
  unfold iblk; rw [View.read_apply]
  refine (V_v0 m c _).trans (congrArg _ (funext fun a => Fin.ext ?_))
  match a with
  | ⟨0, _⟩ => show win0_0.index t 0 * 1024 + 1 * r.val = _; rw [(idx0 t).1, hr]; show _ = t.val / 2 * 1024 + r.val; omega
  | ⟨1, _⟩ => show win0_0.index t 1 * 1024 + 1 * k.val = k.val; rw [(idx0 t).2]; omega

/-- The block of the weights at point `t`. -/
theorem iblk1 (c : Dev nD) (t : Fin cfg0.N) (s : Fin 2048) (k : Fin 1024) (s' : Fin 4096) (hs : s'.val = t.val % 2 * 2048 + s.val) :
    iblk m c 1 t (ix2 s k) = m ((c : Thread nD τ).loc main_arg1) (ix3 0 s' k) := by
  unfold iblk; rw [View.read_apply]
  refine Eq.trans ?_ (V_v2 m c s' k)
  show V m c main_v2 _ = _
  refine congrArg _ (funext fun a => Fin.ext ?_)
  match a with
  | ⟨0, _⟩ => show win0_1.index t 0 * 2048 + 1 * s.val = s'.val; rw [(idx1 t).1, hs]; omega
  | ⟨1, _⟩ => show win0_1.index t 1 * 1024 + 1 * k.val = k.val; rw [(idx1 t).2]; omega

/-- The block of the pre-activation at point `t`. -/
theorem iblk2 (c : Dev nD) (t : Fin cfg0.N) (r : Fin 1024) (s : Fin 2048) (r' s' : Fin 4096)
    (hr : r'.val = t.val / 2 * 1024 + r.val) (hs : s'.val = t.val % 2 * 2048 + s.val) :
    iblk m c 2 t (ix2 r s) = m ((c : Thread nD τ).loc main_arg0) (ix2 r' s') := by
  unfold iblk; rw [View.read_apply]
  refine (V_v3 m c _).trans (congrArg _ (funext fun a => Fin.ext ?_))
  match a with
  | ⟨0, _⟩ => show win0_2.index t 0 * 1024 + 1 * r.val = r'.val; rw [(idx2 t).1, hr]; omega
  | ⟨1, _⟩ => show win0_2.index t 1 * 2048 + 1 * s.val = s'.val; rw [(idx2 t).2, hs]; omega

/-- The zero offsets of a load or store of a whole block. -/
theorem hz : (![0, 0] : Fin 2 → Nat) = fun _ => 0 := by funext a; fin_cases a <;> rfl

/-- What point `t` writes back is block `t` of the gradient. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero (S := S1024x1024) hz, View.ld_unit_zero (S := S2048x1024) hz,
    View.ld_unit_zero (S := S1024x2048) hz]
  funext y
  have h0 : (y 0).val < 1024 := (y 0).isLt
  have h1 : (y 1).val < 2048 := (y 1).isLt
  have ht : t.val < 8 := by have := t.isLt; have hN : cfg0.N = 8 := N_0; omega
  rw [View.read_apply]
  let r' : Fin 4096 := ⟨t.val / 2 * 1024 + (y 0).val, by omega⟩
  let s' : Fin 4096 := ⟨t.val % 2 * 2048 + (y 1).val, by omega⟩
  have hi : ((cfg0.win 3).blk t).view.emb y = (ix2 r' s' : S4096x4096.Idx) := by
    funext a; apply Fin.ext
    match a with
    | ⟨0, _⟩ => show win0_3.index t 0 * 1024 + 1 * (y 0).val = r'.val; rw [(idx3 t).1]; show _ = t.val / 2 * 1024 + (y 0).val; omega
    | ⟨1, _⟩ => show win0_3.index t 1 * 2048 + 1 * (y 1).val = s'.val; rw [(idx3 t).2]; show _ = t.val % 2 * 2048 + (y 1).val; omega
  rw [hi]
  show k0_pay1 (iblk m c 0 t) (iblk m c 1 t) (iblk m c 2 t) y = G m c (ix2 r' s')
  have hy : y = (ix2 (⟨(y 0).val, h0⟩ : Fin 1024) (⟨(y 1).val, h1⟩ : Fin 2048) : S1024x2048.Idx) := by
    funext a; match a with | ⟨0, _⟩ => rfl | ⟨1, _⟩ => rfl
  rw [hy, pay_apply, iblk2 m c t ⟨(y 0).val, h0⟩ ⟨(y 1).val, h1⟩ r' s' rfl rfl]
  exact congrArg (· * _) (Finset.sum_congr rfl fun k _ => congrArg₂ (· * ·) (iblk0 m c t _ k r' rfl) (iblk1 m c t _ k s' rfl))

/-- Every index of the result lies in the block of some point. -/
theorem covered (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  refine ⟨⟨(i 0).val / 1024 * 2 + (i 1).val / 2048, by have hN : cfg0.N = 8 := N_0; omega⟩, flush0_3 _, ?_⟩
  generalize ht : (⟨(i 0).val / 1024 * 2 + (i 1).val / 2048, _⟩ : Fin cfg0.N) = t
  have hv : t.val = (i 0).val / 1024 * 2 + (i 1).val / 2048 := by rw [← ht]
  show i ∈ ((View.whole main_v4).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(idx3 t).1]; omega
  | ⟨1, _⟩ =>
    show win0_3.index t 1 * 2048 ≤ (i 1).val ∧ (i 1).val < win0_3.index t 1 * 2048 + 2048
    rw [(idx3 t).2]; omega

/-- The kernel runs, its result is the gradient, and its arguments end as they were. -/
theorem run (ρ : Dev nD → PrngReg) : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 (G m c) (fun t _ => flushed_eq m c t) covered), (h c).2⟩) (Value.run_blocks m ρ)

end Cert.KernelIdeal.ReluValue

end
-- ==== Proof.Relu.Reference.lean ====
/- The gradient of the squared relu, the reference: its select between the gradient and zero is the same product. -/
module

public import proofs.«01_k».proof.Proof.Relu.Kernel
public import proofs.«01_k».proof.Proof.Gen.ReferenceIdeal.Read

@[expose] public section

set_option maxRecDepth 16384

noncomputable section

namespace Cert.ReferenceIdeal.ReluValue

open Cert.KernelIdeal.ReluValue (two_f32 zero_f32)
open Cert.ReferenceIdeal Cert.ReferenceIdeal.Read Idealize.ShloMosaic Idealize.ShloMosaic.ValueIdx

/-- Where the pre-activation is not positive the reference writes zero, and there the product is zero too. -/
theorem select_mul (u x : EReal) : (if 0 < u then x * (2 * max u 0) else 0) = x * (2 * max u 0) := by
  split_ifs with h
  · rfl
  · rw [max_eq_right (not_lt.mp h), mul_zero, mul_zero]

/-- The reference's result is the gradient the kernel computes. -/
theorem value (u : S4096x4096.Idx → EReal) (w : S1x4096x1024.Idx → EReal) (d : S4096x1024.Idx → EReal) :
    val_main_v13 (F := Ideal) u w d = Cert.KernelIdeal.ReluValue.grad u w d := by
  funext i
  have h7 : ∀ k : Fin 1024, val_main_v7 (F := Ideal) w (ridx_main_v9 i k) = w (ix3 0 (i 1) k) := fun k => by
    rw [val_main_v7_apply]
    refine congrArg w (funext fun a => Fin.ext ?_)
    have h1 : (i 1).val < 4096 := (i 1).isLt
    have hk : k.val < 1024 := k.isLt
    match a with
    | ⟨0, _⟩ => rfl
    | ⟨1, _⟩ => show ((i 1).val * 1024 + k.val) / 1024 % 4096 = (i 1).val; omega
    | ⟨2, _⟩ => show ((i 1).val * 1024 + k.val) % 1024 = k.val; omega
  have h9 : val_main_v9 (F := Ideal) w d i = ∑ k : Fin 1024, d (ix2 (i 0) k) * w (ix3 0 (i 1) k) := by
    rw [val_main_v9_apply]
    refine Finset.sum_congr rfl fun k _ => ?_
    rw [h7]
    refine congrArg (fun j => d j * _) (funext fun a => ?_)
    match a with
    | ⟨0, _⟩ => rfl
    | ⟨1, _⟩ => rfl
  have h6 : val_main_v6 (F := Ideal) u i = 2 * max (u i) 0 := by
    rw [val_main_v6_apply, val_main_v5_apply, val_main_v0_apply, val_main_call0_v0_apply, val_main_cst_1_apply]
    show Ideal.ofBits .f32 0x40000000#32 * max (u i) (Ideal.ofBits .f32 0x00000000#32) = _
    rw [two_f32, zero_f32]
  have h2 : (val_main_v2 (F := Ideal) u i = 1) ↔ 0 < u i := by
    rw [val_main_v2_apply, val_main_v1_apply, val_main_cst_apply]
    show BitVec.ofBool (decide (Ideal.ofBits .f32 0x00000000#32 < u i)) = 1 ↔ _
    rw [zero_f32]
    by_cases h : 0 < u i <;> simp [h]
  rw [val_main_v13_apply, val_main_v12_apply, val_main_v10_apply, val_main_v11_apply]
  show (if _ = 1 then val_main_v9 (F := Ideal) w d i * val_main_v6 (F := Ideal) u i else Ideal.ofBits .f32 0x00000000#32) = _
  rw [h9, h6, zero_f32]
  refine Eq.trans ?_ (select_mul (u i) _)
  simp only [h2]

end Cert.ReferenceIdeal.ReluValue

end
-- ==== Proof.Mla.Step.lean ====
/- What one block of query rows adds: the attention gradient's body as functions of its blocks. -/
module

public import proofs.«01_k».proof.Proof.Gen.Kernel2Ideal.Loops
public import Idealize.ShloMosaic.Lib.VecWindow
public import Idealize.ShloMosaic.Lib.WritesUnit
public import Idealize.ShloMosaic.Lib.Pipeline.FrameBody

@[expose] public section

set_option maxRecDepth 16384

noncomputable section

namespace Cert.Kernel2Ideal.Mla

open Idealize.ShloMosaic Idealize.ShloMosaic.TcCoe Cert.Kernel2Ideal.Gen

variable {F : FTy → Type} [FloatOps F] [Named F]

/-- The seven input blocks of one grid point: a head pair's queries, the same turned, the point's keys and values,
    the pair's cotangents, the same turned, and the saved rows of statistics. -/
structure Ins (F : FTy → Type) [FloatOps F] where
  q : Vec F S4096x256 .bf16
  qt : Vec F S8x256x512 .bf16
  k : Vec F S512x256 .bf16
  v : Vec F S512x128 .bf16
  o : Vec F S4096x128 .bf16
  ot : Vec F S8x128x512 .bf16
  st : Vec F S1x4096x128 .f32

/-- The four accumulators a loop carries: of the keys and of the values, for each head of the pair. -/
abbrev Carry (F : FTy → Type) [FloatOps F] := FVec F S128x512 .f32 × FVec F S64x512 .f32 × FVec F S128x512 .f32 × FVec F S64x512 .f32

/-- The accumulators and the block of the queries' gradient. -/
abbrev State (F : FTy → Type) [FloatOps F] := Carry F × Vec F S4096x256 .f32

/-- `n` rows from `o` fit in `4096` rows of `w` columns. -/
theorem fit2 {o n w : ℕ} (h : o + n ≤ 4096) : ∀ a, (![o, 0] : Fin 2 → ℕ) a + (![n, w] : Fin 2 → ℕ) a ≤ (![4096, w] : Fin 2 → ℕ) a := by
  intro a; fin_cases a
  · exact h
  · exact Nat.le_of_eq (Nat.zero_add w)

/-- The same rows behind a leading axis of one. -/
theorem fit3 {o n w : ℕ} (h : o + n ≤ 4096) : ∀ a, (![0, o, 0] : Fin 3 → ℕ) a + (![1, n, w] : Fin 3 → ℕ) a ≤ (![1, 4096, w] : Fin 3 → ℕ) a := by
  intro a; fin_cases a
  · exact Nat.le_refl 1
  · exact h
  · exact Nat.le_of_eq (Nat.zero_add w)

/-- Block `b` of eight. -/
theorem fitT {b r w : ℕ} (h : b + 1 ≤ 8) : ∀ a, (![b, 0, 0] : Fin 3 → ℕ) a + (![1, r, w] : Fin 3 → ℕ) a ≤ (![8, r, w] : Fin 3 → ℕ) a := by
  intro a; fin_cases a
  · exact h
  · exact Nat.le_of_eq (Nat.zero_add r)
  · exact Nat.le_of_eq (Nat.zero_add w)

/-- What a block of 512 query rows below the diagonal adds: the rows' queries `q` and the same turned `qt`, cotangents `o` and
    the same turned `ot`, statistics `st`, the accumulators `a` and the rows `d` of the queries' gradient so far. -/
def oneOf (x : Ins F) (q : Vec F S512x256 .bf16) (qt : Vec F S1x256x512 .bf16) (o : Vec F S512x128 .bf16) (ot : Vec F S1x128x512 .bf16)
    (st : Vec F S1x512x128 .f32) (a : Carry F) (d : Vec F S512x256 .f32) : Carry F × Vec F S512x256 .f32 :=
  ((k0_pay22 (k0_pay87 x.v) (k0_pay88 x.k) a.1 (k0_pay10 q) (k0_pay12 qt) (k0_pay15 o) st,
    k0_pay21 (k0_pay88 x.k) a.2.1 (k0_pay10 q) (k0_pay17 ot) st,
    k0_pay26 (k0_pay87 x.v) (k0_pay89 x.k) a.2.2.1 (k0_pay11 q) (k0_pay12 qt) (k0_pay16 o) st,
    k0_pay25 (k0_pay89 x.k) a.2.2.2 (k0_pay11 q) (k0_pay17 ot) st),
   k0_pay27 (k0_pay87 x.v) (k0_pay88 x.k) (k0_pay89 x.k) (k0_pay10 q) (k0_pay11 q) (k0_pay15 o) (k0_pay16 o) st d)

/-- What two such blocks add at once. -/
def twoOf (x : Ins F) (q : Vec F S1024x256 .bf16) (qt0 qt1 : Vec F S1x256x512 .bf16) (o : Vec F S1024x128 .bf16) (ot0 ot1 : Vec F S1x128x512 .bf16)
    (st : Vec F S1x1024x128 .f32) (a : Carry F) (d : Vec F S1024x256 .f32) : Carry F × Vec F S1024x256 .f32 :=
  ((k0_pay60 (k0_pay87 x.v) (k0_pay88 x.k) a.1 (k0_pay48 q) (k0_pay50 qt0 qt1) (k0_pay53 o) st,
    k0_pay59 (k0_pay88 x.k) a.2.1 (k0_pay48 q) ot0 ot1 st,
    k0_pay2 a.2.2.1 (k0_pay50 qt0 qt1) (k0_pay63 (k0_pay87 x.v) (k0_pay89 x.k) (k0_pay49 q) (k0_pay54 o) st),
    k0_pay1 a.2.2.2 (k0_pay64 ot0 ot1) (k0_pay65 (k0_pay89 x.k) (k0_pay49 q) st) (constant S64x512 .f32 0x00000000#32)),
   k0_pay3 (k0_pay89 x.k) (k0_pay61 (k0_pay87 x.v) (k0_pay88 x.k) (k0_pay48 q) (k0_pay53 o) st)
      (k0_pay63 (k0_pay87 x.v) (k0_pay89 x.k) (k0_pay49 q) (k0_pay54 o) st) d)

/-- What the block on the diagonal makes: the accumulators start here, from zero. -/
def diagOf (x : Ins F) (q : Vec F S512x256 .bf16) (qt : Vec F S1x256x512 .bf16) (o : Vec F S512x128 .bf16) (ot : Vec F S1x128x512 .bf16)
    (st : Vec F S1x512x128 .f32) (d : Vec F S512x256 .f32) : Carry F × Vec F S512x256 .f32 :=
  ((k0_pay107 (k0_pay87 x.v) (k0_pay88 x.k) k0_pay90 (k0_pay95 q) (k0_pay97 qt) (k0_pay98 o) st,
    k0_pay106 (k0_pay88 x.k) k0_pay91 (k0_pay95 q) ot st,
    k0_pay111 (k0_pay87 x.v) (k0_pay89 x.k) k0_pay92 (k0_pay96 q) (k0_pay97 qt) (k0_pay101 (k0_pay98 o)) (k0_pay103 st),
    k0_pay110 (k0_pay89 x.k) k0_pay93 (k0_pay96 q) (k0_pay102 ot) (k0_pay103 st)),
   k0_pay112 (k0_pay87 x.v) (k0_pay88 x.k) (k0_pay89 x.k) (k0_pay96 q) (k0_pay101 (k0_pay98 o)) (k0_pay103 st)
      (k0_pay105 (k0_pay87 x.v) (k0_pay88 x.k) (k0_pay95 q) (k0_pay98 o) st) (constant S512x128 .f32 0x00000000#32) d)

/-- One block of 512 query rows below the diagonal, number `b`. -/
def one (x : Ins F) (b : ℕ) (h : b < 8) (s : State F) : State F :=
  have e : 512 * b + 512 ≤ 4096 := by omega
  let r := oneOf x (VecWindow.window x.q ![512 * b, 0] S512x256.size (fit2 e)) (VecWindow.window x.qt ![b, 0, 0] S1x256x512.size (fitT h))
    (VecWindow.window x.o ![512 * b, 0] S512x128.size (fit2 e)) (VecWindow.window x.ot ![b, 0, 0] S1x128x512.size (fitT h))
    (VecWindow.window x.st ![0, 512 * b, 0] S1x512x128.size (fit3 e)) s.1 (VecWindow.window s.2 ![512 * b, 0] S512x256.size (fit2 e))
  (r.1, VecWindow.put s.2 ![512 * b, 0] S512x256.size r.2)

/-- Two blocks of query rows at once, numbers `2 * b` and `2 * b + 1`. -/
def two (x : Ins F) (b : ℕ) (h : b < 4) (s : State F) : State F :=
  have e : 1024 * b + 1024 ≤ 4096 := by omega
  have e0 : 2 * b + 1 ≤ 8 := by omega
  have e1 : 2 * b + 1 + 1 ≤ 8 := by omega
  let r := twoOf x (VecWindow.window x.q ![1024 * b, 0] S1024x256.size (fit2 e))
    (VecWindow.window x.qt ![2 * b, 0, 0] S1x256x512.size (fitT e0)) (VecWindow.window x.qt ![2 * b + 1, 0, 0] S1x256x512.size (fitT e1))
    (VecWindow.window x.o ![1024 * b, 0] S1024x128.size (fit2 e))
    (VecWindow.window x.ot ![2 * b, 0, 0] S1x128x512.size (fitT e0)) (VecWindow.window x.ot ![2 * b + 1, 0, 0] S1x128x512.size (fitT e1))
    (VecWindow.window x.st ![0, 1024 * b, 0] S1x1024x128.size (fit3 e)) s.1 (VecWindow.window s.2 ![1024 * b, 0] S1024x256.size (fit2 e))
  (r.1, VecWindow.put s.2 ![1024 * b, 0] S1024x256.size r.2)

/-- The block of query rows on the diagonal, number `b`. -/
def diag (x : Ins F) (b : ℕ) (h : b < 8) (D : Vec F S4096x256 .f32) : State F :=
  have e : 512 * b + 512 ≤ 4096 := by omega
  let r := diagOf x (VecWindow.window x.q ![512 * b, 0] S512x256.size (fit2 e)) (VecWindow.window x.qt ![b, 0, 0] S1x256x512.size (fitT h))
    (VecWindow.window x.o ![512 * b, 0] S512x128.size (fit2 e)) (VecWindow.window x.ot ![b, 0, 0] S1x128x512.size (fitT h))
    (VecWindow.window x.st ![0, 512 * b, 0] S1x512x128.size (fit3 e)) (VecWindow.window D ![512 * b, 0] S512x256.size (fit2 e))
  (r.1, VecWindow.put D ![512 * b, 0] S512x256.size r.2)

/-- `n` single blocks from number `b`. -/
def ones (x : Ins F) (b : ℕ) (s : State F) : ℕ → State F
  | 0 => s
  | n + 1 => if h : b + n < 8 then one x (b + n) h (ones x b s n) else ones x b s n

/-- `n` double blocks from number `b`. -/
def twos (x : Ins F) (b : ℕ) (s : State F) : ℕ → State F
  | 0 => s
  | n + 1 => if h : b + n < 4 then two x (b + n) h (twos x b s n) else twos x b s n

/-- Everything the body does at column block `j`, from the queries' gradient `D` it finds (cleared at `j = 0`). -/
def whole (x : Ins F) (j : ℕ) (h : j < 8) (D : Vec F S4096x256 .f32) : State F :=
  twos x (j / 2 + 1) (ones x (j + 1) (diag x j h (if j = 0 then k0_pay85 else D)) (1 - j % 2)) (3 - j / 2)

/-- The keys' gradient it stores. -/
def outK (x : Ins F) (j : ℕ) (h : j < 8) : Vec F S512x256 .bf16 :=
  k0_pay7 (whole x j h k0_pay85).1.1 (whole x j h k0_pay85).1.2.2.1

/-- The values' gradient it stores. -/
def outV (x : Ins F) (j : ℕ) (h : j < 8) : Vec F S512x128 .bf16 :=
  k0_pay8 (whole x j h k0_pay85).1.2.1 (whole x j h k0_pay85).1.2.2.2

theorem one_fst (x : Ins F) (b : ℕ) (h : b < 8) (s s' : State F) (e : s.1 = s'.1) : (one x b h s).1 = (one x b h s').1 := by
  obtain ⟨a, D⟩ := s
  obtain ⟨a', D'⟩ := s'
  cases e
  rfl

theorem two_fst (x : Ins F) (b : ℕ) (h : b < 4) (s s' : State F) (e : s.1 = s'.1) : (two x b h s).1 = (two x b h s').1 := by
  obtain ⟨a, D⟩ := s
  obtain ⟨a', D'⟩ := s'
  cases e
  rfl

theorem ones_fst (x : Ins F) (b : ℕ) (a : Carry F) (D D' : Vec F S4096x256 .f32) : ∀ n, (ones x b (a, D) n).1 = (ones x b (a, D') n).1
  | 0 => rfl
  | n + 1 => by
    have ih := ones_fst x b a D D' n
    unfold ones
    split
    · exact one_fst x _ _ _ _ ih
    · exact ih

theorem twos_fst (x : Ins F) (b : ℕ) (s s' : State F) (h : s.1 = s'.1) : ∀ n, (twos x b s n).1 = (twos x b s' n).1
  | 0 => h
  | n + 1 => by
    have ih := twos_fst x b s s' h n
    unfold twos
    split
    · exact two_fst x _ _ _ _ ih
    · exact ih

/-- The accumulators do not depend on the queries' gradient found. -/
theorem whole_fst (x : Ins F) (j : ℕ) (h : j < 8) (D D' : Vec F S4096x256 .f32) : (whole x j h D).1 = (whole x j h D').1 := by
  unfold whole
  refine twos_fst x _ _ _ ?_ _
  exact ones_fst x (j + 1) (diag x j h D).1 _ _ _

/-! ## Where the body's loads and stores are -/

theorem trips1 : ∀ i : grid0.Coords, (k0_t1_loop i).trips = 1 - (i 1).val % 2 := by decide +kernel
theorem trips2 : ∀ i : grid0.Coords, (k0_t2_loop i).trips = 0 := by decide +kernel
theorem trips3 : ∀ i : grid0.Coords, (k0_t3_loop i).trips = 3 - (i 1).val / 2 := by decide +kernel
theorem trips4 : ∀ i : grid0.Coords, (k0_t4_loop i).trips = 0 := by decide +kernel

theorem at1 : ∀ i : grid0.Coords, k0_off1 i = ![512 * (i 1).val, 0] := by decide +kernel
theorem at2 : ∀ i : grid0.Coords, k0_off2 i = ![(i 1).val, 0, 0] := by decide +kernel
theorem at3 : ∀ i : grid0.Coords, k0_off3 i = ![512 * (i 1).val, 0] := by decide +kernel
theorem at4 : ∀ i : grid0.Coords, k0_off4 i = ![(i 1).val, 0, 0] := by decide +kernel
theorem at5 : ∀ i : grid0.Coords, k0_off5 i = ![0, 512 * (i 1).val, 0] := by decide +kernel
theorem at6 : ∀ (i : grid0.Coords) (k : Fin (k0_t1_loop i).trips), k0_off6 i k = ![512 * ((i 1).val + 1 + k.val), 0] := by decide +kernel
theorem at7 : ∀ (i : grid0.Coords) (k : Fin (k0_t1_loop i).trips), k0_off7 i k = ![(i 1).val + 1 + k.val, 0, 0] := by decide +kernel
theorem at8 : ∀ (i : grid0.Coords) (k : Fin (k0_t1_loop i).trips), k0_off8 i k = ![512 * ((i 1).val + 1 + k.val), 0] := by decide +kernel
theorem at9 : ∀ (i : grid0.Coords) (k : Fin (k0_t1_loop i).trips), k0_off9 i k = ![(i 1).val + 1 + k.val, 0, 0] := by decide +kernel
theorem at10 : ∀ (i : grid0.Coords) (k : Fin (k0_t1_loop i).trips), k0_off10 i k = ![0, 512 * ((i 1).val + 1 + k.val), 0] := by decide +kernel
theorem at16 : ∀ (i : grid0.Coords) (k : Fin (k0_t3_loop i).trips), k0_off16 i k = ![1024 * ((i 1).val / 2 + 1 + k.val), 0] := by decide +kernel
theorem at17_0 : ∀ (i : grid0.Coords) (k : Fin (k0_t3_loop i).trips), k0_off17 i k 0#32 = ![2 * ((i 1).val / 2 + 1 + k.val), 0, 0] := by decide +kernel
theorem at17_1 : ∀ (i : grid0.Coords) (k : Fin (k0_t3_loop i).trips), k0_off17 i k 1#32 = ![2 * ((i 1).val / 2 + 1 + k.val) + 1, 0, 0] := by decide +kernel
theorem at18 : ∀ (i : grid0.Coords) (k : Fin (k0_t3_loop i).trips), k0_off18 i k = ![1024 * ((i 1).val / 2 + 1 + k.val), 0] := by decide +kernel
theorem at19_0 : ∀ (i : grid0.Coords) (k : Fin (k0_t3_loop i).trips), k0_off19 i k 0#32 = ![2 * ((i 1).val / 2 + 1 + k.val), 0, 0] := by decide +kernel
theorem at19_1 : ∀ (i : grid0.Coords) (k : Fin (k0_t3_loop i).trips), k0_off19 i k 1#32 = ![2 * ((i 1).val / 2 + 1 + k.val) + 1, 0, 0] := by decide +kernel
theorem at20 : ∀ (i : grid0.Coords) (k : Fin (k0_t3_loop i).trips), k0_off20 i k = ![0, 1024 * ((i 1).val / 2 + 1 + k.val), 0] := by decide +kernel
theorem below1 : ∀ (i : grid0.Coords) (k : Fin (k0_t1_loop i).trips), (i 1).val + 1 + k.val < 8 := by decide +kernel
theorem below3 : ∀ (i : grid0.Coords) (k : Fin (k0_t3_loop i).trips), (i 1).val / 2 + 1 + k.val < 4 := by decide +kernel

end Cert.Kernel2Ideal.Mla

end
-- ==== Proof.Mla.Loop.lean ====
/- The body's loops, trip by trip, as the functions of `Step`. -/
module

public import proofs.«01_k».proof.Proof.Mla.Step

@[expose] public section

set_option maxRecDepth 16384

noncomputable section

namespace Cert.Kernel2Ideal.Mla

open Idealize.ShloMosaic Idealize.ShloMosaic.TcCoe Cert.Kernel2Ideal.Gen

variable {F : FTy → Type} [FloatOps F] [Named F]

variable (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S4096x256 .f32) (harg9 : arg9.IsWhole) (arg10 : Memref sig .tc .vmem S512x256 .bf16) (harg10 : arg10.IsWhole) (arg11 : Memref sig .tc .vmem S512x128 .bf16) (harg11 : arg11.IsWhole)

variable (x : Ins F) (w : BitVec 32)

/-- One trip of the loop over single blocks, started from accumulators `a` and contents `f`, makes the step `one`. -/
theorem trip_one (k : Fin (k0_t1_loop i).trips) (a : Carry F) (f : BufTy.Contents (Elt F) arg9.view.ty) :
    (tripR_k0_t1 Variants.none c none i arg2 harg2 arg3 harg3 arg4 harg4 arg5 harg5 arg6 harg6 arg7 harg7 arg8 harg8 arg9 harg9 arg10 harg10 arg11 harg11
        (k0_pay87 x.v) (k0_pay88 x.k) (k0_pay89 x.k) w (harg2.unread x.q) (harg3.unread x.qt) (harg6.unread x.o) (harg7.unread x.ot) (harg8.unread x.st) k a f,
      arg9.view.read (Elt F) (arg9.view.writes (Elt F) f (tripL_k0_t1 Variants.none c none i arg2 harg2 arg3 harg3 arg4 harg4 arg5 harg5 arg6 harg6 arg7 harg7 arg8 harg8 arg9 harg9 arg10 harg10 arg11 harg11
        (k0_pay87 x.v) (k0_pay88 x.k) (k0_pay89 x.k) w (harg2.unread x.q) (harg3.unread x.qt) (harg6.unread x.o) (harg7.unread x.ot) (harg8.unread x.st) k a f)))
      = one x ((i 1).val + 1 + k.val) (below1 i k) (a, arg9.view.read (Elt F) f) := by
  unfold tripR_k0_t1 tripL_k0_t1 trip_k0_t1
  dsimp only
  show ((oneOf
      x
      (arg2.view.readAt (Elt F) (Rect.unit (s := S4096x256) (k0_off6 i k) S512x256.size (k0_off6_inb i k)).toLoadRect (harg2.unread x.q))
      (arg3.view.readAt (Elt F) (Rect.unit (s := S8x256x512) (k0_off7 i k) S1x256x512.size (k0_off7_inb i k)).toLoadRect (harg3.unread x.qt))
      (arg6.view.readAt (Elt F) (Rect.unit (s := S4096x128) (k0_off8 i k) S512x128.size (k0_off8_inb i k)).toLoadRect (harg6.unread x.o))
      (arg7.view.readAt (Elt F) (Rect.unit (s := S8x128x512) (k0_off9 i k) S1x128x512.size (k0_off9_inb i k)).toLoadRect (harg7.unread x.ot))
      (arg8.view.readAt (Elt F) (Rect.unit (s := S1x4096x128) (k0_off10 i k) S1x512x128.size (k0_off10_inb i k)).toLoadRect (harg8.unread x.st))
      a
      (arg9.view.readAt (Elt F) (Rect.unit (s := S4096x256) (k0_off6 i k) S512x256.size (k0_off6_inb i k)).toLoadRect f)).1,
    arg9.view.read (Elt F) (arg9.view.writes (Elt F) f [⟨Rect.unit (s := S4096x256) (k0_off6 i k) S512x256.size (k0_off6_inb i k), (oneOf
      x
      (arg2.view.readAt (Elt F) (Rect.unit (s := S4096x256) (k0_off6 i k) S512x256.size (k0_off6_inb i k)).toLoadRect (harg2.unread x.q))
      (arg3.view.readAt (Elt F) (Rect.unit (s := S8x256x512) (k0_off7 i k) S1x256x512.size (k0_off7_inb i k)).toLoadRect (harg3.unread x.qt))
      (arg6.view.readAt (Elt F) (Rect.unit (s := S4096x128) (k0_off8 i k) S512x128.size (k0_off8_inb i k)).toLoadRect (harg6.unread x.o))
      (arg7.view.readAt (Elt F) (Rect.unit (s := S8x128x512) (k0_off9 i k) S1x128x512.size (k0_off9_inb i k)).toLoadRect (harg7.unread x.ot))
      (arg8.view.readAt (Elt F) (Rect.unit (s := S1x4096x128) (k0_off10 i k) S1x512x128.size (k0_off10_inb i k)).toLoadRect (harg8.unread x.st))
      a
      (arg9.view.readAt (Elt F) (Rect.unit (s := S4096x256) (k0_off6 i k) S512x256.size (k0_off6_inb i k)).toLoadRect f)).2⟩])) = _
  have e : 512 * ((i 1).val + 1 + k.val) + 512 ≤ 4096 := by have := below1 i k; omega
  have hq := (View.readAt_unit arg2.view (harg2.unread x.q) (k0_off6_inb i k) (at6 i k) (fit2 e)).trans (by rw [harg2.read_unread])
  have hqt := (View.readAt_unit arg3.view (harg3.unread x.qt) (k0_off7_inb i k) (at7 i k) (fitT (below1 i k))).trans (by rw [harg3.read_unread])
  have ho := (View.readAt_unit arg6.view (harg6.unread x.o) (k0_off8_inb i k) (at8 i k) (fit2 e)).trans (by rw [harg6.read_unread])
  have hot := (View.readAt_unit arg7.view (harg7.unread x.ot) (k0_off9_inb i k) (at9 i k) (fitT (below1 i k))).trans (by rw [harg7.read_unread])
  have hst := (View.readAt_unit arg8.view (harg8.unread x.st) (k0_off10_inb i k) (at10 i k) (fit3 e)).trans (by rw [harg8.read_unread])
  have hd := View.readAt_unit arg9.view f (k0_off6_inb i k) (at6 i k) (fit2 e)
  rw [hq, hqt, ho, hot, hst, hd]
  rw [View.read_writes_cons_put _ _ _ _ _ (at6 i k)]
  rfl

/-- The accumulators and the queries' gradient before trip `n` of that loop. -/
theorem st_one (G : BufTy.Contents (Elt F) arg9.view.ty) (a : Carry F) : ∀ n, n ≤ (k0_t1_loop i).trips →
    ((st_k0_t1 Variants.none c none i arg2 harg2 arg3 harg3 arg4 harg4 arg5 harg5 arg6 harg6 arg7 harg7 arg8 harg8 arg9 harg9 arg10 harg10 arg11 harg11
        (k0_pay87 x.v) (k0_pay88 x.k) (k0_pay89 x.k) w (harg2.unread x.q) (harg3.unread x.qt) (harg6.unread x.o) (harg7.unread x.ot) (harg8.unread x.st) G a n).1,
      arg9.view.read (Elt F) (arg9.view.writes (Elt F) G (st_k0_t1 Variants.none c none i arg2 harg2 arg3 harg3 arg4 harg4 arg5 harg5 arg6 harg6 arg7 harg7 arg8 harg8 arg9 harg9 arg10 harg10 arg11 harg11
        (k0_pay87 x.v) (k0_pay88 x.k) (k0_pay89 x.k) w (harg2.unread x.q) (harg3.unread x.qt) (harg6.unread x.o) (harg7.unread x.ot) (harg8.unread x.st) G a n).2))
      = ones x ((i 1).val + 1) (a, arg9.view.read (Elt F) G) n := by
  intro n
  induction n with
  | zero => intro _; rfl
  | succ n ih =>
    intro hn
    have h := ih (Nat.le_of_succ_le hn)
    unfold ones
    rw [dif_pos (below1 i ⟨n, hn⟩), ← h]
    rw [show n + 1 = (⟨n, hn⟩ : Fin (k0_t1_loop i).trips).val + 1 from rfl, st_k0_t1_succ]
    rw [View.writes_append]
    exact trip_one c i arg2 harg2 arg3 harg3 arg4 harg4 arg5 harg5 arg6 harg6 arg7 harg7 arg8 harg8 arg9 harg9 arg10 harg10 arg11 harg11 x w ⟨n, hn⟩ _ _

/-- One trip of the loop over double blocks makes the step `two`. -/
theorem trip_two (k : Fin (k0_t3_loop i).trips) (a : Carry F) (f : BufTy.Contents (Elt F) arg9.view.ty) :
    (tripR_k0_t3 Variants.none c none i arg2 harg2 arg3 harg3 arg4 harg4 arg5 harg5 arg6 harg6 arg7 harg7 arg8 harg8 arg9 harg9 arg10 harg10 arg11 harg11
        (k0_pay87 x.v) (k0_pay88 x.k) (k0_pay89 x.k) w (harg2.unread x.q) (harg3.unread x.qt) (harg6.unread x.o) (harg7.unread x.ot) (harg8.unread x.st) k a f,
      arg9.view.read (Elt F) (arg9.view.writes (Elt F) f (tripL_k0_t3 Variants.none c none i arg2 harg2 arg3 harg3 arg4 harg4 arg5 harg5 arg6 harg6 arg7 harg7 arg8 harg8 arg9 harg9 arg10 harg10 arg11 harg11
        (k0_pay87 x.v) (k0_pay88 x.k) (k0_pay89 x.k) w (harg2.unread x.q) (harg3.unread x.qt) (harg6.unread x.o) (harg7.unread x.ot) (harg8.unread x.st) k a f)))
      = two x ((i 1).val / 2 + 1 + k.val) (below3 i k) (a, arg9.view.read (Elt F) f) := by
  unfold tripR_k0_t3 tripL_k0_t3 trip_k0_t3
  dsimp only
  show ((twoOf
      x
      (arg2.view.readAt (Elt F) (Rect.unit (s := S4096x256) (k0_off16 i k) S1024x256.size (k0_off16_inb i k)).toLoadRect (harg2.unread x.q))
      (arg3.view.readAt (Elt F) (Rect.unit (s := S8x256x512) (k0_off17 i k 0#32) S1x256x512.size (k0_off17_inb i k 0)).toLoadRect (harg3.unread x.qt))
      (arg3.view.readAt (Elt F) (Rect.unit (s := S8x256x512) (k0_off17 i k 1#32) S1x256x512.size (k0_off17_inb i k 1)).toLoadRect (harg3.unread x.qt))
      (arg6.view.readAt (Elt F) (Rect.unit (s := S4096x128) (k0_off18 i k) S1024x128.size (k0_off18_inb i k)).toLoadRect (harg6.unread x.o))
      (arg7.view.readAt (Elt F) (Rect.unit (s := S8x128x512) (k0_off19 i k 0#32) S1x128x512.size (k0_off19_inb i k 0)).toLoadRect (harg7.unread x.ot))
      (arg7.view.readAt (Elt F) (Rect.unit (s := S8x128x512) (k0_off19 i k 1#32) S1x128x512.size (k0_off19_inb i k 1)).toLoadRect (harg7.unread x.ot))
      (arg8.view.readAt (Elt F) (Rect.unit (s := S1x4096x128) (k0_off20 i k) S1x1024x128.size (k0_off20_inb i k)).toLoadRect (harg8.unread x.st))
      a
      (arg9.view.readAt (Elt F) (Rect.unit (s := S4096x256) (k0_off16 i k) S1024x256.size (k0_off16_inb i k)).toLoadRect f)).1,
    arg9.view.read (Elt F) (arg9.view.writes (Elt F) f [⟨Rect.unit (s := S4096x256) (k0_off16 i k) S1024x256.size (k0_off16_inb i k), (twoOf
      x
      (arg2.view.readAt (Elt F) (Rect.unit (s := S4096x256) (k0_off16 i k) S1024x256.size (k0_off16_inb i k)).toLoadRect (harg2.unread x.q))
      (arg3.view.readAt (Elt F) (Rect.unit (s := S8x256x512) (k0_off17 i k 0#32) S1x256x512.size (k0_off17_inb i k 0)).toLoadRect (harg3.unread x.qt))
      (arg3.view.readAt (Elt F) (Rect.unit (s := S8x256x512) (k0_off17 i k 1#32) S1x256x512.size (k0_off17_inb i k 1)).toLoadRect (harg3.unread x.qt))
      (arg6.view.readAt (Elt F) (Rect.unit (s := S4096x128) (k0_off18 i k) S1024x128.size (k0_off18_inb i k)).toLoadRect (harg6.unread x.o))
      (arg7.view.readAt (Elt F) (Rect.unit (s := S8x128x512) (k0_off19 i k 0#32) S1x128x512.size (k0_off19_inb i k 0)).toLoadRect (harg7.unread x.ot))
      (arg7.view.readAt (Elt F) (Rect.unit (s := S8x128x512) (k0_off19 i k 1#32) S1x128x512.size (k0_off19_inb i k 1)).toLoadRect (harg7.unread x.ot))
      (arg8.view.readAt (Elt F) (Rect.unit (s := S1x4096x128) (k0_off20 i k) S1x1024x128.size (k0_off20_inb i k)).toLoadRect (harg8.unread x.st))
      a
      (arg9.view.readAt (Elt F) (Rect.unit (s := S4096x256) (k0_off16 i k) S1024x256.size (k0_off16_inb i k)).toLoadRect f)).2⟩])) = _
  have e : 1024 * ((i 1).val / 2 + 1 + k.val) + 1024 ≤ 4096 := by have := below3 i k; omega
  have e0 : 2 * ((i 1).val / 2 + 1 + k.val) + 1 ≤ 8 := by have := below3 i k; omega
  have e1 : 2 * ((i 1).val / 2 + 1 + k.val) + 1 + 1 ≤ 8 := by have := below3 i k; omega
  have hq := (View.readAt_unit arg2.view (harg2.unread x.q) (k0_off16_inb i k) (at16 i k) (fit2 e)).trans (by rw [harg2.read_unread])
  have hqt0 := (View.readAt_unit arg3.view (harg3.unread x.qt) (off := k0_off17 i k 0#32) (k0_off17_inb i k 0) (at17_0 i k) (fitT e0)).trans (by rw [harg3.read_unread])
  have hqt1 := (View.readAt_unit arg3.view (harg3.unread x.qt) (off := k0_off17 i k 1#32) (k0_off17_inb i k 1) (at17_1 i k) (fitT e1)).trans (by rw [harg3.read_unread])
  have ho := (View.readAt_unit arg6.view (harg6.unread x.o) (k0_off18_inb i k) (at18 i k) (fit2 e)).trans (by rw [harg6.read_unread])
  have hot0 := (View.readAt_unit arg7.view (harg7.unread x.ot) (off := k0_off19 i k 0#32) (k0_off19_inb i k 0) (at19_0 i k) (fitT e0)).trans (by rw [harg7.read_unread])
  have hot1 := (View.readAt_unit arg7.view (harg7.unread x.ot) (off := k0_off19 i k 1#32) (k0_off19_inb i k 1) (at19_1 i k) (fitT e1)).trans (by rw [harg7.read_unread])
  have hst := (View.readAt_unit arg8.view (harg8.unread x.st) (k0_off20_inb i k) (at20 i k) (fit3 e)).trans (by rw [harg8.read_unread])
  have hd := View.readAt_unit arg9.view f (k0_off16_inb i k) (at16 i k) (fit2 e)
  rw [hq, hqt0, hqt1, ho, hot0, hot1, hst, hd]
  rw [View.read_writes_cons_put _ _ _ _ _ (at16 i k)]
  rfl

/-- The accumulators and the queries' gradient before trip `n` of that loop. -/
theorem st_two (G : BufTy.Contents (Elt F) arg9.view.ty) (a : Carry F) : ∀ n, n ≤ (k0_t3_loop i).trips →
    ((st_k0_t3 Variants.none c none i arg2 harg2 arg3 harg3 arg4 harg4 arg5 harg5 arg6 harg6 arg7 harg7 arg8 harg8 arg9 harg9 arg10 harg10 arg11 harg11
        (k0_pay87 x.v) (k0_pay88 x.k) (k0_pay89 x.k) w (harg2.unread x.q) (harg3.unread x.qt) (harg6.unread x.o) (harg7.unread x.ot) (harg8.unread x.st) G a n).1,
      arg9.view.read (Elt F) (arg9.view.writes (Elt F) G (st_k0_t3 Variants.none c none i arg2 harg2 arg3 harg3 arg4 harg4 arg5 harg5 arg6 harg6 arg7 harg7 arg8 harg8 arg9 harg9 arg10 harg10 arg11 harg11
        (k0_pay87 x.v) (k0_pay88 x.k) (k0_pay89 x.k) w (harg2.unread x.q) (harg3.unread x.qt) (harg6.unread x.o) (harg7.unread x.ot) (harg8.unread x.st) G a n).2))
      = twos x ((i 1).val / 2 + 1) (a, arg9.view.read (Elt F) G) n := by
  intro n
  induction n with
  | zero => intro _; rfl
  | succ n ih =>
    intro hn
    have h := ih (Nat.le_of_succ_le hn)
    unfold twos
    rw [dif_pos (below3 i ⟨n, hn⟩), ← h]
    rw [show n + 1 = (⟨n, hn⟩ : Fin (k0_t3_loop i).trips).val + 1 from rfl, st_k0_t3_succ]
    rw [View.writes_append]
    exact trip_two c i arg2 harg2 arg3 harg3 arg4 harg4 arg5 harg5 arg6 harg6 arg7 harg7 arg8 harg8 arg9 harg9 arg10 harg10 arg11 harg11 x w ⟨n, hn⟩ _ _

/-- The four loops one after another, from accumulators `a` and the stores `L`: two of them make no trip. -/
theorem chain (w1 w2 w3 w4 : BitVec 32) (f : BufTy.Contents (Elt F) arg9.view.ty) (L : List (View.Piece (Elt F) S4096x256 .f32)) (a : Carry F)
    (S1 S2 S3 S4 : Carry F × List (View.Piece (Elt F) S4096x256 .f32))
    (e1 : S1 = st_k0_t1 Variants.none c none i arg2 harg2 arg3 harg3 arg4 harg4 arg5 harg5 arg6 harg6 arg7 harg7 arg8 harg8 arg9 harg9 arg10 harg10 arg11 harg11 (k0_pay87 x.v) (k0_pay88 x.k) (k0_pay89 x.k) w1 (harg2.unread x.q) (harg3.unread x.qt) (harg6.unread x.o) (harg7.unread x.ot) (harg8.unread x.st) (arg9.view.writes (Elt F) f L) a (k0_t1_loop i).trips)
    (e2 : S2 = st_k0_t2 Variants.none c none i arg2 harg2 arg3 harg3 arg4 harg4 arg5 harg5 arg6 harg6 arg7 harg7 arg8 harg8 arg9 harg9 arg10 harg10 arg11 harg11 (k0_pay87 x.v) (k0_pay88 x.k) (k0_pay89 x.k) w2 (harg2.unread x.q) (harg3.unread x.qt) (harg6.unread x.o) (harg7.unread x.ot) (harg8.unread x.st) (arg9.view.writes (Elt F) f (S1.2 ++ L)) (S1.1.1, S1.1.2.1, S1.1.2.2.1, S1.1.2.2.2) (k0_t2_loop i).trips)
    (e3 : S3 = st_k0_t3 Variants.none c none i arg2 harg2 arg3 harg3 arg4 harg4 arg5 harg5 arg6 harg6 arg7 harg7 arg8 harg8 arg9 harg9 arg10 harg10 arg11 harg11 (k0_pay87 x.v) (k0_pay88 x.k) (k0_pay89 x.k) w3 (harg2.unread x.q) (harg3.unread x.qt) (harg6.unread x.o) (harg7.unread x.ot) (harg8.unread x.st) (arg9.view.writes (Elt F) f (S2.2 ++ (S1.2 ++ L))) (S2.1.1, S2.1.2.1, S2.1.2.2.1, S2.1.2.2.2) (k0_t3_loop i).trips)
    (e4 : S4 = st_k0_t4 Variants.none c none i arg2 harg2 arg3 harg3 arg4 harg4 arg5 harg5 arg6 harg6 arg7 harg7 arg8 harg8 arg9 harg9 arg10 harg10 arg11 harg11 (k0_pay87 x.v) (k0_pay88 x.k) (k0_pay89 x.k) w4 (harg2.unread x.q) (harg3.unread x.qt) (harg6.unread x.o) (harg7.unread x.ot) (harg8.unread x.st) (arg9.view.writes (Elt F) f (S3.2 ++ (S2.2 ++ (S1.2 ++ L)))) (S3.1.1, S3.1.2.1, S3.1.2.2.1, S3.1.2.2.2) (k0_t4_loop i).trips) :
    (S4.1, arg9.view.read (Elt F) (arg9.view.writes (Elt F) f (S4.2 ++ (S3.2 ++ (S2.2 ++ (S1.2 ++ L))))))
      = twos x ((i 1).val / 2 + 1) (ones x ((i 1).val + 1) (a, arg9.view.read (Elt F) (arg9.view.writes (Elt F) f L)) (1 - (i 1).val % 2)) (3 - (i 1).val / 2) := by
  have h1 : (S1.1, arg9.view.read (Elt F) (arg9.view.writes (Elt F) f (S1.2 ++ L))) = ones x ((i 1).val + 1) (a, arg9.view.read (Elt F) (arg9.view.writes (Elt F) f L)) (1 - (i 1).val % 2) := by
    rw [← trips1 i, View.writes_append, e1]
    exact st_one c i arg2 harg2 arg3 harg3 arg4 harg4 arg5 harg5 arg6 harg6 arg7 harg7 arg8 harg8 arg9 harg9 arg10 harg10 arg11 harg11 x w1 _ a _ (Nat.le_refl _)
  have h2 : S2 = (S1.1, []) := by
    rw [e2, trips2 i]; rfl
  have h3 : (S3.1, arg9.view.read (Elt F) (arg9.view.writes (Elt F) f (S3.2 ++ (S2.2 ++ (S1.2 ++ L))))) = twos x ((i 1).val / 2 + 1) (S1.1, arg9.view.read (Elt F) (arg9.view.writes (Elt F) f (S1.2 ++ L))) (3 - (i 1).val / 2) := by
    rw [← trips3 i, View.writes_append, e3]
    refine (st_two c i arg2 harg2 arg3 harg3 arg4 harg4 arg5 harg5 arg6 harg6 arg7 harg7 arg8 harg8 arg9 harg9 arg10 harg10 arg11 harg11 x w3 _ (S2.1.1, S2.1.2.1, S2.1.2.2.1, S2.1.2.2.2) _ (Nat.le_refl _)).trans ?_
    rw [h2]; rfl
  have h4 : S4 = (S3.1, []) := by
    rw [e4, trips4 i]; rfl
  rw [h4, ← h1]
  exact h3

/-- What the body makes of the block on the diagonal, as it loads it: `d` is the rows of the queries' gradient it finds. -/
def atDiag (d : Vec F S512x256 .f32) : Carry F × Vec F S512x256 .f32 :=
  diagOf x
      (arg2.view.readAt (Elt F) (Rect.unit (s := S4096x256) (k0_off1 i) S512x256.size (k0_off1_inb i)).toLoadRect (harg2.unread x.q))
      (arg3.view.readAt (Elt F) (Rect.unit (s := S8x256x512) (k0_off2 i) S1x256x512.size (k0_off2_inb i)).toLoadRect (harg3.unread x.qt))
      (arg6.view.readAt (Elt F) (Rect.unit (s := S4096x128) (k0_off3 i) S512x128.size (k0_off3_inb i)).toLoadRect (harg6.unread x.o))
      (arg7.view.readAt (Elt F) (Rect.unit (s := S8x128x512) (k0_off4 i) S1x128x512.size (k0_off4_inb i)).toLoadRect (harg7.unread x.ot))
      (arg8.view.readAt (Elt F) (Rect.unit (s := S1x4096x128) (k0_off5 i) S1x512x128.size (k0_off5_inb i)).toLoadRect (harg8.unread x.st))
      d

/-- The store that ends the block on the diagonal. -/
def diagPiece (d : Vec F S512x256 .f32) : View.Piece (Elt F) S4096x256 .f32 :=
  ⟨Rect.unit (s := S4096x256) (k0_off1 i) S512x256.size (k0_off1_inb i), (atDiag i arg2 harg2 arg3 harg3 arg6 harg6 arg7 harg7 arg8 harg8 x d).2⟩

/-- Which is the step `diag`. -/
theorem start (hj : (i 1).val < 8) (f : BufTy.Contents (Elt F) arg9.view.ty) (L : List (View.Piece (Elt F) S4096x256 .f32)) (d : Vec F S512x256 .f32)
    (hd : d = (arg9.view.readAt (Elt F) (Rect.unit (s := S4096x256) (k0_off1 i) S512x256.size (k0_off1_inb i)).toLoadRect (arg9.view.writes (Elt F) f L))) :
    ((atDiag i arg2 harg2 arg3 harg3 arg6 harg6 arg7 harg7 arg8 harg8 x d).1,
      arg9.view.read (Elt F) (arg9.view.writes (Elt F) f (diagPiece i arg2 harg2 arg3 harg3 arg6 harg6 arg7 harg7 arg8 harg8 x d :: L)))
      = diag x (i 1).val hj (arg9.view.read (Elt F) (arg9.view.writes (Elt F) f L)) := by
  subst hd
  have e : 512 * (i 1).val + 512 ≤ 4096 := by omega
  have hq := (View.readAt_unit arg2.view (harg2.unread x.q) (k0_off1_inb i) (at1 i) (fit2 e)).trans (by rw [harg2.read_unread])
  have hqt := (View.readAt_unit arg3.view (harg3.unread x.qt) (k0_off2_inb i) (at2 i) (fitT hj)).trans (by rw [harg3.read_unread])
  have ho := (View.readAt_unit arg6.view (harg6.unread x.o) (k0_off3_inb i) (at3 i) (fit2 e)).trans (by rw [harg6.read_unread])
  have hot := (View.readAt_unit arg7.view (harg7.unread x.ot) (k0_off4_inb i) (at4 i) (fitT hj)).trans (by rw [harg7.read_unread])
  have hst := (View.readAt_unit arg8.view (harg8.unread x.st) (k0_off5_inb i) (at5 i) (fit3 e)).trans (by rw [harg8.read_unread])
  have hd := View.readAt_unit arg9.view (arg9.view.writes (Elt F) f L) (k0_off1_inb i) (at1 i) (fit2 e)
  unfold diagPiece atDiag
  rw [hq, hqt, ho, hot, hst, hd]
  rw [View.read_writes_cons_put _ _ _ _ _ (at1 i)]
  rfl

end Cert.Kernel2Ideal.Mla

end
-- ==== Proof.Mla.Tail.lean ====
/- The second half of the attention gradient's body: the loops over the rows past the block on the diagonal. -/
module

public import proofs.«01_k».proof.Proof.Mla.Loop
public import proofs.«01_k».proof.Proof.Gen.Kernel2Ideal.Frame

@[expose] public section

set_option maxRecDepth 16384

noncomputable section

namespace Cert.Kernel2Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ

variable (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S4096x256 .f32) (harg9 : arg9.IsWhole) (arg10 : Memref sig .tc .vmem S512x256 .bf16) (harg10 : arg10.IsWhole) (arg11 : Memref sig .tc .vmem S512x128 .bf16) (harg11 : arg11.IsWhole)

variable (x : Ins F) (a : Carry F)

/-- The body after the block on the diagonal, from accumulators `a`: the rows below it one block at a time, then two at a
    time, and the two stores. The words name where each loop starts and are read by none of the steps. -/
def rest (w1 w2 w3 w4 : BitVec 32) : Prog (TpuEff nD τ sig (Elt F) Λ₀ .tc) PUnit := do
  let (b0, b1, b2, b3) ← Scf.Loop.for (k0_t1_loop i) (k0_t1_ok i) (a.1, a.2.1, a.2.2.1, a.2.2.2) (k0_t1_body i arg2 harg2 arg3 harg3 arg4 harg4 arg5 harg5 arg6 harg6 arg7 harg7 arg8 harg8 arg9 harg9 arg10 harg10 arg11 harg11 (k0_pay87 x.v) (k0_pay88 x.k) (k0_pay89 x.k) w1)
  let (c0, c1, c2, c3) ← Scf.Loop.for (k0_t2_loop i) (k0_t2_ok i) (b0, b1, b2, b3) (k0_t2_body i arg2 harg2 arg3 harg3 arg4 harg4 arg5 harg5 arg6 harg6 arg7 harg7 arg8 harg8 arg9 harg9 arg10 harg10 arg11 harg11 (k0_pay87 x.v) (k0_pay88 x.k) (k0_pay89 x.k) w2)
  let (d0, d1, d2, d3) ← Scf.Loop.for (k0_t3_loop i) (k0_t3_ok i) (c0, c1, c2, c3) (k0_t3_body i arg2 harg2 arg3 harg3 arg4 harg4 arg5 harg5 arg6 harg6 arg7 harg7 arg8 harg8 arg9 harg9 arg10 harg10 arg11 harg11 (k0_pay87 x.v) (k0_pay88 x.k) (k0_pay89 x.k) w3)
  let (e0, e1, e2, e3) ← Scf.Loop.for (k0_t4_loop i) (k0_t4_ok i) (d0, d1, d2, d3) (k0_t4_body i arg2 harg2 arg3 harg3 arg4 harg4 arg5 harg5 arg6 harg6 arg7 harg7 arg8 harg8 arg9 harg9 arg10 harg10 arg11 harg11 (k0_pay87 x.v) (k0_pay88 x.k) (k0_pay89 x.k) w4)
  let _ : Vec F S512x256 .bf16 ← Prog.lift (.load arg10 (Rect.unit (s := S512x256) ![0, 0] S512x256.size inb_S512x256_S512x256_0_0).toLoadRect (View.loadsAt_vmem h_S512x256))
  Prog.lift (.store arg10 (Rect.unit (s := S512x256) ![0, 0] S512x256.size inb_S512x256_S512x256_0_0) (k0_pay7 e0 e2) Finset.univ (View.stores_vmem h_S512x256 (harg10.storeExact_slice rfl _ packedbf16_S512x256_S512x256_0_0) (fun _ => rfl)) (.inl rfl))
  let _ : Vec F S512x128 .bf16 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay8 e1 e3) Finset.univ (View.stores_vmem h_S512x128 (harg11.storeExact_slice rfl _ packedbf16_S512x128_S512x128_0_0) (fun _ => rfl)) (.inl rfl))
  pure ⟨⟩

/-- What that leaves: the accumulators and the queries' gradient, from the queries' gradient `D` at its start. -/
def restOf (j : ℕ) (D : Vec F S4096x256 .f32) : State F :=
  twos x (j / 2 + 1) (ones x (j + 1) (a, D) (1 - j % 2)) (3 - j / 2)

set_option maxHeartbeats 1000000 in
/-- The second half run: it leaves what `restOf` says. -/
theorem rest_run (w1 w2 w3 w4 : BitVec 32) (f : BufTy.Contents (Elt F) arg9.view.ty) (M : List (View.Piece (Elt F) S4096x256 .f32)) (f8 : BufTy.Contents (Elt F) arg10.view.ty) (f9 : BufTy.Contents (Elt F) arg11.view.ty) (E : Set ℕ) (K : PUnit → sProp 𝕄) :
    iprop((arg2.view.loc (c : Thread nD τ) ↦[arg2.view.set]{fullShare} harg2.unread x.q) ∗ (arg3.view.loc (c : Thread nD τ) ↦[arg3.view.set]{fullShare} harg3.unread x.qt) ∗ (arg6.view.loc (c : Thread nD τ) ↦[arg6.view.set]{fullShare} harg6.unread x.o) ∗ (arg7.view.loc (c : Thread nD τ) ↦[arg7.view.set]{fullShare} harg7.unread x.ot) ∗ (arg8.view.loc (c : Thread nD τ) ↦[arg8.view.set]{fullShare} harg8.unread x.st) ∗ (arg9.view.loc (c : Thread nD τ) ↦[arg9.view.set]{fullShare} (arg9.view.writes (Elt F) f M)) ∗ (arg10.view.loc (c : Thread nD τ) ↦[arg10.view.set]{fullShare} f8) ∗ (arg11.view.loc (c : Thread nD τ) ↦[arg11.view.set]{fullShare} f9)
        ∗ (iprop((arg2.view.loc (c : Thread nD τ) ↦[arg2.view.set]{fullShare} harg2.unread x.q) ∗ (arg3.view.loc (c : Thread nD τ) ↦[arg3.view.set]{fullShare} harg3.unread x.qt) ∗ (arg6.view.loc (c : Thread nD τ) ↦[arg6.view.set]{fullShare} harg6.unread x.o) ∗ (arg7.view.loc (c : Thread nD τ) ↦[arg7.view.set]{fullShare} harg7.unread x.ot) ∗ (arg8.view.loc (c : Thread nD τ) ↦[arg8.view.set]{fullShare} harg8.unread x.st)
          ∗ owns (c : Thread nD τ) arg9 fullShare (restOf x a (i 1).val (arg9.view.read (Elt F) (arg9.view.writes (Elt F) f M))).2
          ∗ owns (c : Thread nD τ) arg10 fullShare (k0_pay7 (restOf x a (i 1).val (arg9.view.read (Elt F) (arg9.view.writes (Elt F) f M))).1.1 (restOf x a (i 1).val (arg9.view.read (Elt F) (arg9.view.writes (Elt F) f M))).1.2.2.1)
          ∗ owns (c : Thread nD τ) arg11 fullShare (k0_pay8 (restOf x a (i 1).val (arg9.view.read (Elt F) (arg9.view.writes (Elt F) f M))).1.2.1 (restOf x a (i 1).val (arg9.view.read (Elt F) (arg9.view.writes (Elt F) f M))).1.2.2.2)) -∗ K ⟨⟩))
      ⊢ wp frame (wpE (defs₀ (F := F)) Variants.none c none) E (rest i arg2 harg2 arg3 harg3 arg4 harg4 arg5 harg5 arg6 harg6 arg7 harg7 arg8 harg8 arg9 harg9 arg10 harg10 arg11 harg11 x a w1 w2 w3 w4) K := by
  unfold rest
  iintro ⟨H0, H1, H4, H5, H6, H7, H8, H9, Hk⟩
  sl_exec
  sl_step
  generalize e1 : st_k0_t1 Variants.none c none i arg2 harg2 arg3 harg3 arg4 harg4 arg5 harg5 arg6 harg6 arg7 harg7 arg8 harg8 arg9 harg9 arg10 harg10 arg11 harg11 (k0_pay87 x.v) (k0_pay88 x.k) (k0_pay89 x.k) w1 (harg2.unread x.q) (harg3.unread x.qt) (harg6.unread x.o) (harg7.unread x.ot) (harg8.unread x.st) (arg9.view.writes (Elt F) f M) (a.1, a.2.1, a.2.2.1, a.2.2.2) (Scf.trips (k0_t1_loop i).lb (k0_t1_loop i).ub (k0_t1_loop i).st) = S1
  generalize e2 : st_k0_t2 Variants.none c none i arg2 harg2 arg3 harg3 arg4 harg4 arg5 harg5 arg6 harg6 arg7 harg7 arg8 harg8 arg9 harg9 arg10 harg10 arg11 harg11 (k0_pay87 x.v) (k0_pay88 x.k) (k0_pay89 x.k) w2 (harg2.unread x.q) (harg3.unread x.qt) (harg6.unread x.o) (harg7.unread x.ot) (harg8.unread x.st) (arg9.view.writes (Elt F) f (S1.2 ++ M)) (S1.1.1, S1.1.2.1, S1.1.2.2.1, S1.1.2.2.2) (Scf.trips (k0_t2_loop i).lb (k0_t2_loop i).ub (k0_t2_loop i).st) = S2
  generalize e3 : st_k0_t3 Variants.none c none i arg2 harg2 arg3 harg3 arg4 harg4 arg5 harg5 arg6 harg6 arg7 harg7 arg8 harg8 arg9 harg9 arg10 harg10 arg11 harg11 (k0_pay87 x.v) (k0_pay88 x.k) (k0_pay89 x.k) w3 (harg2.unread x.q) (harg3.unread x.qt) (harg6.unread x.o) (harg7.unread x.ot) (harg8.unread x.st) (arg9.view.writes (Elt F) f (S2.2 ++ (S1.2 ++ M))) (S2.1.1, S2.1.2.1, S2.1.2.2.1, S2.1.2.2.2) (Scf.trips (k0_t3_loop i).lb (k0_t3_loop i).ub (k0_t3_loop i).st) = S3
  generalize e4 : st_k0_t4 Variants.none c none i arg2 harg2 arg3 harg3 arg4 harg4 arg5 harg5 arg6 harg6 arg7 harg7 arg8 harg8 arg9 harg9 arg10 harg10 arg11 harg11 (k0_pay87 x.v) (k0_pay88 x.k) (k0_pay89 x.k) w4 (harg2.unread x.q) (harg3.unread x.qt) (harg6.unread x.o) (harg7.unread x.ot) (harg8.unread x.st) (arg9.view.writes (Elt F) f (S3.2 ++ (S2.2 ++ (S1.2 ++ M)))) (S3.1.1, S3.1.2.1, S3.1.2.2.1, S3.1.2.2.2) (Scf.trips (k0_t4_loop i).lb (k0_t4_loop i).ub (k0_t4_loop i).st) = S4
  have h := chain c i arg2 harg2 arg3 harg3 arg4 harg4 arg5 harg5 arg6 harg6 arg7 harg7 arg8 harg8 arg9 harg9 arg10 harg10 arg11 harg11 x w1 w2 w3 w4 f M a S1 S2 S3 S4 e1.symm e2.symm e3.symm e4.symm
  have h1 : S4.1 = (restOf x a (i 1).val (arg9.view.read (Elt F) (arg9.view.writes (Elt F) f M))).1 := congrArg Prod.fst h
  have h2 := congrArg Prod.snd h
  rw [← h1]
  iapply Hk
  isplitl [H0]; · iexact H0
  isplitl [H1]; · iexact H1
  isplitl [H4]; · iexact H4
  isplitl [H5]; · iexact H5
  isplitl [H6]; · iexact H6
  unfold owns
  isplitl [H7]
  · iexists _; isplitr
    swap
    · iexact H7
    ipureintro; exact h2
  isplitl [H8]
  · iexists _; isplitr
    swap
    · iexact H8
    ipureintro
    exact View.read_writes_full _ _ _ _ _
  · iexists _; isplitr
    swap
    · iexact H9
    ipureintro
    exact View.read_writes_full _ _ _ _ _

end Cert.Kernel2Ideal.Mla

end
-- ==== Proof.Mla.Run.lean ====
/- The attention gradient's body, run on its staged blocks. -/
module

public import proofs.«01_k».proof.Proof.Mla.Tail

@[expose] public section

set_option maxRecDepth 16384

noncomputable section

attribute [local irreducible] Cert.Kernel2Ideal.Gen.st_k0_t1 Cert.Kernel2Ideal.Gen.st_k0_t2 Cert.Kernel2Ideal.Gen.st_k0_t3 Cert.Kernel2Ideal.Gen.st_k0_t4

namespace Cert.Kernel2Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ

variable (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S4096x256 .f32) (harg9 : arg9.IsWhole) (arg10 : Memref sig .tc .vmem S512x256 .bf16) (harg10 : arg10.IsWhole) (arg11 : Memref sig .tc .vmem S512x128 .bf16) (harg11 : arg11.IsWhole)

/-- The test at the body's head: whether this is the first column block. -/
abbrev First (i : grid0.Coords) : Prop := (Scalar.cmpi .ne (Scalar.extui (Scalar.cmpi .eq (BitVec.ofNat 32 (i 1).val) 0#32)) 0#32) = 1#1

variable (x : Ins F)

/-- The point's blocks with the keys and values as the body loads them: the same blocks. -/
def loaded : Ins F :=
  ⟨x.q, x.qt, arg4.view.readAt (Elt F) (Rect.unit (s := S512x256) ![0, 0] S512x256.size inb_S512x256_S512x256_0_0).toLoadRect (harg4.unread x.k),
    arg5.view.readAt (Elt F) (Rect.unit (s := S512x128) ![0, 0] S512x128.size inb_S512x128_S512x128_0_0).toLoadRect (harg5.unread x.v), x.o, x.ot, x.st⟩

theorem loaded_eq : loaded arg4 harg4 arg5 harg5 x = x := by
  unfold loaded
  rw [View.readAt_full, View.readAt_full, harg4.read_unread, harg5.read_unread]

/-- The two halves together: from the block on the diagonal, over the stores `L`, to what the point leaves. -/
theorem whole_from (hj : (i 1).val < 8) (f : BufTy.Contents (Elt F) arg9.view.ty) (L : List (View.Piece (Elt F) S4096x256 .f32)) (d : Vec F S512x256 .f32) (D : Vec F S4096x256 .f32)
    (hd : d = arg9.view.readAt (Elt F) (Rect.unit (s := S4096x256) (k0_off1 i) S512x256.size (k0_off1_inb i)).toLoadRect (arg9.view.writes (Elt F) f L))
    (hD : arg9.view.read (Elt F) (arg9.view.writes (Elt F) f L) = if (i 1).val = 0 then k0_pay85 else D)
    (x' : Ins F) (hx : x' = x) :
    restOf x' (atDiag i arg2 harg2 arg3 harg3 arg6 harg6 arg7 harg7 arg8 harg8 x' d).1 (i 1).val (arg9.view.read (Elt F) (arg9.view.writes (Elt F) f (diagPiece i arg2 harg2 arg3 harg3 arg6 harg6 arg7 harg7 arg8 harg8 x' d :: L))) = whole x (i 1).val hj D := by
  subst hx
  have h := start i arg2 harg2 arg3 harg3 arg6 harg6 arg7 harg7 arg8 harg8 arg9 x' hj f L d hd
  rw [hD] at h
  unfold whole
  rw [← h]
  rfl

set_option maxHeartbeats 1000000 in
/-- The body past the first column block: the queries' gradient goes on from what the block holds. -/
theorem body_later (hc : ¬ First i) (hj : (i 1).val < 8) (h0 : (i 1).val ≠ 0) (D : Vec F S4096x256 .f32) (E : Set ℕ) (K : PUnit → sProp 𝕄) :
    iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare D ∗ (∃ d, owns (c : Thread nD τ) arg10 fullShare d) ∗ (∃ d, owns (c : Thread nD τ) arg11 fullShare d)
        ∗ (iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare (whole x (i 1).val hj D).2 ∗ owns (c : Thread nD τ) arg10 fullShare (outK x (i 1).val hj) ∗ owns (c : Thread nD τ) arg11 fullShare (outV x (i 1).val hj)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11) K := by
  simp only [cc0_mla_bwd_eq_skeleton]; unfold cc0_mla_bwd_skel
  simp only [k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  have hw := whole_from i arg2 harg2 arg3 harg3 arg6 harg6 arg7 harg7 arg8 harg8 arg9 x hj f7 [] _ D rfl ((congrArg (arg9.view.read (Elt F)) (View.writes_nil _ _)).trans (hf7.trans (if_neg h0).symm)) (loaded arg4 harg4 arg5 harg5 x) (loaded_eq arg4 harg4 arg5 harg5 x)
  iapply (rest_run c i arg2 harg2 arg3 harg3 arg4 harg4 arg5 harg5 arg6 harg6 arg7 harg7 arg8 harg8 arg9 harg9 arg10 harg10 arg11 harg11 (loaded arg4 harg4 arg5 harg5 x) (atDiag i arg2 harg2 arg3 harg3 arg6 harg6 arg7 harg7 arg8 harg8 (loaded arg4 harg4 arg5 harg5 x) (arg9.view.readAt (Elt F) (Rect.unit (s := S4096x256) (k0_off1 i) S512x256.size (k0_off1_inb i)).toLoadRect (arg9.view.writes (Elt F) f7 []))).1 _ _ _ _ f7 [diagPiece i arg2 harg2 arg3 harg3 arg6 harg6 arg7 harg7 arg8 harg8 (loaded arg4 harg4 arg5 harg5 x) (arg9.view.readAt (Elt F) (Rect.unit (s := S4096x256) (k0_off1 i) S512x256.size (k0_off1_inb i)).toLoadRect (arg9.view.writes (Elt F) f7 []))] f8 f9 E K)
  rw [hw]
  isplitl [H0]; · iexact H0
  isplitl [H1]; · iexact H1
  isplitl [H4]; · iexact H4
  isplitl [H5]; · iexact H5
  isplitl [H6]; · iexact H6
  isplitl [H7]; · iexact H7
  isplitl [H8]; · iexact H8
  isplitl [H9]; · iexact H9
  iintro ⟨H0, H1, H4, H5, H6, H7, H8, H9⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  unfold owns
  isplitl [H7]; · iexact H7
  isplitl [H8]
  · rw [outK, ← whole_fst x (i 1).val hj D k0_pay85]; iexact H8
  · rw [outV, ← whole_fst x (i 1).val hj D k0_pay85]; iexact H9

set_option maxHeartbeats 1000000 in
/-- The body at the first column block: it clears the queries' gradient. -/
theorem body_first (hc : First i) (hj : (i 1).val < 8) (h0 : (i 1).val = 0) (E : Set ℕ) (K : PUnit → sProp 𝕄) :
    iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare (whole x (i 1).val hj k0_pay85).2 ∗ owns (c : Thread nD τ) arg10 fullShare (outK x (i 1).val hj) ∗ owns (c : Thread nD τ) arg11 fullShare (outV x (i 1).val hj)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11) K := by
  simp only [cc0_mla_bwd_eq_skeleton]; unfold cc0_mla_bwd_skel
  simp only [k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  have hw := whole_from i arg2 harg2 arg3 harg3 arg6 harg6 arg7 harg7 arg8 harg8 arg9 x hj arg9.view.junk [⟨Rect.unit (s := S4096x256) ![0, 0] S4096x256.size inb_S4096x256_S4096x256_0_0, k0_pay85⟩] _ k0_pay85 rfl ((View.read_writes_full _ _ _ _ _).trans (if_pos h0).symm) (loaded arg4 harg4 arg5 harg5 x) (loaded_eq arg4 harg4 arg5 harg5 x)
  iapply (rest_run c i arg2 harg2 arg3 harg3 arg4 harg4 arg5 harg5 arg6 harg6 arg7 harg7 arg8 harg8 arg9 harg9 arg10 harg10 arg11 harg11 (loaded arg4 harg4 arg5 harg5 x) (atDiag i arg2 harg2 arg3 harg3 arg6 harg6 arg7 harg7 arg8 harg8 (loaded arg4 harg4 arg5 harg5 x) (arg9.view.readAt (Elt F) (Rect.unit (s := S4096x256) (k0_off1 i) S512x256.size (k0_off1_inb i)).toLoadRect (arg9.view.writes (Elt F) arg9.view.junk [⟨Rect.unit (s := S4096x256) ![0, 0] S4096x256.size inb_S4096x256_S4096x256_0_0, k0_pay85⟩]))).1 _ _ _ _ arg9.view.junk [diagPiece i arg2 harg2 arg3 harg3 arg6 harg6 arg7 harg7 arg8 harg8 (loaded arg4 harg4 arg5 harg5 x) (arg9.view.readAt (Elt F) (Rect.unit (s := S4096x256) (k0_off1 i) S512x256.size (k0_off1_inb i)).toLoadRect (arg9.view.writes (Elt F) arg9.view.junk [⟨Rect.unit (s := S4096x256) ![0, 0] S4096x256.size inb_S4096x256_S4096x256_0_0, k0_pay85⟩])), ⟨Rect.unit (s := S4096x256) ![0, 0] S4096x256.size inb_S4096x256_S4096x256_0_0, k0_pay85⟩] f8 f9 E K)
  rw [hw]
  isplitl [H0]; · iexact H0
  isplitl [H1]; · iexact H1
  isplitl [H4]; · iexact H4
  isplitl [H5]; · iexact H5
  isplitl [H6]; · iexact H6
  isplitl [H7]; · iexact H7
  isplitl [H8]; · iexact H8
  isplitl [H9]; · iexact H9
  iintro ⟨H0, H1, H4, H5, H6, H7, H8, H9⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  unfold owns
  isplitl [H7]; · iexact H7
  isplitl [H8]
  · iexact H8
  · iexact H9

end Cert.Kernel2Ideal.Mla

end
-- ==== Proof.Mla.Frame.lean ====
/- The attention gradient's launch: what each point leaves, the run of the whole grid and the frame. -/
module

public import proofs.«01_k».proof.Proof.Mla.Run
public import proofs.«01_k».proof.Proof.Gen.Kernel2Ideal.Points
public import Idealize.ShloMosaic.Lib.Pipeline.FrameSuffix
public import Idealize.ShloMosaic.Lib.WordCmp
public import Idealize.ShloMosaic.Lib.Claim

@[expose] public section

set_option maxRecDepth 16384

noncomputable section

namespace Cert.Kernel2Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks point `t` reads. -/
def ins (c : Dev nD) (t : Fin cfg0.N) : Ins F :=
  ⟨iblk m c 0 t, iblk m c 1 t, iblk m c 2 t, iblk m c 3 t, iblk m c 4 t, iblk m c 5 t, iblk m c 6 t⟩

/-- The column block of point `t`. -/
theorem col (t : Fin cfg0.N) : (grid0.coords t 1).val = t.val % 8 := by
  have h : (grid0.coords t 1).val = t.val / 1 % 8 := Pipeline.Grid.coords_val t 1 (by decide) rfl
  rw [h, Nat.div_one]

/-- The pair of heads of point `t`. -/
theorem row (t : Fin cfg0.N) : (grid0.coords t 0).val = t.val / 8 % 4 := Pipeline.Grid.coords_val t 0 (by decide) rfl

theorem col_lt (t : Fin cfg0.N) : (grid0.coords t 1).val < 8 := by rw [col]; omega

/-- The body's head clears the queries' gradient exactly at the first column block. -/
theorem first_iff (t : Fin cfg0.N) : First (grid0.coords t) ↔ (grid0.coords t 1).val = 0 := by
  have ht : t.val < 32 := Nat.lt_of_lt_of_eq t.isLt N_0
  simp only [First, col]
  word_cmp

/-- The queries' gradient after point `n`: each point adds its columns' part to what the point before left; a first
    column block starts from zeros. -/
def dqAt (c : Dev nD) : (n : ℕ) → n < cfg0.N → Vec F S4096x256 .f32
  | 0, h => (whole (ins m c ⟨0, h⟩) (grid0.coords ⟨0, h⟩ 1).val (col_lt _) k0_pay85).2
  | n + 1, h => (whole (ins m c ⟨n + 1, h⟩) (grid0.coords ⟨n + 1, h⟩ 1).val (col_lt _) (dqAt c n (Nat.lt_of_succ_lt h))).2

/-- At a first column block nothing of what was there counts. -/
theorem whole_first (x : Ins F) (j : ℕ) (hj : j < 8) (h0 : j = 0) (D D' : Vec F S4096x256 .f32) : whole x j hj D = whole x j hj D' := by
  unfold whole; rw [if_pos h0, if_pos h0]

theorem dqAt_first (c : Dev nD) (t : Fin cfg0.N) (h0 : (grid0.coords t 1).val = 0) :
    dqAt m c t.val t.isLt = (whole (ins m c t) (grid0.coords t 1).val (col_lt t) k0_pay85).2 := by
  obtain ⟨n, hn⟩ := t
  cases n with
  | zero => rfl
  | succ n => exact congrArg Prod.snd (whole_first _ _ _ h0 _ _)

theorem dqAt_later (c : Dev nD) (t : Fin cfg0.N) (h0 : (grid0.coords t 1).val ≠ 0) :
    dqAt m c t.val t.isLt = (whole (ins m c t) (grid0.coords t 1).val (col_lt t) (dqAt m c (t.val - 1) (Nat.lt_of_le_of_lt (Nat.sub_le _ _) t.isLt))).2 := by
  obtain ⟨n, hn⟩ := t
  cases n with
  | zero => exact absurd (by rw [col]; rfl) h0
  | succ n => rfl

/-- The launch's data: each input window at its block, the outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t.val t.isLt
    | ⟨8, _⟩ => outK (ins m c t) (grid0.coords t 1).val (col_lt t)
    | ⟨9, _⟩ => outV (ins m c t) (grid0.coords t 1).val (col_lt t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t.val t.isLt := by dsimp only [dats]
theorem after0_8 (c : Dev nD) (t : Fin cfg0.N) : (dats m 0 c).after 8 t = outK (ins m c t) (grid0.coords t 1).val (col_lt t) := by dsimp only [dats]
theorem after0_9 (c : Dev nD) (t : Fin cfg0.N) : (dats m 0 c).after 9 t = outV (ins m c t) (grid0.coords t 1).val (col_lt t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Past the first column block the queries' gradient is what the point before left. -/
theorem before0_7 (c : Dev nD) (t : Fin cfg0.N) (h0 : (grid0.coords t 1).val ≠ 0) (d) :
    (dats m 0 c).before 7 t d = dqAt m c (t.val - 1) (Nat.lt_of_le_of_lt (Nat.sub_le _ _) t.isLt) := by
  rw [col] at h0
  refine ((dats m 0 c).before_out_kept 7 rfl t (by omega) ?_ (fun _ => rfl) (fun _ _ => rfl) d).trans (after0_7 m c _)
  rw [Bool.eq_false_iff]
  intro h
  have h' := (flush0_7 _).mp h
  simp only at h'
  omega

/-- Window 0's staging memref at point `t`. -/
abbrev ms0_0 (t : Fin cfg0.N) : Memref sig .tc .vmem S4096x256 .bf16 := win0_0.stage (cfg0.slots t 0)
abbrev hs0_0 (t : Fin cfg0.N) : (ms0_0 t).IsWhole := hstage0_0 ((cfg0.slots t 0).cast nbuf0_0)
/-- Window 1's staging memref at point `t`. -/
abbrev ms0_1 (t : Fin cfg0.N) : Memref sig .tc .vmem S8x256x512 .bf16 := win0_1.stage (cfg0.slots t 1)
abbrev hs0_1 (t : Fin cfg0.N) : (ms0_1 t).IsWhole := hstage0_1 ((cfg0.slots t 1).cast nbuf0_1)
/-- Window 2's staging memref at point `t`. -/
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
/-- Window 3's staging memref at point `t`. -/
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
/-- Window 4's staging memref at point `t`. -/
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
/-- Window 5's staging memref at point `t`. -/
abbrev ms0_5 (t : Fin cfg0.N) : Memref sig .tc .vmem S8x128x512 .bf16 := win0_5.stage (cfg0.slots t 5)
abbrev hs0_5 (t : Fin cfg0.N) : (ms0_5 t).IsWhole := hstage0_5 ((cfg0.slots t 5).cast nbuf0_5)
/-- Window 6's staging memref at point `t`. -/
abbrev ms0_6 (t : Fin cfg0.N) : Memref sig .tc .vmem S1x4096x128 .f32 := win0_6.stage (cfg0.slots t 6)
abbrev hs0_6 (t : Fin cfg0.N) : (ms0_6 t).IsWhole := hstage0_6 ((cfg0.slots t 6).cast nbuf0_6)
/-- Window 7's staging memref at point `t`. -/
abbrev ms0_7 (t : Fin cfg0.N) : Memref sig .tc .vmem S4096x256 .f32 := win0_7.stage (cfg0.slots t 7)
abbrev hs0_7 (t : Fin cfg0.N) : (ms0_7 t).IsWhole := hstage0_7 ((cfg0.slots t 7).cast nbuf0_7)
/-- Window 8's staging memref at point `t`. -/
abbrev ms0_8 (t : Fin cfg0.N) : Memref sig .tc .vmem S512x256 .bf16 := win0_8.stage (cfg0.slots t 8)
abbrev hs0_8 (t : Fin cfg0.N) : (ms0_8 t).IsWhole := hstage0_8 ((cfg0.slots t 8).cast nbuf0_8)
/-- Window 9's staging memref at point `t`. -/
abbrev ms0_9 (t : Fin cfg0.N) : Memref sig .tc .vmem S512x128 .bf16 := win0_9.stage (cfg0.slots t 9)
abbrev hs0_9 (t : Fin cfg0.N) : (ms0_9 t).IsWhole := hstage0_9 ((cfg0.slots t 9).cast nbuf0_9)

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at a first column block. -/
theorem sound_first (c : Dev nD) (t : Fin cfg0.N) (h0 : (grid0.coords t 1).val = 0) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  simp only [before0_0, before0_1, before0_2, before0_3, before0_4, before0_5, before0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [dqAt_first m c t h0]
  iapply (body_first c (grid0.coords t) _ _ _ _ _ _ _ _ _ _ _ _ _ _ _ _ _ _ _ _ (ins m c t) ((first_iff t).mpr h0) (col_lt t) h0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body past it, from what the point before left. -/
theorem sound_later (c : Dev nD) (t : Fin cfg0.N) (h0 : (grid0.coords t 1).val ≠ 0) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  simp only [before0_0, before0_1, before0_2, before0_3, before0_4, before0_5, before0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [dqAt_later m c t h0, before0_7 m c t h0]
  iapply (body_later c (grid0.coords t) _ _ _ _ _ _ _ _ _ _ _ _ _ _ _ _ _ _ _ _ (ins m c t) (fun h => h0 ((first_iff t).mp h)) (col_lt t) h0 (dqAt m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : (grid0.coords t 1).val = 0
  · exact sound_first m c t h0
  · exact sound_later m c t h0

theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch run: every array of the pipeline ends at what the points wrote, every other buffer at what the host lines
    leave there, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments end unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Mla

end
-- ==== Proof.Mla.Printed.lean ====
/- The frame of the attention gradient as printed, from the run of the program with named constants. -/
module

public import proofs.«01_k».proof.Proof.Mla.Frame
public import proofs.«01_k».proof.Proof.Gen.Kernel2
public import proofs.«01_k».proof.Defs

@[expose] public section

set_option maxRecDepth 16384

noncomputable section

namespace Cert.Kernel2Ideal.Mla

open Idealize.ShloMosaic Idealize.ShloMosaic.TcCoe Idealize.SL.Sem Idealize.ShloMosaic.Tactic

/-- A named constant read as the word it was printed with. -/
@[reducible] def wordNamed : Named Bits := ⟨fun _ _ {φ} bits => Scalar.ofBits φ bits⟩

/-- The statement of the frame of the program with the names, its words read as printed. -/
def FrameWords : Prop :=
  letI : Named Bits := wordNamed
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- It holds, by the run over any reading of the numbers. -/
theorem frameWords : FrameWords := fun m ρ _ =>
  letI : Named Bits := wordNamed
  frame_main (F := Bits) m ρ

/-- The two programs are one. -/
theorem same : Cert.quiescent_Kernel2 (hKernel2 := Cert.Kernel2.Gen.facts) = FrameWords := by sl_kernel_rfl

/-- The frame of the program as printed. -/
theorem frame_printed : Cert.quiescent_Kernel2 (hKernel2 := Cert.Kernel2.Gen.facts) := by
  rw [same]; exact frameWords

end Cert.Kernel2Ideal.Mla

end
-- ==== Proof.Real.Reads.lean ====
/- Arrays of extended reals that hold real numbers, and what the array operations make of them. -/
module

public import Idealize.ShloMosaic.Lib.MatmulPlain
public import Idealize.ShloMosaic.Lib.Pipeline.Value
public import Idealize.ShloMosaic.Lib.Pointwise
public import Idealize.ShloMosaic.Lib.WordCmp

@[expose] public section

set_option maxRecDepth 16384

noncomputable section

namespace Cert.Reals

open Idealize.ShloMosaic Idealize.ShloMosaic.Tactic

/-- The matrix `x` holds the real numbers `f`. -/
def Reads {m n : ℕ} (x : (⟨2, ![m, n]⟩ : Shape).Idx → EReal) (f : ℕ → ℕ → ℝ) : Prop :=
  ∀ i, x i = ((f (i 0).val (i 1).val : ℝ) : EReal)

/-- A cube holds real numbers. -/
def Reads3 {l m n : ℕ} (x : (⟨3, ![l, m, n]⟩ : Shape).Idx → EReal) (f : ℕ → ℕ → ℕ → ℝ) : Prop :=
  ∀ i, x i = ((f (i 0).val (i 1).val (i 2).val : ℝ) : EReal)

/-- A finite sum of real numbers is the sum of them as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {m n k : ℕ} {φ φ' : FTy}

/-- Equal numbers inside the extents are held as well. -/
theorem Reads.congr {x : (⟨2, ![m, n]⟩ : Shape).Idx → EReal} {f g : ℕ → ℕ → ℝ} (h : Reads x f)
    (e : ∀ r c, r < m → c < n → f r c = g r c) : Reads x g := fun i =>
  (h i).trans (congrArg _ (e _ _ (i 0).isLt (i 1).isLt))

theorem Reads3.congr {l : ℕ} {x : (⟨3, ![l, m, n]⟩ : Shape).Idx → EReal} {f g : ℕ → ℕ → ℕ → ℝ} (h : Reads3 x f)
    (e : ∀ a r c, a < l → r < m → c < n → f a r c = g a r c) : Reads3 x g := fun i =>
  (h i).trans (congrArg _ (e _ _ _ (i 0).isLt (i 1).isLt (i 2).isLt))

theorem Reads.add {x y : FVec Ideal ⟨2, ![m, n]⟩ φ} {f g : ℕ → ℕ → ℝ} (hx : Reads x f) (hy : Reads y g) :
    Reads (addf x y) fun r c => f r c + g r c := fun i => by
  show x i + y i = _
  rw [hx i, hy i, EReal.coe_add]

theorem Reads.sub {x y : FVec Ideal ⟨2, ![m, n]⟩ φ} {f g : ℕ → ℕ → ℝ} (hx : Reads x f) (hy : Reads y g) :
    Reads (subf x y) fun r c => f r c - g r c := fun i => by
  show x i - y i = _
  rw [hx i, hy i, EReal.coe_sub]

theorem Reads.mul {x y : FVec Ideal ⟨2, ![m, n]⟩ φ} {f g : ℕ → ℕ → ℝ} (hx : Reads x f) (hy : Reads y g) :
    Reads (mulf x y) fun r c => f r c * g r c := fun i => by
  show x i * y i = _
  rw [hx i, hy i, EReal.coe_mul]

/-- A product with one number everywhere. -/
theorem Reads.scale {x : FVec Ideal ⟨2, ![m, n]⟩ φ} {f : ℕ → ℕ → ℝ} (hx : Reads x f) {s : Ideal φ} {a : ℝ} (hs : s = ((a : ℝ) : EReal)) :
    Reads (mulf x (broadcast ⟨2, ![m, n]⟩ s)) fun r c => f r c * a := fun i => by
  show x i * s = _
  rw [hx i, hs, EReal.coe_mul]

/-- Powers of two. -/
theorem Reads.exp2 {x : FVec Ideal ⟨2, ![m, n]⟩ φ} {f : ℕ → ℕ → ℝ} (hx : Reads x f) :
    Reads (exp2 x) fun r c => (2 : ℝ) ^ f r c := fun i => by
  show Ideal.exp2 (x i) = _
  rw [hx i]; rfl

/-- A rectangle cut out. -/
theorem Reads.cut {m' n' a b : ℕ} {x : (⟨2, ![m', n']⟩ : Shape).Idx → EReal} {f : ℕ → ℕ → ℝ} (hx : Reads x f)
    (h : (⟨2, ![m', n']⟩ : Shape).Slices ![a, b] ⟨2, ![m, n]⟩) :
    Reads (extractStridedSlice ⟨2, ![m, n]⟩ ![a, b] x h) fun r c => f (a + r) (b + c) := fun i => by
  unfold extractStridedSlice
  exact hx _

/-- One column spread over a row. -/
theorem Reads.spread {x : (⟨2, ![m, 1]⟩ : Shape).Idx → EReal} {f : ℕ → ℕ → ℝ} (hx : Reads x f) (hm : m ≠ 1)
    (h : (⟨2, ![m, 1]⟩ : Shape).Broadcasts ⟨2, ![m, n]⟩) : Reads (broadcastTo ⟨2, ![m, n]⟩ x h) fun r _ => f r 0 := fun i => by
  rw [broadcastTo_apply x h i (ValueIdx.ix2 (i 0) 0) (fun a => by
    match a with
    | ⟨0, _⟩ => exact (if_neg hm).symm
    | ⟨1, _⟩ => rfl)]
  exact hx _

theorem Reads.same {x : (⟨2, ![m, n]⟩ : Shape).Idx → EReal} {f : ℕ → ℕ → ℝ} (hx : Reads x f)
    (h : (⟨2, ![m, n]⟩ : Shape).ShapeCasts ⟨2, ![m, n]⟩) : Reads (shapeCast ⟨2, ![m, n]⟩ x h) f := by
  rw [shapeCast_self]; exact hx

/-- The leading axis of one dropped. -/
theorem Reads3.drop {x : (⟨3, ![1, m, n]⟩ : Shape).Idx → EReal} {f : ℕ → ℕ → ℕ → ℝ} (hx : Reads3 x f)
    (h : (⟨3, ![1, m, n]⟩ : Shape).ShapeCasts ⟨2, ![m, n]⟩) : Reads (shapeCast ⟨2, ![m, n]⟩ x h) fun r c => f 0 r c := fun i => by
  rw [shapeCast_apply x h i (ValueIdx.ix3 (0 : Fin 1) (i 0) (i 1)) (by
    rewrite [Shape.rowMajor_val_three, Shape.rowMajor_val_two]
    show (0 * m + (i 0).val) * n + (i 1).val = (i 0).val * n + (i 1).val
    rw [Nat.zero_mul, Nat.zero_add])]
  exact hx _

theorem Reads.turn {x : (⟨2, ![m, n]⟩ : Shape).Idx → EReal} {f : ℕ → ℕ → ℝ} (hx : Reads x f)
    (h : (⟨2, ![m, n]⟩ : Shape).Transposes [1, 0] ⟨2, ![n, m]⟩) :
    Reads (transpose ⟨2, ![n, m]⟩ [1, 0] x h) fun r c => f c r := fun i => by
  rw [transpose_apply [1, 0] x h i (ValueIdx.ix2 (i 1) (i 0)) (fun b => by
    match b with
    | ⟨0, _⟩ => rfl
    | ⟨1, _⟩ => rfl)]
  exact hx _

/-- Two matrices side by side. -/
theorem Reads.beside {n' N : ℕ} {x : (⟨2, ![m, n]⟩ : Shape).Idx → EReal} {y : (⟨2, ![m, n']⟩ : Shape).Idx → EReal} {f g : ℕ → ℕ → ℝ}
    (hx : Reads x f) (hy : Reads y g) (h : Shape.Concatenates [⟨2, ![m, n]⟩, ⟨2, ![m, n']⟩] ⟨2, ![m, N]⟩ (1 : Fin 2)) :
    Reads (concatenate ⟨2, ![m, N]⟩ (1 : Fin 2) [⟨⟨2, ![m, n]⟩, x⟩, ⟨⟨2, ![m, n']⟩, y⟩] h)
      fun r c => if c < n then f r c else g r (c - n) := fun i => by
  have hN : n + n' = N := by
    have e := h.2.2
    simpa using e
  beta_reduce
  by_cases hc : (i 1).val < n
  · rw [concatenate_pair_apply_left (1 : Fin 2) x y h i rfl (ValueIdx.ix2 (i 0) ⟨(i 1).val, hc⟩) (fun b => by
      match b with
      | ⟨0, _⟩ => rfl
      | ⟨1, _⟩ => rfl), hx _, if_pos hc]
    rfl
  · have hi : (i 1).val < N := (i 1).isLt
    rw [concatenate_pair_apply_right (1 : Fin 2) x y h i rfl rfl (ValueIdx.ix2 (i 0) ⟨(i 1).val - n, by omega⟩) (fun b hb => by
      match b with
      | ⟨0, _⟩ => rfl
      | ⟨1, _⟩ => exact absurd rfl hb) (by show (i 1).val - n + n = _; omega), hy _, if_neg hc]
    rfl

/-- One matrix below another. -/
theorem Reads.above {m' M : ℕ} {x : (⟨2, ![m, n]⟩ : Shape).Idx → EReal} {y : (⟨2, ![m', n]⟩ : Shape).Idx → EReal} {f g : ℕ → ℕ → ℝ}
    (hx : Reads x f) (hy : Reads y g) (h : Shape.Concatenates [⟨2, ![m, n]⟩, ⟨2, ![m', n]⟩] ⟨2, ![M, n]⟩ (0 : Fin 2)) :
    Reads (concatenate ⟨2, ![M, n]⟩ (0 : Fin 2) [⟨⟨2, ![m, n]⟩, x⟩, ⟨⟨2, ![m', n]⟩, y⟩] h)
      fun r c => if r < m then f r c else g (r - m) c := fun i => by
  have hM : m + m' = M := by
    have e := h.2.2
    simpa using e
  beta_reduce
  by_cases hr : (i 0).val < m
  · rw [concatenate_pair_apply_left (0 : Fin 2) x y h i rfl (ValueIdx.ix2 ⟨(i 0).val, hr⟩ (i 1)) (fun b => by
      match b with
      | ⟨0, _⟩ => rfl
      | ⟨1, _⟩ => rfl), hx _, if_pos hr]
    rfl
  · have hi : (i 0).val < M := (i 0).isLt
    rw [concatenate_pair_apply_right (0 : Fin 2) x y h i rfl rfl (ValueIdx.ix2 ⟨(i 0).val - m, by omega⟩ (i 1)) (fun b hb => by
      match b with
      | ⟨0, _⟩ => exact absurd rfl hb
      | ⟨1, _⟩ => rfl) (by show (i 0).val - m + m = _; omega), hy _, if_neg hr]
    rfl

/-- A product of two matrices onto zeros. -/
theorem Reads.dot {prec : Option ContractPrecision} {x : FVec Ideal ⟨2, ![m, k]⟩ φ} {y : FVec Ideal ⟨2, ![k, n]⟩ φ'} {f g : ℕ → ℕ → ℝ}
    (hx : Reads x f) (hy : Reads y g) {acc : FVec Ideal ⟨2, ![m, n]⟩ .f32} (ha : acc = constant ⟨2, ![m, n]⟩ .f32 0x00000000#32) :
    Reads (matmul (DotDims.plain m k n) prec x y acc) fun r c => ∑ l ∈ Finset.range k, f r l * g l c := fun i => by
  rw [ValueIdx.eq_ix2 i, ha]
  refine (Ideal.matmul_plain_apply prec x y _ (i 0) (i 1)).trans ?_
  rw [show (constant ⟨2, ![m, n]⟩ .f32 0x00000000#32 : FVec Ideal ⟨2, ![m, n]⟩ .f32) (ValueIdx.ix2 (i 0) (i 1)) = 0 from Ideal.ofBits_zero_f32, zero_add]
  beta_reduce
  rw [Finset.sum_range, coe_sum]
  exact Finset.sum_congr rfl fun l _ => by rw [hx, hy, EReal.coe_mul]; rfl

/-- A product with the second matrix turned. -/
theorem Reads.dotT {prec : Option ContractPrecision} {x : FVec Ideal ⟨2, ![m, k]⟩ φ} {y : FVec Ideal ⟨2, ![n, k]⟩ φ'} {f g : ℕ → ℕ → ℝ}
    (hx : Reads x f) (hy : Reads y g) {acc : FVec Ideal ⟨2, ![m, n]⟩ .f32} (ha : acc = constant ⟨2, ![m, n]⟩ .f32 0x00000000#32) :
    Reads (matmul (DotDims.transposedRhs m k n) prec x y acc) fun r c => ∑ l ∈ Finset.range k, f r l * g c l := fun i => by
  rw [ValueIdx.eq_ix2 i, ha]
  refine (Ideal.matmul_transposedRhs_apply prec x y _ (i 0) (i 1)).trans ?_
  rw [show (constant ⟨2, ![m, n]⟩ .f32 0x00000000#32 : FVec Ideal ⟨2, ![m, n]⟩ .f32) (ValueIdx.ix2 (i 0) (i 1)) = 0 from Ideal.ofBits_zero_f32, zero_add]
  beta_reduce
  rw [Finset.sum_range, coe_sum]
  exact Finset.sum_congr rfl fun l _ => by rw [hx, hy, EReal.coe_mul]; rfl

/-- Zeros. -/
theorem Reads.zero : Reads (broadcast ⟨2, ![m, n]⟩ (Scalar.ofBits .f32 0x00000000#32) : FVec Ideal ⟨2, ![m, n]⟩ .f32) fun _ _ => 0 := fun i =>
  Ideal.ofBits_zero_f32.trans EReal.coe_zero.symm

/-- The lanes below `64` kept. -/
theorem Reads.low {x y : FVec Ideal ⟨2, ![m, 128]⟩ φ} {f : ℕ → ℕ → ℝ} (hx : Reads x f) (hy : ∀ i, y i = 0)
    (hi : (⟨2, ![1, 128]⟩ : Shape).Iotas .tc 32 [1]) (hs : (⟨2, ![1, 128]⟩ : Shape).ShapeCasts ⟨2, ![1, 128]⟩)
    (hb : (⟨2, ![1, 128]⟩ : Shape).Broadcasts ⟨2, ![m, 128]⟩) :
    Reads (select (broadcastTo ⟨2, ![m, 128]⟩ (shapeCast ⟨2, ![1, 128]⟩
      (cmpi .slt (iota .tc ⟨2, ![1, 128]⟩ 32 [1] hi) (broadcast ⟨2, ![1, 128]⟩ 64#32)) hs) hb) x y)
      fun r c => if c < 64 then f r c else 0 := fun i => by
  have h1 : (i 1).val < 128 := (i 1).isLt
  rw [shapeCast_self, ValueIdx.select_apply, broadcastTo_apply _ hb i (ValueIdx.ix2 (0 : Fin 1) (i 1)) (fun a => by
    match a with
    | ⟨0, _⟩ => rfl
    | ⟨1, _⟩ => rfl), hx i, hy i]
  show Scalar.select (IntOp.cmpi .slt (BitVec.ofNat 32 (0 * 128 + (i 1).val)) 64#32) _ _ = _
  beta_reduce
  by_cases h : (i 1).val < 64
  · rw [if_pos h, show IntOp.cmpi .slt (BitVec.ofNat 32 (0 * 128 + (i 1).val)) 64#32 = 1#1 by word_cmp]; rfl
  · rw [if_neg h, show IntOp.cmpi .slt (BitVec.ofNat 32 (0 * 128 + (i 1).val)) 64#32 = 0#1 by word_cmp]; rfl

/-- The lanes from `64` on kept. -/
theorem Reads.high {x y : FVec Ideal ⟨2, ![m, 128]⟩ φ} {f : ℕ → ℕ → ℝ} (hx : Reads x f) (hy : ∀ i, y i = 0)
    (hi : (⟨2, ![1, 128]⟩ : Shape).Iotas .tc 32 [1]) (hs : (⟨2, ![1, 128]⟩ : Shape).ShapeCasts ⟨2, ![1, 128]⟩)
    (hb : (⟨2, ![1, 128]⟩ : Shape).Broadcasts ⟨2, ![m, 128]⟩) :
    Reads (select (broadcastTo ⟨2, ![m, 128]⟩ (shapeCast ⟨2, ![1, 128]⟩
      (cmpi .sge (iota .tc ⟨2, ![1, 128]⟩ 32 [1] hi) (broadcast ⟨2, ![1, 128]⟩ 64#32)) hs) hb) x y)
      fun r c => if 64 ≤ c then f r c else 0 := fun i => by
  have h1 : (i 1).val < 128 := (i 1).isLt
  rw [shapeCast_self, ValueIdx.select_apply, broadcastTo_apply _ hb i (ValueIdx.ix2 (0 : Fin 1) (i 1)) (fun a => by
    match a with
    | ⟨0, _⟩ => rfl
    | ⟨1, _⟩ => rfl), hx i, hy i]
  show Scalar.select (IntOp.cmpi .sge (BitVec.ofNat 32 (0 * 128 + (i 1).val)) 64#32) _ _ = _
  beta_reduce
  by_cases h : 64 ≤ (i 1).val
  · rw [if_pos h, show IntOp.cmpi .sge (BitVec.ofNat 32 (0 * 128 + (i 1).val)) 64#32 = 1#1 by word_cmp]; rfl
  · rw [if_neg h, show IntOp.cmpi .sge (BitVec.ofNat 32 (0 * 128 + (i 1).val)) 64#32 = 0#1 by word_cmp]; rfl

/-- Powers of two of the entries on and below the diagonal less a number of the row; above it zero. -/
theorem Reads.lower {x y : FVec Ideal ⟨2, ![512, 512]⟩ .f32} {f g : ℕ → ℕ → ℝ} (hx : Reads x f) (hy : Reads y g)
    (h0 : (⟨2, ![512, 512]⟩ : Shape).Iotas .tc 32 [0]) (h1 : (⟨2, ![512, 512]⟩ : Shape).Iotas .tc 32 [1]) :
    Reads (Idealize.ShloMosaic.exp2 (subf (select (cmpi .sle (iota .tc ⟨2, ![512, 512]⟩ 32 [1] h1) (iota .tc ⟨2, ![512, 512]⟩ 32 [0] h0)) x
      (broadcast ⟨2, ![512, 512]⟩ (Scalar.ofBits .f32 0xFF800000#32))) y))
      fun r c => if c ≤ r then (2 : ℝ) ^ (f r c - g r c) else 0 := fun i => by
  have l0 : (i 0).val < 512 := (i 0).isLt
  have l1 : (i 1).val < 512 := (i 1).isLt
  show Ideal.exp2 (Scalar.select (IntOp.cmpi .sle (BitVec.ofNat 32 (0 * 512 + (i 1).val)) (BitVec.ofNat 32 (0 * 512 + (i 0).val))) (x i)
    (Ideal.ofBits .f32 0xFF800000#32) - y i) = _
  beta_reduce
  by_cases h : (i 1).val ≤ (i 0).val
  · rw [if_pos h, show IntOp.cmpi .sle (BitVec.ofNat 32 (0 * 512 + (i 1).val)) (BitVec.ofNat 32 (0 * 512 + (i 0).val)) = 1#1 by word_cmp]
    show Ideal.exp2 (x i - y i) = _
    rw [hx i, hy i, ← EReal.coe_sub]; rfl
  · rw [if_neg h, show IntOp.cmpi .sle (BitVec.ofNat 32 (0 * 512 + (i 1).val)) (BitVec.ofNat 32 (0 * 512 + (i 0).val)) = 0#1 by word_cmp]
    show Ideal.exp2 (Ideal.ofBits .f32 0xFF800000#32 - y i) = _
    rw [show Ideal.ofBits .f32 0xFF800000#32 = (⊥ : EReal) by simp [Ideal.ofBits, Ideal.ieee], EReal.bot_sub]
    rfl

end Cert.Reals

end
-- ==== Proof.Real.Softmax.lean ====
/- The masked softmax over real numbers: its weights, the gradient through it, and the maximum of a masked row. -/
module

public import proofs.«01_k».proof.Proof.Real.Reads
public import Idealize.ShloMosaic.Lib.KernelVsHost

@[expose] public section

set_option maxRecDepth 16384

noncomputable section

namespace Cert.Reals

open Idealize.ShloMosaic Idealize.ShloMosaic.Tactic

/-- The exponentials of the logits less the row's maximum, on and below the diagonal. -/
def expo (y : ℕ → ℕ → ℕ → ℝ) (M : ℕ → ℕ → ℝ) (h r c : ℕ) : ℝ := if c ≤ r then Real.exp (y h r c - M h r) else 0

/-- The row's sum of them. -/
def mass (y : ℕ → ℕ → ℕ → ℝ) (M : ℕ → ℕ → ℝ) (h r : ℕ) : ℝ := ∑ c ∈ Finset.range 4096, expo y M h r c

/-- The softmax's weights. -/
def soft (y : ℕ → ℕ → ℕ → ℝ) (M : ℕ → ℕ → ℝ) (h r c : ℕ) : ℝ := expo y M h r c / mass y M h r

/-- The row's mean of the weights' gradient `t`. -/
def mean (y : ℕ → ℕ → ℕ → ℝ) (M : ℕ → ℕ → ℝ) (t : ℕ → ℕ → ℕ → ℝ) (h r : ℕ) : ℝ := ∑ c ∈ Finset.range 4096, soft y M h r c * t h r c

/-- The logits' gradient. -/
def back (y : ℕ → ℕ → ℕ → ℝ) (M : ℕ → ℕ → ℝ) (t : ℕ → ℕ → ℕ → ℝ) (h r c : ℕ) : ℝ := soft y M h r c * (t h r c - mean y M t h r)

variable (y : ℕ → ℕ → ℕ → ℝ) (M : ℕ → ℕ → ℝ) (t : ℕ → ℕ → ℕ → ℝ)

theorem expo_nonneg (h r c : ℕ) : 0 ≤ expo y M h r c := by
  unfold expo
  split
  · exact (Real.exp_pos _).le
  · exact le_rfl

theorem mass_pos {h r : ℕ} (hr : r < 4096) : 0 < mass y M h r :=
  Finset.sum_pos' (fun c _ => expo_nonneg y M h r c) ⟨r, Finset.mem_range.2 hr, by unfold expo; rw [if_pos le_rfl]; exact Real.exp_pos _⟩

/-- The gradient taken through quotient, sum and exponential is the weights times the distance from their mean. -/
theorem back_eq (h r c : ℕ) (hr : r < 4096) :
    (t h r c / mass y M h r + -(∑ k ∈ Finset.range 4096, t h r k * (1 / (mass y M h r * mass y M h r)) * expo y M h r k)) * expo y M h r c
      = back y M t h r c := by
  have hL : mass y M h r ≠ 0 := (mass_pos y M hr).ne'
  unfold back mean soft
  rw [show (∑ k ∈ Finset.range 4096, expo y M h r k / mass y M h r * t h r k)
      = mass y M h r * ∑ k ∈ Finset.range 4096, t h r k * (1 / (mass y M h r * mass y M h r)) * expo y M h r k by
    rw [Finset.mul_sum]; exact Finset.sum_congr rfl fun k _ => by field_simp]
  field_simp
  ring

/-- The weights as powers of two of the logits less the logarithm of the row's sum, all in powers of two. -/
theorem soft_pow (h r c : ℕ) (hr : r < 4096) (hc : c ≤ r) (s : ℝ) (hs : s * Real.log 2 = y h r c) :
    (2 : ℝ) ^ (s - (M h r + Real.log (mass y M h r)) * (1 / Real.log 2)) = soft y M h r c := by
  have h2 : Real.log 2 ≠ 0 := (Real.log_pos one_lt_two).ne'
  have hL := mass_pos y M (h := h) hr
  rw [Real.rpow_def_of_pos two_pos, show Real.log 2 * (s - (M h r + Real.log (mass y M h r)) * (1 / Real.log 2))
      = y h r c - M h r - Real.log (mass y M h r) by rw [← hs]; field_simp; ring, Real.exp_sub, Real.exp_log hL]
  unfold soft expo
  rw [if_pos hc]

/-- A sum over an axis of real numbers. -/
theorem sum_fin {n : ℕ} {f : Fin n → EReal} {g : ℕ → ℝ} (h : ∀ k, f k = ((g k.val : ℝ) : EReal)) : ∑ k, f k = ((∑ k ∈ Finset.range n, g k : ℝ) : EReal) := by
  rw [Finset.sum_congr rfl fun k _ => h k, Finset.sum_range, coe_sum]

theorem div_real {x z : ℝ} (h : z ≠ 0) : Ideal.div (x : EReal) (z : EReal) = ((x / z : ℝ) : EReal) := by
  rw [Ideal.div_coe h, ← EReal.coe_mul, mul_one_div]

/-- Every row of a cube whose entries are real on and below the diagonal and `-∞` above it has a real maximum. -/
theorem exists_max {x : FVec Ideal ⟨3, ![8, 4096, 4096]⟩ .f32} {y : ℕ → ℕ → ℕ → ℝ} {u : Shape}
    (hx : ∀ i, x i = if (i 2).val ≤ (i 1).val then ((y (i 0).val (i 1).val (i 2).val : ℝ) : EReal) else ⊥)
    (h : (⟨3, ![8, 4096, 4096]⟩ : Shape).ReducesTo [2] ⟨2, ![8, 4096]⟩) (h' : (⟨3, ![8, 4096, 4096]⟩ : Shape).Reduces [2] ⟨2, ![8, 4096]⟩) (hu : 0 < u.numel) :
    ∃ M : ℕ → ℕ → ℝ, Reads (Host.reduce (FloatOps.maximumf (F := Ideal) (φ := .f32)) x (constant (F := Ideal) u .f32 0xFF800000#32) h hu) M := by
  have ne : ∀ j, ∃ a : ℝ, Host.reduce (FloatOps.maximumf (F := Ideal) (φ := .f32)) x (constant (F := Ideal) u .f32 0xFF800000#32) h hu j = (a : EReal) := fun j => by
    rw [hostReduce_maximumf_eq_multiReduction (F := Ideal) x 0xFF800000#32 h hu h' (by decide) (by decide)]
    rw [multiReduction_maximumf_eq_fold]
    show ∃ a : ℝ, Finset.fold max _ _ _ = _
    have top : Finset.fold max (FloatOps.ofBits (F := Ideal) .f32 0xFF800000#32 : EReal) x (Finset.univ.filter fun i => h'.drop i = j) ≠ ⊤ := by
      apply ne_of_lt
      rw [Finset.fold_max_lt]
      refine ⟨?_, fun i _ => ?_⟩
      · show Ideal.ofBits .f32 0xFF800000#32 < ⊤
        rw [show Ideal.ofBits .f32 0xFF800000#32 = (⊥ : EReal) by simp [Ideal.ofBits, Ideal.ieee]]
        exact bot_lt_top
      · rw [hx i]
        split
        · exact EReal.coe_lt_top _
        · exact bot_lt_top
    have bot : Finset.fold max (FloatOps.ofBits (F := Ideal) .f32 0xFF800000#32 : EReal) x (Finset.univ.filter fun i => h'.drop i = j) ≠ ⊥ := by
      apply ne_of_gt
      rw [Finset.lt_fold_max]
      refine Or.inr ⟨h'.lift j (⟨(j 1).val, (j 1).isLt⟩ : Fin 4096), ?_, ?_⟩
      · rw [Finset.mem_filter]
        exact ⟨Finset.mem_univ _, h'.drop_lift _ _⟩
      · rw [hx _, if_pos]
        · exact EReal.bot_lt_coe _
        · exact le_of_eq rfl
    exact ⟨_, (EReal.coe_toReal top bot).symm⟩
  choose a ha using ne
  refine ⟨fun h r => if hh : h < 8 then if hr : r < 4096 then a (ValueIdx.ix2 ⟨h, hh⟩ ⟨r, hr⟩) else 0 else 0, fun j => ?_⟩
  rw [ha j]
  beta_reduce
  rw [dif_pos (show (j 0).val < 8 from (j 0).isLt), dif_pos (show (j 1).val < 4096 from (j 1).isLt)]
  exact congrArg (fun j => ((a j : ℝ) : EReal)) (ValueIdx.eq_ix2 j)

end Cert.Reals

end
-- ==== Proof.Mla.Reference.lean ====
/- The reference of the attention gradient over real numbers, operation by operation. -/
module

public import proofs.«01_k».proof.Proof.Gen.Reference2Ideal.Read
public import proofs.«01_k».proof.Proof.Real.Softmax

@[expose] public section

set_option maxRecDepth 16384

noncomputable section

namespace Cert.Reference2Ideal.Mla

open Idealize.ShloMosaic Idealize.ShloMosaic.Tactic Cert.Reference2Ideal Cert.Reference2Ideal.Read Cert.Reals

/-- The scale of the logits: the number nearest to one over the root of `96` among those a word holds. -/
def sg : ℝ := 3424635 / 33554432

theorem word_sg : (FloatOps.ofBits .f32 0x3DD105EC#32 : Ideal .f32) = ((sg : ℝ) : EReal) := by
  show Ideal.ofBits .f32 0x3DD105EC#32 = _
  unfold sg
  simp [Ideal.ofBits, Ideal.ieee, -EReal.coe_mul]
  norm_num

/-- The logits of head `h`: the scaled products of `96` columns. -/
def logit (A B : ℕ → ℕ → ℝ) (h r c : ℕ) : ℝ := (∑ d ∈ Finset.range 96, A r (96 * h + d) * B c (96 * h + d)) * sg

/-- The weights' gradient of head `h`: the products of `64` columns. -/
def pull (C O : ℕ → ℕ → ℝ) (h r c : ℕ) : ℝ := ∑ e ∈ Finset.range 64, O r (64 * h + e) * C c (64 * h + e)

variable {x0 x1 : (⟨S4096x768, .f32⟩ : BufTy).Contents (Elt Ideal)} {x2 x3 : (⟨S4096x512, .f32⟩ : BufTy).Contents (Elt Ideal)}
variable {A B C O : ℕ → ℕ → ℝ} {M : ℕ → ℕ → ℝ}

theorem heads_q (h0 : Reads x0 A) : Reads3 (val_main_v8 (F := Ideal) x0) fun h r d => A r (96 * h + d) := fun i => by
  rw [val_main_v8_apply, val_main_v7_apply, h0 _]
  have b0 : (i 0).val < 8 := (i 0).isLt
  have b1 : (i 1).val < 4096 := (i 1).isLt
  have b2 : (i 2).val < 96 := (i 2).isLt
  show ((A ((((i 1).val * 8 + (i 0).val) * 96 + (i 2).val) / 768) ((((i 1).val * 8 + (i 0).val) * 96 + (i 2).val) % 768) : ℝ) : EReal) = _
  rw [show (((i 1).val * 8 + (i 0).val) * 96 + (i 2).val) / 768 = (i 1).val by omega, show (((i 1).val * 8 + (i 0).val) * 96 + (i 2).val) % 768 = 96 * (i 0).val + (i 2).val by omega]

theorem heads_k (h1 : Reads x1 B) : Reads3 (val_main_v10 (F := Ideal) x1) fun h r d => B r (96 * h + d) := heads_q h1

theorem heads_do (h3 : Reads x3 O) : Reads3 (val_main_v49 (F := Ideal) x3) fun h r e => O r (64 * h + e) := fun i => by
  rw [val_main_v49_apply, val_main_v48_apply, h3 _]
  have b0 : (i 0).val < 8 := (i 0).isLt
  have b1 : (i 1).val < 4096 := (i 1).isLt
  have b2 : (i 2).val < 64 := (i 2).isLt
  show ((O ((((i 1).val * 8 + (i 0).val) * 64 + (i 2).val) / 512) ((((i 1).val * 8 + (i 0).val) * 64 + (i 2).val) % 512) : ℝ) : EReal) = _
  rw [show (((i 1).val * 8 + (i 0).val) * 64 + (i 2).val) / 512 = (i 1).val by omega, show (((i 1).val * 8 + (i 0).val) * 64 + (i 2).val) % 512 = 64 * (i 0).val + (i 2).val by omega]

theorem heads_v (h2 : Reads x2 C) : Reads3 (val_main_v44 (F := Ideal) x2) fun h r e => C r (64 * h + e) := heads_do h2

theorem logits (h0 : Reads x0 A) (h1 : Reads x1 B) : Reads3 (val_main_v13 (F := Ideal) x0 x1) (logit A B) := fun i => by
  rw [val_main_v13_apply, val_main_v11_apply, val_main_v12_apply, val_main_cst_apply, word_sg]
  rw [sum_fin (g := fun d => A (i 1).val (96 * (i 0).val + d) * B (i 2).val (96 * (i 0).val + d)) fun d => by
    rw [heads_q h0 _, heads_k h1 _, ← EReal.coe_mul]]
  show _ * _ = _
  rw [← EReal.coe_mul]
  rfl

/-- The mask keeps the entries on and below the diagonal. -/
theorem mask (i : S8x4096x4096.Idx) : val_main_v14_1 (F := Ideal) i = if (i 2).val ≤ (i 1).val then 1#1 else 0#1 := by
  rw [val_main_v14_1_apply, val_main_v6_apply, val_main_v4_apply, val_main_v1_apply, val_main_v5_apply, val_main_v3_apply]
  have b1 : (i 1).val < 4096 := (i 1).isLt
  have b2 : (i 2).val < 4096 := (i 2).isLt
  show IntOp.cmpi .sle (BitVec.ofNat 32 (i 2).val) (BitVec.ofNat 32 (i 1).val) = _
  split
  · word_cmp
  · word_cmp

/-- The masked logits. -/
theorem masked (h0 : Reads x0 A) (h1 : Reads x1 B) (i : S8x4096x4096.Idx) :
    val_main_v14_0 (F := Ideal) x0 x1 i = if (i 2).val ≤ (i 1).val then ((logit A B (i 0).val (i 1).val (i 2).val : ℝ) : EReal) else ⊥ := by
  rw [val_main_v14_0_apply, mask, logits h0 h1 i, val_main_call0_v2_apply, val_main_call0_v0_apply]
  split
  · rfl
  · show Ideal.ofBits .f32 0xFF800000#32 = _
    simp [Ideal.ofBits, Ideal.ieee]

/-- Each row has a real maximum. -/
theorem row_max (h0 : Reads x0 A) (h1 : Reads x1 B) : ∃ M, Reads (val_main_v15 (F := Ideal) x0 x1) M :=
  exists_max (masked h0 h1) _ (by decide) _

/-- Its maximum with `-∞` is itself. -/
theorem row_max' (hM : Reads (val_main_v15 (F := Ideal) x0 x1) M) : Reads (val_main_v22 (F := Ideal) x0 x1) M := fun i => by
  rw [val_main_v22_apply, hM i, val_main_v21_apply]
  show max (Ideal.ofBits .f32 0xFF800000#32) _ = _
  rw [show Ideal.ofBits .f32 0xFF800000#32 = (⊥ : EReal) by simp [Ideal.ofBits, Ideal.ieee]]
  exact max_eq_right bot_le

/-- The exponentials. -/
theorem expos (h0 : Reads x0 A) (h1 : Reads x1 B) (hM : Reads (val_main_v15 (F := Ideal) x0 x1) M) :
    Reads3 (val_main_v35 (F := Ideal) x0 x1) (expo (logit A B) M) := fun i => by
  rw [val_main_v35_apply, val_main_v34_apply, masked h0 h1 i, val_main_v33_apply, val_main_v32_apply, row_max' hM _]
  unfold expo
  show Ideal.exp (_ - ((M (i 0).val (i 1).val : ℝ) : EReal)) = _
  split
  · rw [← EReal.coe_sub]; rfl
  · rw [EReal.bot_sub]; rfl

/-- The rows' sums. -/
theorem masses (h0 : Reads x0 A) (h1 : Reads x1 B) (hM : Reads (val_main_v15 (F := Ideal) x0 x1) M) :
    Reads (val_main_v36 (F := Ideal) x0 x1) (mass (logit A B) M) := fun i => by
  rw [val_main_v36_apply, sum_fin (g := fun k => expo (logit A B) M (i 0).val (i 1).val k) fun k => expos h0 h1 hM _]
  rw [show val_main_cst_9 (F := Ideal) (Shape.Idx.first Gen.h_S_) = (0 : EReal) from Ideal.ofBits_zero_f32, zero_add]
  rfl

theorem masses' (h0 : Reads x0 A) (h1 : Reads x1 B) (hM : Reads (val_main_v15 (F := Ideal) x0 x1) M) (i : S8x4096x1.Idx) :
    val_main_v37 (F := Ideal) x0 x1 i = ((mass (logit A B) M (i 0).val (i 1).val : ℝ) : EReal) := by
  rw [val_main_v37_apply, masses h0 h1 hM _]

/-- The weights. -/
theorem softs (h0 : Reads x0 A) (h1 : Reads x1 B) (hM : Reads (val_main_v15 (F := Ideal) x0 x1) M) :
    Reads3 (val_main_v39 (F := Ideal) x0 x1) (soft (logit A B) M) := fun i => by
  rw [val_main_v39_apply, expos h0 h1 hM i, val_main_v38_apply, masses' h0 h1 hM _]
  exact div_real (mass_pos _ _ (i 1).isLt).ne'

/-- The values' gradient. -/
theorem dv_reads (h0 : Reads x0 A) (h1 : Reads x1 B) (h3 : Reads x3 O) (hM : Reads (val_main_v15 (F := Ideal) x0 x1) M) :
    Reads (val_main_v54 (F := Ideal) x0 x1 x3) fun c l => ∑ r ∈ Finset.range 4096, O r l * soft (logit A B) M (l / 64) r c := fun i => by
  rw [val_main_v54_apply, val_main_v53_apply, val_main_v51_apply, val_main_v50_apply]
  have b0 : (i 0).val < 4096 := (i 0).isLt
  have b1 : (i 1).val < 512 := (i 1).isLt
  refine sum_fin fun k => ?_
  rw [heads_do h3 _, softs h0 h1 hM _, ← EReal.coe_mul]
  show ((O k.val (64 * (((i 0).val * 512 + (i 1).val) / 64 % 8) + ((i 0).val * 512 + (i 1).val) % 64)
    * soft (logit A B) M (((i 0).val * 512 + (i 1).val) / 64 % 8) k.val (((i 0).val * 512 + (i 1).val) / 512) : ℝ) : EReal) = _
  rw [show ((i 0).val * 512 + (i 1).val) / 64 % 8 = (i 1).val / 64 by omega, show ((i 0).val * 512 + (i 1).val) % 64 = (i 1).val % 64 by omega,
    show ((i 0).val * 512 + (i 1).val) / 512 = (i 0).val by omega, show 64 * ((i 1).val / 64) + (i 1).val % 64 = (i 1).val by omega]

/-- The weights' gradient. -/
theorem pulls (h2 : Reads x2 C) (h3 : Reads x3 O) : Reads3 (val_main_v52 (F := Ideal) x2 x3) (pull C O) := fun i => by
  rw [val_main_v52_apply]
  refine sum_fin fun k => ?_
  rw [heads_do h3 _, heads_v h2 _, ← EReal.coe_mul]

/-- What the rows' sums take of the weights' gradient. -/
def drawn (A B C O : ℕ → ℕ → ℝ) (M : ℕ → ℕ → ℝ) (h r k : ℕ) : ℝ :=
  pull C O h r k * (1 / (mass (logit A B) M h r * mass (logit A B) M h r)) * expo (logit A B) M h r k

theorem drawns (h0 : Reads x0 A) (h1 : Reads x1 B) (h2 : Reads x2 C) (h3 : Reads x3 O) (hM : Reads (val_main_v15 (F := Ideal) x0 x1) M) :
    Reads3 (val_main_v57 (F := Ideal) x0 x1 x2 x3) (drawn A B C O M) := fun i => by
  have hL : mass (logit A B) M (i 0).val (i 1).val ≠ 0 := (mass_pos _ _ (i 1).isLt).ne'
  rw [val_main_v57_apply, val_main_v56_apply, val_main_v55_apply, val_main_v42_apply, val_main_v41_apply, val_main_v40_apply, pulls h2 h3 i,
    expos h0 h1 hM i, masses' h0 h1 hM _]
  show _ * Ideal.div (Ideal.ofBits .f32 0x3F800000#32)
    (((mass (logit A B) M (i 0).val (i 1).val : ℝ) : EReal) * ((mass (logit A B) M (i 0).val (i 1).val : ℝ) : EReal)) * _ = _
  rw [Ideal.ofBits_one_f32, ← EReal.coe_mul, ← EReal.coe_one, div_real (mul_ne_zero hL hL), ← EReal.coe_mul, ← EReal.coe_mul]
  rfl

theorem shares (h0 : Reads x0 A) (h1 : Reads x1 B) (h2 : Reads x2 C) (h3 : Reads x3 O) (hM : Reads (val_main_v15 (F := Ideal) x0 x1) M) :
    Reads (val_main_v58 (F := Ideal) x0 x1 x2 x3) fun h r => ∑ k ∈ Finset.range 4096, drawn A B C O M h r k := fun i => by
  rw [val_main_v58_apply, sum_fin (g := fun k => drawn A B C O M (i 0).val (i 1).val k) fun k => drawns h0 h1 h2 h3 hM _,
    show val_main_cst_11 (F := Ideal) (Shape.Idx.first Gen.h_S_) = (0 : EReal) from Ideal.ofBits_zero_f32, zero_add]

theorem shares' (h0 : Reads x0 A) (h1 : Reads x1 B) (h2 : Reads x2 C) (h3 : Reads x3 O) (hM : Reads (val_main_v15 (F := Ideal) x0 x1) M) :
    Reads (val_main_v63 (F := Ideal) x0 x1 x2 x3) fun h r => -(∑ k ∈ Finset.range 4096, drawn A B C O M h r k) := fun i => by
  have b0 : (i 0).val < 8 := (i 0).isLt
  have b1 : (i 1).val < 4096 := (i 1).isLt
  rw [val_main_v63_apply, Fin.sum_univ_one, val_main_v60_apply, val_main_v59_apply, shares h0 h1 h2 h3 hM _,
    show val_main_cst_12 (F := Ideal) (Shape.Idx.first Gen.h_S_) = (0 : EReal) from Ideal.ofBits_zero_f32, zero_add]
  show -((∑ k ∈ Finset.range 4096, drawn A B C O M ((((i 0).val * 4096 + (i 1).val) * 1 + 0) / 4096) ((((i 0).val * 4096 + (i 1).val) * 1 + 0) % 4096) k : ℝ) : EReal) = _
  rw [show (((i 0).val * 4096 + (i 1).val) * 1 + 0) / 4096 = (i 0).val by omega, show (((i 0).val * 4096 + (i 1).val) * 1 + 0) % 4096 = (i 1).val by omega,
    ← EReal.coe_neg]

/-- The gradient of the logits before the scale. -/
theorem backs (h0 : Reads x0 A) (h1 : Reads x1 B) (h2 : Reads x2 C) (h3 : Reads x3 O) (hM : Reads (val_main_v15 (F := Ideal) x0 x1) M) :
    Reads3 (val_main_v67 (F := Ideal) x0 x1 x2 x3) (back (logit A B) M (pull C O)) := fun i => by
  have hL : mass (logit A B) M (i 0).val (i 1).val ≠ 0 := (mass_pos _ _ (i 1).isLt).ne'
  rw [val_main_v67_apply, mask, val_main_v66_apply, val_main_v65_apply, val_main_v62_apply, val_main_v61_apply, val_main_v64_apply, pulls h2 h3 i,
    expos h0 h1 hM i, masses' h0 h1 hM _, shares' h0 h1 h2 h3 hM _, val_main_call1_v0_apply, val_main_call1_cst_apply,
    ← back_eq _ _ _ _ _ _ (i 1).isLt]
  show Scalar.select _ ((Ideal.div _ ((mass (logit A B) M (i 0).val (i 1).val : ℝ) : EReal) + _) * _) (Ideal.ofBits .f32 0#32) = _
  rw [div_real hL, ← EReal.coe_add, ← EReal.coe_mul, Ideal.ofBits_zero_f32]
  split
  · rfl
  · rename_i h
    show (0 : EReal) = _
    rw [show expo (logit A B) M (i 0).val (i 1).val (i 2).val = 0 by unfold expo; rw [if_neg h], mul_zero]
    rfl

/-- The gradient of the logits. -/
theorem backs' (h0 : Reads x0 A) (h1 : Reads x1 B) (h2 : Reads x2 C) (h3 : Reads x3 O) (hM : Reads (val_main_v15 (F := Ideal) x0 x1) M) :
    Reads3 (val_main_v69 (F := Ideal) x0 x1 x2 x3) fun h r c => back (logit A B) M (pull C O) h r c * sg := fun i => by
  rw [val_main_v69_apply, backs h0 h1 h2 h3 hM i, val_main_v68_apply, val_main_cst_13_apply, word_sg]
  show _ * _ = _
  rw [← EReal.coe_mul]

/-- The keys' gradient. -/
theorem dk_reads (h0 : Reads x0 A) (h1 : Reads x1 B) (h2 : Reads x2 C) (h3 : Reads x3 O) (hM : Reads (val_main_v15 (F := Ideal) x0 x1) M) :
    Reads (val_main_v73 (F := Ideal) x0 x1 x2 x3) fun c l => ∑ r ∈ Finset.range 4096, back (logit A B) M (pull C O) (l / 96) r c * sg * A r l := fun i => by
  rw [val_main_v73_apply, val_main_v72_apply, val_main_v70_apply]
  have b0 : (i 0).val < 4096 := (i 0).isLt
  have b1 : (i 1).val < 768 := (i 1).isLt
  refine sum_fin fun k => ?_
  rw [backs' h0 h1 h2 h3 hM _, heads_q h0 _, ← EReal.coe_mul]
  show ((back (logit A B) M (pull C O) (((i 0).val * 768 + (i 1).val) / 96 % 8) k.val (((i 0).val * 768 + (i 1).val) / 768) * sg
    * A k.val (96 * (((i 0).val * 768 + (i 1).val) / 96 % 8) + ((i 0).val * 768 + (i 1).val) % 96) : ℝ) : EReal) = _
  rw [show ((i 0).val * 768 + (i 1).val) / 96 % 8 = (i 1).val / 96 by omega, show ((i 0).val * 768 + (i 1).val) % 96 = (i 1).val % 96 by omega,
    show ((i 0).val * 768 + (i 1).val) / 768 = (i 0).val by omega, show 96 * ((i 1).val / 96) + (i 1).val % 96 = (i 1).val by omega]

/-- The queries' gradient. -/
theorem dq_reads (h0 : Reads x0 A) (h1 : Reads x1 B) (h2 : Reads x2 C) (h3 : Reads x3 O) (hM : Reads (val_main_v15 (F := Ideal) x0 x1) M) :
    Reads (val_main_v75 (F := Ideal) x0 x1 x2 x3) fun r l => ∑ c ∈ Finset.range 4096, back (logit A B) M (pull C O) (l / 96) r c * sg * B c l := fun i => by
  rw [val_main_v75_apply, val_main_v74_apply, val_main_v71_apply]
  have b0 : (i 0).val < 4096 := (i 0).isLt
  have b1 : (i 1).val < 768 := (i 1).isLt
  refine sum_fin fun k => ?_
  rw [backs' h0 h1 h2 h3 hM _, heads_k h1 _, ← EReal.coe_mul]
  show ((back (logit A B) M (pull C O) (((i 0).val * 768 + (i 1).val) / 96 % 8) (((i 0).val * 768 + (i 1).val) / 768) k.val * sg
    * B k.val (96 * (((i 0).val * 768 + (i 1).val) / 96 % 8) + ((i 0).val * 768 + (i 1).val) % 96) : ℝ) : EReal) = _
  rw [show ((i 0).val * 768 + (i 1).val) / 96 % 8 = (i 1).val / 96 by omega, show ((i 0).val * 768 + (i 1).val) % 96 = (i 1).val % 96 by omega,
    show ((i 0).val * 768 + (i 1).val) / 768 = (i 0).val by omega, show 96 * ((i 1).val / 96) + (i 1).val % 96 = (i 1).val by omega]

end Cert.Reference2Ideal.Mla

end
-- ==== Proof.Mla.Host.lean ====
/- What the kernel's host code hands to the attention gradient: its operands over real numbers. -/
module

public import proofs.«01_k».proof.Proof.Mla.Reference
public import proofs.«01_k».proof.Proof.Gen.Kernel2Ideal.Frame

@[expose] public section

set_option maxRecDepth 16384

noncomputable section

namespace Cert.Kernel2Ideal.Mla

open Idealize.ShloMosaic Idealize.ShloMosaic.Tactic Idealize.ShloMosaic.TcCoe Cert.Kernel2Ideal Cert.Kernel2Ideal.Gen Cert.Reals

/-- The heads' columns, each head padded to the lanes of a register. -/
def padded (x : FVec Ideal S4096x768 .f32) : FVec Ideal S4096x1024 .bf16 :=
  truncf (F := Ideal) .bf16 (shapeCast S4096x1024 (pad S4096x8x128 ![0, 0, 0] ![0, 0, 32] ![0, 0, 0]
    (shapeCast S4096x8x96 x shapeCasts_S4096x768_S4096x8x96) (sitofp (F := Ideal) .f32 (constantI S_ 32 0#32)) pads_S4096x8x96_S4096x8x128_000_000_0320 h_S_)
    shapeCasts_S4096x8x128_S4096x1024) bitsLt_bf16_f32

/-- The exponentials of the logits less their row's maximum. -/
def hostExp (x0 x1 : FVec Ideal S4096x768 .f32) : FVec Ideal S8x4096x4096 .f32 :=
  Host.exp (F := Ideal) (φ := .f32) (subf (F := Ideal) (φ := .f32) (Cert.Reference2Ideal.Read.val_main_v14_0 (F := Ideal) x0 x1)
    (broadcastInDim S8x4096x4096 ![0, 1, 2] bcast_S8x4096x1_S8x4096x4096_0_1_2
      (broadcastInDim S8x4096x1 ![0, 1] bcast_S8x4096_S8x4096x1_0_1 (Cert.Reference2Ideal.Read.val_main_v15 (F := Ideal) x0 x1))))

/-- The rows' sums. -/
def hostSum (x0 x1 : FVec Ideal S4096x768 .f32) : FVec Ideal S8x4096 .f32 :=
  Host.reduceAdd (F := Ideal) (φ := .f32) (hostExp x0 x1) (constant (F := Ideal) S_ .f32 0x00000000#32) reducesTo_S8x4096x4096_S8x4096_d2 h_S_

/-- The forward pass's output. -/
def hostOut (x0 x1 : FVec Ideal S4096x768 .f32) (x2 : FVec Ideal S4096x512 .f32) :
    FVec Ideal S8x4096x64 .f32 :=
  Host.divf (F := Ideal) (φ := .f32) (Host.dotGeneral (F := Ideal) (φ₁ := .f32) (φ₂ := .f32) dot_S8x4096x4096_S8x4096x64_S8x4096x64_2_1_1_2_0_0 none (hostExp x0 x1) (Cert.Reference2Ideal.Read.val_main_v44 (F := Ideal) x2))
    (broadcastInDim S8x4096x64 ![0, 1, 2] bcast_S8x4096x1_S8x4096x64_0_1_2 (broadcastInDim S8x4096x1 ![0, 1] bcast_S8x4096_S8x4096x1_0_1 (hostSum x0 x1)))

/-- The logarithm of the rows' sums, in powers of two. -/
def hostLse (x0 x1 : FVec Ideal S4096x768 .f32) : FVec Ideal S8x4096x1 .f32 :=
  mulf (F := Ideal) (φ := .f32) (addf (F := Ideal) (φ := .f32) (broadcastInDim S8x4096x1 ![0, 1] bcast_S8x4096_S8x4096x1_0_1 (Cert.Reference2Ideal.Read.val_main_v15 (F := Ideal) x0 x1))
      (Host.log (F := Ideal) (φ := .f32) (broadcastInDim S8x4096x1 ![0, 1] bcast_S8x4096_S8x4096x1_0_1 (hostSum x0 x1))))
    (broadcastInDim S8x4096x1 ![] bcast_S_S8x4096x1 (Host.divf (F := Ideal) (constant (F := Ideal) S_ .f32 0x3F800000#32) (Host.log (F := Ideal) (constant (F := Ideal) S_ .f32 0x40000000#32))))

/-- The rows' means of the weights' gradient. -/
def hostMean (x0 x1 : FVec Ideal S4096x768 .f32) (x2 x3 : FVec Ideal S4096x512 .f32) :
    FVec Ideal S8x4096x1 .f32 :=
  broadcastInDim S8x4096x1 ![0, 1] bcast_S8x4096_S8x4096x1_0_1
    (Host.reduceAdd (F := Ideal) (φ := .f32) (mulf (F := Ideal) (φ := .f32) (hostOut x0 x1 x2) (Cert.Reference2Ideal.Read.val_main_v49 (F := Ideal) x3)) (constant (F := Ideal) S_ .f32 0x00000000#32) reducesTo_S8x4096x64_S8x4096_d2 h_S_)

/-- Both statistics of the pairs' rows, two lanes each. -/
def stats (a b : FVec Ideal S8x4096x1 .f32) : FVec Ideal S4x4096x128 .f32 :=
  pad S4x4096x128 ![0, 0, 0] ![0, 0, 124] ![0, 0, 0]
    (shapeCast S4x4096x4 (transpose S4x4096x2x2 [0, 2, 3, 1] (shapeCast S4x2x4096x2
      (concatenate S8x4096x2 2 [⟨S8x4096x1, a⟩, ⟨S8x4096x1, b⟩] concatenates_S8x4096x1_S8x4096x1_S8x4096x2_d2)
      shapeCasts_S8x4096x2_S4x2x4096x2) transposes_S4x2x4096x2_S4x4096x2x2_0_2_3_1) shapeCasts_S4x4096x2x2_S4x4096x4)
    (sitofp (F := Ideal) .f32 (constantI S_ 32 0#32)) pads_S4x4096x4_S4x4096x128_000_000_01240 h_S_

variable (m : (ℓ : Loc nD τ sig) → Buf (Elt Ideal) ℓ)

/-- The queries' operand. -/
theorem V_q (c : Dev nD) : V m c main_v46 = padded (m ((c : Thread nD τ).loc main_arg0)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, hostOps0, hostOps0_1, hostOps0_2, hostOps0_3, hostOps0_4, hostOps0_5, hostOps0_6, hostOps0_7, hostOps0_8,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- Operations run one list after the other. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => rw [List.cons_append, StableHlo.after_cons, StableHlo.after_cons, ih]

/-- The buffers after the mask. -/
abbrev W1 (c : Dev nD) : Valuation τ sig (Elt Ideal) := StableHlo.after (hostOps0 ++ hostOps0_1) fun b => m (c, b)

theorem W1_keep (c : Dev nD) : W1 m c (Proc.devRef .tc main_v16) = Cert.Reference2Ideal.Read.val_main_v14_0 (F := Ideal) (m ((c : Thread nD τ).loc main_arg0)) (m ((c : Thread nD τ).loc main_arg1)) := by
  simp only [W1, hostOps0, hostOps0_1, List.cons_append, List.nil_append, StableHlo.TRef.nullary, StableHlo.TRef.binary, StableHlo.TRef.ternary, StableHlo.TRef.unary, StableHlo.TRef.toBuf, StableHlo.TRef.ofBuf, cast_eq]
  after_results_simp <;> rfl

theorem W1_log (c : Dev nD) : W1 m c (Proc.devRef .tc main_v1) = Host.divf (F := Ideal) (constant (F := Ideal) S_ .f32 0x3F800000#32) (Host.log (F := Ideal) (constant (F := Ideal) S_ .f32 0x40000000#32)) := by
  simp only [W1, hostOps0, hostOps0_1, List.cons_append, List.nil_append, StableHlo.TRef.nullary, StableHlo.TRef.binary, StableHlo.TRef.ternary, StableHlo.TRef.unary, StableHlo.TRef.toBuf, StableHlo.TRef.ofBuf, cast_eq]
  after_results_simp <;> rfl

theorem W1_v (c : Dev nD) : W1 m c (Proc.devRef .tc main_arg2) = m ((c : Thread nD τ).loc main_arg2) := by
  simp only [W1, hostOps0, hostOps0_1, List.cons_append, List.nil_append, StableHlo.TRef.nullary, StableHlo.TRef.binary, StableHlo.TRef.ternary, StableHlo.TRef.unary, StableHlo.TRef.toBuf, StableHlo.TRef.ofBuf, cast_eq]
  after_results_simp <;> rfl

theorem W1_do (c : Dev nD) : W1 m c (Proc.devRef .tc main_arg3) = m ((c : Thread nD τ).loc main_arg3) := by
  simp only [W1, hostOps0, hostOps0_1, List.cons_append, List.nil_append, StableHlo.TRef.nullary, StableHlo.TRef.binary, StableHlo.TRef.ternary, StableHlo.TRef.unary, StableHlo.TRef.toBuf, StableHlo.TRef.ofBuf, cast_eq]
  after_results_simp <;> rfl

/-- The buffers before both statistics meet. -/
abbrev W2 (c : Dev nD) : Valuation τ sig (Elt Ideal) := StableHlo.after (hostOps0_2.take 24) (W1 m c)

theorem W2_lse (c : Dev nD) : W2 m c (Proc.devRef .tc main_v32) = hostLse (m ((c : Thread nD τ).loc main_arg0)) (m ((c : Thread nD τ).loc main_arg1)) := by
  show StableHlo.after _ (W1 m c) _ = _
  have h16 := W1_keep m c
  have h1 := W1_log m c
  generalize W1 m c = W at *
  simp only [hostOps0_2, List.take_succ_cons, List.take_zero]
  after_results_simp
  rw [h16, h1]
  rfl

theorem W2_mean (c : Dev nD) : W2 m c (Proc.devRef .tc main_v37) = hostMean (m ((c : Thread nD τ).loc main_arg0)) (m ((c : Thread nD τ).loc main_arg1))
    (m ((c : Thread nD τ).loc main_arg2)) (m ((c : Thread nD τ).loc main_arg3)) := by
  show StableHlo.after _ (W1 m c) _ = _
  have h16 := W1_keep m c
  have hv := W1_v m c
  have ho := W1_do m c
  generalize W1 m c = W at *
  simp only [hostOps0_2, List.take_succ_cons, List.take_zero]
  after_results_simp
  rw [h16, hv, ho]
  rfl

/-- The statistics' operand. -/
theorem V_st (c : Dev nD) : V m c main_v42 = stats (hostLse (m ((c : Thread nD τ).loc main_arg0)) (m ((c : Thread nD τ).loc main_arg1)))
    (hostMean (m ((c : Thread nD τ).loc main_arg0)) (m ((c : Thread nD τ).loc main_arg1)) (m ((c : Thread nD τ).loc main_arg2)) (m ((c : Thread nD τ).loc main_arg3))) := by
  show StableHlo.after (List.flatten [hostOps0, hostOps0_1, hostOps0_2, hostOps0_3, hostOps0_4, hostOps0_5, hostOps0_6, hostOps0_7, hostOps0_8]) (fun b => m (c, b)) _ = _
  have e : (List.flatten [hostOps0, hostOps0_1, hostOps0_2, hostOps0_3, hostOps0_4, hostOps0_5, hostOps0_6, hostOps0_7, hostOps0_8] : List (HloOp τ sig (Elt Ideal)))
      = (hostOps0 ++ hostOps0_1) ++ (hostOps0_2.take 24 ++ (hostOps0_2.drop 24 ++ (hostOps0_3 ++ (hostOps0_4 ++ (hostOps0_5 ++ (hostOps0_6 ++ (hostOps0_7 ++ hostOps0_8))))))) := by
    rw [← List.append_assoc (hostOps0_2.take 24), List.take_append_drop]
    simp only [List.flatten_cons, List.flatten_nil, List.append_nil, List.append_assoc]
  rw [e, after_two, after_two]
  show StableHlo.after _ (W2 m c) _ = _
  rw [← W2_lse m c, ← W2_mean m c]
  generalize W2 m c = W
  simp only [hostOps0_2, hostOps0_3, hostOps0_4, hostOps0_5, hostOps0_6, hostOps0_7, hostOps0_8, List.cons_append, List.nil_append, List.drop_succ_cons, List.drop_zero, StableHlo.TRef.nullary, StableHlo.TRef.binary, StableHlo.TRef.ternary, StableHlo.TRef.unary, StableHlo.TRef.toBuf, StableHlo.TRef.ofBuf, cast_eq]
  after_results_simp
  rfl

/-- The keys' operand. -/
theorem V_k (c : Dev nD) : V m c main_v50 = padded (m ((c : Thread nD τ).loc main_arg1)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, hostOps0, hostOps0_1, hostOps0_2, hostOps0_3, hostOps0_4, hostOps0_5, hostOps0_6, hostOps0_7, hostOps0_8,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- The operand of the output's gradient. -/
theorem V_do (c : Dev nD) : V m c main_v51 = truncf (F := Ideal) .bf16 (m ((c : Thread nD τ).loc main_arg3)) bitsLt_bf16_f32 := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, hostOps0, hostOps0_1, hostOps0_2, hostOps0_3, hostOps0_4, hostOps0_5, hostOps0_6, hostOps0_7, hostOps0_8,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- The values' operand. -/
theorem V_v (c : Dev nD) : V m c main_v54 = truncf (F := Ideal) .bf16 (m ((c : Thread nD τ).loc main_arg2)) bitsLt_bf16_f32 := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, hostOps0, hostOps0_1, hostOps0_2, hostOps0_3, hostOps0_4, hostOps0_5, hostOps0_6, hostOps0_7, hostOps0_8,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- The turned queries. -/
theorem V_qt (c : Dev nD) : V m c main_v53 = transpose S8x1024x512 [0, 2, 1] (shapeCast S8x512x1024 (padded (m ((c : Thread nD τ).loc main_arg0))) shapeCasts_S4096x1024_S8x512x1024) transposes_S8x512x1024_S8x1024x512_0_2_1 := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, hostOps0, hostOps0_1, hostOps0_2, hostOps0_3, hostOps0_4, hostOps0_5, hostOps0_6, hostOps0_7, hostOps0_8,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- The turned gradient of the output. -/
theorem V_dot (c : Dev nD) : V m c main_v56 = transpose S8x512x512 [0, 2, 1] (shapeCast S8x512x512 (truncf (F := Ideal) .bf16 (m ((c : Thread nD τ).loc main_arg3)) bitsLt_bf16_f32) shapeCasts_S4096x512_S8x512x512) transposes_S8x512x512_S8x512x512_0_2_1 := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, hostOps0, hostOps0_1, hostOps0_2, hostOps0_3, hostOps0_4, hostOps0_5, hostOps0_6, hostOps0_7, hostOps0_8,
    List.cons_append, List.nil_append, StableHlo.TRef.nullary, StableHlo.TRef.binary, StableHlo.TRef.ternary, StableHlo.TRef.unary, StableHlo.TRef.toBuf, StableHlo.TRef.ofBuf, cast_eq]
  after_results_simp <;> rfl

end Cert.Kernel2Ideal.Mla

end
-- ==== Proof.Mla.Operands.lean ====
/- The operands of the attention gradient's kernel over real numbers. -/
module

public import proofs.«01_k».proof.Proof.Mla.Host
public import Idealize.ShloMosaic.Lib.IdealHost

@[expose] public section

set_option maxRecDepth 16384

noncomputable section

namespace Cert.Kernel2Ideal.Mla

open Idealize.ShloMosaic Idealize.ShloMosaic.Tactic Idealize.ShloMosaic.TcCoe Cert.Kernel2Ideal Cert.Kernel2Ideal.Gen Cert.Reals
open Cert.Reference2Ideal.Mla (logit pull masked heads_do heads_v)
open Cert.Reference2Ideal.Read (val_main_v15)

/-- A head's columns on the lanes of its register, zero on the further lanes. -/
def lanes (A : ℕ → ℕ → ℝ) (r l : ℕ) : ℝ := if l % 128 < 96 then A r (96 * (l / 128) + l % 128) else 0

theorem lanes_low (A : ℕ → ℕ → ℝ) (r h d : ℕ) (hd : d < 96) : lanes A r (128 * h + d) = A r (96 * h + d) := by
  unfold lanes
  rw [show (128 * h + d) % 128 = d by omega, show (128 * h + d) / 128 = h by omega, if_pos hd]

theorem zero_word : (sitofp (F := Ideal) .f32 (constantI S_ 32 0#32)) (Shape.Idx.first h_S_) = (0 : EReal) := by
  show ((((0#32 : BitVec 32).toInt : ℝ)) : EReal) = 0
  simp

theorem padded_reads {x : FVec Ideal S4096x768 .f32} {A : ℕ → ℕ → ℝ} (h : Reads x A) : Reads (padded x) (lanes A) := fun i => by
  have b0 : (i 0).val < 4096 := (i 0).isLt
  have b1 : (i 1).val < 1024 := (i 1).isLt
  let p : S4096x8x128.Idx := ValueIdx.ix3 ⟨(i 0).val, b0⟩ ⟨(i 1).val / 128, by omega⟩ ⟨(i 1).val % 128, by omega⟩
  unfold padded
  rw [ValueIdx.truncf_apply, shapeCast_apply _ shapeCasts_S4096x8x128_S4096x1024 i p (by
    rewrite [Shape.rowMajor_val_three, Shape.rowMajor_val_two]
    show ((i 0).val * 8 + (i 1).val / 128) * 128 + (i 1).val % 128 = (i 0).val * 1024 + (i 1).val
    omega)]
  unfold lanes
  by_cases hd : (i 1).val % 128 < 96
  · rw [if_pos hd]
    let k : S4096x8x96.Idx := ValueIdx.ix3 ⟨(i 0).val, b0⟩ ⟨(i 1).val / 128, by omega⟩ ⟨(i 1).val % 128, hd⟩
    rw [pad_apply_of_inside _ _ _ _ _ pads_S4096x8x96_S4096x8x128_000_000_0320 h_S_ p k (fun a => by
      match a with
      | ⟨0, _⟩ => show (i 0).val = 0 + (i 0).val * (0 + 1); omega
      | ⟨1, _⟩ => show (i 1).val / 128 = 0 + (i 1).val / 128 * (0 + 1); omega
      | ⟨2, _⟩ => show (i 1).val % 128 = 0 + (i 1).val % 128 * (0 + 1); omega)]
    let q : S4096x768.Idx := ValueIdx.ix2 ⟨(i 0).val, b0⟩ ⟨96 * ((i 1).val / 128) + (i 1).val % 128, by omega⟩
    rw [shapeCast_apply _ shapeCasts_S4096x768_S4096x8x96 k q (by
      rewrite [Shape.rowMajor_val_three, Shape.rowMajor_val_two]
      show (i 0).val * 768 + (96 * ((i 1).val / 128) + (i 1).val % 128) = ((i 0).val * 8 + (i 1).val / 128) * 96 + (i 1).val % 128
      omega)]
    exact h q
  · rw [if_neg hd]
    rw [pad_apply_of_not_inside _ _ _ _ _ pads_S4096x8x96_S4096x8x128_000_000_0320 h_S_ p (2 : Fin 3) (fun hin => hd (by
      have h3 := hin.2.2
      have h4 : ((i 1).val % 128 - 0) / (0 + 1) < 96 := h3
      omega)), zero_word]
    rfl

theorem column {a : FVec Ideal S8x4096 .f32} (i : S8x4096x1.Idx) (j : S8x4096.Idx) (h0 : (j 0).val = (i 0).val) (h1 : (j 1).val = (i 1).val) :
    broadcastInDim S8x4096x1 ![0, 1] bcast_S8x4096_S8x4096x1_0_1 a i = a j :=
  broadcastInDim_apply _ bcast_S8x4096_S8x4096x1_0_1 a i j fun d => by
    match d with
    | ⟨0, _⟩ => show (j 0).val = if (8 : ℕ) = 1 then 0 else (i 0).val; rw [if_neg (by decide)]; exact h0
    | ⟨1, _⟩ => show (j 1).val = if (4096 : ℕ) = 1 then 0 else (i 1).val; rw [if_neg (by decide)]; exact h1

/-- The host's product of the weights and the values, head by head. -/
theorem batch_dot (l : FVec Ideal S8x4096x4096 .f32) (x : FVec Ideal S8x4096x64 .f32) (i : S8x4096x64.Idx) :
    Host.dotGeneral (F := Ideal) (φ₁ := .f32) (φ₂ := .f32) dot_S8x4096x4096_S8x4096x64_S8x4096x64_2_1_1_2_0_0 none l x i
      = ∑ k : Fin 4096, l (ValueIdx.ix3 (i 0) (i 1) k) * x (ValueIdx.ix3 (i 0) k (i 2)) := by
  simp only [Host.dotGeneral]
  rw [Ideal.dotGeneral_apply, ← Equiv.sum_comp (ValueIdx.contrEquiv1 dot_S8x4096x4096_S8x4096x64_S8x4096x64_2_1_1_2_0_0 4096 rfl rfl).symm]
  refine Finset.sum_congr rfl fun k _ => ?_
  have hk := ValueIdx.contrEquiv1_symm_val dot_S8x4096x4096_S8x4096x64_S8x4096x64_2_1_1_2_0_0 4096 rfl rfl k
  refine congrArg₂ (fun a b => l a * x b) (funext fun a => Fin.ext ?_) (funext fun a => Fin.ext ?_)
  · match a with
    | ⟨0, _⟩ => exact Cert.Reference2Ideal.Read.lhs_main_v45_0 _ _
    | ⟨1, _⟩ => exact Cert.Reference2Ideal.Read.lhs_main_v45_1 _ _
    | ⟨2, _⟩ => exact (Cert.Reference2Ideal.Read.lhs_main_v45_2 _ _).trans hk
  · match a with
    | ⟨0, _⟩ => exact Cert.Reference2Ideal.Read.rhs_main_v45_0 _ _
    | ⟨1, _⟩ => exact (Cert.Reference2Ideal.Read.rhs_main_v45_1 _ _).trans hk
    | ⟨2, _⟩ => exact Cert.Reference2Ideal.Read.rhs_main_v45_2 _ _

variable {x0 x1 : FVec Ideal S4096x768 .f32} {x2 x3 : FVec Ideal S4096x512 .f32}
variable {A B C O : ℕ → ℕ → ℝ} {M : ℕ → ℕ → ℝ}

theorem hostExp_reads (h0 : Reads x0 A) (h1 : Reads x1 B) (hM : Reads (val_main_v15 (F := Ideal) x0 x1) M) :
    Reads3 (hostExp x0 x1) (expo (logit A B) M) := fun i => by
  let j : S8x4096.Idx := ValueIdx.ix2 (i 0) (i 1)
  let k : S8x4096x1.Idx := ValueIdx.ix3 (i 0) (i 1) 0
  have e : broadcastInDim S8x4096x4096 ![0, 1, 2] bcast_S8x4096x1_S8x4096x4096_0_1_2
      (broadcastInDim S8x4096x1 ![0, 1] bcast_S8x4096_S8x4096x1_0_1 (val_main_v15 (F := Ideal) x0 x1)) i = ((M (i 0).val (i 1).val : ℝ) : EReal) := by
    rw [broadcastInDim_apply _ bcast_S8x4096x1_S8x4096x4096_0_1_2 _ i k fun d => by
      match d with
      | ⟨0, _⟩ => show (i 0).val = if (8 : ℕ) = 1 then 0 else (i 0).val; rw [if_neg (by decide)]
      | ⟨1, _⟩ => show (i 1).val = if (4096 : ℕ) = 1 then 0 else (i 1).val; rw [if_neg (by decide)]
      | ⟨2, _⟩ => show (0 : ℕ) = if (1 : ℕ) = 1 then 0 else (i 2).val; rw [if_pos rfl], column k j rfl rfl]
    exact hM j
  show Ideal.exp (Cert.Reference2Ideal.Read.val_main_v14_0 (F := Ideal) x0 x1 i - _) = _
  rw [e, masked h0 h1 i]
  unfold expo
  split
  · rw [← EReal.coe_sub]; rfl
  · rw [EReal.bot_sub]; rfl

theorem hostSum_reads (h0 : Reads x0 A) (h1 : Reads x1 B) (hM : Reads (val_main_v15 (F := Ideal) x0 x1) M) :
    Reads (hostSum x0 x1) (mass (logit A B) M) := fun i => by
  unfold hostSum
  simp only [Host.reduceAdd, Ideal.hostReduceAdd_def]
  rw [Ideal.hostReduceAdd_single reducesTo_S8x4096x4096_S8x4096_d2 (by decide), sum_fin (g := fun k => expo (logit A B) M (i 0).val (i 1).val k) fun k => hostExp_reads h0 h1 hM _,
    show constant (F := Ideal) S_ .f32 0x00000000#32 (Shape.Idx.first h_S_) = (0 : EReal) from Ideal.ofBits_zero_f32, zero_add]
  rfl

/-- A row's logarithm of the sum, in powers of two. -/
def lse (A B : ℕ → ℕ → ℝ) (M : ℕ → ℕ → ℝ) (h r : ℕ) : ℝ := (M h r + Real.log (mass (logit A B) M h r)) * (1 / Real.log 2)

theorem log_two : Host.divf (F := Ideal) (constant (F := Ideal) S_ .f32 0x3F800000#32) (Host.log (F := Ideal) (constant (F := Ideal) S_ .f32 0x40000000#32)) (fun a => a.elim0)
    = ((1 / Real.log 2 : ℝ) : EReal) := by
  show Ideal.div (Ideal.ofBits .f32 0x3F800000#32) (Ideal.log (Ideal.ofBits .f32 0x40000000#32)) = _
  rw [show Ideal.ofBits .f32 0x40000000#32 = ((2 : ℝ) : EReal) by simp [Ideal.ofBits, Ideal.ieee, -EReal.coe_mul]; norm_num,
    show Ideal.log ((2 : ℝ) : EReal) = ((Real.log 2 : ℝ) : EReal) from if_neg (by norm_num), Ideal.ofBits_one_f32, ← EReal.coe_one,
    div_real (Real.log_pos one_lt_two).ne']

theorem hostLse_reads (h0 : Reads x0 A) (h1 : Reads x1 B) (hM : Reads (val_main_v15 (F := Ideal) x0 x1) M) (i : S8x4096x1.Idx) :
    hostLse x0 x1 i = ((lse A B M (i 0).val (i 1).val : ℝ) : EReal) := by
  let j : S8x4096.Idx := ValueIdx.ix2 (i 0) (i 1)
  have hp : 0 < mass (logit A B) M (i 0).val (i 1).val := mass_pos _ _ (i 1).isLt
  unfold hostLse
  rw [ValueIdx.mulf_apply, ValueIdx.addf_apply, column i j rfl rfl, hM j, broadcastInDim_apply _ bcast_S_S8x4096x1 _ i (fun a => a.elim0) (fun a => a.elim0), log_two]
  have e : Host.log (F := Ideal) (φ := .f32) (broadcastInDim S8x4096x1 ![0, 1] bcast_S8x4096_S8x4096x1_0_1 (hostSum x0 x1)) i
      = ((Real.log (mass (logit A B) M (i 0).val (i 1).val) : ℝ) : EReal) := by
    show Ideal.log (broadcastInDim S8x4096x1 ![0, 1] bcast_S8x4096_S8x4096x1_0_1 (hostSum x0 x1) i) = _
    rw [column i j rfl rfl, hostSum_reads h0 h1 hM j]
    exact if_neg (not_le.2 hp)
  rw [e]
  show (_ + _) * _ = _
  rw [← EReal.coe_add, ← EReal.coe_mul]
  rfl

theorem hostOut_reads (h0 : Reads x0 A) (h1 : Reads x1 B) (h2 : Reads x2 C) (hM : Reads (val_main_v15 (F := Ideal) x0 x1) M) :
    Reads3 (hostOut x0 x1 x2) fun h r e => (∑ c ∈ Finset.range 4096, expo (logit A B) M h r c * C c (64 * h + e)) / mass (logit A B) M h r := fun i => by
  let j : S8x4096.Idx := ValueIdx.ix2 (i 0) (i 1)
  let k : S8x4096x1.Idx := ValueIdx.ix3 (i 0) (i 1) 0
  have hp : mass (logit A B) M (i 0).val (i 1).val ≠ 0 := (mass_pos _ _ (i 1).isLt).ne'
  have e : broadcastInDim S8x4096x64 ![0, 1, 2] bcast_S8x4096x1_S8x4096x64_0_1_2 (broadcastInDim S8x4096x1 ![0, 1] bcast_S8x4096_S8x4096x1_0_1 (hostSum x0 x1)) i
      = ((mass (logit A B) M (i 0).val (i 1).val : ℝ) : EReal) := by
    rw [broadcastInDim_apply _ bcast_S8x4096x1_S8x4096x64_0_1_2 _ i k fun d => by
      match d with
      | ⟨0, _⟩ => show (i 0).val = if (8 : ℕ) = 1 then 0 else (i 0).val; rw [if_neg (by decide)]
      | ⟨1, _⟩ => show (i 1).val = if (4096 : ℕ) = 1 then 0 else (i 1).val; rw [if_neg (by decide)]
      | ⟨2, _⟩ => show (0 : ℕ) = if (1 : ℕ) = 1 then 0 else (i 2).val; rw [if_pos rfl], column k j rfl rfl]
    exact hostSum_reads h0 h1 hM j
  have d : Host.dotGeneral (F := Ideal) (φ₁ := .f32) (φ₂ := .f32) dot_S8x4096x4096_S8x4096x64_S8x4096x64_2_1_1_2_0_0 none (hostExp x0 x1)
      (Cert.Reference2Ideal.Read.val_main_v44 (F := Ideal) x2) i
      = ((∑ c ∈ Finset.range 4096, expo (logit A B) M (i 0).val (i 1).val c * C c (64 * (i 0).val + (i 2).val) : ℝ) : EReal) := by
    rw [batch_dot]
    exact sum_fin fun k => by rw [hostExp_reads h0 h1 hM _, heads_v h2 _, ← EReal.coe_mul]
  unfold hostOut
  rw [ValueIdx.hostDivf_apply, e, d]
  exact div_real hp

theorem hostMean_reads (h0 : Reads x0 A) (h1 : Reads x1 B) (h2 : Reads x2 C) (h3 : Reads x3 O) (hM : Reads (val_main_v15 (F := Ideal) x0 x1) M) (i : S8x4096x1.Idx) :
    hostMean x0 x1 x2 x3 i = ((mean (logit A B) M (pull C O) (i 0).val (i 1).val : ℝ) : EReal) := by
  let j : S8x4096.Idx := ValueIdx.ix2 (i 0) (i 1)
  unfold hostMean
  rw [column i j rfl rfl]
  simp only [Host.reduceAdd, Ideal.hostReduceAdd_def]
  rw [Ideal.hostReduceAdd_single reducesTo_S8x4096x64_S8x4096_d2 (by decide),
    sum_fin (g := fun e => (∑ c ∈ Finset.range 4096, expo (logit A B) M (i 0).val (i 1).val c * C c (64 * (i 0).val + e)) / mass (logit A B) M (i 0).val (i 1).val
      * O (i 1).val (64 * (i 0).val + e)) fun e => by
      rw [ValueIdx.mulf_apply, hostOut_reads h0 h1 h2 hM _, heads_do h3 _]
      show _ * _ = _
      rw [← EReal.coe_mul]
      rfl,
    show constant (F := Ideal) S_ .f32 0x00000000#32 (Shape.Idx.first h_S_) = (0 : EReal) from Ideal.ofBits_zero_f32, zero_add]
  refine congrArg _ ?_
  unfold mean soft pull
  simp only [Finset.sum_div, Finset.sum_mul, Finset.mul_sum]
  rw [Finset.sum_comm]
  exact Finset.sum_congr rfl fun c _ => Finset.sum_congr rfl fun e _ => by ring

end Cert.Kernel2Ideal.Mla

end
-- ==== Proof.Real.Attention.lean ====
/- The pieces of an attention's gradient on blocks of rows and columns, over real numbers. -/
module

public import proofs.«01_k».proof.Proof.Real.Reads

@[expose] public section

set_option maxRecDepth 16384

noncomputable section

namespace Cert.Reals

open Idealize.ShloMosaic

variable {m : ℕ}

/-- A column of a matrix, spread over `n` lanes. -/
theorem Reads.column {w n b : ℕ} {x : (⟨2, ![m, w]⟩ : Shape).Idx → EReal} {f : ℕ → ℕ → ℝ} (hx : Reads x f) (hm : m ≠ 1)
    (hs : (⟨2, ![m, w]⟩ : Shape).Slices ![0, b] ⟨2, ![m, 1]⟩) (hb : (⟨2, ![m, 1]⟩ : Shape).Broadcasts ⟨2, ![m, n]⟩) :
    Reads (broadcastTo ⟨2, ![m, n]⟩ (extractStridedSlice ⟨2, ![m, 1]⟩ ![0, b] x hs) hb) fun r _ => f r b :=
  ((hx.cut hs).spread hm hb).congr fun r c _ _ => by rw [Nat.zero_add, Nat.add_zero]

/-- Lanes from `b`. -/
theorem Reads.lanes {w n b : ℕ} {x : (⟨2, ![m, w]⟩ : Shape).Idx → EReal} {f : ℕ → ℕ → ℝ} (hx : Reads x f)
    (hs : (⟨2, ![m, w]⟩ : Shape).Slices ![0, b] ⟨2, ![m, n]⟩) :
    Reads (extractStridedSlice ⟨2, ![m, n]⟩ ![0, b] x hs) fun r c => f r (b + c) :=
  (hx.cut hs).congr fun r c _ _ => by rw [Nat.zero_add]

/-- Rows from `a`. -/
theorem Reads.rows {M n a : ℕ} {x : (⟨2, ![M, n]⟩ : Shape).Idx → EReal} {f : ℕ → ℕ → ℝ} (hx : Reads x f)
    (hs : (⟨2, ![M, n]⟩ : Shape).Slices ![a, 0] ⟨2, ![m, n]⟩) :
    Reads (extractStridedSlice ⟨2, ![m, n]⟩ ![a, 0] x hs) fun r c => f (a + r) c :=
  (hx.cut hs).congr fun r c _ _ => by rw [Nat.zero_add]

/-- The weights of a block: powers of two of the products of queries and keys less column `b` of the statistics. -/
theorem prob {n w b : ℕ} {q : FVec Ideal ⟨2, ![m, 128]⟩ .bf16} {k : FVec Ideal ⟨2, ![n, 128]⟩ .bf16} {s : FVec Ideal ⟨2, ![m, w]⟩ .f32}
    {fq fk fs : ℕ → ℕ → ℝ} (hq : Reads q fq) (hk : Reads k fk) (hs : Reads s fs) (hm : m ≠ 1)
    (h1 : (⟨2, ![m, w]⟩ : Shape).Slices ![0, b] ⟨2, ![m, 1]⟩) (h2 : (⟨2, ![m, 1]⟩ : Shape).Broadcasts ⟨2, ![m, n]⟩) :
    Reads (exp2 (subf (matmul (DotDims.transposedRhs m 128 n) none q k (constant ⟨2, ![m, n]⟩ .f32 0x00000000#32))
      (broadcastTo ⟨2, ![m, n]⟩ (extractStridedSlice ⟨2, ![m, 1]⟩ ![0, b] s h1) h2)))
      fun r c => (2 : ℝ) ^ ((∑ l ∈ Finset.range 128, fq r l * fk c l) - fs r b) :=
  ((hq.dotT hk rfl).sub (hs.column hm h1 h2)).exp2

/-- The weights of a block on the diagonal. -/
theorem probLower {w b : ℕ} {q : FVec Ideal ⟨2, ![512, 128]⟩ .bf16} {k : FVec Ideal ⟨2, ![512, 128]⟩ .bf16} {s : FVec Ideal ⟨2, ![512, w]⟩ .f32}
    {fq fk fs : ℕ → ℕ → ℝ} (hq : Reads q fq) (hk : Reads k fk) (hs : Reads s fs)
    (h1 : (⟨2, ![512, w]⟩ : Shape).Slices ![0, b] ⟨2, ![512, 1]⟩) (h2 : (⟨2, ![512, 1]⟩ : Shape).Broadcasts ⟨2, ![512, 512]⟩)
    (h3 : (⟨2, ![512, 512]⟩ : Shape).Iotas .tc 32 [0]) (h4 : (⟨2, ![512, 512]⟩ : Shape).Iotas .tc 32 [1]) :
    Reads (exp2 (subf (select (cmpi .sle (iota .tc ⟨2, ![512, 512]⟩ 32 [1] h4) (iota .tc ⟨2, ![512, 512]⟩ 32 [0] h3))
      (matmul (DotDims.transposedRhs 512 128 512) none q k (constant ⟨2, ![512, 512]⟩ .f32 0x00000000#32))
      (broadcast ⟨2, ![512, 512]⟩ (Scalar.ofBits .f32 0xFF800000#32)))
      (broadcastTo ⟨2, ![512, 512]⟩ (extractStridedSlice ⟨2, ![512, 1]⟩ ![0, b] s h1) h2)))
      fun r c => if c ≤ r then (2 : ℝ) ^ ((∑ l ∈ Finset.range 128, fq r l * fk c l) - fs r b) else 0 :=
  Reads.lower (hq.dotT hk rfl) (hs.column (by decide) h1 h2) h3 h4

/-- The gradient of the logits of a block. -/
theorem grad {n w b : ℕ} {p : FVec Ideal ⟨2, ![m, n]⟩ .f32} {o : FVec Ideal ⟨2, ![m, 128]⟩ .bf16} {v : FVec Ideal ⟨2, ![n, 128]⟩ .bf16}
    {s : FVec Ideal ⟨2, ![m, w]⟩ .f32} {fp fo fv fs : ℕ → ℕ → ℝ} (hp : Reads p fp) (ho : Reads o fo) (hv : Reads v fv) (hs : Reads s fs)
    (hm : m ≠ 1) (h1 : (⟨2, ![m, w]⟩ : Shape).Slices ![0, b] ⟨2, ![m, 1]⟩) (h2 : (⟨2, ![m, 1]⟩ : Shape).Broadcasts ⟨2, ![m, n]⟩) :
    Reads (mulf p (subf (matmul (DotDims.transposedRhs m 128 n) none o v (constant ⟨2, ![m, n]⟩ .f32 0x00000000#32))
      (broadcastTo ⟨2, ![m, n]⟩ (extractStridedSlice ⟨2, ![m, 1]⟩ ![0, b] s h1) h2)))
      fun r c => fp r c * ((∑ l ∈ Finset.range 128, fo r l * fv c l) - fs r b) :=
  hp.mul ((ho.dotT hv rfl).sub (hs.column hm h1 h2))

/-- An accumulator and the product of some of the rows of `x` with `p`. -/
theorem accum {M K n a : ℕ} {φ : FTy} {x : FVec Ideal ⟨2, ![M, K]⟩ φ} {p : FVec Ideal ⟨2, ![K, n]⟩ φ} {c : FVec Ideal ⟨2, ![m, n]⟩ .f32}
    {fx fp fc : ℕ → ℕ → ℝ} (hc : Reads c fc) (hx : Reads x fx) (hp : Reads p fp)
    (hs : (⟨2, ![M, K]⟩ : Shape).Slices ![a, 0] ⟨2, ![m, K]⟩) :
    Reads (addf c (matmul (DotDims.plain m K n) none (extractStridedSlice ⟨2, ![m, K]⟩ ![a, 0] x hs) p (constant ⟨2, ![m, n]⟩ .f32 0x00000000#32)))
      fun r l => fc r l + ∑ i ∈ Finset.range K, fx (a + r) i * fp i l :=
  hc.add ((hx.rows hs).dot hp rfl)

/-- The queries' gradient of a pair of heads side by side, scaled, onto what was there. -/
theorem queries {n : ℕ} {d : FVec Ideal ⟨2, ![m, 256]⟩ .f32} {g0 g1 : FVec Ideal ⟨2, ![m, n]⟩ .bf16} {k0 k1 : FVec Ideal ⟨2, ![n, 128]⟩ .bf16}
    {fd f0 f1 e0 e1 : ℕ → ℕ → ℝ} (hd : Reads d fd) (h0 : Reads g0 f0) (h1 : Reads g1 f1) (i0 : Reads k0 e0) (i1 : Reads k1 e1)
    {s : Ideal .f32} {a : ℝ} (hs : s = ((a : ℝ) : EReal)) (hc : (⟨2, ![m, 256]⟩ : Shape).ShapeCasts ⟨2, ![m, 256]⟩)
    (hcat : Shape.Concatenates [⟨2, ![m, 128]⟩, ⟨2, ![m, 128]⟩] ⟨2, ![m, 256]⟩ (1 : Fin 2)) :
    Reads (addf (shapeCast ⟨2, ![m, 256]⟩ d hc) (mulf (concatenate ⟨2, ![m, 256]⟩ (1 : Fin 2)
      [⟨⟨2, ![m, 128]⟩, matmul (DotDims.plain m n 128) none g0 k0 (constant ⟨2, ![m, 128]⟩ .f32 0x00000000#32)⟩,
       ⟨⟨2, ![m, 128]⟩, matmul (DotDims.plain m n 128) none g1 k1 (constant ⟨2, ![m, 128]⟩ .f32 0x00000000#32)⟩] hcat)
      (broadcast ⟨2, ![m, 256]⟩ s)))
      fun r l => fd r l + (if l < 128 then ∑ c ∈ Finset.range n, f0 r c * e0 c l else ∑ c ∈ Finset.range n, f1 r c * e1 c (l - 128)) * a :=
  (hd.same hc).add (((h0.dot i0 rfl).beside (h1.dot i1 rfl) hcat).scale hs)

end Cert.Reals

end
-- ==== Proof.Mla.Block.lean ====
/- The attention gradient's blocks over real numbers: what each kind of row block adds. -/
module

public import proofs.«01_k».proof.Proof.Mla.Step
public import proofs.«01_k».proof.Proof.Real.Attention

@[expose] public section

set_option maxRecDepth 16384

noncomputable section

namespace Cert.Kernel2Ideal.Mla

open Idealize.ShloMosaic Cert.Kernel2Ideal.Gen Cert.Reals

/-- The scale of the logits: the number nearest to one over the root of `96` among those a word holds. -/
def sg : ℝ := 3424635 / 33554432

/-- The scale in powers of two. -/
def s2 : ℝ := 3424635 / 33554432 * (Real.log 2)⁻¹

theorem word_sg : (Scalar.ofBits .f32 0x3DD105EC#32 : Ideal .f32) = ((sg : ℝ) : EReal) := by
  show Ideal.ofBits .f32 0x3DD105EC#32 = _
  unfold sg
  simp [Ideal.ofBits, Ideal.ieee, -EReal.coe_mul]
  norm_num

theorem named_s2 : (Named.named κ "s2" 0x3E16C740#32 : Ideal .f32) = ((s2 : ℝ) : EReal) :=
  IdealRules.named_const.ideal_named_scalar _ _ _ _ rfl

theorem named_ln2 : (Named.named κ "ln2" 0x3F317218#32 : Ideal .f32) = ((Real.log 2 : ℝ) : EReal) :=
  IdealRules.named_const.ideal_named_scalar _ _ _ _ rfl

/-- The weights of head `n` of the pair, from the scaled queries `q`, the keys `k` and the statistics `s`. -/
def wt (q k s : ℕ → ℕ → ℝ) (n r c : ℕ) : ℝ := (2 : ℝ) ^ ((∑ l ∈ Finset.range 128, q r (128 * n + l) * s2 * k c (128 * n + l)) - s r n)

/-- The same on the diagonal. -/
def wtLow (q k s : ℕ → ℕ → ℝ) (n r c : ℕ) : ℝ := if c ≤ r then wt q k s n r c else 0

/-- The gradient of the logits. -/
def gr (p : ℕ → ℕ → ℕ → ℝ) (o v s : ℕ → ℕ → ℝ) (n r c : ℕ) : ℝ :=
  p n r c * ((∑ l ∈ Finset.range 64, o r (64 * n + l) * v c (64 * n + l)) - s r (2 + n))

/-- The accumulators hold the keys' gradient `fk` and the values' gradient `fv` of the pair's heads. -/
def Holds (a : Carry Ideal) (fk fv : ℕ → ℕ → ℕ → ℝ) : Prop :=
  Reads a.1 (fk 0) ∧ Reads a.2.1 (fv 0) ∧ Reads a.2.2.1 (fk 1) ∧ Reads a.2.2.2 (fv 1)

/-- What `R` rows with weights `p` add. -/
def Adds (R : ℕ) (p : ℕ → ℕ → ℕ → ℝ) (qt ot o v s k : ℕ → ℕ → ℝ) (fk fv : ℕ → ℕ → ℕ → ℝ) (fd : ℕ → ℕ → ℝ)
    (r : Carry Ideal × Vec Ideal ⟨2, ![R, 256]⟩ .f32) : Prop :=
  Holds r.1 (fun n d c => fk n d c + ∑ i ∈ Finset.range R, qt (128 * n + d) i * s2 * gr p o v s n i c)
      (fun n e c => fv n e c + ∑ i ∈ Finset.range R, ot (64 * n + e) i * p n i c)
    ∧ Reads r.2 fun i l => fd i l + (∑ c ∈ Finset.range 512, gr p o v s (l / 128) i c * k c l) * sg

theorem low_sum (f g : ℕ → ℝ) : ∑ l ∈ Finset.range 128, (if l < 64 then f l else 0) * g l = ∑ l ∈ Finset.range 64, f (64 * 0 + l) * g (64 * 0 + l) := by
  rw [show (128 : ℕ) = 64 + 64 from rfl, Finset.sum_range_add, Finset.sum_eq_zero (s := Finset.range 64) (f := fun x => (if 64 + x < 64 then f (64 + x) else 0) * g (64 + x))
    (fun l _ => by rw [if_neg (by omega), zero_mul]), add_zero]
  exact Finset.sum_congr rfl fun l hl => by rw [if_pos (Finset.mem_range.mp hl), Nat.mul_zero, Nat.zero_add]

theorem high_sum (f g : ℕ → ℝ) : ∑ l ∈ Finset.range 128, (if 64 ≤ l then f l else 0) * g l = ∑ l ∈ Finset.range 64, f (64 * 1 + l) * g (64 * 1 + l) := by
  rw [show (128 : ℕ) = 64 + 64 from rfl, Finset.sum_range_add, Finset.sum_eq_zero (s := Finset.range 64) (f := fun x => (if 64 ≤ x then f x else 0) * g x)
    (fun l hl => by rw [if_neg (by have := Finset.mem_range.mp hl; omega), zero_mul]), zero_add]
  exact Finset.sum_congr rfl fun l hl => by rw [if_pos (by omega), Nat.mul_one]

variable {x : Ins Ideal} {k v : ℕ → ℕ → ℝ} (hk : Reads x.k k) (hv : Reads x.v v)

include hk in
theorem keys0 : Reads (k0_pay88 x.k) fun c l => k c (0 + l) := (hk.same _).lanes slices_S512x256_o0_0_S512x128
include hk in
theorem keys1 : Reads (k0_pay89 x.k) fun c l => k c (128 + l) := (hk.same _).lanes slices_S512x256_o0_128_S512x128
include hv in
theorem vals : Reads (k0_pay87 x.v) v := hv.same _

section One

variable {q : Vec Ideal S512x256 .bf16} {qt : Vec Ideal S1x256x512 .bf16} {o : Vec Ideal S512x128 .bf16} {ot : Vec Ideal S1x128x512 .bf16}
  {st : Vec Ideal S1x512x128 .f32} {fq fo : ℕ → ℕ → ℝ} {ft fot fs : ℕ → ℕ → ℕ → ℝ}
  (hq : Reads q fq) (ht : Reads3 qt ft) (ho : Reads o fo) (hot : Reads3 ot fot) (hs : Reads3 st fs)

include hq in
theorem one_q0 : Reads (k0_pay10 q) fun r l => fq r (0 + l) * s2 := ((hq.same _).scale named_s2).lanes slices_S512x256_o0_0_S512x128
include hq in
theorem one_q1 : Reads (k0_pay11 q) fun r l => fq r (128 + l) * s2 := ((hq.same _).scale named_s2).lanes slices_S512x256_o0_128_S512x128
include ht in
theorem one_qt : Reads (k0_pay12 qt) fun r l => ft 0 r l * s2 := (ht.drop _).scale named_s2
include ho in
theorem one_o0 : Reads (k0_pay15 o) fun r l => if l < 64 then fo r l else 0 := (ho.same _).low (fun _ => Ideal.ofBits_zero_f32) _ _ _
include ho in
theorem one_o1 : Reads (k0_pay16 o) fun r l => if 64 ≤ l then fo r l else 0 := (ho.same _).high (fun _ => Ideal.ofBits_zero_f32) _ _ _
include hot in
theorem one_ot : Reads (k0_pay17 ot) (fot 0) := hot.drop _
include hs in
theorem one_st : Reads (k0_pay18 st) (fs 0) := hs.drop _

include hk hq hs in
theorem one_p0 : Reads (k0_pay19 (k0_pay88 x.k) (k0_pay10 q) st) (wt fq k (fs 0) 0) :=
  (prob (one_q0 hq) (keys0 hk) (one_st hs) (by decide) _ _).congr fun r c _ _ => by unfold wt; simp only [Nat.mul_zero]
include hk hq hs in
theorem one_p1 : Reads (k0_pay23 (k0_pay89 x.k) (k0_pay11 q) st) (wt fq k (fs 0) 1) :=
  (prob (one_q1 hq) (keys1 hk) (one_st hs) (by decide) _ _).congr fun r c _ _ => by unfold wt; simp only [Nat.mul_one]
include hk hv hq hs ho in
theorem one_g0 : Reads (k0_pay20 (k0_pay87 x.v) (k0_pay88 x.k) (k0_pay10 q) (k0_pay15 o) st) (gr (wt fq k (fs 0)) fo v (fs 0) 0) :=
  (grad (one_p0 hk hq hs) (one_o0 ho) (vals hv) (one_st hs) (by decide) _ _).congr fun r c _ _ => by
    unfold gr; rw [low_sum]
include hk hv hq hs ho in
theorem one_g1 : Reads (k0_pay24 (k0_pay87 x.v) (k0_pay89 x.k) (k0_pay11 q) (k0_pay16 o) st) (gr (wt fq k (fs 0)) fo v (fs 0) 1) :=
  (grad (one_p1 hk hq hs) (one_o1 ho) (vals hv) (one_st hs) (by decide) _ _).congr fun r c _ _ => by
    unfold gr; rw [high_sum]

include hk hv hq ht ho hot hs in
/-- A block of 512 rows below the diagonal. -/
theorem oneOf_adds {a : Carry Ideal} {d : Vec Ideal S512x256 .f32} {fk fv : ℕ → ℕ → ℕ → ℝ} {fd : ℕ → ℕ → ℝ} (ha : Holds a fk fv) (hd : Reads d fd) :
    Adds 512 (wt fq k (fs 0)) (ft 0) (fot 0) fo v (fs 0) k fk fv fd (oneOf x q qt o ot st a d) :=
  ⟨⟨(accum ha.1 (one_qt ht) (one_g0 hk hv hq ho hs) _).congr fun r c _ _ => by simp only [Nat.mul_zero],
    (accum ha.2.1 (one_ot hot) (one_p0 hk hq hs) _).congr fun r c _ _ => by simp only [Nat.mul_zero],
    (accum ha.2.2.1 (one_qt ht) (one_g1 hk hv hq ho hs) _).congr fun r c _ _ => by simp only [Nat.mul_one],
    (accum ha.2.2.2 (one_ot hot) (one_p1 hk hq hs) _).congr fun r c _ _ => by simp only [Nat.mul_one]⟩,
   (queries hd (one_g0 hk hv hq ho hs) (one_g1 hk hv hq ho hs) (keys0 hk) (keys1 hk) word_sg _ _).congr fun r l _ hl => by
    by_cases h : l < 128
    · rw [if_pos h, Nat.div_eq_of_lt h]; simp only [Nat.zero_add]
    · rw [if_neg h, show l / 128 = 1 by omega]; simp only [show 128 + (l - 128) = l by omega]⟩

end One

section Diag

variable {q : Vec Ideal S512x256 .bf16} {qt : Vec Ideal S1x256x512 .bf16} {o : Vec Ideal S512x128 .bf16} {ot : Vec Ideal S1x128x512 .bf16}
  {st : Vec Ideal S1x512x128 .f32} {fq fo : ℕ → ℕ → ℝ} {ft fot fs : ℕ → ℕ → ℕ → ℝ}
  (hq : Reads q fq) (ht : Reads3 qt ft) (ho : Reads o fo) (hot : Reads3 ot fot) (hs : Reads3 st fs)

include ho in
theorem diag_o1 : Reads (k0_pay101 (k0_pay98 o)) fun r l => if 64 ≤ l then fo r l else 0 := (ho.same _).high (fun _ => Ideal.ofBits_zero_f32) _ _ _

include hk hq hs in
theorem diag_p0 : Reads (k0_pay104 (k0_pay88 x.k) (k0_pay95 q) st) (wtLow fq k (fs 0) 0) :=
  (probLower (one_q0 hq) (keys0 hk) (one_st hs) _ _ _ _).congr fun r c _ _ => by unfold wtLow wt; simp only [Nat.mul_zero]
include hk hq hs in
theorem diag_p1 : Reads (k0_pay108 (k0_pay89 x.k) (k0_pay96 q) (k0_pay103 st)) (wtLow fq k (fs 0) 1) :=
  (probLower (one_q1 hq) (keys1 hk) (one_st hs) _ _ _ _).congr fun r c _ _ => by unfold wtLow wt; simp only [Nat.mul_one]
include hk hv hq hs ho in
theorem diag_g0 : Reads (k0_pay105 (k0_pay87 x.v) (k0_pay88 x.k) (k0_pay95 q) (k0_pay98 o) st) (gr (wtLow fq k (fs 0)) fo v (fs 0) 0) :=
  (grad (diag_p0 hk hq hs) (one_o0 ho) (vals hv) (one_st hs) (by decide) _ _).congr fun r c _ _ => by
    unfold gr; rw [low_sum]
include hk hv hq hs ho in
theorem diag_g1 : Reads (k0_pay109 (k0_pay87 x.v) (k0_pay89 x.k) (k0_pay96 q) (k0_pay101 (k0_pay98 o)) (k0_pay103 st)) (gr (wtLow fq k (fs 0)) fo v (fs 0) 1) :=
  (grad (diag_p1 hk hq hs) (diag_o1 ho) (vals hv) (one_st hs) (by decide) _ _).congr fun r c _ _ => by
    unfold gr; rw [high_sum]

include hk hv hq ht ho hot hs in
/-- The block of 512 rows on the diagonal; the accumulators start from zero. -/
theorem diagOf_adds {d : Vec Ideal S512x256 .f32} {fd : ℕ → ℕ → ℝ} (hd : Reads d fd) :
    Adds 512 (wtLow fq k (fs 0)) (ft 0) (fot 0) fo v (fs 0) k (fun _ _ _ => 0) (fun _ _ _ => 0) fd (diagOf x q qt o ot st d) :=
  ⟨⟨(accum Reads.zero (one_qt ht) (diag_g0 hk hv hq ho hs) _).congr fun r c _ _ => by simp only [Nat.mul_zero],
    (accum Reads.zero (one_ot hot) (diag_p0 hk hq hs) _).congr fun r c _ _ => by simp only [Nat.mul_zero],
    (accum Reads.zero (one_qt ht) (diag_g1 hk hv hq ho hs) _).congr fun r c _ _ => by simp only [Nat.mul_one],
    (accum Reads.zero (one_ot hot) (diag_p1 hk hq hs) _).congr fun r c _ _ => by simp only [Nat.mul_one]⟩,
   (queries hd (diag_g0 hk hv hq ho hs) (diag_g1 hk hv hq ho hs) (keys0 hk) (keys1 hk) word_sg _ _).congr fun r l _ hl => by
    by_cases h : l < 128
    · rw [if_pos h, Nat.div_eq_of_lt h]; simp only [Nat.zero_add]
    · rw [if_neg h, show l / 128 = 1 by omega]; simp only [show 128 + (l - 128) = l by omega]⟩

end Diag

section Two

variable {q : Vec Ideal S1024x256 .bf16} {qt0 qt1 : Vec Ideal S1x256x512 .bf16} {o : Vec Ideal S1024x128 .bf16} {ot0 ot1 : Vec Ideal S1x128x512 .bf16}
  {st : Vec Ideal S1x1024x128 .f32} {fq fo : ℕ → ℕ → ℝ} {ft0 ft1 fot0 fot1 fs : ℕ → ℕ → ℕ → ℝ}
  (hq : Reads q fq) (ht0 : Reads3 qt0 ft0) (ht1 : Reads3 qt1 ft1) (ho : Reads o fo) (hot0 : Reads3 ot0 fot0) (hot1 : Reads3 ot1 fot1) (hs : Reads3 st fs)

include hq in
theorem two_q0 : Reads (k0_pay48 q) fun r l => fq r (0 + l) * s2 := ((hq.same _).scale named_s2).lanes slices_S1024x256_o0_0_S1024x128
include hq in
theorem two_q1 : Reads (k0_pay49 q) fun r l => fq r (128 + l) * s2 := ((hq.same _).scale named_s2).lanes slices_S1024x256_o0_128_S1024x128
include ht0 ht1 in
theorem two_qt : Reads (k0_pay50 qt0 qt1) fun r l => (if l < 512 then ft0 0 r l else ft1 0 r (l - 512)) * s2 :=
  ((ht0.drop _).beside (ht1.drop _) concatenates_S256x512_S256x512_S256x1024_d1).scale named_s2
include ho in
theorem two_o0 : Reads (k0_pay53 o) fun r l => if l < 64 then fo r l else 0 := (ho.same _).low (fun _ => Ideal.ofBits_zero_f32) _ _ _
include ho in
theorem two_o1 : Reads (k0_pay54 o) fun r l => if 64 ≤ l then fo r l else 0 := (ho.same _).high (fun _ => Ideal.ofBits_zero_f32) _ _ _
include hot0 hot1 in
theorem two_ot : Reads (k0_pay55 ot0 ot1) fun r l => if l < 512 then fot0 0 r l else fot1 0 r (l - 512) :=
  (hot0.drop _).beside (hot1.drop _) concatenates_S128x512_S128x512_S128x1024_d1
include hs in
theorem two_st : Reads (k0_pay56 st) (fs 0) := hs.drop _

include hk hq hs in
theorem two_p0 : Reads (k0_pay57 (k0_pay88 x.k) (k0_pay48 q) st) (wt fq k (fs 0) 0) :=
  (prob (two_q0 hq) (keys0 hk) (two_st hs) (by decide) _ _).congr fun r c _ _ => by unfold wt; simp only [Nat.mul_zero]
include hk hq hs in
theorem two_p1 : Reads (k0_pay62 (k0_pay89 x.k) (k0_pay49 q) st) (wt fq k (fs 0) 1) :=
  (prob (two_q1 hq) (keys1 hk) (two_st hs) (by decide) _ _).congr fun r c _ _ => by unfold wt; simp only [Nat.mul_one]
include hk hv hq hs ho in
theorem two_g0 : Reads (k0_pay58 (k0_pay87 x.v) (k0_pay88 x.k) (k0_pay48 q) (k0_pay53 o) st) (gr (wt fq k (fs 0)) fo v (fs 0) 0) :=
  (grad (two_p0 hk hq hs) (two_o0 ho) (vals hv) (two_st hs) (by decide) _ _).congr fun r c _ _ => by
    unfold gr; rw [low_sum]
include hk hv hq hs ho in
theorem two_g1 : Reads (k0_pay63 (k0_pay87 x.v) (k0_pay89 x.k) (k0_pay49 q) (k0_pay54 o) st) (gr (wt fq k (fs 0)) fo v (fs 0) 1) :=
  (grad (two_p1 hk hq hs) (two_o1 ho) (vals hv) (two_st hs) (by decide) _ _).congr fun r c _ _ => by
    unfold gr; rw [high_sum]

include hk hv hq ht0 ht1 ho hot0 hot1 hs in
/-- Two blocks of rows at once. -/
theorem twoOf_adds {a : Carry Ideal} {d : Vec Ideal S1024x256 .f32} {fk fv : ℕ → ℕ → ℕ → ℝ} {fd : ℕ → ℕ → ℝ} (ha : Holds a fk fv) (hd : Reads d fd) :
    Adds 1024 (wt fq k (fs 0)) (fun r l => if l < 512 then ft0 0 r l else ft1 0 r (l - 512))
      (fun r l => if l < 512 then fot0 0 r l else fot1 0 r (l - 512)) fo v (fs 0) k fk fv fd (twoOf x q qt0 qt1 o ot0 ot1 st a d) :=
  ⟨⟨(accum ha.1 (two_qt ht0 ht1) (two_g0 hk hv hq ho hs) _).congr fun r c _ _ => by simp only [Nat.mul_zero],
    (accum ha.2.1 (two_ot hot0 hot1) (two_p0 hk hq hs) _).congr fun r c _ _ => by simp only [Nat.mul_zero],
    (accum ha.2.2.1 (two_qt ht0 ht1) (two_g1 hk hv hq ho hs) _).congr fun r c _ _ => by simp only [Nat.mul_one],
    (accum ha.2.2.2 (two_ot hot0 hot1) (two_p1 hk hq hs) slices_S128x1024_o64_0_S64x1024).congr fun r c _ _ => by simp only [Nat.mul_one]⟩,
   (queries hd (two_g0 hk hv hq ho hs) (two_g1 hk hv hq ho hs) (keys0 hk) (keys1 hk) word_sg _ _).congr fun r l _ hl => by
    by_cases h : l < 128
    · rw [if_pos h, Nat.div_eq_of_lt h]; simp only [Nat.zero_add]
    · rw [if_neg h, show l / 128 = 1 by omega]; simp only [show 128 + (l - 128) = l by omega]⟩

end Two

/-- The keys' gradient as stored. -/
theorem storeK {a b : FVec Ideal S128x512 .f32} {f g : ℕ → ℕ → ℝ} (ha : Reads a f) (hb : Reads b g) :
    Reads (k0_pay7 a b) fun c l => (if l < 128 then f l c else g (l - 128) c) * Real.log 2 :=
  ((ha.above hb concatenates_S128x512_S128x512_S256x512_d0).turn _).scale named_ln2

/-- The values' gradient as stored. -/
theorem storeV {a b : FVec Ideal S64x512 .f32} {f g : ℕ → ℕ → ℝ} (ha : Reads a f) (hb : Reads b g) :
    Reads (k0_pay8 a b) fun c l => if l < 64 then f l c else g (l - 64) c :=
  (ha.above hb concatenates_S64x512_S64x512_S128x512_d0).turn _

/-- The cleared block. -/
theorem cleared : Reads (k0_pay85 : FVec Ideal S4096x256 .f32) fun _ _ => 0 := Reads.zero

end Cert.Kernel2Ideal.Mla

end
-- ==== Proof.Real.Windows.lean ====
/- Windows of rows read from, and written into, arrays that hold real numbers. -/
module

public import proofs.«01_k».proof.Proof.Real.Reads
public import Idealize.ShloMosaic.Lib.VecWindow

@[expose] public section

set_option maxRecDepth 16384

noncomputable section

namespace Cert.Reals

open Idealize.ShloMosaic

/-- The rows of a window. -/
theorem rows_window {M n w o : ℕ} {x : (⟨2, ![M, w]⟩ : Shape).Idx → EReal} {f : ℕ → ℕ → ℝ} (hx : Reads x f)
    (h : ∀ a, (![o, 0] : Fin 2 → ℕ) a + (![n, w] : Fin 2 → ℕ) a ≤ (⟨2, ![M, w]⟩ : Shape).size a) :
    Reads (m := n) (n := w) (VecWindow.window x ![o, 0] ![n, w] h) fun r l => f (o + r) l := fun i => by
  refine (hx _).trans ?_
  show ((f (o + 1 * (i 0).val) (0 + 1 * (i 1).val) : ℝ) : EReal) = _
  rw [one_mul, one_mul, zero_add]

/-- Block `b` of a cube. -/
theorem block_window {M n w b : ℕ} {x : (⟨3, ![M, n, w]⟩ : Shape).Idx → EReal} {f : ℕ → ℕ → ℕ → ℝ} (hx : Reads3 x f)
    (h : ∀ a, (![b, 0, 0] : Fin 3 → ℕ) a + (![1, n, w] : Fin 3 → ℕ) a ≤ (⟨3, ![M, n, w]⟩ : Shape).size a) :
    Reads3 (l := 1) (m := n) (n := w) (VecWindow.window x ![b, 0, 0] ![1, n, w] h) fun a r l => f (b + a) r l := fun i => by
  refine (hx _).trans ?_
  show ((f (b + 1 * (i 0).val) (0 + 1 * (i 1).val) (0 + 1 * (i 2).val) : ℝ) : EReal) = _
  simp only [one_mul, zero_add]

/-- The rows of a window behind a leading axis. -/
theorem rows_window3 {M n w o : ℕ} {x : (⟨3, ![1, M, w]⟩ : Shape).Idx → EReal} {f : ℕ → ℕ → ℕ → ℝ} (hx : Reads3 x f)
    (h : ∀ a, (![0, o, 0] : Fin 3 → ℕ) a + (![1, n, w] : Fin 3 → ℕ) a ≤ (⟨3, ![1, M, w]⟩ : Shape).size a) :
    Reads3 (l := 1) (m := n) (n := w) (VecWindow.window x ![0, o, 0] ![1, n, w] h) fun a r l => f a (o + r) l := fun i => by
  refine (hx _).trans ?_
  show ((f (0 + 1 * (i 0).val) (o + 1 * (i 1).val) (0 + 1 * (i 2).val) : ℝ) : EReal) = _
  simp only [one_mul, zero_add]

/-- Rows written over. -/
theorem rows_put {M n w o : ℕ} {x : (⟨2, ![M, w]⟩ : Shape).Idx → EReal} {y : (⟨2, ![n, w]⟩ : Shape).Idx → EReal} {f g : ℕ → ℕ → ℝ}
    (hx : Reads x f) (hy : Reads y g) :
    Reads (VecWindow.put x ![o, 0] ![n, w] y) fun r l => if o ≤ r ∧ r < o + n then g (r - o) l else f r l := fun i => by
  unfold VecWindow.put
  beta_reduce
  by_cases h : o ≤ (i 0).val ∧ (i 0).val < o + n
  · have h' : ∀ a, (![o, 0] : Fin 2 → ℕ) a ≤ (i a).val ∧ (i a).val < (![o, 0] : Fin 2 → ℕ) a + (![n, w] : Fin 2 → ℕ) a := fun a => by
      match a with
      | ⟨0, _⟩ => exact h
      | ⟨1, _⟩ => exact ⟨Nat.zero_le _, Nat.lt_of_lt_of_eq (i 1).isLt (Nat.zero_add _).symm⟩
    rw [dif_pos h', if_pos h]
    exact hy _
  · have h' : ¬ ∀ a, (![o, 0] : Fin 2 → ℕ) a ≤ (i a).val ∧ (i a).val < (![o, 0] : Fin 2 → ℕ) a + (![n, w] : Fin 2 → ℕ) a := fun e => h (e 0)
    rw [dif_neg h', if_neg h]
    exact hx _

/-- One more block of `n` terms of a sum. -/
theorem sum_more (f : ℕ → ℝ) (a R n : ℕ) (h : a ≤ R) : ∑ r ∈ Finset.Ico a (R + n), f r = (∑ r ∈ Finset.Ico a R, f r) + ∑ i ∈ Finset.range n, f (R + i) := by
  rw [← Finset.sum_Ico_consecutive f h (Nat.le_add_right R n), Finset.sum_Ico_eq_sum_range f R (R + n), Nat.add_sub_cancel_left]

/-- A sum whose first terms vanish. -/
theorem above_sum (f : ℕ → ℝ) (a : ℕ) (h : a ≤ 4096) (h0 : ∀ r, r < a → f r = 0) : ∑ r ∈ Finset.Ico a 4096, f r = ∑ r ∈ Finset.range 4096, f r := by
  rw [Finset.range_eq_Ico, ← Finset.sum_Ico_consecutive f (Nat.zero_le a) h,
    Finset.sum_eq_zero (s := Finset.Ico 0 a) (fun r hr => h0 r (Finset.mem_Ico.mp hr).2), zero_add]

end Cert.Reals

end
-- ==== Proof.Mla.Sum.lean ====
/- The attention gradient over the rows of one column block: what the whole body makes of real blocks. -/
module

public import proofs.«01_k».proof.Proof.Mla.Block
public import proofs.«01_k».proof.Proof.Real.Windows

@[expose] public section

set_option maxRecDepth 16384

noncomputable section

namespace Cert.Kernel2Ideal.Mla

open Idealize.ShloMosaic Cert.Kernel2Ideal.Gen Cert.Reals

/-- The numbers one pair of heads works on: the queries, the keys, the values, the cotangents and the saved statistics, by row
    and lane. -/
structure Nums where
  Q : ℕ → ℕ → ℝ
  K : ℕ → ℕ → ℝ
  V : ℕ → ℕ → ℝ
  O : ℕ → ℕ → ℝ
  S : ℕ → ℕ → ℝ

/-- The weight of column `c` in row `r` for head `n` of the pair. -/
def Nums.W (N : Nums) (n r c : ℕ) : ℝ := if c ≤ r then wt N.Q N.K N.S n r c else 0

/-- The gradient of the logit there. -/
def Nums.G (N : Nums) (n r c : ℕ) : ℝ := gr N.W N.O N.V N.S n r c

theorem Nums.G_above (N : Nums) (n r c : ℕ) (h : r < c) : N.G n r c = 0 := by
  unfold Nums.G gr Nums.W; rw [if_neg (by omega), zero_mul]

/-- The blocks of column block `j` hold these numbers. -/
structure Has (N : Nums) (j : ℕ) (x : Ins Ideal) : Prop where
  q : Reads x.q N.Q
  qt : Reads3 x.qt fun b l r => N.Q (512 * b + r) l
  k : Reads x.k fun c l => N.K (512 * j + c) l
  v : Reads x.v fun c l => N.V (512 * j + c) l
  o : Reads x.o N.O
  ot : Reads3 x.ot fun b l r => N.O (512 * b + r) l
  st : Reads3 x.st fun _ r l => N.S r l

/-- After the rows below `R`: the accumulators hold the sums over the rows so far, the queries' gradient what was there and
    this column block's part in these rows. -/
def Upto (N : Nums) (j : ℕ) (D : ℕ → ℕ → ℝ) (R : ℕ) (s : State Ideal) : Prop :=
  Holds s.1 (fun n d c => ∑ r ∈ Finset.Ico (512 * j) R, N.Q r (128 * n + d) * s2 * N.G n r (512 * j + c))
      (fun n e c => ∑ r ∈ Finset.Ico (512 * j) R, N.O r (64 * n + e) * N.W n r (512 * j + c))
    ∧ Reads s.2 fun r l => D r l + if 512 * j ≤ r ∧ r < R then (∑ c ∈ Finset.range 512, N.G (l / 128) r (512 * j + c) * N.K (512 * j + c) l) * sg else 0

variable {N : Nums} {j : ℕ} {D : ℕ → ℕ → ℝ}

/-- The gradient of a block's logits is the gradient in its place. -/
theorem gr_local {p : ℕ → ℕ → ℕ → ℝ} {R n i c : ℕ} (h : p n i c = N.W n (R + i) (512 * j + c)) :
    gr p (fun r l => N.O (R + r) l) (fun c l => N.V (512 * j + c) l) (fun r l => N.S (R + r) l) n i c = N.G n (R + i) (512 * j + c) := by
  unfold Nums.G gr
  rw [h]

/-- One more block of rows. -/
theorem Upto.more {R n : ℕ} {s : State Ideal} (h : Upto N j D R s) (hR : 512 * j ≤ R) {p : ℕ → ℕ → ℕ → ℝ} {ft fo : ℕ → ℕ → ℝ}
    (hp : ∀ a r c, r < n → c < 512 → p a r c = N.W a (R + r) (512 * j + c)) (ht : ∀ l i, i < n → ft l i = N.Q (R + i) l)
    (ho : ∀ l i, i < n → fo l i = N.O (R + i) l) {r : Carry Ideal × Vec Ideal ⟨2, ![n, 256]⟩ .f32}
    (ha : Adds n p ft fo (fun r l => N.O (R + r) l) (fun c l => N.V (512 * j + c) l) (fun r l => N.S (R + r) l) (fun c l => N.K (512 * j + c) l)
      (fun n d c => ∑ r ∈ Finset.Ico (512 * j) R, N.Q r (128 * n + d) * s2 * N.G n r (512 * j + c))
      (fun n e c => ∑ r ∈ Finset.Ico (512 * j) R, N.O r (64 * n + e) * N.W n r (512 * j + c)) (fun i l => D (R + i) l) r) :
    Upto N j D (R + n) (r.1, VecWindow.put s.2 ![R, 0] ![n, 256] r.2) := by
  have hk : ∀ a d c, c < 512 → (∑ r ∈ Finset.Ico (512 * j) R, N.Q r (128 * a + d) * s2 * N.G a r (512 * j + c))
      + ∑ i ∈ Finset.range n, ft (128 * a + d) i * s2 * gr p (fun r l => N.O (R + r) l) (fun c l => N.V (512 * j + c) l) (fun r l => N.S (R + r) l) a i c
      = ∑ r ∈ Finset.Ico (512 * j) (R + n), N.Q r (128 * a + d) * s2 * N.G a r (512 * j + c) := fun a d c hc => by
    rw [sum_more _ _ _ _ hR]
    exact congrArg _ (Finset.sum_congr rfl fun i hi => by
      rw [ht _ _ (Finset.mem_range.mp hi), gr_local (hp a i c (Finset.mem_range.mp hi) hc)])
  have hv : ∀ a d c, c < 512 → (∑ r ∈ Finset.Ico (512 * j) R, N.O r (64 * a + d) * N.W a r (512 * j + c))
      + ∑ i ∈ Finset.range n, fo (64 * a + d) i * p a i c
      = ∑ r ∈ Finset.Ico (512 * j) (R + n), N.O r (64 * a + d) * N.W a r (512 * j + c) := fun a d c hc => by
    rw [sum_more _ _ _ _ hR]
    exact congrArg _ (Finset.sum_congr rfl fun i hi => by
      rw [ho _ _ (Finset.mem_range.mp hi), hp a i c (Finset.mem_range.mp hi) hc])
  refine ⟨⟨ha.1.1.congr fun d c _ hc => hk 0 d c hc, ha.1.2.1.congr fun d c _ hc => hv 0 d c hc,
    ha.1.2.2.1.congr fun d c _ hc => hk 1 d c hc, ha.1.2.2.2.congr fun d c _ hc => hv 1 d c hc⟩, ?_⟩
  refine (rows_put h.2 ha.2).congr fun r l _ _ => ?_
  by_cases h1 : R ≤ r ∧ r < R + n
  · rw [if_pos h1, if_pos (by omega)]
    beta_reduce
    rw [show R + (r - R) = r by omega]
    refine congrArg (fun t => D r l + t * sg) (Finset.sum_congr rfl fun c hc => ?_)
    rw [gr_local (hp _ (r - R) c (by omega) (Finset.mem_range.mp hc)), show R + (r - R) = r by omega]
  · rw [if_neg h1]
    by_cases h2 : 512 * j ≤ r ∧ r < R
    · rw [if_pos h2, if_pos (by omega)]
    · rw [if_neg h2, if_neg (by omega)]

/-- What is read of the queries' gradient in rows not yet reached. -/
theorem Upto.ahead {R n : ℕ} {s : State Ideal} (h : Upto N j D R s)
    (e : ∀ a, (![R, 0] : Fin 2 → ℕ) a + (![n, 256] : Fin 2 → ℕ) a ≤ S4096x256.size a) :
    Reads (m := n) (n := 256) (VecWindow.window s.2 ![R, 0] ![n, 256] e) fun i l => D (R + i) l :=
  (rows_window h.2 e).congr fun r l _ _ => by rw [if_neg (by omega), add_zero]

variable {x : Ins Ideal} (hx : Has N j x)

include hx in
/-- The block on the diagonal. -/
theorem diag_upto (hj : j < 8) {d : Vec Ideal S4096x256 .f32} (hd : Reads d D) : Upto N j D (512 * j + 512) (diag x j hj d) := by
  have h0 : Upto N j D (512 * j) ((k0_pay90, k0_pay91, k0_pay92, k0_pay93), d) :=
    ⟨⟨Reads.zero.congr fun _ _ _ _ => by simp only [Finset.Ico_self, Finset.sum_empty], Reads.zero.congr fun _ _ _ _ => by simp only [Finset.Ico_self, Finset.sum_empty],
      Reads.zero.congr fun _ _ _ _ => by simp only [Finset.Ico_self, Finset.sum_empty], Reads.zero.congr fun _ _ _ _ => by simp only [Finset.Ico_self, Finset.sum_empty]⟩,
      hd.congr fun r l _ _ => by rw [if_neg (by omega), add_zero]⟩
  refine h0.more le_rfl (p := wtLow (fun r l => N.Q (512 * j + r) l) (fun c l => N.K (512 * j + c) l) (fun r l => N.S (512 * j + r) l))
    (ft := fun l r => N.Q (512 * (j + 0) + r) l) (fo := fun l r => N.O (512 * (j + 0) + r) l) ?_ (fun _ _ _ => rfl) (fun _ _ _ => rfl) ?_
  · intro a r c _ _
    unfold wtLow Nums.W
    by_cases h : c ≤ r
    · rw [if_pos h, if_pos (by omega)]; rfl
    · rw [if_neg h, if_neg (by omega)]
  · have := diagOf_adds hx.k hx.v (rows_window (o := 512 * j) hx.q (fit2 (n := 512) (by omega))) (block_window hx.qt (fitT hj)) (rows_window (o := 512 * j) hx.o (fit2 (n := 512) (by omega)))
      (block_window hx.ot (fitT hj)) (rows_window3 (o := 512 * j) hx.st (fit3 (n := 512) (by omega))) (h0.ahead (fit2 (n := 512) (by omega)))
    simp only [Finset.Ico_self, Finset.sum_empty]
    exact this

/-- Past the diagonal no weight is masked. -/
theorem wt_local {R a r c : ℕ} (hR : 512 * j + 512 ≤ R) (hc : c < 512) :
    wt (fun r l => N.Q (R + r) l) (fun c l => N.K (512 * j + c) l) (fun r l => N.S (R + r) l) a r c = N.W a (R + r) (512 * j + c) := by
  unfold Nums.W
  rw [if_pos (by omega)]; rfl

include hx in
/-- One block below the diagonal. -/
theorem one_upto {b : ℕ} (hb : b < 8) (hj : j < b) {s : State Ideal} (h : Upto N j D (512 * b) s) : Upto N j D (512 * b + 512) (one x b hb s) := by
  refine h.more (by omega) (p := wt (fun r l => N.Q (512 * b + r) l) (fun c l => N.K (512 * j + c) l) (fun r l => N.S (512 * b + r) l))
    (ft := fun l r => N.Q (512 * (b + 0) + r) l) (fo := fun l r => N.O (512 * (b + 0) + r) l) (fun a r c _ hc => wt_local (by omega) hc) (fun _ _ _ => rfl) (fun _ _ _ => rfl) ?_
  exact oneOf_adds hx.k hx.v (rows_window hx.q (fit2 (by omega))) (block_window hx.qt (fitT hb)) (rows_window hx.o (fit2 (by omega)))
      (block_window hx.ot (fitT hb)) (rows_window3 hx.st (fit3 (by omega))) h.1 (h.ahead (fit2 (n := 512) (by omega)))

include hx in
/-- Two blocks below the diagonal. -/
theorem two_upto {b : ℕ} (hb : b < 4) (hj : j < 2 * b) {s : State Ideal} (h : Upto N j D (1024 * b) s) : Upto N j D (1024 * b + 1024) (two x b hb s) := by
  refine h.more (by omega) (p := wt (fun r l => N.Q (1024 * b + r) l) (fun c l => N.K (512 * j + c) l) (fun r l => N.S (1024 * b + r) l))
    (ft := fun l r => if r < 512 then N.Q (512 * (2 * b + 0) + r) l else N.Q (512 * (2 * b + 1 + 0) + (r - 512)) l)
    (fo := fun l r => if r < 512 then N.O (512 * (2 * b + 0) + r) l else N.O (512 * (2 * b + 1 + 0) + (r - 512)) l)
    (fun a r c _ hc => wt_local (by omega) hc) ?_ ?_ ?_
  · intro l i hi
    beta_reduce
    split
    · exact congrArg (N.Q · l) (by omega)
    · exact congrArg (N.Q · l) (by omega)
  · intro l i hi
    beta_reduce
    split
    · exact congrArg (N.O · l) (by omega)
    · exact congrArg (N.O · l) (by omega)
  · exact twoOf_adds hx.k hx.v (rows_window hx.q (fit2 (by omega))) (block_window hx.qt (fitT (by omega))) (block_window hx.qt (fitT (by omega)))
      (rows_window hx.o (fit2 (by omega))) (block_window hx.ot (fitT (by omega))) (block_window hx.ot (fitT (by omega)))
      (rows_window3 hx.st (fit3 (by omega))) h.1 (h.ahead (fit2 (n := 1024) (by omega)))

include hx in
theorem ones_upto {b : ℕ} (hj : j < b) {s : State Ideal} (h : Upto N j D (512 * b) s) : ∀ n, b + n ≤ 8 → Upto N j D (512 * (b + n)) (ones x b s n)
  | 0, _ => h
  | n + 1, hn => by
    unfold ones
    rw [dif_pos (by omega)]
    have := one_upto hx (b := b + n) (by omega) (by omega) (ones_upto hj h n (by omega))
    rw [show 512 * (b + (n + 1)) = 512 * (b + n) + 512 by omega]
    exact this

include hx in
theorem twos_upto {b : ℕ} (hj : j < 2 * b) {s : State Ideal} (h : Upto N j D (1024 * b) s) : ∀ n, b + n ≤ 4 → Upto N j D (1024 * (b + n)) (twos x b s n)
  | 0, _ => h
  | n + 1, hn => by
    unfold twos
    rw [dif_pos (by omega)]
    have := two_upto hx (b := b + n) (by omega) (by omega) (twos_upto hj h n (by omega))
    rw [show 1024 * (b + (n + 1)) = 1024 * (b + n) + 1024 by omega]
    exact this

include hx in
/-- The whole body. -/
theorem whole_upto (hj : j < 8) {d : Vec Ideal S4096x256 .f32} (hd : Reads d D) (h0 : j = 0 → ∀ r l, D r l = 0) : Upto N j D 4096 (whole x j hj d) := by
  have h1 : Upto N j D (512 * (j + 1)) (diag x j hj (if j = 0 then k0_pay85 (F := Ideal) else d)) := by
    have := diag_upto hx hj (d := if j = 0 then k0_pay85 (F := Ideal) else d) (D := D) (by
      split
      · rename_i h; exact cleared.congr fun r l _ _ => (h0 h r l).symm
      · exact hd)
    rw [show 512 * (j + 1) = 512 * j + 512 by omega]
    exact this
  have h2 := ones_upto hx (b := j + 1) (by omega) h1 (1 - j % 2) (by omega)
  rw [show 512 * (j + 1 + (1 - j % 2)) = 1024 * (j / 2 + 1) by omega] at h2
  have h3 := twos_upto hx (b := j / 2 + 1) (by omega) h2 (3 - j / 2) (by omega)
  rw [show 1024 * (j / 2 + 1 + (3 - j / 2)) = 4096 by omega] at h3
  exact h3

include hx in
/-- The keys' gradient a column block stores: the sum over all rows. -/
theorem outK_reads (hj : j < 8) : Reads (outK x j hj) fun c l =>
    (∑ r ∈ Finset.range 4096, N.Q r l * s2 * N.G (l / 128) r (512 * j + c)) * Real.log 2 := by
  have h := whole_upto hx hj (D := fun _ _ => 0) cleared (fun _ _ _ => rfl)
  refine (storeK h.1.1 h.1.2.2.1).congr fun c l hc hl => congrArg (· * Real.log 2) ?_
  have e : ∀ n d, l = 128 * n + d → d < 128 → (∑ r ∈ Finset.Ico (512 * j) 4096, N.Q r (128 * n + d) * s2 * N.G n r (512 * j + c))
      = ∑ r ∈ Finset.range 4096, N.Q r l * s2 * N.G (l / 128) r (512 * j + c) := fun n d hl hd => by
    rw [show l / 128 = n by omega, hl]
    exact above_sum (fun r => N.Q r (128 * n + d) * s2 * N.G n r (512 * j + c)) _ (by omega) fun r hr => by rw [N.G_above n r _ (by omega), mul_zero]
  by_cases h' : l < 128
  · rw [if_pos h']; exact e 0 l (by omega) h'
  · rw [if_neg h']; exact e 1 (l - 128) (by omega) (by omega)

include hx in
/-- The values' gradient it stores. -/
theorem outV_reads (hj : j < 8) : Reads (outV x j hj) fun c l =>
    ∑ r ∈ Finset.range 4096, N.O r l * N.W (l / 64) r (512 * j + c) := by
  have h := whole_upto hx hj (D := fun _ _ => 0) cleared (fun _ _ _ => rfl)
  refine (storeV h.1.2.1 h.1.2.2.2).congr fun c l hc hl => ?_
  have e : ∀ n d, l = 64 * n + d → d < 64 → (∑ r ∈ Finset.Ico (512 * j) 4096, N.O r (64 * n + d) * N.W n r (512 * j + c))
      = ∑ r ∈ Finset.range 4096, N.O r l * N.W (l / 64) r (512 * j + c) := fun n d hl hd => by
    rw [show l / 64 = n by omega, hl]
    exact above_sum (fun r => N.O r (64 * n + d) * N.W n r (512 * j + c)) _ (by omega) fun r hr => by
      unfold Nums.W; rw [if_neg (by omega), mul_zero]
  by_cases h' : l < 64
  · rw [if_pos h']; exact e 0 l (by omega) h'
  · rw [if_neg h']; exact e 1 (l - 64) (by omega) (by omega)

include hx in
/-- The queries' gradient after a column block: the sum over the columns so far. -/
theorem dq_reads (hj : j < 8) {d : Vec Ideal S4096x256 .f32}
    (hd : Reads d fun r l => (∑ c ∈ Finset.range (512 * j), N.G (l / 128) r c * N.K c l) * sg) :
    Reads (whole x j hj d).2 fun r l => (∑ c ∈ Finset.range (512 * (j + 1)), N.G (l / 128) r c * N.K c l) * sg := by
  have h := whole_upto hx hj hd (fun h r l => by rw [h, Nat.mul_zero, Finset.range_zero, Finset.sum_empty, zero_mul])
  refine h.2.congr fun r l hr hl => ?_
  rw [show 512 * (j + 1) = 512 * j + 512 by omega, Finset.sum_range_add, add_mul]
  congr 1
  by_cases h' : 512 * j ≤ r
  · rw [if_pos ⟨h', hr⟩]
  · rw [if_neg (fun e => h' e.1), Finset.sum_eq_zero (fun c _ => by rw [N.G_above _ r _ (by omega), zero_mul]), zero_mul]

end Cert.Kernel2Ideal.Mla

end
-- ==== Proof.Mla.Blocks.lean ====
/- The blocks of one grid point of the attention gradient over real numbers. -/
module

public import proofs.«01_k».proof.Proof.Mla.Operands
public import proofs.«01_k».proof.Proof.Mla.Frame
public import proofs.«01_k».proof.Proof.Mla.Sum

@[expose] public section

set_option maxRecDepth 16384

noncomputable section

namespace Cert.Kernel2Ideal.Mla

open Idealize.ShloMosaic Idealize.ShloMosaic.Tactic Idealize.ShloMosaic.TcCoe Cert.Kernel2Ideal Cert.Kernel2Ideal.Gen Cert.Reals
open Cert.Reference2Ideal.Mla (logit pull)
open Cert.Reference2Ideal.Read (val_main_v15)

/-- The statistics of a pair's rows: the heads' logarithms of the sums on lanes `0` and `1`, their means on `2` and `3`. -/
theorem stats_reads {a b : FVec Ideal S8x4096x1 .f32} {f g : ℕ → ℕ → ℝ} (ha : ∀ i, a i = ((f (i 0).val (i 1).val : ℝ) : EReal))
    (hb : ∀ i, b i = ((g (i 0).val (i 1).val : ℝ) : EReal)) :
    Reads3 (stats a b) fun p r l => if l < 2 then f (2 * p + l) r else if l < 4 then g (2 * p + (l - 2)) r else 0 := fun i => by
  have b0 : (i 0).val < 4 := (i 0).isLt
  have b1 : (i 1).val < 4096 := (i 1).isLt
  have b2 : (i 2).val < 128 := (i 2).isLt
  unfold stats
  beta_reduce
  by_cases h4 : (i 2).val < 4
  · let k : S4x4096x4.Idx := ValueIdx.ix3 ⟨(i 0).val, b0⟩ ⟨(i 1).val, b1⟩ ⟨(i 2).val, h4⟩
    rw [pad_apply_of_inside _ _ _ _ _ pads_S4x4096x4_S4x4096x128_000_000_01240 h_S_ i k (fun a => by
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega)]
    let u : S4x4096x2x2.Idx := ValueIdx.ix4 ⟨(i 0).val, b0⟩ ⟨(i 1).val, b1⟩ ⟨(i 2).val / 2, by omega⟩ ⟨(i 2).val % 2, by omega⟩
    rw [shapeCast_apply _ shapeCasts_S4x4096x2x2_S4x4096x4 k u (by
      rewrite [Shape.rowMajor_val_three, Shape.rowMajor_val_four]
      show (((i 0).val * 4096 + (i 1).val) * 2 + (i 2).val / 2) * 2 + (i 2).val % 2 = ((i 0).val * 4096 + (i 1).val) * 4 + (i 2).val
      omega)]
    let w : S4x2x4096x2.Idx := ValueIdx.ix4 ⟨(i 0).val, b0⟩ ⟨(i 2).val % 2, by omega⟩ ⟨(i 1).val, b1⟩ ⟨(i 2).val / 2, by omega⟩
    rw [transpose_apply _ _ transposes_S4x2x4096x2_S4x4096x2x2_0_2_3_1 u w (fun d => by
      match d with
      | ⟨0, _⟩ => rfl
      | ⟨1, _⟩ => rfl
      | ⟨2, _⟩ => rfl
      | ⟨3, _⟩ => rfl)]
    let x : S8x4096x2.Idx := ValueIdx.ix3 ⟨2 * (i 0).val + (i 2).val % 2, by omega⟩ ⟨(i 1).val, b1⟩ ⟨(i 2).val / 2, by omega⟩
    rw [shapeCast_apply _ shapeCasts_S8x4096x2_S4x2x4096x2 w x (by
      rewrite [Shape.rowMajor_val_three, Shape.rowMajor_val_four]
      show ((2 * (i 0).val + (i 2).val % 2) * 4096 + (i 1).val) * 2 + (i 2).val / 2 = (((i 0).val * 2 + (i 2).val % 2) * 4096 + (i 1).val) * 2 + (i 2).val / 2
      omega)]
    let z : S8x4096x1.Idx := ValueIdx.ix3 ⟨2 * (i 0).val + (i 2).val % 2, by omega⟩ ⟨(i 1).val, b1⟩ 0
    by_cases h2 : (i 2).val < 2
    · rw [concatenate_pair_apply_left 2 a b concatenates_S8x4096x1_S8x4096x1_S8x4096x2_d2 x rfl z (fun d => by
        match d with
        | ⟨0, _⟩ => rfl
        | ⟨1, _⟩ => rfl
        | ⟨2, _⟩ => show 0 = (i 2).val / 2; omega), ha z, if_pos h2]
      show ((f (2 * (i 0).val + (i 2).val % 2) (i 1).val : ℝ) : EReal) = _
      rw [show (i 2).val % 2 = (i 2).val by omega]
    · rw [concatenate_pair_apply_right 2 a b concatenates_S8x4096x1_S8x4096x1_S8x4096x2_d2 x rfl rfl z (fun d => by
        match d with
        | ⟨0, _⟩ => exact fun _ => rfl
        | ⟨1, _⟩ => exact fun _ => rfl
        | ⟨2, _⟩ => exact fun h => absurd rfl h) (by show 0 + 1 = (i 2).val / 2; omega), hb z, if_neg h2, if_pos h4]
      show ((g (2 * (i 0).val + (i 2).val % 2) (i 1).val : ℝ) : EReal) = _
      rw [show (i 2).val % 2 = (i 2).val - 2 by omega]
  · rw [pad_apply_of_not_inside _ _ _ _ _ pads_S4x4096x4_S4x4096x128_000_000_01240 h_S_ i (2 : Fin 3) (fun hin => h4 (by
      have h3 := hin.2.2
      have h5 : ((i 2).val - 0) / (0 + 1) < 4 := h3
      omega)), zero_word, if_neg (by omega), if_neg h4]
    rfl

/-- Point `t` works on the pair `t / 8` of heads and the column block `t % 8`: the queries' columns, -/
theorem idx0 : ∀ t : Fin cfg0.N, win0_0.index t 0 = 0 ∧ win0_0.index t 1 = t.val / 8 :=
  (by decide +kernel : ∀ t : Fin grid0.N, win0_0.index t 0 = 0 ∧ win0_0.index t 1 = t.val / 8)
/-- the same turned, -/
theorem idx1 : ∀ t : Fin cfg0.N, win0_1.index t 0 = 0 ∧ win0_1.index t 1 = t.val / 8 ∧ win0_1.index t 2 = 0 :=
  (by decide +kernel : ∀ t : Fin grid0.N, win0_1.index t 0 = 0 ∧ win0_1.index t 1 = t.val / 8 ∧ win0_1.index t 2 = 0)
/-- the keys' block, -/
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
/-- the values' block, -/
theorem idx3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)
/-- the cotangents' columns, -/
theorem idx4 : ∀ t : Fin cfg0.N, win0_4.index t 0 = 0 ∧ win0_4.index t 1 = t.val / 8 :=
  (by decide +kernel : ∀ t : Fin grid0.N, win0_4.index t 0 = 0 ∧ win0_4.index t 1 = t.val / 8)
/-- the same turned, -/
theorem idx5 : ∀ t : Fin cfg0.N, win0_5.index t 0 = 0 ∧ win0_5.index t 1 = t.val / 8 ∧ win0_5.index t 2 = 0 :=
  (by decide +kernel : ∀ t : Fin grid0.N, win0_5.index t 0 = 0 ∧ win0_5.index t 1 = t.val / 8 ∧ win0_5.index t 2 = 0)
/-- and the pair's statistics. -/
theorem idx6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

variable (m : (ℓ : Loc nD τ sig) → Buf (Elt Ideal) ℓ)
variable {A B C O : ℕ → ℕ → ℝ} {M : ℕ → ℕ → ℝ}

/-- The numbers of the pair `g` of heads. -/
def nums (A B C O M : ℕ → ℕ → ℝ) (g : ℕ) : Nums where
  Q r l := lanes A r (256 * g + l)
  K c l := lanes B c (256 * g + l)
  V c l := C c (128 * g + l)
  O r l := O r (128 * g + l)
  S r l := if l < 2 then lse A B M (2 * g + l) r else if l < 4 then mean (logit A B) M (pull C O) (2 * g + (l - 2)) r else 0

/-- The launch's arguments hold real numbers, and the rows' maxima are real numbers. -/
structure Launched (c : Dev nD) (A B C O M : ℕ → ℕ → ℝ) : Prop where
  q : Reads (m := 4096) (n := 768) (m ((c : Thread nD τ).loc main_arg0)) A
  k : Reads (m := 4096) (n := 768) (m ((c : Thread nD τ).loc main_arg1)) B
  v : Reads (m := 4096) (n := 512) (m ((c : Thread nD τ).loc main_arg2)) C
  o : Reads (m := 4096) (n := 512) (m ((c : Thread nD τ).loc main_arg3)) O
  top : Reads (val_main_v15 (F := Ideal) (m ((c : Thread nD τ).loc main_arg0)) (m ((c : Thread nD τ).loc main_arg1))) M

/-- Point `t`'s queries. -/
theorem has_q (c : Dev nD) (h : Launched m c A B C O M) (t : Fin cfg0.N) : Reads (ins m c t).q (nums A B C O M (t.val / 8)).Q := fun i => by
  show iblk m c 0 t i = _
  unfold iblk
  rw [View.read_apply]
  show V m c main_v46 _ = _
  rw [V_q m c, padded_reads h.q _]
  show ((lanes A (win0_0.index t 0 * 4096 + 1 * (i 0).val) (win0_0.index t 1 * 256 + 1 * (i 1).val) : ℝ) : EReal) = ((lanes A (i 0).val (256 * (t.val / 8) + (i 1).val) : ℝ) : EReal)
  rw [(idx0 t).1, (idx0 t).2, show 0 * 4096 + 1 * (i 0).val = (i 0).val by omega, show t.val / 8 * 256 + 1 * (i 1).val = 256 * (t.val / 8) + (i 1).val by omega]

/-- Its keys. -/
theorem has_k (c : Dev nD) (h : Launched m c A B C O M) (t : Fin cfg0.N) : Reads (ins m c t).k fun y l => (nums A B C O M (t.val / 8)).K (512 * (t.val % 8) + y) l := fun i => by
  show iblk m c 2 t i = _
  unfold iblk
  rw [View.read_apply]
  show V m c main_v50 _ = _
  rw [V_k m c, padded_reads h.k _]
  show ((lanes B (win0_2.index t 0 * 512 + 1 * (i 0).val) (win0_2.index t 1 * 256 + 1 * (i 1).val) : ℝ) : EReal) = ((lanes B (512 * (t.val % 8) + (i 0).val) (256 * (t.val / 8) + (i 1).val) : ℝ) : EReal)
  rw [(idx2 t).1, (idx2 t).2, show t.val % 8 * 512 + 1 * (i 0).val = 512 * (t.val % 8) + (i 0).val by omega, show t.val / 8 * 256 + 1 * (i 1).val = 256 * (t.val / 8) + (i 1).val by omega]

/-- Its values. -/
theorem has_v (c : Dev nD) (h : Launched m c A B C O M) (t : Fin cfg0.N) : Reads (ins m c t).v fun y l => (nums A B C O M (t.val / 8)).V (512 * (t.val % 8) + y) l := fun i => by
  show iblk m c 3 t i = _
  unfold iblk
  rw [View.read_apply]
  show V m c main_v54 _ = _
  rw [V_v m c, ValueIdx.truncf_apply, h.v _]
  show ((C (win0_3.index t 0 * 512 + 1 * (i 0).val) (win0_3.index t 1 * 128 + 1 * (i 1).val) : ℝ) : EReal) = ((C (512 * (t.val % 8) + (i 0).val) (128 * (t.val / 8) + (i 1).val) : ℝ) : EReal)
  rw [(idx3 t).1, (idx3 t).2, show t.val % 8 * 512 + 1 * (i 0).val = 512 * (t.val % 8) + (i 0).val by omega, show t.val / 8 * 128 + 1 * (i 1).val = 128 * (t.val / 8) + (i 1).val by omega]

/-- Its cotangents. -/
theorem has_o (c : Dev nD) (h : Launched m c A B C O M) (t : Fin cfg0.N) : Reads (ins m c t).o (nums A B C O M (t.val / 8)).O := fun i => by
  show iblk m c 4 t i = _
  unfold iblk
  rw [View.read_apply]
  show V m c main_v51 _ = _
  rw [V_do m c, ValueIdx.truncf_apply, h.o _]
  show ((O (win0_4.index t 0 * 4096 + 1 * (i 0).val) (win0_4.index t 1 * 128 + 1 * (i 1).val) : ℝ) : EReal) = ((O (i 0).val (128 * (t.val / 8) + (i 1).val) : ℝ) : EReal)
  rw [(idx4 t).1, (idx4 t).2, show 0 * 4096 + 1 * (i 0).val = (i 0).val by omega, show t.val / 8 * 128 + 1 * (i 1).val = 128 * (t.val / 8) + (i 1).val by omega]

/-- Its turned queries. -/
theorem has_qt (c : Dev nD) (h : Launched m c A B C O M) (t : Fin cfg0.N) : Reads3 (ins m c t).qt fun b l r => (nums A B C O M (t.val / 8)).Q (512 * b + r) l := fun i => by
  have ht : t.val < 32 := Nat.lt_of_lt_of_eq t.isLt N_0
  have b0 : (i 0).val < 8 := (i 0).isLt
  have b1 : (i 1).val < 256 := (i 1).isLt
  have b2 : (i 2).val < 512 := (i 2).isLt
  show iblk m c 1 t i = _
  unfold iblk
  rw [View.read_apply]
  show V m c main_v53 _ = _
  rw [V_qt m c]
  let u : S8x512x1024.Idx := ValueIdx.ix3 ⟨(i 0).val, b0⟩ ⟨(i 2).val, b2⟩ ⟨256 * (t.val / 8) + (i 1).val, by omega⟩
  let w : S4096x1024.Idx := ValueIdx.ix2 ⟨512 * (i 0).val + (i 2).val, by omega⟩ ⟨256 * (t.val / 8) + (i 1).val, by omega⟩
  refine (transpose_apply _ _ transposes_S8x512x1024_S8x1024x512_0_2_1 _ u (fun d => ?_)).trans ?_
  · match d with
    | ⟨0, _⟩ => show (i 0).val = win0_1.index t 0 * 8 + 1 * (i 0).val; rw [(idx1 t).1]; omega
    | ⟨1, _⟩ => show 256 * (t.val / 8) + (i 1).val = win0_1.index t 1 * 256 + 1 * (i 1).val; rw [(idx1 t).2.1]; omega
    | ⟨2, _⟩ => show (i 2).val = win0_1.index t 2 * 512 + 1 * (i 2).val; rw [(idx1 t).2.2]; omega
  · rw [shapeCast_apply _ shapeCasts_S4096x1024_S8x512x1024 u w (by
      rewrite [Shape.rowMajor_val_three, Shape.rowMajor_val_two]
      show (512 * (i 0).val + (i 2).val) * 1024 + (256 * (t.val / 8) + (i 1).val) = ((i 0).val * 512 + (i 2).val) * 1024 + (256 * (t.val / 8) + (i 1).val)
      omega)]
    exact padded_reads h.q w

/-- Its turned cotangents. -/
theorem has_ot (c : Dev nD) (h : Launched m c A B C O M) (t : Fin cfg0.N) : Reads3 (ins m c t).ot fun b l r => (nums A B C O M (t.val / 8)).O (512 * b + r) l := fun i => by
  have ht : t.val < 32 := Nat.lt_of_lt_of_eq t.isLt N_0
  have b0 : (i 0).val < 8 := (i 0).isLt
  have b1 : (i 1).val < 128 := (i 1).isLt
  have b2 : (i 2).val < 512 := (i 2).isLt
  show iblk m c 5 t i = _
  unfold iblk
  rw [View.read_apply]
  show V m c main_v56 _ = _
  rw [V_dot m c]
  let u : S8x512x512.Idx := ValueIdx.ix3 ⟨(i 0).val, b0⟩ ⟨(i 2).val, b2⟩ ⟨128 * (t.val / 8) + (i 1).val, by omega⟩
  let w : S4096x512.Idx := ValueIdx.ix2 ⟨512 * (i 0).val + (i 2).val, by omega⟩ ⟨128 * (t.val / 8) + (i 1).val, by omega⟩
  refine (transpose_apply _ _ transposes_S8x512x512_S8x512x512_0_2_1 _ u (fun d => ?_)).trans ?_
  · match d with
    | ⟨0, _⟩ => show (i 0).val = win0_5.index t 0 * 8 + 1 * (i 0).val; rw [(idx5 t).1]; omega
    | ⟨1, _⟩ => show 128 * (t.val / 8) + (i 1).val = win0_5.index t 1 * 128 + 1 * (i 1).val; rw [(idx5 t).2.1]; omega
    | ⟨2, _⟩ => show (i 2).val = win0_5.index t 2 * 512 + 1 * (i 2).val; rw [(idx5 t).2.2]; omega
  · rw [shapeCast_apply _ shapeCasts_S4096x512_S8x512x512 u w (by
      rewrite [Shape.rowMajor_val_three, Shape.rowMajor_val_two]
      show (512 * (i 0).val + (i 2).val) * 512 + (128 * (t.val / 8) + (i 1).val) = ((i 0).val * 512 + (i 2).val) * 512 + (128 * (t.val / 8) + (i 1).val)
      omega)]
    exact h.o w

/-- Its statistics. -/
theorem has_st (c : Dev nD) (h : Launched m c A B C O M) (t : Fin cfg0.N) : Reads3 (ins m c t).st fun _ r l => (nums A B C O M (t.val / 8)).S r l := fun i => by
  have b0 : (i 0).val < 1 := (i 0).isLt
  show iblk m c 6 t i = _
  unfold iblk
  rw [View.read_apply]
  show V m c main_v42 _ = _
  rw [V_st m c, stats_reads (hostLse_reads h.q h.k h.top) (hostMean_reads h.q h.k h.v h.o h.top) _]
  show (((nums A B C O M (win0_6.index t 0 * 1 + 1 * (i 0).val)).S (win0_6.index t 1 * 4096 + 1 * (i 1).val) (win0_6.index t 2 * 128 + 1 * (i 2).val) : ℝ) : EReal)
    = (((nums A B C O M (t.val / 8)).S (i 1).val (i 2).val : ℝ) : EReal)
  rw [(idx6 t).1, (idx6 t).2.1, (idx6 t).2.2, show t.val / 8 * 1 + 1 * (i 0).val = t.val / 8 by omega, show 0 * 4096 + 1 * (i 1).val = (i 1).val by omega,
    show 0 * 128 + 1 * (i 2).val = (i 2).val by omega]

/-- Point `t`'s blocks hold its pair's numbers. -/
theorem has (c : Dev nD) (h : Launched m c A B C O M) (t : Fin cfg0.N) : Has (nums A B C O M (t.val / 8)) (t.val % 8) (ins m c t) :=
  ⟨has_q m c h t, has_qt m c h t, has_k m c h t, has_v m c h t, has_o m c h t, has_ot m c h t, has_st m c h t⟩

end Cert.Kernel2Ideal.Mla

end
-- ==== Proof.Mla.Arrays.lean ====
/- What the attention gradient's kernel leaves in its three result arrays, over real numbers. -/
module

public import proofs.«01_k».proof.Proof.Mla.Blocks

@[expose] public section

set_option maxRecDepth 16384

noncomputable section

namespace Cert.Kernel2Ideal.Mla

open Idealize.ShloMosaic Idealize.ShloMosaic.Tactic Idealize.ShloMosaic.TcCoe Cert.Kernel2Ideal Cert.Kernel2Ideal.Gen Cert.Reals

theorem idx7 : ∀ t : Fin cfg0.N, win0_7.index t 0 = 0 ∧ win0_7.index t 1 = t.val / 8 :=
  (by decide +kernel : ∀ t : Fin grid0.N, win0_7.index t 0 = 0 ∧ win0_7.index t 1 = t.val / 8)
theorem idx8 : ∀ t : Fin cfg0.N, win0_8.index t 0 = t.val % 8 ∧ win0_8.index t 1 = t.val / 8 :=
  (by decide +kernel : ∀ t : Fin grid0.N, win0_8.index t 0 = t.val % 8 ∧ win0_8.index t 1 = t.val / 8)
theorem idx9 : ∀ t : Fin cfg0.N, win0_9.index t 0 = t.val % 8 ∧ win0_9.index t 1 = t.val / 8 :=
  (by decide +kernel : ∀ t : Fin grid0.N, win0_9.index t 0 = t.val % 8 ∧ win0_9.index t 1 = t.val / 8)

variable (m : (ℓ : Loc nD τ sig) → Buf (Elt Ideal) ℓ)
variable {A B C O : ℕ → ℕ → ℝ} {M : ℕ → ℕ → ℝ}

/-- The queries' gradient on the padded lanes. -/
def wideQ (A B C O M : ℕ → ℕ → ℝ) (r L : ℕ) : ℝ :=
  (∑ c ∈ Finset.range 4096, (nums A B C O M (L / 256)).G (L % 256 / 128) r c * lanes B c L) * sg

/-- The keys' gradient on the padded lanes. -/
def wideK (A B C O M : ℕ → ℕ → ℝ) (c L : ℕ) : ℝ :=
  (∑ r ∈ Finset.range 4096, lanes A r L * s2 * (nums A B C O M (L / 256)).G (L % 256 / 128) r c) * Real.log 2

/-- The values' gradient. -/
def wideV (A B C O M : ℕ → ℕ → ℝ) (c l : ℕ) : ℝ :=
  ∑ r ∈ Finset.range 4096, O r l * (nums A B C O M (l / 128)).W (l % 128 / 64) r c

/-- The queries' gradient after a point: the columns below the end of the point's block are in. -/
theorem dqAt_reads (c : Dev nD) (h : Launched m c A B C O M) : ∀ n (hn : n < cfg0.N), Reads (dqAt m c n hn) fun r l =>
    (∑ y ∈ Finset.range (512 * (n % 8 + 1)), (nums A B C O M (n / 8)).G (l / 128) r y * (nums A B C O M (n / 8)).K y l) * sg := by
  intro n
  induction n with
  | zero =>
    intro hn
    rw [dqAt_first m c ⟨0, hn⟩ (by rw [col]; exact Nat.zero_mod 8)]
    have e : ∀ j (hj : j < 8), j = 0 → Reads (whole (ins m c ⟨0, hn⟩) j hj (k0_pay85 (F := Ideal))).2 fun r l =>
        (∑ y ∈ Finset.range (512 * (0 % 8 + 1)), (nums A B C O M (0 / 8)).G (l / 128) r y * (nums A B C O M (0 / 8)).K y l) * sg := by
      rintro j hj rfl
      exact dq_reads (has m c h ⟨0, hn⟩) hj (cleared.congr fun r l _ _ => by simp)
    exact e _ _ (by rw [col]; exact Nat.zero_mod 8)
  | succ n ih =>
    intro hn
    have hN : cfg0.N = 32 := N_0
    have e : ∀ j (hj : j < 8), j = (n + 1) % 8 → ∀ d, (j ≠ 0 → d = dqAt m c n (Nat.lt_of_succ_lt hn)) → (j = 0 → d = (k0_pay85 (F := Ideal))) →
        Reads (whole (ins m c ⟨n + 1, hn⟩) j hj d).2 fun r l =>
        (∑ y ∈ Finset.range (512 * ((n + 1) % 8 + 1)), (nums A B C O M ((n + 1) / 8)).G (l / 128) r y * (nums A B C O M ((n + 1) / 8)).K y l) * sg := by
      rintro j hj rfl d hd h0
      refine dq_reads (has m c h ⟨n + 1, hn⟩) hj ?_
      by_cases hz : (n + 1) % 8 = 0
      · rw [h0 hz]
        refine cleared.congr fun r l _ _ => ?_
        show 0 = (∑ y ∈ Finset.range (512 * ((n + 1) % 8)), _) * sg
        rw [hz, Nat.mul_zero, Finset.range_zero, Finset.sum_empty, zero_mul]
      · rw [hd hz]
        refine (ih (Nat.lt_of_succ_lt hn)).congr fun r l _ _ => ?_
        show _ = (∑ y ∈ Finset.range (512 * ((n + 1) % 8)), (nums A B C O M ((n + 1) / 8)).G (l / 128) r y * (nums A B C O M ((n + 1) / 8)).K y l) * sg
        rw [show n % 8 + 1 = (n + 1) % 8 by omega, show n / 8 = (n + 1) / 8 by omega]
    by_cases hz : (grid0.coords ⟨n + 1, hn⟩ 1).val = 0
    · rw [dqAt_first m c ⟨n + 1, hn⟩ hz]
      exact e _ _ (col _) _ (fun h' => absurd hz h') (fun _ => rfl)
    · rw [dqAt_later m c ⟨n + 1, hn⟩ hz]
      exact e _ _ (col _) _ (fun _ => rfl) (fun h' => absurd h' hz)

/-- An array that holds real numbers. -/
def held {a b : ℕ} (f : ℕ → ℕ → ℝ) : (⟨2, ![a, b]⟩ : Shape).Idx → EReal := fun i => ((f (i 0).val (i 1).val : ℝ) : EReal)

/-- The keys' gradient. -/
theorem array_k (c : Dev nD) (h : Launched m c A B C O M) :
    (dats m 0 c).arrAt 8 cfg0.N = (held (wideK A B C O M) : S4096x1024.Idx → EReal) := by
  refine (dats m 0 c).arrAt_eq_of_cover 8 _ (fun t _ => ?_) fun i => ?_
  · funext y
    rw [View.read_apply]
    have hj : (grid0.coords t 1).val = t.val % 8 := col t
    have b0 : (y 0).val < 512 := (y 0).isLt
    have b1 : (y 1).val < 256 := (y 1).isLt
    have e : ∀ j (hj : j < 8), j = t.val % 8 → outK (ins m c t) j hj y = ((wideK A B C O M (512 * (t.val % 8) + (y 0).val) (256 * (t.val / 8) + (y 1).val) : ℝ) : EReal) := by
      rintro j hj rfl
      rw [outK_reads (has m c h t) hj y]
      unfold wideK
      rw [show (256 * (t.val / 8) + (y 1).val) / 256 = t.val / 8 by omega, show (256 * (t.val / 8) + (y 1).val) % 256 = (y 1).val by omega]
      rfl
    show outK (ins m c t) (grid0.coords t 1).val (col_lt t) y = ((wideK A B C O M (win0_8.index t 0 * 512 + 1 * (y 0).val) (win0_8.index t 1 * 256 + 1 * (y 1).val) : ℝ) : EReal)
    rw [(idx8 t).1, (idx8 t).2, e _ _ hj, show t.val % 8 * 512 + 1 * (y 0).val = 512 * (t.val % 8) + (y 0).val by omega,
      show t.val / 8 * 256 + 1 * (y 1).val = 256 * (t.val / 8) + (y 1).val by omega]
  · have h0 : (i 0).val < 4096 := (i 0).isLt
    have h1 : (i 1).val < 1024 := (i 1).isLt
    refine ⟨⟨(i 1).val / 256 * 8 + (i 0).val / 512, by have hN : cfg0.N = 32 := N_0; omega⟩, flush0_8 _, ?_⟩
    generalize ht : (⟨(i 1).val / 256 * 8 + (i 0).val / 512, _⟩ : Fin cfg0.N) = t
    have hv : t.val = (i 1).val / 256 * 8 + (i 0).val / 512 := by rw [← ht]
    show i ∈ ((View.whole main_v57_1).slice (win0_8.rect t)).set
    rw [View.set_slice_whole, Rect.mem_set_unit]
    intro a
    match a with
    | ⟨0, _⟩ =>
      show win0_8.index t 0 * 512 ≤ (i 0).val ∧ (i 0).val < win0_8.index t 0 * 512 + 512
      rw [(idx8 t).1]; omega
    | ⟨1, _⟩ =>
      show win0_8.index t 1 * 256 ≤ (i 1).val ∧ (i 1).val < win0_8.index t 1 * 256 + 256
      rw [(idx8 t).2]; omega

/-- The values' gradient. -/
theorem array_v (c : Dev nD) (h : Launched m c A B C O M) :
    (dats m 0 c).arrAt 9 cfg0.N = (held (wideV A B C O M) : S4096x512.Idx → EReal) := by
  refine (dats m 0 c).arrAt_eq_of_cover 9 _ (fun t _ => ?_) fun i => ?_
  · funext y
    rw [View.read_apply]
    have hj : (grid0.coords t 1).val = t.val % 8 := col t
    have b0 : (y 0).val < 512 := (y 0).isLt
    have b1 : (y 1).val < 128 := (y 1).isLt
    have e : ∀ j (hj : j < 8), j = t.val % 8 → outV (ins m c t) j hj y = ((wideV A B C O M (512 * (t.val % 8) + (y 0).val) (128 * (t.val / 8) + (y 1).val) : ℝ) : EReal) := by
      rintro j hj rfl
      rw [outV_reads (has m c h t) hj y]
      unfold wideV
      rw [show (128 * (t.val / 8) + (y 1).val) / 128 = t.val / 8 by omega, show (128 * (t.val / 8) + (y 1).val) % 128 = (y 1).val by omega]
      rfl
    show outV (ins m c t) (grid0.coords t 1).val (col_lt t) y = ((wideV A B C O M (win0_9.index t 0 * 512 + 1 * (y 0).val) (win0_9.index t 1 * 128 + 1 * (y 1).val) : ℝ) : EReal)
    rw [(idx9 t).1, (idx9 t).2, e _ _ hj, show t.val % 8 * 512 + 1 * (y 0).val = 512 * (t.val % 8) + (y 0).val by omega,
      show t.val / 8 * 128 + 1 * (y 1).val = 128 * (t.val / 8) + (y 1).val by omega]
  · have h0 : (i 0).val < 4096 := (i 0).isLt
    have h1 : (i 1).val < 512 := (i 1).isLt
    refine ⟨⟨(i 1).val / 128 * 8 + (i 0).val / 512, by have hN : cfg0.N = 32 := N_0; omega⟩, flush0_9 _, ?_⟩
    generalize ht : (⟨(i 1).val / 128 * 8 + (i 0).val / 512, _⟩ : Fin cfg0.N) = t
    have hv : t.val = (i 1).val / 128 * 8 + (i 0).val / 512 := by rw [← ht]
    show i ∈ ((View.whole main_v57_2).slice (win0_9.rect t)).set
    rw [View.set_slice_whole, Rect.mem_set_unit]
    intro a
    match a with
    | ⟨0, _⟩ =>
      show win0_9.index t 0 * 512 ≤ (i 0).val ∧ (i 0).val < win0_9.index t 0 * 512 + 512
      rw [(idx9 t).1]; omega
    | ⟨1, _⟩ =>
      show win0_9.index t 1 * 128 ≤ (i 1).val ∧ (i 1).val < win0_9.index t 1 * 128 + 128
      rw [(idx9 t).2]; omega

/-- The queries' gradient. -/
theorem array_q (c : Dev nD) (h : Launched m c A B C O M) :
    (dats m 0 c).arrAt 7 cfg0.N = (held (wideQ A B C O M) : S4096x1024.Idx → EReal) := by
  refine (dats m 0 c).arrAt_eq_of_cover 7 _ (fun t hf => ?_) fun i => ?_
  · have h7 : t.val % 8 = 7 := (flush0_7 t).1 hf
    funext y
    rw [View.read_apply]
    have b0 : (y 0).val < 4096 := (y 0).isLt
    have b1 : (y 1).val < 256 := (y 1).isLt
    show dqAt m c t.val t.isLt y = ((wideQ A B C O M (win0_7.index t 0 * 4096 + 1 * (y 0).val) (win0_7.index t 1 * 256 + 1 * (y 1).val) : ℝ) : EReal)
    rw [(idx7 t).1, (idx7 t).2, dqAt_reads m c h t.val t.isLt y, h7]
    unfold wideQ
    rw [show t.val / 8 * 256 + 1 * (y 1).val = 256 * (t.val / 8) + (y 1).val by omega, show 0 * 4096 + 1 * (y 0).val = (y 0).val by omega,
      show (256 * (t.val / 8) + (y 1).val) / 256 = t.val / 8 by omega, show (256 * (t.val / 8) + (y 1).val) % 256 = (y 1).val by omega]
    rfl
  · have h0 : (i 0).val < 4096 := (i 0).isLt
    have h1 : (i 1).val < 1024 := (i 1).isLt
    refine ⟨⟨(i 1).val / 256 * 8 + 7, by have hN : cfg0.N = 32 := N_0; omega⟩, (flush0_7 _).2 (by show ((i 1).val / 256 * 8 + 7) % 8 = 7; omega), ?_⟩
    generalize ht : (⟨(i 1).val / 256 * 8 + 7, _⟩ : Fin cfg0.N) = t
    have hv : t.val = (i 1).val / 256 * 8 + 7 := by rw [← ht]
    show i ∈ ((View.whole main_v57_0).slice (win0_7.rect t)).set
    rw [View.set_slice_whole, Rect.mem_set_unit]
    intro a
    match a with
    | ⟨0, _⟩ =>
      show win0_7.index t 0 * 4096 ≤ (i 0).val ∧ (i 0).val < win0_7.index t 0 * 4096 + 4096
      rw [(idx7 t).1]; omega
    | ⟨1, _⟩ =>
      show win0_7.index t 1 * 256 ≤ (i 1).val ∧ (i 1).val < win0_7.index t 1 * 256 + 256
      rw [(idx7 t).2]; omega

end Cert.Kernel2Ideal.Mla

end
-- ==== Proof.Mla.Equation.lean ====
/- The attention gradient's kernel and its reference hold the same real numbers. -/
module

public import proofs.«01_k».proof.Proof.Mla.Arrays

@[expose] public section

set_option maxRecDepth 16384

noncomputable section

namespace Cert.Kernel2Ideal.Mla

open Idealize.ShloMosaic Idealize.ShloMosaic.Tactic Idealize.ShloMosaic.TcCoe Cert.Kernel2Ideal Cert.Kernel2Ideal.Gen Cert.Reals
open Cert.Reference2Ideal.Mla (logit pull)

variable (A B C O M : ℕ → ℕ → ℝ)

theorem log_two_ne : Real.log 2 ≠ 0 := (Real.log_pos one_lt_two).ne'

/-- A head's product over its padded lanes is its product over its own. -/
theorem lanes_sum (h r c : ℕ) : (∑ l ∈ Finset.range 128, lanes A r (128 * h + l) * s2 * lanes B c (128 * h + l)) * Real.log 2 = logit A B h r c := by
  rw [show (128 : ℕ) = 96 + 32 from rfl, Finset.sum_range_add, show (∑ x ∈ Finset.range 32, lanes A r ((96 + 32) * h + (96 + x)) * s2 * lanes B c ((96 + 32) * h + (96 + x))) = 0 by
    refine Finset.sum_eq_zero fun x hx => ?_
    have hx := Finset.mem_range.1 hx
    rw [lanes, if_neg (by omega), zero_mul, zero_mul], add_zero]
  unfold logit
  rw [Finset.sum_mul, Finset.sum_mul]
  refine Finset.sum_congr rfl fun d hd => ?_
  have hd := Finset.mem_range.1 hd
  rw [show (96 + 32) * h + d = 128 * h + d by omega, lanes_low A r h d hd, lanes_low B c h d hd]
  have e : s2 * Real.log 2 = sg := by unfold s2 sg; rw [mul_assoc, inv_mul_cancel₀ log_two_ne, mul_one]
  show _ = A r (96 * h + d) * B c (96 * h + d) * sg
  rw [← e]; ring

/-- The kernel's weights are the softmax's. -/
theorem weights (g n r c : ℕ) (hn : n < 2) (hr : r < 4096) : (nums A B C O M g).W n r c = soft (logit A B) M (2 * g + n) r c := by
  unfold Nums.W
  split
  · rename_i hc
    rw [← soft_pow (logit A B) M (2 * g + n) r c hr hc (∑ l ∈ Finset.range 128, lanes A r (128 * (2 * g + n) + l) * s2 * lanes B c (128 * (2 * g + n) + l))
      (lanes_sum A B _ r c)]
    unfold wt
    show (2 : ℝ) ^ ((∑ l ∈ Finset.range 128, lanes A r (256 * g + (128 * n + l)) * s2 * lanes B c (256 * g + (128 * n + l)))
      - (if n < 2 then lse A B M (2 * g + n) r else _)) = _
    rw [if_pos hn]
    simp only [show ∀ l, 256 * g + (128 * n + l) = 128 * (2 * g + n) + l from fun l => by omega]
    rfl
  · rename_i hc
    unfold soft expo
    rw [if_neg hc, zero_div]

/-- The kernel's gradient of the logits is the reference's. -/
theorem grads (g n r c : ℕ) (hn : n < 2) (hr : r < 4096) : (nums A B C O M g).G n r c = back (logit A B) M (pull C O) (2 * g + n) r c := by
  unfold Nums.G gr back
  rw [weights A B C O M g n r c hn hr]
  show soft (logit A B) M (2 * g + n) r c * ((∑ l ∈ Finset.range 64, O r (128 * g + (64 * n + l)) * C c (128 * g + (64 * n + l)))
      - (if 2 + n < 2 then _ else if 2 + n < 4 then mean (logit A B) M (pull C O) (2 * g + (2 + n - 2)) r else _)) = _
  rw [if_neg (by omega), if_pos (by omega), show 2 + n - 2 = n by omega]
  unfold pull
  simp only [show ∀ l, 128 * g + (64 * n + l) = 64 * (2 * g + n) + l from fun l => by omega]

theorem wideV_eq (c l : ℕ) : wideV A B C O M c l = ∑ r ∈ Finset.range 4096, O r l * soft (logit A B) M (l / 64) r c := by
  unfold wideV
  refine Finset.sum_congr rfl fun r hr => ?_
  rw [weights A B C O M (l / 128) (l % 128 / 64) r c (by omega) (Finset.mem_range.1 hr), show 2 * (l / 128) + l % 128 / 64 = l / 64 by omega]

theorem wideK_eq (c l : ℕ) : wideK A B C O M c (128 * (l / 96) + l % 96)
    = ∑ r ∈ Finset.range 4096, back (logit A B) M (pull C O) (l / 96) r c * sg * A r l := by
  unfold wideK
  rw [Finset.sum_mul]
  refine Finset.sum_congr rfl fun r hr => ?_
  rw [grads A B C O M _ _ r c (by omega) (Finset.mem_range.1 hr), lanes_low A r (l / 96) (l % 96) (Nat.mod_lt _ (by decide)),
    show 96 * (l / 96) + l % 96 = l by omega, show 2 * ((128 * (l / 96) + l % 96) / 256) + (128 * (l / 96) + l % 96) % 256 / 128 = l / 96 by omega]
  have e : s2 * Real.log 2 = sg := by unfold s2 sg; rw [mul_assoc, inv_mul_cancel₀ log_two_ne, mul_one]
  rw [← e]; ring

theorem wideQ_eq (r l : ℕ) (hr : r < 4096) : wideQ A B C O M r (128 * (l / 96) + l % 96)
    = ∑ c ∈ Finset.range 4096, back (logit A B) M (pull C O) (l / 96) r c * sg * B c l := by
  unfold wideQ
  rw [Finset.sum_mul]
  refine Finset.sum_congr rfl fun c hc => ?_
  rw [grads A B C O M _ _ r c (by omega) hr, lanes_low B c (l / 96) (l % 96) (Nat.mod_lt _ (by decide)),
    show 96 * (l / 96) + l % 96 = l by omega, show 2 * ((128 * (l / 96) + l % 96) / 256) + (128 * (l / 96) + l % 96) % 256 / 128 = l / 96 by omega]
  ring

/-- The host's cut of the padded lanes. -/
def cut {φ : FTy} (x : FVec Ideal S4096x1024 φ) : FVec Ideal S4096x768 φ :=
  shapeCast S4096x768 (extractStridedSlice S4096x8x96 ![0, 0, 0] (shapeCast S4096x8x128 x shapeCasts_S4096x1024_S4096x8x128)
    slices_S4096x8x128_S4096x8x96_0_0_0) shapeCasts_S4096x8x96_S4096x768

theorem cut_apply {φ : FTy} (f : ℕ → ℕ → ℝ) (i : S4096x768.Idx) :
    cut (φ := φ) (held f : S4096x1024.Idx → EReal) i = ((f (i 0).val (128 * ((i 1).val / 96) + (i 1).val % 96) : ℝ) : EReal) := by
  have b0 : (i 0).val < 4096 := (i 0).isLt
  have b1 : (i 1).val < 768 := (i 1).isLt
  unfold cut
  rw [shapeCast_apply _ _ i (ValueIdx.ix3 ⟨(i 0).val, b0⟩ ⟨(i 1).val / 96, by omega⟩ ⟨(i 1).val % 96, by omega⟩ : S4096x8x96.Idx) (by
      rewrite [Shape.rowMajor_val_three, Shape.rowMajor_val_two]
      show ((i 0).val * 8 + (i 1).val / 96) * 96 + (i 1).val % 96 = (i 0).val * 768 + (i 1).val; omega),
    extractStridedSlice_apply _ _ _ _ (ValueIdx.ix3 ⟨(i 0).val, b0⟩ ⟨(i 1).val / 96, by omega⟩ ⟨(i 1).val % 96, by omega⟩ : S4096x8x128.Idx) (fun a => by
      match a with
      | ⟨0, _⟩ => show (i 0).val = 0 + (i 0).val; omega
      | ⟨1, _⟩ => show (i 1).val / 96 = 0 + (i 1).val / 96; omega
      | ⟨2, _⟩ => show (i 1).val % 96 = 0 + (i 1).val % 96; omega),
    shapeCast_apply _ _ _ (ValueIdx.ix2 ⟨(i 0).val, b0⟩ ⟨128 * ((i 1).val / 96) + (i 1).val % 96, by omega⟩ : S4096x1024.Idx) (by
      rewrite [Shape.rowMajor_val_three, Shape.rowMajor_val_two]
      show (i 0).val * 1024 + (128 * ((i 1).val / 96) + (i 1).val % 96) = ((i 0).val * 8 + (i 1).val / 96) * 128 + (i 1).val % 96; omega)]
  rfl

variable (m : (ℓ : Loc nD τ sig) → Buf (Elt Ideal) ℓ)
variable {A B C O M}

/-- The valuation the lines after the call start from. -/
abbrev left (c : Dev nD) : Valuation τ sig (Elt Ideal) :=
  Pipeline.withArrays spec0 c (V0 m c) fun w => (dats m 0 c).arrAt w cfg0.N

theorem tail_q (c : Dev nD) : Pipeline.afterTail₀ cfgs (dats m) 0 (V0 m) [hostOps1] c main_v60 = cut (φ := .f32) ((dats m 0 c).arrAt 7 cfg0.N) := by
  show StableHlo.after hostOps1 (left m c) (Proc.devRef .tc main_v60) = _
  have e : left m c (Proc.devRef .tc main_v57_0) = (dats m 0 c).arrAt 7 cfg0.N := Pipeline.withArrays_arr spec0 launch0.win.arr_inj c _ _ 7
  rw [← e]
  generalize left m c = W
  simp only [hostOps1, StableHlo.TRef.nullary, StableHlo.TRef.binary, StableHlo.TRef.ternary, StableHlo.TRef.unary, StableHlo.TRef.toBuf, StableHlo.TRef.ofBuf, cast_eq]
  after_results_simp <;> rfl

theorem tail_k (c : Dev nD) : Pipeline.afterTail₀ cfgs (dats m) 0 (V0 m) [hostOps1] c main_v63 = cut (φ := .bf16) ((dats m 0 c).arrAt 8 cfg0.N) := by
  show StableHlo.after hostOps1 (left m c) (Proc.devRef .tc main_v63) = _
  have e : left m c (Proc.devRef .tc main_v57_1) = (dats m 0 c).arrAt 8 cfg0.N := Pipeline.withArrays_arr spec0 launch0.win.arr_inj c _ _ 8
  rw [← e]
  generalize left m c = W
  simp only [hostOps1, StableHlo.TRef.nullary, StableHlo.TRef.binary, StableHlo.TRef.ternary, StableHlo.TRef.unary, StableHlo.TRef.toBuf, StableHlo.TRef.ofBuf, cast_eq]
  after_results_simp <;> rfl

/-- The run's three results: the padded arrays cut to the heads' own lanes, and the values' array. -/
theorem run_results (ρ : Dev nD → PrngReg) : θ_run defs (onTc (τ := τ) (main (F := Ideal))) ⟨m, fun _ => 0, ρ⟩ fun r => ∀ c : Dev nD,
    r.2.mem ((c.tc : Thread nD τ).loc main_v60) = cut (φ := .f32) ((dats m 0 c).arrAt 7 cfg0.N)
    ∧ r.2.mem ((c.tc : Thread nD τ).loc main_v63) = cut (φ := .bf16) ((dats m 0 c).arrAt 8 cfg0.N)
    ∧ r.2.mem ((c.tc : Thread nD τ).loc main_v57_2) = (dats m 0 c).arrAt 9 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c =>
      ⟨((h.1.1 c).2 main_v60 (Pipeline.mem_restRefs_of main_v60 (by decide) (by decide))).trans (tail_q m c),
       ((h.1.1 c).2 main_v63 (Pipeline.mem_restRefs_of main_v63 (by decide) (by decide))).trans (tail_k m c),
       (h.1.1 c).1 9, h.2.1 c⟩)
    (θ_run_and (run_main m ρ) (frame_main m ρ))

variable {A B C O M : ℕ → ℕ → ℝ}

/-- The reference's queries' gradient is the kernel's. -/
theorem same_q (c : Dev nD) (h : Launched m c A B C O M) :
    Cert.Reference2Ideal.Read.val_main_v75 (F := Ideal) (m ((c : Thread nD τ).loc main_arg0)) (m ((c : Thread nD τ).loc main_arg1)) (m ((c : Thread nD τ).loc main_arg2)) (m ((c : Thread nD τ).loc main_arg3))
      = cut (φ := .f32) ((dats m 0 c).arrAt 7 cfg0.N) := by
  funext i
  rw [Cert.Reference2Ideal.Mla.dq_reads h.q h.k h.v h.o h.top i, array_q m c h, cut_apply, wideQ_eq A B C O M _ _ (i 0).isLt]
  rfl

/-- The reference's keys' gradient is the kernel's. -/
theorem same_k (c : Dev nD) (h : Launched m c A B C O M) :
    Cert.Reference2Ideal.Read.val_main_v76 (F := Ideal) (m ((c : Thread nD τ).loc main_arg0)) (m ((c : Thread nD τ).loc main_arg1)) (m ((c : Thread nD τ).loc main_arg2)) (m ((c : Thread nD τ).loc main_arg3))
      = cut (φ := .bf16) ((dats m 0 c).arrAt 8 cfg0.N) := by
  funext i
  rw [Cert.Reference2Ideal.Read.val_main_v76_apply]
  show Cert.Reference2Ideal.Read.val_main_v73 (F := Ideal) _ _ _ _ i = _
  rw [Cert.Reference2Ideal.Mla.dk_reads h.q h.k h.v h.o h.top i, array_k m c h, cut_apply, wideK_eq A B C O M]
  rfl

/-- The reference's values' gradient is the kernel's. -/
theorem same_v (c : Dev nD) (h : Launched m c A B C O M) :
    Cert.Reference2Ideal.Read.val_main_v77 (F := Ideal) (m ((c : Thread nD τ).loc main_arg0)) (m ((c : Thread nD τ).loc main_arg1)) (m ((c : Thread nD τ).loc main_arg3))
      = (dats m 0 c).arrAt 9 cfg0.N := by
  rw [array_v m c h]
  funext i
  rw [Cert.Reference2Ideal.Read.val_main_v77_apply]
  show Cert.Reference2Ideal.Read.val_main_v54 (F := Ideal) _ _ _ i = ((wideV A B C O M (i 0).val (i 1).val : ℝ) : EReal)
  rw [Cert.Reference2Ideal.Mla.dv_reads h.q h.k h.o h.top i, wideV_eq]

end Cert.Kernel2Ideal.Mla

end
-- ==== Proof.Fox.Step.lean ====
/- What one block of query rows adds to the gradients of attention with forgetting, as functions of the blocks. -/
module

public import proofs.«01_k».proof.Proof.Gen.Kernel3Ideal.Loops
public import Idealize.ShloMosaic.Lib.VecWindow
public import Idealize.ShloMosaic.Lib.WritesUnit
public import Idealize.ShloMosaic.Lib.Pipeline.FrameBody

@[expose] public section

set_option maxRecDepth 16384

noncomputable section

namespace Cert.Kernel3Ideal.Fox

open Idealize.ShloMosaic Idealize.ShloMosaic.TcCoe Cert.Kernel3Ideal.Gen

variable {F : FTy → Type} [FloatOps F] [Named F]

/-- The eight input blocks of one grid point: a head pair's queries, the same turned, the point's keys and values, the pair's
    cotangents, the same turned, the saved rows of statistics and the point's columns of the forget sums. -/
structure Ins (F : FTy → Type) [FloatOps F] where
  q : Vec F S4096x128 .bf16
  qt : Vec F S8x128x512 .bf16
  k : Vec F S512x128 .bf16
  v : Vec F S512x128 .bf16
  o : Vec F S4096x128 .bf16
  ot : Vec F S8x128x512 .bf16
  st : Vec F S1x4096x128 .f32
  f : Vec F S1x8x512 .f32

/-- The six accumulators a loop carries: of the keys, the values and the forget sums, for each head of the pair. -/
abbrev Carry (F : FTy → Type) [FloatOps F] := FVec F S64x512 .f32 × FVec F S64x512 .f32 × FVec F S1x512 .f32 × FVec F S64x512 .f32 × FVec F S64x512 .f32 × FVec F S1x512 .f32

/-- The accumulators, the block of the queries' gradient and the block of the forget sums' gradient. -/
abbrev State (F : FTy → Type) [FloatOps F] := Carry F × Vec F S4096x128 .f32 × Vec F S4096x128 .f32

/-- `n` rows from `o` fit in `4096` rows of `w` columns. -/
theorem fit2 {o n w : ℕ} (h : o + n ≤ 4096) : ∀ a, (![o, 0] : Fin 2 → ℕ) a + (![n, w] : Fin 2 → ℕ) a ≤ (![4096, w] : Fin 2 → ℕ) a := by
  intro a; fin_cases a
  · exact h
  · exact Nat.le_of_eq (Nat.zero_add w)

/-- The same rows behind a leading axis of one. -/
theorem fit3 {o n w : ℕ} (h : o + n ≤ 4096) : ∀ a, (![0, o, 0] : Fin 3 → ℕ) a + (![1, n, w] : Fin 3 → ℕ) a ≤ (![1, 4096, w] : Fin 3 → ℕ) a := by
  intro a; fin_cases a
  · exact Nat.le_refl 1
  · exact h
  · exact Nat.le_of_eq (Nat.zero_add w)

/-- Block `b` of eight. -/
theorem fitT {b r w : ℕ} (h : b + 1 ≤ 8) : ∀ a, (![b, 0, 0] : Fin 3 → ℕ) a + (![1, r, w] : Fin 3 → ℕ) a ≤ (![8, r, w] : Fin 3 → ℕ) a := by
  intro a; fin_cases a
  · exact h
  · exact Nat.le_of_eq (Nat.zero_add r)
  · exact Nat.le_of_eq (Nat.zero_add w)

/-- The pair of heads as the body's word. -/
abbrev pairWord (i : grid0.Coords) : BitVec 32 := BitVec.ofNat 32 (i 0).val

/-- The number of each column of a row of `128`. -/
abbrev lane : IVec S1x128 32 := iota .tc S1x128 32 [1] iota_S1x128_d1_w32

variable (i : grid0.Coords) (x : Ins F)

/-- The point's keys as the body keeps them, -/
abbrev keys : FVec F S512x128 .bf16 := k0_pay119 x.k
/-- its values, -/
abbrev vals : FVec F S512x128 .bf16 := k0_pay120 x.v
/-- and the forget sums of its columns for the pair's first head -/
abbrev bias0 : FVec F S1x512 .f32 := k0_pay121 i x.f
/-- and its second. -/
abbrev bias1 : FVec F S1x512 .f32 := k0_pay123 (k0_pay122 i x.f)

/-- What a block of 512 query rows below the diagonal adds: the rows' queries `q` and the same turned `qt`, cotangents `o` and
    the same turned `ot`, statistics `st`, the accumulators `a` and the rows `d`, `e` of the two gradients so far. -/
def oneOf (q : Vec F S512x128 .bf16) (qt : Vec F S1x128x512 .bf16) (o : Vec F S512x128 .bf16) (ot : Vec F S1x128x512 .bf16)
    (st : Vec F S1x512x128 .f32) (a : Carry F) (d e : Vec F S512x128 .f32) : Carry F × Vec F S512x128 .f32 × Vec F S512x128 .f32 :=
  ((k0_pay17 (keys x) (vals x) (bias0 i x) a.1 (k0_pay4 q) (k0_pay6 qt) (k0_pay9 o) st,
    k0_pay16 (keys x) (bias0 i x) a.2.1 (k0_pay4 q) ot st,
    k0_pay19 (keys x) (vals x) (bias0 i x) a.2.2.1 (k0_pay4 q) (k0_pay9 o) st,
    k0_pay27 a.2.2.2.1 (k0_pay6 qt) (k0_pay21 (keys x) (bias1 i x) (k0_pay5 q) st) (k0_pay22 (vals x) (k0_pay7 o) k0_pay8 k0_pay10) (k0_pay23 st),
    k0_pay26 a.2.2.2.2.1 (k0_pay11 ot) (k0_pay21 (keys x) (bias1 i x) (k0_pay5 q) st),
    k0_pay28 a.2.2.2.2.2 (k0_pay21 (keys x) (bias1 i x) (k0_pay5 q) st) (k0_pay22 (vals x) (k0_pay7 o) k0_pay8 k0_pay10) (k0_pay23 st)),
   k0_pay163 (k0_pay29 (keys x) (k0_pay18 (keys x) (vals x) (bias0 i x) (k0_pay4 q) (k0_pay9 o) st) (k0_pay21 (keys x) (bias1 i x) (k0_pay5 q) st)
      (k0_pay22 (vals x) (k0_pay7 o) k0_pay8 k0_pay10) (k0_pay23 st)) d,
   k0_pay162 (k0_pay30 e) (k0_pay31 (pairWord i) (k0_pay20 (keys x) (vals x) (bias0 i x) (k0_pay4 q) (k0_pay9 o) st)
      (k0_pay21 (keys x) (bias1 i x) (k0_pay5 q) st) (k0_pay22 (vals x) (k0_pay7 o) k0_pay8 k0_pay10) (k0_pay23 st)))

/-- What two such blocks add at once. -/
def twoOf (q : Vec F S1024x128 .bf16) (qt0 qt1 : Vec F S1x128x512 .bf16) (o : Vec F S1024x128 .bf16) (ot0 ot1 : Vec F S1x128x512 .bf16)
    (st : Vec F S1x1024x128 .f32) (a : Carry F) (d e : Vec F S1024x128 .f32) : Carry F × Vec F S1024x128 .f32 × Vec F S1024x128 .f32 :=
  ((k0_pay76 (keys x) (vals x) (bias0 i x) a.1 (k0_pay64 q) (k0_pay66 qt0 qt1) (k0_pay67 o) k0_pay68 lane 64#32 st,
    k0_pay75 (keys x) (bias0 i x) a.2.1 (k0_pay64 q) ot0 ot1 st,
    k0_pay78 a.2.2.1 (k0_pay73 (keys x) (vals x) (bias0 i x) (k0_pay64 q) (k0_pay67 o) k0_pay68 lane 64#32 st),
    k0_pay84 (keys x) (vals x) (bias1 i x) a.2.2.2.1 (k0_pay65 q) (k0_pay66 qt0 qt1) (k0_pay69 (k0_pay67 o) k0_pay68) (k0_pay71 st),
    k0_pay83 (keys x) (bias1 i x) a.2.2.2.2.1 (k0_pay65 q) (k0_pay70 ot0 ot1) (k0_pay71 st),
    k0_pay85 (keys x) (vals x) (bias1 i x) a.2.2.2.2.2 (k0_pay65 q) (k0_pay69 (k0_pay67 o) k0_pay68) (k0_pay71 st)),
   k0_pay167 (k0_pay87 (keys x) (vals x) (bias1 i x) (k0_pay65 q) (k0_pay69 (k0_pay67 o) k0_pay68) (k0_pay71 st)
      (k0_pay77 (keys x) (vals x) (bias0 i x) (k0_pay64 q) (k0_pay67 o) k0_pay68 lane 64#32 st)) d,
   k0_pay166 (pairWord i) (k0_pay79 (k0_pay73 (keys x) (vals x) (bias0 i x) (k0_pay64 q) (k0_pay67 o) k0_pay68 lane 64#32 st))
      (k0_pay86 (keys x) (vals x) (bias1 i x) (k0_pay65 q) (k0_pay69 (k0_pay67 o) k0_pay68) (k0_pay71 st)) (k0_pay88 e) (k0_pay89 (pairWord i)) lane)

/-- What the block on the diagonal makes: the accumulators start here, from zero. -/
def diagOf (q : Vec F S512x128 .bf16) (qt : Vec F S1x128x512 .bf16) (o : Vec F S512x128 .bf16) (ot : Vec F S1x128x512 .bf16)
    (st : Vec F S1x512x128 .f32) (d e : Vec F S512x128 .f32) : Carry F × Vec F S512x128 .f32 × Vec F S512x128 .f32 :=
  ((k0_pay147 k0_pay125 (k0_pay136 (k0_pay135 qt) (Named.named κ "s2" 0x3E38AA3B#32)) (k0_pay144 (keys x) (vals x) (bias0 i x) (k0_pay133 q) o st),
    k0_pay146 k0_pay126 (k0_pay142 (keys x) (bias0 i x) (k0_pay133 q) st) (k0_pay145 ot),
    k0_pay149 k0_pay127 (k0_pay143 (keys x) (vals x) (bias0 i x) (k0_pay133 q) o st),
    k0_pay155 (keys x) (vals x) (bias1 i x) k0_pay128 (k0_pay134 q) (k0_pay136 (k0_pay135 qt) (Named.named κ "s2" 0x3E38AA3B#32)) (k0_pay139 o) (k0_pay141 st),
    k0_pay154 (keys x) (bias1 i x) k0_pay129 (k0_pay134 q) (k0_pay140 ot) (k0_pay141 st),
    k0_pay157 (keys x) (vals x) (bias1 i x) k0_pay130 (k0_pay134 q) (k0_pay139 o) (k0_pay141 st)),
   k0_pay161 (k0_pay148 (keys x) (k0_pay144 (keys x) (vals x) (bias0 i x) (k0_pay133 q) o st))
      (k0_pay156 (keys x) (vals x) (bias1 i x) (k0_pay134 q) (k0_pay139 o) (k0_pay141 st)) k0_pay159 d,
   k0_pay160 (pairWord i) (k0_pay150 (k0_pay143 (keys x) (vals x) (bias0 i x) (k0_pay133 q) o st))
      (k0_pay158 (keys x) (vals x) (bias1 i x) (k0_pay134 q) (k0_pay139 o) (k0_pay141 st)) e)

/-- What the point's end adds to its own rows of the forget sums' gradient. -/
def endOf (a : Carry F) (e : Vec F S512x128 .f32) : Vec F S512x128 .f32 :=
  k0_pay1 (pairWord i) a.2.2.1 a.2.2.2.2.2 (iota .tc S128x1 32 [0] iota_S128x1_d0_w32) (k0_pay172 (pairWord i)) e

/-- One block of 512 query rows below the diagonal, number `b`. -/
def one (b : ℕ) (h : b < 8) (s : State F) : State F :=
  have e : 512 * b + 512 ≤ 4096 := by omega
  let r := oneOf i x (VecWindow.window x.q ![512 * b, 0] S512x128.size (fit2 e)) (VecWindow.window x.qt ![b, 0, 0] S1x128x512.size (fitT h))
    (VecWindow.window x.o ![512 * b, 0] S512x128.size (fit2 e)) (VecWindow.window x.ot ![b, 0, 0] S1x128x512.size (fitT h))
    (VecWindow.window x.st ![0, 512 * b, 0] S1x512x128.size (fit3 e)) s.1 (VecWindow.window s.2.1 ![512 * b, 0] S512x128.size (fit2 e))
    (VecWindow.window s.2.2 ![512 * b, 0] S512x128.size (fit2 e))
  (r.1, VecWindow.put s.2.1 ![512 * b, 0] S512x128.size r.2.1, VecWindow.put s.2.2 ![512 * b, 0] S512x128.size r.2.2)

/-- Two blocks of query rows at once, numbers `2 * b` and `2 * b + 1`. -/
def two (b : ℕ) (h : b < 4) (s : State F) : State F :=
  have e : 1024 * b + 1024 ≤ 4096 := by omega
  have e0 : 2 * b + 1 ≤ 8 := by omega
  have e1 : 2 * b + 1 + 1 ≤ 8 := by omega
  let r := twoOf i x (VecWindow.window x.q ![1024 * b, 0] S1024x128.size (fit2 e))
    (VecWindow.window x.qt ![2 * b, 0, 0] S1x128x512.size (fitT e0)) (VecWindow.window x.qt ![2 * b + 1, 0, 0] S1x128x512.size (fitT e1))
    (VecWindow.window x.o ![1024 * b, 0] S1024x128.size (fit2 e))
    (VecWindow.window x.ot ![2 * b, 0, 0] S1x128x512.size (fitT e0)) (VecWindow.window x.ot ![2 * b + 1, 0, 0] S1x128x512.size (fitT e1))
    (VecWindow.window x.st ![0, 1024 * b, 0] S1x1024x128.size (fit3 e)) s.1 (VecWindow.window s.2.1 ![1024 * b, 0] S1024x128.size (fit2 e))
    (VecWindow.window s.2.2 ![1024 * b, 0] S1024x128.size (fit2 e))
  (r.1, VecWindow.put s.2.1 ![1024 * b, 0] S1024x128.size r.2.1, VecWindow.put s.2.2 ![1024 * b, 0] S1024x128.size r.2.2)

/-- The block of query rows on the diagonal, number `b`. -/
def diag (b : ℕ) (h : b < 8) (D E : Vec F S4096x128 .f32) : State F :=
  have e : 512 * b + 512 ≤ 4096 := by omega
  let r := diagOf i x (VecWindow.window x.q ![512 * b, 0] S512x128.size (fit2 e)) (VecWindow.window x.qt ![b, 0, 0] S1x128x512.size (fitT h))
    (VecWindow.window x.o ![512 * b, 0] S512x128.size (fit2 e)) (VecWindow.window x.ot ![b, 0, 0] S1x128x512.size (fitT h))
    (VecWindow.window x.st ![0, 512 * b, 0] S1x512x128.size (fit3 e)) (VecWindow.window D ![512 * b, 0] S512x128.size (fit2 e))
    (VecWindow.window E ![512 * b, 0] S512x128.size (fit2 e))
  (r.1, VecWindow.put D ![512 * b, 0] S512x128.size r.2.1, VecWindow.put E ![512 * b, 0] S512x128.size r.2.2)

/-- The point's end: the columns' part goes to the point's own rows, number `b`. -/
def ended (b : ℕ) (h : b < 8) (s : State F) : State F :=
  have e : 512 * b + 512 ≤ 4096 := by omega
  (s.1, s.2.1, VecWindow.put s.2.2 ![512 * b, 0] S512x128.size (endOf i s.1 (VecWindow.window s.2.2 ![512 * b, 0] S512x128.size (fit2 e))))

/-- `n` single blocks from number `b`. -/
def ones (b : ℕ) (s : State F) : ℕ → State F
  | 0 => s
  | n + 1 => if h : b + n < 8 then one i x (b + n) h (ones b s n) else ones b s n

/-- `n` double blocks from number `b`. -/
def twos (b : ℕ) (s : State F) : ℕ → State F
  | 0 => s
  | n + 1 => if h : b + n < 4 then two i x (b + n) h (twos b s n) else twos b s n

/-- The blocks of rows past the one on the diagonal, at column block `j`. -/
def below (j : ℕ) (s : State F) : State F :=
  twos i x (j / 2 + 1) (ones i x (j + 1) s (1 - j % 2)) (3 - j / 2)

/-- What follows the block on the diagonal. -/
def after (j : ℕ) (h : j < 8) (s : State F) : State F :=
  ended i j h (below i x j s)

/-- Everything the body does at column block `j`, from the two gradients it finds: the queries' is cleared at `j = 0`, the
    forget sums' at the very first point. -/
def whole (j : ℕ) (h : j < 8) (D E : Vec F S4096x128 .f32) : State F :=
  after i x j h (diag i x j h (if j = 0 then k0_pay118 else D) (if (i 0).val = 0 ∧ j = 0 then k0_pay124 else E))

/-- The keys' gradient it stores. -/
def outK (j : ℕ) (h : j < 8) : Vec F S512x128 .bf16 :=
  k0_pay170 (whole i x j h k0_pay118 k0_pay124).1.1 (whole i x j h k0_pay118 k0_pay124).1.2.2.2.1

/-- The values' gradient it stores. -/
def outV (j : ℕ) (h : j < 8) : Vec F S512x128 .bf16 :=
  k0_pay171 (whole i x j h k0_pay118 k0_pay124).1.2.1 (whole i x j h k0_pay118 k0_pay124).1.2.2.2.2.1

theorem one_fst (b : ℕ) (h : b < 8) (s s' : State F) (e : s.1 = s'.1) : (one i x b h s).1 = (one i x b h s').1 := by
  obtain ⟨a, D, E⟩ := s
  obtain ⟨a', D', E'⟩ := s'
  cases e
  rfl

theorem two_fst (b : ℕ) (h : b < 4) (s s' : State F) (e : s.1 = s'.1) : (two i x b h s).1 = (two i x b h s').1 := by
  obtain ⟨a, D, E⟩ := s
  obtain ⟨a', D', E'⟩ := s'
  cases e
  rfl

theorem ones_fst (b : ℕ) (s s' : State F) (h : s.1 = s'.1) : ∀ n, (ones i x b s n).1 = (ones i x b s' n).1
  | 0 => h
  | n + 1 => by
    have ih := ones_fst b s s' h n
    unfold ones
    split
    · exact one_fst i x _ _ _ _ ih
    · exact ih

theorem twos_fst (b : ℕ) (s s' : State F) (h : s.1 = s'.1) : ∀ n, (twos i x b s n).1 = (twos i x b s' n).1
  | 0 => h
  | n + 1 => by
    have ih := twos_fst b s s' h n
    unfold twos
    split
    · exact two_fst i x _ _ _ _ ih
    · exact ih

theorem diag_fst (b : ℕ) (h : b < 8) (D D' E E' : Vec F S4096x128 .f32) : (diag i x b h D E).1 = (diag i x b h D' E').1 := rfl

/-- The accumulators do not depend on the gradients found. -/
theorem whole_fst (j : ℕ) (h : j < 8) (D D' E E' : Vec F S4096x128 .f32) : (whole i x j h D E).1 = (whole i x j h D' E').1 := by
  unfold whole after ended below
  refine twos_fst i x _ _ _ ?_ _
  exact ones_fst i x (j + 1) _ _ (diag_fst i x j h _ _ _ _) _

/-! ## Where the body's loads and stores are -/

theorem trips1 : ∀ i : grid0.Coords, (k0_t1_loop i).trips = 1 - (i 1).val % 2 := by decide +kernel
theorem trips2 : ∀ i : grid0.Coords, (k0_t2_loop i).trips = 0 := by decide +kernel
theorem trips3 : ∀ i : grid0.Coords, (k0_t3_loop i).trips = 3 - (i 1).val / 2 := by decide +kernel
theorem trips4 : ∀ i : grid0.Coords, (k0_t4_loop i).trips = 0 := by decide +kernel

theorem at1 : ∀ i : grid0.Coords, k0_off1 i = ![512 * (i 1).val, 0] := by decide +kernel
theorem at2 : ∀ i : grid0.Coords, k0_off2 i = ![(i 1).val, 0, 0] := by decide +kernel
theorem at3 : ∀ i : grid0.Coords, k0_off3 i = ![0, 512 * (i 1).val, 0] := by decide +kernel
theorem at4 : ∀ (i : grid0.Coords) (k : Fin (k0_t1_loop i).trips), k0_off4 i k = ![512 * ((i 1).val + 1 + k.val), 0] := by decide +kernel
theorem at5 : ∀ (i : grid0.Coords) (k : Fin (k0_t1_loop i).trips), k0_off5 i k = ![(i 1).val + 1 + k.val, 0, 0] := by decide +kernel
theorem at6 : ∀ (i : grid0.Coords) (k : Fin (k0_t1_loop i).trips), k0_off6 i k = ![0, 512 * ((i 1).val + 1 + k.val), 0] := by decide +kernel
theorem at10 : ∀ (i : grid0.Coords) (k : Fin (k0_t3_loop i).trips), k0_off10 i k = ![1024 * ((i 1).val / 2 + 1 + k.val), 0] := by decide +kernel
theorem at11_0 : ∀ (i : grid0.Coords) (k : Fin (k0_t3_loop i).trips), k0_off11 i k 0#32 = ![2 * ((i 1).val / 2 + 1 + k.val), 0, 0] := by decide +kernel
theorem at11_1 : ∀ (i : grid0.Coords) (k : Fin (k0_t3_loop i).trips), k0_off11 i k 1#32 = ![2 * ((i 1).val / 2 + 1 + k.val) + 1, 0, 0] := by decide +kernel
theorem at12 : ∀ (i : grid0.Coords) (k : Fin (k0_t3_loop i).trips), k0_off12 i k = ![0, 1024 * ((i 1).val / 2 + 1 + k.val), 0] := by decide +kernel
theorem below1 : ∀ (i : grid0.Coords) (k : Fin (k0_t1_loop i).trips), (i 1).val + 1 + k.val < 8 := by decide +kernel
theorem below3 : ∀ (i : grid0.Coords) (k : Fin (k0_t3_loop i).trips), (i 1).val / 2 + 1 + k.val < 4 := by decide +kernel

end Cert.Kernel3Ideal.Fox

end
-- ==== Proof.Fox.Loop.lean ====
/- The body's loops, trip by trip, as the functions of `Step`. -/
module

public import proofs.«01_k».proof.Proof.Fox.Step

@[expose] public section

set_option maxRecDepth 16384

noncomputable section

namespace Cert.Kernel3Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

variable (c : Dev nD) (i : grid0.Coords) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)

/- `x` is the point's blocks; the other names below are read by no step of a loop: the accumulators where the loops start, and the words naming where each loop starts. -/
variable (x : Ins F) (w0 : BitVec 32) (y1 y2 : FVec F S64x512 .f32) (y3 : FVec F S1x512 .f32) (y4 y5 : FVec F S64x512 .f32) (y6 : FVec F S1x512 .f32) (w1 w2 w3 w4 : BitVec 32)

/-- One trip of the loop over single blocks, started from accumulators `a` and contents `f`, `h`, makes the step `one`. -/
theorem trip_one (w : BitVec 32) (k : Fin (k0_t1_loop i).trips) (a : Carry F) (f : BufTy.Contents (Elt F) arg10.view.ty) (h : BufTy.Contents (Elt F) arg13.view.ty) :
    (tripR_k0_t1 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) k a f h,
      arg10.view.read (Elt F) (arg10.view.writes (Elt F) f (tripL_k0_t1 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) k a f h).1),
      arg13.view.read (Elt F) (arg13.view.writes (Elt F) h (tripL_k0_t1 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) k a f h).2))
      = one i x ((i 1).val + 1 + k.val) (below1 i k) (a, arg10.view.read (Elt F) f, arg13.view.read (Elt F) h) := by
  unfold tripR_k0_t1 tripL_k0_t1 trip_k0_t1
  dsimp only
  suffices H : ∀ r : Carry F × Vec F S512x128 .f32 × Vec F S512x128 .f32, r = (oneOf i
      x
      (arg2.view.readAt (Elt F) (Rect.unit (s := S4096x128) (k0_off4 i k) S512x128.size (k0_off4_inb i k)).toLoadRect (harg2.unread x.q))
      (arg3.view.readAt (Elt F) (Rect.unit (s := S8x128x512) (k0_off5 i k) S1x128x512.size (k0_off5_inb i k)).toLoadRect (harg3.unread x.qt))
      (arg6.view.readAt (Elt F) (Rect.unit (s := S4096x128) (k0_off4 i k) S512x128.size (k0_off4_inb i k)).toLoadRect (harg6.unread x.o))
      (arg7.view.readAt (Elt F) (Rect.unit (s := S8x128x512) (k0_off5 i k) S1x128x512.size (k0_off5_inb i k)).toLoadRect (harg7.unread x.ot))
      (arg8.view.readAt (Elt F) (Rect.unit (s := S1x4096x128) (k0_off6 i k) S1x512x128.size (k0_off6_inb i k)).toLoadRect (harg8.unread x.st))
      a
      (arg10.view.readAt (Elt F) (Rect.unit (s := S4096x128) (k0_off4 i k) S512x128.size (k0_off4_inb i k)).toLoadRect f)
      (arg13.view.readAt (Elt F) (Rect.unit (s := S4096x128) (k0_off4 i k) S512x128.size (k0_off4_inb i k)).toLoadRect h)) →
      (r.1, arg10.view.read (Elt F) (arg10.view.writes (Elt F) f [⟨Rect.unit (s := S4096x128) (k0_off4 i k) S512x128.size (k0_off4_inb i k), r.2.1⟩]),
    arg13.view.read (Elt F) (arg13.view.writes (Elt F) h [⟨Rect.unit (s := S4096x128) (k0_off4 i k) S512x128.size (k0_off4_inb i k), r.2.2⟩])) = one i x ((i 1).val + 1 + k.val) (below1 i k) (a, arg10.view.read (Elt F) f, arg13.view.read (Elt F) h) from H _ rfl
  intro r hr
  have e : 512 * ((i 1).val + 1 + k.val) + 512 ≤ 4096 := by have := below1 i k; omega
  have hq := (View.readAt_unit arg2.view (harg2.unread x.q) (k0_off4_inb i k) (at4 i k) (fit2 e)).trans (by rw [harg2.read_unread])
  have ho := (View.readAt_unit arg6.view (harg6.unread x.o) (k0_off4_inb i k) (at4 i k) (fit2 e)).trans (by rw [harg6.read_unread])
  have hst := (View.readAt_unit arg8.view (harg8.unread x.st) (k0_off6_inb i k) (at6 i k) (fit3 e)).trans (by rw [harg8.read_unread])
  have hqt := (View.readAt_unit arg3.view (harg3.unread x.qt) (k0_off5_inb i k) (at5 i k) (fitT (below1 i k))).trans (by rw [harg3.read_unread])
  have hot := (View.readAt_unit arg7.view (harg7.unread x.ot) (k0_off5_inb i k) (at5 i k) (fitT (below1 i k))).trans (by rw [harg7.read_unread])
  have hd := View.readAt_unit arg10.view f (k0_off4_inb i k) (at4 i k) (fit2 e)
  have he := View.readAt_unit arg13.view h (k0_off4_inb i k) (at4 i k) (fit2 e)
  rw [hq, hqt, ho, hot, hst, hd, he] at hr
  rw [View.read_writes_cons_put _ _ _ _ _ (at4 i k), View.read_writes_cons_put _ _ _ _ _ (at4 i k)]
  rw [hr]
  rfl

/-- The accumulators and the two gradients before trip `n` of that loop. -/
theorem st_one (w : BitVec 32) (G : BufTy.Contents (Elt F) arg10.view.ty) (H : BufTy.Contents (Elt F) arg13.view.ty) (a : Carry F) : ∀ n, n ≤ (k0_t1_loop i).trips →
    ((st_k0_t1 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) G H a n).1,
      arg10.view.read (Elt F) (arg10.view.writes (Elt F) G (st_k0_t1 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) G H a n).2.1),
      arg13.view.read (Elt F) (arg13.view.writes (Elt F) H (st_k0_t1 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) G H a n).2.2))
      = ones i x ((i 1).val + 1) (a, arg10.view.read (Elt F) G, arg13.view.read (Elt F) H) n := by
  intro n
  induction n with
  | zero => intro _; rfl
  | succ n ih =>
    intro hn
    have h := ih (Nat.le_of_succ_le hn)
    unfold ones
    rw [dif_pos (below1 i ⟨n, hn⟩), ← h]
    rw [show n + 1 = (⟨n, hn⟩ : Fin (k0_t1_loop i).trips).val + 1 from rfl, st_k0_t1_succ]
    dsimp only
    rw [View.writes_append, View.writes_append]
    exact trip_one c i arg2 harg2 arg3 harg3 arg4 harg4 arg5 harg5 arg6 harg6 arg7 harg7 arg8 harg8 arg9 harg9 arg10 harg10 arg11 harg11 arg12 harg12 arg13 harg13 x w0 y1 y2 y3 y4 y5 y6 w1 w2 w3 w4 w ⟨n, hn⟩ _ _ _

/-- One trip of the loop over double blocks makes the step `two`. -/
theorem trip_two (w : BitVec 32) (k : Fin (k0_t3_loop i).trips) (a : Carry F) (f : BufTy.Contents (Elt F) arg10.view.ty) (h : BufTy.Contents (Elt F) arg13.view.ty) :
    (tripR_k0_t3 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) k a f h,
      arg10.view.read (Elt F) (arg10.view.writes (Elt F) f (tripL_k0_t3 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) k a f h).1),
      arg13.view.read (Elt F) (arg13.view.writes (Elt F) h (tripL_k0_t3 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) k a f h).2))
      = two i x ((i 1).val / 2 + 1 + k.val) (below3 i k) (a, arg10.view.read (Elt F) f, arg13.view.read (Elt F) h) := by
  unfold tripR_k0_t3 tripL_k0_t3 trip_k0_t3
  dsimp only
  suffices H : ∀ r : Carry F × Vec F S1024x128 .f32 × Vec F S1024x128 .f32, r = (twoOf i
      x
      (arg2.view.readAt (Elt F) (Rect.unit (s := S4096x128) (k0_off10 i k) S1024x128.size (k0_off10_inb i k)).toLoadRect (harg2.unread x.q))
      (arg3.view.readAt (Elt F) (Rect.unit (s := S8x128x512) (k0_off11 i k 0#32) S1x128x512.size (k0_off11_inb i k 0)).toLoadRect (harg3.unread x.qt))
      (arg3.view.readAt (Elt F) (Rect.unit (s := S8x128x512) (k0_off11 i k 1#32) S1x128x512.size (k0_off11_inb i k 1)).toLoadRect (harg3.unread x.qt))
      (arg6.view.readAt (Elt F) (Rect.unit (s := S4096x128) (k0_off10 i k) S1024x128.size (k0_off10_inb i k)).toLoadRect (harg6.unread x.o))
      (arg7.view.readAt (Elt F) (Rect.unit (s := S8x128x512) (k0_off11 i k 0#32) S1x128x512.size (k0_off11_inb i k 0)).toLoadRect (harg7.unread x.ot))
      (arg7.view.readAt (Elt F) (Rect.unit (s := S8x128x512) (k0_off11 i k 1#32) S1x128x512.size (k0_off11_inb i k 1)).toLoadRect (harg7.unread x.ot))
      (arg8.view.readAt (Elt F) (Rect.unit (s := S1x4096x128) (k0_off12 i k) S1x1024x128.size (k0_off12_inb i k)).toLoadRect (harg8.unread x.st))
      a
      (arg10.view.readAt (Elt F) (Rect.unit (s := S4096x128) (k0_off10 i k) S1024x128.size (k0_off10_inb i k)).toLoadRect f)
      (arg13.view.readAt (Elt F) (Rect.unit (s := S4096x128) (k0_off10 i k) S1024x128.size (k0_off10_inb i k)).toLoadRect h)) →
      (r.1, arg10.view.read (Elt F) (arg10.view.writes (Elt F) f [⟨Rect.unit (s := S4096x128) (k0_off10 i k) S1024x128.size (k0_off10_inb i k), r.2.1⟩]),
    arg13.view.read (Elt F) (arg13.view.writes (Elt F) h [⟨Rect.unit (s := S4096x128) (k0_off10 i k) S1024x128.size (k0_off10_inb i k), r.2.2⟩])) = two i x ((i 1).val / 2 + 1 + k.val) (below3 i k) (a, arg10.view.read (Elt F) f, arg13.view.read (Elt F) h) from H _ rfl
  intro r hr
  have e : 1024 * ((i 1).val / 2 + 1 + k.val) + 1024 ≤ 4096 := by have := below3 i k; omega
  have e0 : 2 * ((i 1).val / 2 + 1 + k.val) + 1 ≤ 8 := by have := below3 i k; omega
  have e1 : 2 * ((i 1).val / 2 + 1 + k.val) + 1 + 1 ≤ 8 := by have := below3 i k; omega
  have hq := (View.readAt_unit arg2.view (harg2.unread x.q) (k0_off10_inb i k) (at10 i k) (fit2 e)).trans (by rw [harg2.read_unread])
  have ho := (View.readAt_unit arg6.view (harg6.unread x.o) (k0_off10_inb i k) (at10 i k) (fit2 e)).trans (by rw [harg6.read_unread])
  have hst := (View.readAt_unit arg8.view (harg8.unread x.st) (k0_off12_inb i k) (at12 i k) (fit3 e)).trans (by rw [harg8.read_unread])
  have hqt0 := (View.readAt_unit arg3.view (harg3.unread x.qt) (off := k0_off11 i k 0#32) (k0_off11_inb i k 0) (at11_0 i k) (fitT e0)).trans (by rw [harg3.read_unread])
  have hot0 := (View.readAt_unit arg7.view (harg7.unread x.ot) (off := k0_off11 i k 0#32) (k0_off11_inb i k 0) (at11_0 i k) (fitT e0)).trans (by rw [harg7.read_unread])
  have hqt1 := (View.readAt_unit arg3.view (harg3.unread x.qt) (off := k0_off11 i k 1#32) (k0_off11_inb i k 1) (at11_1 i k) (fitT e1)).trans (by rw [harg3.read_unread])
  have hot1 := (View.readAt_unit arg7.view (harg7.unread x.ot) (off := k0_off11 i k 1#32) (k0_off11_inb i k 1) (at11_1 i k) (fitT e1)).trans (by rw [harg7.read_unread])
  have hd := View.readAt_unit arg10.view f (k0_off10_inb i k) (at10 i k) (fit2 e)
  have he := View.readAt_unit arg13.view h (k0_off10_inb i k) (at10 i k) (fit2 e)
  rw [hq, hqt0, hqt1, ho, hot0, hot1, hst, hd, he] at hr
  rw [View.read_writes_cons_put _ _ _ _ _ (at10 i k), View.read_writes_cons_put _ _ _ _ _ (at10 i k)]
  rw [hr]
  rfl

/-- The accumulators and the two gradients before trip `n` of that loop. -/
theorem st_two (w : BitVec 32) (G : BufTy.Contents (Elt F) arg10.view.ty) (H : BufTy.Contents (Elt F) arg13.view.ty) (a : Carry F) : ∀ n, n ≤ (k0_t3_loop i).trips →
    ((st_k0_t3 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) G H a n).1,
      arg10.view.read (Elt F) (arg10.view.writes (Elt F) G (st_k0_t3 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) G H a n).2.1),
      arg13.view.read (Elt F) (arg13.view.writes (Elt F) H (st_k0_t3 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 w (harg2.unread x.q) (harg3.unread x.qt) (harg6.unread x.o) (harg7.unread x.ot) (harg8.unread x.st) G H a n).2.2))
      = twos i x ((i 1).val / 2 + 1) (a, arg10.view.read (Elt F) G, arg13.view.read (Elt F) H) n := by
  intro n
  induction n with
  | zero => intro _; rfl
  | succ n ih =>
    intro hn
    have h := ih (Nat.le_of_succ_le hn)
    unfold twos
    rw [dif_pos (below3 i ⟨n, hn⟩), ← h]
    rw [show n + 1 = (⟨n, hn⟩ : Fin (k0_t3_loop i).trips).val + 1 from rfl, st_k0_t3_succ]
    dsimp only
    rw [View.writes_append, View.writes_append]
    exact trip_two c i arg2 harg2 arg3 harg3 arg4 harg4 arg5 harg5 arg6 harg6 arg7 harg7 arg8 harg8 arg9 harg9 arg10 harg10 arg11 harg11 arg12 harg12 arg13 harg13 x w0 y1 y2 y3 y4 y5 y6 w1 w2 w3 w4 w ⟨n, hn⟩ _ _ _

/-- The four loops one after another, from accumulators `a` and the stores `L`, `M`: two of them make no trip. -/
theorem chain (v1 v2 v3 v4 : BitVec 32) (f : BufTy.Contents (Elt F) arg10.view.ty) (L : List (View.Piece (Elt F) S4096x128 .f32)) (h : BufTy.Contents (Elt F) arg13.view.ty) (M : List (View.Piece (Elt F) S4096x128 .f32)) (a : Carry F)
    (S1 S2 S3 S4 : Carry F × List (View.Piece (Elt F) S4096x128 .f32) × List (View.Piece (Elt F) S4096x128 .f32))
    (e1 : S1 = st_k0_t1 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v1 (harg2.unread x.q) (harg3.unread x.qt) (harg6.unread x.o) (harg7.unread x.ot) (harg8.unread x.st) (arg10.view.writes (Elt F) f L) (arg13.view.writes (Elt F) h M) a (k0_t1_loop i).trips)
    (e2 : S2 = st_k0_t2 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v2 (harg2.unread x.q) (harg3.unread x.qt) (harg6.unread x.o) (harg7.unread x.ot) (harg8.unread x.st) (arg10.view.writes (Elt F) f (S1.2.1 ++ L)) (arg13.view.writes (Elt F) h (S1.2.2 ++ M)) (S1.1.1, S1.1.2.1, S1.1.2.2.1, S1.1.2.2.2.1, S1.1.2.2.2.2.1, S1.1.2.2.2.2.2) (k0_t2_loop i).trips)
    (e3 : S3 = st_k0_t3 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v3 (harg2.unread x.q) (harg3.unread x.qt) (harg6.unread x.o) (harg7.unread x.ot) (harg8.unread x.st) (arg10.view.writes (Elt F) f (S2.2.1 ++ (S1.2.1 ++ L))) (arg13.view.writes (Elt F) h (S2.2.2 ++ (S1.2.2 ++ M))) (S2.1.1, S2.1.2.1, S2.1.2.2.1, S2.1.2.2.2.1, S2.1.2.2.2.2.1, S2.1.2.2.2.2.2) (k0_t3_loop i).trips)
    (e4 : S4 = st_k0_t4 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v4 (harg2.unread x.q) (harg3.unread x.qt) (harg6.unread x.o) (harg7.unread x.ot) (harg8.unread x.st) (arg10.view.writes (Elt F) f (S3.2.1 ++ (S2.2.1 ++ (S1.2.1 ++ L)))) (arg13.view.writes (Elt F) h (S3.2.2 ++ (S2.2.2 ++ (S1.2.2 ++ M)))) (S3.1.1, S3.1.2.1, S3.1.2.2.1, S3.1.2.2.2.1, S3.1.2.2.2.2.1, S3.1.2.2.2.2.2) (k0_t4_loop i).trips) :
    (S4.1, arg10.view.read (Elt F) (arg10.view.writes (Elt F) f (S4.2.1 ++ (S3.2.1 ++ (S2.2.1 ++ (S1.2.1 ++ L))))), arg13.view.read (Elt F) (arg13.view.writes (Elt F) h (S4.2.2 ++ (S3.2.2 ++ (S2.2.2 ++ (S1.2.2 ++ M))))))
      = twos i x ((i 1).val / 2 + 1) (ones i x ((i 1).val + 1) (a, arg10.view.read (Elt F) (arg10.view.writes (Elt F) f L), arg13.view.read (Elt F) (arg13.view.writes (Elt F) h M)) (1 - (i 1).val % 2)) (3 - (i 1).val / 2) := by
  have h1 : (S1.1, arg10.view.read (Elt F) (arg10.view.writes (Elt F) f (S1.2.1 ++ L)), arg13.view.read (Elt F) (arg13.view.writes (Elt F) h (S1.2.2 ++ M))) = ones i x ((i 1).val + 1) (a, arg10.view.read (Elt F) (arg10.view.writes (Elt F) f L), arg13.view.read (Elt F) (arg13.view.writes (Elt F) h M)) (1 - (i 1).val % 2) := by
    have h0 := st_one c i arg2 harg2 arg3 harg3 arg4 harg4 arg5 harg5 arg6 harg6 arg7 harg7 arg8 harg8 arg9 harg9 arg10 harg10 arg11 harg11 arg12 harg12 arg13 harg13 x w0 y1 y2 y3 y4 y5 y6 w1 w2 w3 w4 v1 (arg10.view.writes (Elt F) f L) (arg13.view.writes (Elt F) h M) a (k0_t1_loop i).trips (Nat.le_refl _)
    rw [← e1, ← View.writes_append, ← View.writes_append] at h0
    rw [← trips1 i]
    exact h0
  have h2 : S2 = (S1.1, [], []) := by
    rw [e2, trips2 i]; rfl
  have h3 : (S3.1, arg10.view.read (Elt F) (arg10.view.writes (Elt F) f (S3.2.1 ++ (S2.2.1 ++ (S1.2.1 ++ L)))), arg13.view.read (Elt F) (arg13.view.writes (Elt F) h (S3.2.2 ++ (S2.2.2 ++ (S1.2.2 ++ M))))) = twos i x ((i 1).val / 2 + 1) (S1.1, arg10.view.read (Elt F) (arg10.view.writes (Elt F) f (S1.2.1 ++ L)), arg13.view.read (Elt F) (arg13.view.writes (Elt F) h (S1.2.2 ++ M))) (3 - (i 1).val / 2) := by
    have h0 := st_two c i arg2 harg2 arg3 harg3 arg4 harg4 arg5 harg5 arg6 harg6 arg7 harg7 arg8 harg8 arg9 harg9 arg10 harg10 arg11 harg11 arg12 harg12 arg13 harg13 x w0 y1 y2 y3 y4 y5 y6 w1 w2 w3 w4 v3 (arg10.view.writes (Elt F) f (S2.2.1 ++ (S1.2.1 ++ L))) (arg13.view.writes (Elt F) h (S2.2.2 ++ (S1.2.2 ++ M))) (S2.1.1, S2.1.2.1, S2.1.2.2.1, S2.1.2.2.2.1, S2.1.2.2.2.2.1, S2.1.2.2.2.2.2) (k0_t3_loop i).trips (Nat.le_refl _)
    rw [← e3, ← View.writes_append, ← View.writes_append] at h0
    rw [← trips3 i]
    refine h0.trans ?_
    have h5 : (S2.1.1, S2.1.2.1, S2.1.2.2.1, S2.1.2.2.2.1, S2.1.2.2.2.2.1, S2.1.2.2.2.2.2) = S1.1 := by rw [h2]
    have h6 : S2.2.1 ++ (S1.2.1 ++ L) = S1.2.1 ++ L := by rw [h2]; rfl
    have h7 : S2.2.2 ++ (S1.2.2 ++ M) = S1.2.2 ++ M := by rw [h2]; rfl
    rw [h5, h6, h7]
  have h4 : S4 = (S3.1, [], []) := by
    rw [e4, trips4 i]; rfl
  rw [h4, ← h1]
  exact h3

/-- What the body makes of the block on the diagonal, as it loads it: `d`, `e` are the rows of the two gradients it finds. -/
def atDiag (d e : Vec F S512x128 .f32) : Carry F × Vec F S512x128 .f32 × Vec F S512x128 .f32 :=
  diagOf i x
      (arg2.view.readAt (Elt F) (Rect.unit (s := S4096x128) (k0_off1 i) S512x128.size (k0_off1_inb i)).toLoadRect (harg2.unread x.q))
      (arg3.view.readAt (Elt F) (Rect.unit (s := S8x128x512) (k0_off2 i) S1x128x512.size (k0_off2_inb i)).toLoadRect (harg3.unread x.qt))
      (arg6.view.readAt (Elt F) (Rect.unit (s := S4096x128) (k0_off1 i) S512x128.size (k0_off1_inb i)).toLoadRect (harg6.unread x.o))
      (arg7.view.readAt (Elt F) (Rect.unit (s := S8x128x512) (k0_off2 i) S1x128x512.size (k0_off2_inb i)).toLoadRect (harg7.unread x.ot))
      (arg8.view.readAt (Elt F) (Rect.unit (s := S1x4096x128) (k0_off3 i) S1x512x128.size (k0_off3_inb i)).toLoadRect (harg8.unread x.st))
      d e

/-- The store to the queries' gradient that ends the block on the diagonal, -/
def diagPiece (d e : Vec F S512x128 .f32) : View.Piece (Elt F) S4096x128 .f32 :=
  ⟨Rect.unit (s := S4096x128) (k0_off1 i) S512x128.size (k0_off1_inb i), (atDiag i arg2 harg2 arg3 harg3 arg6 harg6 arg7 harg7 arg8 harg8 x d e).2.1⟩

/-- and the one to the forget sums'. -/
def diagPieceF (d e : Vec F S512x128 .f32) : View.Piece (Elt F) S4096x128 .f32 :=
  ⟨Rect.unit (s := S4096x128) (k0_off1 i) S512x128.size (k0_off1_inb i), (atDiag i arg2 harg2 arg3 harg3 arg6 harg6 arg7 harg7 arg8 harg8 x d e).2.2⟩

/-- Which are the step `diag`. -/
theorem start (hj : (i 1).val < 8) (f : BufTy.Contents (Elt F) arg10.view.ty) (L : List (View.Piece (Elt F) S4096x128 .f32)) (h : BufTy.Contents (Elt F) arg13.view.ty) (M : List (View.Piece (Elt F) S4096x128 .f32)) (d e : Vec F S512x128 .f32)
    (hd : d = (arg10.view.readAt (Elt F) (Rect.unit (s := S4096x128) (k0_off1 i) S512x128.size (k0_off1_inb i)).toLoadRect (arg10.view.writes (Elt F) f L)))
    (he : e = (arg13.view.readAt (Elt F) (Rect.unit (s := S4096x128) (k0_off1 i) S512x128.size (k0_off1_inb i)).toLoadRect (arg13.view.writes (Elt F) h M))) :
    ((atDiag i arg2 harg2 arg3 harg3 arg6 harg6 arg7 harg7 arg8 harg8 x d e).1,
      arg10.view.read (Elt F) (arg10.view.writes (Elt F) f (diagPiece i arg2 harg2 arg3 harg3 arg6 harg6 arg7 harg7 arg8 harg8 x d e :: L)), arg13.view.read (Elt F) (arg13.view.writes (Elt F) h (diagPieceF i arg2 harg2 arg3 harg3 arg6 harg6 arg7 harg7 arg8 harg8 x d e :: M)))
      = diag i x (i 1).val hj (arg10.view.read (Elt F) (arg10.view.writes (Elt F) f L)) (arg13.view.read (Elt F) (arg13.view.writes (Elt F) h M)) := by
  have b : 512 * (i 1).val + 512 ≤ 4096 := by omega
  have hq := (View.readAt_unit arg2.view (harg2.unread x.q) (k0_off1_inb i) (at1 i) (fit2 b)).trans (by rw [harg2.read_unread])
  have ho := (View.readAt_unit arg6.view (harg6.unread x.o) (k0_off1_inb i) (at1 i) (fit2 b)).trans (by rw [harg6.read_unread])
  have hst := (View.readAt_unit arg8.view (harg8.unread x.st) (k0_off3_inb i) (at3 i) (fit3 b)).trans (by rw [harg8.read_unread])
  have hqt := (View.readAt_unit arg3.view (harg3.unread x.qt) (k0_off2_inb i) (at2 i) (fitT (hj))).trans (by rw [harg3.read_unread])
  have hot := (View.readAt_unit arg7.view (harg7.unread x.ot) (k0_off2_inb i) (at2 i) (fitT (hj))).trans (by rw [harg7.read_unread])
  have hd' := hd.trans (View.readAt_unit arg10.view _ (k0_off1_inb i) (at1 i) (fit2 b))
  have he' := he.trans (View.readAt_unit arg13.view _ (k0_off1_inb i) (at1 i) (fit2 b))
  have hr : atDiag i arg2 harg2 arg3 harg3 arg6 harg6 arg7 harg7 arg8 harg8 x d e = _ := rfl
  conv at hr => rhs; unfold atDiag
  rw [hq, hqt, ho, hot, hst, hd', he'] at hr
  unfold diagPiece diagPieceF
  rw [View.read_writes_cons_put _ _ _ _ _ (at1 i), View.read_writes_cons_put _ _ _ _ _ (at1 i)]
  rw [hd', he', hr]
  rfl

end Cert.Kernel3Ideal.Fox

end
-- ==== Proof.Fox.Tail.lean ====
/- The second half of the forgetting attention's gradient: the loops over the rows past the block on the diagonal. -/
module

public import proofs.«01_k».proof.Proof.Fox.Loop
public import proofs.«01_k».proof.Proof.Gen.Kernel3Ideal.Frame

@[expose] public section

set_option maxRecDepth 16384

noncomputable section

namespace Cert.Kernel3Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

variable (c : Dev nD) (i : grid0.Coords) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)

variable (x : Ins F) (a : Carry F) (w0 : BitVec 32) (y1 y2 : FVec F S64x512 .f32) (y3 : FVec F S1x512 .f32) (y4 y5 : FVec F S64x512 .f32) (y6 : FVec F S1x512 .f32) (w1 w2 w3 w4 : BitVec 32)

/-- The body after the block on the diagonal, from accumulators `a`: the rows below it one block at a time, then two at a
    time, and the stores of the keys' and values' gradients. The words `v…` name where each loop starts and are read by none of the steps. -/
def rest (v1 v2 v3 v4 : BitVec 32) : Prog (TpuEff nD τ sig (Elt F) Λ₀ .tc) (Σ' (_ : FVec F S1x512 .f32) (_ : FVec F S1x512 .f32) (_ : IVec S128x1 32), IVec S128x1 32) := do
  let (b0, b1, b2, b3, b4, b5) ← Scf.Loop.for (k0_t1_loop i) (k0_t1_ok i) (a.1, a.2.1, a.2.2.1, a.2.2.2.1, a.2.2.2.2.1, a.2.2.2.2.2) (k0_t1_body i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v1)
  let (d0, d1, d2, d3, d4, d5) ← Scf.Loop.for (k0_t2_loop i) (k0_t2_ok i) (b0, b1, b2, b3, b4, b5) (k0_t2_body i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v2)
  let (e0, e1, e2, e3, e4, e5) ← Scf.Loop.for (k0_t3_loop i) (k0_t3_ok i) (d0, d1, d2, d3, d4, d5) (k0_t3_body i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v3)
  let (g0, g1, g2, g3, g4, g5) ← Scf.Loop.for (k0_t4_loop i) (k0_t4_ok i) (e0, e1, e2, e3, e4, e5) (k0_t4_body i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v4)
  let _ : Vec F S512x128 .bf16 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay170 g0 g3) Finset.univ (View.stores_vmem h_S512x128 (harg11.storeExact_slice rfl _ packedbf16_S512x128_S512x128_0_0) (fun _ => rfl)) (.inl rfl))
  let _ : Vec F S512x128 .bf16 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay171 g1 g4) Finset.univ (View.stores_vmem h_S512x128 (harg12.storeExact_slice rfl _ packedbf16_S512x128_S512x128_0_0) (fun _ => rfl)) (.inl rfl))
  pure ⟨g2, g5, iota .tc S128x1 32 [0] iota_S128x1_d0_w32, k0_pay172 (pairWord i)⟩

set_option maxHeartbeats 2000000 in
/-- The second half run: it leaves what `below` says, and hands over the columns' part of the forget sums' gradient. -/
theorem rest_run (v1 v2 v3 v4 : BitVec 32) (f : BufTy.Contents (Elt F) arg10.view.ty) (L : List (View.Piece (Elt F) S4096x128 .f32)) (h : BufTy.Contents (Elt F) arg13.view.ty) (M : List (View.Piece (Elt F) S4096x128 .f32)) (f8 : BufTy.Contents (Elt F) arg11.view.ty) (f9 : BufTy.Contents (Elt F) arg12.view.ty) (E : Set ℕ) (K : (Σ' (_ : FVec F S1x512 .f32) (_ : FVec F S1x512 .f32) (_ : IVec S128x1 32), IVec S128x1 32) → sProp 𝕄) :
    iprop((arg2.view.loc (c : Thread nD τ) ↦[arg2.view.set]{fullShare} harg2.unread x.q) ∗ (arg3.view.loc (c : Thread nD τ) ↦[arg3.view.set]{fullShare} harg3.unread x.qt) ∗ (arg6.view.loc (c : Thread nD τ) ↦[arg6.view.set]{fullShare} harg6.unread x.o) ∗ (arg7.view.loc (c : Thread nD τ) ↦[arg7.view.set]{fullShare} harg7.unread x.ot) ∗ (arg8.view.loc (c : Thread nD τ) ↦[arg8.view.set]{fullShare} harg8.unread x.st) ∗ (arg10.view.loc (c : Thread nD τ) ↦[arg10.view.set]{fullShare} (arg10.view.writes (Elt F) f L)) ∗ (arg11.view.loc (c : Thread nD τ) ↦[arg11.view.set]{fullShare} f8) ∗ (arg12.view.loc (c : Thread nD τ) ↦[arg12.view.set]{fullShare} f9) ∗ (arg13.view.loc (c : Thread nD τ) ↦[arg13.view.set]{fullShare} (arg13.view.writes (Elt F) h M))
        ∗ (iprop((arg2.view.loc (c : Thread nD τ) ↦[arg2.view.set]{fullShare} harg2.unread x.q) ∗ (arg3.view.loc (c : Thread nD τ) ↦[arg3.view.set]{fullShare} harg3.unread x.qt) ∗ (arg6.view.loc (c : Thread nD τ) ↦[arg6.view.set]{fullShare} harg6.unread x.o) ∗ (arg7.view.loc (c : Thread nD τ) ↦[arg7.view.set]{fullShare} harg7.unread x.ot) ∗ (arg8.view.loc (c : Thread nD τ) ↦[arg8.view.set]{fullShare} harg8.unread x.st) ∗ owns (c : Thread nD τ) arg10 fullShare (below i x (i 1).val (a, arg10.view.read (Elt F) (arg10.view.writes (Elt F) f L), arg13.view.read (Elt F) (arg13.view.writes (Elt F) h M))).2.1
          ∗ owns (c : Thread nD τ) arg11 fullShare (k0_pay170 (below i x (i 1).val (a, arg10.view.read (Elt F) (arg10.view.writes (Elt F) f L), arg13.view.read (Elt F) (arg13.view.writes (Elt F) h M))).1.1 (below i x (i 1).val (a, arg10.view.read (Elt F) (arg10.view.writes (Elt F) f L), arg13.view.read (Elt F) (arg13.view.writes (Elt F) h M))).1.2.2.2.1)
          ∗ owns (c : Thread nD τ) arg12 fullShare (k0_pay171 (below i x (i 1).val (a, arg10.view.read (Elt F) (arg10.view.writes (Elt F) f L), arg13.view.read (Elt F) (arg13.view.writes (Elt F) h M))).1.2.1 (below i x (i 1).val (a, arg10.view.read (Elt F) (arg10.view.writes (Elt F) f L), arg13.view.read (Elt F) (arg13.view.writes (Elt F) h M))).1.2.2.2.2.1)
          ∗ owns (c : Thread nD τ) arg13 fullShare (below i x (i 1).val (a, arg10.view.read (Elt F) (arg10.view.writes (Elt F) f L), arg13.view.read (Elt F) (arg13.view.writes (Elt F) h M))).2.2) -∗ K ⟨(below i x (i 1).val (a, arg10.view.read (Elt F) (arg10.view.writes (Elt F) f L), arg13.view.read (Elt F) (arg13.view.writes (Elt F) h M))).1.2.2.1, (below i x (i 1).val (a, arg10.view.read (Elt F) (arg10.view.writes (Elt F) f L), arg13.view.read (Elt F) (arg13.view.writes (Elt F) h M))).1.2.2.2.2.2, iota .tc S128x1 32 [0] iota_S128x1_d0_w32, k0_pay172 (pairWord i)⟩))
      ⊢ wp frame (wpE (defs₀ (F := F)) Variants.none c none) E (rest i arg2 harg2 arg3 harg3 arg4 harg4 arg5 harg5 arg6 harg6 arg7 harg7 arg8 harg8 arg9 harg9 arg10 harg10 arg11 harg11 arg12 harg12 arg13 harg13 x a w0 y1 y2 y3 y4 y5 y6 w1 w2 w3 w4 v1 v2 v3 v4) K := by
  unfold rest
  iintro ⟨H0, H1, H4, H5, H6, H7, H8, H9, H10, Hk⟩
  sl_exec
  sl_step
  generalize e1 : st_k0_t1 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v1 (harg2.unread x.q) (harg3.unread x.qt) (harg6.unread x.o) (harg7.unread x.ot) (harg8.unread x.st) (arg10.view.writes (Elt F) f L) (arg13.view.writes (Elt F) h M) (a.1, a.2.1, a.2.2.1, a.2.2.2.1, a.2.2.2.2.1, a.2.2.2.2.2) (Scf.trips (k0_t1_loop i).lb (k0_t1_loop i).ub (k0_t1_loop i).st) = S1
  generalize e2 : st_k0_t2 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v2 (harg2.unread x.q) (harg3.unread x.qt) (harg6.unread x.o) (harg7.unread x.ot) (harg8.unread x.st) (arg10.view.writes (Elt F) f (S1.2.1 ++ L)) (arg13.view.writes (Elt F) h (S1.2.2 ++ M)) (S1.1.1, S1.1.2.1, S1.1.2.2.1, S1.1.2.2.2.1, S1.1.2.2.2.2.1, S1.1.2.2.2.2.2) (Scf.trips (k0_t2_loop i).lb (k0_t2_loop i).ub (k0_t2_loop i).st) = S2
  generalize e3 : st_k0_t3 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v3 (harg2.unread x.q) (harg3.unread x.qt) (harg6.unread x.o) (harg7.unread x.ot) (harg8.unread x.st) (arg10.view.writes (Elt F) f (S2.2.1 ++ (S1.2.1 ++ L))) (arg13.view.writes (Elt F) h (S2.2.2 ++ (S1.2.2 ++ M))) (S2.1.1, S2.1.2.1, S2.1.2.2.1, S2.1.2.2.2.1, S2.1.2.2.2.2.1, S2.1.2.2.2.2.2) (Scf.trips (k0_t3_loop i).lb (k0_t3_loop i).ub (k0_t3_loop i).st) = S3
  generalize e4 : st_k0_t4 Variants.none c none i arg2 harg2 arg3 harg3 arg4 harg4 arg5 harg5 arg6 harg6 arg7 harg7 arg8 harg8 arg9 harg9 arg10 harg10 arg11 harg11 arg12 harg12 arg13 harg13 (pairWord i) w0 (keys x) (vals x) (bias0 i x) (bias1 i x) y1 y2 y3 y4 y5 y6 w1 w2 w3 w4 v4 (harg2.unread x.q) (harg3.unread x.qt) (harg6.unread x.o) (harg7.unread x.ot) (harg8.unread x.st) (arg10.view.writes (Elt F) f (S3.2.1 ++ (S2.2.1 ++ (S1.2.1 ++ L)))) (arg13.view.writes (Elt F) h (S3.2.2 ++ (S2.2.2 ++ (S1.2.2 ++ M)))) (S3.1.1, S3.1.2.1, S3.1.2.2.1, S3.1.2.2.2.1, S3.1.2.2.2.2.1, S3.1.2.2.2.2.2) (Scf.trips (k0_t4_loop i).lb (k0_t4_loop i).ub (k0_t4_loop i).st) = S4
  have g := chain c i arg2 harg2 arg3 harg3 arg4 harg4 arg5 harg5 arg6 harg6 arg7 harg7 arg8 harg8 arg9 harg9 arg10 harg10 arg11 harg11 arg12 harg12 arg13 harg13 x w0 y1 y2 y3 y4 y5 y6 w1 w2 w3 w4 v1 v2 v3 v4 f L h M a S1 S2 S3 S4 e1.symm e2.symm e3.symm e4.symm
  have hz : (below i x (i 1).val (a, arg10.view.read (Elt F) (arg10.view.writes (Elt F) f L), arg13.view.read (Elt F) (arg13.view.writes (Elt F) h M))) = (S4.1, arg10.view.read (Elt F) (arg10.view.writes (Elt F) f (S4.2.1 ++ (S3.2.1 ++ (S2.2.1 ++ (S1.2.1 ++ L))))), arg13.view.read (Elt F) (arg13.view.writes (Elt F) h (S4.2.2 ++ (S3.2.2 ++ (S2.2.2 ++ (S1.2.2 ++ M)))))) := by
    unfold below; rw [g]
  rw [hz]
  iapply Hk
  isplitl [H0]; · iexact H0
  isplitl [H1]; · iexact H1
  isplitl [H4]; · iexact H4
  isplitl [H5]; · iexact H5
  isplitl [H6]; · iexact H6
  unfold owns
  isplitl [H7]
  · iexists _; isplitr
    swap
    · iexact H7
    ipureintro; rfl
  isplitl [H8]
  · iexists _; isplitr
    swap
    · iexact H8
    ipureintro
    exact View.read_writes_full _ _ _ _ _
  isplitl [H9]
  · iexists _; isplitr
    swap
    · iexact H9
    ipureintro
    exact View.read_writes_full _ _ _ _ _
  · iexists _; isplitr
    swap
    · iexact H10
    ipureintro
    rfl

end Cert.Kernel3Ideal.Fox

end
-- ==== Proof.Fox.Run.lean ====
/- The forgetting attention's gradient's body, whole, at the three kinds of grid points. -/
module

public import proofs.«01_k».proof.Proof.Fox.Tail

@[expose] public section

set_option maxRecDepth 16384

noncomputable section

attribute [local irreducible] Cert.Kernel3Ideal.Gen.st_k0_t1 Cert.Kernel3Ideal.Gen.st_k0_t2 Cert.Kernel3Ideal.Gen.st_k0_t3 Cert.Kernel3Ideal.Gen.st_k0_t4

namespace Cert.Kernel3Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

variable (c : Dev nD) (i : grid0.Coords) (arg2 : Memref sig .tc .vmem S4096x128 .bf16) (harg2 : arg2.IsWhole) (arg3 : Memref sig .tc .vmem S8x128x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1x4096x128 .f32) (harg8 : arg8.IsWhole) (arg9 : Memref sig .tc .vmem S1x8x512 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole)

/-- The body's first test: whether this is the first column block of its head pair. -/
abbrev First (i : grid0.Coords) : Prop := (Scalar.cmpi .ne (Scalar.extui (Scalar.cmpi .eq (BitVec.ofNat 32 (i 1).val) 0#32)) 0#32) = 1#1

/-- Its second: whether this is the very first point. -/
abbrev Start (i : grid0.Coords) : Prop := (Scalar.cmpi .ne (Scalar.extui (Scalar.cmpi .eq (Scalar.addi (Scalar.muli (BitVec.ofNat 32 (i 0).val) 8#32) (BitVec.ofNat 32 (i 1).val)) 0#32)) 0#32) = 1#1

variable (x : Ins F)

/-- The point's blocks with the keys, values and forget sums as the body loads them: the same blocks. -/
def loaded : Ins F :=
  ⟨x.q, x.qt, arg4.view.readAt (Elt F) (Rect.unit (s := S512x128) ![0, 0] S512x128.size inb_S512x128_S512x128_0_0).toLoadRect (harg4.unread x.k),
    arg5.view.readAt (Elt F) (Rect.unit (s := S512x128) ![0, 0] S512x128.size inb_S512x128_S512x128_0_0).toLoadRect (harg5.unread x.v), x.o, x.ot, x.st,
    arg9.view.readAt (Elt F) (Rect.unit (s := S1x8x512) ![0, 0, 0] S1x8x512.size inb_S1x8x512_S1x8x512_0_0_0).toLoadRect (harg9.unread x.f)⟩

theorem loaded_eq : loaded arg4 harg4 arg5 harg5 arg9 harg9 x = x := by
  unfold loaded
  rw [View.readAt_full, View.readAt_full, View.readAt_full, harg4.read_unread, harg5.read_unread, harg9.read_unread]

/-- The body's end: the columns' part of the forget sums' gradient goes to the point's own rows. -/
def lastly (b : (Σ' (_ : FVec F S1x512 .f32) (_ : FVec F S1x512 .f32) (_ : IVec S128x1 32), IVec S128x1 32)) : Prog (TpuEff nD τ sig (Elt F) Λ₀ .tc) PUnit := do
  let z : Vec F S512x128 .f32 ← Prog.lift (.load arg13 (Rect.unit (s := S4096x128) (k0_off1 i) S512x128.size (k0_off1_inb i)).toLoadRect (View.loadsAt_vmem h_S512x128))
  let _ : Vec F S512x128 .f32 ← Prog.lift (.load arg13 (Rect.unit (s := S4096x128) (k0_off1 i) S512x128.size (k0_off1_inb i)).toLoadRect (View.loadsAt_vmem h_S512x128))
  Prog.lift (.store arg13 (Rect.unit (s := S4096x128) (k0_off1 i) S512x128.size (k0_off1_inb i)) (k0_pay1 (pairWord i) b.1 b.2.1 b.2.2.1 b.2.2.2 z) Finset.univ (View.stores_vmem_bits_univ h_S512x128 rfl) (.inl rfl))
  pure ⟨⟩

/-- The second half from the block on the diagonal, over the stores `L`, `M`: it leaves what the whole point leaves. -/
theorem finish (hj : (i 1).val < 8) (w0 : BitVec 32) (y1 y2 : FVec F S64x512 .f32) (y3 : FVec F S1x512 .f32) (y4 y5 : FVec F S64x512 .f32) (y6 : FVec F S1x512 .f32) (w1 w2 w3 w4 v1 v2 v3 v4 : BitVec 32)
    (f : BufTy.Contents (Elt F) arg10.view.ty) (L : List (View.Piece (Elt F) S4096x128 .f32)) (h : BufTy.Contents (Elt F) arg13.view.ty) (M : List (View.Piece (Elt F) S4096x128 .f32)) (f8 : BufTy.Contents (Elt F) arg11.view.ty) (f9 : BufTy.Contents (Elt F) arg12.view.ty)
    (d e : Vec F S512x128 .f32) (D B : Vec F S4096x128 .f32)
    (hd : d = (arg10.view.readAt (Elt F) (Rect.unit (s := S4096x128) (k0_off1 i) S512x128.size (k0_off1_inb i)).toLoadRect (arg10.view.writes (Elt F) f L)))
    (he : e = (arg13.view.readAt (Elt F) (Rect.unit (s := S4096x128) (k0_off1 i) S512x128.size (k0_off1_inb i)).toLoadRect (arg13.view.writes (Elt F) h M)))
    (hD : arg10.view.read (Elt F) (arg10.view.writes (Elt F) f L) = if (i 1).val = 0 then k0_pay118 else D)
    (hB : arg13.view.read (Elt F) (arg13.view.writes (Elt F) h M) = if (i 0).val = 0 ∧ (i 1).val = 0 then k0_pay124 else B)
    (x' : Ins F) (hx : x' = x) (E : Set ℕ) (K : PUnit → sProp 𝕄) :
    iprop((arg2.view.loc (c : Thread nD τ) ↦[arg2.view.set]{fullShare} harg2.unread x.q) ∗ (arg3.view.loc (c : Thread nD τ) ↦[arg3.view.set]{fullShare} harg3.unread x.qt) ∗ (arg4.view.loc (c : Thread nD τ) ↦[arg4.view.set]{fullShare} harg4.unread x.k) ∗ (arg5.view.loc (c : Thread nD τ) ↦[arg5.view.set]{fullShare} harg5.unread x.v) ∗ (arg6.view.loc (c : Thread nD τ) ↦[arg6.view.set]{fullShare} harg6.unread x.o) ∗ (arg7.view.loc (c : Thread nD τ) ↦[arg7.view.set]{fullShare} harg7.unread x.ot) ∗ (arg8.view.loc (c : Thread nD τ) ↦[arg8.view.set]{fullShare} harg8.unread x.st) ∗ (arg9.view.loc (c : Thread nD τ) ↦[arg9.view.set]{fullShare} harg9.unread x.f) ∗ (arg10.view.loc (c : Thread nD τ) ↦[arg10.view.set]{fullShare} (arg10.view.writes (Elt F) f ((diagPiece i arg2 harg2 arg3 harg3 arg6 harg6 arg7 harg7 arg8 harg8 x' d e) :: L))) ∗ (arg11.view.loc (c : Thread nD τ) ↦[arg11.view.set]{fullShare} f8) ∗ (arg12.view.loc (c : Thread nD τ) ↦[arg12.view.set]{fullShare} f9) ∗ (arg13.view.loc (c : Thread nD τ) ↦[arg13.view.set]{fullShare} (arg13.view.writes (Elt F) h ((diagPieceF i arg2 harg2 arg3 harg3 arg6 harg6 arg7 harg7 arg8 harg8 x' d e) :: M)))
        ∗ (iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare x.f ∗ owns (c : Thread nD τ) arg10 fullShare (whole i x (i 1).val hj D B).2.1 ∗ owns (c : Thread nD τ) arg11 fullShare (outK i x (i 1).val hj) ∗ owns (c : Thread nD τ) arg12 fullShare (outV i x (i 1).val hj) ∗ owns (c : Thread nD τ) arg13 fullShare (whole i x (i 1).val hj D B).2.2) -∗ K ⟨⟩))
      ⊢ wp frame (wpE (defs₀ (F := F)) Variants.none c none) E (rest i arg2 harg2 arg3 harg3 arg4 harg4 arg5 harg5 arg6 harg6 arg7 harg7 arg8 harg8 arg9 harg9 arg10 harg10 arg11 harg11 arg12 harg12 arg13 harg13 x' (atDiag i arg2 harg2 arg3 harg3 arg6 harg6 arg7 harg7 arg8 harg8 x' d e).1 w0 y1 y2 y3 y4 y5 y6 w1 w2 w3 w4 v1 v2 v3 v4) (fun b => wp frame (wpE (defs₀ (F := F)) Variants.none c none) E (lastly i arg13 b) K) := by
  subst hx
  have g := start i arg2 harg2 arg3 harg3 arg6 harg6 arg7 harg7 arg8 harg8 arg10 arg13 x' hj f L h M d e hd he
  rw [hD, hB] at g
  have hw : below i x' (i 1).val ((atDiag i arg2 harg2 arg3 harg3 arg6 harg6 arg7 harg7 arg8 harg8 x' d e).1, arg10.view.read (Elt F) (arg10.view.writes (Elt F) f ((diagPiece i arg2 harg2 arg3 harg3 arg6 harg6 arg7 harg7 arg8 harg8 x' d e) :: L)), arg13.view.read (Elt F) (arg13.view.writes (Elt F) h ((diagPieceF i arg2 harg2 arg3 harg3 arg6 harg6 arg7 harg7 arg8 harg8 x' d e) :: M))) = (below i x' (i 1).val (diag i x' (i 1).val hj (if (i 1).val = 0 then k0_pay118 else D) (if (i 0).val = 0 ∧ (i 1).val = 0 then k0_pay124 else B))) := by rw [g]
  have hz : whole i x' (i 1).val hj D B = ended i (i 1).val hj (below i x' (i 1).val (diag i x' (i 1).val hj (if (i 1).val = 0 then k0_pay118 else D) (if (i 0).val = 0 ∧ (i 1).val = 0 then k0_pay124 else B))) := rfl
  generalize (below i x' (i 1).val (diag i x' (i 1).val hj (if (i 1).val = 0 then k0_pay118 else D) (if (i 0).val = 0 ∧ (i 1).val = 0 then k0_pay124 else B))) = S at hw hz
  have b : 512 * (i 1).val + 512 ≤ 4096 := by omega
  iintro ⟨H0, H1, H2, H3, H4, H5, H6, H7, H8, H9, H10, H11, Hk⟩
  iapply (rest_run c i arg2 harg2 arg3 harg3 arg4 harg4 arg5 harg5 arg6 harg6 arg7 harg7 arg8 harg8 arg9 harg9 arg10 harg10 arg11 harg11 arg12 harg12 arg13 harg13 x' (atDiag i arg2 harg2 arg3 harg3 arg6 harg6 arg7 harg7 arg8 harg8 x' d e).1 w0 y1 y2 y3 y4 y5 y6 w1 w2 w3 w4 v1 v2 v3 v4 f ((diagPiece i arg2 harg2 arg3 harg3 arg6 harg6 arg7 harg7 arg8 harg8 x' d e) :: L) h ((diagPieceF i arg2 harg2 arg3 harg3 arg6 harg6 arg7 harg7 arg8 harg8 x' d e) :: M) f8 f9 E (fun b => wp frame (wpE (defs₀ (F := F)) Variants.none c none) E (lastly i arg13 b) K))
  rw [hw]
  isplitl [H0]; · iexact H0
  isplitl [H1]; · iexact H1
  isplitl [H4]; · iexact H4
  isplitl [H5]; · iexact H5
  isplitl [H6]; · iexact H6
  isplitl [H8]; · iexact H8
  isplitl [H9]; · iexact H9
  isplitl [H10]; · iexact H10
  isplitl [H11]; · iexact H11
  rw [show owns (c : Thread nD τ) arg13 fullShare S.2.2 = iprop(∃ f, ⌜arg13.view.read (Elt F) f = S.2.2⌝ ∗ (arg13.view.loc (c : Thread nD τ) ↦[arg13.view.set]{fullShare} f)) from rfl]
  iintro ⟨H0, H1, H4, H5, H6, H8, H9, H10, ⟨%f11, %hf11, H11⟩⟩
  unfold lastly
  sl_exec
  sl_step
  iapply Hk
  isplitl [H0]
  · unfold owns; iexists _; isplitr; · ipureintro; exact harg2.read_unread _
    iexact H0
  isplitl [H1]
  · unfold owns; iexists _; isplitr; · ipureintro; exact harg3.read_unread _
    iexact H1
  isplitl [H2]
  · unfold owns; iexists _; isplitr; · ipureintro; exact harg4.read_unread _
    iexact H2
  isplitl [H3]
  · unfold owns; iexists _; isplitr; · ipureintro; exact harg5.read_unread _
    iexact H3
  isplitl [H4]
  · unfold owns; iexists _; isplitr; · ipureintro; exact harg6.read_unread _
    iexact H4
  isplitl [H5]
  · unfold owns; iexists _; isplitr; · ipureintro; exact harg7.read_unread _
    iexact H5
  isplitl [H6]
  · unfold owns; iexists _; isplitr; · ipureintro; exact harg8.read_unread _
    iexact H6
  isplitl [H7]
  · unfold owns; iexists _; isplitr; · ipureintro; exact harg9.read_unread _
    iexact H7
  isplitl [H8]; · rw [hz]; iexact H8
  isplitl [H9]
  · rw [outK, ← whole_fst i x' (i 1).val hj D k0_pay118 B k0_pay124, hz]; iexact H9
  isplitl [H10]
  · rw [outV, ← whole_fst i x' (i 1).val hj D k0_pay118 B k0_pay124, hz]; iexact H10
  · unfold owns; iexists _; isplitr
    swap
    · iexact H11
    ipureintro
    have he := (View.readAt_unit arg13.view f11 (k0_off1_inb i) (at1 i) (fit2 b)).trans (by rw [hf11])
    refine (View.read_writes_cons_put _ _ _ _ _ (at1 i)).trans ?_
    rw [View.writes_nil, hf11, hz]
    refine congrArg (VecWindow.put S.2.2 ![512 * (i 1).val, 0] S512x128.size) ?_
    refine (congrArg (fun z => k0_pay1 (pairWord i) S.1.2.2.1 S.1.2.2.2.2.2 (iota .tc S128x1 32 [0] iota_S128x1_d0_w32) (k0_pay172 (pairWord i)) z) ?_).trans rfl
    exact he

set_option maxHeartbeats 1000000 in
/-- The body past the first column block: both gradients go on from what their blocks hold. -/
theorem body_later (hc : ¬ First i) (hs : ¬ Start i) (hj : (i 1).val < 8) (h0 : (i 1).val ≠ 0) (g0 : ¬ ((i 0).val = 0 ∧ (i 1).val = 0)) (D : Vec F S4096x128 .f32) (B : Vec F S4096x128 .f32) (E : Set ℕ) (K : PUnit → sProp 𝕄) :
    iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare x.f ∗ owns (c : Thread nD τ) arg10 fullShare D ∗ (∃ d, owns (c : Thread nD τ) arg11 fullShare d) ∗ (∃ d, owns (c : Thread nD τ) arg12 fullShare d) ∗ owns (c : Thread nD τ) arg13 fullShare B
        ∗ (iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare x.f ∗ owns (c : Thread nD τ) arg10 fullShare (whole i x (i 1).val hj D B).2.1 ∗ owns (c : Thread nD τ) arg11 fullShare (outK i x (i 1).val hj) ∗ owns (c : Thread nD τ) arg12 fullShare (outV i x (i 1).val hj) ∗ owns (c : Thread nD τ) arg13 fullShare (whole i x (i 1).val hj D B).2.2) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K := by
  simp only [cc0_fox_bwd_eq_skeleton]; unfold cc0_fox_bwd_skel
  simp only [k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc | sl_exact hs)
  iapply (finish c i arg2 harg2 arg3 harg3 arg4 harg4 arg5 harg5 arg6 harg6 arg7 harg7 arg8 harg8 arg9 harg9 arg10 harg10 arg11 harg11 arg12 harg12 arg13 harg13 x hj _ _ _ _ _ _ _ _ _ _ _ _ _ _ _ f8 [] f11 [] f9 f10 _ _ D B rfl rfl ((congrArg (arg10.view.read (Elt F)) (View.writes_nil _ _)).trans (hf8.trans (if_neg h0).symm)) ((congrArg (arg13.view.read (Elt F)) (View.writes_nil _ _)).trans (hf11.trans (if_neg g0).symm)) (loaded arg4 harg4 arg5 harg5 arg9 harg9 x) (loaded_eq arg4 harg4 arg5 harg5 arg9 harg9 x) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hk

set_option maxHeartbeats 1000000 in
/-- The body at the first column block of a later head pair: it clears the queries' gradient. -/
theorem body_next (hc : First i) (hs : ¬ Start i) (hj : (i 1).val < 8) (h0 : (i 1).val = 0) (g0 : ¬ ((i 0).val = 0 ∧ (i 1).val = 0)) (B : Vec F S4096x128 .f32) (E : Set ℕ) (K : PUnit → sProp 𝕄) :
    iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare x.f ∗ (∃ d, owns (c : Thread nD τ) arg10 fullShare d) ∗ (∃ d, owns (c : Thread nD τ) arg11 fullShare d) ∗ (∃ d, owns (c : Thread nD τ) arg12 fullShare d) ∗ owns (c : Thread nD τ) arg13 fullShare B
        ∗ (iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare x.f ∗ owns (c : Thread nD τ) arg10 fullShare (whole i x (i 1).val hj k0_pay118 B).2.1 ∗ owns (c : Thread nD τ) arg11 fullShare (outK i x (i 1).val hj) ∗ owns (c : Thread nD τ) arg12 fullShare (outV i x (i 1).val hj) ∗ owns (c : Thread nD τ) arg13 fullShare (whole i x (i 1).val hj k0_pay118 B).2.2) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K := by
  simp only [cc0_fox_bwd_eq_skeleton]; unfold cc0_fox_bwd_skel
  simp only [k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc | sl_exact hs)
  iapply (finish c i arg2 harg2 arg3 harg3 arg4 harg4 arg5 harg5 arg6 harg6 arg7 harg7 arg8 harg8 arg9 harg9 arg10 harg10 arg11 harg11 arg12 harg12 arg13 harg13 x hj _ _ _ _ _ _ _ _ _ _ _ _ _ _ _ arg10.view.junk [⟨Rect.unit (s := S4096x128) ![0, 0] S4096x128.size inb_S4096x128_S4096x128_0_0, k0_pay118⟩] f11 [] f9 f10 _ _ k0_pay118 B rfl rfl ((View.read_writes_full _ _ _ _ _).trans (if_pos h0).symm) ((congrArg (arg13.view.read (Elt F)) (View.writes_nil _ _)).trans (hf11.trans (if_neg g0).symm)) (loaded arg4 harg4 arg5 harg5 arg9 harg9 x) (loaded_eq arg4 harg4 arg5 harg5 arg9 harg9 x) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hk

set_option maxHeartbeats 1000000 in
/-- The body at the very first point: it clears both gradients. -/
theorem body_first (hc : First i) (hs : Start i) (hj : (i 1).val < 8) (h0 : (i 1).val = 0) (g0 : (i 0).val = 0) (E : Set ℕ) (K : PUnit → sProp 𝕄) :
    iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare x.f ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x.q ∗ owns (c : Thread nD τ) arg3 fullShare x.qt ∗ owns (c : Thread nD τ) arg4 fullShare x.k ∗ owns (c : Thread nD τ) arg5 fullShare x.v ∗ owns (c : Thread nD τ) arg6 fullShare x.o ∗ owns (c : Thread nD τ) arg7 fullShare x.ot ∗ owns (c : Thread nD τ) arg8 fullShare x.st ∗ owns (c : Thread nD τ) arg9 fullShare x.f ∗ owns (c : Thread nD τ) arg10 fullShare (whole i x (i 1).val hj k0_pay118 k0_pay124).2.1 ∗ owns (c : Thread nD τ) arg11 fullShare (outK i x (i 1).val hj) ∗ owns (c : Thread nD τ) arg12 fullShare (outV i x (i 1).val hj) ∗ owns (c : Thread nD τ) arg13 fullShare (whole i x (i 1).val hj k0_pay118 k0_pay124).2.2) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K := by
  simp only [cc0_fox_bwd_eq_skeleton]; unfold cc0_fox_bwd_skel
  simp only [k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc | sl_exact hs)
  iapply (finish c i arg2 harg2 arg3 harg3 arg4 harg4 arg5 harg5 arg6 harg6 arg7 harg7 arg8 harg8 arg9 harg9 arg10 harg10 arg11 harg11 arg12 harg12 arg13 harg13 x hj _ _ _ _ _ _ _ _ _ _ _ _ _ _ _ arg10.view.junk [⟨Rect.unit (s := S4096x128) ![0, 0] S4096x128.size inb_S4096x128_S4096x128_0_0, k0_pay118⟩] arg13.view.junk [⟨Rect.unit (s := S4096x128) ![0, 0] S4096x128.size inb_S4096x128_S4096x128_0_0, k0_pay124⟩] f9 f10 _ _ k0_pay118 k0_pay124 rfl rfl ((View.read_writes_full _ _ _ _ _).trans (if_pos h0).symm) ((View.read_writes_full _ _ _ _ _).trans (if_pos ⟨g0, h0⟩).symm) (loaded arg4 harg4 arg5 harg5 arg9 harg9 x) (loaded_eq arg4 harg4 arg5 harg5 arg9 harg9 x) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hk

end Cert.Kernel3Ideal.Fox

end
-- ==== Proof.Fox.Frame.lean ====
/- The forgetting attention's gradient's launch: what each point leaves, the run of the whole grid and the frame. -/
module

public import proofs.«01_k».proof.Proof.Fox.Run
public import proofs.«01_k».proof.Proof.Gen.Kernel3Ideal.Points
public import Idealize.ShloMosaic.Lib.Pipeline.FrameSuffix
public import Idealize.ShloMosaic.Lib.WordCmp
public import Idealize.ShloMosaic.Lib.Claim

@[expose] public section

set_option maxRecDepth 16384

noncomputable section

namespace Cert.Kernel3Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks point `t` reads. -/
def ins (c : Dev nD) (t : Fin cfg0.N) : Ins F :=
  ⟨iblk m c 0 t, iblk m c 1 t, iblk m c 2 t, iblk m c 3 t, iblk m c 4 t, iblk m c 5 t, iblk m c 6 t, iblk m c 7 t⟩

/-- The column block of point `t`. -/
theorem col (t : Fin cfg0.N) : (grid0.coords t 1).val = t.val % 8 := by
  have h : (grid0.coords t 1).val = t.val / 1 % 8 := Pipeline.Grid.coords_val t 1 (by decide) rfl
  rw [h, Nat.div_one]

/-- The pair of heads of point `t`. -/
theorem row (t : Fin cfg0.N) : (grid0.coords t 0).val = t.val / 8 % 4 := Pipeline.Grid.coords_val t 0 (by decide) rfl

theorem col_lt (t : Fin cfg0.N) : (grid0.coords t 1).val < 8 := by rw [col]; omega

/-- The body's first test holds exactly at the first column block of a head pair, -/
theorem first_iff (t : Fin cfg0.N) : First (grid0.coords t) ↔ (grid0.coords t 1).val = 0 := by
  have ht : t.val < 32 := Nat.lt_of_lt_of_eq t.isLt N_0
  simp only [First, col]
  word_cmp

/-- and its second exactly at the first point. -/
theorem start_iff (t : Fin cfg0.N) : Start (grid0.coords t) ↔ ((grid0.coords t 0).val = 0 ∧ (grid0.coords t 1).val = 0) := by
  have ht : t.val < 32 := Nat.lt_of_lt_of_eq t.isLt N_0
  have h : ∀ a < 4, ∀ b < 8, ((Scalar.cmpi .ne (Scalar.extui (Scalar.cmpi .eq (Scalar.addi (Scalar.muli (BitVec.ofNat 32 a) 8#32) (BitVec.ofNat 32 b)) 0#32)) 0#32) = 1#1) ↔ (a = 0 ∧ b = 0) := by decide +kernel
  exact h _ (by rw [row]; omega) _ (col_lt t)

/-- The queries' and the forget sums' gradients after point `n`: each point adds its part to what the point before left. -/
def outAt (c : Dev nD) : (n : ℕ) → n < cfg0.N → Vec F S4096x128 .f32 × Vec F S4096x128 .f32
  | 0, h => (whole (grid0.coords ⟨0, h⟩) (ins m c ⟨0, h⟩) (grid0.coords ⟨0, h⟩ 1).val (col_lt _) k0_pay118 k0_pay124).2
  | n + 1, h => (whole (grid0.coords ⟨n + 1, h⟩) (ins m c ⟨n + 1, h⟩) (grid0.coords ⟨n + 1, h⟩ 1).val (col_lt _) (outAt c n (Nat.lt_of_succ_lt h)).1 (outAt c n (Nat.lt_of_succ_lt h)).2).2

/-- At a first column block nothing of the queries' gradient that was there counts; -/
theorem whole_first (i : grid0.Coords) (x : Ins F) (j : ℕ) (hj : j < 8) (h0 : j = 0) (D D' B : Vec F S4096x128 .f32) : whole i x j hj D B = whole i x j hj D' B := by
  unfold whole; rw [if_pos h0, if_pos h0]

/-- at the first point nothing of the forget sums' either. -/
theorem whole_start (i : grid0.Coords) (x : Ins F) (j : ℕ) (hj : j < 8) (h0 : (i 0).val = 0 ∧ j = 0) (D D' B B' : Vec F S4096x128 .f32) : whole i x j hj D B = whole i x j hj D' B' := by
  unfold whole; rw [if_pos h0.2, if_pos h0, if_pos h0.2, if_pos h0]

theorem outAt_first (c : Dev nD) (t : Fin cfg0.N) (h0 : (grid0.coords t 0).val = 0 ∧ (grid0.coords t 1).val = 0) :
    outAt m c t.val t.isLt = (whole (grid0.coords t) (ins m c t) (grid0.coords t 1).val (col_lt t) k0_pay118 k0_pay124).2 := by
  obtain ⟨n, hn⟩ := t
  cases n with
  | zero => rfl
  | succ n => exact congrArg Prod.snd (whole_start _ _ _ _ h0 _ _ _ _)

theorem outAt_next (c : Dev nD) (t : Fin cfg0.N) (h0 : (grid0.coords t 1).val = 0) (h1 : ¬ ((grid0.coords t 0).val = 0 ∧ (grid0.coords t 1).val = 0)) :
    outAt m c t.val t.isLt = (whole (grid0.coords t) (ins m c t) (grid0.coords t 1).val (col_lt t) k0_pay118 (outAt m c (t.val - 1) (Nat.lt_of_le_of_lt (Nat.sub_le _ _) t.isLt)).2).2 := by
  obtain ⟨n, hn⟩ := t
  cases n with
  | zero => exact absurd ⟨by rw [row]; simp, h0⟩ h1
  | succ n => exact congrArg Prod.snd (whole_first _ _ _ _ h0 _ _ _)

theorem outAt_later (c : Dev nD) (t : Fin cfg0.N) (h0 : (grid0.coords t 1).val ≠ 0) :
    outAt m c t.val t.isLt = (whole (grid0.coords t) (ins m c t) (grid0.coords t 1).val (col_lt t) (outAt m c (t.val - 1) (Nat.lt_of_le_of_lt (Nat.sub_le _ _) t.isLt)).1 (outAt m c (t.val - 1) (Nat.lt_of_le_of_lt (Nat.sub_le _ _) t.isLt)).2).2 := by
  obtain ⟨n, hn⟩ := t
  cases n with
  | zero => exact absurd (by rw [col]; rfl) h0
  | succ n => rfl

/-- The launch's data: each input window at its block, the outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outAt m c t.val t.isLt).1
    | ⟨9, _⟩ => outK (grid0.coords t) (ins m c t) (grid0.coords t 1).val (col_lt t)
    | ⟨10, _⟩ => outV (grid0.coords t) (ins m c t) (grid0.coords t 1).val (col_lt t)
    | ⟨11, _⟩ => (outAt m c t.val t.isLt).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outAt m c t.val t.isLt).1 := by dsimp only [dats]
theorem after0_9 (c : Dev nD) (t : Fin cfg0.N) : (dats m 0 c).after 9 t = outK (grid0.coords t) (ins m c t) (grid0.coords t 1).val (col_lt t) := by dsimp only [dats]
theorem after0_10 (c : Dev nD) (t : Fin cfg0.N) : (dats m 0 c).after 10 t = outV (grid0.coords t) (ins m c t) (grid0.coords t 1).val (col_lt t) := by dsimp only [dats]
theorem after0_11 (c : Dev nD) (t : Fin cfg0.N) : (dats m 0 c).after 11 t = (outAt m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Past the first column block the queries' gradient is what the point before left. -/
theorem before0_8 (c : Dev nD) (t : Fin cfg0.N) (h0 : (grid0.coords t 1).val ≠ 0) (d) :
    (dats m 0 c).before 8 t d = (outAt m c (t.val - 1) (Nat.lt_of_le_of_lt (Nat.sub_le _ _) t.isLt)).1 := by
  rw [col] at h0
  refine ((dats m 0 c).before_out_kept 8 rfl t (by omega) ?_ (fun _ => rfl) (fun _ _ => rfl) d).trans (after0_8 m c _)
  rw [Bool.eq_false_iff]
  intro h
  have h' := (flush0_8 _).mp h
  simp only at h'
  omega

/-- Past the first point the forget sums' gradient is what the point before left. -/
theorem before0_11 (c : Dev nD) (t : Fin cfg0.N) (h0 : ¬ ((grid0.coords t 0).val = 0 ∧ (grid0.coords t 1).val = 0)) (d) :
    (dats m 0 c).before 11 t d = (outAt m c (t.val - 1) (Nat.lt_of_le_of_lt (Nat.sub_le _ _) t.isLt)).2 := by
  rw [col, row] at h0
  have ht : t.val < 32 := Nat.lt_of_lt_of_eq t.isLt N_0
  refine ((dats m 0 c).before_out_kept 11 rfl t (by omega) ?_ (fun _ => rfl) (fun _ _ => rfl) d).trans (after0_11 m c _)
  rw [Bool.eq_false_iff]
  intro h
  have h' := (flush0_11 _).mp h
  simp only at h'
  omega

/-- Window 0's staging memref at point `t`. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
/-- Window 1's staging memref at point `t`. -/
abbrev ms0_1 (t : Fin cfg0.N) : Memref sig .tc .vmem S8x128x512 .bf16 := win0_1.stage (cfg0.slots t 1)
abbrev hs0_1 (t : Fin cfg0.N) : (ms0_1 t).IsWhole := hstage0_1 ((cfg0.slots t 1).cast nbuf0_1)
/-- Window 2's staging memref at point `t`. -/
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
/-- Window 3's staging memref at point `t`. -/
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
/-- Window 4's staging memref at point `t`. -/
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
/-- Window 5's staging memref at point `t`. -/
abbrev ms0_5 (t : Fin cfg0.N) : Memref sig .tc .vmem S8x128x512 .bf16 := win0_5.stage (cfg0.slots t 5)
abbrev hs0_5 (t : Fin cfg0.N) : (ms0_5 t).IsWhole := hstage0_5 ((cfg0.slots t 5).cast nbuf0_5)
/-- Window 6's staging memref at point `t`. -/
abbrev ms0_6 (t : Fin cfg0.N) : Memref sig .tc .vmem S1x4096x128 .f32 := win0_6.stage (cfg0.slots t 6)
abbrev hs0_6 (t : Fin cfg0.N) : (ms0_6 t).IsWhole := hstage0_6 ((cfg0.slots t 6).cast nbuf0_6)
/-- Window 7's staging memref at point `t`. -/
abbrev ms0_7 (t : Fin cfg0.N) : Memref sig .tc .vmem S1x8x512 .f32 := win0_7.stage (cfg0.slots t 7)
abbrev hs0_7 (t : Fin cfg0.N) : (ms0_7 t).IsWhole := hstage0_7 ((cfg0.slots t 7).cast nbuf0_7)
/-- Window 8's staging memref at point `t`. -/
abbrev ms0_8 (t : Fin cfg0.N) : Memref sig .tc .vmem S4096x128 .f32 := win0_8.stage (cfg0.slots t 8)
abbrev hs0_8 (t : Fin cfg0.N) : (ms0_8 t).IsWhole := hstage0_8 ((cfg0.slots t 8).cast nbuf0_8)
/-- Window 9's staging memref at point `t`. -/
abbrev ms0_9 (t : Fin cfg0.N) : Memref sig .tc .vmem S512x128 .bf16 := win0_9.stage (cfg0.slots t 9)
abbrev hs0_9 (t : Fin cfg0.N) : (ms0_9 t).IsWhole := hstage0_9 ((cfg0.slots t 9).cast nbuf0_9)
/-- Window 10's staging memref at point `t`. -/
abbrev ms0_10 (t : Fin cfg0.N) : Memref sig .tc .vmem S512x128 .bf16 := win0_10.stage (cfg0.slots t 10)
abbrev hs0_10 (t : Fin cfg0.N) : (ms0_10 t).IsWhole := hstage0_10 ((cfg0.slots t 10).cast nbuf0_10)
/-- Window 11's staging memref at point `t`. -/
abbrev ms0_11 (t : Fin cfg0.N) : Memref sig .tc .vmem S4096x128 .f32 := win0_11.stage (cfg0.slots t 11)
abbrev hs0_11 (t : Fin cfg0.N) : (ms0_11 t).IsWhole := hstage0_11 ((cfg0.slots t 11).cast nbuf0_11)

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at the first point. -/
theorem sound_first (c : Dev nD) (t : Fin cfg0.N) (h0 : (grid0.coords t 0).val = 0 ∧ (grid0.coords t 1).val = 0) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  simp only [before0_0, before0_1, before0_2, before0_3, before0_4, before0_5, before0_6, before0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [outAt_first m c t h0]
  iapply (body_first c (grid0.coords t) _ _ _ _ _ _ _ _ _ _ _ _ _ _ _ _ _ _ _ _ _ _ _ _ (ins m c t) ((first_iff t).mpr h0.2) ((start_iff t).mpr h0) (col_lt t) h0.2 h0.1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1600000 in
/-- The body at a later first column block. -/
theorem sound_next (c : Dev nD) (t : Fin cfg0.N) (h0 : (grid0.coords t 1).val = 0) (h1 : ¬ ((grid0.coords t 0).val = 0 ∧ (grid0.coords t 1).val = 0)) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  simp only [before0_0, before0_1, before0_2, before0_3, before0_4, before0_5, before0_6, before0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [outAt_next m c t h0 h1, before0_11 m c t h1]
  iapply (body_next c (grid0.coords t) _ _ _ _ _ _ _ _ _ _ _ _ _ _ _ _ _ _ _ _ _ _ _ _ (ins m c t) ((first_iff t).mpr h0) (fun h => h1 ((start_iff t).mp h)) (col_lt t) h0 h1 (outAt m c (t.val - 1) (Nat.lt_of_le_of_lt (Nat.sub_le _ _) t.isLt)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1600000 in
/-- The body past it, from what the point before left. -/
theorem sound_later (c : Dev nD) (t : Fin cfg0.N) (h0 : (grid0.coords t 1).val ≠ 0) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  simp only [before0_0, before0_1, before0_2, before0_3, before0_4, before0_5, before0_6, before0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [outAt_later m c t h0, before0_8 m c t h0, before0_11 m c t (fun h => h0 h.2)]
  iapply (body_later c (grid0.coords t) _ _ _ _ _ _ _ _ _ _ _ _ _ _ _ _ _ _ _ _ _ _ _ _ (ins m c t) (fun h => h0 ((first_iff t).mp h)) (fun h => h0 ((start_iff t).mp h).2) (col_lt t) h0 (fun h => h0 h.2) (outAt m c (t.val - 1) (Nat.lt_of_le_of_lt (Nat.sub_le _ _) t.isLt)).1 (outAt m c (t.val - 1) (Nat.lt_of_le_of_lt (Nat.sub_le _ _) t.isLt)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : (grid0.coords t 1).val = 0
  · by_cases h1 : (grid0.coords t 0).val = 0 ∧ (grid0.coords t 1).val = 0
    · exact sound_first m c t h1
    · exact sound_next m c t h0 h1
  · exact sound_later m c t h0

theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch run: every array of the pipeline ends at what the points wrote, every other buffer at what the host lines
    leave there, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments end unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Fox

end
-- ==== Proof.Fox.Printed.lean ====
/- The frame of the forgetting attention's gradient as printed, from the run of the program with named constants. -/
module

public import proofs.«01_k».proof.Proof.Fox.Frame
public import proofs.«01_k».proof.Proof.Gen.Kernel3
public import proofs.«01_k».proof.Defs

@[expose] public section

set_option maxRecDepth 16384

noncomputable section

namespace Cert.Kernel3Ideal.Fox

open Idealize.ShloMosaic Idealize.ShloMosaic.TcCoe Idealize.SL.Sem Idealize.ShloMosaic.Tactic

/-- A named constant read as the word it was printed with. -/
@[reducible] def wordNamed : Named Bits := ⟨fun _ _ {φ} bits => Scalar.ofBits φ bits⟩

/-- The statement of the frame of the program with the names, its words read as printed. -/
def FrameWords : Prop :=
  letI : Named Bits := wordNamed
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- It holds, by the run over any reading of the numbers. -/
theorem frameWords : FrameWords := fun m ρ _ =>
  letI : Named Bits := wordNamed
  frame_main (F := Bits) m ρ

/-- The two programs are one. -/
theorem same : Cert.quiescent_Kernel3 (hKernel3 := Cert.Kernel3.Gen.facts) = FrameWords := by sl_kernel_rfl

/-- The frame of the program as printed. -/
theorem frame_printed : Cert.quiescent_Kernel3 (hKernel3 := Cert.Kernel3.Gen.facts) := by
  rw [same]; exact frameWords

end Cert.Kernel3Ideal.Fox

end
-- ==== Proof.Fox.Reference.lean ====
/- The reference of the forgetting attention's gradient over real numbers, operation by operation. -/
module

public import proofs.«01_k».proof.Proof.Gen.Reference3Ideal.Read
public import proofs.«01_k».proof.Proof.Real.Softmax

@[expose] public section

set_option maxRecDepth 16384

noncomputable section

namespace Cert.Reference3Ideal.Fox

open Idealize.ShloMosaic Idealize.ShloMosaic.Tactic Cert.Reference3Ideal Cert.Reference3Ideal.Read Cert.Reals

/-- The scale of the logits. -/
def sg : ℝ := 1 / 8

theorem word_sg : (FloatOps.ofBits .f32 0x3E000000#32 : Ideal .f32) = ((sg : ℝ) : EReal) := by
  show Ideal.ofBits .f32 0x3E000000#32 = _
  unfold sg
  simp [Ideal.ofBits, Ideal.ieee, -EReal.coe_mul]
  norm_num

/-- The scaled product of a row of the queries and a row of the keys in head `h`. -/
def prod (A B : ℕ → ℕ → ℝ) (h r c : ℕ) : ℝ := (∑ d ∈ Finset.range 64, A r (64 * h + d) * B c (64 * h + d)) * sg

/-- The logits of head `h`: the scaled products, and what is forgotten from the row's forget sum to the column's. -/
def logit (A B L : ℕ → ℕ → ℝ) (h r c : ℕ) : ℝ := prod A B h r c + (L r h - L c h)

/-- The weights' gradient of head `h`: the products of `64` columns. -/
def pull (C O : ℕ → ℕ → ℝ) (h r c : ℕ) : ℝ := ∑ e ∈ Finset.range 64, O r (64 * h + e) * C c (64 * h + e)

variable {x0 x1 x2 x4 : (⟨S4096x512, .f32⟩ : BufTy).Contents (Elt Ideal)} {x3 : (⟨S4096x8, .f32⟩ : BufTy).Contents (Elt Ideal)}
variable {A B C O L : ℕ → ℕ → ℝ} {M : ℕ → ℕ → ℝ}

theorem heads_do (h4 : Reads x4 O) : Reads3 (val_main_v57 (F := Ideal) x4) fun h r e => O r (64 * h + e) := fun i => by
  rw [val_main_v57_apply, val_main_v56_apply, h4 _]
  have b0 : (i 0).val < 8 := (i 0).isLt
  have b1 : (i 1).val < 4096 := (i 1).isLt
  have b2 : (i 2).val < 64 := (i 2).isLt
  show ((O ((((i 1).val * 8 + (i 0).val) * 64 + (i 2).val) / 512) ((((i 1).val * 8 + (i 0).val) * 64 + (i 2).val) % 512) : ℝ) : EReal) = _
  rw [show (((i 1).val * 8 + (i 0).val) * 64 + (i 2).val) / 512 = (i 1).val by omega, show (((i 1).val * 8 + (i 0).val) * 64 + (i 2).val) % 512 = 64 * (i 0).val + (i 2).val by omega]

theorem heads_q (h0 : Reads x0 A) : Reads3 (val_main_v8 (F := Ideal) x0) fun h r d => A r (64 * h + d) := heads_do h0

theorem heads_k (h1 : Reads x1 B) : Reads3 (val_main_v10 (F := Ideal) x1) fun h r d => B r (64 * h + d) := heads_do h1

theorem heads_v (h2 : Reads x2 C) : Reads3 (val_main_v52 (F := Ideal) x2) fun h r e => C r (64 * h + e) := heads_do h2

theorem prods (h0 : Reads x0 A) (h1 : Reads x1 B) : Reads3 (val_main_v13 (F := Ideal) x0 x1) (prod A B) := fun i => by
  rw [val_main_v13_apply, val_main_v11_apply, val_main_v12_apply, val_main_cst_apply, word_sg]
  rw [sum_fin (g := fun d => A (i 1).val (64 * (i 0).val + d) * B (i 2).val (64 * (i 0).val + d)) fun d => by
    rw [heads_q h0 _, heads_k h1 _, ← EReal.coe_mul]]
  show _ * _ = _
  rw [← EReal.coe_mul]
  rfl

/-- The rows' forget sums. -/
theorem gone_rows (h3 : Reads x3 L) : Reads3 (val_main_v18 (F := Ideal) x3) fun h r _ => L r h := fun i => by
  rw [val_main_v18_apply, val_main_v15_apply, val_main_v14_apply, h3 _]

/-- The columns' forget sums. -/
theorem gone_cols (h3 : Reads x3 L) : Reads3 (val_main_v19 (F := Ideal) x3) fun h _ c => L c h := fun i => by
  rw [val_main_v19_apply, val_main_v17_apply, val_main_v16_apply, h3 _]

theorem logits (h0 : Reads x0 A) (h1 : Reads x1 B) (h3 : Reads x3 L) : Reads3 (val_main_v21 (F := Ideal) x0 x1 x3) (logit A B L) := fun i => by
  rw [val_main_v21_apply, prods h0 h1 i, val_main_v20_apply, gone_rows h3 i, gone_cols h3 i]
  show _ + (_ - _) = _
  rw [← EReal.coe_sub, ← EReal.coe_add]
  rfl

/-- The mask keeps the entries on and below the diagonal. -/
theorem mask (i : S8x4096x4096.Idx) : val_main_v22_1 (F := Ideal) i = if (i 2).val ≤ (i 1).val then 1#1 else 0#1 := by
  rw [val_main_v22_1_apply, val_main_v6_apply, val_main_v4_apply, val_main_v1_apply, val_main_v5_apply, val_main_v3_apply]
  have b1 : (i 1).val < 4096 := (i 1).isLt
  have b2 : (i 2).val < 4096 := (i 2).isLt
  show IntOp.cmpi .sle (BitVec.ofNat 32 (i 2).val) (BitVec.ofNat 32 (i 1).val) = _
  split
  · word_cmp
  · word_cmp

/-- The masked logits. -/
theorem masked (h0 : Reads x0 A) (h1 : Reads x1 B) (h3 : Reads x3 L) (i : S8x4096x4096.Idx) :
    val_main_v22_0 (F := Ideal) x0 x1 x3 i = if (i 2).val ≤ (i 1).val then ((logit A B L (i 0).val (i 1).val (i 2).val : ℝ) : EReal) else ⊥ := by
  rw [val_main_v22_0_apply, mask, logits h0 h1 h3 i, val_main_call0_v2_apply, val_main_call0_v0_apply]
  split
  · rfl
  · show Ideal.ofBits .f32 0xFF800000#32 = _
    simp [Ideal.ofBits, Ideal.ieee]

/-- Each row has a real maximum. -/
theorem row_max (h0 : Reads x0 A) (h1 : Reads x1 B) (h3 : Reads x3 L) : ∃ M, Reads (val_main_v23 (F := Ideal) x0 x1 x3) M :=
  exists_max (masked h0 h1 h3) _ (by decide) _

/-- Its maximum with `-∞` is itself. -/
theorem row_max' (hM : Reads (val_main_v23 (F := Ideal) x0 x1 x3) M) : Reads (val_main_v30 (F := Ideal) x0 x1 x3) M := fun i => by
  rw [val_main_v30_apply, hM i, val_main_v29_apply]
  show max (Ideal.ofBits .f32 0xFF800000#32) _ = _
  rw [show Ideal.ofBits .f32 0xFF800000#32 = (⊥ : EReal) by simp [Ideal.ofBits, Ideal.ieee]]
  exact max_eq_right bot_le

/-- The exponentials. -/
theorem expos (h0 : Reads x0 A) (h1 : Reads x1 B) (h3 : Reads x3 L) (hM : Reads (val_main_v23 (F := Ideal) x0 x1 x3) M) :
    Reads3 (val_main_v43 (F := Ideal) x0 x1 x3) (expo (logit A B L) M) := fun i => by
  rw [val_main_v43_apply, val_main_v42_apply, masked h0 h1 h3 i, val_main_v41_apply, val_main_v40_apply, row_max' hM _]
  unfold expo
  show Ideal.exp (_ - ((M (i 0).val (i 1).val : ℝ) : EReal)) = _
  split
  · rw [← EReal.coe_sub]; rfl
  · rw [EReal.bot_sub]; rfl

/-- The rows' sums. -/
theorem masses (h0 : Reads x0 A) (h1 : Reads x1 B) (h3 : Reads x3 L) (hM : Reads (val_main_v23 (F := Ideal) x0 x1 x3) M) :
    Reads (val_main_v44 (F := Ideal) x0 x1 x3) (mass (logit A B L) M) := fun i => by
  rw [val_main_v44_apply, sum_fin (g := fun k => expo (logit A B L) M (i 0).val (i 1).val k) fun k => expos h0 h1 h3 hM _]
  rw [show val_main_cst_9 (F := Ideal) (Shape.Idx.first Gen.h_S_) = (0 : EReal) from Ideal.ofBits_zero_f32, zero_add]
  rfl

theorem masses' (h0 : Reads x0 A) (h1 : Reads x1 B) (h3 : Reads x3 L) (hM : Reads (val_main_v23 (F := Ideal) x0 x1 x3) M) (i : S8x4096x1.Idx) :
    val_main_v45 (F := Ideal) x0 x1 x3 i = ((mass (logit A B L) M (i 0).val (i 1).val : ℝ) : EReal) := by
  rw [val_main_v45_apply, masses h0 h1 h3 hM _]

/-- The weights. -/
theorem softs (h0 : Reads x0 A) (h1 : Reads x1 B) (h3 : Reads x3 L) (hM : Reads (val_main_v23 (F := Ideal) x0 x1 x3) M) :
    Reads3 (val_main_v47 (F := Ideal) x0 x1 x3) (soft (logit A B L) M) := fun i => by
  rw [val_main_v47_apply, expos h0 h1 h3 hM i, val_main_v46_apply, masses' h0 h1 h3 hM _]
  exact div_real (mass_pos _ _ (i 1).isLt).ne'

/-- The values' gradient. -/
theorem dv_reads (h0 : Reads x0 A) (h1 : Reads x1 B) (h3 : Reads x3 L) (h4 : Reads x4 O) (hM : Reads (val_main_v23 (F := Ideal) x0 x1 x3) M) :
    Reads (val_main_v62 (F := Ideal) x0 x1 x3 x4) fun c l => ∑ r ∈ Finset.range 4096, O r l * soft (logit A B L) M (l / 64) r c := fun i => by
  rw [val_main_v62_apply, val_main_v61_apply, val_main_v59_apply, val_main_v58_apply]
  have b0 : (i 0).val < 4096 := (i 0).isLt
  have b1 : (i 1).val < 512 := (i 1).isLt
  refine sum_fin fun k => ?_
  rw [heads_do h4 _, softs h0 h1 h3 hM _, ← EReal.coe_mul]
  show ((O k.val (64 * (((i 0).val * 512 + (i 1).val) / 64 % 8) + ((i 0).val * 512 + (i 1).val) % 64)
    * soft (logit A B L) M (((i 0).val * 512 + (i 1).val) / 64 % 8) k.val (((i 0).val * 512 + (i 1).val) / 512) : ℝ) : EReal) = _
  rw [show ((i 0).val * 512 + (i 1).val) / 64 % 8 = (i 1).val / 64 by omega, show ((i 0).val * 512 + (i 1).val) % 64 = (i 1).val % 64 by omega,
    show ((i 0).val * 512 + (i 1).val) / 512 = (i 0).val by omega, show 64 * ((i 1).val / 64) + (i 1).val % 64 = (i 1).val by omega]

/-- The weights' gradient. -/
theorem pulls (h2 : Reads x2 C) (h4 : Reads x4 O) : Reads3 (val_main_v60 (F := Ideal) x2 x4) (pull C O) := fun i => by
  rw [val_main_v60_apply]
  refine sum_fin fun k => ?_
  rw [heads_do h4 _, heads_v h2 _, ← EReal.coe_mul]

/-- What the rows' sums take of the weights' gradient. -/
def drawn (A B C O L : ℕ → ℕ → ℝ) (M : ℕ → ℕ → ℝ) (h r k : ℕ) : ℝ :=
  pull C O h r k * (1 / (mass (logit A B L) M h r * mass (logit A B L) M h r)) * expo (logit A B L) M h r k

theorem drawns (h0 : Reads x0 A) (h1 : Reads x1 B) (h2 : Reads x2 C) (h3 : Reads x3 L) (h4 : Reads x4 O) (hM : Reads (val_main_v23 (F := Ideal) x0 x1 x3) M) :
    Reads3 (val_main_v65 (F := Ideal) x0 x1 x2 x3 x4) (drawn A B C O L M) := fun i => by
  have hL : mass (logit A B L) M (i 0).val (i 1).val ≠ 0 := (mass_pos _ _ (i 1).isLt).ne'
  rw [val_main_v65_apply, val_main_v64_apply, val_main_v63_apply, val_main_v50_apply, val_main_v49_apply, val_main_v48_apply, pulls h2 h4 i,
    expos h0 h1 h3 hM i, masses' h0 h1 h3 hM _]
  show _ * Ideal.div (Ideal.ofBits .f32 0x3F800000#32)
    (((mass (logit A B L) M (i 0).val (i 1).val : ℝ) : EReal) * ((mass (logit A B L) M (i 0).val (i 1).val : ℝ) : EReal)) * _ = _
  rw [Ideal.ofBits_one_f32, ← EReal.coe_mul, ← EReal.coe_one, div_real (mul_ne_zero hL hL), ← EReal.coe_mul, ← EReal.coe_mul]
  rfl

theorem shares (h0 : Reads x0 A) (h1 : Reads x1 B) (h2 : Reads x2 C) (h3 : Reads x3 L) (h4 : Reads x4 O) (hM : Reads (val_main_v23 (F := Ideal) x0 x1 x3) M) :
    Reads (val_main_v66 (F := Ideal) x0 x1 x2 x3 x4) fun h r => ∑ k ∈ Finset.range 4096, drawn A B C O L M h r k := fun i => by
  rw [val_main_v66_apply, sum_fin (g := fun k => drawn A B C O L M (i 0).val (i 1).val k) fun k => drawns h0 h1 h2 h3 h4 hM _,
    show val_main_cst_11 (F := Ideal) (Shape.Idx.first Gen.h_S_) = (0 : EReal) from Ideal.ofBits_zero_f32, zero_add]

theorem shares' (h0 : Reads x0 A) (h1 : Reads x1 B) (h2 : Reads x2 C) (h3 : Reads x3 L) (h4 : Reads x4 O) (hM : Reads (val_main_v23 (F := Ideal) x0 x1 x3) M) :
    Reads (val_main_v71 (F := Ideal) x0 x1 x2 x3 x4) fun h r => -(∑ k ∈ Finset.range 4096, drawn A B C O L M h r k) := fun i => by
  have b0 : (i 0).val < 8 := (i 0).isLt
  have b1 : (i 1).val < 4096 := (i 1).isLt
  rw [val_main_v71_apply, Fin.sum_univ_one, val_main_v68_apply, val_main_v67_apply, shares h0 h1 h2 h3 h4 hM _,
    show val_main_cst_12 (F := Ideal) (Shape.Idx.first Gen.h_S_) = (0 : EReal) from Ideal.ofBits_zero_f32, zero_add]
  show -((∑ k ∈ Finset.range 4096, drawn A B C O L M ((((i 0).val * 4096 + (i 1).val) * 1 + 0) / 4096) ((((i 0).val * 4096 + (i 1).val) * 1 + 0) % 4096) k : ℝ) : EReal) = _
  rw [show (((i 0).val * 4096 + (i 1).val) * 1 + 0) / 4096 = (i 0).val by omega, show (((i 0).val * 4096 + (i 1).val) * 1 + 0) % 4096 = (i 1).val by omega,
    ← EReal.coe_neg]

/-- The gradient of the logits before the scale. -/
theorem backs (h0 : Reads x0 A) (h1 : Reads x1 B) (h2 : Reads x2 C) (h3 : Reads x3 L) (h4 : Reads x4 O) (hM : Reads (val_main_v23 (F := Ideal) x0 x1 x3) M) :
    Reads3 (val_main_v75 (F := Ideal) x0 x1 x2 x3 x4) (back (logit A B L) M (pull C O)) := fun i => by
  have hL : mass (logit A B L) M (i 0).val (i 1).val ≠ 0 := (mass_pos _ _ (i 1).isLt).ne'
  rw [val_main_v75_apply, mask, val_main_v74_apply, val_main_v73_apply, val_main_v70_apply, val_main_v69_apply, val_main_v72_apply, pulls h2 h4 i,
    expos h0 h1 h3 hM i, masses' h0 h1 h3 hM _, shares' h0 h1 h2 h3 h4 hM _, val_main_call1_v0_apply, val_main_call1_cst_apply,
    ← back_eq _ _ _ _ _ _ (i 1).isLt]
  show Scalar.select _ ((Ideal.div _ ((mass (logit A B L) M (i 0).val (i 1).val : ℝ) : EReal) + _) * _) (Ideal.ofBits .f32 0#32) = _
  rw [div_real hL, ← EReal.coe_add, ← EReal.coe_mul, Ideal.ofBits_zero_f32]
  split
  · rfl
  · rename_i h
    show (0 : EReal) = _
    rw [show expo (logit A B L) M (i 0).val (i 1).val (i 2).val = 0 by unfold expo; rw [if_neg h], mul_zero]
    rfl

/-- The gradient of the logits. -/
theorem backs' (h0 : Reads x0 A) (h1 : Reads x1 B) (h2 : Reads x2 C) (h3 : Reads x3 L) (h4 : Reads x4 O) (hM : Reads (val_main_v23 (F := Ideal) x0 x1 x3) M) :
    Reads3 (val_main_v87 (F := Ideal) x0 x1 x2 x3 x4) fun h r c => back (logit A B L) M (pull C O) h r c * sg := fun i => by
  rw [val_main_v87_apply, backs h0 h1 h2 h3 h4 hM i, val_main_v86_apply, val_main_cst_17_apply, word_sg]
  show _ * _ = _
  rw [← EReal.coe_mul]

/-- The keys' gradient. -/
theorem dk_reads (h0 : Reads x0 A) (h1 : Reads x1 B) (h2 : Reads x2 C) (h3 : Reads x3 L) (h4 : Reads x4 O) (hM : Reads (val_main_v23 (F := Ideal) x0 x1 x3) M) :
    Reads (val_main_v91 (F := Ideal) x0 x1 x2 x3 x4) fun c l => ∑ r ∈ Finset.range 4096, back (logit A B L) M (pull C O) (l / 64) r c * sg * A r l := fun i => by
  rw [val_main_v91_apply, val_main_v90_apply, val_main_v88_apply]
  have b0 : (i 0).val < 4096 := (i 0).isLt
  have b1 : (i 1).val < 512 := (i 1).isLt
  refine sum_fin fun k => ?_
  rw [backs' h0 h1 h2 h3 h4 hM _, heads_q h0 _, ← EReal.coe_mul]
  show ((back (logit A B L) M (pull C O) (((i 0).val * 512 + (i 1).val) / 64 % 8) k.val (((i 0).val * 512 + (i 1).val) / 512) * sg
    * A k.val (64 * (((i 0).val * 512 + (i 1).val) / 64 % 8) + ((i 0).val * 512 + (i 1).val) % 64) : ℝ) : EReal) = _
  rw [show ((i 0).val * 512 + (i 1).val) / 64 % 8 = (i 1).val / 64 by omega, show ((i 0).val * 512 + (i 1).val) % 64 = (i 1).val % 64 by omega,
    show ((i 0).val * 512 + (i 1).val) / 512 = (i 0).val by omega, show 64 * ((i 1).val / 64) + (i 1).val % 64 = (i 1).val by omega]

/-- The queries' gradient. -/
theorem dq_reads (h0 : Reads x0 A) (h1 : Reads x1 B) (h2 : Reads x2 C) (h3 : Reads x3 L) (h4 : Reads x4 O) (hM : Reads (val_main_v23 (F := Ideal) x0 x1 x3) M) :
    Reads (val_main_v93 (F := Ideal) x0 x1 x2 x3 x4) fun r l => ∑ c ∈ Finset.range 4096, back (logit A B L) M (pull C O) (l / 64) r c * sg * B c l := fun i => by
  rw [val_main_v93_apply, val_main_v92_apply, val_main_v89_apply]
  have b0 : (i 0).val < 4096 := (i 0).isLt
  have b1 : (i 1).val < 512 := (i 1).isLt
  refine sum_fin fun k => ?_
  rw [backs' h0 h1 h2 h3 h4 hM _, heads_k h1 _, ← EReal.coe_mul]
  show ((back (logit A B L) M (pull C O) (((i 0).val * 512 + (i 1).val) / 64 % 8) (((i 0).val * 512 + (i 1).val) / 512) k.val * sg
    * B k.val (64 * (((i 0).val * 512 + (i 1).val) / 64 % 8) + ((i 0).val * 512 + (i 1).val) % 64) : ℝ) : EReal) = _
  rw [show ((i 0).val * 512 + (i 1).val) / 64 % 8 = (i 1).val / 64 by omega, show ((i 0).val * 512 + (i 1).val) % 64 = (i 1).val % 64 by omega,
    show ((i 0).val * 512 + (i 1).val) / 512 = (i 0).val by omega, show 64 * ((i 1).val / 64) + (i 1).val % 64 = (i 1).val by omega]

/-- The forget sums' gradient: the row's sum of the logits' gradient less the column's. -/
theorem df_reads (h0 : Reads x0 A) (h1 : Reads x1 B) (h2 : Reads x2 C) (h3 : Reads x3 L) (h4 : Reads x4 O) (hM : Reads (val_main_v23 (F := Ideal) x0 x1 x3) M) :
    Reads (val_main_v85 (F := Ideal) x0 x1 x2 x3 x4) fun r h => (∑ c ∈ Finset.range 4096, back (logit A B L) M (pull C O) h r c)
      - ∑ a ∈ Finset.range 4096, back (logit A B L) M (pull C O) h a r := fun i => by
  have b0 : (i 0).val < 4096 := (i 0).isLt
  have b1 : (i 1).val < 8 := (i 1).isLt
  rw [val_main_v85_apply, val_main_v82_apply, val_main_v81_apply, Fin.sum_univ_one, val_main_v80_apply, val_main_v79_apply,
    val_main_v84_apply, val_main_v83_apply, Fin.sum_univ_one, val_main_v77_apply, val_main_v76_apply,
    sum_fin (g := fun a => -back (logit A B L) M (pull C O) (i 1).val a (i 0).val) fun k => by
      rw [val_main_v78_apply, backs h0 h1 h2 h3 h4 hM _]
      show -((back (logit A B L) M (pull C O) ((((i 1).val * 1 + 0) * 4096 + (i 0).val) / 4096) k.val ((((i 1).val * 1 + 0) * 4096 + (i 0).val) % 4096) : ℝ) : EReal) = _
      rw [← EReal.coe_neg, show (((i 1).val * 1 + 0) * 4096 + (i 0).val) / 4096 = (i 1).val by omega, show (((i 1).val * 1 + 0) * 4096 + (i 0).val) % 4096 = (i 0).val by omega],
    sum_fin (g := fun c => back (logit A B L) M (pull C O) (i 1).val (i 0).val c) fun k => by
      rw [backs h0 h1 h2 h3 h4 hM _]
      show ((back (logit A B L) M (pull C O) ((((i 1).val * 4096 + (i 0).val) * 1 + 0) / 4096) ((((i 1).val * 4096 + (i 0).val) * 1 + 0) % 4096) k.val : ℝ) : EReal) = _
      rw [show (((i 1).val * 4096 + (i 0).val) * 1 + 0) / 4096 = (i 1).val by omega, show (((i 1).val * 4096 + (i 0).val) * 1 + 0) % 4096 = (i 0).val by omega],
    show val_main_cst_13 (F := Ideal) (Shape.Idx.first Gen.h_S_) = (0 : EReal) from Ideal.ofBits_zero_f32,
    show val_main_cst_14 (F := Ideal) (Shape.Idx.first Gen.h_S_) = (0 : EReal) from Ideal.ofBits_zero_f32,
    show val_main_cst_15 (F := Ideal) (Shape.Idx.first Gen.h_S_) = (0 : EReal) from Ideal.ofBits_zero_f32,
    show val_main_cst_16 (F := Ideal) (Shape.Idx.first Gen.h_S_) = (0 : EReal) from Ideal.ofBits_zero_f32, zero_add, zero_add, zero_add, zero_add]
  show _ + _ = _
  rw [← EReal.coe_add, Finset.sum_neg_distrib, neg_add_eq_sub]

end Cert.Reference3Ideal.Fox

end
-- ==== Proof.Fox.Host.lean ====
/- What the kernel's host code hands to the forgetting attention's gradient: its operands over real numbers. -/
module

public import proofs.«01_k».proof.Proof.Fox.Reference
public import proofs.«01_k».proof.Proof.Gen.Kernel3Ideal.Frame

@[expose] public section

set_option maxRecDepth 16384

noncomputable section

namespace Cert.Kernel3Ideal.Fox

open Idealize.ShloMosaic Idealize.ShloMosaic.Tactic Idealize.ShloMosaic.TcCoe Cert.Kernel3Ideal Cert.Kernel3Ideal.Gen Cert.Reals

/-- The logits the host's forward lines work on: the scaled products less what the columns have forgotten, masked. -/
def hostMasked (x0 x1 : FVec Ideal S4096x512 .f32) (x3 : FVec Ideal S4096x8 .f32) : FVec Ideal S8x4096x4096 .f32 :=
  select (Cert.Reference3Ideal.Read.val_main_v22_1 (F := Ideal)) (subf (F := Ideal) (φ := .f32) (Cert.Reference3Ideal.Read.val_main_v13 (F := Ideal) x0 x1)
    (Cert.Reference3Ideal.Read.val_main_v19 (F := Ideal) x3)) (Cert.Reference3Ideal.Read.val_main_call0_v2 (F := Ideal))

/-- Their rows' maxima. -/
def hostMax (x0 x1 : FVec Ideal S4096x512 .f32) (x3 : FVec Ideal S4096x8 .f32) : FVec Ideal S8x4096 .f32 :=
  Host.reduce (FloatOps.maximumf (F := Ideal) (φ := .f32)) (hostMasked x0 x1 x3) (constant (F := Ideal) S_ .f32 0xFF800000#32) reducesTo_S8x4096x4096_S8x4096_d2 h_S_

/-- The exponentials of the logits less their row's maximum. -/
def hostExp (x0 x1 : FVec Ideal S4096x512 .f32) (x3 : FVec Ideal S4096x8 .f32) : FVec Ideal S8x4096x4096 .f32 :=
  Host.exp (F := Ideal) (φ := .f32) (subf (F := Ideal) (φ := .f32) (hostMasked x0 x1 x3)
    (broadcastInDim S8x4096x4096 ![0, 1, 2] bcast_S8x4096x1_S8x4096x4096_0_1_2
      (broadcastInDim S8x4096x1 ![0, 1] bcast_S8x4096_S8x4096x1_0_1 (hostMax x0 x1 x3))))

/-- The rows' sums. -/
def hostSum (x0 x1 : FVec Ideal S4096x512 .f32) (x3 : FVec Ideal S4096x8 .f32) : FVec Ideal S8x4096 .f32 :=
  Host.reduceAdd (F := Ideal) (φ := .f32) (hostExp x0 x1 x3) (constant (F := Ideal) S_ .f32 0x00000000#32) reducesTo_S8x4096x4096_S8x4096_d2 h_S_

/-- The forward pass's output. -/
def hostOut (x0 x1 x2 : FVec Ideal S4096x512 .f32) (x3 : FVec Ideal S4096x8 .f32) :
    FVec Ideal S8x4096x64 .f32 :=
  Host.divf (F := Ideal) (φ := .f32) (Host.dotGeneral (F := Ideal) (φ₁ := .f32) (φ₂ := .f32) dot_S8x4096x4096_S8x4096x64_S8x4096x64_2_1_1_2_0_0 none (hostExp x0 x1 x3) (Cert.Reference3Ideal.Read.val_main_v52 (F := Ideal) x2))
    (broadcastInDim S8x4096x64 ![0, 1, 2] bcast_S8x4096x1_S8x4096x64_0_1_2 (broadcastInDim S8x4096x1 ![0, 1] bcast_S8x4096_S8x4096x1_0_1 (hostSum x0 x1 x3)))

/-- The logarithm of the rows' sums, in powers of two. -/
def hostLse (x0 x1 : FVec Ideal S4096x512 .f32) (x3 : FVec Ideal S4096x8 .f32) : FVec Ideal S8x4096x1 .f32 :=
  mulf (F := Ideal) (φ := .f32) (addf (F := Ideal) (φ := .f32) (broadcastInDim S8x4096x1 ![0, 1] bcast_S8x4096_S8x4096x1_0_1 (hostMax x0 x1 x3))
      (Host.log (F := Ideal) (φ := .f32) (broadcastInDim S8x4096x1 ![0, 1] bcast_S8x4096_S8x4096x1_0_1 (hostSum x0 x1 x3))))
    (broadcastInDim S8x4096x1 ![] bcast_S_S8x4096x1 (Host.divf (F := Ideal) (constant (F := Ideal) S_ .f32 0x3F800000#32) (Host.log (F := Ideal) (constant (F := Ideal) S_ .f32 0x40000000#32))))

/-- The rows' means of the weights' gradient. -/
def hostMean (x0 x1 x2 : FVec Ideal S4096x512 .f32) (x3 : FVec Ideal S4096x8 .f32) (x4 : FVec Ideal S4096x512 .f32) :
    FVec Ideal S8x4096x1 .f32 :=
  broadcastInDim S8x4096x1 ![0, 1] bcast_S8x4096_S8x4096x1_0_1
    (Host.reduceAdd (F := Ideal) (φ := .f32) (mulf (F := Ideal) (φ := .f32) (hostOut x0 x1 x2 x3) (Cert.Reference3Ideal.Read.val_main_v57 (F := Ideal) x4)) (constant (F := Ideal) S_ .f32 0x00000000#32) reducesTo_S8x4096x64_S8x4096_d2 h_S_)

/-- Both statistics of the pairs' rows, two lanes each. -/
def stats (a b : FVec Ideal S8x4096x1 .f32) : FVec Ideal S4x4096x128 .f32 :=
  pad S4x4096x128 ![0, 0, 0] ![0, 0, 124] ![0, 0, 0]
    (shapeCast S4x4096x4 (transpose S4x4096x2x2 [0, 2, 3, 1] (shapeCast S4x2x4096x2
      (concatenate S8x4096x2 2 [⟨S8x4096x1, a⟩, ⟨S8x4096x1, b⟩] concatenates_S8x4096x1_S8x4096x1_S8x4096x2_d2)
      shapeCasts_S8x4096x2_S4x2x4096x2) transposes_S4x2x4096x2_S4x4096x2x2_0_2_3_1) shapeCasts_S4x4096x2x2_S4x4096x4)
    (sitofp (F := Ideal) .f32 (constantI S_ 32 0#32)) pads_S4x4096x4_S4x4096x128_000_000_01240 h_S_

/-- The queries, keys and values beside each other. -/
def joined (x0 x1 x2 : FVec Ideal S4096x512 .f32) : FVec Ideal S4096x1536 .bf16 :=
  truncf (F := Ideal) .bf16 (concatenate S4096x1536 1 [⟨S4096x512, x0⟩, ⟨S4096x512, x1⟩, ⟨S4096x512, x2⟩]
    concatenates_S4096x512_S4096x512_S4096x512_S4096x1536_d1) bitsLt_bf16_f32

variable (m : (ℓ : Loc nD τ sig) → Buf (Elt Ideal) ℓ)

/-- Operations run one list after the other. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => rw [List.cons_append, StableHlo.after_cons, StableHlo.after_cons, ih]

/-- The buffers after the mask. -/
abbrev W1 (c : Dev nD) : Valuation τ sig (Elt Ideal) := StableHlo.after (hostOps0 ++ hostOps0_1) fun b => m (c, b)

theorem W1_keep (c : Dev nD) : W1 m c (Proc.devRef .tc main_v20) = hostMasked (m ((c : Thread nD τ).loc main_arg0)) (m ((c : Thread nD τ).loc main_arg1)) (m ((c : Thread nD τ).loc main_arg3)) := by
  simp only [W1, hostOps0, hostOps0_1, List.cons_append, List.nil_append, StableHlo.TRef.nullary, StableHlo.TRef.binary, StableHlo.TRef.ternary, StableHlo.TRef.unary, StableHlo.TRef.toBuf, StableHlo.TRef.ofBuf, cast_eq]
  after_results_simp <;> rfl

theorem W1_log (c : Dev nD) : W1 m c (Proc.devRef .tc main_v1) = Host.divf (F := Ideal) (constant (F := Ideal) S_ .f32 0x3F800000#32) (Host.log (F := Ideal) (constant (F := Ideal) S_ .f32 0x40000000#32)) := by
  simp only [W1, hostOps0, hostOps0_1, List.cons_append, List.nil_append, StableHlo.TRef.nullary, StableHlo.TRef.binary, StableHlo.TRef.ternary, StableHlo.TRef.unary, StableHlo.TRef.toBuf, StableHlo.TRef.ofBuf, cast_eq]
  after_results_simp <;> rfl

theorem W1_arg2 (c : Dev nD) : W1 m c (Proc.devRef .tc main_arg2) = m ((c : Thread nD τ).loc main_arg2) := by
  simp only [W1, hostOps0, hostOps0_1, List.cons_append, List.nil_append, StableHlo.TRef.nullary, StableHlo.TRef.binary, StableHlo.TRef.ternary, StableHlo.TRef.unary, StableHlo.TRef.toBuf, StableHlo.TRef.ofBuf, cast_eq]
  after_results_simp <;> rfl

theorem W1_arg4 (c : Dev nD) : W1 m c (Proc.devRef .tc main_arg4) = m ((c : Thread nD τ).loc main_arg4) := by
  simp only [W1, hostOps0, hostOps0_1, List.cons_append, List.nil_append, StableHlo.TRef.nullary, StableHlo.TRef.binary, StableHlo.TRef.ternary, StableHlo.TRef.unary, StableHlo.TRef.toBuf, StableHlo.TRef.ofBuf, cast_eq]
  after_results_simp <;> rfl

/-- The buffers before both statistics meet. -/
abbrev W2 (c : Dev nD) : Valuation τ sig (Elt Ideal) := StableHlo.after (hostOps0_2.take 24) (W1 m c)

theorem W2_lse (c : Dev nD) : W2 m c (Proc.devRef .tc main_v36) = hostLse (m ((c : Thread nD τ).loc main_arg0)) (m ((c : Thread nD τ).loc main_arg1)) (m ((c : Thread nD τ).loc main_arg3)) := by
  show StableHlo.after _ (W1 m c) _ = _
  have h16 := W1_keep m c
  have h1 := W1_log m c
  generalize W1 m c = W at *
  simp only [hostOps0_2, List.take_succ_cons, List.take_zero]
  after_results_simp
  rw [h16, h1]
  rfl

theorem W2_mean (c : Dev nD) : W2 m c (Proc.devRef .tc main_v41) = hostMean (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after _ (W1 m c) _ = _
  have h16 := W1_keep m c
  have hv := W1_arg2 m c
  have ho := W1_arg4 m c
  generalize W1 m c = W at *
  simp only [hostOps0_2, List.take_succ_cons, List.take_zero]
  after_results_simp
  rw [h16, hv, ho]
  rfl

/-- The statistics' operand. -/
theorem V_st (c : Dev nD) : V m c main_v46 = stats (hostLse (m ((c : Thread nD τ).loc main_arg0)) (m ((c : Thread nD τ).loc main_arg1)) (m ((c : Thread nD τ).loc main_arg3)))
    (hostMean (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after (List.flatten [hostOps0, hostOps0_1, hostOps0_2, hostOps0_3, hostOps0_4]) (fun b => m (c, b)) _ = _
  have e : (List.flatten [hostOps0, hostOps0_1, hostOps0_2, hostOps0_3, hostOps0_4] : List (HloOp τ sig (Elt Ideal)))
      = (hostOps0 ++ hostOps0_1) ++ (hostOps0_2.take 24 ++ (hostOps0_2.drop 24 ++ (hostOps0_3 ++ hostOps0_4))) := by
    rw [← List.append_assoc (hostOps0_2.take 24), List.take_append_drop]
    simp only [List.flatten_cons, List.flatten_nil, List.append_nil, List.append_assoc]
  rw [e, after_two, after_two]
  show StableHlo.after _ (W2 m c) _ = _
  rw [← W2_lse m c, ← W2_mean m c]
  generalize W2 m c = W
  simp only [hostOps0_2, hostOps0_3, hostOps0_4, List.cons_append, List.nil_append, List.drop_succ_cons, List.drop_zero, StableHlo.TRef.nullary, StableHlo.TRef.binary, StableHlo.TRef.ternary, StableHlo.TRef.unary, StableHlo.TRef.toBuf, StableHlo.TRef.ofBuf, cast_eq]
  after_results_simp
  rfl

/-- The operand of the queries, keys and values. -/
theorem V_qkv (c : Dev nD) : V m c main_v48 = joined (m ((c : Thread nD τ).loc main_arg0)) (m ((c : Thread nD τ).loc main_arg1)) (m ((c : Thread nD τ).loc main_arg2)) := by
  show StableHlo.after (List.flatten [hostOps0, hostOps0_1, hostOps0_2, hostOps0_3, hostOps0_4]) (fun b => m (c, b)) _ = _
  simp only [List.flatten_cons, List.flatten_nil, List.append_nil, hostOps0, hostOps0_1, hostOps0_2, hostOps0_3, hostOps0_4,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- The same, turned. -/
theorem V_qkvt (c : Dev nD) : V m c main_v51 = transpose S8x1536x512 [0, 2, 1] (shapeCast S8x512x1536 (joined (m ((c : Thread nD τ).loc main_arg0)) (m ((c : Thread nD τ).loc main_arg1)) (m ((c : Thread nD τ).loc main_arg2))) shapeCasts_S4096x1536_S8x512x1536) transposes_S8x512x1536_S8x1536x512_0_2_1 := by
  show StableHlo.after (List.flatten [hostOps0, hostOps0_1, hostOps0_2, hostOps0_3, hostOps0_4]) (fun b => m (c, b)) _ = _
  simp only [List.flatten_cons, List.flatten_nil, List.append_nil, hostOps0, hostOps0_1, hostOps0_2, hostOps0_3, hostOps0_4,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- The operand of the output's gradient. -/
theorem V_do (c : Dev nD) : V m c main_v49 = truncf (F := Ideal) .bf16 (m ((c : Thread nD τ).loc main_arg4)) bitsLt_bf16_f32 := by
  show StableHlo.after (List.flatten [hostOps0, hostOps0_1, hostOps0_2, hostOps0_3, hostOps0_4]) (fun b => m (c, b)) _ = _
  simp only [List.flatten_cons, List.flatten_nil, List.append_nil, hostOps0, hostOps0_1, hostOps0_2, hostOps0_3, hostOps0_4,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- The same, turned. -/
theorem V_dot (c : Dev nD) : V m c main_v53 = transpose S8x512x512 [0, 2, 1] (shapeCast S8x512x512 (truncf (F := Ideal) .bf16 (m ((c : Thread nD τ).loc main_arg4)) bitsLt_bf16_f32) shapeCasts_S4096x512_S8x512x512) transposes_S8x512x512_S8x512x512_0_2_1 := by
  show StableHlo.after (List.flatten [hostOps0, hostOps0_1, hostOps0_2, hostOps0_3, hostOps0_4]) (fun b => m (c, b)) _ = _
  simp only [List.flatten_cons, List.flatten_nil, List.append_nil, hostOps0, hostOps0_1, hostOps0_2, hostOps0_3, hostOps0_4,
    List.cons_append, List.nil_append, StableHlo.TRef.nullary, StableHlo.TRef.binary, StableHlo.TRef.ternary, StableHlo.TRef.unary, StableHlo.TRef.toBuf, StableHlo.TRef.ofBuf, cast_eq]
  after_results_simp <;> rfl

/-- The forget sums' operand. -/
theorem V_f (c : Dev nD) : V m c main_v55 = transpose S8x8x512 [0, 2, 1] (shapeCast S8x512x8 (m ((c : Thread nD τ).loc main_arg3)) shapeCasts_S4096x8_S8x512x8) transposes_S8x512x8_S8x8x512_0_2_1 := by
  show StableHlo.after (List.flatten [hostOps0, hostOps0_1, hostOps0_2, hostOps0_3, hostOps0_4]) (fun b => m (c, b)) _ = _
  simp only [List.flatten_cons, List.flatten_nil, List.append_nil, hostOps0, hostOps0_1, hostOps0_2, hostOps0_3, hostOps0_4,
    List.cons_append, List.nil_append, StableHlo.TRef.nullary, StableHlo.TRef.binary, StableHlo.TRef.ternary, StableHlo.TRef.unary, StableHlo.TRef.toBuf, StableHlo.TRef.ofBuf, cast_eq]
  after_results_simp <;> rfl

end Cert.Kernel3Ideal.Fox

end
-- ==== Proof.Fox.Operands.lean ====
/- The operands of the forgetting attention gradient's kernel over real numbers. -/
module

public import proofs.«01_k».proof.Proof.Fox.Host
public import Idealize.ShloMosaic.Lib.IdealHost

@[expose] public section

set_option maxRecDepth 16384

noncomputable section

namespace Cert.Kernel3Ideal.Fox

open Idealize.ShloMosaic Idealize.ShloMosaic.Tactic Idealize.ShloMosaic.TcCoe Cert.Kernel3Ideal Cert.Kernel3Ideal.Gen Cert.Reals
open Cert.Reference3Ideal.Fox (sg prod pull prods gone_cols mask heads_do heads_v)

theorem zero_word : (sitofp (F := Ideal) .f32 (constantI S_ 32 0#32)) (Shape.Idx.first h_S_) = (0 : EReal) := by
  show ((((0#32 : BitVec 32).toInt : ℝ)) : EReal) = 0
  simp

/-- The queries, keys and values beside each other over real numbers. -/
theorem joined_reads {x0 x1 x2 : FVec Ideal S4096x512 .f32} {A B C : ℕ → ℕ → ℝ} (h0 : Reads x0 A) (h1 : Reads x1 B) (h2 : Reads x2 C) :
    Reads (joined x0 x1 x2) fun r l => if l < 512 then A r l else if l < 1024 then B r (l - 512) else C r (l - 1024) := fun i => by
  have b0 : (i 0).val < 4096 := (i 0).isLt
  have b1 : (i 1).val < 1536 := (i 1).isLt
  unfold joined
  rw [ValueIdx.truncf_apply]
  beta_reduce
  by_cases l1 : (i 1).val < 512
  · rw [if_pos l1, concatenate_apply_piece (t := S4096x1536) 1 [⟨S4096x512, x0⟩, ⟨S4096x512, x1⟩, ⟨S4096x512, x2⟩] concatenates_S4096x512_S4096x512_S4096x512_S4096x1536_d1 i 0 (show 0 < 3 by decide) S4096x512 x0 rfl rfl 0 rfl
      (ValueIdx.ix2 ⟨(i 0).val, b0⟩ ⟨(i 1).val, l1⟩) (fun d => by
        match d with
        | ⟨0, _⟩ => exact fun _ => rfl
        | ⟨1, _⟩ => exact fun h => absurd rfl h) (Nat.zero_add _)]
    exact h0 _
  · rw [if_neg l1]
    by_cases l2 : (i 1).val < 1024
    · rw [if_pos l2, concatenate_apply_piece (t := S4096x1536) 1 [⟨S4096x512, x0⟩, ⟨S4096x512, x1⟩, ⟨S4096x512, x2⟩] concatenates_S4096x512_S4096x512_S4096x512_S4096x1536_d1 i 1 (show 1 < 3 by decide) S4096x512 x1 rfl rfl 512 rfl
        (ValueIdx.ix2 ⟨(i 0).val, b0⟩ ⟨(i 1).val - 512, by omega⟩) (fun d => by
          match d with
          | ⟨0, _⟩ => exact fun _ => rfl
          | ⟨1, _⟩ => exact fun h => absurd rfl h) (by show 512 + ((i 1).val - 512) = (i 1).val; omega)]
      exact h1 _
    · rw [if_neg l2, concatenate_apply_piece (t := S4096x1536) 1 [⟨S4096x512, x0⟩, ⟨S4096x512, x1⟩, ⟨S4096x512, x2⟩] concatenates_S4096x512_S4096x512_S4096x512_S4096x1536_d1 i 2 (show 2 < 3 by decide) S4096x512 x2 rfl rfl 1024 rfl
        (ValueIdx.ix2 ⟨(i 0).val, b0⟩ ⟨(i 1).val - 1024, by omega⟩) (fun d => by
          match d with
          | ⟨0, _⟩ => exact fun _ => rfl
          | ⟨1, _⟩ => exact fun h => absurd rfl h) (by show 1024 + ((i 1).val - 1024) = (i 1).val; omega)]
      exact h2 _

theorem column {a : FVec Ideal S8x4096 .f32} (i : S8x4096x1.Idx) (j : S8x4096.Idx) (h0 : (j 0).val = (i 0).val) (h1 : (j 1).val = (i 1).val) :
    broadcastInDim S8x4096x1 ![0, 1] bcast_S8x4096_S8x4096x1_0_1 a i = a j :=
  broadcastInDim_apply _ bcast_S8x4096_S8x4096x1_0_1 a i j fun d => by
    match d with
    | ⟨0, _⟩ => show (j 0).val = if (8 : ℕ) = 1 then 0 else (i 0).val; rw [if_neg (by decide)]; exact h0
    | ⟨1, _⟩ => show (j 1).val = if (4096 : ℕ) = 1 then 0 else (i 1).val; rw [if_neg (by decide)]; exact h1

/-- The host's product of the weights and the values, head by head. -/
theorem batch_dot (l : FVec Ideal S8x4096x4096 .f32) (x : FVec Ideal S8x4096x64 .f32) (i : S8x4096x64.Idx) :
    Host.dotGeneral (F := Ideal) (φ₁ := .f32) (φ₂ := .f32) dot_S8x4096x4096_S8x4096x64_S8x4096x64_2_1_1_2_0_0 none l x i
      = ∑ k : Fin 4096, l (ValueIdx.ix3 (i 0) (i 1) k) * x (ValueIdx.ix3 (i 0) k (i 2)) := by
  simp only [Host.dotGeneral]
  rw [Ideal.dotGeneral_apply, ← Equiv.sum_comp (ValueIdx.contrEquiv1 dot_S8x4096x4096_S8x4096x64_S8x4096x64_2_1_1_2_0_0 4096 rfl rfl).symm]
  refine Finset.sum_congr rfl fun k _ => ?_
  have hk := ValueIdx.contrEquiv1_symm_val dot_S8x4096x4096_S8x4096x64_S8x4096x64_2_1_1_2_0_0 4096 rfl rfl k
  refine congrArg₂ (fun a b => l a * x b) (funext fun a => Fin.ext ?_) (funext fun a => Fin.ext ?_)
  · match a with
    | ⟨0, _⟩ => exact Cert.Reference3Ideal.Read.lhs_main_v53_0 _ _
    | ⟨1, _⟩ => exact Cert.Reference3Ideal.Read.lhs_main_v53_1 _ _
    | ⟨2, _⟩ => exact (Cert.Reference3Ideal.Read.lhs_main_v53_2 _ _).trans hk
  · match a with
    | ⟨0, _⟩ => exact Cert.Reference3Ideal.Read.rhs_main_v53_0 _ _
    | ⟨1, _⟩ => exact (Cert.Reference3Ideal.Read.rhs_main_v53_1 _ _).trans hk
    | ⟨2, _⟩ => exact Cert.Reference3Ideal.Read.rhs_main_v53_2 _ _

/-- The logits less what is forgotten up to the row, which every column of a row has in common. -/
def shifted (A B L : ℕ → ℕ → ℝ) (h r c : ℕ) : ℝ := prod A B h r c - L c h

variable {x0 x1 x2 x4 : FVec Ideal S4096x512 .f32} {x3 : FVec Ideal S4096x8 .f32}
variable {A B C O L : ℕ → ℕ → ℝ} {M : ℕ → ℕ → ℝ}

theorem hostMasked_reads (h0 : Reads x0 A) (h1 : Reads x1 B) (h3 : Reads x3 L) (i : S8x4096x4096.Idx) :
    hostMasked x0 x1 x3 i = if (i 2).val ≤ (i 1).val then ((shifted A B L (i 0).val (i 1).val (i 2).val : ℝ) : EReal) else ⊥ := by
  have e : subf (F := Ideal) (φ := .f32) (Cert.Reference3Ideal.Read.val_main_v13 (F := Ideal) x0 x1) (Cert.Reference3Ideal.Read.val_main_v19 (F := Ideal) x3) i
      = ((shifted A B L (i 0).val (i 1).val (i 2).val : ℝ) : EReal) := by
    show Cert.Reference3Ideal.Read.val_main_v13 (F := Ideal) x0 x1 i - Cert.Reference3Ideal.Read.val_main_v19 (F := Ideal) x3 i = _
    rw [prods h0 h1 i, gone_cols h3 i, ← EReal.coe_sub]
    rfl
  unfold hostMasked
  rw [ValueIdx.select_apply, mask, e, Cert.Reference3Ideal.Read.val_main_call0_v2_apply, Cert.Reference3Ideal.Read.val_main_call0_v0_apply]
  split
  · rfl
  · show Ideal.ofBits .f32 0xFF800000#32 = _
    simp [Ideal.ofBits, Ideal.ieee]

/-- Each row has a real maximum. -/
theorem hostMax_reads (h0 : Reads x0 A) (h1 : Reads x1 B) (h3 : Reads x3 L) : ∃ M, Reads (hostMax x0 x1 x3) M :=
  exists_max (hostMasked_reads h0 h1 h3) _ (by decide) _

theorem hostExp_reads (h0 : Reads x0 A) (h1 : Reads x1 B) (h3 : Reads x3 L) (hM : Reads (hostMax x0 x1 x3) M) :
    Reads3 (hostExp x0 x1 x3) (expo (shifted A B L) M) := fun i => by
  let j : S8x4096.Idx := ValueIdx.ix2 (i 0) (i 1)
  let k : S8x4096x1.Idx := ValueIdx.ix3 (i 0) (i 1) 0
  have e : broadcastInDim S8x4096x4096 ![0, 1, 2] bcast_S8x4096x1_S8x4096x4096_0_1_2
      (broadcastInDim S8x4096x1 ![0, 1] bcast_S8x4096_S8x4096x1_0_1 (hostMax x0 x1 x3)) i = ((M (i 0).val (i 1).val : ℝ) : EReal) := by
    rw [broadcastInDim_apply _ bcast_S8x4096x1_S8x4096x4096_0_1_2 _ i k fun d => by
      match d with
      | ⟨0, _⟩ => show (i 0).val = if (8 : ℕ) = 1 then 0 else (i 0).val; rw [if_neg (by decide)]
      | ⟨1, _⟩ => show (i 1).val = if (4096 : ℕ) = 1 then 0 else (i 1).val; rw [if_neg (by decide)]
      | ⟨2, _⟩ => show (0 : ℕ) = if (1 : ℕ) = 1 then 0 else (i 2).val; rw [if_pos rfl], column k j rfl rfl]
    exact hM j
  show Ideal.exp (hostMasked x0 x1 x3 i - _) = _
  rw [e, hostMasked_reads h0 h1 h3 i]
  unfold expo
  split
  · rw [← EReal.coe_sub]; rfl
  · rw [EReal.bot_sub]; rfl

theorem hostSum_reads (h0 : Reads x0 A) (h1 : Reads x1 B) (h3 : Reads x3 L) (hM : Reads (hostMax x0 x1 x3) M) :
    Reads (hostSum x0 x1 x3) (mass (shifted A B L) M) := fun i => by
  unfold hostSum
  simp only [Host.reduceAdd, Ideal.hostReduceAdd_def]
  rw [Ideal.hostReduceAdd_single reducesTo_S8x4096x4096_S8x4096_d2 (by decide), sum_fin (g := fun k => expo (shifted A B L) M (i 0).val (i 1).val k) fun k => hostExp_reads h0 h1 h3 hM _,
    show constant (F := Ideal) S_ .f32 0x00000000#32 (Shape.Idx.first h_S_) = (0 : EReal) from Ideal.ofBits_zero_f32, zero_add]
  rfl

/-- A row's logarithm of the sum, in powers of two. -/
def lse (A B L : ℕ → ℕ → ℝ) (M : ℕ → ℕ → ℝ) (h r : ℕ) : ℝ := (M h r + Real.log (mass (shifted A B L) M h r)) * (1 / Real.log 2)

theorem log_two : Host.divf (F := Ideal) (constant (F := Ideal) S_ .f32 0x3F800000#32) (Host.log (F := Ideal) (constant (F := Ideal) S_ .f32 0x40000000#32)) (fun a => a.elim0)
    = ((1 / Real.log 2 : ℝ) : EReal) := by
  show Ideal.div (Ideal.ofBits .f32 0x3F800000#32) (Ideal.log (Ideal.ofBits .f32 0x40000000#32)) = _
  rw [show Ideal.ofBits .f32 0x40000000#32 = ((2 : ℝ) : EReal) by simp [Ideal.ofBits, Ideal.ieee, -EReal.coe_mul]; norm_num,
    show Ideal.log ((2 : ℝ) : EReal) = ((Real.log 2 : ℝ) : EReal) from if_neg (by norm_num), Ideal.ofBits_one_f32, ← EReal.coe_one,
    div_real (Real.log_pos one_lt_two).ne']

theorem hostLse_reads (h0 : Reads x0 A) (h1 : Reads x1 B) (h3 : Reads x3 L) (hM : Reads (hostMax x0 x1 x3) M) (i : S8x4096x1.Idx) :
    hostLse x0 x1 x3 i = ((lse A B L M (i 0).val (i 1).val : ℝ) : EReal) := by
  let j : S8x4096.Idx := ValueIdx.ix2 (i 0) (i 1)
  have hp : 0 < mass (shifted A B L) M (i 0).val (i 1).val := mass_pos _ _ (i 1).isLt
  unfold hostLse
  rw [ValueIdx.mulf_apply, ValueIdx.addf_apply, column i j rfl rfl, hM j, broadcastInDim_apply _ bcast_S_S8x4096x1 _ i (fun a => a.elim0) (fun a => a.elim0), log_two]
  have e : Host.log (F := Ideal) (φ := .f32) (broadcastInDim S8x4096x1 ![0, 1] bcast_S8x4096_S8x4096x1_0_1 (hostSum x0 x1 x3)) i
      = ((Real.log (mass (shifted A B L) M (i 0).val (i 1).val) : ℝ) : EReal) := by
    show Ideal.log (broadcastInDim S8x4096x1 ![0, 1] bcast_S8x4096_S8x4096x1_0_1 (hostSum x0 x1 x3) i) = _
    rw [column i j rfl rfl, hostSum_reads h0 h1 h3 hM j]
    exact if_neg (not_le.2 hp)
  rw [e]
  show (_ + _) * _ = _
  rw [← EReal.coe_add, ← EReal.coe_mul]
  rfl

theorem hostOut_reads (h0 : Reads x0 A) (h1 : Reads x1 B) (h2 : Reads x2 C) (h3 : Reads x3 L) (hM : Reads (hostMax x0 x1 x3) M) :
    Reads3 (hostOut x0 x1 x2 x3) fun h r e => (∑ c ∈ Finset.range 4096, expo (shifted A B L) M h r c * C c (64 * h + e)) / mass (shifted A B L) M h r := fun i => by
  let j : S8x4096.Idx := ValueIdx.ix2 (i 0) (i 1)
  let k : S8x4096x1.Idx := ValueIdx.ix3 (i 0) (i 1) 0
  have hp : mass (shifted A B L) M (i 0).val (i 1).val ≠ 0 := (mass_pos _ _ (i 1).isLt).ne'
  have e : broadcastInDim S8x4096x64 ![0, 1, 2] bcast_S8x4096x1_S8x4096x64_0_1_2 (broadcastInDim S8x4096x1 ![0, 1] bcast_S8x4096_S8x4096x1_0_1 (hostSum x0 x1 x3)) i
      = ((mass (shifted A B L) M (i 0).val (i 1).val : ℝ) : EReal) := by
    rw [broadcastInDim_apply _ bcast_S8x4096x1_S8x4096x64_0_1_2 _ i k fun d => by
      match d with
      | ⟨0, _⟩ => show (i 0).val = if (8 : ℕ) = 1 then 0 else (i 0).val; rw [if_neg (by decide)]
      | ⟨1, _⟩ => show (i 1).val = if (4096 : ℕ) = 1 then 0 else (i 1).val; rw [if_neg (by decide)]
      | ⟨2, _⟩ => show (0 : ℕ) = if (1 : ℕ) = 1 then 0 else (i 2).val; rw [if_pos rfl], column k j rfl rfl]
    exact hostSum_reads h0 h1 h3 hM j
  have d : Host.dotGeneral (F := Ideal) (φ₁ := .f32) (φ₂ := .f32) dot_S8x4096x4096_S8x4096x64_S8x4096x64_2_1_1_2_0_0 none (hostExp x0 x1 x3)
      (Cert.Reference3Ideal.Read.val_main_v52 (F := Ideal) x2) i
      = ((∑ c ∈ Finset.range 4096, expo (shifted A B L) M (i 0).val (i 1).val c * C c (64 * (i 0).val + (i 2).val) : ℝ) : EReal) := by
    rw [batch_dot]
    exact sum_fin fun k => by rw [hostExp_reads h0 h1 h3 hM _, heads_v h2 _, ← EReal.coe_mul]
  unfold hostOut
  rw [ValueIdx.hostDivf_apply, e, d]
  exact div_real hp

theorem hostMean_reads (h0 : Reads x0 A) (h1 : Reads x1 B) (h2 : Reads x2 C) (h3 : Reads x3 L) (h4 : Reads x4 O) (hM : Reads (hostMax x0 x1 x3) M) (i : S8x4096x1.Idx) :
    hostMean x0 x1 x2 x3 x4 i = ((mean (shifted A B L) M (pull C O) (i 0).val (i 1).val : ℝ) : EReal) := by
  let j : S8x4096.Idx := ValueIdx.ix2 (i 0) (i 1)
  unfold hostMean
  rw [column i j rfl rfl]
  simp only [Host.reduceAdd, Ideal.hostReduceAdd_def]
  rw [Ideal.hostReduceAdd_single reducesTo_S8x4096x64_S8x4096_d2 (by decide),
    sum_fin (g := fun e => (∑ c ∈ Finset.range 4096, expo (shifted A B L) M (i 0).val (i 1).val c * C c (64 * (i 0).val + e)) / mass (shifted A B L) M (i 0).val (i 1).val
      * O (i 1).val (64 * (i 0).val + e)) fun e => by
      rw [ValueIdx.mulf_apply, hostOut_reads h0 h1 h2 h3 hM _, heads_do h4 _]
      show _ * _ = _
      rw [← EReal.coe_mul]
      rfl,
    show constant (F := Ideal) S_ .f32 0x00000000#32 (Shape.Idx.first h_S_) = (0 : EReal) from Ideal.ofBits_zero_f32, zero_add]
  refine congrArg _ ?_
  unfold mean soft pull
  simp only [Finset.sum_div, Finset.sum_mul, Finset.mul_sum]
  rw [Finset.sum_comm]
  exact Finset.sum_congr rfl fun c _ => Finset.sum_congr rfl fun e _ => by ring

end Cert.Kernel3Ideal.Fox

end
-- ==== Proof.Real.Forget.lean ====
/- The pieces of an attention's gradient that forgetting adds: rows spread over columns, row and column sums, and picking a lane
   or a row by its number, over real numbers. -/
module

public import proofs.«01_k».proof.Proof.Real.Attention
public import Idealize.ShloMosaic.Lib.Pointwise.Reduce

@[expose] public section

set_option maxRecDepth 16384

noncomputable section

namespace Cert.Reals

open Idealize.ShloMosaic Idealize.ShloMosaic.Tactic

variable {m n : ℕ} {φ : FTy}

/-- One row spread over all rows. -/
theorem Reads.under {x : (⟨2, ![1, n]⟩ : Shape).Idx → EReal} {f : ℕ → ℕ → ℝ} (hx : Reads x f) (hn : n ≠ 1)
    (h : (⟨2, ![1, n]⟩ : Shape).Broadcasts ⟨2, ![m, n]⟩) : Reads (broadcastTo ⟨2, ![m, n]⟩ x h) fun _ c => f 0 c := fun i => by
  rw [broadcastTo_apply x h i (ValueIdx.ix2 0 (i 1)) (fun a => by
    match a with
    | ⟨0, _⟩ => rfl
    | ⟨1, _⟩ => exact (if_neg hn).symm)]
  exact hx _

/-- The sums down the columns, as a row. -/
theorem Reads.colSums {x : FVec Ideal ⟨2, ![m, n]⟩ .f32} {f : ℕ → ℕ → ℝ} (hx : Reads x f) (h : (⟨2, ![m, n]⟩ : Shape).Reduces [0] ⟨1, ![n]⟩)
    (h1 : FKind.Formats .f32) (h2 : (0x00000000#32 : BitVec 32) = FKind.add.neutral .f32 h1) (h3 : (⟨1, ![n]⟩ : Shape).ShapeCasts ⟨2, ![1, n]⟩) :
    Reads (shapeCast ⟨2, ![1, n]⟩ (multiReduction .add [0] ⟨1, ![n]⟩ x 0x00000000#32 h h1 h2) h3) fun _ c => ∑ r ∈ Finset.range m, f r c := fun i => by
  have i0 : (i 0).val = 0 := by have := (i 0).isLt; change (i 0).val < 1 at this; omega
  rw [shapeCast_apply _ h3 i (ValueIdx.ix1 (i 1)) (by
    rewrite [Shape.rowMajor_val_one, Shape.rowMajor_val_two]
    show (i 1).val = (i 0).val * n + (i 1).val
    rw [i0, Nat.zero_mul, Nat.zero_add])]
  refine (Ideal.multiReduction_add_single x _ h h1 h2 _).trans ?_
  show ∑ k : Fin m, x _ = _
  beta_reduce
  rw [Finset.sum_range, coe_sum]
  exact Finset.sum_congr rfl fun l _ => hx _

/-- The sums along the rows, as a column. -/
theorem Reads.rowSums {x : FVec Ideal ⟨2, ![m, n]⟩ .f32} {f : ℕ → ℕ → ℝ} (hx : Reads x f) (h : (⟨2, ![m, n]⟩ : Shape).Reduces [1] ⟨1, ![m]⟩)
    (h1 : FKind.Formats .f32) (h2 : (0x00000000#32 : BitVec 32) = FKind.add.neutral .f32 h1) (h3 : (⟨1, ![m]⟩ : Shape).ShapeCasts ⟨2, ![m, 1]⟩) :
    Reads (shapeCast ⟨2, ![m, 1]⟩ (multiReduction .add [1] ⟨1, ![m]⟩ x 0x00000000#32 h h1 h2) h3) fun r _ => ∑ c ∈ Finset.range n, f r c := fun i => by
  have i1 : (i 1).val = 0 := by have := (i 1).isLt; change (i 1).val < 1 at this; omega
  rw [shapeCast_apply _ h3 i (ValueIdx.ix1 (i 0)) (by
    rewrite [Shape.rowMajor_val_one, Shape.rowMajor_val_two]
    show (i 0).val = (i 0).val * 1 + (i 1).val
    rw [i1, Nat.mul_one, Nat.add_zero])]
  refine (Ideal.multiReduction_add_single x _ h h1 h2 _).trans ?_
  show ∑ k : Fin n, x _ = _
  beta_reduce
  rw [Finset.sum_range, coe_sum]
  exact Finset.sum_congr rfl fun l _ => hx _

/-- The lanes below `64` of one matrix, the others of another. -/
theorem Reads.halves {x y : FVec Ideal ⟨2, ![m, 128]⟩ φ} {f g : ℕ → ℕ → ℝ} (hx : Reads x f) (hy : Reads y g)
    (hi : (⟨2, ![1, 128]⟩ : Shape).Iotas .tc 32 [1]) (hs : (⟨2, ![1, 128]⟩ : Shape).ShapeCasts ⟨2, ![1, 128]⟩)
    (hb : (⟨2, ![1, 128]⟩ : Shape).Broadcasts ⟨2, ![m, 128]⟩) :
    Reads (select (broadcastTo ⟨2, ![m, 128]⟩ (shapeCast ⟨2, ![1, 128]⟩
      (cmpi .slt (iota .tc ⟨2, ![1, 128]⟩ 32 [1] hi) (broadcast ⟨2, ![1, 128]⟩ 64#32)) hs) hb) x y)
      fun r c => if c < 64 then f r c else g r c := fun i => by
  have h1 : (i 1).val < 128 := (i 1).isLt
  rw [shapeCast_self, ValueIdx.select_apply, broadcastTo_apply _ hb i (ValueIdx.ix2 (0 : Fin 1) (i 1)) (fun a => by
    match a with
    | ⟨0, _⟩ => rfl
    | ⟨1, _⟩ => rfl), hx i, hy i]
  show Scalar.select (IntOp.cmpi .slt (BitVec.ofNat 32 (0 * 128 + (i 1).val)) 64#32) _ _ = _
  beta_reduce
  by_cases h : (i 1).val < 64
  · rw [if_pos h, show IntOp.cmpi .slt (BitVec.ofNat 32 (0 * 128 + (i 1).val)) 64#32 = 1#1 by word_cmp]; rfl
  · rw [if_neg h, show IntOp.cmpi .slt (BitVec.ofNat 32 (0 * 128 + (i 1).val)) 64#32 = 0#1 by word_cmp]; rfl

/-- Lane `a` of one matrix, the others of another. -/
theorem Reads.lane {x y : FVec Ideal ⟨2, ![m, 128]⟩ φ} {f g : ℕ → ℕ → ℝ} (hx : Reads x f) (hy : Reads y g) {w : BitVec 32} {a : ℕ}
    (hw : w = BitVec.ofNat 32 a) (ha : a < 8)
    (hi : (⟨2, ![1, 128]⟩ : Shape).Iotas .tc 32 [1]) (hs : (⟨2, ![1, 128]⟩ : Shape).ShapeCasts ⟨2, ![1, 128]⟩)
    (hb : (⟨2, ![1, 128]⟩ : Shape).Broadcasts ⟨2, ![m, 128]⟩) :
    Reads (select (broadcastTo ⟨2, ![m, 128]⟩ (shapeCast ⟨2, ![1, 128]⟩
      (cmpi .eq (iota .tc ⟨2, ![1, 128]⟩ 32 [1] hi) (broadcast ⟨2, ![1, 128]⟩ w)) hs) hb) x y)
      fun r c => if c = a then f r c else g r c := fun i => by
  have h1 : (i 1).val < 128 := (i 1).isLt
  rw [hw, shapeCast_self, ValueIdx.select_apply, broadcastTo_apply _ hb i (ValueIdx.ix2 (0 : Fin 1) (i 1)) (fun a => by
    match a with
    | ⟨0, _⟩ => rfl
    | ⟨1, _⟩ => rfl), hx i, hy i]
  show Scalar.select (IntOp.cmpi .eq (BitVec.ofNat 32 (0 * 128 + (i 1).val)) (BitVec.ofNat 32 a)) _ _ = _
  beta_reduce
  by_cases h : (i 1).val = a
  · rw [if_pos h, show IntOp.cmpi .eq (BitVec.ofNat 32 (0 * 128 + (i 1).val)) (BitVec.ofNat 32 a) = 1#1 by word_cmp]; rfl
  · rw [if_neg h, show IntOp.cmpi .eq (BitVec.ofNat 32 (0 * 128 + (i 1).val)) (BitVec.ofNat 32 a) = 0#1 by word_cmp]; rfl

/-- Row `a` of one matrix, the others of another. -/
theorem Reads.row {M : ℕ} {x y : FVec Ideal ⟨2, ![M, n]⟩ φ} {f g : ℕ → ℕ → ℝ} (hx : Reads x f) (hy : Reads y g) {w : BitVec 32} {a : ℕ}
    (hw : w = BitVec.ofNat 32 a) (ha : a < 8) (hM : M ≤ 128) (hM1 : M ≠ 1)
    (hi : (⟨2, ![M, 1]⟩ : Shape).Iotas .tc 32 [0]) (hs : (⟨2, ![M, 1]⟩ : Shape).ShapeCasts ⟨2, ![M, 1]⟩)
    (hb : (⟨2, ![M, 1]⟩ : Shape).Broadcasts ⟨2, ![M, n]⟩) :
    Reads (select (broadcastTo ⟨2, ![M, n]⟩ (shapeCast ⟨2, ![M, 1]⟩
      (cmpi .eq (iota .tc ⟨2, ![M, 1]⟩ 32 [0] hi) (broadcast ⟨2, ![M, 1]⟩ w)) hs) hb) x y)
      fun r c => if r = a then f r c else g r c := fun i => by
  have h1 : (i 0).val < M := (i 0).isLt
  rw [hw, shapeCast_self, ValueIdx.select_apply, broadcastTo_apply _ hb i (ValueIdx.ix2 (i 0) (0 : Fin 1)) (fun a => by
    match a with
    | ⟨0, _⟩ => exact (if_neg hM1).symm
    | ⟨1, _⟩ => rfl), hx i, hy i]
  show Scalar.select (IntOp.cmpi .eq (BitVec.ofNat 32 (0 * M + (i 0).val)) (BitVec.ofNat 32 a)) _ _ = _
  beta_reduce
  rw [Nat.zero_mul, Nat.zero_add]
  by_cases h : (i 0).val = a
  · rw [if_pos h, show IntOp.cmpi .eq (BitVec.ofNat 32 (i 0).val) (BitVec.ofNat 32 a) = 1#1 by word_cmp]; rfl
  · rw [if_neg h, show IntOp.cmpi .eq (BitVec.ofNat 32 (i 0).val) (BitVec.ofNat 32 a) = 0#1 by word_cmp]; rfl

/-- Of a sum over the rows with all but row `a` cleared, that row is left. -/
theorem pick_sum (f : ℕ → ℝ) (M a : ℕ) (ha : a < M) : ∑ r ∈ Finset.range M, (if r = a then f r else 0) = f a := by
  rw [Finset.sum_ite_eq' (Finset.range M) a f, if_pos (Finset.mem_range.mpr ha)]

end Cert.Reals

end
-- ==== Proof.Fox.Block.lean ====
/- The forgetting attention's gradient's blocks over real numbers: what each kind of row block adds. -/
module

public import proofs.«01_k».proof.Proof.Fox.Step
public import proofs.«01_k».proof.Proof.Real.Forget

@[expose] public section

set_option maxRecDepth 16384

noncomputable section

namespace Cert.Kernel3Ideal.Fox

open Idealize.ShloMosaic Cert.Kernel3Ideal.Gen Cert.Reals

/-- The scale in powers of two. -/
def s2 : ℝ := 1 / 8 * (Real.log 2)⁻¹

theorem word_eighth : (Scalar.ofBits .f32 0x3E000000#32 : Ideal .f32) = ((1 / 8 : ℝ) : EReal) := by
  show Ideal.ofBits .f32 0x3E000000#32 = _
  simp [Ideal.ofBits, Ideal.ieee, -EReal.coe_mul]
  norm_num

theorem word_zero16 : Ideal.ofBits .bf16 0x0000#16 = 0 := by
  simp [Ideal.ofBits, Ideal.ieee]

theorem named_s2 : (Named.named κ "s2" 0x3E38AA3B#32 : Ideal .f32) = ((s2 : ℝ) : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

theorem named_ln2 : (Named.named κ "ln2" 0x3F317218#32 : Ideal .f32) = ((Real.log 2 : ℝ) : EReal) :=
  IdealRules.named_const.ideal_named_scalar _ _ _ _ rfl

theorem word_twice : ∀ a < 4, Scalar.muli 2#32 (BitVec.ofNat 32 a) = BitVec.ofNat 32 (2 * a) := by decide +kernel
theorem word_even : ∀ a < 4, Scalar.addi (Scalar.muli 2#32 (BitVec.ofNat 32 a)) 0#32 = BitVec.ofNat 32 (2 * a) := by decide +kernel
theorem word_odd : ∀ a < 4, Scalar.addi (Scalar.muli 2#32 (BitVec.ofNat 32 a)) 1#32 = BitVec.ofNat 32 (2 * a + 1) := by decide +kernel

/-- The weights of head `n` of the pair, from the queries `q`, the keys `k`, the columns' forget sums `b` and the statistics `s`. -/
def wt (q k b s : ℕ → ℕ → ℝ) (n r c : ℕ) : ℝ :=
  (2 : ℝ) ^ ((∑ l ∈ Finset.range 64, q r (64 * n + l) * s2 * k c (64 * n + l)) - b n c - s r n)

/-- The same on the diagonal. -/
def wtLow (q k b s : ℕ → ℕ → ℝ) (n r c : ℕ) : ℝ := if c ≤ r then wt q k b s n r c else 0

/-- The gradient of the logits. -/
def gr (p : ℕ → ℕ → ℕ → ℝ) (o v s : ℕ → ℕ → ℝ) (n r c : ℕ) : ℝ :=
  p n r c * ((∑ l ∈ Finset.range 64, o r (64 * n + l) * v c (64 * n + l)) - s r (2 + n))

/-- The accumulators hold the keys' gradient `fk`, the values' `fv` and the columns' part of the forget sums' `fc` of the pair's
    heads. -/
def Holds (a : Carry Ideal) (fk fv : ℕ → ℕ → ℕ → ℝ) (fc : ℕ → ℕ → ℝ) : Prop :=
  Reads a.1 (fk 0) ∧ Reads a.2.1 (fv 0) ∧ Reads a.2.2.1 (fun _ c => fc 0 c)
    ∧ Reads a.2.2.2.1 (fk 1) ∧ Reads a.2.2.2.2.1 (fv 1) ∧ Reads a.2.2.2.2.2 (fun _ c => fc 1 c)

/-- What `R` rows with weights `p` add, for the pair of heads number `u`. -/
def Adds (u R : ℕ) (p : ℕ → ℕ → ℕ → ℝ) (qt ot o v s k : ℕ → ℕ → ℝ) (fk fv : ℕ → ℕ → ℕ → ℝ) (fc fd fe : ℕ → ℕ → ℝ)
    (r : Carry Ideal × Vec Ideal ⟨2, ![R, 128]⟩ .f32 × Vec Ideal ⟨2, ![R, 128]⟩ .f32) : Prop :=
  Holds r.1 (fun n d c => fk n d c + ∑ i ∈ Finset.range R, qt (64 * n + d) i * s2 * gr p o v s n i c)
      (fun n e c => fv n e c + ∑ i ∈ Finset.range R, ot (64 * n + e) i * p n i c)
      (fun n c => fc n c - ∑ i ∈ Finset.range R, gr p o v s n i c)
    ∧ Reads r.2.1 (fun i l => fd i l + (∑ c ∈ Finset.range 512, gr p o v s (l / 64) i c * k c l) * (1 / 8))
    ∧ Reads r.2.2 (fun i l => fe i l + if l = 2 * u then ∑ c ∈ Finset.range 512, gr p o v s 0 i c
        else if l = 2 * u + 1 then ∑ c ∈ Finset.range 512, gr p o v s 1 i c else 0)

theorem low_sum (f g : ℕ → ℝ) : ∑ l ∈ Finset.range 128, (if l < 64 then f l else 0) * g l = ∑ l ∈ Finset.range 64, f (64 * 0 + l) * g (64 * 0 + l) := by
  rw [show (128 : ℕ) = 64 + 64 from rfl, Finset.sum_range_add, Finset.sum_eq_zero (s := Finset.range 64) (f := fun x => (if 64 + x < 64 then f (64 + x) else 0) * g (64 + x))
    (fun l _ => by rw [if_neg (by omega), zero_mul]), add_zero]
  exact Finset.sum_congr rfl fun l hl => by rw [if_pos (Finset.mem_range.mp hl), Nat.mul_zero, Nat.zero_add]

theorem high_sum (f g : ℕ → ℝ) : ∑ l ∈ Finset.range 128, (if 64 ≤ l then f l else 0) * g l = ∑ l ∈ Finset.range 64, f (64 * 1 + l) * g (64 * 1 + l) := by
  rw [show (128 : ℕ) = 64 + 64 from rfl, Finset.sum_range_add, Finset.sum_eq_zero (s := Finset.range 64) (f := fun x => (if 64 ≤ x then f x else 0) * g x)
    (fun l hl => by rw [if_neg (by have := Finset.mem_range.mp hl; omega), zero_mul]), zero_add]
  exact Finset.sum_congr rfl fun l hl => by rw [if_pos (by omega), Nat.mul_one]

section General

variable {m w b : ℕ} {p0 p1 : FVec Ideal ⟨2, ![m, 512]⟩ .f32} {q : FVec Ideal ⟨2, ![m, 128]⟩ .bf16} {k : FVec Ideal ⟨2, ![512, 128]⟩ .bf16}
  {c : FVec Ideal ⟨2, ![1, 512]⟩ .f32} {s : FVec Ideal ⟨2, ![m, w]⟩ .f32} {fq fk fc fs f0 f1 fd : ℕ → ℕ → ℝ}

/-- The logits less the columns' forget sums. -/
theorem logit (hq : Reads q fq) (hk : Reads k fk) (hc : Reads c fc) (h : (⟨2, ![1, 512]⟩ : Shape).Broadcasts ⟨2, ![m, 512]⟩) :
    Reads (subf (matmul (DotDims.transposedRhs m 128 512) none q k (constant ⟨2, ![m, 512]⟩ .f32 0x00000000#32)) (broadcastTo ⟨2, ![m, 512]⟩ c h))
      fun r l => (∑ i ∈ Finset.range 128, fq r i * fk l i) - fc 0 l :=
  (hq.dotT hk rfl).sub (hc.under (by decide) h)

/-- The queries' gradient of a pair of heads, each in its lanes, scaled, onto what was there. -/
theorem query_rows {d : FVec Ideal ⟨2, ![m, 128]⟩ .f32} {g0 g1 : FVec Ideal ⟨2, ![m, 512]⟩ .bf16} (hd : Reads d fd) (h0 : Reads g0 f0)
    (h1 : Reads g1 f1) (hk : Reads k fk) (hc : (⟨2, ![m, 128]⟩ : Shape).ShapeCasts ⟨2, ![m, 128]⟩)
    (hi : (⟨2, ![1, 128]⟩ : Shape).Iotas .tc 32 [1]) (hs : (⟨2, ![1, 128]⟩ : Shape).ShapeCasts ⟨2, ![1, 128]⟩)
    (hb : (⟨2, ![1, 128]⟩ : Shape).Broadcasts ⟨2, ![m, 128]⟩) :
    Reads (addf (shapeCast ⟨2, ![m, 128]⟩ d hc) (mulf (select (broadcastTo ⟨2, ![m, 128]⟩ (shapeCast ⟨2, ![1, 128]⟩
      (cmpi .slt (iota .tc ⟨2, ![1, 128]⟩ 32 [1] hi) (broadcast ⟨2, ![1, 128]⟩ 64#32)) hs) hb)
      (matmul (DotDims.plain m 512 128) none g0 k (constant ⟨2, ![m, 128]⟩ .f32 0x00000000#32))
      (matmul (DotDims.plain m 512 128) none g1 k (constant ⟨2, ![m, 128]⟩ .f32 0x00000000#32)))
      (broadcast ⟨2, ![m, 128]⟩ (Scalar.ofBits .f32 0x3E000000#32))))
      fun r l => fd r l + (if l < 64 then ∑ i ∈ Finset.range 512, f0 r i * fk i l else ∑ i ∈ Finset.range 512, f1 r i * fk i l) * (1 / 8) :=
  (hd.same hc).add (((h0.dot hk rfl).halves (h1.dot hk rfl) hi hs hb).scale word_eighth)

/-- The rows' part of the forget sums' gradient, each head in its lane, onto what was there. -/
theorem forget_rows {e : FVec Ideal ⟨2, ![m, 128]⟩ .f32} {r0 r1 : FVec Ideal ⟨2, ![m, 1]⟩ .f32} {u : ℕ} (hu : u < 4) (hm : m ≠ 1) (he : Reads e fd)
    (h0 : Reads r0 f0) (h1 : Reads r1 f1) (hc : (⟨2, ![m, 128]⟩ : Shape).ShapeCasts ⟨2, ![m, 128]⟩) (hr : (⟨2, ![m, 1]⟩ : Shape).ShapeCasts ⟨2, ![m, 1]⟩)
    (hv : (⟨2, ![m, 1]⟩ : Shape).Broadcasts ⟨2, ![m, 128]⟩)
    (hi : (⟨2, ![1, 128]⟩ : Shape).Iotas .tc 32 [1]) (hs : (⟨2, ![1, 128]⟩ : Shape).ShapeCasts ⟨2, ![1, 128]⟩)
    (hb : (⟨2, ![1, 128]⟩ : Shape).Broadcasts ⟨2, ![m, 128]⟩) :
    Reads (addf (shapeCast ⟨2, ![m, 128]⟩ e hc) (select (broadcastTo ⟨2, ![m, 128]⟩ (shapeCast ⟨2, ![1, 128]⟩
      (cmpi .eq (iota .tc ⟨2, ![1, 128]⟩ 32 [1] hi) (broadcast ⟨2, ![1, 128]⟩ (Scalar.muli 2#32 (BitVec.ofNat 32 u)))) hs) hb)
      (broadcastTo ⟨2, ![m, 128]⟩ (shapeCast ⟨2, ![m, 1]⟩ r0 hr) hv)
      (select (broadcastTo ⟨2, ![m, 128]⟩ (shapeCast ⟨2, ![1, 128]⟩
      (cmpi .eq (iota .tc ⟨2, ![1, 128]⟩ 32 [1] hi) (broadcast ⟨2, ![1, 128]⟩ (Scalar.addi (Scalar.muli 2#32 (BitVec.ofNat 32 u)) 1#32))) hs) hb)
      (broadcastTo ⟨2, ![m, 128]⟩ (shapeCast ⟨2, ![m, 1]⟩ r1 hr) hv)
      (broadcast ⟨2, ![m, 128]⟩ (Scalar.ofBits .f32 0x00000000#32)))))
      fun r l => fd r l + (if l = 2 * u then f0 r 0 else if l = 2 * u + 1 then f1 r 0 else 0) :=
  (he.same hc).add (((h0.same hr).spread hm hv).lane (φ := .f32) (((h1.same hr).spread hm hv).lane Reads.zero (word_odd u hu) (by omega) hi hs hb)
    (word_twice u hu) (by omega) hi hs hb)

end General

variable {i : grid0.Coords} {x : Ins Ideal} {k v b : ℕ → ℕ → ℝ} (hu : (i 0).val < 4) (hk : Reads x.k k) (hv : Reads x.v v)
  (hb0 : Reads (bias0 i x) fun _ c => b 0 c) (hb1 : Reads (bias1 i x) fun _ c => b 1 c)

/-- A product with one number everywhere, the number first. -/
theorem scale_left {m n : ℕ} {φ : FTy} {x : FVec Ideal ⟨2, ![m, n]⟩ φ} {f : ℕ → ℕ → ℝ} (hx : Reads x f) {s : Ideal φ} {a : ℝ} (hs : s = ((a : ℝ) : EReal)) :
    Reads (mulf (broadcast ⟨2, ![m, n]⟩ s) x) fun r c => a * f r c := fun i => by
  show s * x i = _
  rw [hx i, hs, EReal.coe_mul]

include hu in
/-- The forget sums of the point's columns, for the pair's first head, -/
theorem bias0_reads {f : ℕ → ℕ → ℕ → ℝ} (hf : Reads3 x.f f) : Reads (bias0 i x) fun _ c => (Real.log 2)⁻¹ * f 0 (2 * (i 0).val) c :=
  (scale_left (((hf.drop _).row Reads.zero (word_even _ hu) (by omega) (by decide) (by decide) _ _ _).colSums _ _ _ _) named_log2e).congr fun r c _ _ => by
    rw [pick_sum (fun r => f 0 r c) 8 _ (by omega)]

include hu in
/-- and for its second. -/
theorem bias1_reads {f : ℕ → ℕ → ℕ → ℝ} (hf : Reads3 x.f f) : Reads (bias1 i x) fun _ c => (Real.log 2)⁻¹ * f 0 (2 * (i 0).val + 1) c :=
  (scale_left (((hf.drop _).row Reads.zero (word_odd _ hu) (by omega) (by decide) (by decide) _ _ _).colSums _ _ _ _) named_log2e).congr fun r c _ _ => by
    rw [pick_sum (fun r => f 0 r c) 8 _ (by omega)]

include hk in
theorem keys_reads : Reads (keys x) k := hk.same _
include hv in
theorem vals_reads : Reads (vals x) v := hv.same _

/-- The number of the head by its lane. -/
theorem by_lane (P : ℕ → ℝ) (l : ℕ) (hl : l < 128) : (if l < 64 then P 0 else P 1) = P (l / 64) := by
  split
  · rw [Nat.div_eq_of_lt (by assumption)]
  · rw [show l / 64 = 1 by omega]

section One

variable {q : Vec Ideal S512x128 .bf16} {qt : Vec Ideal S1x128x512 .bf16} {o : Vec Ideal S512x128 .bf16} {ot : Vec Ideal S1x128x512 .bf16}
  {st : Vec Ideal S1x512x128 .f32} {fq fo : ℕ → ℕ → ℝ} {ft fot fs : ℕ → ℕ → ℕ → ℝ}
  (hq : Reads q fq) (ht : Reads3 qt ft) (ho : Reads o fo) (hot : Reads3 ot fot) (hs : Reads3 st fs)

include hq in
theorem one_q0 : Reads (k0_pay4 q) fun r l => if l < 64 then fq r l * s2 else 0 := ((hq.same _).scale named_s2).low (fun _ => word_zero16) _ _ _
include hq in
theorem one_q1 : Reads (k0_pay5 q) fun r l => if 64 ≤ l then fq r l * s2 else 0 := ((hq.same _).scale named_s2).high (fun _ => word_zero16) _ _ _
include ht in
theorem one_qt : Reads (k0_pay6 qt) fun r l => ft 0 r l * s2 := (ht.drop _).scale named_s2
include ho in
theorem one_o0 : Reads (k0_pay9 o) fun r l => if l < 64 then fo r l else 0 := (ho.same _).low (fun _ => Ideal.ofBits_zero_f32) _ _ _
include ho in
theorem one_o1 : Reads (m := 512) (n := 128) (select (broadcastTo S512x128 k0_pay10 broadcasts_S1x128_S512x128) (k0_pay7 (F := Ideal) o) (k0_pay8 (F := Ideal))) fun r l => if 64 ≤ l then fo r l else 0 :=
  (ho.same _).high (fun _ => Ideal.ofBits_zero_f32) _ _ _
include hot in
theorem one_ot : Reads (k0_pay11 ot) (fot 0) := hot.drop _
include hs in
theorem one_st : Reads (k0_pay12 st) (fs 0) := hs.drop _

include hk hb0 hq hs in
theorem one_p0 : Reads (k0_pay13 (keys x) (bias0 i x) (k0_pay4 q) st) (wt fq k b (fs 0) 0) :=
  ((logit (one_q0 hq) (keys_reads hk) hb0 _).sub ((one_st hs).column (by decide) _ _)).exp2.congr fun r c _ _ => by
    unfold wt; rw [low_sum (fun l => fq r l * s2)]
include hk hb1 hq hs in
theorem one_p1 : Reads (k0_pay21 (keys x) (bias1 i x) (k0_pay5 q) st) (wt fq k b (fs 0) 1) :=
  ((logit (one_q1 hq) (keys_reads hk) hb1 _).sub ((one_st hs).column (by decide) _ _)).exp2.congr fun r c _ _ => by
    unfold wt; rw [high_sum (fun l => fq r l * s2)]
include hk hv hb0 hq hs ho in
theorem one_g0 : Reads (k0_pay14 (keys x) (vals x) (bias0 i x) (k0_pay4 q) (k0_pay9 o) st) (gr (wt fq k b (fs 0)) fo v (fs 0) 0) :=
  (grad (one_p0 hk hb0 hq hs) (one_o0 ho) (vals_reads hv) (one_st hs) (by decide) _ _).congr fun r c _ _ => by
    unfold gr; rw [low_sum]
include hk hv hb1 hq hs ho in
theorem one_g1 : Reads (k0_pay24 (k0_pay21 (keys x) (bias1 i x) (k0_pay5 q) st) (k0_pay22 (vals x) (k0_pay7 o) k0_pay8 k0_pay10) (k0_pay23 st))
    (gr (wt fq k b (fs 0)) fo v (fs 0) 1) :=
  (grad (one_p1 hk hb1 hq hs) (one_o1 ho) (vals_reads hv) (one_st hs) (by decide) slices_S512x128_o0_3_S512x1 _).congr fun r c _ _ => by
    unfold gr; rw [high_sum]

include hu hk hv hb0 hb1 hq ht ho hot hs in
/-- A block of 512 rows below the diagonal. -/
theorem oneOf_adds {a : Carry Ideal} {d e : Vec Ideal S512x128 .f32} {fk fv : ℕ → ℕ → ℕ → ℝ} {fc fd fe : ℕ → ℕ → ℝ} (ha : Holds a fk fv fc)
    (hd : Reads d fd) (he : Reads e fe) :
    Adds (i 0).val 512 (wt fq k b (fs 0)) (ft 0) (fot 0) fo v (fs 0) k fk fv fc fd fe (oneOf i x q qt o ot st a d e) :=
  ⟨⟨(accum ha.1 (one_qt ht) (one_g0 hk hv hb0 hq ho hs) _).congr fun r c _ _ => by simp only [Nat.mul_zero],
    (accum ha.2.1 (one_ot hot) (one_p0 hk hb0 hq hs) _).congr fun r c _ _ => by simp only [Nat.mul_zero],
    ha.2.2.1.sub ((one_g0 hk hv hb0 hq ho hs).colSums _ _ _ _),
    (accum ha.2.2.2.1 (one_qt ht) (one_g1 hk hv hb1 hq ho hs) _).congr fun r c _ _ => by simp only [Nat.mul_one],
    (accum ha.2.2.2.2.1 (one_ot hot) (one_p1 hk hb1 hq hs) _).congr fun r c _ _ => by simp only [Nat.mul_one],
    ha.2.2.2.2.2.sub ((one_g1 hk hv hb1 hq ho hs).colSums _ _ _ _)⟩,
   (query_rows hd (one_g0 hk hv hb0 hq ho hs) (one_g1 hk hv hb1 hq ho hs) (keys_reads hk) _ _ _ _).congr fun r l _ hl => by
    rw [← by_lane (fun n => ∑ c ∈ Finset.range 512, gr (wt fq k b (fs 0)) fo v (fs 0) n r c * k c l) l hl],
   forget_rows hu (by decide) he ((one_g0 hk hv hb0 hq ho hs).rowSums _ _ _ _) ((one_g1 hk hv hb1 hq ho hs).rowSums _ _ _ _) _ _ _ _ _ _⟩

end One

section Diag

variable {q : Vec Ideal S512x128 .bf16} {qt : Vec Ideal S1x128x512 .bf16} {o : Vec Ideal S512x128 .bf16} {ot : Vec Ideal S1x128x512 .bf16}
  {st : Vec Ideal S1x512x128 .f32} {fq fo : ℕ → ℕ → ℝ} {ft fot fs : ℕ → ℕ → ℕ → ℝ}
  (hq : Reads q fq) (ht : Reads3 qt ft) (ho : Reads o fo) (hot : Reads3 ot fot) (hs : Reads3 st fs)

include ho in
theorem diag_o1 : Reads (k0_pay139 o) fun r l => if 64 ≤ l then fo r l else 0 := (ho.same _).high (fun _ => Ideal.ofBits_zero_f32) _ _ _

include hk hb0 hq hs in
theorem diag_p0 : Reads (k0_pay142 (keys x) (bias0 i x) (k0_pay133 q) st) (wtLow fq k b (fs 0) 0) :=
  (Reads.lower (logit (one_q0 hq) (keys_reads hk) hb0 _) ((one_st hs).column (by decide) _ _) _ _).congr fun r c _ _ => by
    unfold wtLow wt; rw [low_sum (fun l => fq r l * s2)]
include hk hb1 hq hs in
theorem diag_p1 : Reads (k0_pay151 (keys x) (bias1 i x) (k0_pay134 q) (k0_pay141 st)) (wtLow fq k b (fs 0) 1) :=
  (Reads.lower (logit (one_q1 hq) (keys_reads hk) hb1 _) ((one_st hs).column (by decide) _ _) _ _).congr fun r c _ _ => by
    unfold wtLow wt; rw [high_sum (fun l => fq r l * s2)]
include hk hv hb0 hq hs ho in
theorem diag_g0 : Reads (k0_pay143 (keys x) (vals x) (bias0 i x) (k0_pay133 q) o st) (gr (wtLow fq k b (fs 0)) fo v (fs 0) 0) :=
  (grad (diag_p0 hk hb0 hq hs) (one_o0 ho) (vals_reads hv) (one_st hs) (by decide) _ _).congr fun r c _ _ => by
    unfold gr; rw [low_sum]
include hk hv hb1 hq hs ho in
theorem diag_g1 : Reads (k0_pay152 (keys x) (vals x) (bias1 i x) (k0_pay134 q) (k0_pay139 o) (k0_pay141 st)) (gr (wtLow fq k b (fs 0)) fo v (fs 0) 1) :=
  (grad (diag_p1 hk hb1 hq hs) (diag_o1 ho) (vals_reads hv) (one_st hs) (by decide) _ _).congr fun r c _ _ => by
    unfold gr; rw [high_sum]

include hu hk hv hb0 hb1 hq ht ho hot hs in
/-- The block of 512 rows on the diagonal; the accumulators start from zero. -/
theorem diagOf_adds {d e : Vec Ideal S512x128 .f32} {fd fe : ℕ → ℕ → ℝ} (hd : Reads d fd) (he : Reads e fe) :
    Adds (i 0).val 512 (wtLow fq k b (fs 0)) (ft 0) (fot 0) fo v (fs 0) k (fun _ _ _ => 0) (fun _ _ _ => 0) (fun _ _ => 0) fd fe
      (diagOf i x q qt o ot st d e) :=
  ⟨⟨(accum Reads.zero (one_qt ht) (diag_g0 hk hv hb0 hq ho hs) _).congr fun r c _ _ => by simp only [Nat.mul_zero],
    (accum Reads.zero (one_ot hot) (diag_p0 hk hb0 hq hs) slices_S128x512_o0_0_S64x512).congr fun r c _ _ => by simp only [Nat.mul_zero],
    Reads.zero.sub ((diag_g0 hk hv hb0 hq ho hs).colSums _ _ _ _),
    (accum Reads.zero (one_qt ht) (diag_g1 hk hv hb1 hq ho hs) _).congr fun r c _ _ => by simp only [Nat.mul_one],
    (accum Reads.zero (one_ot hot) (diag_p1 hk hb1 hq hs) _).congr fun r c _ _ => by simp only [Nat.mul_one],
    Reads.zero.sub ((diag_g1 hk hv hb1 hq ho hs).colSums _ _ _ _)⟩,
   (query_rows hd (diag_g0 hk hv hb0 hq ho hs) (diag_g1 hk hv hb1 hq ho hs) (keys_reads hk) _ _ _ _).congr fun r l _ hl => by
    rw [← by_lane (fun n => ∑ c ∈ Finset.range 512, gr (wtLow fq k b (fs 0)) fo v (fs 0) n r c * k c l) l hl],
   forget_rows hu (by decide) he ((diag_g0 hk hv hb0 hq ho hs).rowSums _ _ _ _) ((diag_g1 hk hv hb1 hq ho hs).rowSums _ _ _ _) _ _ _ _ _ _⟩

end Diag

section Two

variable {q : Vec Ideal S1024x128 .bf16} {qt0 qt1 : Vec Ideal S1x128x512 .bf16} {o : Vec Ideal S1024x128 .bf16} {ot0 ot1 : Vec Ideal S1x128x512 .bf16}
  {st : Vec Ideal S1x1024x128 .f32} {fq fo : ℕ → ℕ → ℝ} {ft0 ft1 fot0 fot1 fs : ℕ → ℕ → ℕ → ℝ}
  (hq : Reads q fq) (ht0 : Reads3 qt0 ft0) (ht1 : Reads3 qt1 ft1) (ho : Reads o fo) (hot0 : Reads3 ot0 fot0) (hot1 : Reads3 ot1 fot1) (hs : Reads3 st fs)

include hq in
theorem two_q0 : Reads (k0_pay64 q) fun r l => if l < 64 then fq r l * s2 else 0 := ((hq.same _).scale named_s2).low (fun _ => word_zero16) _ _ _
include hq in
theorem two_q1 : Reads (k0_pay65 q) fun r l => if 64 ≤ l then fq r l * s2 else 0 := ((hq.same _).scale named_s2).high (fun _ => word_zero16) _ _ _
include ht0 ht1 in
theorem two_qt : Reads (k0_pay66 qt0 qt1) fun r l => (if l < 512 then ft0 0 r l else ft1 0 r (l - 512)) * s2 :=
  ((ht0.drop _).beside (ht1.drop _) concatenates_S128x512_S128x512_S128x1024_d1).scale named_s2
include ho in
theorem two_o0 : Reads (m := 1024) (n := 128) (select (broadcastTo S1024x128 (shapeCast S1x128 (cmpi .slt lane (broadcast S1x128 64#32)) shapeCasts_S1x128_S1x128) broadcasts_S1x128_S1024x128)
    (k0_pay67 (F := Ideal) o) (k0_pay68 (F := Ideal))) fun r l => if l < 64 then fo r l else 0 := (ho.same _).low (fun _ => Ideal.ofBits_zero_f32) _ _ _
include ho in
theorem two_o1 : Reads (k0_pay69 (k0_pay67 o) k0_pay68) fun r l => if 64 ≤ l then fo r l else 0 := (ho.same _).high (fun _ => Ideal.ofBits_zero_f32) _ _ _
include hot0 hot1 in
theorem two_ot : Reads (k0_pay70 ot0 ot1) fun r l => if l < 512 then fot0 0 r l else fot1 0 r (l - 512) :=
  (hot0.drop _).beside (hot1.drop _) concatenates_S128x512_S128x512_S128x1024_d1
include hs in
theorem two_st : Reads (k0_pay71 st) (fs 0) := hs.drop _

include hk hb0 hq hs in
theorem two_p0 : Reads (k0_pay72 (keys x) (bias0 i x) (k0_pay64 q) st) (wt fq k b (fs 0) 0) :=
  ((logit (two_q0 hq) (keys_reads hk) hb0 _).sub ((two_st hs).column (by decide) _ _)).exp2.congr fun r c _ _ => by
    unfold wt; rw [low_sum (fun l => fq r l * s2)]
include hk hb1 hq hs in
theorem two_p1 : Reads (k0_pay80 (keys x) (bias1 i x) (k0_pay65 q) (k0_pay71 st)) (wt fq k b (fs 0) 1) :=
  ((logit (two_q1 hq) (keys_reads hk) hb1 _).sub ((two_st hs).column (by decide) _ _)).exp2.congr fun r c _ _ => by
    unfold wt; rw [high_sum (fun l => fq r l * s2)]
include hk hv hb0 hq hs ho in
theorem two_g0 : Reads (k0_pay73 (keys x) (vals x) (bias0 i x) (k0_pay64 q) (k0_pay67 o) k0_pay68 lane 64#32 st) (gr (wt fq k b (fs 0)) fo v (fs 0) 0) :=
  (grad (two_p0 hk hb0 hq hs) (two_o0 ho) (vals_reads hv) (two_st hs) (by decide) _ _).congr fun r c _ _ => by
    unfold gr; rw [low_sum]
include hk hv hb1 hq hs ho in
theorem two_g1 : Reads (k0_pay81 (keys x) (vals x) (bias1 i x) (k0_pay65 q) (k0_pay69 (k0_pay67 o) k0_pay68) (k0_pay71 st)) (gr (wt fq k b (fs 0)) fo v (fs 0) 1) :=
  (grad (two_p1 hk hb1 hq hs) (two_o1 ho) (vals_reads hv) (two_st hs) (by decide) _ _).congr fun r c _ _ => by
    unfold gr; rw [high_sum]

include hu hk hv hb0 hb1 hq ht0 ht1 ho hot0 hot1 hs in
/-- Two blocks of rows at once. -/
theorem twoOf_adds {a : Carry Ideal} {d e : Vec Ideal S1024x128 .f32} {fk fv : ℕ → ℕ → ℕ → ℝ} {fc fd fe : ℕ → ℕ → ℝ} (ha : Holds a fk fv fc)
    (hd : Reads d fd) (he : Reads e fe) :
    Adds (i 0).val 1024 (wt fq k b (fs 0)) (fun r l => if l < 512 then ft0 0 r l else ft1 0 r (l - 512))
      (fun r l => if l < 512 then fot0 0 r l else fot1 0 r (l - 512)) fo v (fs 0) k fk fv fc fd fe (twoOf i x q qt0 qt1 o ot0 ot1 st a d e) :=
  ⟨⟨(accum ha.1 (two_qt ht0 ht1) (two_g0 hk hv hb0 hq ho hs) _).congr fun r c _ _ => by simp only [Nat.mul_zero],
    (accum ha.2.1 (two_ot hot0 hot1) (two_p0 hk hb0 hq hs) _).congr fun r c _ _ => by simp only [Nat.mul_zero],
    ha.2.2.1.sub ((two_g0 hk hv hb0 hq ho hs).colSums _ _ _ _),
    (accum ha.2.2.2.1 (two_qt ht0 ht1) (two_g1 hk hv hb1 hq ho hs) _).congr fun r c _ _ => by simp only [Nat.mul_one],
    (accum ha.2.2.2.2.1 (two_ot hot0 hot1) (two_p1 hk hb1 hq hs) slices_S128x1024_o64_0_S64x1024).congr fun r c _ _ => by simp only [Nat.mul_one],
    ha.2.2.2.2.2.sub ((two_g1 hk hv hb1 hq ho hs).colSums _ _ _ _)⟩,
   (query_rows hd (two_g0 hk hv hb0 hq ho hs) (two_g1 hk hv hb1 hq ho hs) (keys_reads hk) _ _ _ _).congr fun r l _ hl => by
    rw [← by_lane (fun n => ∑ c ∈ Finset.range 512, gr (wt fq k b (fs 0)) fo v (fs 0) n r c * k c l) l hl],
   forget_rows hu (by decide) he ((two_g0 hk hv hb0 hq ho hs).rowSums _ _ _ _) ((two_g1 hk hv hb1 hq ho hs).rowSums _ _ _ _) _ _ _ _ _ _⟩

end Two

include hu in
/-- What the point's end adds to its own rows of the forget sums' gradient. -/
theorem endOf_reads {a : Carry Ideal} {e : Vec Ideal S512x128 .f32} {fk fv : ℕ → ℕ → ℕ → ℝ} {fc fe : ℕ → ℕ → ℝ} (ha : Holds a fk fv fc) (he : Reads e fe) :
    Reads (endOf i a e) fun r l => fe r l + if l = 2 * (i 0).val then fc 0 r else if l = 2 * (i 0).val + 1 then fc 1 r else 0 :=
  (he.same _).add (((((ha.2.2.1.same _).under (by decide) _).row (φ := .f32) (((ha.2.2.2.2.2.same _).under (by decide) _).row Reads.zero (word_odd _ hu) (by omega) (by decide) (by decide) _ _ _)
    (word_twice _ hu) (by omega) (by decide) (by decide) _ _ _)).turn _)

/-- The keys' gradient as stored. -/
theorem storeK {a b : FVec Ideal S64x512 .f32} {f g : ℕ → ℕ → ℝ} (ha : Reads a f) (hb : Reads b g) :
    Reads (k0_pay170 a b) fun c l => (if l < 64 then f l c else g (l - 64) c) * Real.log 2 :=
  ((ha.above hb concatenates_S64x512_S64x512_S128x512_d0).turn _).scale named_ln2

/-- The values' gradient as stored. -/
theorem storeV {a b : FVec Ideal S64x512 .f32} {f g : ℕ → ℕ → ℝ} (ha : Reads a f) (hb : Reads b g) :
    Reads (k0_pay171 a b) fun c l => if l < 64 then f l c else g (l - 64) c :=
  (ha.above hb concatenates_S64x512_S64x512_S128x512_d0).turn _

/-- The cleared blocks. -/
theorem cleared : Reads (k0_pay118 : FVec Ideal S4096x128 .f32) fun _ _ => 0 := Reads.zero

theorem clearedF : Reads (k0_pay124 : FVec Ideal S4096x128 .f32) fun _ _ => 0 := Reads.zero

end Cert.Kernel3Ideal.Fox

end
-- ==== Proof.Fox.Sum.lean ====
/- The forgetting attention's gradient over the rows of one column block: what the whole body makes of real blocks. -/
module

public import proofs.«01_k».proof.Proof.Fox.Block
public import proofs.«01_k».proof.Proof.Real.Windows

@[expose] public section

set_option maxRecDepth 16384

noncomputable section

namespace Cert.Kernel3Ideal.Fox

open Idealize.ShloMosaic Cert.Kernel3Ideal.Gen Cert.Reals

/-- The numbers one pair of heads works on: the queries, the keys, the values, the cotangents and the saved statistics by row and
    lane, and the columns' forget sums by head and column. -/
structure Nums where
  Q : ℕ → ℕ → ℝ
  K : ℕ → ℕ → ℝ
  V : ℕ → ℕ → ℝ
  O : ℕ → ℕ → ℝ
  S : ℕ → ℕ → ℝ
  B : ℕ → ℕ → ℝ

/-- The weight of column `c` in row `r` for head `n` of the pair. -/
def Nums.W (N : Nums) (n r c : ℕ) : ℝ := if c ≤ r then wt N.Q N.K N.B N.S n r c else 0

/-- The gradient of the logit there. -/
def Nums.G (N : Nums) (n r c : ℕ) : ℝ := gr N.W N.O N.V N.S n r c

theorem Nums.G_above (N : Nums) (n r c : ℕ) (h : r < c) : N.G n r c = 0 := by
  unfold Nums.G gr Nums.W; rw [if_neg (by omega), zero_mul]

/-- A number for each head of pair `u`, in its lane. -/
def inLane (u : ℕ) (f : ℕ → ℝ) (l : ℕ) : ℝ := if l = 2 * u then f 0 else if l = 2 * u + 1 then f 1 else 0

theorem inLane_add (u : ℕ) (f g : ℕ → ℝ) (l : ℕ) : inLane u f l + inLane u g l = inLane u (fun n => f n + g n) l := by
  unfold inLane; split
  · rfl
  · split
    · rfl
    · exact add_zero 0

theorem inLane_zero (u : ℕ) (l : ℕ) : inLane u (fun _ => 0) l = 0 := by
  unfold inLane; rw [ite_self, ite_self]

theorem inLane_congr (u : ℕ) {f g : ℕ → ℝ} (l : ℕ) (h : ∀ n, f n = g n) : inLane u f l = inLane u g l := by rw [funext h]

/-- The blocks of column block `j` hold these numbers. -/
structure Has (N : Nums) (i : grid0.Coords) (j : ℕ) (x : Ins Ideal) : Prop where
  pair : (i 0).val < 4
  q : Reads x.q N.Q
  qt : Reads3 x.qt fun b l r => N.Q (512 * b + r) l
  k : Reads x.k fun c l => N.K (512 * j + c) l
  v : Reads x.v fun c l => N.V (512 * j + c) l
  o : Reads x.o N.O
  ot : Reads3 x.ot fun b l r => N.O (512 * b + r) l
  st : Reads3 x.st fun _ r l => N.S r l
  b0 : Reads (bias0 i x) fun _ c => N.B 0 (512 * j + c)
  b1 : Reads (bias1 i x) fun _ c => N.B 1 (512 * j + c)

/-- After the rows below `R`: the accumulators hold the sums over the rows so far, the two gradients what was there and this
    column block's part in these rows. -/
def Upto (N : Nums) (u j : ℕ) (D E : ℕ → ℕ → ℝ) (R : ℕ) (s : State Ideal) : Prop :=
  Holds s.1 (fun n d c => ∑ r ∈ Finset.Ico (512 * j) R, N.Q r (64 * n + d) * s2 * N.G n r (512 * j + c))
      (fun n e c => ∑ r ∈ Finset.Ico (512 * j) R, N.O r (64 * n + e) * N.W n r (512 * j + c))
      (fun n c => -∑ r ∈ Finset.Ico (512 * j) R, N.G n r (512 * j + c))
    ∧ Reads s.2.1 (fun r l => D r l + if 512 * j ≤ r ∧ r < R then (∑ c ∈ Finset.range 512, N.G (l / 64) r (512 * j + c) * N.K (512 * j + c) l) * (1 / 8) else 0)
    ∧ Reads s.2.2 (fun r l => E r l + if 512 * j ≤ r ∧ r < R then inLane u (fun n => ∑ c ∈ Finset.range 512, N.G n r (512 * j + c)) l else 0)

variable {N : Nums} {i : grid0.Coords} {u j : ℕ} {D E : ℕ → ℕ → ℝ}

/-- The gradient of a block's logits is the gradient in its place. -/
theorem gr_local {p : ℕ → ℕ → ℕ → ℝ} {R n i c : ℕ} (h : p n i c = N.W n (R + i) (512 * j + c)) :
    gr p (fun r l => N.O (R + r) l) (fun c l => N.V (512 * j + c) l) (fun r l => N.S (R + r) l) n i c = N.G n (R + i) (512 * j + c) := by
  unfold Nums.G gr
  rw [h]

/-- One more block of rows. -/
theorem Upto.more {R n : ℕ} {s : State Ideal} (h : Upto N u j D E R s) (hR : 512 * j ≤ R) {p : ℕ → ℕ → ℕ → ℝ} {ft fo : ℕ → ℕ → ℝ}
    (hp : ∀ a r c, r < n → c < 512 → p a r c = N.W a (R + r) (512 * j + c)) (ht : ∀ l i, i < n → ft l i = N.Q (R + i) l)
    (ho : ∀ l i, i < n → fo l i = N.O (R + i) l) {r : Carry Ideal × Vec Ideal ⟨2, ![n, 128]⟩ .f32 × Vec Ideal ⟨2, ![n, 128]⟩ .f32}
    (ha : Adds u n p ft fo (fun r l => N.O (R + r) l) (fun c l => N.V (512 * j + c) l) (fun r l => N.S (R + r) l) (fun c l => N.K (512 * j + c) l)
      (fun n d c => ∑ r ∈ Finset.Ico (512 * j) R, N.Q r (64 * n + d) * s2 * N.G n r (512 * j + c))
      (fun n e c => ∑ r ∈ Finset.Ico (512 * j) R, N.O r (64 * n + e) * N.W n r (512 * j + c))
      (fun n c => -∑ r ∈ Finset.Ico (512 * j) R, N.G n r (512 * j + c)) (fun i l => D (R + i) l) (fun i l => E (R + i) l) r) :
    Upto N u j D E (R + n) (r.1, VecWindow.put s.2.1 ![R, 0] ![n, 128] r.2.1, VecWindow.put s.2.2 ![R, 0] ![n, 128] r.2.2) := by
  have hg : ∀ a i c, i < n → c < 512 → gr p (fun r l => N.O (R + r) l) (fun c l => N.V (512 * j + c) l) (fun r l => N.S (R + r) l) a i c
      = N.G a (R + i) (512 * j + c) := fun a i c hi hc => gr_local (hp a i c hi hc)
  have hk : ∀ a d c, c < 512 → (∑ r ∈ Finset.Ico (512 * j) R, N.Q r (64 * a + d) * s2 * N.G a r (512 * j + c))
      + ∑ i ∈ Finset.range n, ft (64 * a + d) i * s2 * gr p (fun r l => N.O (R + r) l) (fun c l => N.V (512 * j + c) l) (fun r l => N.S (R + r) l) a i c
      = ∑ r ∈ Finset.Ico (512 * j) (R + n), N.Q r (64 * a + d) * s2 * N.G a r (512 * j + c) := fun a d c hc => by
    rw [sum_more _ _ _ _ hR]
    exact congrArg _ (Finset.sum_congr rfl fun i hi => by
      rw [ht _ _ (Finset.mem_range.mp hi), hg a i c (Finset.mem_range.mp hi) hc])
  have hv : ∀ a d c, c < 512 → (∑ r ∈ Finset.Ico (512 * j) R, N.O r (64 * a + d) * N.W a r (512 * j + c))
      + ∑ i ∈ Finset.range n, fo (64 * a + d) i * p a i c
      = ∑ r ∈ Finset.Ico (512 * j) (R + n), N.O r (64 * a + d) * N.W a r (512 * j + c) := fun a d c hc => by
    rw [sum_more _ _ _ _ hR]
    exact congrArg _ (Finset.sum_congr rfl fun i hi => by
      rw [ho _ _ (Finset.mem_range.mp hi), hp a i c (Finset.mem_range.mp hi) hc])
  have hf : ∀ a c, c < 512 → (-∑ r ∈ Finset.Ico (512 * j) R, N.G a r (512 * j + c))
      - ∑ i ∈ Finset.range n, gr p (fun r l => N.O (R + r) l) (fun c l => N.V (512 * j + c) l) (fun r l => N.S (R + r) l) a i c
      = -∑ r ∈ Finset.Ico (512 * j) (R + n), N.G a r (512 * j + c) := fun a c hc => by
    rw [sum_more _ _ _ _ hR, neg_add, ← sub_eq_add_neg]
    exact congrArg _ (Finset.sum_congr rfl fun i hi => hg a i c (Finset.mem_range.mp hi) hc)
  have hrow : ∀ (X : ℕ → ℕ → ℝ) (t : ℕ → ℕ → ℝ) r l, (if R ≤ r ∧ r < R + n then X r l + t r l else X r l + if 512 * j ≤ r ∧ r < R then t r l else 0)
      = X r l + if 512 * j ≤ r ∧ r < R + n then t r l else 0 := fun X t r l => by
    by_cases h1 : R ≤ r ∧ r < R + n
    · rw [if_pos h1, if_pos (by omega)]
    · rw [if_neg h1]
      by_cases h2 : 512 * j ≤ r ∧ r < R
      · rw [if_pos h2, if_pos (by omega)]
      · rw [if_neg h2, if_neg (by omega)]
  refine ⟨⟨ha.1.1.congr fun d c _ hc => hk 0 d c hc, ha.1.2.1.congr fun d c _ hc => hv 0 d c hc, ha.1.2.2.1.congr fun d c _ hc => hf 0 c hc,
    ha.1.2.2.2.1.congr fun d c _ hc => hk 1 d c hc, ha.1.2.2.2.2.1.congr fun d c _ hc => hv 1 d c hc, ha.1.2.2.2.2.2.congr fun d c _ hc => hf 1 c hc⟩, ?_, ?_⟩
  · refine (rows_put h.2.1 ha.2.1).congr fun r l _ _ => Eq.trans ?_ (hrow D (fun r l => (∑ c ∈ Finset.range 512, N.G (l / 64) r (512 * j + c) * N.K (512 * j + c) l) * (1 / 8)) r l)
    refine if_ctx_congr Iff.rfl (fun h1 => ?_) (fun _ => rfl)
    beta_reduce
    rw [show R + (r - R) = r by omega]
    refine congrArg (fun t => D r l + t * (1 / 8)) (Finset.sum_congr rfl fun c hc => ?_)
    rw [hg _ (r - R) c (by omega) (Finset.mem_range.mp hc), show R + (r - R) = r by omega]
  · refine (rows_put h.2.2 ha.2.2).congr fun r l _ _ => Eq.trans ?_ (hrow E (fun r l => inLane u (fun n => ∑ c ∈ Finset.range 512, N.G n r (512 * j + c)) l) r l)
    refine if_ctx_congr Iff.rfl (fun h1 => ?_) (fun _ => rfl)
    beta_reduce
    rw [show R + (r - R) = r by omega]
    refine congrArg (E r l + ·) (inLane_congr u (f := fun a => ∑ c ∈ Finset.range 512, gr p (fun r l => N.O (R + r) l) (fun c l => N.V (512 * j + c) l) (fun r l => N.S (R + r) l) a (r - R) c) l fun a =>
      Finset.sum_congr rfl fun c hc => ?_)
    rw [hg _ (r - R) c (by omega) (Finset.mem_range.mp hc), show R + (r - R) = r by omega]

/-- What is read of the two gradients in rows not yet reached. -/
theorem Upto.ahead {R n : ℕ} {s : State Ideal} (h : Upto N u j D E R s)
    (e : ∀ a, (![R, 0] : Fin 2 → ℕ) a + (![n, 128] : Fin 2 → ℕ) a ≤ S4096x128.size a) :
    Reads (m := n) (n := 128) (VecWindow.window s.2.1 ![R, 0] ![n, 128] e) (fun i l => D (R + i) l)
      ∧ Reads (m := n) (n := 128) (VecWindow.window s.2.2 ![R, 0] ![n, 128] e) (fun i l => E (R + i) l) :=
  ⟨(rows_window h.2.1 e).congr fun r l _ _ => by rw [if_neg (by omega), add_zero],
    (rows_window h.2.2 e).congr fun r l _ _ => by rw [if_neg (by omega), add_zero]⟩

variable {x : Ins Ideal} (hx : Has N i j x)

include hx in
/-- The block on the diagonal. -/
theorem diag_upto (hj : j < 8) {d e : Vec Ideal S4096x128 .f32} (hd : Reads d D) (he : Reads e E) :
    Upto N (i 0).val j D E (512 * j + 512) (diag i x j hj d e) := by
  have h0 : Upto N (i 0).val j D E (512 * j) ((k0_pay125, k0_pay126, k0_pay127, k0_pay128, k0_pay129, k0_pay130), d, e) :=
    ⟨⟨Reads.zero.congr fun _ _ _ _ => by simp only [Finset.Ico_self, Finset.sum_empty], Reads.zero.congr fun _ _ _ _ => by simp only [Finset.Ico_self, Finset.sum_empty],
      Reads.zero.congr fun _ _ _ _ => by simp only [Finset.Ico_self, Finset.sum_empty, neg_zero],
      Reads.zero.congr fun _ _ _ _ => by simp only [Finset.Ico_self, Finset.sum_empty], Reads.zero.congr fun _ _ _ _ => by simp only [Finset.Ico_self, Finset.sum_empty],
      Reads.zero.congr fun _ _ _ _ => by simp only [Finset.Ico_self, Finset.sum_empty, neg_zero]⟩,
      hd.congr fun r l _ _ => by rw [if_neg (by omega), add_zero], he.congr fun r l _ _ => by rw [if_neg (by omega), add_zero]⟩
  refine h0.more le_rfl (p := wtLow (fun r l => N.Q (512 * j + r) l) (fun c l => N.K (512 * j + c) l) (fun n c => N.B n (512 * j + c)) (fun r l => N.S (512 * j + r) l))
    (ft := fun l r => N.Q (512 * (j + 0) + r) l) (fo := fun l r => N.O (512 * (j + 0) + r) l) ?_ (fun _ _ _ => rfl) (fun _ _ _ => rfl) ?_
  · intro a r c _ _
    unfold wtLow Nums.W
    by_cases h : c ≤ r
    · rw [if_pos h, if_pos (by omega)]; rfl
    · rw [if_neg h, if_neg (by omega)]
  · have h1 := h0.ahead (fit2 (n := 512) (by omega))
    have := diagOf_adds (b := fun n c => N.B n (512 * j + c)) hx.pair hx.k hx.v hx.b0 hx.b1 (rows_window (o := 512 * j) hx.q (fit2 (n := 512) (by omega))) (block_window hx.qt (fitT hj))
      (rows_window (o := 512 * j) hx.o (fit2 (n := 512) (by omega))) (block_window hx.ot (fitT hj)) (rows_window3 (o := 512 * j) hx.st (fit3 (n := 512) (by omega))) h1.1 h1.2
    simp only [Finset.Ico_self, Finset.sum_empty, neg_zero]
    exact this

/-- Past the diagonal no weight is masked. -/
theorem wt_local {R a r c : ℕ} (hR : 512 * j + 512 ≤ R) (hc : c < 512) :
    wt (fun r l => N.Q (R + r) l) (fun c l => N.K (512 * j + c) l) (fun n c => N.B n (512 * j + c)) (fun r l => N.S (R + r) l) a r c = N.W a (R + r) (512 * j + c) := by
  unfold Nums.W
  rw [if_pos (by omega)]; rfl

include hx in
/-- One block below the diagonal. -/
theorem one_upto {b : ℕ} (hb : b < 8) (hj : j < b) {s : State Ideal} (h : Upto N (i 0).val j D E (512 * b) s) : Upto N (i 0).val j D E (512 * b + 512) (one i x b hb s) := by
  refine h.more (by omega) (p := wt (fun r l => N.Q (512 * b + r) l) (fun c l => N.K (512 * j + c) l) (fun n c => N.B n (512 * j + c)) (fun r l => N.S (512 * b + r) l))
    (ft := fun l r => N.Q (512 * (b + 0) + r) l) (fo := fun l r => N.O (512 * (b + 0) + r) l) (fun a r c _ hc => wt_local (by omega) hc) (fun _ _ _ => rfl) (fun _ _ _ => rfl) ?_
  have h1 := h.ahead (fit2 (n := 512) (by omega))
  exact oneOf_adds (b := fun n c => N.B n (512 * j + c)) hx.pair hx.k hx.v hx.b0 hx.b1 (rows_window hx.q (fit2 (by omega))) (block_window hx.qt (fitT hb)) (rows_window hx.o (fit2 (by omega)))
      (block_window hx.ot (fitT hb)) (rows_window3 hx.st (fit3 (by omega))) h.1 h1.1 h1.2

include hx in
/-- Two blocks below the diagonal. -/
theorem two_upto {b : ℕ} (hb : b < 4) (hj : j < 2 * b) {s : State Ideal} (h : Upto N (i 0).val j D E (1024 * b) s) : Upto N (i 0).val j D E (1024 * b + 1024) (two i x b hb s) := by
  refine h.more (by omega) (p := wt (fun r l => N.Q (1024 * b + r) l) (fun c l => N.K (512 * j + c) l) (fun n c => N.B n (512 * j + c)) (fun r l => N.S (1024 * b + r) l))
    (ft := fun l r => if r < 512 then N.Q (512 * (2 * b + 0) + r) l else N.Q (512 * (2 * b + 1 + 0) + (r - 512)) l)
    (fo := fun l r => if r < 512 then N.O (512 * (2 * b + 0) + r) l else N.O (512 * (2 * b + 1 + 0) + (r - 512)) l)
    (fun a r c _ hc => wt_local (by omega) hc) ?_ ?_ ?_
  · intro l i hi
    beta_reduce
    split
    · exact congrArg (N.Q · l) (by omega)
    · exact congrArg (N.Q · l) (by omega)
  · intro l i hi
    beta_reduce
    split
    · exact congrArg (N.O · l) (by omega)
    · exact congrArg (N.O · l) (by omega)
  · have h1 := h.ahead (fit2 (n := 1024) (by omega))
    exact twoOf_adds (b := fun n c => N.B n (512 * j + c)) hx.pair hx.k hx.v hx.b0 hx.b1 (rows_window hx.q (fit2 (by omega))) (block_window hx.qt (fitT (by omega))) (block_window hx.qt (fitT (by omega)))
      (rows_window hx.o (fit2 (by omega))) (block_window hx.ot (fitT (by omega))) (block_window hx.ot (fitT (by omega)))
      (rows_window3 hx.st (fit3 (by omega))) h.1 h1.1 h1.2

include hx in
theorem ones_upto {b : ℕ} (hj : j < b) {s : State Ideal} (h : Upto N (i 0).val j D E (512 * b) s) : ∀ n, b + n ≤ 8 → Upto N (i 0).val j D E (512 * (b + n)) (ones i x b s n)
  | 0, _ => h
  | n + 1, hn => by
    unfold ones
    rw [dif_pos (by omega)]
    have := one_upto hx (b := b + n) (by omega) (by omega) (ones_upto hj h n (by omega))
    rw [show 512 * (b + (n + 1)) = 512 * (b + n) + 512 by omega]
    exact this

include hx in
theorem twos_upto {b : ℕ} (hj : j < 2 * b) {s : State Ideal} (h : Upto N (i 0).val j D E (1024 * b) s) : ∀ n, b + n ≤ 4 → Upto N (i 0).val j D E (1024 * (b + n)) (twos i x b s n)
  | 0, _ => h
  | n + 1, hn => by
    unfold twos
    rw [dif_pos (by omega)]
    have := two_upto hx (b := b + n) (by omega) (by omega) (twos_upto hj h n (by omega))
    rw [show 1024 * (b + (n + 1)) = 1024 * (b + n) + 1024 by omega]
    exact this

include hx in
/-- All rows. -/
theorem rows_upto (hj : j < 8) {d e : Vec Ideal S4096x128 .f32} (hd : Reads d D) (he : Reads e E) :
    Upto N (i 0).val j D E 4096 (below i x j (diag i x j hj d e)) := by
  have h1 : Upto N (i 0).val j D E (512 * (j + 1)) (diag i x j hj d e) := by
    have := diag_upto hx hj hd he
    rw [show 512 * (j + 1) = 512 * j + 512 by omega]
    exact this
  have h2 := ones_upto hx (b := j + 1) (by omega) h1 (1 - j % 2) (by omega)
  rw [show 512 * (j + 1 + (1 - j % 2)) = 1024 * (j / 2 + 1) by omega] at h2
  have h3 := twos_upto hx (b := j / 2 + 1) (by omega) h2 (3 - j / 2) (by omega)
  rw [show 1024 * (j / 2 + 1 + (3 - j / 2)) = 4096 by omega] at h3
  exact h3

/-- What a column block adds to row `r` of the forget sums' gradient of head `n`: the row's part in these columns and, in the
    block's own rows, less the column's whole part. -/
def Nums.step (N : Nums) (j n r : ℕ) : ℝ :=
  (∑ c ∈ Finset.range 512, N.G n r (512 * j + c)) - if 512 * j ≤ r ∧ r < 512 * j + 512 then ∑ a ∈ Finset.range 4096, N.G n a r else 0

include hx in
/-- The whole body from cleared or kept gradients. -/
theorem whole_reads (hj : j < 8) {d e : Vec Ideal S4096x128 .f32} (hd : Reads d D) (he : Reads e E) (h0 : j = 0 → ∀ r l, D r l = 0)
    (g0 : (i 0).val = 0 ∧ j = 0 → ∀ r l, E r l = 0) :
    Holds (whole i x j hj d e).1 (fun n d c => ∑ r ∈ Finset.range 4096, N.Q r (64 * n + d) * s2 * N.G n r (512 * j + c))
        (fun n e c => ∑ r ∈ Finset.range 4096, N.O r (64 * n + e) * N.W n r (512 * j + c)) (fun n c => -∑ r ∈ Finset.range 4096, N.G n r (512 * j + c))
      ∧ Reads (whole i x j hj d e).2.1 (fun r l => D r l + (∑ c ∈ Finset.range 512, N.G (l / 64) r (512 * j + c) * N.K (512 * j + c) l) * (1 / 8))
      ∧ Reads (whole i x j hj d e).2.2 (fun r l => E r l + inLane (i 0).val (fun n => N.step j n r) l) := by
  have hd' : Reads (if j = 0 then k0_pay118 (F := Ideal) else d) D := by
    split
    · rename_i h; exact cleared.congr fun r l _ _ => (h0 h r l).symm
    · exact hd
  have he' : Reads (if (i 0).val = 0 ∧ j = 0 then k0_pay124 (F := Ideal) else e) E := by
    split
    · rename_i h; exact clearedF.congr fun r l _ _ => (g0 h r l).symm
    · exact he
  have h := rows_upto hx hj hd' he'
  have eG : ∀ n c, (∑ r ∈ Finset.Ico (512 * j) 4096, N.G n r (512 * j + c)) = ∑ r ∈ Finset.range 4096, N.G n r (512 * j + c) := fun n c =>
    above_sum (fun r => N.G n r (512 * j + c)) _ (by omega) fun r hr => N.G_above n r _ (by omega)
  have eK : ∀ n d c, (∑ r ∈ Finset.Ico (512 * j) 4096, N.Q r (64 * n + d) * s2 * N.G n r (512 * j + c))
      = ∑ r ∈ Finset.range 4096, N.Q r (64 * n + d) * s2 * N.G n r (512 * j + c) := fun n d c =>
    above_sum (fun r => N.Q r (64 * n + d) * s2 * N.G n r (512 * j + c)) _ (by omega) fun r hr => by rw [N.G_above n r _ (by omega), mul_zero]
  have eV : ∀ n d c, (∑ r ∈ Finset.Ico (512 * j) 4096, N.O r (64 * n + d) * N.W n r (512 * j + c))
      = ∑ r ∈ Finset.range 4096, N.O r (64 * n + d) * N.W n r (512 * j + c) := fun n d c =>
    above_sum (fun r => N.O r (64 * n + d) * N.W n r (512 * j + c)) _ (by omega) fun r hr => by
      unfold Nums.W; rw [if_neg (by omega), mul_zero]
  have eW : ∀ n r, ¬ 512 * j ≤ r → (∑ c ∈ Finset.range 512, N.G n r (512 * j + c)) = 0 := fun n r hr =>
    Finset.sum_eq_zero fun c _ => N.G_above n r _ (by omega)
  refine ⟨⟨h.1.1.congr fun d c _ _ => eK 0 d c, h.1.2.1.congr fun d c _ _ => eV 0 d c, h.1.2.2.1.congr fun d c _ _ => congrArg Neg.neg (eG 0 c),
    h.1.2.2.2.1.congr fun d c _ _ => eK 1 d c, h.1.2.2.2.2.1.congr fun d c _ _ => eV 1 d c, h.1.2.2.2.2.2.congr fun d c _ _ => congrArg Neg.neg (eG 1 c)⟩, ?_, ?_⟩
  · refine h.2.1.congr fun r l hr _ => ?_
    by_cases h' : 512 * j ≤ r
    · rw [if_pos ⟨h', hr⟩]
    · rw [if_neg (fun e => h' e.1), Finset.sum_eq_zero (fun c _ => by rw [N.G_above _ r _ (by omega), zero_mul]), zero_mul]
  · have hw := endOf_reads hx.pair h.1 (rows_window (o := 512 * j) h.2.2 (fit2 (n := 512) (by omega)))
    refine (rows_put h.2.2 hw).congr fun r l hr _ => ?_
    by_cases h1 : 512 * j ≤ r ∧ r < 512 * j + 512
    · rw [if_pos h1]
      beta_reduce
      rw [show 512 * j + (r - 512 * j) = r by omega, if_pos ⟨h1.1, hr⟩, add_assoc]
      refine congrArg (E r l + ·) ((inLane_add (i 0).val _ (fun n => -∑ a ∈ Finset.Ico (512 * j) 4096, N.G n a r) l).trans ?_)
      refine inLane_congr _ l fun n => ?_
      unfold Nums.step
      have := eG n (r - 512 * j)
      rw [show 512 * j + (r - 512 * j) = r by omega] at this
      rw [if_pos h1, this, sub_eq_add_neg]
    · rw [if_neg h1]
      have hs : ∀ n, N.step j n r = ∑ c ∈ Finset.range 512, N.G n r (512 * j + c) := fun n => by
        unfold Nums.step; rw [if_neg h1, sub_zero]
      rw [inLane_congr (i 0).val l hs]
      by_cases h2 : 512 * j ≤ r
      · rw [if_pos ⟨h2, hr⟩]
      · rw [if_neg (fun e => h2 e.1), inLane_congr (i 0).val l (fun n => eW n r h2), inLane_zero]

include hx in
/-- The keys' gradient a column block stores: the sum over all rows. -/
theorem outK_reads (hj : j < 8) : Reads (outK i x j hj) fun c l =>
    (∑ r ∈ Finset.range 4096, N.Q r l * s2 * N.G (l / 64) r (512 * j + c)) * Real.log 2 := by
  have h := whole_reads hx hj (D := fun _ _ => 0) (E := fun _ _ => 0) cleared clearedF (fun _ _ _ => rfl) (fun _ _ _ => rfl)
  refine (storeK h.1.1 h.1.2.2.2.1).congr fun c l hc hl => congrArg (· * Real.log 2) ?_
  by_cases h' : l < 64
  · rw [if_pos h']; beta_reduce; rw [show l / 64 = 0 by omega, Nat.mul_zero, Nat.zero_add]
  · rw [if_neg h']; beta_reduce; rw [show l / 64 = 1 by omega, show 64 * 1 + (l - 64) = l by omega]

include hx in
/-- The values' gradient it stores. -/
theorem outV_reads (hj : j < 8) : Reads (outV i x j hj) fun c l =>
    ∑ r ∈ Finset.range 4096, N.O r l * N.W (l / 64) r (512 * j + c) := by
  have h := whole_reads hx hj (D := fun _ _ => 0) (E := fun _ _ => 0) cleared clearedF (fun _ _ _ => rfl) (fun _ _ _ => rfl)
  refine (storeV h.1.2.1 h.1.2.2.2.2.1).congr fun c l hc hl => ?_
  by_cases h' : l < 64
  · rw [if_pos h']; beta_reduce; rw [show l / 64 = 0 by omega, Nat.mul_zero, Nat.zero_add]
  · rw [if_neg h']; beta_reduce; rw [show l / 64 = 1 by omega, show 64 * 1 + (l - 64) = l by omega]

end Cert.Kernel3Ideal.Fox

end
-- ==== Proof.Fox.Blocks.lean ====
/- The blocks of one grid point of the forgetting attention's gradient over real numbers. -/
module

public import proofs.«01_k».proof.Proof.Fox.Operands
public import proofs.«01_k».proof.Proof.Fox.Frame
public import proofs.«01_k».proof.Proof.Fox.Sum

@[expose] public section

set_option maxRecDepth 16384

noncomputable section

namespace Cert.Kernel3Ideal.Fox

open Idealize.ShloMosaic Idealize.ShloMosaic.Tactic Idealize.ShloMosaic.TcCoe Cert.Kernel3Ideal Cert.Kernel3Ideal.Gen Cert.Reals
open Cert.Reference3Ideal.Fox (prod pull)

/-- The statistics of a pair's rows: the heads' logarithms of the sums on lanes `0` and `1`, their means on `2` and `3`. -/
theorem stats_reads {a b : FVec Ideal S8x4096x1 .f32} {f g : ℕ → ℕ → ℝ} (ha : ∀ i, a i = ((f (i 0).val (i 1).val : ℝ) : EReal))
    (hb : ∀ i, b i = ((g (i 0).val (i 1).val : ℝ) : EReal)) :
    Reads3 (stats a b) fun p r l => if l < 2 then f (2 * p + l) r else if l < 4 then g (2 * p + (l - 2)) r else 0 := fun i => by
  have b0 : (i 0).val < 4 := (i 0).isLt
  have b1 : (i 1).val < 4096 := (i 1).isLt
  have b2 : (i 2).val < 128 := (i 2).isLt
  unfold stats
  beta_reduce
  by_cases h4 : (i 2).val < 4
  · let k : S4x4096x4.Idx := ValueIdx.ix3 ⟨(i 0).val, b0⟩ ⟨(i 1).val, b1⟩ ⟨(i 2).val, h4⟩
    rw [pad_apply_of_inside _ _ _ _ _ pads_S4x4096x4_S4x4096x128_000_000_01240 h_S_ i k (fun a => by
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega)]
    let u : S4x4096x2x2.Idx := ValueIdx.ix4 ⟨(i 0).val, b0⟩ ⟨(i 1).val, b1⟩ ⟨(i 2).val / 2, by omega⟩ ⟨(i 2).val % 2, by omega⟩
    rw [shapeCast_apply _ shapeCasts_S4x4096x2x2_S4x4096x4 k u (by
      rewrite [Shape.rowMajor_val_three, Shape.rowMajor_val_four]
      show (((i 0).val * 4096 + (i 1).val) * 2 + (i 2).val / 2) * 2 + (i 2).val % 2 = ((i 0).val * 4096 + (i 1).val) * 4 + (i 2).val
      omega)]
    let w : S4x2x4096x2.Idx := ValueIdx.ix4 ⟨(i 0).val, b0⟩ ⟨(i 2).val % 2, by omega⟩ ⟨(i 1).val, b1⟩ ⟨(i 2).val / 2, by omega⟩
    rw [transpose_apply _ _ transposes_S4x2x4096x2_S4x4096x2x2_0_2_3_1 u w (fun d => by
      match d with
      | ⟨0, _⟩ => rfl
      | ⟨1, _⟩ => rfl
      | ⟨2, _⟩ => rfl
      | ⟨3, _⟩ => rfl)]
    let x : S8x4096x2.Idx := ValueIdx.ix3 ⟨2 * (i 0).val + (i 2).val % 2, by omega⟩ ⟨(i 1).val, b1⟩ ⟨(i 2).val / 2, by omega⟩
    rw [shapeCast_apply _ shapeCasts_S8x4096x2_S4x2x4096x2 w x (by
      rewrite [Shape.rowMajor_val_three, Shape.rowMajor_val_four]
      show ((2 * (i 0).val + (i 2).val % 2) * 4096 + (i 1).val) * 2 + (i 2).val / 2 = (((i 0).val * 2 + (i 2).val % 2) * 4096 + (i 1).val) * 2 + (i 2).val / 2
      omega)]
    let z : S8x4096x1.Idx := ValueIdx.ix3 ⟨2 * (i 0).val + (i 2).val % 2, by omega⟩ ⟨(i 1).val, b1⟩ 0
    by_cases h2 : (i 2).val < 2
    · rw [concatenate_pair_apply_left 2 a b concatenates_S8x4096x1_S8x4096x1_S8x4096x2_d2 x rfl z (fun d => by
        match d with
        | ⟨0, _⟩ => rfl
        | ⟨1, _⟩ => rfl
        | ⟨2, _⟩ => show 0 = (i 2).val / 2; omega), ha z, if_pos h2]
      show ((f (2 * (i 0).val + (i 2).val % 2) (i 1).val : ℝ) : EReal) = _
      rw [show (i 2).val % 2 = (i 2).val by omega]
    · rw [concatenate_pair_apply_right 2 a b concatenates_S8x4096x1_S8x4096x1_S8x4096x2_d2 x rfl rfl z (fun d => by
        match d with
        | ⟨0, _⟩ => exact fun _ => rfl
        | ⟨1, _⟩ => exact fun _ => rfl
        | ⟨2, _⟩ => exact fun h => absurd rfl h) (by show 0 + 1 = (i 2).val / 2; omega), hb z, if_neg h2, if_pos h4]
      show ((g (2 * (i 0).val + (i 2).val % 2) (i 1).val : ℝ) : EReal) = _
      rw [show (i 2).val % 2 = (i 2).val - 2 by omega]
  · rw [pad_apply_of_not_inside _ _ _ _ _ pads_S4x4096x4_S4x4096x128_000_000_01240 h_S_ i (2 : Fin 3) (fun hin => h4 (by
      have h3 := hin.2.2
      have h5 : ((i 2).val - 0) / (0 + 1) < 4 := h3
      omega)), zero_word, if_neg (by omega), if_neg h4]
    rfl

/-- Point `t` works on the pair `t / 8` of heads and the column block `t % 8`: the queries' columns, -/
theorem idx0 : ∀ t : Fin cfg0.N, win0_0.index t 0 = 0 ∧ win0_0.index t 1 = t.val / 8 :=
  (by decide +kernel : ∀ t : Fin grid0.N, win0_0.index t 0 = 0 ∧ win0_0.index t 1 = t.val / 8)
/-- the same turned, -/
theorem idx1 : ∀ t : Fin cfg0.N, win0_1.index t 0 = 0 ∧ win0_1.index t 1 = t.val / 8 ∧ win0_1.index t 2 = 0 :=
  (by decide +kernel : ∀ t : Fin grid0.N, win0_1.index t 0 = 0 ∧ win0_1.index t 1 = t.val / 8 ∧ win0_1.index t 2 = 0)
/-- the keys' block, -/
theorem idx2 : ∀ t : Fin cfg0.N, win0_2.index t 0 = t.val % 8 ∧ win0_2.index t 1 = 4 + t.val / 8 :=
  (by decide +kernel : ∀ t : Fin grid0.N, win0_2.index t 0 = t.val % 8 ∧ win0_2.index t 1 = 4 + t.val / 8)
/-- the values' block, -/
theorem idx3 : ∀ t : Fin cfg0.N, win0_3.index t 0 = t.val % 8 ∧ win0_3.index t 1 = 8 + t.val / 8 :=
  (by decide +kernel : ∀ t : Fin grid0.N, win0_3.index t 0 = t.val % 8 ∧ win0_3.index t 1 = 8 + t.val / 8)
/-- the cotangents' columns, -/
theorem idx4 : ∀ t : Fin cfg0.N, win0_4.index t 0 = 0 ∧ win0_4.index t 1 = t.val / 8 :=
  (by decide +kernel : ∀ t : Fin grid0.N, win0_4.index t 0 = 0 ∧ win0_4.index t 1 = t.val / 8)
/-- the same turned, -/
theorem idx5 : ∀ t : Fin cfg0.N, win0_5.index t 0 = 0 ∧ win0_5.index t 1 = t.val / 8 ∧ win0_5.index t 2 = 0 :=
  (by decide +kernel : ∀ t : Fin grid0.N, win0_5.index t 0 = 0 ∧ win0_5.index t 1 = t.val / 8 ∧ win0_5.index t 2 = 0)
/-- the pair's statistics, -/
theorem idx6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)
/-- and the columns' forget sums. -/
theorem idx7 : ∀ t : Fin cfg0.N, win0_7.index t 0 = t.val % 8 ∧ win0_7.index t 1 = 0 ∧ win0_7.index t 2 = 0 :=
  (by decide +kernel : ∀ t : Fin grid0.N, win0_7.index t 0 = t.val % 8 ∧ win0_7.index t 1 = 0 ∧ win0_7.index t 2 = 0)

variable (m : (ℓ : Loc nD τ sig) → Buf (Elt Ideal) ℓ)
variable {A B C O L : ℕ → ℕ → ℝ} {M : ℕ → ℕ → ℝ}

/-- The numbers of the pair `g` of heads. -/
def nums (A B C O L M : ℕ → ℕ → ℝ) (g : ℕ) : Nums where
  Q r l := A r (128 * g + l)
  K c l := B c (128 * g + l)
  V c l := C c (128 * g + l)
  O r l := O r (128 * g + l)
  S r l := if l < 2 then lse A B L M (2 * g + l) r else if l < 4 then mean (shifted A B L) M (pull C O) (2 * g + (l - 2)) r else 0
  B n c := (Real.log 2)⁻¹ * L c (2 * g + n)

/-- The launch's arguments hold real numbers, and the rows' maxima are real numbers. -/
structure Launched (c : Dev nD) (A B C O L M : ℕ → ℕ → ℝ) : Prop where
  q : Reads (m := 4096) (n := 512) (m ((c : Thread nD τ).loc main_arg0)) A
  k : Reads (m := 4096) (n := 512) (m ((c : Thread nD τ).loc main_arg1)) B
  v : Reads (m := 4096) (n := 512) (m ((c : Thread nD τ).loc main_arg2)) C
  f : Reads (m := 4096) (n := 8) (m ((c : Thread nD τ).loc main_arg3)) L
  o : Reads (m := 4096) (n := 512) (m ((c : Thread nD τ).loc main_arg4)) O
  top : Reads (hostMax (m ((c : Thread nD τ).loc main_arg0)) (m ((c : Thread nD τ).loc main_arg1)) (m ((c : Thread nD τ).loc main_arg3))) M

/-- Point `t`'s queries. -/
theorem has_q (c : Dev nD) (h : Launched m c A B C O L M) (t : Fin cfg0.N) : Reads (ins m c t).q (nums A B C O L M (t.val / 8)).Q := fun i => by
  have ht : t.val < 32 := Nat.lt_of_lt_of_eq t.isLt N_0
  show iblk m c 0 t i = _
  unfold iblk
  rw [View.read_apply]
  show V m c main_v48 _ = _
  rw [V_qkv m c, joined_reads h.q h.k h.v _]
  have b1 : (i 1).val < 128 := (i 1).isLt
  show (((if win0_0.index t 1 * 128 + 1 * (i 1).val < 512 then A (win0_0.index t 0 * 4096 + 1 * (i 0).val) (win0_0.index t 1 * 128 + 1 * (i 1).val) else if win0_0.index t 1 * 128 + 1 * (i 1).val < 1024 then B (win0_0.index t 0 * 4096 + 1 * (i 0).val) (win0_0.index t 1 * 128 + 1 * (i 1).val - 512) else C (win0_0.index t 0 * 4096 + 1 * (i 0).val) (win0_0.index t 1 * 128 + 1 * (i 1).val - 1024)) : ℝ) : EReal) = ((A ((i 0).val) (128 * (t.val / 8) + (i 1).val) : ℝ) : EReal)
  rw [(idx0 t).1, (idx0 t).2, show 0 * 4096 + 1 * (i 0).val = (i 0).val by omega, if_pos (by omega), show t.val / 8 * 128 + 1 * (i 1).val = 128 * (t.val / 8) + (i 1).val by omega]

/-- Its keys. -/
theorem has_k (c : Dev nD) (h : Launched m c A B C O L M) (t : Fin cfg0.N) : Reads (ins m c t).k fun y l => (nums A B C O L M (t.val / 8)).K (512 * (t.val % 8) + y) l := fun i => by
  have ht : t.val < 32 := Nat.lt_of_lt_of_eq t.isLt N_0
  show iblk m c 2 t i = _
  unfold iblk
  rw [View.read_apply]
  show V m c main_v48 _ = _
  rw [V_qkv m c, joined_reads h.q h.k h.v _]
  have b1 : (i 1).val < 128 := (i 1).isLt
  show (((if win0_2.index t 1 * 128 + 1 * (i 1).val < 512 then A (win0_2.index t 0 * 512 + 1 * (i 0).val) (win0_2.index t 1 * 128 + 1 * (i 1).val) else if win0_2.index t 1 * 128 + 1 * (i 1).val < 1024 then B (win0_2.index t 0 * 512 + 1 * (i 0).val) (win0_2.index t 1 * 128 + 1 * (i 1).val - 512) else C (win0_2.index t 0 * 512 + 1 * (i 0).val) (win0_2.index t 1 * 128 + 1 * (i 1).val - 1024)) : ℝ) : EReal) = ((B (512 * (t.val % 8) + (i 0).val) (128 * (t.val / 8) + (i 1).val) : ℝ) : EReal)
  rw [(idx2 t).1, (idx2 t).2, show t.val % 8 * 512 + 1 * (i 0).val = 512 * (t.val % 8) + (i 0).val by omega, if_neg (by omega), if_pos (by omega), show (4 + t.val / 8) * 128 + 1 * (i 1).val - 512 = 128 * (t.val / 8) + (i 1).val by omega]

/-- Its values. -/
theorem has_v (c : Dev nD) (h : Launched m c A B C O L M) (t : Fin cfg0.N) : Reads (ins m c t).v fun y l => (nums A B C O L M (t.val / 8)).V (512 * (t.val % 8) + y) l := fun i => by
  have ht : t.val < 32 := Nat.lt_of_lt_of_eq t.isLt N_0
  show iblk m c 3 t i = _
  unfold iblk
  rw [View.read_apply]
  show V m c main_v48 _ = _
  rw [V_qkv m c, joined_reads h.q h.k h.v _]
  have b1 : (i 1).val < 128 := (i 1).isLt
  show (((if win0_3.index t 1 * 128 + 1 * (i 1).val < 512 then A (win0_3.index t 0 * 512 + 1 * (i 0).val) (win0_3.index t 1 * 128 + 1 * (i 1).val) else if win0_3.index t 1 * 128 + 1 * (i 1).val < 1024 then B (win0_3.index t 0 * 512 + 1 * (i 0).val) (win0_3.index t 1 * 128 + 1 * (i 1).val - 512) else C (win0_3.index t 0 * 512 + 1 * (i 0).val) (win0_3.index t 1 * 128 + 1 * (i 1).val - 1024)) : ℝ) : EReal) = ((C (512 * (t.val % 8) + (i 0).val) (128 * (t.val / 8) + (i 1).val) : ℝ) : EReal)
  rw [(idx3 t).1, (idx3 t).2, show t.val % 8 * 512 + 1 * (i 0).val = 512 * (t.val % 8) + (i 0).val by omega, if_neg (by omega), if_neg (by omega), show (8 + t.val / 8) * 128 + 1 * (i 1).val - 1024 = 128 * (t.val / 8) + (i 1).val by omega]

/-- Its cotangents. -/
theorem has_o (c : Dev nD) (h : Launched m c A B C O L M) (t : Fin cfg0.N) : Reads (ins m c t).o (nums A B C O L M (t.val / 8)).O := fun i => by
  have ht : t.val < 32 := Nat.lt_of_lt_of_eq t.isLt N_0
  show iblk m c 4 t i = _
  unfold iblk
  rw [View.read_apply]
  show V m c main_v49 _ = _
  rw [V_do m c, ValueIdx.truncf_apply, h.o _]
  show ((O (win0_4.index t 0 * 4096 + 1 * (i 0).val) (win0_4.index t 1 * 128 + 1 * (i 1).val) : ℝ) : EReal) = ((O (i 0).val (128 * (t.val / 8) + (i 1).val) : ℝ) : EReal)
  rw [(idx4 t).1, (idx4 t).2, show 0 * 4096 + 1 * (i 0).val = (i 0).val by omega, show t.val / 8 * 128 + 1 * (i 1).val = 128 * (t.val / 8) + (i 1).val by omega]

/-- Its turned queries. -/
theorem has_qt (c : Dev nD) (h : Launched m c A B C O L M) (t : Fin cfg0.N) : Reads3 (ins m c t).qt fun b l r => (nums A B C O L M (t.val / 8)).Q (512 * b + r) l := fun i => by
  have ht : t.val < 32 := Nat.lt_of_lt_of_eq t.isLt N_0
  show iblk m c 1 t i = _
  unfold iblk
  rw [View.read_apply]
  show V m c main_v51 _ = _
  rw [V_qkvt m c]
  have b0 : (i 0).val < 8 := (i 0).isLt
  have b1 : (i 1).val < 128 := (i 1).isLt
  have b2 : (i 2).val < 512 := (i 2).isLt
  let u : S8x512x1536.Idx := ValueIdx.ix3 ⟨(i 0).val, b0⟩ ⟨(i 2).val, b2⟩ ⟨128 * (t.val / 8) + (i 1).val, by omega⟩
  let w : S4096x1536.Idx := ValueIdx.ix2 ⟨512 * (i 0).val + (i 2).val, by omega⟩ ⟨128 * (t.val / 8) + (i 1).val, by omega⟩
  refine (transpose_apply _ _ transposes_S8x512x1536_S8x1536x512_0_2_1 _ u (fun d => ?_)).trans ?_
  · match d with
    | ⟨0, _⟩ => show (i 0).val = win0_1.index t 0 * 8 + 1 * (i 0).val; rw [(idx1 t).1]; omega
    | ⟨1, _⟩ => show 128 * (t.val / 8) + (i 1).val = win0_1.index t 1 * 128 + 1 * (i 1).val; rw [(idx1 t).2.1]; omega
    | ⟨2, _⟩ => show (i 2).val = win0_1.index t 2 * 512 + 1 * (i 2).val; rw [(idx1 t).2.2]; omega
  · rw [shapeCast_apply _ shapeCasts_S4096x1536_S8x512x1536 u w (by
      rewrite [Shape.rowMajor_val_three, Shape.rowMajor_val_two]
      show (512 * (i 0).val + (i 2).val) * 1536 + (128 * (t.val / 8) + (i 1).val) = ((i 0).val * 512 + (i 2).val) * 1536 + (128 * (t.val / 8) + (i 1).val)
      omega)]
    refine (joined_reads h.q h.k h.v w).trans ?_
    show (((if 128 * (t.val / 8) + (i 1).val < 512 then _ else _) : ℝ) : EReal) = _
    rw [if_pos (by omega)]
    rfl

/-- Its turned cotangents. -/
theorem has_ot (c : Dev nD) (h : Launched m c A B C O L M) (t : Fin cfg0.N) : Reads3 (ins m c t).ot fun b l r => (nums A B C O L M (t.val / 8)).O (512 * b + r) l := fun i => by
  have ht : t.val < 32 := Nat.lt_of_lt_of_eq t.isLt N_0
  show iblk m c 5 t i = _
  unfold iblk
  rw [View.read_apply]
  show V m c main_v53 _ = _
  rw [V_dot m c]
  have b0 : (i 0).val < 8 := (i 0).isLt
  have b1 : (i 1).val < 128 := (i 1).isLt
  have b2 : (i 2).val < 512 := (i 2).isLt
  let u : S8x512x512.Idx := ValueIdx.ix3 ⟨(i 0).val, b0⟩ ⟨(i 2).val, b2⟩ ⟨128 * (t.val / 8) + (i 1).val, by omega⟩
  let w : S4096x512.Idx := ValueIdx.ix2 ⟨512 * (i 0).val + (i 2).val, by omega⟩ ⟨128 * (t.val / 8) + (i 1).val, by omega⟩
  refine (transpose_apply _ _ transposes_S8x512x512_S8x512x512_0_2_1 _ u (fun d => ?_)).trans ?_
  · match d with
    | ⟨0, _⟩ => show (i 0).val = win0_5.index t 0 * 8 + 1 * (i 0).val; rw [(idx5 t).1]; omega
    | ⟨1, _⟩ => show 128 * (t.val / 8) + (i 1).val = win0_5.index t 1 * 128 + 1 * (i 1).val; rw [(idx5 t).2.1]; omega
    | ⟨2, _⟩ => show (i 2).val = win0_5.index t 2 * 512 + 1 * (i 2).val; rw [(idx5 t).2.2]; omega
  · rw [shapeCast_apply _ shapeCasts_S4096x512_S8x512x512 u w (by
      rewrite [Shape.rowMajor_val_three, Shape.rowMajor_val_two]
      show (512 * (i 0).val + (i 2).val) * 512 + (128 * (t.val / 8) + (i 1).val) = ((i 0).val * 512 + (i 2).val) * 512 + (128 * (t.val / 8) + (i 1).val)
      omega)]
    exact h.o w

/-- Its forget sums. -/
theorem has_f (c : Dev nD) (h : Launched m c A B C O L M) (t : Fin cfg0.N) : Reads3 (ins m c t).f fun _ h y => L (512 * (t.val % 8) + y) h := fun i => by
  have ht : t.val < 32 := Nat.lt_of_lt_of_eq t.isLt N_0
  show iblk m c 7 t i = _
  unfold iblk
  rw [View.read_apply]
  show V m c main_v55 _ = _
  rw [V_f m c]
  have b0 : (i 0).val < 1 := (i 0).isLt
  have b1 : (i 1).val < 8 := (i 1).isLt
  have b2 : (i 2).val < 512 := (i 2).isLt
  let u : S8x512x8.Idx := ValueIdx.ix3 ⟨t.val % 8, by omega⟩ ⟨(i 2).val, b2⟩ ⟨(i 1).val, b1⟩
  let w : S4096x8.Idx := ValueIdx.ix2 ⟨512 * (t.val % 8) + (i 2).val, by omega⟩ ⟨(i 1).val, b1⟩
  refine (transpose_apply _ _ transposes_S8x512x8_S8x8x512_0_2_1 _ u (fun d => ?_)).trans ?_
  · match d with
    | ⟨0, _⟩ => show t.val % 8 = win0_7.index t 0 * 1 + 1 * (i 0).val; rw [(idx7 t).1]; omega
    | ⟨1, _⟩ => show (i 1).val = win0_7.index t 1 * 8 + 1 * (i 1).val; rw [(idx7 t).2.1]; omega
    | ⟨2, _⟩ => show (i 2).val = win0_7.index t 2 * 512 + 1 * (i 2).val; rw [(idx7 t).2.2]; omega
  · rw [shapeCast_apply _ shapeCasts_S4096x8_S8x512x8 u w (by
      rewrite [Shape.rowMajor_val_three, Shape.rowMajor_val_two]
      show (512 * (t.val % 8) + (i 2).val) * 8 + (i 1).val = (t.val % 8 * 512 + (i 2).val) * 8 + (i 1).val
      omega)]
    exact h.f w

/-- Its statistics. -/
theorem has_st (c : Dev nD) (h : Launched m c A B C O L M) (t : Fin cfg0.N) : Reads3 (ins m c t).st fun _ r l => (nums A B C O L M (t.val / 8)).S r l := fun i => by
  have ht : t.val < 32 := Nat.lt_of_lt_of_eq t.isLt N_0
  show iblk m c 6 t i = _
  unfold iblk
  rw [View.read_apply]
  show V m c main_v46 _ = _
  rw [V_st m c, stats_reads (hostLse_reads h.q h.k h.f h.top) (hostMean_reads h.q h.k h.v h.f h.o h.top) _]
  have b0 : (i 0).val < 1 := (i 0).isLt
  show (((nums A B C O L M (win0_6.index t 0 * 1 + 1 * (i 0).val)).S (win0_6.index t 1 * 4096 + 1 * (i 1).val) (win0_6.index t 2 * 128 + 1 * (i 2).val) : ℝ) : EReal)
    = (((nums A B C O L M (t.val / 8)).S (i 1).val (i 2).val : ℝ) : EReal)
  rw [(idx6 t).1, (idx6 t).2.1, (idx6 t).2.2, show t.val / 8 * 1 + 1 * (i 0).val = t.val / 8 by omega, show 0 * 4096 + 1 * (i 1).val = (i 1).val by omega,
    show 0 * 128 + 1 * (i 2).val = (i 2).val by omega]

/-- The pair of heads of a point. -/
theorem pair_of (t : Fin cfg0.N) : (grid0.coords t 0).val = t.val / 8 := by
  have ht : t.val < 32 := Nat.lt_of_lt_of_eq t.isLt N_0
  rw [row]; omega

/-- Point `t`'s blocks hold its pair's numbers. -/
theorem has (c : Dev nD) (h : Launched m c A B C O L M) (t : Fin cfg0.N) : Has (nums A B C O L M (t.val / 8)) (grid0.coords t) (t.val % 8) (ins m c t) := by
  have hu : (grid0.coords t 0).val < 4 := by rw [row]; omega
  refine ⟨hu, has_q m c h t, has_qt m c h t, has_k m c h t, has_v m c h t, has_o m c h t, has_ot m c h t, has_st m c h t,
    (bias0_reads hu (has_f m c h t)).congr fun r y _ _ => ?_, (bias1_reads hu (has_f m c h t)).congr fun r y _ _ => ?_⟩
  · rw [pair_of]
    rfl
  · rw [pair_of]
    rfl

end Cert.Kernel3Ideal.Fox

end
-- ==== Proof.Fox.Arrays.lean ====
/- What the forgetting attention gradient's kernel leaves in its four result arrays, over real numbers. -/
module

public import proofs.«01_k».proof.Proof.Fox.Blocks

@[expose] public section

set_option maxRecDepth 16384

noncomputable section

namespace Cert.Kernel3Ideal.Fox

open Idealize.ShloMosaic Idealize.ShloMosaic.Tactic Idealize.ShloMosaic.TcCoe Cert.Kernel3Ideal Cert.Kernel3Ideal.Gen Cert.Reals

theorem idx8 : ∀ t : Fin cfg0.N, win0_8.index t 0 = 0 ∧ win0_8.index t 1 = t.val / 8 :=
  (by decide +kernel : ∀ t : Fin grid0.N, win0_8.index t 0 = 0 ∧ win0_8.index t 1 = t.val / 8)
theorem idx9 : ∀ t : Fin cfg0.N, win0_9.index t 0 = t.val % 8 ∧ win0_9.index t 1 = t.val / 8 :=
  (by decide +kernel : ∀ t : Fin grid0.N, win0_9.index t 0 = t.val % 8 ∧ win0_9.index t 1 = t.val / 8)
theorem idx10 : ∀ t : Fin cfg0.N, win0_10.index t 0 = t.val % 8 ∧ win0_10.index t 1 = t.val / 8 :=
  (by decide +kernel : ∀ t : Fin grid0.N, win0_10.index t 0 = t.val % 8 ∧ win0_10.index t 1 = t.val / 8)
theorem idx11 : ∀ t : Fin cfg0.N, win0_11.index t 0 = 0 ∧ win0_11.index t 1 = 0 :=
  (by decide +kernel : ∀ t : Fin grid0.N, win0_11.index t 0 = 0 ∧ win0_11.index t 1 = 0)

/-- The forget sums' gradient of head `n` once `j` column blocks are in: the rows' sums over these columns, and in these rows the
    columns' sums taken away. -/
def Nums.part (N : Nums) (j n r : ℕ) : ℝ :=
  (∑ c ∈ Finset.range (512 * j), N.G n r c) - if r < 512 * j then ∑ a ∈ Finset.range 4096, N.G n a r else 0

theorem Nums.part_zero (N : Nums) (n r : ℕ) : N.part 0 n r = 0 := by
  unfold Nums.part
  rw [Nat.mul_zero, Finset.range_zero, Finset.sum_empty, if_neg (Nat.not_lt_zero r), sub_zero]

/-- One more column block. -/
theorem Nums.part_more (N : Nums) (j n r : ℕ) : N.part j n r + N.step j n r = N.part (j + 1) n r := by
  unfold Nums.part Nums.step
  rw [show 512 * (j + 1) = 512 * j + 512 by omega, Finset.sum_range_add]
  by_cases h1 : r < 512 * j
  · rw [if_pos h1, if_neg (by omega), if_pos (by omega)]; ring
  · rw [if_neg h1]
    by_cases h2 : r < 512 * j + 512
    · rw [if_pos ⟨by omega, h2⟩, if_pos h2]; ring
    · rw [if_neg (by omega), if_neg h2]; ring

theorem inLane_eq (u : ℕ) (f : ℕ → ℝ) (l : ℕ) : inLane u f l = if l / 2 = u then f (l % 2) else 0 := by
  unfold inLane
  by_cases h1 : l = 2 * u
  · rw [if_pos h1, if_pos (by omega), show l % 2 = 0 by omega]
  · rw [if_neg h1]
    by_cases h2 : l = 2 * u + 1
    · rw [if_pos h2, if_pos (by omega), show l % 2 = 1 by omega]
    · rw [if_neg h2, if_neg (by omega)]

variable (m : (ℓ : Loc nD τ sig) → Buf (Elt Ideal) ℓ)
variable {A B C O L : ℕ → ℕ → ℝ} {M : ℕ → ℕ → ℝ}

/-- The forget sums' gradient lane by lane once the pairs below `u` are done and `j` column blocks of pair `u`. -/
def forgot (A B C O L M : ℕ → ℕ → ℝ) (u j r l : ℕ) : ℝ :=
  if l / 2 < u then (nums A B C O L M (l / 2)).part 8 (l % 2) r else if l / 2 = u then (nums A B C O L M u).part j (l % 2) r else 0

theorem forgot_start (r l : ℕ) : forgot A B C O L M 0 0 r l = 0 := by
  unfold forgot
  rw [if_neg (Nat.not_lt_zero _), Nums.part_zero, ite_self]

theorem forgot_next (u r l : ℕ) : forgot A B C O L M u 8 r l = forgot A B C O L M (u + 1) 0 r l := by
  unfold forgot
  rw [Nums.part_zero, ite_self]
  by_cases h : l / 2 < u
  · rw [if_pos h, if_pos (by omega)]
  · rw [if_neg h]
    by_cases h2 : l / 2 = u
    · rw [if_pos h2, if_pos (by omega), h2]
    · rw [if_neg h2, if_neg (by omega)]

theorem forgot_more (u j r l : ℕ) : forgot A B C O L M u j r l + inLane u (fun n => (nums A B C O L M u).step j n r) l = forgot A B C O L M u (j + 1) r l := by
  rw [inLane_eq]
  unfold forgot
  by_cases h : l / 2 < u
  · rw [if_pos h, if_pos h, if_neg (by omega), add_zero]
  · rw [if_neg h, if_neg h]
    by_cases h2 : l / 2 = u
    · rw [if_pos h2, if_pos h2, if_pos h2, Nums.part_more]
    · rw [if_neg h2, if_neg h2, if_neg h2, add_zero]

/-- The queries' gradient of pair `u` once `j` column blocks are in. -/
def asked (A B C O L M : ℕ → ℕ → ℝ) (u j r l : ℕ) : ℝ :=
  (∑ y ∈ Finset.range (512 * j), (nums A B C O L M u).G (l / 64) r y * (nums A B C O L M u).K y l) * (1 / 8)

theorem asked_start (u r l : ℕ) : asked A B C O L M u 0 r l = 0 := by
  unfold asked
  rw [Nat.mul_zero, Finset.range_zero, Finset.sum_empty, zero_mul]

/-- A point adds its column block to both. -/
theorem point_reads (c : Dev nD) (h : Launched m c A B C O L M) (t : Fin cfg0.N) (d e : Vec Ideal S4096x128 .f32)
    (hd : Reads d (asked A B C O L M (t.val / 8) (t.val % 8))) (he : Reads e (forgot A B C O L M (t.val / 8) (t.val % 8))) (j : ℕ) (hj : j < 8) (ej : j = t.val % 8) :
    Reads (whole (grid0.coords t) (ins m c t) j hj d e).2.1 (asked A B C O L M (t.val / 8) (t.val % 8 + 1))
      ∧ Reads (whole (grid0.coords t) (ins m c t) j hj d e).2.2 (forgot A B C O L M (t.val / 8) (t.val % 8 + 1)) := by
  subst ej
  have w := whole_reads (has m c h t) hj hd he (fun hz r l => by rw [hz]; exact asked_start _ r l)
    (fun hz r l => by
      have h0 := hz.1
      rw [pair_of] at h0
      rw [h0, hz.2]; exact forgot_start r l)
  refine ⟨w.2.1.congr fun r l _ _ => ?_, w.2.2.congr fun r l _ _ => ?_⟩
  · unfold asked
    rw [show 512 * (t.val % 8 + 1) = 512 * (t.val % 8) + 512 by omega, Finset.sum_range_add, add_mul]
  · rw [pair_of]
    exact forgot_more _ _ r l

/-- Both gradients after a point: the column blocks so far are in. -/
theorem outAt_reads (c : Dev nD) (h : Launched m c A B C O L M) : ∀ n (hn : n < cfg0.N),
    Reads (outAt m c n hn).1 (asked A B C O L M (n / 8) (n % 8 + 1)) ∧ Reads (outAt m c n hn).2 (forgot A B C O L M (n / 8) (n % 8 + 1)) := by
  intro n
  induction n with
  | zero =>
    intro hn
    have h0 : (grid0.coords ⟨0, hn⟩ 0).val = 0 ∧ (grid0.coords ⟨0, hn⟩ 1).val = 0 := ⟨by rw [row]; simp, by rw [col]; simp⟩
    rw [outAt_first m c ⟨0, hn⟩ h0]
    exact point_reads m c h ⟨0, hn⟩ _ _ (cleared.congr fun r l _ _ => (asked_start _ r l).symm) (clearedF.congr fun r l _ _ => by simp only [Nat.zero_div, Nat.zero_mod]; exact (forgot_start r l).symm) _ _ (col _)
  | succ n ih =>
    intro hn
    have hN : cfg0.N = 32 := N_0
    have p := ih (Nat.lt_of_succ_lt hn)
    by_cases hz : (grid0.coords ⟨n + 1, hn⟩ 1).val = 0
    · have h8 : (n + 1) % 8 = 0 := by rw [← hz, col]
      rw [outAt_next m c ⟨n + 1, hn⟩ hz (fun hh => by
        have h0 := hh.1
        rw [pair_of] at h0
        have : (n + 1) / 8 = 0 := h0
        omega)]
      refine point_reads m c h ⟨n + 1, hn⟩ _ _ (cleared.congr fun r l _ _ => ?_) (p.2.congr fun r l _ _ => ?_) _ _ (col _)
      · show 0 = asked A B C O L M ((n + 1) / 8) ((n + 1) % 8) r l
        rw [h8, asked_start]
      · show _ = forgot A B C O L M ((n + 1) / 8) ((n + 1) % 8) r l
        rw [h8, show (n + 1) / 8 = n / 8 + 1 by omega, ← forgot_next, show n % 8 + 1 = 8 by omega]
    · have h8 : (n + 1) % 8 ≠ 0 := fun e => hz (by rw [col]; exact e)
      rw [outAt_later m c ⟨n + 1, hn⟩ hz]
      refine point_reads m c h ⟨n + 1, hn⟩ _ _ (p.1.congr fun r l _ _ => ?_) (p.2.congr fun r l _ _ => ?_) _ _ (col _)
      · show _ = asked A B C O L M ((n + 1) / 8) ((n + 1) % 8) r l
        rw [show (n + 1) / 8 = n / 8 by omega, show (n + 1) % 8 = n % 8 + 1 by omega]
      · show _ = forgot A B C O L M ((n + 1) / 8) ((n + 1) % 8) r l
        rw [show (n + 1) / 8 = n / 8 by omega, show (n + 1) % 8 = n % 8 + 1 by omega]

/-- The queries' gradient. -/
def wideQ (A B C O L M : ℕ → ℕ → ℝ) (r l : ℕ) : ℝ :=
  (∑ c ∈ Finset.range 4096, (nums A B C O L M (l / 128)).G (l % 128 / 64) r c * B c l) * (1 / 8)

/-- The keys' gradient. -/
def wideK (A B C O L M : ℕ → ℕ → ℝ) (c l : ℕ) : ℝ :=
  (∑ r ∈ Finset.range 4096, A r l * s2 * (nums A B C O L M (l / 128)).G (l % 128 / 64) r c) * Real.log 2

/-- The values' gradient. -/
def wideV (A B C O L M : ℕ → ℕ → ℝ) (c l : ℕ) : ℝ :=
  ∑ r ∈ Finset.range 4096, O r l * (nums A B C O L M (l / 128)).W (l % 128 / 64) r c

/-- An array that holds real numbers. -/
def held {a b : ℕ} (f : ℕ → ℕ → ℝ) : (⟨2, ![a, b]⟩ : Shape).Idx → EReal := fun i => ((f (i 0).val (i 1).val : ℝ) : EReal)

/-- The keys' gradient. -/
theorem array_k (c : Dev nD) (h : Launched m c A B C O L M) :
    (dats m 0 c).arrAt 9 cfg0.N = (held (wideK A B C O L M) : S4096x512.Idx → EReal) := by
  refine (dats m 0 c).arrAt_eq_of_cover 9 _ (fun t _ => ?_) fun i => ?_
  · funext y
    rw [View.read_apply]
    have hj : (grid0.coords t 1).val = t.val % 8 := col t
    have b0 : (y 0).val < 512 := (y 0).isLt
    have b1 : (y 1).val < 128 := (y 1).isLt
    have e : ∀ j (hj : j < 8), j = t.val % 8 → outK (grid0.coords t) (ins m c t) j hj y = ((wideK A B C O L M (512 * (t.val % 8) + (y 0).val) (128 * (t.val / 8) + (y 1).val) : ℝ) : EReal) := by
      rintro j hj rfl
      rw [outK_reads (has m c h t) hj y]
      unfold wideK
      rw [show (128 * (t.val / 8) + (y 1).val) / 128 = t.val / 8 by omega, show (128 * (t.val / 8) + (y 1).val) % 128 = (y 1).val by omega]
      rfl
    show outK (grid0.coords t) (ins m c t) (grid0.coords t 1).val (col_lt t) y = ((wideK A B C O L M (win0_9.index t 0 * 512 + 1 * (y 0).val) (win0_9.index t 1 * 128 + 1 * (y 1).val) : ℝ) : EReal)
    rw [(idx9 t).1, (idx9 t).2, e _ _ hj, show t.val % 8 * 512 + 1 * (y 0).val = 512 * (t.val % 8) + (y 0).val by omega,
      show t.val / 8 * 128 + 1 * (y 1).val = 128 * (t.val / 8) + (y 1).val by omega]
  · have h0 : (i 0).val < 4096 := (i 0).isLt
    have h1 : (i 1).val < 512 := (i 1).isLt
    refine ⟨⟨(i 1).val / 128 * 8 + (i 0).val / 512, by have hN : cfg0.N = 32 := N_0; omega⟩, flush0_9 _, ?_⟩
    generalize ht : (⟨(i 1).val / 128 * 8 + (i 0).val / 512, _⟩ : Fin cfg0.N) = t
    have hv : t.val = (i 1).val / 128 * 8 + (i 0).val / 512 := by rw [← ht]
    show i ∈ ((View.whole main_v56_1).slice (win0_9.rect t)).set
    rw [View.set_slice_whole, Rect.mem_set_unit]
    intro a
    match a with
    | ⟨0, _⟩ =>
      show win0_9.index t 0 * 512 ≤ (i 0).val ∧ (i 0).val < win0_9.index t 0 * 512 + 512
      rw [(idx9 t).1]; omega
    | ⟨1, _⟩ =>
      show win0_9.index t 1 * 128 ≤ (i 1).val ∧ (i 1).val < win0_9.index t 1 * 128 + 128
      rw [(idx9 t).2]; omega

/-- The values' gradient. -/
theorem array_v (c : Dev nD) (h : Launched m c A B C O L M) :
    (dats m 0 c).arrAt 10 cfg0.N = (held (wideV A B C O L M) : S4096x512.Idx → EReal) := by
  refine (dats m 0 c).arrAt_eq_of_cover 10 _ (fun t _ => ?_) fun i => ?_
  · funext y
    rw [View.read_apply]
    have hj : (grid0.coords t 1).val = t.val % 8 := col t
    have b0 : (y 0).val < 512 := (y 0).isLt
    have b1 : (y 1).val < 128 := (y 1).isLt
    have e : ∀ j (hj : j < 8), j = t.val % 8 → outV (grid0.coords t) (ins m c t) j hj y = ((wideV A B C O L M (512 * (t.val % 8) + (y 0).val) (128 * (t.val / 8) + (y 1).val) : ℝ) : EReal) := by
      rintro j hj rfl
      rw [outV_reads (has m c h t) hj y]
      unfold wideV
      rw [show (128 * (t.val / 8) + (y 1).val) / 128 = t.val / 8 by omega, show (128 * (t.val / 8) + (y 1).val) % 128 = (y 1).val by omega]
      rfl
    show outV (grid0.coords t) (ins m c t) (grid0.coords t 1).val (col_lt t) y = ((wideV A B C O L M (win0_10.index t 0 * 512 + 1 * (y 0).val) (win0_10.index t 1 * 128 + 1 * (y 1).val) : ℝ) : EReal)
    rw [(idx10 t).1, (idx10 t).2, e _ _ hj, show t.val % 8 * 512 + 1 * (y 0).val = 512 * (t.val % 8) + (y 0).val by omega,
      show t.val / 8 * 128 + 1 * (y 1).val = 128 * (t.val / 8) + (y 1).val by omega]
  · have h0 : (i 0).val < 4096 := (i 0).isLt
    have h1 : (i 1).val < 512 := (i 1).isLt
    refine ⟨⟨(i 1).val / 128 * 8 + (i 0).val / 512, by have hN : cfg0.N = 32 := N_0; omega⟩, flush0_10 _, ?_⟩
    generalize ht : (⟨(i 1).val / 128 * 8 + (i 0).val / 512, _⟩ : Fin cfg0.N) = t
    have hv : t.val = (i 1).val / 128 * 8 + (i 0).val / 512 := by rw [← ht]
    show i ∈ ((View.whole main_v56_2).slice (win0_10.rect t)).set
    rw [View.set_slice_whole, Rect.mem_set_unit]
    intro a
    match a with
    | ⟨0, _⟩ =>
      show win0_10.index t 0 * 512 ≤ (i 0).val ∧ (i 0).val < win0_10.index t 0 * 512 + 512
      rw [(idx10 t).1]; omega
    | ⟨1, _⟩ =>
      show win0_10.index t 1 * 128 ≤ (i 1).val ∧ (i 1).val < win0_10.index t 1 * 128 + 128
      rw [(idx10 t).2]; omega

/-- The queries' gradient. -/
theorem array_q (c : Dev nD) (h : Launched m c A B C O L M) :
    (dats m 0 c).arrAt 8 cfg0.N = (held (wideQ A B C O L M) : S4096x512.Idx → EReal) := by
  refine (dats m 0 c).arrAt_eq_of_cover 8 _ (fun t hf => ?_) fun i => ?_
  · have h7 : t.val % 8 = 7 := (flush0_8 t).1 hf
    funext y
    rw [View.read_apply]
    have b0 : (y 0).val < 4096 := (y 0).isLt
    have b1 : (y 1).val < 128 := (y 1).isLt
    show (outAt m c t.val t.isLt).1 y = ((wideQ A B C O L M (win0_8.index t 0 * 4096 + 1 * (y 0).val) (win0_8.index t 1 * 128 + 1 * (y 1).val) : ℝ) : EReal)
    rw [(idx8 t).1, (idx8 t).2, (outAt_reads m c h t.val t.isLt).1 y, h7]
    unfold wideQ asked
    rw [show t.val / 8 * 128 + 1 * (y 1).val = 128 * (t.val / 8) + (y 1).val by omega, show 0 * 4096 + 1 * (y 0).val = (y 0).val by omega,
      show (128 * (t.val / 8) + (y 1).val) / 128 = t.val / 8 by omega, show (128 * (t.val / 8) + (y 1).val) % 128 = (y 1).val by omega]
    rfl
  · have h0 : (i 0).val < 4096 := (i 0).isLt
    have h1 : (i 1).val < 512 := (i 1).isLt
    refine ⟨⟨(i 1).val / 128 * 8 + 7, by have hN : cfg0.N = 32 := N_0; omega⟩, (flush0_8 _).2 (by show ((i 1).val / 128 * 8 + 7) % 8 = 7; omega), ?_⟩
    generalize ht : (⟨(i 1).val / 128 * 8 + 7, _⟩ : Fin cfg0.N) = t
    have hv : t.val = (i 1).val / 128 * 8 + 7 := by rw [← ht]
    show i ∈ ((View.whole main_v56_0).slice (win0_8.rect t)).set
    rw [View.set_slice_whole, Rect.mem_set_unit]
    intro a
    match a with
    | ⟨0, _⟩ =>
      show win0_8.index t 0 * 4096 ≤ (i 0).val ∧ (i 0).val < win0_8.index t 0 * 4096 + 4096
      rw [(idx8 t).1]; omega
    | ⟨1, _⟩ =>
      show win0_8.index t 1 * 128 ≤ (i 1).val ∧ (i 1).val < win0_8.index t 1 * 128 + 128
      rw [(idx8 t).2]; omega

/-- The forget sums' gradient. -/
theorem array_f (c : Dev nD) (h : Launched m c A B C O L M) :
    (dats m 0 c).arrAt 11 cfg0.N = (held (forgot A B C O L M 3 8) : S4096x128.Idx → EReal) := by
  refine (dats m 0 c).arrAt_eq_of_cover 11 _ (fun t hf => ?_) fun i => ?_
  · have h31 : t.val % 32 = 31 := (flush0_11 t).1 hf
    have ht : t.val < 32 := Nat.lt_of_lt_of_eq t.isLt N_0
    funext y
    rw [View.read_apply]
    show (outAt m c t.val t.isLt).2 y = ((forgot A B C O L M 3 8 (win0_11.index t 0 * 4096 + 1 * (y 0).val) (win0_11.index t 1 * 128 + 1 * (y 1).val) : ℝ) : EReal)
    rw [(idx11 t).1, (idx11 t).2, (outAt_reads m c h t.val t.isLt).2 y, show t.val / 8 = 3 by omega, show t.val % 8 + 1 = 8 by omega,
      show 0 * 4096 + 1 * (y 0).val = (y 0).val by omega, show 0 * 128 + 1 * (y 1).val = (y 1).val by omega]
  · have h0 : (i 0).val < 4096 := (i 0).isLt
    have h1 : (i 1).val < 128 := (i 1).isLt
    refine ⟨⟨31, by have hN : cfg0.N = 32 := N_0; omega⟩, (flush0_11 _).2 rfl, ?_⟩
    generalize (⟨31, _⟩ : Fin cfg0.N) = t
    show i ∈ ((View.whole main_v56_3).slice (win0_11.rect t)).set
    rw [View.set_slice_whole, Rect.mem_set_unit]
    intro a
    match a with
    | ⟨0, _⟩ =>
      show win0_11.index t 0 * 4096 ≤ (i 0).val ∧ (i 0).val < win0_11.index t 0 * 4096 + 4096
      rw [(idx11 t).1]; omega
    | ⟨1, _⟩ =>
      show win0_11.index t 1 * 128 ≤ (i 1).val ∧ (i 1).val < win0_11.index t 1 * 128 + 128
      rw [(idx11 t).2]; omega

end Cert.Kernel3Ideal.Fox

end
-- ==== Proof.Fox.Equation.lean ====
/- The forgetting attention gradient's kernel and its reference hold the same real numbers. -/
module

public import proofs.«01_k».proof.Proof.Fox.Arrays

@[expose] public section

set_option maxRecDepth 16384

noncomputable section

namespace Cert.Reals

variable {y y' : ℕ → ℕ → ℕ → ℝ} {h r : ℕ} {a : ℝ}

/-- The softmax's weights of a row do not change when its logits all move by the same number, nor with the number taken away before
    the exponential. -/
theorem soft_shift (M M' : ℕ → ℕ → ℝ) (hy : ∀ c, y' h r c = y h r c + a) (c : ℕ) : soft y' M' h r c = soft y M h r c := by
  have e : ∀ c, expo y' M' h r c = expo y M h r c * Real.exp (a + M h r - M' h r) := fun c => by
    unfold expo
    split
    · rw [← Real.exp_add, hy]; congr 1; ring
    · rw [zero_mul]
  unfold soft mass
  simp only [e]
  rw [← Finset.sum_mul, mul_div_mul_right _ _ (Real.exp_pos _).ne']

/-- Nor does the logits' gradient. -/
theorem back_shift (M M' : ℕ → ℕ → ℝ) (t : ℕ → ℕ → ℕ → ℝ) (hy : ∀ c, y' h r c = y h r c + a) (c : ℕ) : back y' M' t h r c = back y M t h r c := by
  unfold back mean
  simp only [soft_shift M M' hy]

end Cert.Reals

namespace Cert.Kernel3Ideal.Fox

open Idealize.ShloMosaic Idealize.ShloMosaic.Tactic Idealize.ShloMosaic.TcCoe Cert.Kernel3Ideal Cert.Kernel3Ideal.Gen Cert.Reals
open Cert.Reference3Ideal.Fox (sg prod pull)

variable (A B C O L M : ℕ → ℕ → ℝ)

theorem log_two_ne : Real.log 2 ≠ 0 := (Real.log_pos one_lt_two).ne'

theorem s2_log : s2 * Real.log 2 = sg := by unfold s2 sg; rw [mul_assoc, inv_mul_cancel₀ log_two_ne, mul_one]

/-- The kernel's logits, in powers of two, are the host's. -/
theorem powers (h r c : ℕ) : ((∑ l ∈ Finset.range 64, A r (64 * h + l) * s2 * B c (64 * h + l)) - (Real.log 2)⁻¹ * L c h) * Real.log 2 = shifted A B L h r c := by
  unfold shifted prod
  rw [sub_mul, Finset.sum_mul, Finset.sum_mul, mul_comm (Real.log 2)⁻¹, mul_assoc, inv_mul_cancel₀ log_two_ne, mul_one]
  congr 1
  refine Finset.sum_congr rfl fun d _ => ?_
  rw [← s2_log]; ring

/-- The kernel's weights are the softmax's. -/
theorem weights (g n r c : ℕ) (hn : n < 2) (hr : r < 4096) : (nums A B C O L M g).W n r c = soft (shifted A B L) M (2 * g + n) r c := by
  unfold Nums.W
  split
  · rename_i hc
    rw [← soft_pow (shifted A B L) M (2 * g + n) r c hr hc _ (powers A B L _ r c)]
    unfold wt
    show (2 : ℝ) ^ ((∑ l ∈ Finset.range 64, A r (128 * g + (64 * n + l)) * s2 * B c (128 * g + (64 * n + l))) - (Real.log 2)⁻¹ * L c (2 * g + n)
      - (if n < 2 then lse A B L M (2 * g + n) r else _)) = _
    rw [if_pos hn]
    simp only [show ∀ l, 128 * g + (64 * n + l) = 64 * (2 * g + n) + l from fun l => by omega]
    rfl
  · rename_i hc
    unfold soft expo
    rw [if_neg hc, zero_div]

/-- The kernel's gradient of the logits is the softmax's. -/
theorem grads (g n r c : ℕ) (hn : n < 2) (hr : r < 4096) : (nums A B C O L M g).G n r c = back (shifted A B L) M (pull C O) (2 * g + n) r c := by
  unfold Nums.G gr back
  rw [weights A B C O L M g n r c hn hr]
  show soft (shifted A B L) M (2 * g + n) r c * ((∑ l ∈ Finset.range 64, O r (128 * g + (64 * n + l)) * C c (128 * g + (64 * n + l)))
      - (if 2 + n < 2 then _ else if 2 + n < 4 then mean (shifted A B L) M (pull C O) (2 * g + (2 + n - 2)) r else _)) = _
  rw [if_neg (by omega), if_pos (by omega), show 2 + n - 2 = n by omega]
  unfold pull
  simp only [show ∀ l, 128 * g + (64 * n + l) = 64 * (2 * g + n) + l from fun l => by omega]

variable (M' : ℕ → ℕ → ℝ)

/-- The reference's logits. -/
abbrev scores : ℕ → ℕ → ℕ → ℝ := Cert.Reference3Ideal.Fox.logit A B L

/-- The reference's logits are the host's and the row's forget sum. -/
theorem logit_shift (h r c : ℕ) : scores A B L h r c = shifted A B L h r c + L r h := by unfold scores Cert.Reference3Ideal.Fox.logit shifted; ring

theorem weights' (g n r c : ℕ) (hn : n < 2) (hr : r < 4096) : (nums A B C O L M g).W n r c = soft (scores A B L) M' (2 * g + n) r c := by
  rw [weights A B C O L M g n r c hn hr, soft_shift M M' (logit_shift A B L _ r)]

theorem grads' (g n r c : ℕ) (hn : n < 2) (hr : r < 4096) : (nums A B C O L M g).G n r c = back (scores A B L) M' (pull C O) (2 * g + n) r c := by
  rw [grads A B C O L M g n r c hn hr, back_shift M M' _ (logit_shift A B L _ r)]

theorem wideV_eq (c l : ℕ) : wideV A B C O L M c l = ∑ r ∈ Finset.range 4096, O r l * soft (scores A B L) M' (l / 64) r c := by
  unfold wideV
  refine Finset.sum_congr rfl fun r hr => ?_
  rw [weights' A B C O L M M' (l / 128) (l % 128 / 64) r c (by omega) (Finset.mem_range.1 hr), show 2 * (l / 128) + l % 128 / 64 = l / 64 by omega]

theorem wideK_eq (c l : ℕ) : wideK A B C O L M c l = ∑ r ∈ Finset.range 4096, back (scores A B L) M' (pull C O) (l / 64) r c * sg * A r l := by
  unfold wideK
  rw [Finset.sum_mul]
  refine Finset.sum_congr rfl fun r hr => ?_
  rw [grads' A B C O L M M' _ _ r c (by omega) (Finset.mem_range.1 hr), show 2 * (l / 128) + l % 128 / 64 = l / 64 by omega, ← s2_log]
  ring

theorem wideQ_eq (r l : ℕ) (hr : r < 4096) : wideQ A B C O L M r l = ∑ c ∈ Finset.range 4096, back (scores A B L) M' (pull C O) (l / 64) r c * sg * B c l := by
  unfold wideQ
  rw [Finset.sum_mul]
  refine Finset.sum_congr rfl fun c hc => ?_
  rw [grads' A B C O L M M' _ _ r c (by omega) hr, show 2 * (l / 128) + l % 128 / 64 = l / 64 by omega]
  show _ = _ * (1 / 8) * _
  ring

theorem forgot_eq (r l : ℕ) (hr : r < 4096) (hl : l < 8) : forgot A B C O L M 3 8 r l
    = (∑ c ∈ Finset.range 4096, back (scores A B L) M' (pull C O) l r c) - ∑ a ∈ Finset.range 4096, back (scores A B L) M' (pull C O) l a r := by
  have e : (nums A B C O L M (l / 2)).part 8 (l % 2) r
      = (∑ c ∈ Finset.range 4096, back (scores A B L) M' (pull C O) l r c) - ∑ a ∈ Finset.range 4096, back (scores A B L) M' (pull C O) l a r := by
    unfold Nums.part
    rw [show 512 * 8 = 4096 from rfl, if_pos hr,
      Finset.sum_congr rfl fun c _ => (grads' A B C O L M M' (l / 2) (l % 2) r c (Nat.mod_lt _ two_pos) hr),
      Finset.sum_congr rfl fun a ha => (grads' A B C O L M M' (l / 2) (l % 2) a r (Nat.mod_lt _ two_pos) (Finset.mem_range.1 ha)),
      show 2 * (l / 2) + l % 2 = l by omega]
  unfold forgot
  by_cases h : l / 2 < 3
  · rw [if_pos h, e]
  · have h3 : l / 2 = 3 := by omega
    rw [h3] at e
    rw [if_neg h, if_pos h3, e]

/-- The host's cut of the padded lanes. -/
def cut (x : FVec Ideal S4096x128 .f32) : FVec Ideal S4096x8 .f32 := extractStridedSlice S4096x8 ![0, 0] x slices_S4096x128_S4096x8_0_0

theorem cut_apply (f : ℕ → ℕ → ℝ) (i : S4096x8.Idx) : cut (held f : S4096x128.Idx → EReal) i = ((f (i 0).val (i 1).val : ℝ) : EReal) := by
  have b0 : (i 0).val < 4096 := (i 0).isLt
  have b1 : (i 1).val < 8 := (i 1).isLt
  unfold cut
  rw [extractStridedSlice_apply _ _ _ _ (ValueIdx.ix2 ⟨(i 0).val, b0⟩ ⟨(i 1).val, by omega⟩ : S4096x128.Idx) (fun a => by
      match a with
      | ⟨0, _⟩ => show (i 0).val = 0 + (i 0).val; omega
      | ⟨1, _⟩ => show (i 1).val = 0 + (i 1).val; omega)]
  rfl

variable (m : (ℓ : Loc nD τ sig) → Buf (Elt Ideal) ℓ)
variable {A B C O L M M'}

/-- The valuation the lines after the call start from. -/
abbrev left (c : Dev nD) : Valuation τ sig (Elt Ideal) :=
  Pipeline.withArrays spec0 c (V0 m c) fun w => (dats m 0 c).arrAt w cfg0.N

theorem tail_f (c : Dev nD) : Pipeline.afterTail₀ cfgs (dats m) 0 (V0 m) [hostOps1] c main_v57 = cut ((dats m 0 c).arrAt 11 cfg0.N) := by
  show StableHlo.after hostOps1 (left m c) (Proc.devRef .tc main_v57) = _
  have e : left m c (Proc.devRef .tc main_v56_3) = (dats m 0 c).arrAt 11 cfg0.N := (dats m 0 c).withArrays_arrAt sharedIn0 (V0 m c) (A_eq m c) 11
  rw [← e]
  generalize left m c = W
  simp only [hostOps1, StableHlo.TRef.nullary, StableHlo.TRef.binary, StableHlo.TRef.ternary, StableHlo.TRef.unary, StableHlo.TRef.toBuf, StableHlo.TRef.ofBuf, cast_eq]
  after_results_simp <;> rfl

/-- The run's four results: three arrays of the call, and the forget sums' gradient cut to the heads' lanes. -/
theorem run_results (ρ : Dev nD → PrngReg) : θ_run defs (onTc (τ := τ) (main (F := Ideal))) ⟨m, fun _ => 0, ρ⟩ fun r => ∀ c : Dev nD,
    r.2.mem ((c.tc : Thread nD τ).loc main_v56_0) = (dats m 0 c).arrAt 8 cfg0.N
    ∧ r.2.mem ((c.tc : Thread nD τ).loc main_v56_1) = (dats m 0 c).arrAt 9 cfg0.N
    ∧ r.2.mem ((c.tc : Thread nD τ).loc main_v56_2) = (dats m 0 c).arrAt 10 cfg0.N
    ∧ r.2.mem ((c.tc : Thread nD τ).loc main_v57) = cut ((dats m 0 c).arrAt 11 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c =>
      ⟨(h.1.1 c).1 8, (h.1.1 c).1 9, (h.1.1 c).1 10,
       ((h.1.1 c).2 main_v57 (Pipeline.mem_restRefs_of main_v57 (by decide) (by decide))).trans (tail_f m c), h.2.1 c⟩)
    (θ_run_and (run_main m ρ) (frame_main m ρ))

/-- The reference's queries' gradient is the kernel's. -/
theorem same_q (c : Dev nD) (h : Launched m c A B C O L M) :
    Cert.Reference3Ideal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      = (dats m 0 c).arrAt 8 cfg0.N := by
  obtain ⟨M', hM⟩ := Cert.Reference3Ideal.Fox.row_max h.q h.k h.f
  rw [array_q m c h]
  funext i
  rw [Cert.Reference3Ideal.Fox.dq_reads h.q h.k h.v h.f h.o hM i]
  show _ = ((wideQ A B C O L M (i 0).val (i 1).val : ℝ) : EReal)
  rw [wideQ_eq A B C O L M M' _ _ (i 0).isLt]

/-- The reference's keys' gradient is the kernel's. -/
theorem same_k (c : Dev nD) (h : Launched m c A B C O L M) :
    Cert.Reference3Ideal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      = (dats m 0 c).arrAt 9 cfg0.N := by
  obtain ⟨M', hM⟩ := Cert.Reference3Ideal.Fox.row_max h.q h.k h.f
  rw [array_k m c h]
  funext i
  rw [Cert.Reference3Ideal.Read.val_main_v94_apply]
  show Cert.Reference3Ideal.Read.val_main_v91 (F := Ideal) _ _ _ _ _ i = ((wideK A B C O L M (i 0).val (i 1).val : ℝ) : EReal)
  rw [Cert.Reference3Ideal.Fox.dk_reads h.q h.k h.v h.f h.o hM i, wideK_eq A B C O L M M']

/-- The reference's values' gradient is the kernel's. -/
theorem same_v (c : Dev nD) (h : Launched m c A B C O L M) :
    Cert.Reference3Ideal.Read.val_main_v95 (F := Ideal) (m ((c : Thread nD τ).loc main_arg0)) (m ((c : Thread nD τ).loc main_arg1)) (m ((c : Thread nD τ).loc main_arg3)) (m ((c : Thread nD τ).loc main_arg4))
      = (dats m 0 c).arrAt 10 cfg0.N := by
  obtain ⟨M', hM⟩ := Cert.Reference3Ideal.Fox.row_max h.q h.k h.f
  rw [array_v m c h]
  funext i
  rw [Cert.Reference3Ideal.Read.val_main_v95_apply]
  show Cert.Reference3Ideal.Read.val_main_v62 (F := Ideal) _ _ _ _ i = ((wideV A B C O L M (i 0).val (i 1).val : ℝ) : EReal)
  rw [Cert.Reference3Ideal.Fox.dv_reads h.q h.k h.f h.o hM i, wideV_eq A B C O L M M']

/-- The reference's forget sums' gradient is the kernel's. -/
theorem same_f (c : Dev nD) (h : Launched m c A B C O L M) :
    Cert.Reference3Ideal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      = cut ((dats m 0 c).arrAt 11 cfg0.N) := by
  obtain ⟨M', hM⟩ := Cert.Reference3Ideal.Fox.row_max h.q h.k h.f
  rw [array_f m c h]
  funext i
  rw [Cert.Reference3Ideal.Fox.df_reads h.q h.k h.v h.f h.o hM i, cut_apply, forgot_eq A B C O L M M' _ _ (i 0).isLt (i 1).isLt]

end Cert.Kernel3Ideal.Fox

end
-- ==== Proof.Real.Finite.lean ====
/- An array whose entries are all below infinity in absolute value holds real numbers. -/
module

public import proofs.«01_k».proof.Proof.Real.Reads

@[expose] public section

noncomputable section

namespace Cert.Reals

open Idealize.ShloMosaic Idealize.ShloMosaic.Tactic

/-- The real numbers of an array's entries. -/
def realsOf {m n : ℕ} (x : (⟨2, ![m, n]⟩ : Shape).Idx → EReal) (r c : ℕ) : ℝ :=
  if h : r < m ∧ c < n then (x (ValueIdx.ix2 ⟨r, h.1⟩ ⟨c, h.2⟩)).toReal else 0

/-- An extended real below infinity in absolute value is a real number. -/
theorem real_of_lt (a : EReal) (h : max a (-a) < ⊤) : a = ((a.toReal : ℝ) : EReal) := by
  have h1 : a ≠ ⊤ := fun e => by rw [e] at h; simp at h
  have h2 : a ≠ ⊥ := fun e => by rw [e] at h; simp at h
  exact (EReal.coe_toReal h1 h2).symm

/-- The comparison says it of every entry. -/
theorem reads_of_finite {m n : ℕ} {x y : FVec Ideal ⟨2, ![m, n]⟩ .f32} (hy : ∀ i, y i = (⊤ : EReal))
    (h : cmpf .olt (Host.absf x) y = fun _ => 1#1) : Reads x (realsOf x) := fun i => by
  have e := congrFun h i
  have hlt : max (x i) (-(x i)) < (⊤ : EReal) := by
    rw [← hy i]
    by_contra hc
    have : (cmpf .olt (Host.absf x) y) i = 0#1 := by
      show BitVec.ofBool (decide (max (x i) (-(x i)) < y i)) = _
      rw [decide_eq_false hc]; rfl
    rw [this] at e
    exact absurd e (by decide)
  rw [real_of_lt _ hlt]
  unfold realsOf
  rw [dif_pos ⟨(i 0).isLt, (i 1).isLt⟩]
  congr 3
  exact (ValueIdx.eq_ix2 i)

/-- The word of infinity. -/
theorem word_top : Ideal.ofBits .f32 0x7F800000#32 = (⊤ : EReal) := by simp [Ideal.ofBits, Ideal.ieee]

end Cert.Reals

end
-- ==== Proof.Real.Norm.lean ====
/- A root mean square norm and its gradient over real numbers, with the pieces of the kernels and of the references that
   compute them: quotients, the inverse root, sums along rows and down columns on the host, and spreading. -/
module

public import proofs.«01_k».proof.Proof.Real.Forget
public import proofs.«01_k».proof.Proof.Real.Softmax
public import proofs.«01_k».proof.Proof.Real.Finite
public import Idealize.ShloMosaic.Lib.IdealHost

@[expose] public section

set_option maxRecDepth 16384

noncomputable section

namespace Cert.Reals

open Idealize.ShloMosaic Idealize.ShloMosaic.Tactic

/-- The number the norms add to a mean square, as the word holds it. -/
def eps : ℝ := 8796093 / 8796093022208

theorem eps_pos : 0 < eps := by unfold eps; norm_num

theorem word_eps : Ideal.ofBits .f32 0x358637BD#32 = ((eps : ℝ) : EReal) := by
  unfold eps
  simp [Ideal.ofBits, Ideal.ieee, -EReal.coe_mul]
  norm_num

theorem word_1024 : Ideal.ofBits .f32 0x44800000#32 = ((1024 : ℝ) : EReal) := by
  simp [Ideal.ofBits, Ideal.ieee, -EReal.coe_mul]
  norm_num

theorem word_512 : Ideal.ofBits .f32 0x44000000#32 = ((512 : ℝ) : EReal) := by
  simp [Ideal.ofBits, Ideal.ieee, -EReal.coe_mul]
  norm_num

theorem word_neg_half : Ideal.ofBits .f32 0xBF000000#32 = ((-(1 / 2) : ℝ) : EReal) := by
  simp [Ideal.ofBits, Ideal.ieee, -EReal.coe_mul, -EReal.coe_neg]
  norm_num

/-- The mean square of row `r` and the small number. -/
def meanSq (n : ℕ) (x : ℕ → ℕ → ℝ) (r : ℕ) : ℝ := (∑ c ∈ Finset.range n, x r c * x r c) / (n : ℝ) + eps

theorem meanSq_pos (n : ℕ) (x : ℕ → ℕ → ℝ) (r : ℕ) : 0 < meanSq n x r :=
  add_pos_of_nonneg_of_pos (div_nonneg (Finset.sum_nonneg fun c _ => mul_self_nonneg _) (Nat.cast_nonneg n)) eps_pos

/-- One over the root mean square. -/
def rinv (n : ℕ) (x : ℕ → ℕ → ℝ) (r : ℕ) : ℝ := (Real.sqrt (meanSq n x r))⁻¹

/-- The gradient through the norm, from the gradient `d` of the normed row times its gains. -/
def normGrad (n : ℕ) (x d : ℕ → ℕ → ℝ) (r c : ℕ) : ℝ :=
  rinv n x r * d r c - x r c * (rinv n x r * rinv n x r * rinv n x r * ((∑ l ∈ Finset.range n, d r l * x r l) / (n : ℝ)))

/-- One over the root mean square, over the mean square, is its third power. -/
theorem rinv_over (n : ℕ) (x : ℕ → ℕ → ℝ) (r : ℕ) : rinv n x r / meanSq n x r = rinv n x r * rinv n x r * rinv n x r := by
  have h := meanSq_pos n x r
  have e : rinv n x r * rinv n x r = (meanSq n x r)⁻¹ := by
    unfold rinv
    rw [← mul_inv, Real.mul_self_sqrt h.le]
  rw [e, div_eq_mul_inv, mul_comm]

variable {m n : ℕ} {φ : FTy}

/-- A list of real numbers. -/
def Reads1 {n : ℕ} (x : (⟨1, ![n]⟩ : Shape).Idx → EReal) (f : ℕ → ℝ) : Prop := ∀ i, x i = ((f (i 0).val : ℝ) : EReal)

/-- A quotient by numbers other than zero. -/
theorem Reads.div {x y : FVec Ideal ⟨2, ![m, n]⟩ φ} {f g : ℕ → ℕ → ℝ} (hx : Reads x f) (hy : Reads y g)
    (h : ∀ r c, g r c ≠ 0) : Reads (divf x y) fun r c => f r c / g r c := fun i => by
  show Ideal.div (x i) (y i) = _
  rw [hx i, hy i, div_real (h _ _)]

theorem Reads.hostDiv {x y : FVec Ideal ⟨2, ![m, n]⟩ φ} {f g : ℕ → ℕ → ℝ} (hx : Reads x f) (hy : Reads y g)
    (h : ∀ r c, g r c ≠ 0) : Reads (Host.divf x y) fun r c => f r c / g r c := hx.div hy h

/-- The inverse root of positive numbers. -/
theorem Reads.rsqrt {x : FVec Ideal ⟨2, ![m, n]⟩ φ} {f : ℕ → ℕ → ℝ} (hx : Reads x f) (h : ∀ r c, 0 < f r c) :
    Reads (Idealize.ShloMosaic.rsqrt x) fun r c => (Real.sqrt (f r c))⁻¹ := fun i => by
  show Ideal.rsqrt (x i) = _
  rw [hx i, Ideal.rsqrt_coe, if_neg (h _ _).le.not_gt, if_neg (h _ _).ne']

theorem Reads.hostRsqrt {x : FVec Ideal ⟨2, ![m, n]⟩ φ} {f : ℕ → ℕ → ℝ} (hx : Reads x f) (h : ∀ r c, 0 < f r c) :
    Reads (Host.rsqrt x) fun r c => (Real.sqrt (f r c))⁻¹ := hx.rsqrt h

/-- One number everywhere. -/
theorem Reads.const {s : Ideal φ} {a : ℝ} (h : s = ((a : ℝ) : EReal)) : Reads (m := m) (n := n) (broadcast ⟨2, ![m, n]⟩ s) fun _ _ => a := fun _ => h

/-- One number everywhere, on the host. -/
theorem Reads.hostConst {w : BitVec 32} {a : ℝ} (h : Ideal.ofBits .f32 w = ((a : ℝ) : EReal))
    (hb : (⟨0, ![]⟩ : Shape).BroadcastsInDim ⟨2, ![m, n]⟩ ![]) :
    Reads (broadcastInDim ⟨2, ![m, n]⟩ ![] hb (constant (F := Ideal) ⟨0, ![]⟩ .f32 w)) fun _ _ => a := fun i => h

/-- One over the root mean square of a block's rows. -/
theorem Reads.rinvBlock {x : FVec Ideal ⟨2, ![m, n]⟩ .f32} {f : ℕ → ℕ → ℝ} (hx : Reads x f) {s e : Ideal .f32}
    (hs : s = (((n : ℝ) : ℝ) : EReal)) (he : e = ((eps : ℝ) : EReal)) (hn : n ≠ 0) (h : (⟨2, ![m, n]⟩ : Shape).Reduces [1] ⟨1, ![m]⟩)
    (h1 : FKind.Formats .f32) (h2 : (0x00000000#32 : BitVec 32) = FKind.add.neutral .f32 h1) (h3 : (⟨1, ![m]⟩ : Shape).ShapeCasts ⟨2, ![m, 1]⟩) :
    Reads (Idealize.ShloMosaic.rsqrt (addf (divf (shapeCast ⟨2, ![m, 1]⟩ (multiReduction .add [1] ⟨1, ![m]⟩ (mulf x x) 0x00000000#32 h h1 h2) h3)
      (broadcast ⟨2, ![m, 1]⟩ s)) (broadcast ⟨2, ![m, 1]⟩ e))) fun r _ => rinv n f r :=
  ((((hx.mul hx).rowSums h h1 h2 h3).div (Reads.const hs) fun _ _ => Nat.cast_ne_zero.mpr hn).add (Reads.const he)).rsqrt fun r _ => meanSq_pos n f r

/-- The gradient through the norm of a block's rows. -/
theorem Reads.normBlock {x d : FVec Ideal ⟨2, ![m, n]⟩ .f32} {q : FVec Ideal ⟨2, ![m, 1]⟩ .f32} {f g : ℕ → ℕ → ℝ} (hx : Reads x f)
    (hd : Reads d g) (hq : Reads q fun r _ => rinv n f r) (hm : m ≠ 1) (hn : n ≠ 0) {s : Ideal .f32} (hs : s = (((n : ℝ) : ℝ) : EReal))
    (h : (⟨2, ![m, n]⟩ : Shape).Reduces [1] ⟨1, ![m]⟩)
    (h1 : FKind.Formats .f32) (h2 : (0x00000000#32 : BitVec 32) = FKind.add.neutral .f32 h1) (h3 : (⟨1, ![m]⟩ : Shape).ShapeCasts ⟨2, ![m, 1]⟩)
    (h4 : (⟨2, ![m, 1]⟩ : Shape).Broadcasts ⟨2, ![m, n]⟩) :
    Reads (subf (mulf (broadcastTo ⟨2, ![m, n]⟩ q h4) d) (mulf x (broadcastTo ⟨2, ![m, n]⟩ (mulf (mulf (mulf q q) q)
      (divf (shapeCast ⟨2, ![m, 1]⟩ (multiReduction .add [1] ⟨1, ![m]⟩ (mulf d x) 0x00000000#32 h h1 h2) h3) (broadcast ⟨2, ![m, 1]⟩ s))) h4)))
      (normGrad n f g) :=
  ((hq.spread hm h4).mul hd).sub (hx.mul ((((hq.mul hq).mul hq).mul
    (((hd.mul hx).rowSums h h1 h2 h3).div (Reads.const hs) fun _ _ => Nat.cast_ne_zero.mpr hn)).spread hm h4))

/-- The sums along the rows, on the host. -/
theorem Reads.hostRows {u : Shape} {x : FVec Ideal ⟨2, ![m, n]⟩ .f32} {f : ℕ → ℕ → ℝ} (hx : Reads x f)
    (h : (⟨2, ![m, n]⟩ : Shape).ReducesTo [1] ⟨1, ![m]⟩) (h' : (⟨2, ![m, n]⟩ : Shape).Reduces [1] ⟨1, ![m]⟩) (hu : 0 < u.numel) :
    Reads1 (Host.reduceAdd x (constant (F := Ideal) u .f32 0x00000000#32) h hu) fun r => ∑ c ∈ Finset.range n, f r c := fun i => by
  simp only [Host.reduceAdd, Ideal.hostReduceAdd_def]
  rw [Ideal.hostReduceAdd_single h h']
  show Ideal.ofBits .f32 0x00000000#32 + ∑ k : Fin n, x _ = _
  beta_reduce
  rw [Ideal.ofBits_zero_f32, zero_add, Finset.sum_range, coe_sum]
  exact Finset.sum_congr rfl fun l _ => hx _

/-- The sums down the columns, on the host. -/
theorem Reads.hostCols {u : Shape} {x : FVec Ideal ⟨2, ![m, n]⟩ .f32} {f : ℕ → ℕ → ℝ} (hx : Reads x f)
    (h : (⟨2, ![m, n]⟩ : Shape).ReducesTo [0] ⟨1, ![n]⟩) (h' : (⟨2, ![m, n]⟩ : Shape).Reduces [0] ⟨1, ![n]⟩) (hu : 0 < u.numel) :
    Reads1 (Host.reduceAdd x (constant (F := Ideal) u .f32 0x00000000#32) h hu) fun c => ∑ r ∈ Finset.range m, f r c := fun i => by
  simp only [Host.reduceAdd, Ideal.hostReduceAdd_def]
  rw [Ideal.hostReduceAdd_single h h']
  show Ideal.ofBits .f32 0x00000000#32 + ∑ k : Fin m, x _ = _
  beta_reduce
  rw [Ideal.ofBits_zero_f32, zero_add, Finset.sum_range, coe_sum]
  exact Finset.sum_congr rfl fun l _ => hx _

/-- A list as a column, -/
theorem Reads1.column {x : (⟨1, ![m]⟩ : Shape).Idx → EReal} {f : ℕ → ℝ} (hx : Reads1 x f) (hm : m ≠ 1)
    (h : (⟨1, ![m]⟩ : Shape).BroadcastsInDim ⟨2, ![m, 1]⟩ ![0]) : Reads (broadcastInDim ⟨2, ![m, 1]⟩ ![0] h x) fun r _ => f r := fun i => by
  rw [broadcastInDim_apply _ h x i (ValueIdx.ix1 (i 0)) (fun a => by match a with | ⟨0, _⟩ => exact (if_neg hm).symm)]
  exact hx _

/-- as a column read in order, -/
theorem Reads1.upright {x : (⟨1, ![m]⟩ : Shape).Idx → EReal} {f : ℕ → ℝ} (hx : Reads1 x f)
    (h : (⟨1, ![m]⟩ : Shape).ShapeCasts ⟨2, ![m, 1]⟩) : Reads (shapeCast ⟨2, ![m, 1]⟩ x h) fun r _ => f r := fun i => by
  have i1 : (i 1).val = 0 := by have := (i 1).isLt; change (i 1).val < 1 at this; omega
  rw [shapeCast_apply x h i (ValueIdx.ix1 (i 0)) (by
    rewrite [Shape.rowMajor_val_one, Shape.rowMajor_val_two]
    show (i 0).val = (i 0).val * 1 + (i 1).val
    rw [i1, Nat.mul_one, Nat.add_zero])]
  exact hx _

/-- as a row, -/
theorem Reads1.across {x : (⟨1, ![n]⟩ : Shape).Idx → EReal} {f : ℕ → ℝ} (hx : Reads1 x f) (hn : n ≠ 1)
    (h : (⟨1, ![n]⟩ : Shape).BroadcastsInDim ⟨2, ![1, n]⟩ ![1]) : Reads (broadcastInDim ⟨2, ![1, n]⟩ ![1] h x) fun _ c => f c := fun i => by
  rw [broadcastInDim_apply _ h x i (ValueIdx.ix1 (i 1)) (fun a => by match a with | ⟨0, _⟩ => exact (if_neg hn).symm)]
  exact hx _

/-- as a row read in order; -/
theorem Reads1.flat {x : (⟨1, ![n]⟩ : Shape).Idx → EReal} {f : ℕ → ℝ} (hx : Reads1 x f)
    (h : (⟨1, ![n]⟩ : Shape).ShapeCasts ⟨2, ![1, n]⟩) : Reads (shapeCast ⟨2, ![1, n]⟩ x h) fun _ c => f c := fun i => by
  have i0 : (i 0).val = 0 := by have := (i 0).isLt; change (i 0).val < 1 at this; omega
  rw [shapeCast_apply x h i (ValueIdx.ix1 (i 1)) (by
    rewrite [Shape.rowMajor_val_one, Shape.rowMajor_val_two]
    show (i 1).val = (i 0).val * n + (i 1).val
    rw [i0, Nat.zero_mul, Nat.zero_add])]
  exact hx _

/-- and a row as a list. -/
theorem Reads.list {x : (⟨2, ![1, n]⟩ : Shape).Idx → EReal} {f : ℕ → ℕ → ℝ} (hx : Reads x f)
    (h : (⟨2, ![1, n]⟩ : Shape).ShapeCasts ⟨1, ![n]⟩) : Reads1 (shapeCast ⟨1, ![n]⟩ x h) fun c => f 0 c := fun i => by
  rw [shapeCast_apply x h i (ValueIdx.ix2 (0 : Fin 1) (i 0)) (by
    rewrite [Shape.rowMajor_val_one, Shape.rowMajor_val_two]
    show 0 * n + (i 0).val = (i 0).val
    rw [Nat.zero_mul, Nat.zero_add])]
  exact hx _

/-- A column spread over a row, on the host. -/
theorem Reads.hostSpread {x : (⟨2, ![m, 1]⟩ : Shape).Idx → EReal} {f : ℕ → ℕ → ℝ} (hx : Reads x f) (hm : m ≠ 1)
    (h : (⟨2, ![m, 1]⟩ : Shape).BroadcastsInDim ⟨2, ![m, n]⟩ ![0, 1]) :
    Reads (broadcastInDim ⟨2, ![m, n]⟩ ![0, 1] h x) fun r _ => f r 0 := fun i => by
  rw [broadcastInDim_apply _ h x i (ValueIdx.ix2 (i 0) 0) (fun a => by
    match a with
    | ⟨0, _⟩ => exact (if_neg hm).symm
    | ⟨1, _⟩ => rfl)]
  exact hx _

/-- A row spread over all rows, on the host. -/
theorem Reads.hostUnder {x : (⟨2, ![1, n]⟩ : Shape).Idx → EReal} {f : ℕ → ℕ → ℝ} (hx : Reads x f) (hn : n ≠ 1)
    (h : (⟨2, ![1, n]⟩ : Shape).BroadcastsInDim ⟨2, ![m, n]⟩ ![0, 1]) :
    Reads (broadcastInDim ⟨2, ![m, n]⟩ ![0, 1] h x) fun _ c => f 0 c := fun i => by
  rw [broadcastInDim_apply _ h x i (ValueIdx.ix2 0 (i 1)) (fun a => by
    match a with
    | ⟨0, _⟩ => rfl
    | ⟨1, _⟩ => exact (if_neg hn).symm)]
  exact hx _

/-- What is added to a number twice, half of it each time. -/
theorem add_halves (a : EReal) (b c d : ℝ) (h : b + c + c = d) : a + (b : EReal) + (c : EReal) + (c : EReal) = (d : EReal) + a := by
  rw [← h, EReal.coe_add, EReal.coe_add, add_assoc, add_assoc, add_comm a]
  simp only [add_assoc]

end Cert.Reals

end
-- ==== Proof.Up.Block.lean ====
/- The up projection's gradient through its norm, one block of rows, over real numbers. -/
module

public import proofs.«01_k».proof.Proof.Gen.Kernel4Ideal.Value
public import proofs.«01_k».proof.Proof.Real.Norm

@[expose] public section

set_option maxRecDepth 16384

noncomputable section

namespace Cert.Kernel4Ideal.Up

open Idealize.ShloMosaic Idealize.ShloMosaic.Tactic Cert.Kernel4Ideal Cert.Kernel4Ideal.Gen Cert.Reals

variable {d : FVec Ideal S512x4096 .bf16} {w : FVec Ideal S1024x4096 .bf16} {x res : FVec Ideal S512x1024 .f32} {g : FVec Ideal S1x1024 .f32}
variable {U W X G : ℕ → ℕ → ℝ}

/-- The gradient of the normed rows: the product with the weights turned. -/
abbrev pull (U W : ℕ → ℕ → ℝ) (r c : ℕ) : ℝ := ∑ k ∈ Finset.range 4096, U r k * W c k

/-- What a row adds to the gains' gradient. -/
abbrev gain (U W X : ℕ → ℕ → ℝ) (r c : ℕ) : ℝ := pull U W r c * (X r c * rinv 1024 X r)

theorem product (hd : Reads d U) (hw : Reads w W) : Reads (m := 512) (n := 1024) (k0_pay4 (F := Ideal) d w) (pull U W) :=
  (hd.same shapeCasts_S512x4096_S512x4096).dotT (hw.same shapeCasts_S1024x4096_S1024x4096) rfl

theorem root (hx : Reads x X) : Reads (m := 512) (n := 1) (k0_pay5 (F := Ideal) x) fun r _ => rinv 1024 X r :=
  hx.rinvBlock (by rw [Nat.cast_ofNat]; exact word_1024) word_eps (by decide) _ _ _ _

/-- The rows' gradient: through the norm, and around it. -/
theorem rows (hd : Reads d U) (hw : Reads w W) (hx : Reads x X) (hg : Reads g G) (i : S512x1024.Idx) :
    k0_pay6 (F := Ideal) d w x res g i = ((normGrad 1024 X (fun r c => pull U W r c * G 0 c) (i 0).val (i 1).val : ℝ) : EReal) + res i :=
  congrArg (· + res i) (hx.normBlock ((product hd hw).mul (hg.under (by decide) broadcasts_S1x1024_S512x1024)) (root hx) (by decide) (by decide)
    (by rw [Nat.cast_ofNat]; exact word_1024) reduces_S512x1024_S512 (.inl rfl) rfl shapeCasts_S512_S512x1 broadcasts_S512x1_S512x1024 i)

/-- The block's part of the gains' gradient. -/
theorem gains (hd : Reads d U) (hw : Reads w W) (hx : Reads x X) : Reads (m := 1) (n := 1024) (k0_pay7 (F := Ideal) d w x) fun _ c => ∑ r ∈ Finset.range 512, gain U W X r c :=
  ((product hd hw).mul (hx.mul ((root hx).spread (by decide) broadcasts_S512x1_S512x1024))).colSums reduces_S512x1024_S1024 (.inl rfl) rfl
    shapeCasts_S1024_S1x1024

end Cert.Kernel4Ideal.Up

end
-- ==== Proof.Up.Cases.lean ====
/- What each point of the grid leaves in the three outputs' blocks: the rows' gradient, its rounding, and the running sum of the
   gains' gradient, which the first point starts at zero. -/
module

public import proofs.«01_k».proof.Proof.Up.Block

@[expose] public section

set_option maxRecDepth 16384

noncomputable section

namespace Cert.Kernel4Ideal.Up

open Idealize.ShloMosaic Idealize.ShloMosaic.Tactic Idealize.ShloMosaic.TcCoe Cert.Kernel4Ideal Cert.Kernel4Ideal.Gen Cert.Reals

variable (m : (ℓ : Loc nD τ sig) → Buf (Elt Ideal) ℓ)

/-- The zero offsets of a load or store of a whole block. -/
theorem hz : (![0, 0] : Fin 2 → Nat) = fun _ => 0 := by funext a; fin_cases a <;> rfl

/-- The rows' gradient at point `t`. -/
abbrev rowsAt (c : Dev nD) (t : Fin cfg0.N) : FVec Ideal S512x1024 .f32 :=
  k0_pay6 (F := Ideal) (iblk m c 0 t) (iblk m c 1 t) (iblk m c 2 t) (iblk m c 3 t) (iblk m c 4 t)

/-- What point `t` adds to the gains' gradient. -/
abbrev gainsAt (c : Dev nD) (t : Fin cfg0.N) : FVec Ideal S1x1024 .f32 := k0_pay7 (F := Ideal) (iblk m c 0 t) (iblk m c 1 t) (iblk m c 2 t)

/-- The first point. -/
theorem outs_first (c : Dev nD) (t : Fin cfg0.N) (h0 : t.val % 8 = 0) :
    outsAt0 m c t.val t.isLt = (rowsAt m c t, k0_pay1 (F := Ideal) (rowsAt m c t), k0_pay3 (F := Ideal) (gainsAt m c t) (k0_pay2 (F := Ideal))) := by
  rw [outsAt0_A m c t h0]
  refine Prod.ext ?_ (Prod.ext ?_ ?_) <;> dsimp only
  · unfold out0_A_5
    rw [View.read_writes_eq_canon _ _ _ (cover0_A_5 _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S1024x4096) hz, View.ld_unit_zero (S := S512x1024) hz, View.ld_unit_zero (S := S1x1024) hz]
  · unfold out0_A_6
    rw [View.read_writes_eq_canon _ _ _ (cover0_A_6 _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S1024x4096) hz, View.ld_unit_zero (S := S512x1024) hz, View.ld_unit_zero (S := S1x1024) hz]
  · unfold out0_A_7
    rw [View.read_writes_eq_canon _ _ _ (cover0_A_7 _ _ _ _ _ _ _ _ _ _ _ _ _ _ _ _ _ _ _ _ _ _ _ _)]
    unfold kernelRun0_A
    dsimp only
    sl_unfold_words
    rw [View.canon_cons_unit_zero (S := S1x1024) hz, View.readCov_unit_zero (S := S1x1024) _ hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S1024x4096) hz, View.ld_unit_zero (S := S512x1024) hz, View.ld_unit_zero (S := S1x1024) hz]

/-- A later point. -/
theorem outs_later (c : Dev nD) (t : Fin cfg0.N) (h0 : ¬t.val % 8 = 0) :
    outsAt0 m c t.val t.isLt = (rowsAt m c t, k0_pay1 (F := Ideal) (rowsAt m c t),
      k0_pay3 (F := Ideal) (gainsAt m c t) (outsAt0 m c (t.val - 1) (Nat.lt_of_le_of_lt (Nat.sub_le _ _) t.isLt)).2.2) := by
  rw [outsAt0_B m c t h0]
  refine Prod.ext ?_ (Prod.ext ?_ ?_) <;> dsimp only
  · unfold out0_B_5
    rw [View.read_writes_eq_canon _ _ _ (cover0_B_5 _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S1024x4096) hz, View.ld_unit_zero (S := S512x1024) hz, View.ld_unit_zero (S := S1x1024) hz]
  · unfold out0_B_6
    rw [View.read_writes_eq_canon _ _ _ (cover0_B_6 _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S1024x4096) hz, View.ld_unit_zero (S := S512x1024) hz, View.ld_unit_zero (S := S1x1024) hz]
  · unfold out0_B_7
    rw [View.read_writes_eq_canon _ _ _ (cover0_B_7 _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_7 t).read_unread,
      View.ld_unit_zero (S := S512x4096) hz, View.ld_unit_zero (S := S1024x4096) hz, View.ld_unit_zero (S := S512x1024) hz, View.ld_unit_zero (S := S1x1024) hz]

end Cert.Kernel4Ideal.Up

end
-- ==== Proof.Up.Kernel.lean ====
/- The up projection's gradient, the whole arrays: the blocks the eight points write are the blocks of one function of the arguments,
   and the running sum ends as the sum over all rows. -/
module

public import proofs.«01_k».proof.Proof.Up.Cases

@[expose] public section

set_option maxRecDepth 16384

noncomputable section

namespace Cert.Kernel4Ideal.Up

open Idealize.ShloMosaic Idealize.ShloMosaic.Tactic Idealize.ShloMosaic.TcCoe Cert.Kernel4Ideal Cert.Kernel4Ideal.Gen Cert.Reals Idealize.SL.Sem

variable (m : (ℓ : Loc nD τ sig) → Buf (Elt Ideal) ℓ)

/-- The host rounds the cotangent. -/
theorem V_v0 (c : Dev nD) : V m c main_v0 = truncf (F := Ideal) .bf16 (m ((c : Thread nD τ).loc main_arg3)) bitsLt_bf16_f32 := by
  show StableHlo.after hostOps0 (fun b => m (c, b)) _ = _
  unfold hostOps0; after_results <;> rfl

/-- The host drops the weights' leading axis and rounds them. -/
theorem V_v2 (c : Dev nD) : V m c main_v2 = truncf (F := Ideal) .bf16
    (shapeCast S1024x4096 (m ((c : Thread nD τ).loc main_arg2)) shapeCasts_S1x1024x4096_S1024x4096) bitsLt_bf16_f32 := by
  show StableHlo.after hostOps0 (fun b => m (c, b)) _ = _
  unfold hostOps0; after_results <;> rfl

/-- Point `t` takes block `t` of the rows, and all of the weights and gains. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

variable {c : Dev nD} {X G U : ℕ → ℕ → ℝ} {W : ℕ → ℕ → ℕ → ℝ}

/-- A block of the cotangent. -/
theorem blk0 (h : Reads (m ((c : Thread nD τ).loc main_arg3)) U) (t : Fin cfg0.N) :
    Reads (m := 512) (n := 4096) (iblk m c 0 t) fun r k => U (t.val * 512 + r) k := fun i => by
  unfold iblk; rw [View.read_apply]
  refine (congrFun (V_v0 m c) _).trans ((h _).trans ?_)
  show ((U (win0_0.index t 0 * 512 + 1 * (i 0).val) (win0_0.index t 1 * 4096 + 1 * (i 1).val) : ℝ) : EReal) = _
  rw [(idx0 t).1, (idx0 t).2, one_mul, one_mul, Nat.zero_mul, Nat.zero_add]

/-- The weights. -/
theorem blk1 (h : Reads3 (m ((c : Thread nD τ).loc main_arg2)) W) (t : Fin cfg0.N) :
    Reads (m := 1024) (n := 4096) (iblk m c 1 t) (W 0) := fun i => by
  unfold iblk; rw [View.read_apply]
  refine (congrFun (V_v2 m c) _).trans ((h.drop shapeCasts_S1x1024x4096_S1024x4096 _).trans ?_)
  show ((W 0 (win0_1.index t 0 * 1024 + 1 * (i 0).val) (win0_1.index t 1 * 4096 + 1 * (i 1).val) : ℝ) : EReal) = _
  rw [(idx1 t).1, (idx1 t).2, one_mul, one_mul, Nat.zero_mul, Nat.zero_add, Nat.zero_add]

/-- A block of the norm's input. -/
theorem blk2 (h : Reads (m ((c : Thread nD τ).loc main_arg0)) X) (t : Fin cfg0.N) :
    Reads (m := 512) (n := 1024) (iblk m c 2 t) fun r k => X (t.val * 512 + r) k := fun i => by
  unfold iblk; rw [View.read_apply]
  refine (congrFun (V_main_arg0 m c) _).trans ((h _).trans ?_)
  show ((X (win0_2.index t 0 * 512 + 1 * (i 0).val) (win0_2.index t 1 * 1024 + 1 * (i 1).val) : ℝ) : EReal) = _
  rw [(idx2 t).1, (idx2 t).2, one_mul, one_mul, Nat.zero_mul, Nat.zero_add]

/-- The gains. -/
theorem blk4 (h : Reads (m ((c : Thread nD τ).loc main_arg1)) G) (t : Fin cfg0.N) :
    Reads (m := 1) (n := 1024) (iblk m c 4 t) G := fun i => by
  unfold iblk; rw [View.read_apply]
  refine (congrFun (V_main_arg1 m c) _).trans ((h _).trans ?_)
  show ((G (win0_4.index t 0 * 1 + 1 * (i 0).val) (win0_4.index t 1 * 1024 + 1 * (i 1).val) : ℝ) : EReal) = _
  rw [(idx4 t).1, (idx4 t).2, one_mul, one_mul, Nat.zero_mul, Nat.zero_add, Nat.zero_add]

variable (c X G U W) in
/-- The gradient of the norm's input, with what runs around the norm. -/
def dx (i : S4096x1024.Idx) : EReal :=
  ((normGrad 1024 X (fun r c => pull U (W 0) r c * G 0 c) (i 0).val (i 1).val : ℝ) : EReal) + m ((c : Thread nD τ).loc main_arg4) i

/-- The rows a point writes are those rows of the gradient. -/
theorem rows_at (hd : Reads (m ((c : Thread nD τ).loc main_arg3)) U) (hw : Reads3 (m ((c : Thread nD τ).loc main_arg2)) W)
    (hx : Reads (m ((c : Thread nD τ).loc main_arg0)) X) (hg : Reads (m ((c : Thread nD τ).loc main_arg1)) G) (t : Fin cfg0.N) (y : S512x1024.Idx)
    (i : S4096x1024.Idx) (h0 : (i 0).val = t.val * 512 + (y 0).val) (h1 : (i 1).val = (y 1).val) : rowsAt m c t y = dx m c X G U W i := by
  have e : iblk m c 3 t y = m ((c : Thread nD τ).loc main_arg4) i := by
    unfold iblk; rw [View.read_apply]
    refine (congrFun (V_main_arg4 m c) _).trans (congrArg _ (funext fun a => Fin.ext ?_))
    match a with
    | ⟨0, _⟩ => show win0_3.index t 0 * 512 + 1 * (y 0).val = (i 0).val; rw [(idx3 t).1, h0, one_mul]
    | ⟨1, _⟩ => show win0_3.index t 1 * 1024 + 1 * (y 1).val = (i 1).val; rw [(idx3 t).2, h1]; omega
  refine (rows (blk0 m hd t) (blk1 m hw t) (blk2 m hx t) (blk4 m hg t) y).trans ?_
  unfold dx
  rw [h0, h1]
  exact congrArg _ e

/-- The running sum after point `n`. -/
theorem running (hd : Reads (m ((c : Thread nD τ).loc main_arg3)) U) (hw : Reads3 (m ((c : Thread nD τ).loc main_arg2)) W)
    (hx : Reads (m ((c : Thread nD τ).loc main_arg0)) X) : ∀ (n : ℕ) (h : n < cfg0.N),
    Reads (m := 1) (n := 1024) (outsAt0 m c n h).2.2 fun _ k => ∑ r ∈ Finset.range ((n + 1) * 512), gain U (W 0) X r k
  | 0, h => by
    rw [outs_first m c ⟨0, h⟩ rfl]
    refine Reads.congr ((Reads.zero.same shapeCasts_S1x1024_S1x1024).add (gains (blk0 m hd ⟨0, h⟩) (blk1 m hw _) (blk2 m hx _))) fun r k _ _ => ?_
    simp only [zero_add, Nat.zero_mul, one_mul]
  | n + 1, h => by
    have hN : cfg0.N = 8 := N_0
    rw [outs_later m c ⟨n + 1, h⟩ (by show ¬(n + 1) % 8 = 0; omega)]
    refine Reads.congr (((running hd hw hx n (Nat.lt_of_succ_lt h)).same shapeCasts_S1x1024_S1x1024).add (gains (blk0 m hd ⟨n + 1, h⟩) (blk1 m hw _) (blk2 m hx _)))
      fun r k _ _ => ?_
    rw [Nat.add_mul (n + 1) 1 512, one_mul, Finset.sum_range_add]
    rfl

variable (hd : Reads (m ((c : Thread nD τ).loc main_arg3)) U) (hw : Reads3 (m ((c : Thread nD τ).loc main_arg2)) W)
  (hx : Reads (m ((c : Thread nD τ).loc main_arg0)) X) (hg : Reads (m ((c : Thread nD τ).loc main_arg1)) G)

/-- What a point leaves in the two row outputs. -/
theorem outs_rows (c : Dev nD) (t : Fin cfg0.N) : (outsAt0 m c t.val t.isLt).1 = rowsAt m c t ∧ (outsAt0 m c t.val t.isLt).2.1 = k0_pay1 (F := Ideal) (rowsAt m c t) := by
  by_cases h0 : t.val % 8 = 0
  · rw [outs_first m c t h0]; exact ⟨rfl, rfl⟩
  · rw [outs_later m c t h0]; exact ⟨rfl, rfl⟩

include hd hw hx hg in
/-- The first result. -/
theorem array5 : (dats m 0 c).arrAt 5 cfg0.N = dx m c X G U W :=
  (dats m 0 c).arrAt_eq_of_cover 5 (dx m c X G U W) (fun t _ => by
    rw [Value.flushed5, (outs_rows m c t).1]
    funext y
    rw [View.read_apply]
    refine rows_at m hd hw hx hg t y _ ?_ ?_
    · show win0_5.index t 0 * 512 + 1 * (y 0).val = _; rw [(idx5 t).1, one_mul]
    · show win0_5.index t 1 * 1024 + 1 * (y 1).val = _; rw [(idx5 t).2]; omega) fun i => by
  have h0 : (i 0).val < 4096 := (i 0).isLt
  have h1 : (i 1).val < 1024 := (i 1).isLt
  refine ⟨⟨(i 0).val / 512, by have hN : cfg0.N = 8 := N_0; omega⟩, flush0_5 _, ?_⟩
  generalize ht : (⟨(i 0).val / 512, _⟩ : Fin cfg0.N) = t
  have hv : t.val = (i 0).val / 512 := by rw [← ht]
  show i ∈ ((View.whole main_v3_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(idx5 t).1]; omega
  | ⟨1, _⟩ => show win0_5.index t 1 * 1024 ≤ (i 1).val ∧ (i 1).val < win0_5.index t 1 * 1024 + 1024; rw [(idx5 t).2]; omega

include hd hw hx hg in
/-- The second, its rounding. -/
theorem array6 : (dats m 0 c).arrAt 6 cfg0.N = dx m c X G U W :=
  (dats m 0 c).arrAt_eq_of_cover 6 (dx m c X G U W) (fun t _ => by
    rw [Value.flushed6, (outs_rows m c t).2]
    funext y
    rw [View.read_apply]
    refine rows_at m hd hw hx hg t y _ ?_ ?_
    · show win0_6.index t 0 * 512 + 1 * (y 0).val = _; rw [(idx6 t).1, one_mul]
    · show win0_6.index t 1 * 1024 + 1 * (y 1).val = _; rw [(idx6 t).2]; omega) fun i => by
  have h0 : (i 0).val < 4096 := (i 0).isLt
  have h1 : (i 1).val < 1024 := (i 1).isLt
  refine ⟨⟨(i 0).val / 512, by have hN : cfg0.N = 8 := N_0; omega⟩, flush0_6 _, ?_⟩
  generalize ht : (⟨(i 0).val / 512, _⟩ : Fin cfg0.N) = t
  have hv : t.val = (i 0).val / 512 := by rw [← ht]
  show i ∈ ((View.whole main_v3_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(idx6 t).1]; omega
  | ⟨1, _⟩ => show win0_6.index t 1 * 1024 ≤ (i 1).val ∧ (i 1).val < win0_6.index t 1 * 1024 + 1024; rw [(idx6 t).2]; omega

/-- The gains' gradient. -/
def dg (U W X : ℕ → ℕ → ℝ) (i : S1x1024.Idx) : EReal := ((∑ r ∈ Finset.range 4096, gain U W X r (i 1).val : ℝ) : EReal)

include hd hw hx in
/-- The third result. -/
theorem array7 : (dats m 0 c).arrAt 7 cfg0.N = dg U (W 0) X :=
  (dats m 0 c).arrAt_eq_of_cover 7 (dg U (W 0) X) (fun t hf => by
    have ht := (flush0_7 t).mp hf
    have hN : cfg0.N = 8 := N_0
    have h7 : t.val = 7 := by have := t.isLt; omega
    rw [Value.flushed7]
    funext y
    rw [View.read_apply]
    refine (running m hd hw hx t.val t.isLt y).trans ?_
    show ((∑ r ∈ Finset.range ((t.val + 1) * 512), gain U (W 0) X r (y 1).val : ℝ) : EReal)
      = ((∑ r ∈ Finset.range 4096, gain U (W 0) X r (win0_7.index t 1 * 1024 + 1 * (y 1).val) : ℝ) : EReal)
    rw [(idx7 t).2, h7, one_mul, Nat.zero_mul, Nat.zero_add]) fun i => by
  have h0 : (i 0).val < 1 := (i 0).isLt
  have h1 : (i 1).val < 1024 := (i 1).isLt
  have hN : cfg0.N = 8 := N_0
  refine ⟨⟨7, by omega⟩, (flush0_7 _).mpr rfl, ?_⟩
  generalize (⟨7, _⟩ : Fin cfg0.N) = t
  show i ∈ ((View.whole main_v3_2).slice (win0_7.rect t)).set
  rw [View.set_slice_whole, Rect.mem_set_unit]
  intro a
  match a with
  | ⟨0, _⟩ => show win0_7.index t 0 * 1 ≤ (i 0).val ∧ (i 0).val < win0_7.index t 0 * 1 + 1; rw [(idx7 t).1]; omega
  | ⟨1, _⟩ => show win0_7.index t 1 * 1024 ≤ (i 1).val ∧ (i 1).val < win0_7.index t 1 * 1024 + 1024; rw [(idx7 t).2]; omega

include hd hw hx hg in
/-- The kernel runs, its results are these, and its arguments end as they were. -/
theorem run (ρ : Dev nD → PrngReg) : θ_run defs (onTc (τ := τ) (main (F := Ideal))) ⟨m, fun _ => 0, ρ⟩ fun r =>
      r.2.mem ((c : Thread nD τ).loc main_v3_0) = dx m c X G U W
      ∧ r.2.mem ((c : Thread nD τ).loc main_v3_1) = dx m c X G U W
      ∧ r.2.mem ((c : Thread nD τ).loc main_v3_2) = dg U (W 0) X :=
  (θ_run defs _ _).mono (fun _ h => ⟨(h c).1.trans (array5 m hd hw hx hg), (h c).2.1.trans (array6 m hd hw hx hg), (h c).2.2.1.trans (array7 m hd hw hx)⟩)
    (Value.run_blocks m ρ)

end Cert.Kernel4Ideal.Up

end
-- ==== Proof.Real.HostNorm.lean ====
/- The norm's gradient as the derivative of its forward lines computes it, over real numbers. -/
module

public import proofs.«01_k».proof.Proof.Real.Norm

@[expose] public section

set_option maxRecDepth 16384

noncomputable section

namespace Cert.Reals

open Idealize.ShloMosaic Idealize.ShloMosaic.Tactic

variable {m n : ℕ} {x d w a : FVec Ideal ⟨2, ![m, n]⟩ .f32} {q v : FVec Ideal ⟨2, ![m, 1]⟩ .f32} {f g : ℕ → ℕ → ℝ}

/-- A list of rows' numbers down the columns of an array. -/
theorem Reads1.down {x : (⟨1, ![m]⟩ : Shape).Idx → EReal} {f : ℕ → ℝ} (hx : Reads1 x f) (hm : m ≠ 1)
    (h : (⟨1, ![m]⟩ : Shape).BroadcastsInDim ⟨2, ![m, n]⟩ ![0]) : Reads (broadcastInDim ⟨2, ![m, n]⟩ ![0] h x) fun r _ => f r := fun i => by
  rw [broadcastInDim_apply _ h x i (ValueIdx.ix1 (i 0)) (fun a => by match a with | ⟨0, _⟩ => exact (if_neg hm).symm)]
  exact hx _

/-- The mean square and the small number, on the host. -/
theorem hostMean {u : Shape} (hx : Reads x f) (hn : n ≠ 0) (hm : m ≠ 1) {wn we : BitVec 32} (hwn : Ideal.ofBits .f32 wn = (((n : ℝ) : ℝ) : EReal))
    (hwe : Ideal.ofBits .f32 we = ((eps : ℝ) : EReal)) (h : (⟨2, ![m, n]⟩ : Shape).ReducesTo [1] ⟨1, ![m]⟩)
    (h' : (⟨2, ![m, n]⟩ : Shape).Reduces [1] ⟨1, ![m]⟩) (hu : 0 < u.numel) (h1 : (⟨1, ![m]⟩ : Shape).BroadcastsInDim ⟨2, ![m, 1]⟩ ![0])
    (h2 : (⟨0, ![]⟩ : Shape).BroadcastsInDim ⟨2, ![m, 1]⟩ ![]) :
    Reads (addf (Host.divf (broadcastInDim ⟨2, ![m, 1]⟩ ![0] h1 (Host.reduceAdd (mulf x x) (constant (F := Ideal) u .f32 0x00000000#32) h hu))
      (broadcastInDim ⟨2, ![m, 1]⟩ ![] h2 (constant (F := Ideal) ⟨0, ![]⟩ .f32 wn))) (broadcastInDim ⟨2, ![m, 1]⟩ ![] h2 (constant (F := Ideal) ⟨0, ![]⟩ .f32 we)))
      fun r _ => meanSq n f r :=
  ((((hx.mul hx).hostRows h h' hu).column hm h1).hostDiv (Reads.hostConst hwn h2) fun _ _ => Nat.cast_ne_zero.mpr hn).add (Reads.hostConst hwe h2)

/-- Half of what a row's norm takes away, divided by the row. -/
theorem hostHalf {u : Shape} (hx : Reads x f) (hd : Reads d g) (hv : Reads v fun r _ => meanSq n f r) (hq : Reads q fun r _ => rinv n f r) (hn : n ≠ 0) (hm : m ≠ 1)
    {wn wh : BitVec 32} (hwn : Ideal.ofBits .f32 wn = (((n : ℝ) : ℝ) : EReal)) (hwh : Ideal.ofBits .f32 wh = ((-(1 / 2) : ℝ) : EReal))
    (h : (⟨2, ![m, n]⟩ : Shape).ReducesTo [1] ⟨1, ![m]⟩) (h' : (⟨2, ![m, n]⟩ : Shape).Reduces [1] ⟨1, ![m]⟩) (hu : 0 < u.numel)
    (h1 : (⟨1, ![m]⟩ : Shape).ShapeCasts ⟨2, ![m, 1]⟩) (h2 : (⟨0, ![]⟩ : Shape).BroadcastsInDim ⟨2, ![m, 1]⟩ ![])
    (h3 : (⟨2, ![m, 1]⟩ : Shape).ReducesTo [1] ⟨1, ![m]⟩) (h3' : (⟨2, ![m, 1]⟩ : Shape).Reduces [1] ⟨1, ![m]⟩)
    (h4 : (⟨1, ![m]⟩ : Shape).BroadcastsInDim ⟨2, ![m, n]⟩ ![0]) :
    Reads (broadcastInDim ⟨2, ![m, n]⟩ ![0] h4 (Host.reduceAdd (Host.divf
        (mulf (shapeCast ⟨2, ![m, 1]⟩ (Host.reduceAdd (mulf x d) (constant (F := Ideal) u .f32 0x00000000#32) h hu) h1)
          (mulf (broadcastInDim ⟨2, ![m, 1]⟩ ![] h2 (constant (F := Ideal) ⟨0, ![]⟩ .f32 wh)) (Host.divf q v)))
        (broadcastInDim ⟨2, ![m, 1]⟩ ![] h2 (constant (F := Ideal) ⟨0, ![]⟩ .f32 wn))) (constant (F := Ideal) u .f32 0x00000000#32) h3 hu))
      fun r _ => (∑ c ∈ Finset.range n, f r c * g r c) * (-(1 / 2) * (rinv n f r * rinv n f r * rinv n f r)) / (n : ℝ) :=
  Reads.congr ((((((((hx.mul hd).hostRows h h' hu).upright h1).mul ((Reads.hostConst hwh h2).mul (hq.hostDiv hv fun r _ => (meanSq_pos n f r).ne'))).hostDiv
    (Reads.hostConst hwn h2) fun _ _ => Nat.cast_ne_zero.mpr hn).hostRows h3 h3' hu).down hm h4)) fun r c _ _ => by
      rw [Finset.sum_range_one, rinv_over]

/-- The gradient through the norm, added to what runs around it. -/
theorem hostNorm (hx : Reads x f) (hd : Reads d g) (hq : Reads q fun r _ => rinv n f r) (hm : m ≠ 1)
    (hw : Reads w fun r _ => (∑ c ∈ Finset.range n, f r c * g r c) * (-(1 / 2) * (rinv n f r * rinv n f r * rinv n f r)) / (n : ℝ))
    (h : (⟨2, ![m, 1]⟩ : Shape).BroadcastsInDim ⟨2, ![m, n]⟩ ![0, 1]) (i : (⟨2, ![m, n]⟩ : Shape).Idx) :
    addf (addf (addf a (mulf d (broadcastInDim ⟨2, ![m, n]⟩ ![0, 1] h q))) (mulf x w)) (mulf w x) i
      = ((normGrad n f g (i 0).val (i 1).val : ℝ) : EReal) + a i := by
  show (a i + mulf d (broadcastInDim ⟨2, ![m, n]⟩ ![0, 1] h q) i + mulf x w i) + mulf w x i = _
  rw [(hd.mul (hq.hostSpread hm h)) i, (hx.mul hw) i, (hw.mul hx) i]
  beta_reduce
  rw [mul_comm (_ / _) (f _ _)]
  refine add_halves _ _ _ _ ?_
  unfold normGrad
  rw [Finset.sum_congr rfl fun c _ => mul_comm (f _ c) (g _ c)]
  ring

end Cert.Reals

end
-- ==== Proof.Up.Reference.lean ====
/- The reference of the up projection's gradient over real numbers. -/
module

public import proofs.«01_k».proof.Proof.Gen.Reference4Ideal.Read
public import proofs.«01_k».proof.Proof.Real.HostNorm
public import proofs.«01_k».proof.Proof.Real.Softmax

@[expose] public section

set_option maxRecDepth 16384

noncomputable section

namespace Cert.Reference4Ideal.Up

open Idealize.ShloMosaic Idealize.ShloMosaic.Tactic Cert.Reference4Ideal Cert.Reference4Ideal.Gen Cert.Reference4Ideal.Read Cert.Reals

variable {x0 x4 : (⟨S4096x1024, .f32⟩ : BufTy).Contents (Elt Ideal)} {x1 : (⟨S1x1024, .f32⟩ : BufTy).Contents (Elt Ideal)}
  {x2 : (⟨S1x1024x4096, .f32⟩ : BufTy).Contents (Elt Ideal)} {x3 : (⟨S4096x4096, .f32⟩ : BufTy).Contents (Elt Ideal)}
variable {X G U : ℕ → ℕ → ℝ} {W : ℕ → ℕ → ℕ → ℝ}

/-- The weights without their leading axis. -/
theorem weights (hw : Reads3 x2 W) : Reads (val_main_v17 (F := Ideal) x2) (W 0) := hw.drop shapeCasts_S1x1024x4096_S1024x4096

/-- The gradient of the normed rows. -/
theorem product (hw : Reads3 x2 W) (hd : Reads x3 U) : Reads (val_main_v19 (F := Ideal) x2 x3) fun r c => ∑ k ∈ Finset.range 4096, U r k * W 0 c k := fun i => by
  rw [val_main_v19_apply, sum_fin (g := fun k => U (i 0).val k * W 0 (i 1).val k) fun k => by
    rw [hd _, weights hw _, ← EReal.coe_mul]]

theorem mean (hx : Reads x0 X) : Reads (val_main_v7 (F := Ideal) x0) fun r _ => meanSq 1024 X r :=
  hostMean hx (by decide) (by decide) (by rw [Nat.cast_ofNat]; exact word_1024) word_eps reducesTo_S4096x1024_S4096_d1 (by decide) h_S_
    bcast_S4096_S4096x1_0 bcast_S_S4096x1

theorem root (hx : Reads x0 X) : Reads (val_main_v8 (F := Ideal) x0) fun r _ => rinv 1024 X r := (mean hx).hostRsqrt fun r _ => meanSq_pos _ _ _

theorem gained (hg : Reads x1 G) (hw : Reads3 x2 W) (hd : Reads x3 U) :
    Reads (val_main_v24 (F := Ideal) x1 x2 x3) fun r c => (∑ k ∈ Finset.range 4096, U r k * W 0 c k) * G 0 c :=
  (product hw hd).mul (((hg.list shapeCasts_S1x1024_S1024).across (by decide) bcast_S1024_S1x1024_1).hostUnder (by decide) bcast_S1x1024_S4096x1024_0_1)

/-- The first result. -/
theorem rows (hx : Reads x0 X) (hg : Reads x1 G) (hw : Reads3 x2 W) (hd : Reads x3 U) (i : S4096x1024.Idx) :
    val_main_v40 (F := Ideal) x0 x1 x2 x3 x4 i
      = ((normGrad 1024 X (fun r c => (∑ k ∈ Finset.range 4096, U r k * W 0 c k) * G 0 c) (i 0).val (i 1).val : ℝ) : EReal) + x4 i :=
  hostNorm hx (gained hg hw hd) (root hx) (by decide)
    (hostHalf hx (gained hg hw hd) (mean hx) (root hx) (by decide) (by decide) (by rw [Nat.cast_ofNat]; exact word_1024) word_neg_half
      reducesTo_S4096x1024_S4096_d1 (by decide) h_S_ shapeCasts_S4096_S4096x1 bcast_S_S4096x1 reducesTo_S4096x1_S4096_d1 (by decide) bcast_S4096_S4096x1024_0)
    bcast_S4096x1_S4096x1024_0_1 i

/-- The third. -/
theorem gains (hx : Reads x0 X) (hw : Reads3 x2 W) (hd : Reads x3 U) : Reads (val_main_v41 (F := Ideal) x0 x2 x3) fun _ c =>
    ∑ r ∈ Finset.range 4096, (∑ k ∈ Finset.range 4096, U r k * W 0 c k) * (X r c * rinv 1024 X r) :=
  Reads.congr ((((((hx.mul ((root hx).hostSpread (by decide) bcast_S4096x1_S4096x1024_0_1)).mul (product hw hd)).hostCols reducesTo_S4096x1024_S1024_d0
    (by decide) h_S_).flat shapeCasts_S1024_S1x1024).hostCols reducesTo_S1x1024_S1024_d0 (by decide) h_S_).across (by decide) bcast_S1024_S1x1024_1) fun r c _ _ => by
      rw [Finset.sum_range_one]
      exact Finset.sum_congr rfl fun r _ => mul_comm _ _

end Cert.Reference4Ideal.Up

end
-- ==== Proof.Real.Finite3.lean ====
/- Finite arrays of one and of three axes hold real numbers. -/
module

public import proofs.«01_k».proof.Proof.Real.Finite
public import proofs.«01_k».proof.Proof.Real.Norm

@[expose] public section

noncomputable section

namespace Cert.Reals

open Idealize.ShloMosaic Idealize.ShloMosaic.Tactic

/-- An entry of an array that compares below infinity is a real number. -/
theorem entry_real {s : Shape} {x y : FVec Ideal s .f32} (hy : ∀ i, y i = (⊤ : EReal)) (h : cmpf .olt (Host.absf x) y = fun _ => 1#1) (i : s.Idx) :
    x i = (((x i).toReal : ℝ) : EReal) := by
  refine real_of_lt _ ?_
  by_contra hc
  have e : (cmpf .olt (Host.absf x) y) i = 1#1 := congrFun h i
  have z : (cmpf .olt (Host.absf x) y) i = 0#1 := by
    show BitVec.ofBool (decide (max (x i) (-(x i)) < y i)) = _
    rw [hy i, decide_eq_false hc]; rfl
  rw [z] at e
  exact absurd e (by decide)

theorem reads3_of_finite {l m n : ℕ} {x y : FVec Ideal ⟨3, ![l, m, n]⟩ .f32} (hy : ∀ i, y i = (⊤ : EReal))
    (h : cmpf .olt (Host.absf x) y = fun _ => 1#1) : ∃ f, Reads3 x f :=
  ⟨fun a r c => if h : a < l ∧ r < m ∧ c < n then (x (ValueIdx.ix3 ⟨a, h.1⟩ ⟨r, h.2.1⟩ ⟨c, h.2.2⟩)).toReal else 0, fun i => by
    dsimp only
    rw [dif_pos ⟨(i 0).isLt, (i 1).isLt, (i 2).isLt⟩]
    refine (entry_real hy h i).trans ?_
    congr 3
    funext a
    match a with
    | ⟨0, _⟩ => rfl
    | ⟨1, _⟩ => rfl
    | ⟨2, _⟩ => rfl⟩

theorem reads1_of_finite {n : ℕ} {x y : FVec Ideal ⟨1, ![n]⟩ .f32} (hy : ∀ i, y i = (⊤ : EReal))
    (h : cmpf .olt (Host.absf x) y = fun _ => 1#1) : ∃ f, Reads1 x f :=
  ⟨fun r => if h : r < n then (x (ValueIdx.ix1 ⟨r, h⟩)).toReal else 0, fun i => by
    dsimp only
    rw [dif_pos (show (i 0).val < n from (i 0).isLt)]
    refine (entry_real hy h i).trans ?_
    congr 3
    funext a
    match a with
    | ⟨0, _⟩ => rfl⟩

end Cert.Reals

end
-- ==== Proof.Up.Equation.lean ====
/- The up projection's gradient: kernel and reference hold the same three arrays. -/
module

public import proofs.«01_k».proof.Defs
public import proofs.«01_k».proof.Proof.Gen.Reference4Ideal.Run
public import proofs.«01_k».proof.Proof.Up.Kernel
public import proofs.«01_k».proof.Proof.Up.Reference
public import proofs.«01_k».proof.Proof.Real.Finite3

@[expose] public section

set_option maxRecDepth 16384

noncomputable section

namespace Cert.Kernel4Ideal.Up

open Idealize.ShloMosaic Idealize.ShloMosaic.Tactic Idealize.ShloMosaic.TcCoe Cert.Kernel4Ideal Cert.Kernel4Ideal.Gen Cert.Reals Idealize.SL.Sem

variable (m : (ℓ : Loc nD τ sig) → Buf (Elt Ideal) ℓ)

/-- The arguments the norm and the product read hold real numbers. -/
def Launched (c : Dev nD) : Prop := (∃ X, Reads (m ((c : Thread nD τ).loc main_arg0)) X) ∧ (∃ G, Reads (m ((c : Thread nD τ).loc main_arg1)) G)
  ∧ (∃ W, Reads3 (m ((c : Thread nD τ).loc main_arg2)) W) ∧ ∃ U, Reads (m ((c : Thread nD τ).loc main_arg3)) U

variable {m} {c : Dev nD} (h : Launched m c)

include h in
theorem same_rows : Cert.Reference4Ideal.Read.val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = (dats m 0 c).arrAt 5 cfg0.N := by
  obtain ⟨⟨X, hx⟩, ⟨G, hg⟩, ⟨W, hw⟩, U, hd⟩ := h
  rw [array5 m hd hw hx hg]
  exact funext fun i => Cert.Reference4Ideal.Up.rows hx hg hw hd i

include h in
theorem same_rounded : Cert.Reference4Ideal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = (dats m 0 c).arrAt 6 cfg0.N := by
  obtain ⟨⟨X, hx⟩, ⟨G, hg⟩, ⟨W, hw⟩, U, hd⟩ := h
  rw [array6 m hd hw hx hg]
  exact funext fun i => Cert.Reference4Ideal.Up.rows hx hg hw hd i

include h in
theorem same_gains : Cert.Reference4Ideal.Read.val_main_v41 (F := Ideal) (m ((c : Thread nD τ).loc main_arg0))
    (m ((c : Thread nD τ).loc main_arg2)) (m ((c : Thread nD τ).loc main_arg3)) = (dats m 0 c).arrAt 7 cfg0.N := by
  obtain ⟨⟨X, hx⟩, ⟨G, hg⟩, ⟨W, hw⟩, U, hd⟩ := h
  rw [array7 m hd hw hx]
  exact funext fun i => Cert.Reference4Ideal.Up.gains hx hw hd i

end Cert.Kernel4Ideal.Up

namespace Cert.Proof

open Idealize.ShloMosaic Idealize.ShloMosaic.Tactic Idealize.SL.Sem

/-- The up projection's gradient: the reference's run leaves every semaphore at zero and its arguments as they were. -/
theorem up_reference_frame : Cert.quiescent_Reference4Ideal (hReference4Ideal := Cert.Reference4Ideal.Gen.facts) := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

/-- The shapes of the finiteness test fit. -/
theorem up_finite_facts : Cert.Pre_finite4.Facts := ⟨by decide, by decide, by decide, by decide⟩

/-- The up projection's gradient: the finite arguments hold real numbers. -/
theorem up_launched (m : (ℓ : Loc Cert.Kernel4Ideal.nD Cert.Kernel4Ideal.τ Cert.Kernel4Ideal.sig) → Buf (Elt Ideal) ℓ)
    (h : Cert.Pre_Kernel4Ideal_finite4 (hPre_finite4 := up_finite_facts) m) (c : Dev Cert.Kernel4Ideal.nD) : Cert.Kernel4Ideal.Up.Launched m c := by
  obtain ⟨h0, h1, h2, h3⟩ := h c
  exact ⟨⟨_, Cert.Reals.reads_of_finite (fun _ => Cert.Reals.word_top) h0⟩, ⟨_, Cert.Reals.reads_of_finite (fun _ => Cert.Reals.word_top) h1⟩,
    Cert.Reals.reads3_of_finite (fun _ => Cert.Reals.word_top) h2, ⟨_, Cert.Reals.reads_of_finite (fun _ => Cert.Reals.word_top) h3⟩⟩

/-- The up projection's gradient: kernel and reference end with the same three arrays. -/
theorem up_algebraic : Cert.algebraic_Kernel4Ideal_Reference4Ideal_pre_finite4 (hKernel4Ideal := Cert.Kernel4Ideal.Gen.facts)
    (hReference4Ideal := Cert.Reference4Ideal.Gen.facts) (hPre_finite4 := up_finite_facts) := fun m ρ m' ρ' hp hag =>
  ⟨_, _, _, Cert.Kernel4Ideal.Value.run_blocks m ρ,
    (θ_run Cert.Reference4Ideal.defs _ _).mono
      (fun _ h c => by
        have hl := up_launched m hp c
        obtain ⟨a0, a1, a2, a3, a4⟩ := hag c
        refine ⟨(h c).1.trans ?_, (h c).2.1.trans ?_, (h c).2.2.1.trans ?_, (h c).2.2.2⟩
        · rw [Cert.Reference4Ideal.Read.val_main_v40_eq, a0, a1, a2, a3, a4]
          exact Cert.Kernel4Ideal.Up.same_rows hl
        · rw [Cert.Reference4Ideal.Read.val_main_v42_eq, a0, a1, a2, a3, a4]
          exact Cert.Kernel4Ideal.Up.same_rounded hl
        · rw [Cert.Reference4Ideal.Read.val_main_v41_eq, a0, a2, a3]
          exact Cert.Kernel4Ideal.Up.same_gains hl)
      (Cert.Reference4Ideal.Value.run (F := Ideal) m' ρ')⟩

end Cert.Proof

end
-- ==== Proof.Down.Block.lean ====
/- The down projection with the loss and the final norm's gradient, one block of rows, over real numbers. -/
module

public import proofs.«01_k».proof.Proof.Gen.Kernel5Ideal.Value
public import proofs.«01_k».proof.Proof.Real.Norm

@[expose] public section

set_option maxRecDepth 16384

noncomputable section

namespace Cert.Reals

open Idealize.ShloMosaic Idealize.ShloMosaic.Tactic

variable {m n : ℕ} {φ : FTy}

/-- What is below zero cut off. -/
theorem Reads.relu {x y : FVec Ideal ⟨2, ![m, n]⟩ φ} {f : ℕ → ℕ → ℝ} (hx : Reads x f) (hy : Reads y fun _ _ => 0) :
    Reads (maximumf x y) fun r c => max (f r c) 0 := fun i => by
  show max (x i) (y i) = _
  rw [hx i, hy i]
  exact (EReal.coe_strictMono.monotone.map_max).symm

/-- One number along a row. -/
theorem Reads.wide {x : (⟨2, ![1, 1]⟩ : Shape).Idx → EReal} {f : ℕ → ℕ → ℝ} (hx : Reads x f) (h : (⟨2, ![1, 1]⟩ : Shape).Broadcasts ⟨2, ![1, n]⟩) :
    Reads (broadcastTo ⟨2, ![1, n]⟩ x h) fun _ _ => f 0 0 := fun i => by
  rw [broadcastTo_apply x h i (ValueIdx.ix2 0 0) (fun a => by match a with | ⟨0, _⟩ => rfl | ⟨1, _⟩ => rfl)]
  exact hx _

theorem word_half : Ideal.ofBits .f32 0x3F000000#32 = ((1 / 2 : ℝ) : EReal) := by
  simp [Ideal.ofBits, Ideal.ieee, -EReal.coe_mul]
  norm_num

theorem word_1024th : Ideal.ofBits .f32 0x3A800000#32 = ((1 / 1024 : ℝ) : EReal) := by
  simp [Ideal.ofBits, Ideal.ieee, -EReal.coe_mul]
  norm_num

/-- The rows before the final norm: the residual and the product with the squared relu. -/
def stream (X U W : ℕ → ℕ → ℝ) (r c : ℕ) : ℝ := (∑ k ∈ Finset.range 4096, max (U r k) 0 * max (U r k) 0 * W k c) + X r c

/-- The normed rows less the targets. -/
def off (Y G T : ℕ → ℕ → ℝ) (r c : ℕ) : ℝ := Y r c * rinv 1024 Y r * G 0 c - T r c

/-- A row's part of the loss. -/
def lossRow (Y G T : ℕ → ℕ → ℝ) (r : ℕ) : ℝ := (∑ c ∈ Finset.range 1024, off Y G T r c * off Y G T r c) / (1024 : ℝ)

/-- The gradient of the normed rows. -/
def offMean (Y G T : ℕ → ℕ → ℝ) (r c : ℕ) : ℝ := off Y G T r c * (1 / 1024)

end Cert.Reals

namespace Cert.Kernel5Ideal.Down

open Idealize.ShloMosaic Idealize.ShloMosaic.Tactic Cert.Kernel5Ideal Cert.Kernel5Ideal.Gen Cert.Reals

variable {u : FVec Ideal S512x4096 .bf16} {w : FVec Ideal S4096x1024 .bf16} {x t : FVec Ideal S512x1024 .f32} {g : FVec Ideal S1x1024 .f32}
variable {U W X T G : ℕ → ℕ → ℝ}

theorem rows (hu : Reads u U) (hw : Reads w W) (hx : Reads x X) : Reads (m := 512) (n := 1024) (k0_pay2 (F := Ideal) u w x) (stream X U W) :=
  have c : Reads (maximumf (extf (F := Ideal) .f32 (shapeCast S512x4096 u shapeCasts_S512x4096_S512x4096) bitsLt_bf16_f32) (broadcast S512x4096 (Scalar.ofBits .f32 0x00000000#32)))
      fun r k => max (U r k) 0 := Reads.relu (φ := .f32) (hu.same shapeCasts_S512x4096_S512x4096) Reads.zero
  (Reads.dot (φ := .bf16) (φ' := .bf16) (c.mul c) (hw.same shapeCasts_S4096x1024_S4096x1024) rfl).add hx

theorem root (hu : Reads u U) (hw : Reads w W) (hx : Reads x X) : Reads (m := 512) (n := 1) (k0_pay3 (F := Ideal) u w x) fun r _ => rinv 1024 (stream X U W) r :=
  (rows hu hw hx).rinvBlock (by rw [Nat.cast_ofNat]; exact word_1024) word_eps (by decide) _ _ _ _

theorem normed (hu : Reads u U) (hw : Reads w W) (hx : Reads x X) :
    Reads (m := 512) (n := 1024) (k0_pay4 (F := Ideal) u w x) fun r c => stream X U W r c * rinv 1024 (stream X U W) r :=
  (rows hu hw hx).mul ((root hu hw hx).spread (by decide) broadcasts_S512x1_S512x1024)

theorem error (hu : Reads u U) (hw : Reads w W) (hx : Reads x X) (ht : Reads t T) (hg : Reads g G) :
    Reads (m := 512) (n := 1024) (k0_pay5 (F := Ideal) u w x t g) (off (stream X U W) G T) :=
  ((normed hu hw hx).mul ((hg.same shapeCasts_S1x1024_S1x1024).under (by decide) broadcasts_S1x1024_S512x1024)).sub ht

/-- The block's part of the loss. -/
theorem part (hu : Reads u U) (hw : Reads w W) (hx : Reads x X) (ht : Reads t T) (hg : Reads g G) :
    Reads (m := 1) (n := 1) (k0_pay6 (F := Ideal) u w x t g) fun _ _ => (1 / 2 : ℝ) * ∑ r ∈ Finset.range 512, lossRow (stream X U W) G T r :=
  (Reads.const word_half).mul (((((error hu hw hx ht hg).mul (error hu hw hx ht hg)).rowSums reduces_S512x1024_S512 (.inl rfl) rfl shapeCasts_S512_S512x1).div
    (Reads.const word_1024) fun _ _ => by norm_num).colSums reduces_S512x1_S1 (.inl rfl) rfl shapeCasts_S1_S1x1)

theorem slope (hu : Reads u U) (hw : Reads w W) (hx : Reads x X) (ht : Reads t T) (hg : Reads g G) :
    Reads (m := 512) (n := 1024) (k0_pay8 (F := Ideal) (k0_pay5 (F := Ideal) u w x t g) (k0_pay7 (F := Ideal))) (offMean (stream X U W) G T) :=
  (error hu hw hx ht hg).mul (Reads.const word_1024th)

/-- The gradient of the rows before the final norm. -/
theorem back (hu : Reads u U) (hw : Reads w W) (hx : Reads x X) (ht : Reads t T) (hg : Reads g G) :
    Reads (m := 512) (n := 1024) (k0_pay9 (F := Ideal) (k0_pay1 (F := Ideal) g) (k0_pay2 (F := Ideal) u w x) (k0_pay3 (F := Ideal) u w x)
      (k0_pay5 (F := Ideal) u w x t g) (k0_pay7 (F := Ideal))) (normGrad 1024 (stream X U W) fun r c => offMean (stream X U W) G T r c * G 0 c) :=
  (rows hu hw hx).normBlock ((slope hu hw hx ht hg).mul ((hg.same shapeCasts_S1x1024_S1x1024).under (by decide) broadcasts_S1x1024_S512x1024)) (root hu hw hx)
    (by decide) (by decide) (by rw [Nat.cast_ofNat]; exact word_1024) reduces_S512x1024_S512 (.inl rfl) rfl shapeCasts_S512_S512x1 broadcasts_S512x1_S512x1024

/-- The gains' gradient with the block's part added. -/
theorem gains (hu : Reads u U) (hw : Reads w W) (hx : Reads x X) (ht : Reads t T) (hg : Reads g G) {q : FVec Ideal S1x1024 .f32} {Q : ℕ → ℕ → ℝ} (hq : Reads q Q) :
    Reads (m := 1) (n := 1024) (k0_pay13 (F := Ideal) (k0_pay4 (F := Ideal) u w x) (k0_pay5 (F := Ideal) u w x t g) (k0_pay7 (F := Ideal)) q)
      fun r c => Q r c + ∑ r ∈ Finset.range 512, offMean (stream X U W) G T r c * (stream X U W r c * rinv 1024 (stream X U W) r) :=
  (hq.same shapeCasts_S1x1024_S1x1024).add (((slope hu hw hx ht hg).mul (normed hu hw hx)).colSums reduces_S512x1024_S1024 (.inl rfl) rfl shapeCasts_S1024_S1x1024)

/-- The loss with the block's part added. -/
theorem total (hu : Reads u U) (hw : Reads w W) (hx : Reads x X) (ht : Reads t T) (hg : Reads g G) {q : FVec Ideal S1x1024 .f32} {Q : ℕ → ℕ → ℝ} (hq : Reads q Q) :
    Reads (m := 1) (n := 1024) (k0_pay14 (F := Ideal) (k0_pay6 (F := Ideal) u w x t g) q)
      fun r c => Q r c + ((1 / 2 : ℝ) * ∑ r ∈ Finset.range 512, lossRow (stream X U W) G T r + 0) :=
  (hq.same shapeCasts_S1x1024_S1x1024).add (((part hu hw hx ht hg).wide broadcasts_S1x1_S1x1024).add Reads.zero)

end Cert.Kernel5Ideal.Down

end
-- ==== Proof.Down.Cases.lean ====
/- What each point of the grid leaves in the four outputs' blocks: the rows' gradient, its rounding, and the running sums of the gains'
   gradient and of the loss, which the first point starts at zero. -/
module

public import proofs.«01_k».proof.Proof.Down.Block

@[expose] public section

set_option maxRecDepth 16384

noncomputable section

namespace Cert.Kernel5Ideal.Down

open Idealize.ShloMosaic Idealize.ShloMosaic.Tactic Idealize.ShloMosaic.TcCoe Cert.Kernel5Ideal Cert.Kernel5Ideal.Gen Cert.Reals

variable (m : (ℓ : Loc nD τ sig) → Buf (Elt Ideal) ℓ)

/-- The zero offsets of a load or store of a whole block. -/
theorem hz : (![0, 0] : Fin 2 → Nat) = fun _ => 0 := by funext a; fin_cases a <;> rfl

/-- The normed rows of point `t` less their targets. -/
abbrev errorAt (c : Dev nD) (t : Fin cfg0.N) : FVec Ideal S512x1024 .f32 :=
  k0_pay5 (F := Ideal) (iblk m c 0 t) (iblk m c 1 t) (iblk m c 2 t) (iblk m c 3 t) (iblk m c 4 t)

/-- The rows' gradient at point `t`. -/
abbrev rowsAt (c : Dev nD) (t : Fin cfg0.N) : FVec Ideal S512x1024 .f32 :=
  k0_pay9 (F := Ideal) (k0_pay1 (F := Ideal) (iblk m c 4 t)) (k0_pay2 (F := Ideal) (iblk m c 0 t) (iblk m c 1 t) (iblk m c 2 t))
    (k0_pay3 (F := Ideal) (iblk m c 0 t) (iblk m c 1 t) (iblk m c 2 t)) (errorAt m c t) (k0_pay7 (F := Ideal))

/-- Its rounding. -/
abbrev roundedAt (c : Dev nD) (t : Fin cfg0.N) : FVec Ideal S512x1024 .bf16 :=
  k0_pay10 (F := Ideal) (k0_pay1 (F := Ideal) (iblk m c 4 t)) (k0_pay2 (F := Ideal) (iblk m c 0 t) (iblk m c 1 t) (iblk m c 2 t))
    (k0_pay3 (F := Ideal) (iblk m c 0 t) (iblk m c 1 t) (iblk m c 2 t)) (errorAt m c t) (k0_pay7 (F := Ideal))

/-- The gains' gradient after point `t`, from what it was before. -/
abbrev gainsAt (c : Dev nD) (t : Fin cfg0.N) (q : FVec Ideal S1x1024 .f32) : FVec Ideal S1x1024 .f32 :=
  k0_pay13 (F := Ideal) (k0_pay4 (F := Ideal) (iblk m c 0 t) (iblk m c 1 t) (iblk m c 2 t)) (errorAt m c t) (k0_pay7 (F := Ideal)) q

/-- The loss after point `t`, from what it was before. -/
abbrev lossAt (c : Dev nD) (t : Fin cfg0.N) (q : FVec Ideal S1x1024 .f32) : FVec Ideal S1x1024 .f32 :=
  k0_pay14 (F := Ideal) (k0_pay6 (F := Ideal) (iblk m c 0 t) (iblk m c 1 t) (iblk m c 2 t) (iblk m c 3 t) (iblk m c 4 t)) q

/-- The first point. -/
theorem outs_first (c : Dev nD) (t : Fin cfg0.N) (h0 : t.val % 8 = 0) :
    outsAt0 m c t.val t.isLt = (rowsAt m c t, roundedAt m c t, gainsAt m c t (k0_pay11 (F := Ideal)), lossAt m c t (k0_pay12 (F := Ideal))) := by
  rw [outsAt0_A m c t h0]
  refine Prod.ext ?_ (Prod.ext ?_ (Prod.ext ?_ ?_)) <;> dsimp only
  · unfold out0_A_5
    rw [View.read_writes_eq_canon _ _ _ (cover0_A_5 _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S4096x1024) hz, View.ld_unit_zero (S := S512x1024) hz, View.ld_unit_zero (S := S1x1024) hz]
  · unfold out0_A_6
    rw [View.read_writes_eq_canon _ _ _ (cover0_A_6 _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S4096x1024) hz, View.ld_unit_zero (S := S512x1024) hz, View.ld_unit_zero (S := S1x1024) hz]
  · unfold out0_A_7
    rw [View.read_writes_eq_canon _ _ _ (cover0_A_7 _ _ _ _ _ _ _ _ _ _ _ _ _ _ _ _ _ _ _ _ _ _ _ _ _ _)]
    unfold kernelRun0_A
    dsimp only
    sl_unfold_words
    rw [View.canon_cons_unit_zero (S := S1x1024) hz, View.readCov_unit_zero (S := S1x1024) _ hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S4096x1024) hz, View.ld_unit_zero (S := S512x1024) hz, View.ld_unit_zero (S := S1x1024) hz]
  · unfold out0_A_8
    rw [View.read_writes_eq_canon _ _ _ (cover0_A_8 _ _ _ _ _ _ _ _ _ _ _ _ _ _ _ _ _ _ _ _ _ _ _ _ _ _)]
    unfold kernelRun0_A
    dsimp only
    sl_unfold_words
    rw [View.canon_cons_unit_zero (S := S1x1024) hz, View.readCov_unit_zero (S := S1x1024) _ hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S4096x1024) hz, View.ld_unit_zero (S := S512x1024) hz, View.ld_unit_zero (S := S1x1024) hz]

/-- A later point. -/
theorem outs_later (c : Dev nD) (t : Fin cfg0.N) (h0 : ¬t.val % 8 = 0) :
    outsAt0 m c t.val t.isLt = (rowsAt m c t, roundedAt m c t, gainsAt m c t (outsAt0 m c (t.val - 1) (Nat.lt_of_le_of_lt (Nat.sub_le _ _) t.isLt)).2.2.1,
      lossAt m c t (outsAt0 m c (t.val - 1) (Nat.lt_of_le_of_lt (Nat.sub_le _ _) t.isLt)).2.2.2) := by
  rw [outsAt0_B m c t h0]
  refine Prod.ext ?_ (Prod.ext ?_ (Prod.ext ?_ ?_)) <;> dsimp only
  · unfold out0_B_5
    rw [View.read_writes_eq_canon _ _ _ (cover0_B_5 _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S4096x1024) hz, View.ld_unit_zero (S := S512x1024) hz, View.ld_unit_zero (S := S1x1024) hz]
  · unfold out0_B_6
    rw [View.read_writes_eq_canon _ _ _ (cover0_B_6 _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S512x4096) hz, View.ld_unit_zero (S := S4096x1024) hz, View.ld_unit_zero (S := S512x1024) hz, View.ld_unit_zero (S := S1x1024) hz]
  · unfold out0_B_7
    rw [View.read_writes_eq_canon _ _ _ (cover0_B_7 _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_7 t).read_unread,
      View.ld_unit_zero (S := S512x4096) hz, View.ld_unit_zero (S := S4096x1024) hz, View.ld_unit_zero (S := S512x1024) hz, View.ld_unit_zero (S := S1x1024) hz]
  · unfold out0_B_8
    rw [View.read_writes_eq_canon _ _ _ (cover0_B_8 _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_8 t).read_unread,
      View.ld_unit_zero (S := S512x4096) hz, View.ld_unit_zero (S := S4096x1024) hz, View.ld_unit_zero (S := S512x1024) hz, View.ld_unit_zero (S := S1x1024) hz]

end Cert.Kernel5Ideal.Down

end
-- ==== Proof.Down.Kernel.lean ====
/- The down projection with the loss, the whole arrays: the blocks the eight points write are the blocks of one function of the arguments,
   and the running sums end as the sums over all rows. -/
module

public import proofs.«01_k».proof.Proof.Down.Cases

@[expose] public section

set_option maxRecDepth 16384

noncomputable section

namespace Cert.Kernel5Ideal.Down

open Idealize.ShloMosaic Idealize.ShloMosaic.Tactic Idealize.ShloMosaic.TcCoe Cert.Kernel5Ideal Cert.Kernel5Ideal.Gen Cert.Reals Idealize.SL.Sem

variable (m : (ℓ : Loc nD τ sig) → Buf (Elt Ideal) ℓ)

/-- The host rounds the hidden rows. -/
theorem V_v0 (c : Dev nD) : V m c main_v0 = truncf (F := Ideal) .bf16 (m ((c : Thread nD τ).loc main_arg1)) bitsLt_bf16_f32 := by
  show StableHlo.after hostOps0 (fun b => m (c, b)) _ = _
  unfold hostOps0; after_results <;> rfl

/-- The host drops the weights' leading axis and rounds them. -/
theorem V_v2 (c : Dev nD) : V m c main_v2 = truncf (F := Ideal) .bf16
    (shapeCast S4096x1024 (m ((c : Thread nD τ).loc main_arg2)) shapeCasts_S1x4096x1024_S4096x1024) bitsLt_bf16_f32 := by
  show StableHlo.after hostOps0 (fun b => m (c, b)) _ = _
  unfold hostOps0; after_results <;> rfl

/-- The host lays the gains along a row. -/
theorem V_v3 (c : Dev nD) : V m c main_v3 = shapeCast S1x1024 (m ((c : Thread nD τ).loc main_arg3)) shapeCasts_S1024_S1x1024 := by
  show StableHlo.after hostOps0 (fun b => m (c, b)) _ = _
  unfold hostOps0; after_results <;> rfl

/-- Point `t` takes block `t` of the rows, and all of the weights and gains. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)

variable {c : Dev nD} {X T U : ℕ → ℕ → ℝ} {G : ℕ → ℝ} {W : ℕ → ℕ → ℕ → ℝ}

/-- A block of the hidden rows. -/
theorem blk0 (h : Reads (m ((c : Thread nD τ).loc main_arg1)) U) (t : Fin cfg0.N) :
    Reads (m := 512) (n := 4096) (iblk m c 0 t) fun r k => U (t.val * 512 + r) k := fun i => by
  unfold iblk; rw [View.read_apply]
  refine (congrFun (V_v0 m c) _).trans ((h _).trans ?_)
  show ((U (win0_0.index t 0 * 512 + 1 * (i 0).val) (win0_0.index t 1 * 4096 + 1 * (i 1).val) : ℝ) : EReal) = _
  rw [(idx0 t).1, (idx0 t).2, one_mul, one_mul, Nat.zero_mul, Nat.zero_add]

/-- The weights. -/
theorem blk1 (h : Reads3 (m ((c : Thread nD τ).loc main_arg2)) W) (t : Fin cfg0.N) :
    Reads (m := 4096) (n := 1024) (iblk m c 1 t) (W 0) := fun i => by
  unfold iblk; rw [View.read_apply]
  refine (congrFun (V_v2 m c) _).trans ((h.drop shapeCasts_S1x4096x1024_S4096x1024 _).trans ?_)
  show ((W 0 (win0_1.index t 0 * 4096 + 1 * (i 0).val) (win0_1.index t 1 * 1024 + 1 * (i 1).val) : ℝ) : EReal) = _
  rw [(idx1 t).1, (idx1 t).2, one_mul, one_mul, Nat.zero_mul, Nat.zero_add, Nat.zero_add]

/-- A block of the residual. -/
theorem blk2 (h : Reads (m ((c : Thread nD τ).loc main_arg0)) X) (t : Fin cfg0.N) :
    Reads (m := 512) (n := 1024) (iblk m c 2 t) fun r k => X (t.val * 512 + r) k := fun i => by
  unfold iblk; rw [View.read_apply]
  refine (congrFun (V_main_arg0 m c) _).trans ((h _).trans ?_)
  show ((X (win0_2.index t 0 * 512 + 1 * (i 0).val) (win0_2.index t 1 * 1024 + 1 * (i 1).val) : ℝ) : EReal) = _
  rw [(idx2 t).1, (idx2 t).2, one_mul, one_mul, Nat.zero_mul, Nat.zero_add]

/-- A block of the targets. -/
theorem blk3 (h : Reads (m ((c : Thread nD τ).loc main_arg4)) T) (t : Fin cfg0.N) :
    Reads (m := 512) (n := 1024) (iblk m c 3 t) fun r k => T (t.val * 512 + r) k := fun i => by
  unfold iblk; rw [View.read_apply]
  refine (congrFun (V_main_arg4 m c) _).trans ((h _).trans ?_)
  show ((T (win0_3.index t 0 * 512 + 1 * (i 0).val) (win0_3.index t 1 * 1024 + 1 * (i 1).val) : ℝ) : EReal) = _
  rw [(idx3 t).1, (idx3 t).2, one_mul, one_mul, Nat.zero_mul, Nat.zero_add]

/-- The gains. -/
theorem blk4 (h : Reads1 (m ((c : Thread nD τ).loc main_arg3)) G) (t : Fin cfg0.N) :
    Reads (m := 1) (n := 1024) (iblk m c 4 t) fun _ k => G k := fun i => by
  unfold iblk; rw [View.read_apply]
  refine (congrFun (V_v3 m c) _).trans ((h.flat shapeCasts_S1024_S1x1024 _).trans ?_)
  show ((G (win0_4.index t 1 * 1024 + 1 * (i 1).val) : ℝ) : EReal) = _
  rw [(idx4 t).2, one_mul, Nat.zero_mul, Nat.zero_add]

/-- The gradient of the rows before the final norm. -/
def dx (X U W T : ℕ → ℕ → ℝ) (G : ℕ → ℝ) (i : S4096x1024.Idx) : EReal :=
  ((normGrad 1024 (stream X U W) (fun r c => offMean (stream X U W) (fun _ c => G c) T r c * G c) (i 0).val (i 1).val : ℝ) : EReal)

variable (hu : Reads (m ((c : Thread nD τ).loc main_arg1)) U) (hw : Reads3 (m ((c : Thread nD τ).loc main_arg2)) W)
  (hx : Reads (m ((c : Thread nD τ).loc main_arg0)) X) (ht : Reads (m ((c : Thread nD τ).loc main_arg4)) T) (hg : Reads1 (m ((c : Thread nD τ).loc main_arg3)) G)

include hu hw hx ht hg in
/-- The rows a point writes are those rows of the gradient. -/
theorem rows_at (t : Fin cfg0.N) (y : S512x1024.Idx)
    (i : S4096x1024.Idx) (h0 : (i 0).val = t.val * 512 + (y 0).val) (h1 : (i 1).val = (y 1).val) : rowsAt m c t y = dx X U (W 0) T G i := by
  refine (back (blk0 m hu t) (blk1 m hw t) (blk2 m hx t) (blk3 m ht t) (blk4 m hg t) y).trans ?_
  unfold dx
  rw [h0, h1]
  rfl

/-- The gains' gradient, a row's part. -/
abbrev gain (X U W T : ℕ → ℕ → ℝ) (G : ℕ → ℝ) (r c : ℕ) : ℝ := offMean (stream X U W) (fun _ c => G c) T r c * (stream X U W r c * rinv 1024 (stream X U W) r)

include hu hw hx ht hg in
/-- The running sum of the gains' gradient after point `n`. -/
theorem running : ∀ (n : ℕ) (h : n < cfg0.N),
    Reads (m := 1) (n := 1024) (outsAt0 m c n h).2.2.1 fun _ k => ∑ r ∈ Finset.range ((n + 1) * 512), gain X U (W 0) T G r k
  | 0, h => by
    rw [outs_first m c ⟨0, h⟩ rfl]
    refine Reads.congr (gains (blk0 m hu ⟨0, h⟩) (blk1 m hw _) (blk2 m hx _) (blk3 m ht _) (blk4 m hg _) Reads.zero) fun r k _ _ => ?_
    simp only [zero_add, Nat.zero_mul, one_mul]
  | n + 1, h => by
    have hN : cfg0.N = 8 := N_0
    rw [outs_later m c ⟨n + 1, h⟩ (by show ¬(n + 1) % 8 = 0; omega)]
    refine Reads.congr (gains (blk0 m hu ⟨n + 1, h⟩) (blk1 m hw _) (blk2 m hx _) (blk3 m ht _) (blk4 m hg _) (running n (Nat.lt_of_succ_lt h))) fun r k _ _ => ?_
    rw [Nat.add_mul (n + 1) 1 512, one_mul, Finset.sum_range_add]
    rfl

include hu hw hx ht hg in
/-- The running loss after point `n`. -/
theorem runningLoss : ∀ (n : ℕ) (h : n < cfg0.N),
    Reads (m := 1) (n := 1024) (outsAt0 m c n h).2.2.2 fun _ _ =>
      (1 / 2 : ℝ) * ∑ r ∈ Finset.range ((n + 1) * 512), lossRow (stream X U (W 0)) (fun _ c => G c) T r
  | 0, h => by
    rw [outs_first m c ⟨0, h⟩ rfl]
    refine Reads.congr (total (blk0 m hu ⟨0, h⟩) (blk1 m hw _) (blk2 m hx _) (blk3 m ht _) (blk4 m hg _) Reads.zero) fun r k _ _ => ?_
    simp only [zero_add, add_zero, Nat.zero_mul, one_mul]
  | n + 1, h => by
    have hN : cfg0.N = 8 := N_0
    rw [outs_later m c ⟨n + 1, h⟩ (by show ¬(n + 1) % 8 = 0; omega)]
    refine Reads.congr (total (blk0 m hu ⟨n + 1, h⟩) (blk1 m hw _) (blk2 m hx _) (blk3 m ht _) (blk4 m hg _) (runningLoss n (Nat.lt_of_succ_lt h))) fun r k _ _ => ?_
    rw [Nat.add_mul (n + 1) 1 512, one_mul, Finset.sum_range_add, mul_add, add_zero]
    rfl

/-- What a point leaves in the two row outputs. -/
theorem outs_rows (c : Dev nD) (t : Fin cfg0.N) : (outsAt0 m c t.val t.isLt).1 = rowsAt m c t ∧ (outsAt0 m c t.val t.isLt).2.1 = roundedAt m c t := by
  by_cases h0 : t.val % 8 = 0
  · rw [outs_first m c t h0]; exact ⟨rfl, rfl⟩
  · rw [outs_later m c t h0]; exact ⟨rfl, rfl⟩

include hu hw hx ht hg in
/-- The first result. -/
theorem array5 : (dats m 0 c).arrAt 5 cfg0.N = dx X U (W 0) T G :=
  (dats m 0 c).arrAt_eq_of_cover 5 (dx X U (W 0) T G) (fun t _ => by
    rw [Value.flushed5, (outs_rows m c t).1]
    funext y
    rw [View.read_apply]
    refine rows_at m hu hw hx ht hg t y _ ?_ ?_
    · show win0_5.index t 0 * 512 + 1 * (y 0).val = _; rw [(idx5 t).1, one_mul]
    · show win0_5.index t 1 * 1024 + 1 * (y 1).val = _; rw [(idx5 t).2]; omega) fun i => by
  have h0 : (i 0).val < 4096 := (i 0).isLt
  have h1 : (i 1).val < 1024 := (i 1).isLt
  refine ⟨⟨(i 0).val / 512, by have hN : cfg0.N = 8 := N_0; omega⟩, flush0_5 _, ?_⟩
  generalize ht : (⟨(i 0).val / 512, _⟩ : Fin cfg0.N) = t
  have hv : t.val = (i 0).val / 512 := by rw [← ht]
  show i ∈ ((View.whole main_v4_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(idx5 t).1]; omega
  | ⟨1, _⟩ => show win0_5.index t 1 * 1024 ≤ (i 1).val ∧ (i 1).val < win0_5.index t 1 * 1024 + 1024; rw [(idx5 t).2]; omega

include hu hw hx ht hg in
/-- The second, its rounding. -/
theorem array6 : (dats m 0 c).arrAt 6 cfg0.N = dx X U (W 0) T G :=
  (dats m 0 c).arrAt_eq_of_cover 6 (dx X U (W 0) T G) (fun t _ => by
    rw [Value.flushed6, (outs_rows m c t).2]
    funext y
    rw [View.read_apply]
    refine rows_at m hu hw hx ht hg t y _ ?_ ?_
    · show win0_6.index t 0 * 512 + 1 * (y 0).val = _; rw [(idx6 t).1, one_mul]
    · show win0_6.index t 1 * 1024 + 1 * (y 1).val = _; rw [(idx6 t).2]; omega) fun i => by
  have h0 : (i 0).val < 4096 := (i 0).isLt
  have h1 : (i 1).val < 1024 := (i 1).isLt
  refine ⟨⟨(i 0).val / 512, by have hN : cfg0.N = 8 := N_0; omega⟩, flush0_6 _, ?_⟩
  generalize ht : (⟨(i 0).val / 512, _⟩ : Fin cfg0.N) = t
  have hv : t.val = (i 0).val / 512 := by rw [← ht]
  show i ∈ ((View.whole main_v4_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(idx6 t).1]; omega
  | ⟨1, _⟩ => show win0_6.index t 1 * 1024 ≤ (i 1).val ∧ (i 1).val < win0_6.index t 1 * 1024 + 1024; rw [(idx6 t).2]; omega

/-- The gains' gradient. -/
def dg (X U W T : ℕ → ℕ → ℝ) (G : ℕ → ℝ) (i : S1x1024.Idx) : EReal := ((∑ r ∈ Finset.range 4096, gain X U W T G r (i 1).val : ℝ) : EReal)

include hu hw hx ht hg in
/-- The third result. -/
theorem array7 : (dats m 0 c).arrAt 7 cfg0.N = dg X U (W 0) T G :=
  (dats m 0 c).arrAt_eq_of_cover 7 (dg X U (W 0) T G) (fun t hf => by
    have hl := (flush0_7 t).mp hf
    have hN : cfg0.N = 8 := N_0
    have h7 : t.val = 7 := by have := t.isLt; omega
    rw [Value.flushed7]
    funext y
    rw [View.read_apply]
    refine (running m hu hw hx ht hg t.val t.isLt y).trans ?_
    show ((∑ r ∈ Finset.range ((t.val + 1) * 512), gain X U (W 0) T G r (y 1).val : ℝ) : EReal)
      = ((∑ r ∈ Finset.range 4096, gain X U (W 0) T G r (win0_7.index t 1 * 1024 + 1 * (y 1).val) : ℝ) : EReal)
    rw [(idx7 t).2, h7, one_mul, Nat.zero_mul, Nat.zero_add]) fun i => by
  have h0 : (i 0).val < 1 := (i 0).isLt
  have h1 : (i 1).val < 1024 := (i 1).isLt
  have hN : cfg0.N = 8 := N_0
  refine ⟨⟨7, by omega⟩, (flush0_7 _).mpr rfl, ?_⟩
  generalize (⟨7, _⟩ : Fin cfg0.N) = t
  show i ∈ ((View.whole main_v4_2).slice (win0_7.rect t)).set
  rw [View.set_slice_whole, Rect.mem_set_unit]
  intro a
  match a with
  | ⟨0, _⟩ => show win0_7.index t 0 * 1 ≤ (i 0).val ∧ (i 0).val < win0_7.index t 0 * 1 + 1; rw [(idx7 t).1]; omega
  | ⟨1, _⟩ => show win0_7.index t 1 * 1024 ≤ (i 1).val ∧ (i 1).val < win0_7.index t 1 * 1024 + 1024; rw [(idx7 t).2]; omega

/-- The loss, along a row. -/
def lossAlong (X U W T : ℕ → ℕ → ℝ) (G : ℕ → ℝ) (i : S1x1024.Idx) : EReal :=
  (((1 / 2 : ℝ) * ∑ r ∈ Finset.range 4096, lossRow (stream X U W) (fun _ c => G c) T r : ℝ) : EReal)

include hu hw hx ht hg in
/-- The fourth result. -/
theorem array8 : (dats m 0 c).arrAt 8 cfg0.N = lossAlong X U (W 0) T G :=
  (dats m 0 c).arrAt_eq_of_cover 8 (lossAlong X U (W 0) T G) (fun t hf => by
    have hl := (flush0_8 t).mp hf
    have hN : cfg0.N = 8 := N_0
    have h7 : t.val = 7 := by have := t.isLt; omega
    rw [Value.flushed8]
    funext y
    rw [View.read_apply]
    refine (runningLoss m hu hw hx ht hg t.val t.isLt y).trans ?_
    rw [h7]
    rfl) fun i => by
  have h0 : (i 0).val < 1 := (i 0).isLt
  have h1 : (i 1).val < 1024 := (i 1).isLt
  have hN : cfg0.N = 8 := N_0
  refine ⟨⟨7, by omega⟩, (flush0_8 _).mpr rfl, ?_⟩
  generalize (⟨7, _⟩ : Fin cfg0.N) = t
  show i ∈ ((View.whole main_v4_3).slice (win0_8.rect t)).set
  rw [View.set_slice_whole, Rect.mem_set_unit]
  intro a
  match a with
  | ⟨0, _⟩ => show win0_8.index t 0 * 1 ≤ (i 0).val ∧ (i 0).val < win0_8.index t 0 * 1 + 1; rw [(idx8 t).1]; omega
  | ⟨1, _⟩ => show win0_8.index t 1 * 1024 ≤ (i 1).val ∧ (i 1).val < win0_8.index t 1 * 1024 + 1024; rw [(idx8 t).2]; omega

end Cert.Kernel5Ideal.Down

end
-- ==== Proof.Down.Reference.lean ====
/- The reference of the loss, the final norm's gradient and the gains' gradient over real numbers. -/
module

public import proofs.«01_k».proof.Proof.Gen.Reference5Ideal.Read
public import proofs.«01_k».proof.Proof.Down.Block
public import proofs.«01_k».proof.Proof.Real.HostNorm
public import proofs.«01_k».proof.Proof.Real.Softmax

@[expose] public section

set_option maxRecDepth 16384

noncomputable section

namespace Cert.Reference5Ideal.Down

open Idealize.ShloMosaic Idealize.ShloMosaic.Tactic Cert.Reference5Ideal Cert.Reference5Ideal.Gen Cert.Reference5Ideal.Read Cert.Reals

theorem word_two : Ideal.ofBits .f32 0x40000000#32 = ((2 : ℝ) : EReal) := by
  simp [Ideal.ofBits, Ideal.ieee, -EReal.coe_mul]
  norm_num

theorem word_one : Ideal.ofBits .f32 0x3F800000#32 = ((1 : ℝ) : EReal) := by
  simp [Ideal.ofBits, Ideal.ieee, -EReal.coe_mul]
  norm_num

/-- A list of quotients. -/
theorem Reads1.ratio {n : ℕ} {x y : FVec Ideal ⟨1, ![n]⟩ .f32} {f g : ℕ → ℝ} (hx : Reads1 x f) (hy : Reads1 y g) (h : ∀ r, g r ≠ 0) :
    Reads1 (Host.divf x y) fun r => f r / g r := fun i => by
  show Ideal.div (x i) (y i) = _
  rw [hx i, hy i, div_real (h _)]

/-- The sum over a list's places. -/
theorem sum_list {x : S4096.Idx → EReal} {f : ℕ → ℝ} (hx : Reads1 (n := 4096) x f) : ∑ j : S4096.Idx, x j = ((∑ r ∈ Finset.range 4096, f r : ℝ) : EReal) := by
  rw [← sum_fin (n := 4096) (f := fun k => ((f k.val : ℝ) : EReal)) (g := f) fun _ => rfl]
  refine Fintype.sum_bijective (fun j : S4096.Idx => (j 0 : Fin 4096)) ⟨fun a b h => funext fun k => ?_, fun k => ⟨ValueIdx.ix1 k, rfl⟩⟩ _ _ hx
  match k with
  | ⟨0, _⟩ => exact h

variable {x0 x4 : (⟨S4096x1024, .f32⟩ : BufTy).Contents (Elt Ideal)} {x1 : (⟨S4096x4096, .f32⟩ : BufTy).Contents (Elt Ideal)}
  {x2 : (⟨S1x4096x1024, .f32⟩ : BufTy).Contents (Elt Ideal)} {x3 : (⟨S1024, .f32⟩ : BufTy).Contents (Elt Ideal)}
variable {X T U : ℕ → ℕ → ℝ} {G : ℕ → ℝ} {W : ℕ → ℕ → ℕ → ℝ}

/-- The weights without their leading axis. -/
theorem weights (hw : Reads3 x2 W) : Reads (val_main_v2 (F := Ideal) x2) (W 0) := hw.drop shapeCasts_S1x4096x1024_S4096x1024

/-- The squared relu. -/
theorem squared (hu : Reads x1 U) : Reads (val_main_v1 (F := Ideal) x1) fun r k => max (U r k) 0 * max (U r k) 0 :=
  have c : Reads (val_main_v0 (F := Ideal) x1) fun r k => max (U r k) 0 :=
    Reads.relu (φ := .f32) hu (Reads.hostConst (Ideal.ofBits_zero_f32.trans EReal.coe_zero.symm) bcast_S_S4096x4096)
  c.mul c

/-- The rows before the final norm. -/
theorem before (hx : Reads x0 X) (hu : Reads x1 U) (hw : Reads3 x2 W) : Reads (val_main_v4 (F := Ideal) x0 x1 x2) (stream X U (W 0)) :=
  have p : Reads (val_main_v3 (F := Ideal) x1 x2) fun r c => ∑ k ∈ Finset.range 4096, max (U r k) 0 * max (U r k) 0 * W 0 k c := fun i => by
    rw [val_main_v3_apply, sum_fin (g := fun k => max (U (i 0).val k) 0 * max (U (i 0).val k) 0 * W 0 k (i 1).val) fun k => by
      rw [squared hu _, weights hw _, ← EReal.coe_mul]]
  Reads.congr (hx.add p) fun r c _ _ => add_comm _ _

theorem mean (hx : Reads x0 X) (hu : Reads x1 U) (hw : Reads3 x2 W) : Reads (val_main_v11 (F := Ideal) x0 x1 x2) fun r _ => meanSq 1024 (stream X U (W 0)) r :=
  hostMean (before hx hu hw) (by decide) (by decide) (by rw [Nat.cast_ofNat]; exact word_1024) word_eps reducesTo_S4096x1024_S4096_d1 (by decide) h_S_
    bcast_S4096_S4096x1_0 bcast_S_S4096x1

theorem root (hx : Reads x0 X) (hu : Reads x1 U) (hw : Reads3 x2 W) : Reads (val_main_v12 (F := Ideal) x0 x1 x2) fun r _ => rinv 1024 (stream X U (W 0)) r :=
  (mean hx hu hw).hostRsqrt fun r _ => meanSq_pos _ _ _

theorem normed (hx : Reads x0 X) (hu : Reads x1 U) (hw : Reads3 x2 W) :
    Reads (val_main_v17 (F := Ideal) x0 x1 x2) fun r c => stream X U (W 0) r c * rinv 1024 (stream X U (W 0)) r :=
  (before hx hu hw).mul ((root hx hu hw).hostSpread (by decide) bcast_S4096x1_S4096x1024_0_1)

theorem spreadGains (hg : Reads1 x3 G) : Reads (val_main_v19 (F := Ideal) x3) fun _ c => G c :=
  (hg.across (by decide) bcast_S1024_S1x1024_1).hostUnder (by decide) bcast_S1x1024_S4096x1024_0_1

theorem error (hx : Reads x0 X) (hu : Reads x1 U) (hw : Reads3 x2 W) (hg : Reads1 x3 G) (ht : Reads x4 T) :
    Reads (val_main_v21 (F := Ideal) x0 x1 x2 x3 x4) (off (stream X U (W 0)) (fun _ c => G c) T) :=
  ((normed hx hu hw).mul (spreadGains hg)).sub ht

/-- The fourth result, the loss along a row. -/
theorem loss (hx : Reads x0 X) (hu : Reads x1 U) (hw : Reads3 x2 W) (hg : Reads1 x3 G) (ht : Reads x4 T) :
    Reads (val_main_v58 (F := Ideal) x0 x1 x2 x3 x4) fun _ _ => (1 / 2 : ℝ) * ∑ r ∈ Finset.range 4096, lossRow (stream X U (W 0)) (fun _ c => G c) T r := fun i => by
  have e : Reads1 (val_main_v27 (F := Ideal) x0 x1 x2 x3 x4) (lossRow (stream X U (W 0)) (fun _ c => G c) T) :=
    Reads1.ratio (((error hx hu hw hg ht).mul (error hx hu hw hg ht)).hostRows reducesTo_S4096x1024_S4096_d1 (by decide) h_S_)
      (g := fun _ => 1024) (fun _ => word_1024) fun _ => by norm_num
  have s : val_main_v28 (F := Ideal) x0 x1 x2 x3 x4 (idx_main_v58 i) = ((∑ r ∈ Finset.range 4096, lossRow (stream X U (W 0)) (fun _ c => G c) T r : ℝ) : EReal) := by
    rw [val_main_v28_apply, sum_list e]
    show Ideal.ofBits .f32 0x00000000#32 + _ = _
    rw [Ideal.ofBits_zero_f32, zero_add]
  rw [val_main_v58_apply]
  show Ideal.ofBits .f32 0x3F000000#32 * val_main_v28 (F := Ideal) x0 x1 x2 x3 x4 (idx_main_v58 i) = _
  rw [s, word_half, ← EReal.coe_mul]

/-- The gradient of the normed rows. -/
theorem slope (hx : Reads x0 X) (hu : Reads x1 U) (hw : Reads3 x2 W) (hg : Reads1 x3 G) (ht : Reads x4 T) :
    Reads (val_main_v35 (F := Ideal) x0 x1 x2 x3 x4) (offMean (stream X U (W 0)) (fun _ c => G c) T) :=
  have k : Reads1 (val_main_v33 (F := Ideal)) fun _ => (1 / 2 * 1 : ℝ) / 1024 := Reads1.ratio
    (f := fun _ => 1 / 2 * 1) (g := fun _ => 1024)
    (fun _ => by
      show Ideal.ofBits .f32 0x3F000000#32 * Ideal.ofBits .f32 0x3F800000#32 = _
      rw [word_half, word_one, ← EReal.coe_mul]) (fun _ => word_1024) fun _ => by norm_num
  Reads.congr ((k.down (by decide) bcast_S4096_S4096x1024_0).mul ((Reads.hostConst word_two bcast_S_S4096x1024).mul (error hx hu hw hg ht))) fun r c _ _ => by
    unfold offMean
    ring

theorem gained (hx : Reads x0 X) (hu : Reads x1 U) (hw : Reads3 x2 W) (hg : Reads1 x3 G) (ht : Reads x4 T) :
    Reads (val_main_v40 (F := Ideal) x0 x1 x2 x3 x4) fun r c => offMean (stream X U (W 0)) (fun _ c => G c) T r c * G c :=
  (slope hx hu hw hg ht).mul (spreadGains hg)

/-- The first result. -/
theorem rows (hx : Reads x0 X) (hu : Reads x1 U) (hw : Reads3 x2 W) (hg : Reads1 x3 G) (ht : Reads x4 T) :
    Reads (val_main_v55 (F := Ideal) x0 x1 x2 x3 x4)
      (normGrad 1024 (stream X U (W 0)) fun r c => offMean (stream X U (W 0)) (fun _ c => G c) T r c * G c) :=
  have d := gained hx hu hw hg ht
  have b := before hx hu hw
  have w : Reads (val_main_v51 (F := Ideal) x0 x1 x2 x3 x4) _ := hostHalf b d (mean hx hu hw) (root hx hu hw) (by decide) (by decide)
    (by rw [Nat.cast_ofNat]; exact word_1024) word_neg_half reducesTo_S4096x1024_S4096_d1 (by decide) h_S_ shapeCasts_S4096_S4096x1 bcast_S_S4096x1
    reducesTo_S4096x1_S4096_d1 (by decide) bcast_S4096_S4096x1024_0
  Reads.congr (((d.mul ((root hx hu hw).hostSpread (by decide) bcast_S4096x1_S4096x1024_0_1)).add (b.mul w)).add (w.mul b)) fun r c _ _ => by
    unfold normGrad
    rw [Finset.sum_congr rfl fun c _ => mul_comm (stream X U (W 0) r c) (offMean (stream X U (W 0)) (fun _ c => G c) T r c * G c)]
    ring

/-- The third. -/
theorem gains (hx : Reads x0 X) (hu : Reads x1 U) (hw : Reads3 x2 W) (hg : Reads1 x3 G) (ht : Reads x4 T) :
    Reads (val_main_v57 (F := Ideal) x0 x1 x2 x3 x4) fun _ c =>
      ∑ r ∈ Finset.range 4096, offMean (stream X U (W 0)) (fun _ c => G c) T r c * (stream X U (W 0) r c * rinv 1024 (stream X U (W 0)) r) :=
  Reads.congr ((((((normed hx hu hw).mul (slope hx hu hw hg ht)).hostCols reducesTo_S4096x1024_S1024_d0 (by decide) h_S_).flat shapeCasts_S1024_S1x1024).hostCols
    reducesTo_S1x1024_S1024_d0 (by decide) h_S_).flat shapeCasts_S1024_S1x1024) fun r c _ _ => by
      rw [Finset.sum_range_one]
      exact Finset.sum_congr rfl fun r _ => mul_comm _ _

end Cert.Reference5Ideal.Down

end
-- ==== Proof.Down.Equation.lean ====
/- The down projection with the loss: kernel and reference hold the same four arrays. -/
module

public import proofs.«01_k».proof.Defs
public import proofs.«01_k».proof.Proof.Gen.Reference5Ideal.Run
public import proofs.«01_k».proof.Proof.Down.Kernel
public import proofs.«01_k».proof.Proof.Down.Reference
public import proofs.«01_k».proof.Proof.Real.Finite3

@[expose] public section

set_option maxRecDepth 16384

noncomputable section

namespace Cert.Kernel5Ideal.Down

open Idealize.ShloMosaic Idealize.ShloMosaic.Tactic Idealize.ShloMosaic.TcCoe Cert.Kernel5Ideal Cert.Kernel5Ideal.Gen Cert.Reals Idealize.SL.Sem

variable (m : (ℓ : Loc nD τ sig) → Buf (Elt Ideal) ℓ)

/-- The arguments hold real numbers. -/
def Launched (c : Dev nD) : Prop := (∃ X, Reads (m ((c : Thread nD τ).loc main_arg0)) X) ∧ (∃ U, Reads (m ((c : Thread nD τ).loc main_arg1)) U)
  ∧ (∃ W, Reads3 (m ((c : Thread nD τ).loc main_arg2)) W) ∧ (∃ G, Reads1 (m ((c : Thread nD τ).loc main_arg3)) G) ∧ ∃ T, Reads (m ((c : Thread nD τ).loc main_arg4)) T

variable {m} {c : Dev nD} (h : Launched m c)

include h in
theorem same_rows : Cert.Reference5Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 5 cfg0.N := by
  obtain ⟨⟨X, hx⟩, ⟨U, hu⟩, ⟨W, hw⟩, ⟨G, hg⟩, T, ht⟩ := h
  rw [array5 m hu hw hx ht hg]
  exact funext fun i => Cert.Reference5Ideal.Down.rows hx hu hw hg ht i

include h in
theorem same_rounded : Cert.Reference5Ideal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 6 cfg0.N := by
  obtain ⟨⟨X, hx⟩, ⟨U, hu⟩, ⟨W, hw⟩, ⟨G, hg⟩, T, ht⟩ := h
  rw [array6 m hu hw hx ht hg]
  exact funext fun i => Cert.Reference5Ideal.Down.rows hx hu hw hg ht i

include h in
theorem same_gains : Cert.Reference5Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 7 cfg0.N := by
  obtain ⟨⟨X, hx⟩, ⟨U, hu⟩, ⟨W, hw⟩, ⟨G, hg⟩, T, ht⟩ := h
  rw [array7 m hu hw hx ht hg]
  exact funext fun i => Cert.Reference5Ideal.Down.gains hx hu hw hg ht i

include h in
theorem same_loss : Cert.Reference5Ideal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 8 cfg0.N := by
  obtain ⟨⟨X, hx⟩, ⟨U, hu⟩, ⟨W, hw⟩, ⟨G, hg⟩, T, ht⟩ := h
  rw [array8 m hu hw hx ht hg]
  exact funext fun i => Cert.Reference5Ideal.Down.loss hx hu hw hg ht i

end Cert.Kernel5Ideal.Down

namespace Cert.Proof

open Idealize.ShloMosaic Idealize.ShloMosaic.Tactic Idealize.SL.Sem

/-- The down projection with the loss: the reference's run leaves every semaphore at zero and its arguments as they were. -/
theorem down_reference_frame : Cert.quiescent_Reference5Ideal (hReference5Ideal := Cert.Reference5Ideal.Gen.facts) := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

/-- The shapes of the finiteness test fit. -/
theorem down_finite_facts : Cert.Pre_finite5.Facts := ⟨by decide, by decide, by decide, by decide⟩

/-- The down projection with the loss: the finite arguments hold real numbers. -/
theorem down_launched (m : (ℓ : Loc Cert.Kernel5Ideal.nD Cert.Kernel5Ideal.τ Cert.Kernel5Ideal.sig) → Buf (Elt Ideal) ℓ)
    (h : Cert.Pre_Kernel5Ideal_finite5 (hPre_finite5 := down_finite_facts) m) (c : Dev Cert.Kernel5Ideal.nD) : Cert.Kernel5Ideal.Down.Launched m c := by
  obtain ⟨h0, h1, h2, h3, h4⟩ := h c
  exact ⟨⟨_, Cert.Reals.reads_of_finite (fun _ => Cert.Reals.word_top) h0⟩, ⟨_, Cert.Reals.reads_of_finite (fun _ => Cert.Reals.word_top) h1⟩,
    Cert.Reals.reads3_of_finite (fun _ => Cert.Reals.word_top) h2, Cert.Reals.reads1_of_finite (fun _ => Cert.Reals.word_top) h3,
    ⟨_, Cert.Reals.reads_of_finite (fun _ => Cert.Reals.word_top) h4⟩⟩

/-- The down projection with the loss: kernel and reference end with the same four arrays. -/
theorem down_algebraic : Cert.algebraic_Kernel5Ideal_Reference5Ideal_pre_finite5 (hKernel5Ideal := Cert.Kernel5Ideal.Gen.facts)
    (hReference5Ideal := Cert.Reference5Ideal.Gen.facts) (hPre_finite5 := down_finite_facts) := fun m ρ m' ρ' hp hag =>
  ⟨_, _, _, _, Cert.Kernel5Ideal.Value.run_blocks m ρ,
    (θ_run Cert.Reference5Ideal.defs _ _).mono
      (fun _ h c => by
        have hl := down_launched m hp c
        obtain ⟨a0, a1, a2, a3, a4⟩ := hag c
        refine ⟨(h c).1.trans ?_, (h c).2.1.trans ?_, (h c).2.2.1.trans ?_, (h c).2.2.2.1.trans ?_, (h c).2.2.2.2⟩
        · rw [Cert.Reference5Ideal.Read.val_main_v55_eq, a0, a1, a2, a3, a4]
          exact Cert.Kernel5Ideal.Down.same_rows hl
        · rw [Cert.Reference5Ideal.Read.val_main_v56_eq, a0, a1, a2, a3, a4]
          exact Cert.Kernel5Ideal.Down.same_rounded hl
        · rw [Cert.Reference5Ideal.Read.val_main_v57_eq, a0, a1, a2, a3, a4]
          exact Cert.Kernel5Ideal.Down.same_gains hl
        · rw [Cert.Reference5Ideal.Read.val_main_v58_eq, a0, a1, a2, a3, a4]
          exact Cert.Kernel5Ideal.Down.same_loss hl)
      (Cert.Reference5Ideal.Value.run (F := Ideal) m' ρ')⟩

end Cert.Proof

end
-- ==== Proof.Proj.Block.lean ====
/- The input projection's gradient through its norm, one block of rows, over real numbers. -/
module

public import proofs.«01_k».proof.Proof.Gen.Kernel6Ideal.Value
public import proofs.«01_k».proof.Proof.Real.Norm

@[expose] public section

set_option maxRecDepth 16384

noncomputable section

namespace Cert.Kernel6Ideal.Proj

open Idealize.ShloMosaic Idealize.ShloMosaic.Tactic Cert.Kernel6Ideal Cert.Kernel6Ideal.Gen Cert.Reals

variable {x0 : FVec Ideal S512x512 .f32} {x1 x2 : FVec Ideal S512x512 .bf16} {x3 x4 x5 x6 : FVec Ideal S512x1024 .bf16} {x7 : FVec Ideal S1024x1024 .bf16}
  {x res : FVec Ideal S512x1024 .f32} {g : FVec Ideal S1x1024 .f32}
variable {D0 D1 D2 D3 W0 W1 W2 W3 X G P : ℕ → ℕ → ℝ}

/-- The four products that make up the gradient of the normed rows. -/
def pulls (D0 D1 D2 D3 W0 W1 W2 W3 : ℕ → ℕ → ℝ) (r c : ℕ) : ℝ :=
  (∑ k ∈ Finset.range 512, D0 r k * W0 k c) + (∑ k ∈ Finset.range 512, D1 r k * W1 k c) + (∑ k ∈ Finset.range 512, D2 r k * W2 k c)
    + ∑ k ∈ Finset.range 1024, D3 r k * W3 k c

theorem product (h0 : Reads x0 D0) (h1 : Reads x1 D1) (h2 : Reads x2 D2) (h3 : Reads x3 D3) (h4 : Reads x4 W0) (h5 : Reads x5 W1) (h6 : Reads x6 W2) (h7 : Reads x7 W3) :
    Reads (m := 512) (n := 1024) (k0_pay5 (F := Ideal) x0 x4 x1 x5 x2 x6 x3 x7) (pulls D0 D1 D2 D3 W0 W1 W2 W3) :=
  (((Reads.dot (φ := .bf16) (φ' := .bf16) (h0.same shapeCasts_S512x512_S512x512 : Reads _ D0) (h4.same shapeCasts_S512x1024_S512x1024) rfl).add
    ((h1.same shapeCasts_S512x512_S512x512).dot (h5.same shapeCasts_S512x1024_S512x1024) rfl)).add
    ((h2.same shapeCasts_S512x512_S512x512).dot (h6.same shapeCasts_S512x1024_S512x1024) rfl)).add
    ((h3.same shapeCasts_S512x1024_S512x1024).dot (h7.same shapeCasts_S1024x1024_S1024x1024) rfl)

/-- One over the rows' root mean square. -/
theorem root (hx : Reads x X) : Reads (m := 512) (n := 1) (k0_pay1 (F := Ideal) (k0_pay6 (F := Ideal) x) (Scalar.ofBits .f32 0x44800000#32)) fun r _ => rinv 1024 X r :=
  hx.rinvBlock (by rw [Nat.cast_ofNat]; exact word_1024) word_eps (by decide) _ _ _ _

/-- The rows' gradient: through the norm, and around it. -/
theorem rows {p : FVec Ideal S512x1024 .f32} (hp : Reads p P) (hx : Reads x X) (hg : Reads g G) (i : S512x1024.Idx) :
    k0_pay2 (F := Ideal) p x res g (k0_pay6 (F := Ideal) x) (Scalar.ofBits .f32 0x44800000#32) i
      = ((normGrad 1024 X (fun r c => P r c * G 0 c) (i 0).val (i 1).val : ℝ) : EReal) + res i :=
  congrArg (· + res i) (hx.normBlock (hp.mul (hg.under (by decide) broadcasts_S1x1024_S512x1024)) (root hx) (by decide) (by decide)
    (by rw [Nat.cast_ofNat]; exact word_1024) reduces_S512x1024_S512 (.inl rfl) rfl shapeCasts_S512_S512x1 broadcasts_S512x1_S512x1024 i)

/-- The gains' gradient with the block's part added. -/
theorem gains {p : FVec Ideal S512x1024 .f32} {q : FVec Ideal S1x1024 .f32} {Q : ℕ → ℕ → ℝ} (hp : Reads p P) (hx : Reads x X) (hq : Reads q Q) :
    Reads (m := 1) (n := 1024) (k0_pay4 (F := Ideal) p x (k0_pay6 (F := Ideal) x) (Scalar.ofBits .f32 0x44800000#32) q)
      fun r c => Q r c + ∑ r ∈ Finset.range 512, P r c * (X r c * rinv 1024 X r) :=
  (hq.same shapeCasts_S1x1024_S1x1024).add ((hp.mul (hx.mul ((root hx).spread (by decide) broadcasts_S512x1_S512x1024))).colSums reduces_S512x1024_S1024 (.inl rfl) rfl
    shapeCasts_S1024_S1x1024)

end Cert.Kernel6Ideal.Proj

end
-- ==== Proof.Proj.Cases.lean ====
/- What each point of the grid leaves in the two outputs' blocks: the rows' gradient and the running sum of the gains' gradient,
   which the first point starts at zero. -/
module

public import proofs.«01_k».proof.Proof.Proj.Block

@[expose] public section

set_option maxRecDepth 16384

noncomputable section

namespace Cert.Kernel6Ideal.Proj

open Idealize.ShloMosaic Idealize.ShloMosaic.Tactic Idealize.ShloMosaic.TcCoe Cert.Kernel6Ideal Cert.Kernel6Ideal.Gen Cert.Reals

variable (m : (ℓ : Loc nD τ sig) → Buf (Elt Ideal) ℓ)

/-- The zero offsets of a load or store of a whole block. -/
theorem hz : (![0, 0] : Fin 2 → Nat) = fun _ => 0 := by funext a; fin_cases a <;> rfl

/-- The gradient of the normed rows at point `t`. -/
abbrev pullAt (c : Dev nD) (t : Fin cfg0.N) : FVec Ideal S512x1024 .f32 :=
  k0_pay5 (F := Ideal) (iblk m c 0 t) (iblk m c 4 t) (iblk m c 1 t) (iblk m c 5 t) (iblk m c 2 t) (iblk m c 6 t) (iblk m c 3 t) (iblk m c 7 t)

/-- The rows' gradient at point `t`. -/
abbrev rowsAt (c : Dev nD) (t : Fin cfg0.N) : FVec Ideal S512x1024 .f32 :=
  k0_pay2 (F := Ideal) (pullAt m c t) (iblk m c 8 t) (iblk m c 9 t) (iblk m c 10 t) (k0_pay6 (F := Ideal) (iblk m c 8 t)) (Scalar.ofBits .f32 0x44800000#32)

/-- The gains' gradient after point `t`, from what it was before. -/
abbrev gainsAt (c : Dev nD) (t : Fin cfg0.N) (q : FVec Ideal S1x1024 .f32) : FVec Ideal S1x1024 .f32 :=
  k0_pay4 (F := Ideal) (pullAt m c t) (iblk m c 8 t) (k0_pay6 (F := Ideal) (iblk m c 8 t)) (Scalar.ofBits .f32 0x44800000#32) q

/-- The first point. -/
theorem outs_first (c : Dev nD) (t : Fin cfg0.N) (h0 : t.val % 8 = 0) :
    outsAt0 m c t.val t.isLt = (rowsAt m c t, gainsAt m c t (k0_pay3 (F := Ideal))) := by
  rw [outsAt0_A m c t h0]
  refine Prod.ext ?_ ?_ <;> dsimp only
  · unfold out0_A_11
    rw [View.read_writes_eq_canon _ _ _ (cover0_A_11 _ _ _ _ _ _ _ _ _ _ _ _ _ _ _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, (hs0_10 t).read_unread,
      View.ld_unit_zero (S := S512x512) hz, View.ld_unit_zero (S := S512x1024) hz, View.ld_unit_zero (S := S1024x1024) hz, View.ld_unit_zero (S := S1x1024) hz]
  · unfold out0_A_12
    rw [View.read_writes_eq_canon _ _ _ (cover0_A_12 _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x1024) hz, View.readCov_unit_zero (S := S1x1024) _ hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, (hs0_10 t).read_unread,
      View.ld_unit_zero (S := S512x512) hz, View.ld_unit_zero (S := S512x1024) hz, View.ld_unit_zero (S := S1024x1024) hz, View.ld_unit_zero (S := S1x1024) hz]

/-- A later point. -/
theorem outs_later (c : Dev nD) (t : Fin cfg0.N) (h0 : ¬t.val % 8 = 0) :
    outsAt0 m c t.val t.isLt = (rowsAt m c t, gainsAt m c t (outsAt0 m c (t.val - 1) (Nat.lt_of_le_of_lt (Nat.sub_le _ _) t.isLt)).2) := by
  rw [outsAt0_B m c t h0]
  refine Prod.ext ?_ ?_ <;> dsimp only
  · unfold out0_B_11
    rw [View.read_writes_eq_canon _ _ _ (cover0_B_11 _ _ _ _ _ _ _ _ _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, (hs0_10 t).read_unread,
      View.ld_unit_zero (S := S512x512) hz, View.ld_unit_zero (S := S512x1024) hz, View.ld_unit_zero (S := S1024x1024) hz, View.ld_unit_zero (S := S1x1024) hz]
  · unfold out0_B_12
    rw [View.read_writes_eq_canon _ _ _ (cover0_B_12 _ _ _ _ _ _ _ _ _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, (hs0_10 t).read_unread, (hs0_12 t).read_unread,
      View.ld_unit_zero (S := S512x512) hz, View.ld_unit_zero (S := S512x1024) hz, View.ld_unit_zero (S := S1024x1024) hz, View.ld_unit_zero (S := S1x1024) hz]

end Cert.Kernel6Ideal.Proj

end
-- ==== Proof.Proj.Host.lean ====
/- The columns the host packs for the fourth product: the latent columns, the rotary ones and the gates', with zeros between. -/
module

public import proofs.«01_k».proof.Proof.Gen.Kernel6Ideal.Value
public import proofs.«01_k».proof.Proof.Real.Norm

@[expose] public section

set_option maxRecDepth 16384

noncomputable section

namespace Cert.Kernel6Ideal.Proj

open Idealize.ShloMosaic Idealize.ShloMosaic.Tactic Idealize.ShloMosaic.TcCoe Cert.Kernel6Ideal Cert.Kernel6Ideal.Gen Cert.Reals

/-- One piece of arrays put side by side. -/
theorem piece_reads {m N w pre k : ℕ} {xs : List ((s : Shape) × (s.Idx → EReal))} (h : Shape.Concatenates (xs.map (·.1)) ⟨2, ![m, N]⟩ (1 : Fin 2))
    (i : (⟨2, ![m, N]⟩ : Shape).Idx) (hk : k < xs.length) {x : (⟨2, ![m, w]⟩ : Shape).Idx → EReal} (hxk : xs[k] = ⟨⟨2, ![m, w]⟩, x⟩)
    (hpre : (((xs.take k).map (·.1)).map fun s => if h : s.rank = (⟨2, ![m, N]⟩ : Shape).rank then s.size ((1 : Fin 2).cast h.symm) else 0).sum = pre)
    {f : ℕ → ℕ → ℝ} (hx : Reads x f) (hlo : pre ≤ (i 1).val) (hhi : (i 1).val < pre + w) :
    concatenate ⟨2, ![m, N]⟩ (1 : Fin 2) xs h i = ((f (i 0).val ((i 1).val - pre) : ℝ) : EReal) := by
  have b0 : (i 0).val < m := (i 0).isLt
  rw [concatenate_apply_piece (t := ⟨2, ![m, N]⟩) 1 xs h i k hk ⟨2, ![m, w]⟩ x hxk rfl pre hpre
      (ValueIdx.ix2 ⟨(i 0).val, b0⟩ ⟨(i 1).val - pre, by omega⟩) (fun d => by
        match d with
        | ⟨0, _⟩ => exact fun _ => rfl
        | ⟨1, _⟩ => exact fun h => absurd rfl h) (by show pre + ((i 1).val - pre) = (i 1).val; omega)]
  exact hx _

/-- A row's packed columns. -/
def packed (f : ℕ → ℝ) (k : ℕ) : ℝ :=
  if k < 640 then f (1544 + k) else if k < 704 then 0 else if k < 736 then f (2184 + (k - 704)) else if k < 768 then 0 else if k < 776 then f (1536 + (k - 768)) else 0

theorem packed_reads {m : ℕ} {x0 : FVec Ideal ⟨2, ![m, 640]⟩ .f32} {x1 : FVec Ideal ⟨2, ![m, 64]⟩ .f32} {x2 x3 : FVec Ideal ⟨2, ![m, 32]⟩ .f32}
    {x4 : FVec Ideal ⟨2, ![m, 8]⟩ .f32} {x5 : FVec Ideal ⟨2, ![m, 248]⟩ .f32} {f : ℕ → ℕ → ℝ}
    (h0 : Reads x0 fun r c => f (0 + r) (1544 + c)) (h1 : Reads x1 fun _ _ => 0) (h2 : Reads x2 fun r c => f (0 + r) (2184 + c)) (h3 : Reads x3 fun _ _ => 0)
    (h4 : Reads x4 fun r c => f (0 + r) (1536 + c)) (h5 : Reads x5 fun _ _ => 0)
    (h : Shape.Concatenates [⟨2, ![m, 640]⟩, ⟨2, ![m, 64]⟩, ⟨2, ![m, 32]⟩, ⟨2, ![m, 32]⟩, ⟨2, ![m, 8]⟩, ⟨2, ![m, 248]⟩] ⟨2, ![m, 1024]⟩ (1 : Fin 2)) :
    Reads (concatenate ⟨2, ![m, 1024]⟩ (1 : Fin 2) [⟨⟨2, ![m, 640]⟩, x0⟩, ⟨⟨2, ![m, 64]⟩, x1⟩, ⟨⟨2, ![m, 32]⟩, x2⟩, ⟨⟨2, ![m, 32]⟩, x3⟩, ⟨⟨2, ![m, 8]⟩, x4⟩, ⟨⟨2, ![m, 248]⟩, x5⟩] h)
      fun r c => packed (f r) c := fun i => by
  have b1 : (i 1).val < 1024 := (i 1).isLt
  let xs : List ((s : Shape) × (s.Idx → EReal)) := [⟨⟨2, ![m, 640]⟩, x0⟩, ⟨⟨2, ![m, 64]⟩, x1⟩, ⟨⟨2, ![m, 32]⟩, x2⟩, ⟨⟨2, ![m, 32]⟩, x3⟩, ⟨⟨2, ![m, 8]⟩, x4⟩, ⟨⟨2, ![m, 248]⟩, x5⟩]
  have h' : Shape.Concatenates (xs.map (·.1)) ⟨2, ![m, 1024]⟩ (1 : Fin 2) := h
  have hl : xs.length = 6 := rfl
  unfold packed
  beta_reduce
  split
  · exact (piece_reads (xs := xs) (k := 0) (pre := 0) h' i (by omega) rfl rfl h0 (by omega) (by omega)).trans (by rw [Nat.zero_add, Nat.sub_zero])
  split
  · exact piece_reads (xs := xs) (k := 1) (pre := 640) h' i (by omega) rfl rfl h1 (by omega) (by omega)
  split
  · exact (piece_reads (xs := xs) (k := 2) (pre := 704) h' i (by omega) rfl rfl h2 (by omega) (by omega)).trans (by rw [Nat.zero_add])
  split
  · exact piece_reads (xs := xs) (k := 3) (pre := 736) h' i (by omega) rfl rfl h3 (by omega) (by omega)
  split
  · exact (piece_reads (xs := xs) (k := 4) (pre := 768) h' i (by omega) rfl rfl h4 (by omega) (by omega)).trans (by rw [Nat.zero_add])
  · exact piece_reads (xs := xs) (k := 5) (pre := 776) h' i (by omega) rfl rfl h5 (by omega) (by omega)

/-- The four products together are the product over all columns. -/
theorem columns_sum (D W : ℕ → ℝ) :
    (∑ k ∈ Finset.range 512, D k * W k) + (∑ k ∈ Finset.range 512, D (512 + k) * W (512 + k)) + (∑ k ∈ Finset.range 512, D (1024 + k) * W (1024 + k))
      + ∑ k ∈ Finset.range 1024, packed D k * packed W k = ∑ k ∈ Finset.range 2216, D k * W k := by
  have e : ∑ k ∈ Finset.range 1024, packed D k * packed W k = (∑ k ∈ Finset.range 640, D (1544 + k) * W (1544 + k)) + (∑ k ∈ Finset.range 32, D (2184 + k) * W (2184 + k))
      + ∑ k ∈ Finset.range 8, D (1536 + k) * W (1536 + k) := by
    rw [show (1024 : ℕ) = 640 + 64 + 32 + 32 + 8 + 248 from rfl, Finset.sum_range_add, Finset.sum_range_add, Finset.sum_range_add, Finset.sum_range_add, Finset.sum_range_add]
    have z : ∀ a n : ℕ, (∀ k < n, packed D (a + k) = 0) → ∑ k ∈ Finset.range n, packed D (a + k) * packed W (a + k) = 0 := fun a n h =>
      Finset.sum_eq_zero fun k hk => by rw [h k (Finset.mem_range.1 hk), zero_mul]
    rw [z (640) 64 fun k hk => by unfold packed; rw [if_neg (by omega), if_pos (by omega)],
      z (640 + 64 + 32) 32 fun k hk => by unfold packed; rw [if_neg (by omega), if_neg (by omega), if_neg (by omega), if_pos (by omega)],
      z (640 + 64 + 32 + 32 + 8) 248 fun k hk => by
        unfold packed; rw [if_neg (by omega), if_neg (by omega), if_neg (by omega), if_neg (by omega), if_neg (by omega)], add_zero, add_zero, add_zero]
    refine congrArg₂ (· + ·) (congrArg₂ (· + ·) ?_ ?_) ?_ <;> refine Finset.sum_congr rfl fun k hk => ?_ <;> have hk := Finset.mem_range.1 hk <;> unfold packed
    · rw [if_pos hk, if_pos hk]
    · rw [if_neg (by omega), if_neg (by omega), if_pos (by omega), if_neg (by omega), if_neg (by omega), if_pos (by omega), show 640 + 64 + k - 704 = k by omega]
    · rw [if_neg (by omega), if_neg (by omega), if_neg (by omega), if_neg (by omega), if_pos (by omega), if_neg (by omega), if_neg (by omega), if_neg (by omega),
        if_neg (by omega), if_pos (by omega), show 640 + 64 + 32 + 32 + k - 768 = k by omega]
  rw [e, show (2216 : ℕ) = 512 + 512 + 512 + 8 + 640 + 32 from rfl, Finset.sum_range_add, Finset.sum_range_add, Finset.sum_range_add, Finset.sum_range_add, Finset.sum_range_add]
  ring

variable (m : (ℓ : Loc nD τ sig) → Buf (Elt Ideal) ℓ)

/-- The weights without their leading axis. -/
abbrev bare (c : Dev nD) : FVec Ideal S1024x2216 .f32 := shapeCast S1024x2216 (m ((c : Thread nD τ).loc main_arg2)) shapeCasts_S1x1024x2216_S1024x2216

/-- The packed columns of the cotangent. -/
abbrev rowsPacked (x : FVec Ideal S4096x2216 .f32) : FVec Ideal S4096x1024 .f32 :=
  concatenate S4096x1024 1 [⟨S4096x640, extractStridedSlice S4096x640 ![0, 1544] x slices_S4096x2216_S4096x640_0_1544⟩,
    ⟨S4096x64, broadcastInDim S4096x64 ![] bcast_S_S4096x64 (constant (F := Ideal) S_ .f32 0x00000000#32)⟩,
    ⟨S4096x32, extractStridedSlice S4096x32 ![0, 2184] x slices_S4096x2216_S4096x32_0_2184⟩,
    ⟨S4096x32, broadcastInDim S4096x32 ![] bcast_S_S4096x32 (constant (F := Ideal) S_ .f32 0x00000000#32)⟩,
    ⟨S4096x8, extractStridedSlice S4096x8 ![0, 1536] x slices_S4096x2216_S4096x8_0_1536⟩,
    ⟨S4096x248, broadcastInDim S4096x248 ![] bcast_S_S4096x248 (constant (F := Ideal) S_ .f32 0x00000000#32)⟩]
    concatenates_S4096x640_S4096x64_S4096x32_S4096x32_S4096x8_S4096x248_S4096x1024_d1

/-- The packed columns of the weights. -/
abbrev weightsPacked (x : FVec Ideal S1024x2216 .f32) : FVec Ideal S1024x1024 .f32 :=
  concatenate S1024x1024 1 [⟨S1024x640, extractStridedSlice S1024x640 ![0, 1544] x slices_S1024x2216_S1024x640_0_1544⟩,
    ⟨S1024x64, broadcastInDim S1024x64 ![] bcast_S_S1024x64 (constant (F := Ideal) S_ .f32 0x00000000#32)⟩,
    ⟨S1024x32, extractStridedSlice S1024x32 ![0, 2184] x slices_S1024x2216_S1024x32_0_2184⟩,
    ⟨S1024x32, broadcastInDim S1024x32 ![] bcast_S_S1024x32 (constant (F := Ideal) S_ .f32 0x00000000#32)⟩,
    ⟨S1024x8, extractStridedSlice S1024x8 ![0, 1536] x slices_S1024x2216_S1024x8_0_1536⟩,
    ⟨S1024x248, broadcastInDim S1024x248 ![] bcast_S_S1024x248 (constant (F := Ideal) S_ .f32 0x00000000#32)⟩]
    concatenates_S1024x640_S1024x64_S1024x32_S1024x32_S1024x8_S1024x248_S1024x1024_d1

/-- The first columns of the cotangent. -/
theorem V_v1 (c : Dev nD) : V m c main_v1 = extractStridedSlice S4096x512 ![0, 0] (m ((c : Thread nD τ).loc main_arg3)) slices_S4096x2216_S4096x512_0_0 := by
  show StableHlo.after hostOps0 (fun b => m (c, b)) _ = _
  simp only [hostOps0, StableHlo.TRef.nullary, StableHlo.TRef.unary, StableHlo.TRef.toBuf, StableHlo.TRef.ofBuf, cast_eq]
  after_results_simp <;> rfl

/-- The next, rounded. -/
theorem V_v3 (c : Dev nD) : V m c main_v3 = truncf (F := Ideal) .bf16 (extractStridedSlice S4096x512 ![0, 512] (m ((c : Thread nD τ).loc main_arg3)) slices_S4096x2216_S4096x512_0_512) bitsLt_bf16_f32 := by
  show StableHlo.after hostOps0 (fun b => m (c, b)) _ = _
  simp only [hostOps0, StableHlo.TRef.nullary, StableHlo.TRef.unary, StableHlo.TRef.toBuf, StableHlo.TRef.ofBuf, cast_eq]
  after_results_simp <;> rfl

/-- The next, rounded. -/
theorem V_v5 (c : Dev nD) : V m c main_v5 = truncf (F := Ideal) .bf16 (extractStridedSlice S4096x512 ![0, 1024] (m ((c : Thread nD τ).loc main_arg3)) slices_S4096x2216_S4096x512_0_1024) bitsLt_bf16_f32 := by
  show StableHlo.after hostOps0 (fun b => m (c, b)) _ = _
  simp only [hostOps0, StableHlo.TRef.nullary, StableHlo.TRef.unary, StableHlo.TRef.toBuf, StableHlo.TRef.ofBuf, cast_eq]
  after_results_simp <;> rfl

/-- The first columns of the weights, turned and rounded. -/
theorem V_v8 (c : Dev nD) : V m c main_v8 = truncf (F := Ideal) .bf16 (transpose S512x1024 [1, 0] (extractStridedSlice S1024x512 ![0, 0] (bare m c) slices_S1024x2216_S1024x512_0_0)
    transposes_S1024x512_S512x1024_1_0) bitsLt_bf16_f32 := by
  show StableHlo.after hostOps0 (fun b => m (c, b)) _ = _
  simp only [hostOps0, StableHlo.TRef.nullary, StableHlo.TRef.unary, StableHlo.TRef.toBuf, StableHlo.TRef.ofBuf, cast_eq]
  after_results_simp <;> rfl

/-- The next. -/
theorem V_v11 (c : Dev nD) : V m c main_v11 = truncf (F := Ideal) .bf16 (transpose S512x1024 [1, 0] (extractStridedSlice S1024x512 ![0, 512] (bare m c) slices_S1024x2216_S1024x512_0_512)
    transposes_S1024x512_S512x1024_1_0) bitsLt_bf16_f32 := by
  show StableHlo.after hostOps0 (fun b => m (c, b)) _ = _
  simp only [hostOps0, StableHlo.TRef.nullary, StableHlo.TRef.unary, StableHlo.TRef.toBuf, StableHlo.TRef.ofBuf, cast_eq]
  after_results_simp <;> rfl

/-- The next. -/
theorem V_v14 (c : Dev nD) : V m c main_v14 = truncf (F := Ideal) .bf16 (transpose S512x1024 [1, 0] (extractStridedSlice S1024x512 ![0, 1024] (bare m c) slices_S1024x2216_S1024x512_0_1024)
    transposes_S1024x512_S512x1024_1_0) bitsLt_bf16_f32 := by
  show StableHlo.after hostOps0 (fun b => m (c, b)) _ = _
  simp only [hostOps0, StableHlo.TRef.nullary, StableHlo.TRef.unary, StableHlo.TRef.toBuf, StableHlo.TRef.ofBuf, cast_eq]
  after_results_simp <;> rfl

/-- The packed columns of the cotangent, rounded. -/
theorem V_v22 (c : Dev nD) : V m c main_v22 = truncf (F := Ideal) .bf16 (rowsPacked (m ((c : Thread nD τ).loc main_arg3))) bitsLt_bf16_f32 := by
  show StableHlo.after hostOps0 (fun b => m (c, b)) _ = _
  simp only [hostOps0, StableHlo.TRef.nullary, StableHlo.TRef.unary, StableHlo.TRef.toBuf, StableHlo.TRef.ofBuf, cast_eq]
  after_results_simp <;> rfl

/-- The packed columns of the weights, turned and rounded. -/
theorem V_v31 (c : Dev nD) : V m c main_v31 = truncf (F := Ideal) .bf16 (transpose S1024x1024 [1, 0] (weightsPacked (bare m c)) transposes_S1024x1024_S1024x1024_1_0) bitsLt_bf16_f32 := by
  show StableHlo.after hostOps0 (fun b => m (c, b)) _ = _
  simp only [hostOps0, StableHlo.TRef.nullary, StableHlo.TRef.unary, StableHlo.TRef.toBuf, StableHlo.TRef.ofBuf, cast_eq]
  after_results_simp <;> rfl

variable {c : Dev nD} {D : ℕ → ℕ → ℝ} {W : ℕ → ℕ → ℕ → ℝ}

theorem reads_v1 (h : Reads (m ((c : Thread nD τ).loc main_arg3)) D) : Reads (m := 4096) (n := 512) (V m c main_v1) D :=
  (V_v1 m c).symm ▸ Reads.congr (h.cut slices_S4096x2216_S4096x512_0_0) fun r k _ _ => by rw [Nat.zero_add, Nat.zero_add]

theorem reads_v3 (h : Reads (m ((c : Thread nD τ).loc main_arg3)) D) : Reads (m := 4096) (n := 512) (V m c main_v3) fun r k => D r (512 + k) :=
  (V_v3 m c).symm ▸ Reads.congr (h.cut slices_S4096x2216_S4096x512_0_512) fun r k _ _ => by rw [Nat.zero_add]

theorem reads_v5 (h : Reads (m ((c : Thread nD τ).loc main_arg3)) D) : Reads (m := 4096) (n := 512) (V m c main_v5) fun r k => D r (1024 + k) :=
  (V_v5 m c).symm ▸ Reads.congr (h.cut slices_S4096x2216_S4096x512_0_1024) fun r k _ _ => by rw [Nat.zero_add]

theorem reads_v22 (h : Reads (m ((c : Thread nD τ).loc main_arg3)) D) : Reads (m := 4096) (n := 1024) (V m c main_v22) fun r k => packed (D r) k :=
  (V_v22 m c).symm ▸ packed_reads (h.cut slices_S4096x2216_S4096x640_0_1544) (fun _ => Ideal.ofBits_zero_f32.trans EReal.coe_zero.symm) (h.cut slices_S4096x2216_S4096x32_0_2184) (fun _ => Ideal.ofBits_zero_f32.trans EReal.coe_zero.symm)
    (h.cut slices_S4096x2216_S4096x8_0_1536) (fun _ => Ideal.ofBits_zero_f32.trans EReal.coe_zero.symm) concatenates_S4096x640_S4096x64_S4096x32_S4096x32_S4096x8_S4096x248_S4096x1024_d1

theorem reads_bare (h : Reads3 (m ((c : Thread nD τ).loc main_arg2)) W) : Reads (m := 1024) (n := 2216) (bare m c) (W 0) := h.drop shapeCasts_S1x1024x2216_S1024x2216

theorem reads_v8 (h : Reads3 (m ((c : Thread nD τ).loc main_arg2)) W) : Reads (m := 512) (n := 1024) (V m c main_v8) fun k j => W 0 j k :=
  (V_v8 m c).symm ▸ Reads.congr (((reads_bare m h).cut slices_S1024x2216_S1024x512_0_0).turn transposes_S1024x512_S512x1024_1_0) fun r k _ _ => by rw [Nat.zero_add, Nat.zero_add]

theorem reads_v11 (h : Reads3 (m ((c : Thread nD τ).loc main_arg2)) W) : Reads (m := 512) (n := 1024) (V m c main_v11) fun k j => W 0 j (512 + k) :=
  (V_v11 m c).symm ▸ Reads.congr (((reads_bare m h).cut slices_S1024x2216_S1024x512_0_512).turn transposes_S1024x512_S512x1024_1_0) fun r k _ _ => by rw [Nat.zero_add]

theorem reads_v14 (h : Reads3 (m ((c : Thread nD τ).loc main_arg2)) W) : Reads (m := 512) (n := 1024) (V m c main_v14) fun k j => W 0 j (1024 + k) :=
  (V_v14 m c).symm ▸ Reads.congr (((reads_bare m h).cut slices_S1024x2216_S1024x512_0_1024).turn transposes_S1024x512_S512x1024_1_0) fun r k _ _ => by rw [Nat.zero_add]

theorem reads_v31 (h : Reads3 (m ((c : Thread nD τ).loc main_arg2)) W) : Reads (m := 1024) (n := 1024) (V m c main_v31) fun k j => packed (W 0 j) k :=
  (V_v31 m c).symm ▸ Reads.turn (packed_reads ((reads_bare m h).cut slices_S1024x2216_S1024x640_0_1544) (fun _ => Ideal.ofBits_zero_f32.trans EReal.coe_zero.symm) ((reads_bare m h).cut slices_S1024x2216_S1024x32_0_2184)
    (fun _ => Ideal.ofBits_zero_f32.trans EReal.coe_zero.symm) ((reads_bare m h).cut slices_S1024x2216_S1024x8_0_1536) (fun _ => Ideal.ofBits_zero_f32.trans EReal.coe_zero.symm)
    concatenates_S1024x640_S1024x64_S1024x32_S1024x32_S1024x8_S1024x248_S1024x1024_d1) transposes_S1024x1024_S1024x1024_1_0

end Cert.Kernel6Ideal.Proj

end
-- ==== Proof.Proj.Kernel.lean ====
/- The input projection's gradient, the whole arrays: the blocks the eight points write are the blocks of one function of the arguments,
   and the running sum ends as the sum over all rows. -/
module

public import proofs.«01_k».proof.Proof.Proj.Cases
public import proofs.«01_k».proof.Proof.Proj.Host

@[expose] public section

set_option maxRecDepth 16384

noncomputable section

namespace Cert.Kernel6Ideal.Proj

open Idealize.ShloMosaic Idealize.ShloMosaic.Tactic Idealize.ShloMosaic.TcCoe Cert.Kernel6Ideal Cert.Kernel6Ideal.Gen Cert.Reals Idealize.SL.Sem

variable (m : (ℓ : Loc nD τ sig) → Buf (Elt Ideal) ℓ)

/-- Point `t` takes block `t` of the rows, and all of the weights and gains. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)

variable {c : Dev nD} {X G D : ℕ → ℕ → ℝ} {W : ℕ → ℕ → ℕ → ℝ}

/-- The blocks of the cotangent. -/
theorem blk0 (h : Reads (m ((c : Thread nD τ).loc main_arg3)) D) (t : Fin cfg0.N) :
    Reads (m := 512) (n := 512) (iblk m c 0 t) fun r k => D (t.val * 512 + r) (k) := fun i => by
  unfold iblk; rw [View.read_apply]
  refine (reads_v1 m h _).trans ?_
  show ((D (win0_0.index t 0 * 512 + 1 * (i 0).val) (win0_0.index t 1 * 512 + 1 * (i 1).val) : ℝ) : EReal) = _
  rw [(idx0 t).1, (idx0 t).2, one_mul, one_mul, Nat.zero_mul, Nat.zero_add]

theorem blk1 (h : Reads (m ((c : Thread nD τ).loc main_arg3)) D) (t : Fin cfg0.N) :
    Reads (m := 512) (n := 512) (iblk m c 1 t) fun r k => D (t.val * 512 + r) (512 + (k)) := fun i => by
  unfold iblk; rw [View.read_apply]
  refine (reads_v3 m h _).trans ?_
  show ((D (win0_1.index t 0 * 512 + 1 * (i 0).val) (512 + (win0_1.index t 1 * 512 + 1 * (i 1).val)) : ℝ) : EReal) = _
  rw [(idx1 t).1, (idx1 t).2, one_mul, one_mul, Nat.zero_mul, Nat.zero_add]

theorem blk2 (h : Reads (m ((c : Thread nD τ).loc main_arg3)) D) (t : Fin cfg0.N) :
    Reads (m := 512) (n := 512) (iblk m c 2 t) fun r k => D (t.val * 512 + r) (1024 + (k)) := fun i => by
  unfold iblk; rw [View.read_apply]
  refine (reads_v5 m h _).trans ?_
  show ((D (win0_2.index t 0 * 512 + 1 * (i 0).val) (1024 + (win0_2.index t 1 * 512 + 1 * (i 1).val)) : ℝ) : EReal) = _
  rw [(idx2 t).1, (idx2 t).2, one_mul, one_mul, Nat.zero_mul, Nat.zero_add]

theorem blk3 (h : Reads (m ((c : Thread nD τ).loc main_arg3)) D) (t : Fin cfg0.N) :
    Reads (m := 512) (n := 1024) (iblk m c 3 t) fun r k => packed (D (t.val * 512 + r)) (k) := fun i => by
  unfold iblk; rw [View.read_apply]
  refine (reads_v22 m h _).trans ?_
  show ((packed (D (win0_3.index t 0 * 512 + 1 * (i 0).val)) (win0_3.index t 1 * 1024 + 1 * (i 1).val) : ℝ) : EReal) = _
  rw [(idx3 t).1, (idx3 t).2, one_mul, one_mul, Nat.zero_mul, Nat.zero_add]

/-- The weights. -/
theorem blk4 (h : Reads3 (m ((c : Thread nD τ).loc main_arg2)) W) (t : Fin cfg0.N) :
    Reads (m := 512) (n := 1024) (iblk m c 4 t) fun k j => W 0 (j) (k) := fun i => by
  unfold iblk; rw [View.read_apply]
  refine (reads_v8 m h _).trans ?_
  show ((W 0 (win0_4.index t 1 * 1024 + 1 * (i 1).val) (win0_4.index t 0 * 512 + 1 * (i 0).val) : ℝ) : EReal) = _
  rw [(idx4 t).1, (idx4 t).2, one_mul, one_mul, Nat.zero_mul, Nat.zero_add, Nat.zero_add]

theorem blk5 (h : Reads3 (m ((c : Thread nD τ).loc main_arg2)) W) (t : Fin cfg0.N) :
    Reads (m := 512) (n := 1024) (iblk m c 5 t) fun k j => W 0 (j) (512 + (k)) := fun i => by
  unfold iblk; rw [View.read_apply]
  refine (reads_v11 m h _).trans ?_
  show ((W 0 (win0_5.index t 1 * 1024 + 1 * (i 1).val) (512 + (win0_5.index t 0 * 512 + 1 * (i 0).val)) : ℝ) : EReal) = _
  rw [(idx5 t).1, (idx5 t).2, one_mul, one_mul, Nat.zero_mul, Nat.zero_add, Nat.zero_add]

theorem blk6 (h : Reads3 (m ((c : Thread nD τ).loc main_arg2)) W) (t : Fin cfg0.N) :
    Reads (m := 512) (n := 1024) (iblk m c 6 t) fun k j => W 0 (j) (1024 + (k)) := fun i => by
  unfold iblk; rw [View.read_apply]
  refine (reads_v14 m h _).trans ?_
  show ((W 0 (win0_6.index t 1 * 1024 + 1 * (i 1).val) (1024 + (win0_6.index t 0 * 512 + 1 * (i 0).val)) : ℝ) : EReal) = _
  rw [(idx6 t).1, (idx6 t).2, one_mul, one_mul, Nat.zero_mul, Nat.zero_add, Nat.zero_add]

theorem blk7 (h : Reads3 (m ((c : Thread nD τ).loc main_arg2)) W) (t : Fin cfg0.N) :
    Reads (m := 1024) (n := 1024) (iblk m c 7 t) fun k j => packed (W 0 (j)) (k) := fun i => by
  unfold iblk; rw [View.read_apply]
  refine (reads_v31 m h _).trans ?_
  show ((packed (W 0 (win0_7.index t 1 * 1024 + 1 * (i 1).val)) (win0_7.index t 0 * 1024 + 1 * (i 0).val) : ℝ) : EReal) = _
  rw [(idx7 t).1, (idx7 t).2, one_mul, one_mul, Nat.zero_mul, Nat.zero_add, Nat.zero_add]

/-- A block of the norm's input. -/
theorem blk8 (h : Reads (m ((c : Thread nD τ).loc main_arg0)) X) (t : Fin cfg0.N) :
    Reads (m := 512) (n := 1024) (iblk m c 8 t) fun r k => X (t.val * 512 + r) k := fun i => by
  unfold iblk; rw [View.read_apply]
  refine (congrFun (V_main_arg0 m c) _).trans ((h _).trans ?_)
  show ((X (win0_8.index t 0 * 512 + 1 * (i 0).val) (win0_8.index t 1 * 1024 + 1 * (i 1).val) : ℝ) : EReal) = _
  rw [(idx8 t).1, (idx8 t).2, one_mul, one_mul, Nat.zero_mul, Nat.zero_add]

/-- The gains. -/
theorem blk10 (h : Reads (m ((c : Thread nD τ).loc main_arg1)) G) (t : Fin cfg0.N) :
    Reads (m := 1) (n := 1024) (iblk m c 10 t) G := fun i => by
  unfold iblk; rw [View.read_apply]
  refine (congrFun (V_main_arg1 m c) _).trans ((h _).trans ?_)
  show ((G (win0_10.index t 0 * 1 + 1 * (i 0).val) (win0_10.index t 1 * 1024 + 1 * (i 1).val) : ℝ) : EReal) = _
  rw [(idx10 t).1, (idx10 t).2, one_mul, one_mul, Nat.zero_mul, Nat.zero_add, Nat.zero_add]

/-- The gradient of the normed rows: the product over all columns. -/
def pull (D W : ℕ → ℕ → ℝ) (r j : ℕ) : ℝ := ∑ k ∈ Finset.range 2216, D r k * W j k

/-- A block of it. -/
theorem pull_at (hd : Reads (m ((c : Thread nD τ).loc main_arg3)) D) (hw : Reads3 (m ((c : Thread nD τ).loc main_arg2)) W) (t : Fin cfg0.N) :
    Reads (m := 512) (n := 1024) (pullAt m c t) fun r j => pull D (W 0) (t.val * 512 + r) j :=
  Reads.congr (product (blk0 m hd t) (blk1 m hd t) (blk2 m hd t) (blk3 m hd t) (blk4 m hw t) (blk5 m hw t) (blk6 m hw t) (blk7 m hw t)) fun r j _ _ =>
    columns_sum (D (t.val * 512 + r)) (W 0 j)

/-- A row's part of the gains' gradient. -/
def gain (D W X : ℕ → ℕ → ℝ) (r k : ℕ) : ℝ := pull D W r k * (X r k * rinv 1024 X r)

variable (c X G D W) in
/-- The gradient of the norm's input, with what runs around the norm. -/
def dx (i : S4096x1024.Idx) : EReal :=
  ((normGrad 1024 X (fun r c => pull D (W 0) r c * G 0 c) (i 0).val (i 1).val : ℝ) : EReal) + m ((c : Thread nD τ).loc main_arg4) i

/-- The rows a point writes are those rows of the gradient. -/
theorem rows_at (hd : Reads (m ((c : Thread nD τ).loc main_arg3)) D) (hw : Reads3 (m ((c : Thread nD τ).loc main_arg2)) W)
    (hx : Reads (m ((c : Thread nD τ).loc main_arg0)) X) (hg : Reads (m ((c : Thread nD τ).loc main_arg1)) G) (t : Fin cfg0.N) (y : S512x1024.Idx)
    (i : S4096x1024.Idx) (h0 : (i 0).val = t.val * 512 + (y 0).val) (h1 : (i 1).val = (y 1).val) : rowsAt m c t y = dx m c X G D W i := by
  have e : iblk m c 9 t y = m ((c : Thread nD τ).loc main_arg4) i := by
    unfold iblk; rw [View.read_apply]
    refine (congrFun (V_main_arg4 m c) _).trans (congrArg _ (funext fun a => Fin.ext ?_))
    match a with
    | ⟨0, _⟩ => show win0_9.index t 0 * 512 + 1 * (y 0).val = (i 0).val; rw [(idx9 t).1, h0, one_mul]
    | ⟨1, _⟩ => show win0_9.index t 1 * 1024 + 1 * (y 1).val = (i 1).val; rw [(idx9 t).2, h1]; omega
  refine (rows (pull_at m hd hw t) (blk8 m hx t) (blk10 m hg t) y).trans ?_
  unfold dx
  rw [h0, h1]
  exact congrArg _ e

/-- The running sum after point `n`. -/
theorem running (hd : Reads (m ((c : Thread nD τ).loc main_arg3)) D) (hw : Reads3 (m ((c : Thread nD τ).loc main_arg2)) W)
    (hx : Reads (m ((c : Thread nD τ).loc main_arg0)) X) : ∀ (n : ℕ) (h : n < cfg0.N),
    Reads (m := 1) (n := 1024) (outsAt0 m c n h).2 fun _ k => ∑ r ∈ Finset.range ((n + 1) * 512), gain D (W 0) X r k
  | 0, h => by
    rw [outs_first m c ⟨0, h⟩ rfl]
    refine Reads.congr (gains (pull_at m hd hw ⟨0, h⟩) (blk8 m hx _) Reads.zero) fun r k _ _ => ?_
    simp only [zero_add, Nat.zero_mul, one_mul]
    rfl
  | n + 1, h => by
    have hN : cfg0.N = 8 := N_0
    rw [outs_later m c ⟨n + 1, h⟩ (by show ¬(n + 1) % 8 = 0; omega)]
    refine Reads.congr (gains (pull_at m hd hw ⟨n + 1, h⟩) (blk8 m hx _) (running hd hw hx n (Nat.lt_of_succ_lt h))) fun r k _ _ => ?_
    rw [Nat.add_mul (n + 1) 1 512, one_mul, Finset.sum_range_add]
    rfl

variable (hd : Reads (m ((c : Thread nD τ).loc main_arg3)) D) (hw : Reads3 (m ((c : Thread nD τ).loc main_arg2)) W)
  (hx : Reads (m ((c : Thread nD τ).loc main_arg0)) X) (hg : Reads (m ((c : Thread nD τ).loc main_arg1)) G)

/-- What a point leaves in the rows' output. -/
theorem outs_rows (c : Dev nD) (t : Fin cfg0.N) : (outsAt0 m c t.val t.isLt).1 = rowsAt m c t := by
  by_cases h0 : t.val % 8 = 0
  · rw [outs_first m c t h0]
  · rw [outs_later m c t h0]

include hd hw hx hg in
/-- The first result. -/
theorem array11 : (dats m 0 c).arrAt 11 cfg0.N = dx m c X G D W :=
  (dats m 0 c).arrAt_eq_of_cover 11 (dx m c X G D W) (fun t _ => by
    rw [Value.flushed11, outs_rows m c t]
    funext y
    rw [View.read_apply]
    refine rows_at m hd hw hx hg t y _ ?_ ?_
    · show win0_11.index t 0 * 512 + 1 * (y 0).val = _; rw [(idx11 t).1, one_mul]
    · show win0_11.index t 1 * 1024 + 1 * (y 1).val = _; rw [(idx11 t).2]; omega) fun i => by
  have h0 : (i 0).val < 4096 := (i 0).isLt
  have h1 : (i 1).val < 1024 := (i 1).isLt
  refine ⟨⟨(i 0).val / 512, by have hN : cfg0.N = 8 := N_0; omega⟩, flush0_11 _, ?_⟩
  generalize ht : (⟨(i 0).val / 512, _⟩ : Fin cfg0.N) = t
  have hv : t.val = (i 0).val / 512 := by rw [← ht]
  show i ∈ ((View.whole main_v32_0).slice (win0_11.rect t)).set
  rw [View.set_slice_whole, Rect.mem_set_unit]
  intro a
  match a with
  | ⟨0, _⟩ => show win0_11.index t 0 * 512 ≤ (i 0).val ∧ (i 0).val < win0_11.index t 0 * 512 + 512; rw [(idx11 t).1]; omega
  | ⟨1, _⟩ => show win0_11.index t 1 * 1024 ≤ (i 1).val ∧ (i 1).val < win0_11.index t 1 * 1024 + 1024; rw [(idx11 t).2]; omega

/-- The gains' gradient. -/
def dg (D W X : ℕ → ℕ → ℝ) (i : S1x1024.Idx) : EReal := ((∑ r ∈ Finset.range 4096, gain D W X r (i 1).val : ℝ) : EReal)

include hd hw hx in
/-- The second result. -/
theorem array12 : (dats m 0 c).arrAt 12 cfg0.N = dg D (W 0) X :=
  (dats m 0 c).arrAt_eq_of_cover 12 (dg D (W 0) X) (fun t hf => by
    have ht := (flush0_12 t).mp hf
    have hN : cfg0.N = 8 := N_0
    have h7 : t.val = 7 := by have := t.isLt; omega
    rw [Value.flushed12]
    funext y
    rw [View.read_apply]
    refine (running m hd hw hx t.val t.isLt y).trans ?_
    show ((∑ r ∈ Finset.range ((t.val + 1) * 512), gain D (W 0) X r (y 1).val : ℝ) : EReal)
      = ((∑ r ∈ Finset.range 4096, gain D (W 0) X r (win0_12.index t 1 * 1024 + 1 * (y 1).val) : ℝ) : EReal)
    rw [(idx12 t).2, h7, one_mul, Nat.zero_mul, Nat.zero_add]) fun i => by
  have h0 : (i 0).val < 1 := (i 0).isLt
  have h1 : (i 1).val < 1024 := (i 1).isLt
  have hN : cfg0.N = 8 := N_0
  refine ⟨⟨7, by omega⟩, (flush0_12 _).mpr rfl, ?_⟩
  generalize (⟨7, _⟩ : Fin cfg0.N) = t
  show i ∈ ((View.whole main_v32_1).slice (win0_12.rect t)).set
  rw [View.set_slice_whole, Rect.mem_set_unit]
  intro a
  match a with
  | ⟨0, _⟩ => show win0_12.index t 0 * 1 ≤ (i 0).val ∧ (i 0).val < win0_12.index t 0 * 1 + 1; rw [(idx12 t).1]; omega
  | ⟨1, _⟩ => show win0_12.index t 1 * 1024 ≤ (i 1).val ∧ (i 1).val < win0_12.index t 1 * 1024 + 1024; rw [(idx12 t).2]; omega

end Cert.Kernel6Ideal.Proj

end
-- ==== Proof.Proj.Reference.lean ====
/- The reference of the input projection's gradient over real numbers. -/
module

public import proofs.«01_k».proof.Proof.Gen.Reference6Ideal.Read
public import proofs.«01_k».proof.Proof.Real.HostNorm
public import proofs.«01_k».proof.Proof.Real.Softmax

@[expose] public section

set_option maxRecDepth 16384

noncomputable section

namespace Cert.Reference6Ideal.Proj

open Idealize.ShloMosaic Idealize.ShloMosaic.Tactic Cert.Reference6Ideal Cert.Reference6Ideal.Gen Cert.Reference6Ideal.Read Cert.Reals

variable {x0 x4 : (⟨S4096x1024, .f32⟩ : BufTy).Contents (Elt Ideal)} {x1 : (⟨S1x1024, .f32⟩ : BufTy).Contents (Elt Ideal)}
  {x2 : (⟨S1x1024x2216, .f32⟩ : BufTy).Contents (Elt Ideal)} {x3 : (⟨S4096x2216, .f32⟩ : BufTy).Contents (Elt Ideal)}
variable {X G U : ℕ → ℕ → ℝ} {W : ℕ → ℕ → ℕ → ℝ}

/-- The weights without their leading axis. -/
theorem weights (hw : Reads3 x2 W) : Reads (val_main_v17 (F := Ideal) x2) (W 0) := hw.drop shapeCasts_S1x1024x2216_S1024x2216

/-- The gradient of the normed rows. -/
theorem product (hw : Reads3 x2 W) (hd : Reads x3 U) : Reads (val_main_v19 (F := Ideal) x2 x3) fun r c => ∑ k ∈ Finset.range 2216, U r k * W 0 c k := fun i => by
  rw [val_main_v19_apply, sum_fin (g := fun k => U (i 0).val k * W 0 (i 1).val k) fun k => by
    rw [hd _, weights hw _, ← EReal.coe_mul]]

theorem mean (hx : Reads x0 X) : Reads (val_main_v7 (F := Ideal) x0) fun r _ => meanSq 1024 X r :=
  hostMean hx (by decide) (by decide) (by rw [Nat.cast_ofNat]; exact word_1024) word_eps reducesTo_S4096x1024_S4096_d1 (by decide) h_S_
    bcast_S4096_S4096x1_0 bcast_S_S4096x1

theorem root (hx : Reads x0 X) : Reads (val_main_v8 (F := Ideal) x0) fun r _ => rinv 1024 X r := (mean hx).hostRsqrt fun r _ => meanSq_pos _ _ _

theorem gained (hg : Reads x1 G) (hw : Reads3 x2 W) (hd : Reads x3 U) :
    Reads (val_main_v24 (F := Ideal) x1 x2 x3) fun r c => (∑ k ∈ Finset.range 2216, U r k * W 0 c k) * G 0 c :=
  (product hw hd).mul (((hg.list shapeCasts_S1x1024_S1024).across (by decide) bcast_S1024_S1x1024_1).hostUnder (by decide) bcast_S1x1024_S4096x1024_0_1)

/-- The first result. -/
theorem rows (hx : Reads x0 X) (hg : Reads x1 G) (hw : Reads3 x2 W) (hd : Reads x3 U) (i : S4096x1024.Idx) :
    val_main_v40 (F := Ideal) x0 x1 x2 x3 x4 i
      = ((normGrad 1024 X (fun r c => (∑ k ∈ Finset.range 2216, U r k * W 0 c k) * G 0 c) (i 0).val (i 1).val : ℝ) : EReal) + x4 i :=
  hostNorm hx (gained hg hw hd) (root hx) (by decide)
    (hostHalf hx (gained hg hw hd) (mean hx) (root hx) (by decide) (by decide) (by rw [Nat.cast_ofNat]; exact word_1024) word_neg_half
      reducesTo_S4096x1024_S4096_d1 (by decide) h_S_ shapeCasts_S4096_S4096x1 bcast_S_S4096x1 reducesTo_S4096x1_S4096_d1 (by decide) bcast_S4096_S4096x1024_0)
    bcast_S4096x1_S4096x1024_0_1 i

/-- The third. -/
theorem gains (hx : Reads x0 X) (hw : Reads3 x2 W) (hd : Reads x3 U) : Reads (val_main_v41 (F := Ideal) x0 x2 x3) fun _ c =>
    ∑ r ∈ Finset.range 4096, (∑ k ∈ Finset.range 2216, U r k * W 0 c k) * (X r c * rinv 1024 X r) :=
  Reads.congr ((((((hx.mul ((root hx).hostSpread (by decide) bcast_S4096x1_S4096x1024_0_1)).mul (product hw hd)).hostCols reducesTo_S4096x1024_S1024_d0
    (by decide) h_S_).flat shapeCasts_S1024_S1x1024).hostCols reducesTo_S1x1024_S1024_d0 (by decide) h_S_).across (by decide) bcast_S1024_S1x1024_1) fun r c _ _ => by
      rw [Finset.sum_range_one]
      exact Finset.sum_congr rfl fun r _ => mul_comm _ _

end Cert.Reference6Ideal.Proj

end
-- ==== Proof.Proj.Equation.lean ====
/- The input projection's gradient: kernel and reference hold the same two arrays. -/
module

public import proofs.«01_k».proof.Defs
public import proofs.«01_k».proof.Proof.Gen.Reference6Ideal.Run
public import proofs.«01_k».proof.Proof.Proj.Kernel
public import proofs.«01_k».proof.Proof.Proj.Reference
public import proofs.«01_k».proof.Proof.Real.Finite3

@[expose] public section

set_option maxRecDepth 16384

noncomputable section

namespace Cert.Kernel6Ideal.Proj

open Idealize.ShloMosaic Idealize.ShloMosaic.Tactic Idealize.ShloMosaic.TcCoe Cert.Kernel6Ideal Cert.Kernel6Ideal.Gen Cert.Reals Idealize.SL.Sem

variable (m : (ℓ : Loc nD τ sig) → Buf (Elt Ideal) ℓ)

/-- The arguments the norm and the product read hold real numbers. -/
def Launched (c : Dev nD) : Prop := (∃ X, Reads (m ((c : Thread nD τ).loc main_arg0)) X) ∧ (∃ G, Reads (m ((c : Thread nD τ).loc main_arg1)) G)
  ∧ (∃ W, Reads3 (m ((c : Thread nD τ).loc main_arg2)) W) ∧ ∃ U, Reads (m ((c : Thread nD τ).loc main_arg3)) U

variable {m} {c : Dev nD} (h : Launched m c)

include h in
theorem same_rows : Cert.Reference6Ideal.Read.val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = (dats m 0 c).arrAt 11 cfg0.N := by
  obtain ⟨⟨X, hx⟩, ⟨G, hg⟩, ⟨W, hw⟩, U, hd⟩ := h
  rw [array11 m hd hw hx hg]
  exact funext fun i => Cert.Reference6Ideal.Proj.rows hx hg hw hd i

include h in
theorem same_gains : Cert.Reference6Ideal.Read.val_main_v41 (F := Ideal) (m ((c : Thread nD τ).loc main_arg0))
    (m ((c : Thread nD τ).loc main_arg2)) (m ((c : Thread nD τ).loc main_arg3)) = (dats m 0 c).arrAt 12 cfg0.N := by
  obtain ⟨⟨X, hx⟩, ⟨G, hg⟩, ⟨W, hw⟩, U, hd⟩ := h
  rw [array12 m hd hw hx]
  exact funext fun i => Cert.Reference6Ideal.Proj.gains hx hw hd i

end Cert.Kernel6Ideal.Proj

namespace Cert.Proof

open Idealize.ShloMosaic Idealize.ShloMosaic.Tactic Idealize.SL.Sem

/-- The input projection's gradient: the reference's run leaves every semaphore at zero and its arguments as they were. -/
theorem proj_reference_frame : Cert.quiescent_Reference6Ideal (hReference6Ideal := Cert.Reference6Ideal.Gen.facts) := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- The shapes of the finiteness test fit. -/
theorem proj_finite_facts : Cert.Pre_finite6.Facts := ⟨by decide, by decide, by decide, by decide⟩

/-- The input projection's gradient: the finite arguments hold real numbers. -/
theorem proj_launched (m : (ℓ : Loc Cert.Kernel6Ideal.nD Cert.Kernel6Ideal.τ Cert.Kernel6Ideal.sig) → Buf (Elt Ideal) ℓ)
    (h : Cert.Pre_Kernel6Ideal_finite6 (hPre_finite6 := proj_finite_facts) m) (c : Dev Cert.Kernel6Ideal.nD) : Cert.Kernel6Ideal.Proj.Launched m c := by
  obtain ⟨h0, h1, h2, h3⟩ := h c
  exact ⟨⟨_, Cert.Reals.reads_of_finite (fun _ => Cert.Reals.word_top) h0⟩, ⟨_, Cert.Reals.reads_of_finite (fun _ => Cert.Reals.word_top) h1⟩,
    Cert.Reals.reads3_of_finite (fun _ => Cert.Reals.word_top) h2, ⟨_, Cert.Reals.reads_of_finite (fun _ => Cert.Reals.word_top) h3⟩⟩

/-- The input projection's gradient: kernel and reference end with the same two arrays. -/
theorem proj_algebraic : Cert.algebraic_Kernel6Ideal_Reference6Ideal_pre_finite6 (hKernel6Ideal := Cert.Kernel6Ideal.Gen.facts)
    (hReference6Ideal := Cert.Reference6Ideal.Gen.facts) (hPre_finite6 := proj_finite_facts) := fun m ρ m' ρ' hp hag =>
  ⟨_, _, Cert.Kernel6Ideal.Value.run_blocks m ρ,
    (θ_run Cert.Reference6Ideal.defs _ _).mono
      (fun _ h c => by
        have hl := proj_launched m hp c
        obtain ⟨a0, a1, a2, a3, a4⟩ := hag c
        refine ⟨(h c).1.trans ?_, (h c).2.1.trans ?_, (h c).2.2⟩
        · rw [Cert.Reference6Ideal.Read.val_main_v40_eq, a0, a1, a2, a3, a4]
          exact Cert.Kernel6Ideal.Proj.same_rows hl
        · rw [Cert.Reference6Ideal.Read.val_main_v41_eq, a0, a2, a3]
          exact Cert.Kernel6Ideal.Proj.same_gains hl)
      (Cert.Reference6Ideal.Value.run (F := Ideal) m' ρ')⟩

end Cert.Proof

end
-- ==== Proof.Mix.Block.lean ====
/- The gradient of the two output norms behind the mixed projection, one block of rows, over real numbers. -/
module

public import proofs.«01_k».proof.Proof.Gen.Kernel7Ideal.Value
public import proofs.«01_k».proof.Proof.Real.Norm
public import proofs.«01_k».proof.Proof.Real.Forget

@[expose] public section

set_option maxRecDepth 16384

noncomputable section

namespace Cert.Kernel7Ideal.Mix

open Idealize.ShloMosaic Idealize.ShloMosaic.Tactic Cert.Kernel7Ideal Cert.Kernel7Ideal.Gen Cert.Reals

variable {x3 : FVec Ideal S512x1024 .bf16} {x5 : FVec Ideal S1024x1024 .bf16} {x : FVec Ideal S512x512 .f32} {g : FVec Ideal S1x512 .f32}
variable {D W X G P Q : ℕ → ℕ → ℝ}

/-- The gradient of the projection's input, from column `o` on. -/
def pull (o : ℕ) (D W : ℕ → ℕ → ℝ) (r c : ℕ) : ℝ := ∑ k ∈ Finset.range 1024, D r k * W (o + c) k

/-- The gradient of a norm's input. -/
def grad (o : ℕ) (D W X G : ℕ → ℕ → ℝ) : ℕ → ℕ → ℝ := normGrad 512 X fun r c => pull o D W r c * G 0 c

/-- A row's part of the gains' gradient. -/
def gain (o : ℕ) (D W X : ℕ → ℕ → ℝ) (r c : ℕ) : ℝ := pull o D W r c * (X r c * rinv 512 X r)

/-- A matrix as the only one of a cube. -/
theorem lift {m n : ℕ} {x : (⟨2, ![m, n]⟩ : Shape).Idx → EReal} {f : ℕ → ℕ → ℝ} (hx : Reads x f) (h : (⟨2, ![m, n]⟩ : Shape).ShapeCasts ⟨3, ![1, m, n]⟩) :
    Reads3 (shapeCast ⟨3, ![1, m, n]⟩ x h) fun _ r c => f r c := fun i => by
  have i0 : (i 0).val = 0 := by have := (i 0).isLt; change (i 0).val < 1 at this; omega
  rw [shapeCast_apply x h i (ValueIdx.ix2 (i 1) (i 2)) (by
    rewrite [Shape.rowMajor_val_three, Shape.rowMajor_val_two]
    show (i 1).val * n + (i 2).val = ((i 0).val * m + (i 1).val) * n + (i 2).val
    rw [i0, Nat.zero_mul, Nat.zero_add])]
  exact hx _

/-- The product with the weights turned. -/
theorem product (hd : Reads x3 D) (hw : Reads x5 W) : Reads (m := 512) (n := 1024) (k0_pay4 (F := Ideal) x3 x5) (pull 0 D W) :=
  ((hd.same shapeCasts_S512x1024_S512x1024).dotT (hw.same shapeCasts_S1024x1024_S1024x1024) rfl).congr fun r c _ _ => by
    unfold pull; simp only [Nat.zero_add]

/-- The half of the columns that belongs to the first norm. -/
theorem first (hd : Reads x3 D) (hw : Reads x5 W) : Reads (m := 512) (n := 512) (k0_pay5 (F := Ideal) x3 x5) (pull 0 D W) :=
  ((product hd hw).cut slices_S512x1024_o0_0_S512x512).congr fun r c _ _ => by rw [Nat.zero_add, Nat.zero_add]

/-- The half that belongs to the second. -/
theorem second (hd : Reads x3 D) (hw : Reads x5 W) : Reads (m := 512) (n := 512) (k0_pay33 (F := Ideal) (k0_pay4 (F := Ideal) x3 x5)) (pull 512 D W) :=
  ((product hd hw).cut slices_S512x1024_o0_512_S512x512).congr fun r c _ _ => by unfold pull; simp only [Nat.zero_add]

/-- One over the rows' root mean square. -/
theorem root (hx : Reads x X) : Reads (m := 512) (n := 1) (k0_pay6 (F := Ideal) x) fun r _ => rinv 512 X r :=
  hx.rinvBlock (by rw [Nat.cast_ofNat]; exact word_512) word_eps (by decide) _ _ _ _

/-- The gradient through the first norm. -/
theorem rows (hd : Reads x3 D) (hw : Reads x5 W) (hx : Reads x X) (hg : Reads g G) :
    Reads (m := 512) (n := 512) (k0_pay7 (F := Ideal) x3 x5 x g) (grad 0 D W X G) :=
  hx.normBlock ((first hd hw).mul (hg.under (by decide) broadcasts_S1x512_S512x512)) (root hx) (by decide) (by decide)
    (by rw [Nat.cast_ofNat]; exact word_512) reduces_S512x512_S512 (.inl rfl) rfl shapeCasts_S512_S512x1 broadcasts_S512x1_S512x512

/-- The gradient through the second. -/
theorem rows' (hd : Reads x3 D) (hw : Reads x5 W) (hx : Reads x X) (hg : Reads g G) :
    Reads (m := 512) (n := 512) (k0_pay35 (F := Ideal) (k0_pay4 (F := Ideal) x3 x5) x g) (grad 512 D W X G) :=
  hx.normBlock ((second hd hw).mul (hg.under (by decide) broadcasts_S1x512_S512x512)) (root hx) (by decide) (by decide)
    (by rw [Nat.cast_ofNat]; exact word_512) reduces_S512x512_S512 (.inl rfl) rfl shapeCasts_S512_S512x1 broadcasts_S512x1_S512x512

/-- The two turned. -/
theorem turned (hd : Reads x3 D) (hw : Reads x5 W) (hx : Reads x X) (hg : Reads g G) :
    Reads3 (l := 1) (m := 512) (n := 512) (k0_pay10 (F := Ideal) (k0_pay9 (F := Ideal) x3 x5 x g)) fun _ r c => grad 0 D W X G c r :=
  lift ((rows hd hw hx hg).turn transposes_S512x512_p1_0_S512x512) shapeCasts_S512x512_S1x512x512

/-- The second, turned. -/
theorem turned' (hd : Reads x3 D) (hw : Reads x5 W) (hx : Reads x X) (hg : Reads g G) :
    Reads3 (l := 1) (m := 512) (n := 512) (k0_pay37 (F := Ideal) (k0_pay4 (F := Ideal) x3 x5) x g) fun _ r c => grad 512 D W X G c r :=
  lift ((rows' hd hw hx hg).turn transposes_S512x512_p1_0_S512x512) shapeCasts_S512x512_S1x512x512

/-- The gains' gradient of the first norm with the block's part added. -/
theorem gains {q : FVec Ideal S1x512 .f32} (hd : Reads x3 D) (hw : Reads x5 W) (hx : Reads x X) (hq : Reads q Q) :
    Reads (m := 1) (n := 512) (k0_pay11 (F := Ideal) x (k0_pay5 (F := Ideal) x3 x5) (k0_pay6 (F := Ideal) x) q)
      fun r c => Q r c + ∑ r ∈ Finset.range 512, gain 0 D W X r c :=
  (hq.same shapeCasts_S1x512_S1x512).add (((first hd hw).mul (hx.mul ((root hx).spread (by decide) broadcasts_S512x1_S512x512))).colSums reduces_S512x512_S512_2 (.inl rfl) rfl
    shapeCasts_S512_S1x512)

/-- The second's. -/
theorem gains' {q : FVec Ideal S1x512 .f32} (hd : Reads x3 D) (hw : Reads x5 W) (hx : Reads x X) (hq : Reads q Q) :
    Reads (m := 1) (n := 512) (k0_pay40 (F := Ideal) (k0_pay38 (F := Ideal) q) (k0_pay39 (F := Ideal) (k0_pay4 (F := Ideal) x3 x5) x))
      fun r c => Q r c + ∑ r ∈ Finset.range 512, gain 512 D W X r c :=
  (hq.same shapeCasts_S1x512_S1x512).add (((second hd hw).mul (hx.mul ((root hx).spread (by decide) broadcasts_S512x1_S512x512))).colSums reduces_S512x512_S512_2 (.inl rfl) rfl
    shapeCasts_S512_S1x512)

/-- The row sums of two heads' columns in lanes 2 and 3, zeros in the other lanes. -/
def stat (Q : ℕ → ℕ → ℝ) (k r l : ℕ) : ℝ :=
  if l = 2 then ∑ c ∈ Finset.range 64, Q r (128 * k + c) else if l = 3 then ∑ c ∈ Finset.range 64, Q r (128 * k + (64 + c)) else 0

/-- What the body makes of 128 columns and of the block's statistics so far. -/
def statOf (z : FVec Ideal S512x128 .f32) (s : FVec Ideal S1x512x128 .f32) : FVec Ideal S512x128 .f32 :=
  select (broadcastTo S512x128 (shapeCast S1x128 (cmpi .eq (iota .tc S1x128 32 [1] iota_S1x128_d1_w32) (broadcast S1x128 2#32)) shapeCasts_S1x128_S1x128) broadcasts_S1x128_S512x128)
    (broadcastTo S512x128 (shapeCast S512x1 (shapeCast S512x1 (multiReduction .add [1] S512
      (select (broadcastTo S512x128 (shapeCast S1x128 (cmpi .slt (iota .tc S1x128 32 [1] iota_S1x128_d1_w32) (broadcast S1x128 64#32)) shapeCasts_S1x128_S1x128) broadcasts_S1x128_S512x128)
        z (broadcast S512x128 (Scalar.ofBits .f32 0x00000000#32))) 0x00000000#32 reduces_S512x128_S512 (.inl rfl) rfl) shapeCasts_S512_S512x1) shapeCasts_S512x1_S512x1) broadcasts_S512x1_S512x128)
    (select (broadcastTo S512x128 (shapeCast S1x128 (cmpi .eq (iota .tc S1x128 32 [1] iota_S1x128_d1_w32) (broadcast S1x128 3#32)) shapeCasts_S1x128_S1x128) broadcasts_S1x128_S512x128)
      (broadcastTo S512x128 (shapeCast S512x1 (shapeCast S512x1 (multiReduction .add [1] S512
        (select (broadcastTo S512x128 (shapeCast S1x128 (cmpi .sge (iota .tc S1x128 32 [1] iota_S1x128_d1_w32) (broadcast S1x128 64#32)) shapeCasts_S1x128_S1x128) broadcasts_S1x128_S512x128)
          z (broadcast S512x128 (Scalar.ofBits .f32 0x00000000#32))) 0x00000000#32 reduces_S512x128_S512 (.inl rfl) rfl) shapeCasts_S512_S512x1) shapeCasts_S512x1_S512x1) broadcasts_S512x1_S512x128)
      (shapeCast S512x128 s shapeCasts_S1x512x128_S512x128))

/-- The sum over the lower half of the lanes. -/
theorem low_sum (f : ℕ → ℝ) : ∑ c ∈ Finset.range 128, (if c < 64 then f c else 0) = ∑ c ∈ Finset.range 64, f c := by
  rw [show (128 : ℕ) = 64 + 64 from rfl, Finset.sum_range_add, Finset.sum_congr rfl fun c hc => if_pos (Finset.mem_range.mp hc),
    Finset.sum_congr (s₁ := Finset.range 64) rfl fun c _ => if_neg (show ¬64 + c < 64 by omega), Finset.sum_const_zero, add_zero]

/-- The sum over the upper half. -/
theorem high_sum (f : ℕ → ℝ) : ∑ c ∈ Finset.range 128, (if 64 ≤ c then f c else 0) = ∑ c ∈ Finset.range 64, f (64 + c) := by
  rw [show (128 : ℕ) = 64 + 64 from rfl, Finset.sum_range_add, Finset.sum_congr rfl fun c hc => if_neg (show ¬64 ≤ c from not_le.mpr (Finset.mem_range.mp hc)),
    Finset.sum_congr (s₁ := Finset.range 64) rfl fun c _ => if_pos (show 64 ≤ 64 + c by omega), Finset.sum_const_zero, zero_add]

/-- The body's block of statistics holds the row sums of the two heads. -/
theorem statOf_reads {z : FVec Ideal S512x128 .f32} {s : FVec Ideal S1x512x128 .f32} {k : ℕ} (hz : Reads z fun r c => Q r (128 * k + c))
    (hs : Reads3 s fun _ _ _ => 0) : Reads (statOf z s) (stat Q k) :=
  Reads.congr (Reads.lane (φ := .f32)
    ((((hz.low (fun _ => Ideal.ofBits_zero_f32) iota_S1x128_d1_w32 shapeCasts_S1x128_S1x128 broadcasts_S1x128_S512x128).rowSums reduces_S512x128_S512 (.inl rfl) rfl
      shapeCasts_S512_S512x1).same shapeCasts_S512x1_S512x1).spread (by decide) broadcasts_S512x1_S512x128)
    (Reads.lane (φ := .f32)
      ((((hz.high (fun _ => Ideal.ofBits_zero_f32) iota_S1x128_d1_w32 shapeCasts_S1x128_S1x128 broadcasts_S1x128_S512x128).rowSums reduces_S512x128_S512 (.inl rfl) rfl
        shapeCasts_S512_S512x1).same shapeCasts_S512x1_S512x1).spread (by decide) broadcasts_S512x1_S512x128)
      (hs.drop shapeCasts_S1x512x128_S512x128) rfl (by decide) iota_S1x128_d1_w32 shapeCasts_S1x128_S1x128 broadcasts_S1x128_S512x128)
    rfl (by decide) iota_S1x128_d1_w32 shapeCasts_S1x128_S1x128 broadcasts_S1x128_S512x128) fun r c _ _ => by
      beta_reduce
      unfold stat
      rw [low_sum, high_sum]

end Cert.Kernel7Ideal.Mix

end
-- ==== Proof.Mix.Cases.lean ====
/- What each point of the grid leaves in the eight outputs' blocks: the two norms' gradients and their turned copies, the row sums, and the
   running sums of the gains' gradients, which the first point starts at zero. -/
module

public import Idealize.ShloMosaic.Lib.Pipeline.ValueKit.Tiles
public import proofs.«01_k».proof.Proof.Mix.Block

@[expose] public section

set_option maxRecDepth 16384

noncomputable section

namespace Cert.Kernel7Ideal.Mix

open Idealize.ShloMosaic Idealize.ShloMosaic.Tactic Idealize.ShloMosaic.TcCoe Cert.Kernel7Ideal Cert.Kernel7Ideal.Gen Cert.Reals

variable (m : (ℓ : Loc nD τ sig) → Buf (Elt Ideal) ℓ)

/-- The zero offsets of a load or store of a whole block. -/
theorem hz : (![0, 0] : Fin 2 → Nat) = fun _ => 0 := by funext a; fin_cases a <;> rfl
/-- No offset. -/
theorem hz3 : (![0, 0, 0] : Fin 3 → Nat) = fun _ => 0 := by funext a; fin_cases a <;> rfl

/-- The gradient of the projection's input at point `t`. -/
abbrev pullAt (c : Dev nD) (t : Fin cfg0.N) : FVec Ideal S512x1024 .f32 := k0_pay4 (F := Ideal) (iblk m c 0 t) (iblk m c 1 t)

/-- The gradients of the two norms' inputs. -/
abbrev rowsAt (c : Dev nD) (t : Fin cfg0.N) : FVec Ideal S512x512 .bf16 := k0_pay8 (F := Ideal) (iblk m c 0 t) (iblk m c 1 t) (iblk m c 2 t) (iblk m c 4 t)
/-- Point `t`'s block of the second norm's gradient. -/
abbrev rowsAt' (c : Dev nD) (t : Fin cfg0.N) : FVec Ideal S512x512 .bf16 := k0_pay36 (F := Ideal) (pullAt m c t) (iblk m c 3 t) (iblk m c 5 t)

/-- Each entry times its gradient. -/
abbrev partsAt (c : Dev nD) (t : Fin cfg0.N) : FVec Ideal S512x512 .f32 := k0_pay12 (F := Ideal) (iblk m c 2 t) (rowsAt m c t)
/-- The second norm's products. -/
abbrev partsAt' (c : Dev nD) (t : Fin cfg0.N) : FVec Ideal S512x512 .f32 := k0_pay41 (F := Ideal) (iblk m c 3 t) (rowsAt' m c t)

/-- The running sums with point `t`'s part added. -/
abbrev gainsAt (c : Dev nD) (t : Fin cfg0.N) (q : FVec Ideal S1x512 .f32) : FVec Ideal S1x512 .f32 :=
  k0_pay11 (F := Ideal) (iblk m c 2 t) (k0_pay5 (F := Ideal) (iblk m c 0 t) (iblk m c 1 t)) (k0_pay6 (F := Ideal) (iblk m c 2 t)) q
/-- The second norm's running sums. -/
abbrev gainsAt' (c : Dev nD) (t : Fin cfg0.N) (q : FVec Ideal S1x512 .f32) : FVec Ideal S1x512 .f32 :=
  k0_pay40 (F := Ideal) (k0_pay38 (F := Ideal) q) (k0_pay39 (F := Ideal) (pullAt m c t) (iblk m c 3 t))

/-- The turned gradients. -/
abbrev turnedAt (c : Dev nD) (t : Fin cfg0.N) : FVec Ideal S1x512x512 .bf16 := k0_pay10 (F := Ideal) (k0_pay9 (F := Ideal) (iblk m c 0 t) (iblk m c 1 t) (iblk m c 2 t) (iblk m c 4 t))
/-- The second norm's turned gradients. -/
abbrev turnedAt' (c : Dev nD) (t : Fin cfg0.N) : FVec Ideal S1x512x512 .bf16 := k0_pay37 (F := Ideal) (pullAt m c t) (iblk m c 3 t) (iblk m c 5 t)

/-- A block of statistics. -/
def stats (Q : ℕ → ℕ → ℝ) (y : S4x512x128.Idx) : EReal := ((stat Q (y 0).val (y 1).val (y 2).val : ℝ) : EReal)

variable {z : FVec Ideal S512x512 .f32} {s : FVec Ideal S4x512x128 .f32} {Q Q' : ℕ → ℕ → ℝ}

/-- One of the block's four pieces. -/
theorem piece (hz : Reads z Q) (hs : Reads3 s fun _ _ _ => 0) (k o : ℕ) (ho : o = 128 * k) (hsl : S512x512.Slices ![0, o] S512x128)
    (inb : ∀ a, (![k, 0, 0] : Fin 3 → ℕ) a + S1x512x128.size a ≤ S4x512x128.size a) (y : S4x512x128.Idx) :
    ∀ x : S1x512x128.Idx, (∀ a : Fin 3, (y a).val = (![k, 0, 0] : Fin 3 → ℕ) a + (x a).val) → (shapeCast S1x512x128
      (statOf (extractStridedSlice S512x128 ![0, o] z hsl) (View.ld (Val := Elt Ideal) (e' := .f32) s (Rect.unit (s := S4x512x128) ![k, 0, 0] S1x512x128.size inb))) shapeCasts_S512x128_S1x512x128) x = stats Q y := fun x hx => by
  have a0 : (y 0).val = k + (x 0).val := hx 0
  have a1 : (y 1).val = 0 + (x 1).val := hx 1
  have a2 : (y 2).val = 0 + (x 2).val := hx 2
  have x0 : (x 0).val < 1 := (x 0).isLt
  refine (lift (statOf_reads (k := k) ((hz.cut hsl).congr fun r c _ _ => by rw [Nat.zero_add, ho]) fun i => hs _) shapeCasts_S512x128_S1x512x128 x).trans ?_
  unfold stats
  rw [a0, a1, a2, Nat.zero_add, Nat.zero_add, show (x 0).val = 0 by omega, Nat.add_zero]

/-- The four together. -/
theorem pieces (hz : Reads z Q) (hs : Reads3 s fun _ _ _ => 0) (b0 b1 b2 b3) (y : S4x512x128.Idx) :
    View.canon (Val := Elt Ideal) (s := S4x512x128) (e := .f32)
      [⟨Rect.unit (s := S4x512x128) ![3, 0, 0] S1x512x128.size b3, shapeCast S1x512x128 (statOf (extractStridedSlice S512x128 ![0, 384] z slices_S512x512_o0_384_S512x128)
          (View.ld (Val := Elt Ideal) (e' := .f32) s (Rect.unit (s := S4x512x128) ![3, 0, 0] S1x512x128.size b3))) shapeCasts_S512x128_S1x512x128⟩,
        ⟨Rect.unit (s := S4x512x128) ![2, 0, 0] S1x512x128.size b2, shapeCast S1x512x128 (statOf (extractStridedSlice S512x128 ![0, 256] z slices_S512x512_o0_256_S512x128)
          (View.ld (Val := Elt Ideal) (e' := .f32) s (Rect.unit (s := S4x512x128) ![2, 0, 0] S1x512x128.size b2))) shapeCasts_S512x128_S1x512x128⟩,
        ⟨Rect.unit (s := S4x512x128) ![1, 0, 0] S1x512x128.size b1, shapeCast S1x512x128 (statOf (extractStridedSlice S512x128 ![0, 128] z slices_S512x512_o0_128_S512x128)
          (View.ld (Val := Elt Ideal) (e' := .f32) s (Rect.unit (s := S4x512x128) ![1, 0, 0] S1x512x128.size b1))) shapeCasts_S512x128_S1x512x128⟩,
        ⟨Rect.unit (s := S4x512x128) ![0, 0, 0] S1x512x128.size b0, shapeCast S1x512x128 (statOf (extractStridedSlice S512x128 ![0, 0] z slices_S512x512_o0_0_S512x128)
          (View.ld (Val := Elt Ideal) (e' := .f32) s (Rect.unit (s := S4x512x128) ![0, 0, 0] S1x512x128.size b0))) shapeCasts_S512x128_S1x512x128⟩] y = stats Q y :=
  View.canon_eq_of_allAt _ y _ (View.cover_of_tiledL (s := S4x512x128) _ S1x512x128.size (by sl_kernel_rfl) y)
    (View.allAt_cons_unit _ _ _ _ _ (fun x hx => piece hz hs 3 384 rfl _ _ y x hx) (View.allAt_cons_unit _ _ _ _ _ (fun x hx => piece hz hs 2 256 rfl _ _ y x hx)
      (View.allAt_cons_unit _ _ _ _ _ (fun x hx => piece hz hs 1 128 rfl _ _ y x hx) (View.allAt_cons_unit _ _ _ _ _ (fun x hx => piece hz hs 0 0 rfl _ _ y x hx) (View.allAt_nil y _)))))

/-- The first point. -/
theorem outs_first (c : Dev nD) (t : Fin cfg0.N) (h0 : t.val % 8 = 0) (h6 : Reads3 (l := 4) (m := 512) (n := 128) (iblk m c 6 t) fun _ _ _ => 0)
    (h7 : Reads3 (l := 4) (m := 512) (n := 128) (iblk m c 7 t) fun _ _ _ => 0) (hp : Reads (partsAt m c t) Q) (hp' : Reads (partsAt' m c t) Q') :
    outsAt0 m c t.val t.isLt = (rowsAt m c t, rowsAt' m c t, gainsAt m c t (k0_pay2 (F := Ideal)), gainsAt' m c t (k0_pay3 (F := Ideal)),
      stats Q, stats Q', turnedAt m c t, turnedAt' m c t) := by
  rw [outsAt0_A m c t h0]
  refine Prod.ext ?_ (Prod.ext ?_ (Prod.ext ?_ (Prod.ext ?_ (Prod.ext ?_ (Prod.ext ?_ (Prod.ext ?_ ?_)))))) <;> dsimp only
  · unfold out0_A_8
    rw [View.read_writes_eq_canon _ _ _ (cover0_A_8 _ _ _ _ _ _ _ _ _ _ _ _ _ _ _ _ _ _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
  · unfold out0_A_9
    rw [View.read_writes_eq_canon _ _ _ (cover0_A_9 _ _ _ _ _ _ _ _ _ _ _ _ _ _ _ _ _ _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
  · unfold out0_A_10
    rw [View.read_writes_eq_canon _ _ _ (cover0_A_10 _ _ _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x512) hz, View.readCov_unit_zero (S := S1x512) _ hz]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
  · unfold out0_A_11
    rw [View.read_writes_eq_canon _ _ _ (cover0_A_11 _ _ _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x512) hz, View.readCov_unit_zero (S := S1x512) _ hz]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
  · unfold out0_A_12
    rw [View.read_writes_eq_canon _ _ _ (cover0_A_12 _ _ _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
    exact funext fun y => pieces (z := partsAt m c t) hp h6 _ _ _ _ y
  · unfold out0_A_13
    rw [View.read_writes_eq_canon _ _ _ (cover0_A_13 _ _ _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
    exact funext fun y => pieces (z := partsAt' m c t) hp' h7 _ _ _ _ y
  · unfold out0_A_14
    rw [View.read_writes_eq_canon _ _ _ (cover0_A_14 _ _ _ _ _ _ _ _ _ _ _ _ _ _ _ _ _ _ _ _ _ _ _ _ _ _ _ _ _ _ _ _ _ _ _ _ _ _ _ _ _ _ _)]
    unfold kernelRun0_A
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
  · unfold out0_A_15
    rw [View.read_writes_eq_canon _ _ _ (cover0_A_15 _ _ _ _ _ _ _ _ _ _ _ _ _ _ _ _ _ _ _ _ _ _ _ _ _ _ _ _ _ _ _ _ _ _ _ _ _ _ _ _ _ _ _)]
    unfold kernelRun0_A
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]

/-- A later point. -/
theorem outs_later (c : Dev nD) (t : Fin cfg0.N) (h0 : ¬t.val % 8 = 0) (h6 : Reads3 (l := 4) (m := 512) (n := 128) (iblk m c 6 t) fun _ _ _ => 0)
    (h7 : Reads3 (l := 4) (m := 512) (n := 128) (iblk m c 7 t) fun _ _ _ => 0) (hp : Reads (partsAt m c t) Q) (hp' : Reads (partsAt' m c t) Q') :
    outsAt0 m c t.val t.isLt = (rowsAt m c t, rowsAt' m c t,
      gainsAt m c t (outsAt0 m c (t.val - 1) (Nat.lt_of_le_of_lt (Nat.sub_le _ _) t.isLt)).2.2.1,
      gainsAt' m c t (outsAt0 m c (t.val - 1) (Nat.lt_of_le_of_lt (Nat.sub_le _ _) t.isLt)).2.2.2.1,
      stats Q, stats Q', turnedAt m c t, turnedAt' m c t) := by
  rw [outsAt0_B m c t h0]
  refine Prod.ext ?_ (Prod.ext ?_ (Prod.ext ?_ (Prod.ext ?_ (Prod.ext ?_ (Prod.ext ?_ (Prod.ext ?_ ?_)))))) <;> dsimp only
  · unfold out0_B_8
    rw [View.read_writes_eq_canon _ _ _ (cover0_B_8 _ _ _ _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
  · unfold out0_B_9
    rw [View.read_writes_eq_canon _ _ _ (cover0_B_9 _ _ _ _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
  · unfold out0_B_10
    rw [View.read_writes_eq_canon _ _ _ (cover0_B_10 _ _ _ _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_10 t).read_unread, View.ld_unit_zero (S := S512x1024) hz, View.ld_unit_zero (S := S1024x1024) hz, View.ld_unit_zero (S := S512x512) hz,
      View.ld_unit_zero (S := S1x512) hz]
  · unfold out0_B_11
    rw [View.read_writes_eq_canon _ _ _ (cover0_B_11 _ _ _ _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_11 t).read_unread, View.ld_unit_zero (S := S512x1024) hz, View.ld_unit_zero (S := S1024x1024) hz, View.ld_unit_zero (S := S512x512) hz,
      View.ld_unit_zero (S := S1x512) hz]
  · unfold out0_B_12
    rw [View.read_writes_eq_canon _ _ _ (cover0_B_12 _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
    exact funext fun y => pieces (z := partsAt m c t) hp h6 _ _ _ _ y
  · unfold out0_B_13
    rw [View.read_writes_eq_canon _ _ _ (cover0_B_13 _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
    exact funext fun y => pieces (z := partsAt' m c t) hp' h7 _ _ _ _ y
  · unfold out0_B_14
    rw [View.read_writes_eq_canon _ _ _ (cover0_B_14 _ _ _ _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]
  · unfold out0_B_15
    rw [View.read_writes_eq_canon _ _ _ (cover0_B_15 _ _ _ _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S512x1024) hz, View.ld_unit_zero (S := S1024x1024) hz, View.ld_unit_zero (S := S512x512) hz,
      View.ld_unit_zero (S := S1x512) hz]

end Cert.Kernel7Ideal.Mix

end
-- ==== Proof.Mix.Kernel.lean ====
/- The output norms' gradient, the whole arrays: the blocks the eight points write are the blocks of functions of the arguments, and the
   running sums end as the sums over all rows. -/
module

public import proofs.«01_k».proof.Proof.Mix.Cases

@[expose] public section

set_option maxRecDepth 16384

noncomputable section

namespace Cert.Kernel7Ideal.Mix

open Idealize.ShloMosaic Idealize.ShloMosaic.Tactic Idealize.ShloMosaic.TcCoe Cert.Kernel7Ideal Cert.Kernel7Ideal.Gen Cert.Reals Idealize.SL.Sem

variable (m : (ℓ : Loc nD τ sig) → Buf (Elt Ideal) ℓ)

/-- The statistics enter as zeros. -/
theorem V_v0 (c : Dev nD) : V m c main_v0 = broadcastInDim S4x4096x128 ![] bcast_S_S4x4096x128 (constant (F := Ideal) S_ .f32 0x00000000#32) := by
  show StableHlo.after hostOps0 (fun b => m (c, b)) _ = _
  unfold hostOps0; after_results <;> rfl

/-- The host rounds the cotangent. -/
theorem V_v1 (c : Dev nD) : V m c main_v1 = truncf (F := Ideal) .bf16 (m ((c : Thread nD τ).loc main_arg5)) bitsLt_bf16_f32 := by
  show StableHlo.after hostOps0 (fun b => m (c, b)) _ = _
  unfold hostOps0; after_results <;> rfl

/-- The host drops the weights' leading axis and rounds them. -/
theorem V_v3 (c : Dev nD) : V m c main_v3 = truncf (F := Ideal) .bf16
    (shapeCast S1024x1024 (m ((c : Thread nD τ).loc main_arg4)) shapeCasts_S1x1024x1024_S1024x1024) bitsLt_bf16_f32 := by
  show StableHlo.after hostOps0 (fun b => m (c, b)) _ = _
  unfold hostOps0; after_results <;> rfl

/-- Point `t` takes block `t` of the rows, and all of the weights and gains. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Where window 1 lies at point `t`. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Where window 2 lies at point `t`. -/
theorem idx2 : ∀ t : Fin cfg0.N, win0_2.index t 0 = t.val ∧ win0_2.index t 1 = 0 :=
  (by decide +kernel : ∀ t : Fin grid0.N, win0_2.index t 0 = t.val ∧ win0_2.index t 1 = 0)
/-- Where window 3 lies at point `t`. -/
theorem idx3 : ∀ t : Fin cfg0.N, win0_3.index t 0 = t.val ∧ win0_3.index t 1 = 0 :=
  (by decide +kernel : ∀ t : Fin grid0.N, win0_3.index t 0 = t.val ∧ win0_3.index t 1 = 0)
/-- Where window 4 lies at point `t`. -/
theorem idx4 : ∀ t : Fin cfg0.N, win0_4.index t 0 = 0 ∧ win0_4.index t 1 = 0 :=
  (by decide +kernel : ∀ t : Fin grid0.N, win0_4.index t 0 = 0 ∧ win0_4.index t 1 = 0)
/-- Where window 5 lies at point `t`. -/
theorem idx5 : ∀ t : Fin cfg0.N, win0_5.index t 0 = 0 ∧ win0_5.index t 1 = 0 :=
  (by decide +kernel : ∀ t : Fin grid0.N, win0_5.index t 0 = 0 ∧ win0_5.index t 1 = 0)
/-- Where window 8 lies at point `t`. -/
theorem idx8 : ∀ t : Fin cfg0.N, win0_8.index t 0 = t.val ∧ win0_8.index t 1 = 0 :=
  (by decide +kernel : ∀ t : Fin grid0.N, win0_8.index t 0 = t.val ∧ win0_8.index t 1 = 0)
/-- Where window 9 lies at point `t`. -/
theorem idx9 : ∀ t : Fin cfg0.N, win0_9.index t 0 = t.val ∧ win0_9.index t 1 = 0 :=
  (by decide +kernel : ∀ t : Fin grid0.N, win0_9.index t 0 = t.val ∧ win0_9.index t 1 = 0)
/-- Where window 10 lies at point `t`. -/
theorem idx10 : ∀ t : Fin cfg0.N, win0_10.index t 0 = 0 ∧ win0_10.index t 1 = 0 :=
  (by decide +kernel : ∀ t : Fin grid0.N, win0_10.index t 0 = 0 ∧ win0_10.index t 1 = 0)
/-- Where window 11 lies at point `t`. -/
theorem idx11 : ∀ t : Fin cfg0.N, win0_11.index t 0 = 0 ∧ win0_11.index t 1 = 0 :=
  (by decide +kernel : ∀ t : Fin grid0.N, win0_11.index t 0 = 0 ∧ win0_11.index t 1 = 0)
/-- Where window 12 lies at point `t`. -/
theorem idx12 : ∀ t : Fin cfg0.N, win0_12.index t 0 = 0 ∧ win0_12.index t 1 = t.val ∧ win0_12.index t 2 = 0 :=
  (by decide +kernel : ∀ t : Fin grid0.N, win0_12.index t 0 = 0 ∧ win0_12.index t 1 = t.val ∧ win0_12.index t 2 = 0)
/-- Where window 13 lies at point `t`. -/
theorem idx13 : ∀ t : Fin cfg0.N, win0_13.index t 0 = 0 ∧ win0_13.index t 1 = t.val ∧ win0_13.index t 2 = 0 :=
  (by decide +kernel : ∀ t : Fin grid0.N, win0_13.index t 0 = 0 ∧ win0_13.index t 1 = t.val ∧ win0_13.index t 2 = 0)
/-- Where window 14 lies at point `t`. -/
theorem idx14 : ∀ t : Fin cfg0.N, win0_14.index t 0 = t.val ∧ win0_14.index t 1 = 0 ∧ win0_14.index t 2 = 0 :=
  (by decide +kernel : ∀ t : Fin grid0.N, win0_14.index t 0 = t.val ∧ win0_14.index t 1 = 0 ∧ win0_14.index t 2 = 0)
/-- Where window 15 lies at point `t`. -/
theorem idx15 : ∀ t : Fin cfg0.N, win0_15.index t 0 = t.val ∧ win0_15.index t 1 = 0 ∧ win0_15.index t 2 = 0 :=
  (by decide +kernel : ∀ t : Fin grid0.N, win0_15.index t 0 = t.val ∧ win0_15.index t 1 = 0 ∧ win0_15.index t 2 = 0)

variable {c : Dev nD} {X Y G K U : ℕ → ℕ → ℝ} {W : ℕ → ℕ → ℕ → ℝ}

/-- A block of the cotangent. -/
theorem blk0 (h : Reads (m ((c : Thread nD τ).loc main_arg5)) U) (t : Fin cfg0.N) :
    Reads (m := 512) (n := 1024) (iblk m c 0 t) fun r k => U (t.val * 512 + r) k := fun i => by
  unfold iblk; rw [View.read_apply]
  refine (congrFun (V_v1 m c) _).trans ((h _).trans ?_)
  show ((U (win0_0.index t 0 * 512 + 1 * (i 0).val) (win0_0.index t 1 * 1024 + 1 * (i 1).val) : ℝ) : EReal) = _
  rw [(idx0 t).1, (idx0 t).2, one_mul, one_mul, Nat.zero_mul, Nat.zero_add]

/-- The weights. -/
theorem blk1 (h : Reads3 (m ((c : Thread nD τ).loc main_arg4)) W) (t : Fin cfg0.N) :
    Reads (m := 1024) (n := 1024) (iblk m c 1 t) (W 0) := fun i => by
  unfold iblk; rw [View.read_apply]
  refine (congrFun (V_v3 m c) _).trans ((h.drop shapeCasts_S1x1024x1024_S1024x1024 _).trans ?_)
  show ((W 0 (win0_1.index t 0 * 1024 + 1 * (i 0).val) (win0_1.index t 1 * 1024 + 1 * (i 1).val) : ℝ) : EReal) = _
  rw [(idx1 t).1, (idx1 t).2, one_mul, one_mul, Nat.zero_mul, Nat.zero_add, Nat.zero_add]

/-- Blocks of the two norms' inputs. -/
theorem blk2 (h : Reads (m ((c : Thread nD τ).loc main_arg0)) X) (t : Fin cfg0.N) :
    Reads (m := 512) (n := 512) (iblk m c 2 t) fun r k => X (t.val * 512 + r) k := fun i => by
  unfold iblk; rw [View.read_apply]
  refine (congrFun (V_main_arg0 m c) _).trans ((h _).trans ?_)
  show ((X (win0_2.index t 0 * 512 + 1 * (i 0).val) (win0_2.index t 1 * 512 + 1 * (i 1).val) : ℝ) : EReal) = _
  rw [(idx2 t).1, (idx2 t).2, one_mul, one_mul, Nat.zero_mul, Nat.zero_add]

/-- A block of the second norm's input. -/
theorem blk3 (h : Reads (m ((c : Thread nD τ).loc main_arg1)) X) (t : Fin cfg0.N) :
    Reads (m := 512) (n := 512) (iblk m c 3 t) fun r k => X (t.val * 512 + r) k := fun i => by
  unfold iblk; rw [View.read_apply]
  refine (congrFun (V_main_arg1 m c) _).trans ((h _).trans ?_)
  show ((X (win0_3.index t 0 * 512 + 1 * (i 0).val) (win0_3.index t 1 * 512 + 1 * (i 1).val) : ℝ) : EReal) = _
  rw [(idx3 t).1, (idx3 t).2, one_mul, one_mul, Nat.zero_mul, Nat.zero_add]

/-- Their gains. -/
theorem blk4 (h : Reads (m ((c : Thread nD τ).loc main_arg2)) G) (t : Fin cfg0.N) :
    Reads (m := 1) (n := 512) (iblk m c 4 t) G := fun i => by
  unfold iblk; rw [View.read_apply]
  refine (congrFun (V_main_arg2 m c) _).trans ((h _).trans ?_)
  show ((G (win0_4.index t 0 * 1 + 1 * (i 0).val) (win0_4.index t 1 * 512 + 1 * (i 1).val) : ℝ) : EReal) = _
  rw [(idx4 t).1, (idx4 t).2, one_mul, one_mul, Nat.zero_mul, Nat.zero_add, Nat.zero_add]

/-- The second norm's gains. -/
theorem blk5 (h : Reads (m ((c : Thread nD τ).loc main_arg3)) G) (t : Fin cfg0.N) :
    Reads (m := 1) (n := 512) (iblk m c 5 t) G := fun i => by
  unfold iblk; rw [View.read_apply]
  refine (congrFun (V_main_arg3 m c) _).trans ((h _).trans ?_)
  show ((G (win0_5.index t 0 * 1 + 1 * (i 0).val) (win0_5.index t 1 * 512 + 1 * (i 1).val) : ℝ) : EReal) = _
  rw [(idx5 t).1, (idx5 t).2, one_mul, one_mul, Nat.zero_mul, Nat.zero_add, Nat.zero_add]

/-- The blocks of statistics hold zeros. -/
theorem blk6 (t : Fin cfg0.N) : Reads3 (l := 4) (m := 512) (n := 128) (iblk m c 6 t) fun _ _ _ => 0 := fun i => by
  unfold iblk; rw [View.read_apply]
  exact (congrFun (V_v0 m c) _).trans (Ideal.ofBits_zero_f32.trans EReal.coe_zero.symm)

/-- The second norm's zeros. -/
theorem blk7 (t : Fin cfg0.N) : Reads3 (l := 4) (m := 512) (n := 128) (iblk m c 7 t) fun _ _ _ => 0 := fun i => by
  unfold iblk; rw [View.read_apply]
  exact (congrFun (V_v0 m c) _).trans (Ideal.ofBits_zero_f32.trans EReal.coe_zero.symm)

/-- A norm's gradient, all rows. -/
def dx (o : ℕ) (U W X G : ℕ → ℕ → ℝ) (i : S4096x512.Idx) : EReal := ((grad o U W X G (i 0).val (i 1).val : ℝ) : EReal)

/-- Each 512 rows of it turned. -/
def dxt (o : ℕ) (U W X G : ℕ → ℕ → ℝ) (i : S8x512x512.Idx) : EReal := ((grad o U W X G ((i 0).val * 512 + (i 2).val) (i 1).val : ℝ) : EReal)

/-- The row sums of input times gradient, head by head. -/
def st (o : ℕ) (U W X G : ℕ → ℕ → ℝ) (i : S4x4096x128.Idx) : EReal :=
  ((stat (fun r c => X r c * grad o U W X G r c) (i 0).val (i 1).val (i 2).val : ℝ) : EReal)

/-- The gains' gradient. -/
def dg (o : ℕ) (U W X : ℕ → ℕ → ℝ) (i : S1x512.Idx) : EReal := ((∑ r ∈ Finset.range 4096, gain o U W X r (i 1).val : ℝ) : EReal)

variable (hd : Reads (m ((c : Thread nD τ).loc main_arg5)) U) (hw : Reads3 (m ((c : Thread nD τ).loc main_arg4)) W)
  (hx : Reads (m ((c : Thread nD τ).loc main_arg0)) X) (hy : Reads (m ((c : Thread nD τ).loc main_arg1)) Y)
  (hg : Reads (m ((c : Thread nD τ).loc main_arg2)) G) (hk : Reads (m ((c : Thread nD τ).loc main_arg3)) K)

include hd hw hx hg in
/-- Point `t`'s block of the first gradient. -/
theorem rows_at (t : Fin cfg0.N) : Reads (m := 512) (n := 512) (rowsAt m c t) fun r k => grad 0 U (W 0) X G (t.val * 512 + r) k :=
  rows (blk0 m hd t) (blk1 m hw t) (blk2 m hx t) (blk4 m hg t)

include hd hw hy hk in
/-- Point `t`'s block of the second. -/
theorem rows_at' (t : Fin cfg0.N) : Reads (m := 512) (n := 512) (rowsAt' m c t) fun r k => grad 512 U (W 0) Y K (t.val * 512 + r) k :=
  rows' (blk0 m hd t) (blk1 m hw t) (blk3 m hy t) (blk5 m hk t)

include hd hw hx hg in
/-- Input times gradient in point `t`'s block. -/
theorem parts_at (t : Fin cfg0.N) : Reads (m := 512) (n := 512) (partsAt m c t)
    fun r k => X (t.val * 512 + r) k * grad 0 U (W 0) X G (t.val * 512 + r) k :=
  (blk2 m hx t).mul (rows_at m hd hw hx hg t)

include hd hw hy hk in
/-- The second norm's. -/
theorem parts_at' (t : Fin cfg0.N) : Reads (m := 512) (n := 512) (partsAt' m c t)
    fun r k => Y (t.val * 512 + r) k * grad 512 U (W 0) Y K (t.val * 512 + r) k :=
  (blk3 m hy t).mul (rows_at' m hd hw hy hk t)

include hd hw hx hy hg hk in
/-- What a point leaves in the outputs that no point reads back. -/
theorem outs (t : Fin cfg0.N) : (outsAt0 m c t.val t.isLt).1 = rowsAt m c t ∧ (outsAt0 m c t.val t.isLt).2.1 = rowsAt' m c t
    ∧ (outsAt0 m c t.val t.isLt).2.2.2.2.1 = stats (fun r k => X (t.val * 512 + r) k * grad 0 U (W 0) X G (t.val * 512 + r) k)
    ∧ (outsAt0 m c t.val t.isLt).2.2.2.2.2.1 = stats (fun r k => Y (t.val * 512 + r) k * grad 512 U (W 0) Y K (t.val * 512 + r) k)
    ∧ (outsAt0 m c t.val t.isLt).2.2.2.2.2.2.1 = turnedAt m c t ∧ (outsAt0 m c t.val t.isLt).2.2.2.2.2.2.2 = turnedAt' m c t := by
  by_cases h0 : t.val % 8 = 0
  · rw [outs_first m c t h0 (blk6 m t) (blk7 m t) (parts_at m hd hw hx hg t) (parts_at' m hd hw hy hk t)]; exact ⟨rfl, rfl, rfl, rfl, rfl, rfl⟩
  · rw [outs_later m c t h0 (blk6 m t) (blk7 m t) (parts_at m hd hw hx hg t) (parts_at' m hd hw hy hk t)]; exact ⟨rfl, rfl, rfl, rfl, rfl, rfl⟩

include hd hw hx hy hg hk in
/-- The running sums after point `n`. -/
theorem running : ∀ (n : ℕ) (h : n < cfg0.N),
    Reads (m := 1) (n := 512) (outsAt0 m c n h).2.2.1 (fun _ k => ∑ r ∈ Finset.range ((n + 1) * 512), gain 0 U (W 0) X r k)
    ∧ Reads (m := 1) (n := 512) (outsAt0 m c n h).2.2.2.1 fun _ k => ∑ r ∈ Finset.range ((n + 1) * 512), gain 512 U (W 0) Y r k
  | 0, h => by
    rw [outs_first m c ⟨0, h⟩ rfl (blk6 m _) (blk7 m _) (parts_at m hd hw hx hg _) (parts_at' m hd hw hy hk _)]
    refine ⟨Reads.congr (gains (blk0 m hd ⟨0, h⟩) (blk1 m hw _) (blk2 m hx _) Reads.zero) fun r k _ _ => ?_,
      Reads.congr (gains' (blk0 m hd ⟨0, h⟩) (blk1 m hw _) (blk3 m hy _) Reads.zero) fun r k _ _ => ?_⟩
    · simp only [zero_add, Nat.zero_mul, one_mul]
    · simp only [zero_add, Nat.zero_mul, one_mul]
  | n + 1, h => by
    have hN : cfg0.N = 8 := N_0
    have ih := running n (Nat.lt_of_succ_lt h)
    rw [outs_later m c ⟨n + 1, h⟩ (by show ¬(n + 1) % 8 = 0; omega) (blk6 m _) (blk7 m _) (parts_at m hd hw hx hg _) (parts_at' m hd hw hy hk _)]
    refine ⟨Reads.congr (gains (blk0 m hd ⟨n + 1, h⟩) (blk1 m hw _) (blk2 m hx _) ih.1) fun r k _ _ => ?_,
      Reads.congr (gains' (blk0 m hd ⟨n + 1, h⟩) (blk1 m hw _) (blk3 m hy _) ih.2) fun r k _ _ => ?_⟩
    · rw [Nat.add_mul (n + 1) 1 512, one_mul, Finset.sum_range_add]; rfl
    · rw [Nat.add_mul (n + 1) 1 512, one_mul, Finset.sum_range_add]; rfl

include hd hw hx hy hg hk in
/-- The gradient of the first norm's input, the whole array. -/
theorem array8 : (dats m 0 c).arrAt 8 cfg0.N = dx 0 U (W 0) X G :=
  (dats m 0 c).arrAt_eq_of_cover 8 (dx 0 U (W 0) X G) (fun t _ => by
    rw [Value.flushed8, (outs m hd hw hx hy hg hk t).1]
    funext y
    rw [View.read_apply]
    refine (rows_at m hd hw hx hg t y).trans ?_
    show _ = dx 0 U (W 0) X G _
    unfold dx
    show _ = ((grad 0 U (W 0) X G (win0_8.index t 0 * 512 + 1 * (y 0).val) (win0_8.index t 1 * 512 + 1 * (y 1).val) : ℝ) : EReal)
    rw [(idx8 t).1, (idx8 t).2, one_mul, one_mul, Nat.zero_mul, Nat.zero_add]) fun i => by
  have h0 : (i 0).val < 4096 := (i 0).isLt
  have h1 : (i 1).val < 512 := (i 1).isLt
  refine ⟨⟨(i 0).val / 512, by have hN : cfg0.N = 8 := N_0; omega⟩, flush0_8 _, ?_⟩
  generalize ht : (⟨(i 0).val / 512, _⟩ : Fin cfg0.N) = t
  have hv : t.val = (i 0).val / 512 := by rw [← ht]
  show i ∈ ((View.whole main_v4_0).slice (win0_8.rect t)).set
  rw [View.set_slice_whole, Rect.mem_set_unit]
  intro a
  match a with
  | ⟨0, _⟩ => show win0_8.index t 0 * 512 ≤ (i 0).val ∧ (i 0).val < win0_8.index t 0 * 512 + 512; rw [(idx8 t).1]; omega
  | ⟨1, _⟩ => show win0_8.index t 1 * 512 ≤ (i 1).val ∧ (i 1).val < win0_8.index t 1 * 512 + 512; rw [(idx8 t).2]; omega

include hd hw hx hy hg hk in
/-- The gradient of the second norm's input, the whole array. -/
theorem array9 : (dats m 0 c).arrAt 9 cfg0.N = dx 512 U (W 0) Y K :=
  (dats m 0 c).arrAt_eq_of_cover 9 (dx 512 U (W 0) Y K) (fun t _ => by
    rw [Value.flushed9, (outs m hd hw hx hy hg hk t).2.1]
    funext y
    rw [View.read_apply]
    refine (rows_at' m hd hw hy hk t y).trans ?_
    show _ = dx 512 U (W 0) Y K _
    unfold dx
    show _ = ((grad 512 U (W 0) Y K (win0_9.index t 0 * 512 + 1 * (y 0).val) (win0_9.index t 1 * 512 + 1 * (y 1).val) : ℝ) : EReal)
    rw [(idx9 t).1, (idx9 t).2, one_mul, one_mul, Nat.zero_mul, Nat.zero_add]) fun i => by
  have h0 : (i 0).val < 4096 := (i 0).isLt
  have h1 : (i 1).val < 512 := (i 1).isLt
  refine ⟨⟨(i 0).val / 512, by have hN : cfg0.N = 8 := N_0; omega⟩, flush0_9 _, ?_⟩
  generalize ht : (⟨(i 0).val / 512, _⟩ : Fin cfg0.N) = t
  have hv : t.val = (i 0).val / 512 := by rw [← ht]
  show i ∈ ((View.whole main_v4_1).slice (win0_9.rect t)).set
  rw [View.set_slice_whole, Rect.mem_set_unit]
  intro a
  match a with
  | ⟨0, _⟩ => show win0_9.index t 0 * 512 ≤ (i 0).val ∧ (i 0).val < win0_9.index t 0 * 512 + 512; rw [(idx9 t).1]; omega
  | ⟨1, _⟩ => show win0_9.index t 1 * 512 ≤ (i 1).val ∧ (i 1).val < win0_9.index t 1 * 512 + 512; rw [(idx9 t).2]; omega

include hd hw hx hy hg hk in
/-- The gradient of the first norm's gains, the whole array. -/
theorem array10 : (dats m 0 c).arrAt 10 cfg0.N = dg 0 U (W 0) X :=
  (dats m 0 c).arrAt_eq_of_cover 10 (dg 0 U (W 0) X) (fun t hf => by
    have ht := (flush0_10 t).mp hf
    have hN : cfg0.N = 8 := N_0
    have h7 : t.val = 7 := by have := t.isLt; omega
    rw [Value.flushed10]
    funext y
    rw [View.read_apply]
    refine ((running m hd hw hx hy hg hk t.val t.isLt).1 y).trans ?_
    show ((∑ r ∈ Finset.range ((t.val + 1) * 512), gain 0 U (W 0) X r (y 1).val : ℝ) : EReal)
      = ((∑ r ∈ Finset.range 4096, gain 0 U (W 0) X r (win0_10.index t 1 * 512 + 1 * (y 1).val) : ℝ) : EReal)
    rw [(idx10 t).2, h7, one_mul, Nat.zero_mul, Nat.zero_add]) fun i => by
  have h0 : (i 0).val < 1 := (i 0).isLt
  have h1 : (i 1).val < 512 := (i 1).isLt
  have hN : cfg0.N = 8 := N_0
  refine ⟨⟨7, by omega⟩, (flush0_10 _).mpr rfl, ?_⟩
  generalize (⟨7, _⟩ : Fin cfg0.N) = t
  show i ∈ ((View.whole main_v4_2).slice (win0_10.rect t)).set
  rw [View.set_slice_whole, Rect.mem_set_unit]
  intro a
  match a with
  | ⟨0, _⟩ => show win0_10.index t 0 * 1 ≤ (i 0).val ∧ (i 0).val < win0_10.index t 0 * 1 + 1; rw [(idx10 t).1]; omega
  | ⟨1, _⟩ => show win0_10.index t 1 * 512 ≤ (i 1).val ∧ (i 1).val < win0_10.index t 1 * 512 + 512; rw [(idx10 t).2]; omega

include hd hw hx hy hg hk in
/-- The gradient of the second norm's gains, the whole array. -/
theorem array11 : (dats m 0 c).arrAt 11 cfg0.N = dg 512 U (W 0) Y :=
  (dats m 0 c).arrAt_eq_of_cover 11 (dg 512 U (W 0) Y) (fun t hf => by
    have ht := (flush0_11 t).mp hf
    have hN : cfg0.N = 8 := N_0
    have h7 : t.val = 7 := by have := t.isLt; omega
    rw [Value.flushed11]
    funext y
    rw [View.read_apply]
    refine ((running m hd hw hx hy hg hk t.val t.isLt).2 y).trans ?_
    show ((∑ r ∈ Finset.range ((t.val + 1) * 512), gain 512 U (W 0) Y r (y 1).val : ℝ) : EReal)
      = ((∑ r ∈ Finset.range 4096, gain 512 U (W 0) Y r (win0_11.index t 1 * 512 + 1 * (y 1).val) : ℝ) : EReal)
    rw [(idx11 t).2, h7, one_mul, Nat.zero_mul, Nat.zero_add]) fun i => by
  have h0 : (i 0).val < 1 := (i 0).isLt
  have h1 : (i 1).val < 512 := (i 1).isLt
  have hN : cfg0.N = 8 := N_0
  refine ⟨⟨7, by omega⟩, (flush0_11 _).mpr rfl, ?_⟩
  generalize (⟨7, _⟩ : Fin cfg0.N) = t
  show i ∈ ((View.whole main_v4_3).slice (win0_11.rect t)).set
  rw [View.set_slice_whole, Rect.mem_set_unit]
  intro a
  match a with
  | ⟨0, _⟩ => show win0_11.index t 0 * 1 ≤ (i 0).val ∧ (i 0).val < win0_11.index t 0 * 1 + 1; rw [(idx11 t).1]; omega
  | ⟨1, _⟩ => show win0_11.index t 1 * 512 ≤ (i 1).val ∧ (i 1).val < win0_11.index t 1 * 512 + 512; rw [(idx11 t).2]; omega

include hd hw hx hy hg hk in
/-- The first norm's row sums, the whole array. -/
theorem array12 : (dats m 0 c).arrAt 12 cfg0.N = st 0 U (W 0) X G :=
  (dats m 0 c).arrAt_eq_of_cover 12 (st 0 U (W 0) X G) (fun t _ => by
    rw [Value.flushed12, (outs m hd hw hx hy hg hk t).2.2.1]
    funext y
    rw [View.read_apply]
    show ((stat (fun r k => X (t.val * 512 + r) k * grad 0 U (W 0) X G (t.val * 512 + r) k) (y 0).val (y 1).val (y 2).val : ℝ) : EReal)
      = ((stat (fun r k => X r k * grad 0 U (W 0) X G r k) (win0_12.index t 0 * 4 + 1 * (y 0).val) (win0_12.index t 1 * 512 + 1 * (y 1).val)
        (win0_12.index t 2 * 128 + 1 * (y 2).val) : ℝ) : EReal)
    rw [(idx12 t).1, (idx12 t).2.1, (idx12 t).2.2, one_mul, one_mul, one_mul, Nat.zero_add, Nat.zero_mul, Nat.zero_add]
    rfl) fun i => by
  have h0 : (i 0).val < 4 := (i 0).isLt
  have h1 : (i 1).val < 4096 := (i 1).isLt
  have h2 : (i 2).val < 128 := (i 2).isLt
  refine ⟨⟨(i 1).val / 512, by have hN : cfg0.N = 8 := N_0; omega⟩, flush0_12 _, ?_⟩
  generalize ht : (⟨(i 1).val / 512, _⟩ : Fin cfg0.N) = t
  have hv : t.val = (i 1).val / 512 := by rw [← ht]
  show i ∈ ((View.whole main_v4_4).slice (win0_12.rect t)).set
  rw [View.set_slice_whole, Rect.mem_set_unit]
  intro a
  match a with
  | ⟨0, _⟩ => show win0_12.index t 0 * 4 ≤ (i 0).val ∧ (i 0).val < win0_12.index t 0 * 4 + 4; rw [(idx12 t).1]; omega
  | ⟨1, _⟩ => show win0_12.index t 1 * 512 ≤ (i 1).val ∧ (i 1).val < win0_12.index t 1 * 512 + 512; rw [(idx12 t).2.1]; omega
  | ⟨2, _⟩ => show win0_12.index t 2 * 128 ≤ (i 2).val ∧ (i 2).val < win0_12.index t 2 * 128 + 128; rw [(idx12 t).2.2]; omega

include hd hw hx hy hg hk in
/-- The second norm's row sums, the whole array. -/
theorem array13 : (dats m 0 c).arrAt 13 cfg0.N = st 512 U (W 0) Y K :=
  (dats m 0 c).arrAt_eq_of_cover 13 (st 512 U (W 0) Y K) (fun t _ => by
    rw [Value.flushed13, (outs m hd hw hx hy hg hk t).2.2.2.1]
    funext y
    rw [View.read_apply]
    show ((stat (fun r k => Y (t.val * 512 + r) k * grad 512 U (W 0) Y K (t.val * 512 + r) k) (y 0).val (y 1).val (y 2).val : ℝ) : EReal)
      = ((stat (fun r k => Y r k * grad 512 U (W 0) Y K r k) (win0_13.index t 0 * 4 + 1 * (y 0).val) (win0_13.index t 1 * 512 + 1 * (y 1).val)
        (win0_13.index t 2 * 128 + 1 * (y 2).val) : ℝ) : EReal)
    rw [(idx13 t).1, (idx13 t).2.1, (idx13 t).2.2, one_mul, one_mul, one_mul, Nat.zero_add, Nat.zero_mul, Nat.zero_add]
    rfl) fun i => by
  have h0 : (i 0).val < 4 := (i 0).isLt
  have h1 : (i 1).val < 4096 := (i 1).isLt
  have h2 : (i 2).val < 128 := (i 2).isLt
  refine ⟨⟨(i 1).val / 512, by have hN : cfg0.N = 8 := N_0; omega⟩, flush0_13 _, ?_⟩
  generalize ht : (⟨(i 1).val / 512, _⟩ : Fin cfg0.N) = t
  have hv : t.val = (i 1).val / 512 := by rw [← ht]
  show i ∈ ((View.whole main_v4_5).slice (win0_13.rect t)).set
  rw [View.set_slice_whole, Rect.mem_set_unit]
  intro a
  match a with
  | ⟨0, _⟩ => show win0_13.index t 0 * 4 ≤ (i 0).val ∧ (i 0).val < win0_13.index t 0 * 4 + 4; rw [(idx13 t).1]; omega
  | ⟨1, _⟩ => show win0_13.index t 1 * 512 ≤ (i 1).val ∧ (i 1).val < win0_13.index t 1 * 512 + 512; rw [(idx13 t).2.1]; omega
  | ⟨2, _⟩ => show win0_13.index t 2 * 128 ≤ (i 2).val ∧ (i 2).val < win0_13.index t 2 * 128 + 128; rw [(idx13 t).2.2]; omega

include hd hw hx hy hg hk in
/-- The first norm's turned gradient, the whole array. -/
theorem array14 : (dats m 0 c).arrAt 14 cfg0.N = dxt 0 U (W 0) X G :=
  (dats m 0 c).arrAt_eq_of_cover 14 (dxt 0 U (W 0) X G) (fun t _ => by
    rw [Value.flushed14, (outs m hd hw hx hy hg hk t).2.2.2.2.1]
    funext y
    rw [View.read_apply]
    have y0 : (y 0).val < 1 := (y 0).isLt
    refine (turned (blk0 m hd t) (blk1 m hw t) (blk2 m hx t) (blk4 m hg t) y).trans ?_
    show ((grad 0 U (W 0) X G (t.val * 512 + (y 2).val) (y 1).val : ℝ) : EReal)
      = ((grad 0 U (W 0) X G ((win0_14.index t 0 * 1 + 1 * (y 0).val) * 512 + (win0_14.index t 2 * 512 + 1 * (y 2).val)) (win0_14.index t 1 * 512 + 1 * (y 1).val) : ℝ) : EReal)
    rw [(idx14 t).1, (idx14 t).2.1, (idx14 t).2.2, show (t.val * 1 + 1 * (y 0).val) * 512 + (0 * 512 + 1 * (y 2).val) = t.val * 512 + (y 2).val by omega,
      show 0 * 512 + 1 * (y 1).val = (y 1).val by omega]) fun i => by
  have h0 : (i 0).val < 8 := (i 0).isLt
  have h1 : (i 1).val < 512 := (i 1).isLt
  have h2 : (i 2).val < 512 := (i 2).isLt
  refine ⟨⟨(i 0).val, by have hN : cfg0.N = 8 := N_0; omega⟩, flush0_14 _, ?_⟩
  generalize ht : (⟨(i 0).val, _⟩ : Fin cfg0.N) = t
  have hv : t.val = (i 0).val := by rw [← ht]
  show i ∈ ((View.whole main_v4_6).slice (win0_14.rect t)).set
  rw [View.set_slice_whole, Rect.mem_set_unit]
  intro a
  match a with
  | ⟨0, _⟩ => show win0_14.index t 0 * 1 ≤ (i 0).val ∧ (i 0).val < win0_14.index t 0 * 1 + 1; rw [(idx14 t).1]; omega
  | ⟨1, _⟩ => show win0_14.index t 1 * 512 ≤ (i 1).val ∧ (i 1).val < win0_14.index t 1 * 512 + 512; rw [(idx14 t).2.1]; omega
  | ⟨2, _⟩ => show win0_14.index t 2 * 512 ≤ (i 2).val ∧ (i 2).val < win0_14.index t 2 * 512 + 512; rw [(idx14 t).2.2]; omega

include hd hw hx hy hg hk in
/-- The second norm's turned gradient, the whole array. -/
theorem array15 : (dats m 0 c).arrAt 15 cfg0.N = dxt 512 U (W 0) Y K :=
  (dats m 0 c).arrAt_eq_of_cover 15 (dxt 512 U (W 0) Y K) (fun t _ => by
    rw [Value.flushed15, (outs m hd hw hx hy hg hk t).2.2.2.2.2]
    funext y
    rw [View.read_apply]
    have y0 : (y 0).val < 1 := (y 0).isLt
    refine (turned' (blk0 m hd t) (blk1 m hw t) (blk3 m hy t) (blk5 m hk t) y).trans ?_
    show ((grad 512 U (W 0) Y K (t.val * 512 + (y 2).val) (y 1).val : ℝ) : EReal)
      = ((grad 512 U (W 0) Y K ((win0_15.index t 0 * 1 + 1 * (y 0).val) * 512 + (win0_15.index t 2 * 512 + 1 * (y 2).val)) (win0_15.index t 1 * 512 + 1 * (y 1).val) : ℝ) : EReal)
    rw [(idx15 t).1, (idx15 t).2.1, (idx15 t).2.2, show (t.val * 1 + 1 * (y 0).val) * 512 + (0 * 512 + 1 * (y 2).val) = t.val * 512 + (y 2).val by omega,
      show 0 * 512 + 1 * (y 1).val = (y 1).val by omega]) fun i => by
  have h0 : (i 0).val < 8 := (i 0).isLt
  have h1 : (i 1).val < 512 := (i 1).isLt
  have h2 : (i 2).val < 512 := (i 2).isLt
  refine ⟨⟨(i 0).val, by have hN : cfg0.N = 8 := N_0; omega⟩, flush0_15 _, ?_⟩
  generalize ht : (⟨(i 0).val, _⟩ : Fin cfg0.N) = t
  have hv : t.val = (i 0).val := by rw [← ht]
  show i ∈ ((View.whole main_v4_7).slice (win0_15.rect t)).set
  rw [View.set_slice_whole, Rect.mem_set_unit]
  intro a
  match a with
  | ⟨0, _⟩ => show win0_15.index t 0 * 1 ≤ (i 0).val ∧ (i 0).val < win0_15.index t 0 * 1 + 1; rw [(idx15 t).1]; omega
  | ⟨1, _⟩ => show win0_15.index t 1 * 512 ≤ (i 1).val ∧ (i 1).val < win0_15.index t 1 * 512 + 512; rw [(idx15 t).2.1]; omega
  | ⟨2, _⟩ => show win0_15.index t 2 * 512 ≤ (i 2).val ∧ (i 2).val < win0_15.index t 2 * 512 + 512; rw [(idx15 t).2.2]; omega

end Cert.Kernel7Ideal.Mix

end
-- ==== Proof.Mix.Reference.lean ====
/- The reference of the output norms' gradient over real numbers. -/
module

public import proofs.«01_k».proof.Proof.Gen.Reference7Ideal.Read
public import proofs.«01_k».proof.Proof.Real.HostNorm
public import proofs.«01_k».proof.Proof.Real.Softmax
public import proofs.«01_k».proof.Proof.Mix.Block

@[expose] public section

set_option maxRecDepth 16384

noncomputable section

namespace Cert.Reference7Ideal.Mix

open Idealize.ShloMosaic Idealize.ShloMosaic.Tactic Cert.Reference7Ideal Cert.Reference7Ideal.Gen Cert.Reference7Ideal.Read Cert.Reals
open Cert.Kernel7Ideal.Mix (pull grad gain stat)

variable {x0 x1 : (⟨S4096x512, .f32⟩ : BufTy).Contents (Elt Ideal)} {x2 x3 : (⟨S1x512, .f32⟩ : BufTy).Contents (Elt Ideal)}
  {x4 : (⟨S1x1024x1024, .f32⟩ : BufTy).Contents (Elt Ideal)} {x5 : (⟨S4096x1024, .f32⟩ : BufTy).Contents (Elt Ideal)}
variable {X G U Q : ℕ → ℕ → ℝ} {W : ℕ → ℕ → ℕ → ℝ} {z : FVec Ideal S4096x512 .f32}

/-- The gradient through a norm around which nothing runs. -/
theorem alone {m n : ℕ} {x d w : FVec Ideal ⟨2, ![m, n]⟩ .f32} {q : FVec Ideal ⟨2, ![m, 1]⟩ .f32} {f g : ℕ → ℕ → ℝ} (hx : Reads x f) (hd : Reads d g)
    (hq : Reads q fun r _ => rinv n f r) (hm : m ≠ 1)
    (hw : Reads w fun r _ => (∑ c ∈ Finset.range n, f r c * g r c) * (-(1 / 2) * (rinv n f r * rinv n f r * rinv n f r)) / (n : ℝ))
    (h : (⟨2, ![m, 1]⟩ : Shape).BroadcastsInDim ⟨2, ![m, n]⟩ ![0, 1]) :
    Reads (addf (addf (mulf d (broadcastInDim ⟨2, ![m, n]⟩ ![0, 1] h q)) (mulf x w)) (mulf w x)) (normGrad n f g) :=
  (((hd.mul (hq.hostSpread hm h)).add (hx.mul hw)).add (hw.mul hx)).congr fun r c _ _ => by
    unfold normGrad
    rw [Finset.sum_congr rfl fun c _ => mul_comm (f _ c) (g _ c)]
    ring

/-- The weights without their leading axis. -/
theorem weights (hw : Reads3 x4 W) : Reads (val_main_v35 (F := Ideal) x4) (W 0) := hw.drop shapeCasts_S1x1024x1024_S1024x1024

/-- The gradient of the projection's input. -/
theorem product (hw : Reads3 x4 W) (hd : Reads x5 U) : Reads (val_main_v37 (F := Ideal) x4 x5) (pull 0 U (W 0)) := fun i => by
  rw [val_main_v37_apply, sum_fin (g := fun k => U (i 0).val k * W 0 (i 1).val k) fun k => by
    rw [hd _, weights hw _, ← EReal.coe_mul]]
  unfold pull
  simp only [Nat.zero_add]

/-- The half of the columns that belongs to the first norm. -/
theorem first (hw : Reads3 x4 W) (hd : Reads x5 U) : Reads (val_main_v38 (F := Ideal) x4 x5) (pull 0 U (W 0)) :=
  ((product hw hd).cut slices_S4096x1024_S4096x512_0_0).congr fun r c _ _ => by rw [Nat.zero_add, Nat.zero_add]

/-- The half that belongs to the second. -/
theorem second (hw : Reads3 x4 W) (hd : Reads x5 U) : Reads (val_main_v39 (F := Ideal) x4 x5) (pull 512 U (W 0)) :=
  ((product hw hd).cut slices_S4096x1024_S4096x512_0_512).congr fun r c _ _ => by unfold pull; simp only [Nat.zero_add]

/-- The rows' mean squares. -/
theorem mean (hx : Reads x0 X) : Reads (val_main_v7 (F := Ideal) x0) fun r _ => meanSq 512 X r :=
  hostMean hx (by decide) (by decide) (by rw [Nat.cast_ofNat]; exact word_512) word_eps reducesTo_S4096x512_S4096_d1 (by decide) h_S_
    bcast_S4096_S4096x1_0 bcast_S_S4096x1

/-- One over the rows' root mean square. -/
theorem root (hx : Reads x0 X) : Reads (val_main_v8 (F := Ideal) x0) fun r _ => rinv 512 X r := (mean hx).hostRsqrt fun r _ => meanSq_pos _ _ _

/-- The gradient times the first norm's gains. -/
theorem gained (hg : Reads x2 G) (hw : Reads3 x4 W) (hd : Reads x5 U) :
    Reads (val_main_v65 (F := Ideal) x2 x4 x5) fun r c => pull 0 U (W 0) r c * G 0 c :=
  (first hw hd).mul (((hg.list shapeCasts_S1x512_S512).across (by decide) bcast_S512_S1x512_1).hostUnder (by decide) bcast_S1x512_S4096x512_0_1)

/-- Times the second norm's gains. -/
theorem gained' (hg : Reads x3 G) (hw : Reads3 x4 W) (hd : Reads x5 U) :
    Reads (val_main_v44 (F := Ideal) x3 x4 x5) fun r c => pull 512 U (W 0) r c * G 0 c :=
  (second hw hd).mul (((hg.list shapeCasts_S1x512_S512).across (by decide) bcast_S512_S1x512_1).hostUnder (by decide) bcast_S1x512_S4096x512_0_1)

/-- The gradient of the first norm's input. -/
theorem rows (hx : Reads x0 X) (hg : Reads x2 G) (hw : Reads3 x4 W) (hd : Reads x5 U) : Reads (val_main_v80 (F := Ideal) x0 x2 x4 x5) (grad 0 U (W 0) X G) :=
  alone hx (gained hg hw hd) (root hx) (by decide)
    (hostHalf hx (gained hg hw hd) (mean hx) (root hx) (by decide) (by decide) (by rw [Nat.cast_ofNat]; exact word_512) word_neg_half
      reducesTo_S4096x512_S4096_d1 (by decide) h_S_ shapeCasts_S4096_S4096x1 bcast_S_S4096x1 reducesTo_S4096x1_S4096_d1 (by decide) bcast_S4096_S4096x512_0)
    bcast_S4096x1_S4096x512_0_1

/-- The gradient of the second's. -/
theorem rows' (hx : Reads x1 X) (hg : Reads x3 G) (hw : Reads3 x4 W) (hd : Reads x5 U) : Reads (val_main_v59 (F := Ideal) x1 x3 x4 x5) (grad 512 U (W 0) X G) :=
  alone hx (gained' hg hw hd) (root hx) (by decide)
    (hostHalf hx (gained' hg hw hd) (mean hx) (root hx) (by decide) (by decide) (by rw [Nat.cast_ofNat]; exact word_512) word_neg_half
      reducesTo_S4096x512_S4096_d1 (by decide) h_S_ shapeCasts_S4096_S4096x1 bcast_S_S4096x1 reducesTo_S4096x1_S4096_d1 (by decide) bcast_S4096_S4096x512_0)
    bcast_S4096x1_S4096x512_0_1

/-- The gradients of the gains. -/
theorem gains (hx : Reads x0 X) (hw : Reads3 x4 W) (hd : Reads x5 U) :
    Reads (val_main_v81 (F := Ideal) x0 x4 x5) fun _ c => ∑ r ∈ Finset.range 4096, gain 0 U (W 0) X r c :=
  Reads.congr ((((((hx.mul ((root hx).hostSpread (by decide) bcast_S4096x1_S4096x512_0_1)).mul (first hw hd)).hostCols reducesTo_S4096x512_S512_d0
    (by decide) h_S_).flat shapeCasts_S512_S1x512).hostCols reducesTo_S1x512_S512_d0 (by decide) h_S_).across (by decide) bcast_S512_S1x512_1) fun r c _ _ => by
      rw [Finset.sum_range_one]
      exact Finset.sum_congr rfl fun r _ => mul_comm _ _

/-- The gradients of the second norm's gains. -/
theorem gains' (hx : Reads x1 X) (hw : Reads3 x4 W) (hd : Reads x5 U) :
    Reads (val_main_v60 (F := Ideal) x1 x4 x5) fun _ c => ∑ r ∈ Finset.range 4096, gain 512 U (W 0) X r c :=
  Reads.congr ((((((hx.mul ((root hx).hostSpread (by decide) bcast_S4096x1_S4096x512_0_1)).mul (second hw hd)).hostCols reducesTo_S4096x512_S512_d0
    (by decide) h_S_).flat shapeCasts_S512_S1x512).hostCols reducesTo_S1x512_S512_d0 (by decide) h_S_).across (by decide) bcast_S512_S1x512_1) fun r c _ _ => by
      rw [Finset.sum_range_one]
      exact Finset.sum_congr rfl fun r _ => mul_comm _ _

/-- The value around the row sums. -/
theorem zero_word : (val_main_call0_v0 (F := Ideal)) (Shape.Idx.first h_S_) = 0 := by
  show ((((0#32 : BitVec 32).toInt : ℝ)) : EReal) = 0
  simp

/-- The sums over 64 columns. -/
theorem sums (hz : Reads z Q) (i : S4096x4x2.Idx) :
    Host.reduceAdd (shapeCast S4096x4x2x64 z shapeCasts_S4096x512_S4096x4x2x64) (constant (F := Ideal) S_ .f32 0x00000000#32) reducesTo_S4096x4x2x64_S4096x4x2_d3 h_S_ i
      = ((∑ c ∈ Finset.range 64, Q (i 0).val (128 * (i 1).val + (64 * (i 2).val + c)) : ℝ) : EReal) := by
  have h0 : (i 0).val < 4096 := (i 0).isLt
  have h1 : (i 1).val < 4 := (i 1).isLt
  have h2 : (i 2).val < 2 := (i 2).isLt
  simp only [Host.reduceAdd, Ideal.hostReduceAdd_def]
  rw [Ideal.hostReduceAdd_single reducesTo_S4096x4x2x64_S4096x4x2_d3 (by decide)]
  refine (congrArg (_ + ·) (sum_fin (n := 64) (g := fun c => Q (i 0).val (128 * (i 1).val + (64 * (i 2).val + c))) fun k => ?_)).trans ?_
  · have h3 : k.val < 64 := k.isLt
    refine (congrArg (shapeCast S4096x4x2x64 z shapeCasts_S4096x512_S4096x4x2x64) (a₂ := idx_main_v86 i k) (funext fun a => Fin.ext (by
      match a with | ⟨0, _⟩ => rfl | ⟨1, _⟩ => rfl | ⟨2, _⟩ => rfl | ⟨3, _⟩ => rfl))).trans ?_
    rw [shapeCast_apply z shapeCasts_S4096x512_S4096x4x2x64 (idx_main_v86 i k) (idx_main_v85 (idx_main_v86 i k)) (by
      rewrite [Shape.rowMajor_val_two, Shape.rowMajor_val_four]
      show ((((i 0).val * 4 + (i 1).val) * 2 + (i 2).val) * 64 + k.val) / 512 * 512 + ((((i 0).val * 4 + (i 1).val) * 2 + (i 2).val) * 64 + k.val) % 512
        = (((i 0).val * 4 + (i 1).val) * 2 + (i 2).val) * 64 + k.val
      omega), hz _]
    show ((Q (((((i 0).val * 4 + (i 1).val) * 2 + (i 2).val) * 64 + k.val) / 512) (((((i 0).val * 4 + (i 1).val) * 2 + (i 2).val) * 64 + k.val) % 512) : ℝ) : EReal) = _
    rw [show ((((i 0).val * 4 + (i 1).val) * 2 + (i 2).val) * 64 + k.val) / 512 = (i 0).val by omega,
      show ((((i 0).val * 4 + (i 1).val) * 2 + (i 2).val) * 64 + k.val) % 512 = 128 * (i 1).val + (64 * (i 2).val + k.val) by omega]
  · rw [show constant (F := Ideal) S_ .f32 0x00000000#32 (Shape.Idx.first h_S_) = 0 from Ideal.ofBits_zero_f32, zero_add]

/-- The sums with zeros around them. -/
theorem padded (hz : Reads z Q) (i : S4x4096x128.Idx) :
    pad S4x4096x128 ![0, 0, 2] ![0, 0, 124] ![0, 0, 0] (transpose S4x4096x2 [1, 0, 2] (Host.reduceAdd (shapeCast S4096x4x2x64 z shapeCasts_S4096x512_S4096x4x2x64)
        (constant (F := Ideal) S_ .f32 0x00000000#32) reducesTo_S4096x4x2x64_S4096x4x2_d3 h_S_) transposes_S4096x4x2_S4x4096x2_1_0_2)
      (val_main_call0_v0 (F := Ideal)) pads_S4x4096x2_S4x4096x128_000_000_21240 h_S_ i = ((stat Q (i 0).val (i 1).val (i 2).val : ℝ) : EReal) := by
  have h0 : (i 0).val < 4 := (i 0).isLt
  have h1 : (i 1).val < 4096 := (i 1).isLt
  have h2 : (i 2).val < 128 := (i 2).isLt
  by_cases h : 2 ≤ (i 2).val ∧ (i 2).val < 4
  · obtain ⟨j, e0, e1, e2⟩ : ∃ j : S4x4096x2.Idx, (j 0).val = (i 0).val ∧ (j 1).val = (i 1).val ∧ (j 2).val = (i 2).val - 2 :=
      ⟨ValueIdx.ix3 (i 0) (i 1) (⟨(i 2).val - 2, by omega⟩ : Fin 2), rfl, rfl, rfl⟩
    refine (pad_apply_of_inside ![0, 0, 2] ![0, 0, 124] ![0, 0, 0] _ _ pads_S4x4096x2_S4x4096x128_000_000_21240 h_S_ i j (fun a => by
        match a with
        | ⟨0, _⟩ => show (i 0).val = 0 + (j 0).val * (0 + 1); omega
        | ⟨1, _⟩ => show (i 1).val = 0 + (j 1).val * (0 + 1); omega
        | ⟨2, _⟩ => show (i 2).val = 2 + (j 2).val * (0 + 1); omega)).trans ?_
    rw [transpose_apply [1, 0, 2] _ transposes_S4096x4x2_S4x4096x2_1_0_2 j (idx_main_v87 j) (fun b => by
        match b with
        | ⟨0, _⟩ => rfl
        | ⟨1, _⟩ => rfl
        | ⟨2, _⟩ => rfl), sums hz]
    show ((∑ c ∈ Finset.range 64, Q (j 1).val (128 * (j 0).val + (64 * (j 2).val + c)) : ℝ) : EReal) = _
    rw [e0, e1, e2]
    unfold stat
    obtain e | e : (i 2).val = 2 ∨ (i 2).val = 3 := by omega
    · rw [e, if_pos rfl]
      simp
    · rw [e, if_neg (by decide), if_pos rfl]
  · have hin : ¬(2 ≤ (i 2).val ∧ ((i 2).val - 2) % (0 + 1) = 0 ∧ ((i 2).val - 2) / (0 + 1) < 2) := fun q => h (by omega)
    refine (pad_apply_of_not_inside (s := S4x4096x2) ![0, 0, 2] ![0, 0, 124] ![0, 0, 0] _ _ pads_S4x4096x2_S4x4096x128_000_000_21240 h_S_ i (2 : Fin 3) hin).trans ?_
    rw [zero_word]
    unfold stat
    rw [if_neg (by omega), if_neg (by omega), EReal.coe_zero]

/-- Each 512 rows turned. -/
theorem turned (hz : Reads z Q) (i : S8x512x512.Idx) :
    transpose S8x512x512 [0, 2, 1] (shapeCast S8x512x512 z shapeCasts_S4096x512_S8x512x512) transposes_S8x512x512_S8x512x512_0_2_1 i
      = ((Q ((i 0).val * 512 + (i 2).val) (i 1).val : ℝ) : EReal) := by
  have h0 : (i 0).val < 8 := (i 0).isLt
  have h1 : (i 1).val < 512 := (i 1).isLt
  have h2 : (i 2).val < 512 := (i 2).isLt
  rw [transpose_apply [0, 2, 1] _ transposes_S8x512x512_S8x512x512_0_2_1 i (idx_main_v95 i) (fun b => by
      match b with
      | ⟨0, _⟩ => rfl
      | ⟨1, _⟩ => rfl
      | ⟨2, _⟩ => rfl),
    shapeCast_apply z shapeCasts_S4096x512_S8x512x512 (idx_main_v95 i) (idx_main_v94 (idx_main_v95 i)) (by
      rewrite [Shape.rowMajor_val_two, Shape.rowMajor_val_three]
      show (((i 0).val * 512 + (i 2).val) * 512 + (i 1).val) / 512 * 512 + (((i 0).val * 512 + (i 2).val) * 512 + (i 1).val) % 512
        = ((i 0).val * 512 + (i 2).val) * 512 + (i 1).val
      omega), hz _]
  show ((Q ((((i 0).val * 512 + (i 2).val) * 512 + (i 1).val) / 512) ((((i 0).val * 512 + (i 2).val) * 512 + (i 1).val) % 512) : ℝ) : EReal) = _
  rw [show (((i 0).val * 512 + (i 2).val) * 512 + (i 1).val) / 512 = (i 0).val * 512 + (i 2).val by omega,
    show (((i 0).val * 512 + (i 2).val) * 512 + (i 1).val) % 512 = (i 1).val by omega]

end Cert.Reference7Ideal.Mix

end
-- ==== Proof.Mix.Equation.lean ====
/- The output norms' gradient: kernel and reference hold the same eight arrays. -/
module

public import proofs.«01_k».proof.Defs
public import proofs.«01_k».proof.Proof.Gen.Reference7Ideal.Run
public import proofs.«01_k».proof.Proof.Mix.Kernel
public import proofs.«01_k».proof.Proof.Mix.Reference
public import proofs.«01_k».proof.Proof.Real.Finite3

@[expose] public section

set_option maxRecDepth 16384

noncomputable section

namespace Cert.Kernel7Ideal.Mix

open Idealize.ShloMosaic Idealize.ShloMosaic.Tactic Idealize.ShloMosaic.TcCoe Cert.Kernel7Ideal Cert.Kernel7Ideal.Gen Cert.Reals Idealize.SL.Sem

variable (m : (ℓ : Loc nD τ sig) → Buf (Elt Ideal) ℓ)

/-- The arguments hold real numbers. -/
def Launched (c : Dev nD) : Prop := (∃ X, Reads (m ((c : Thread nD τ).loc main_arg0)) X) ∧ (∃ Y, Reads (m ((c : Thread nD τ).loc main_arg1)) Y)
  ∧ (∃ G, Reads (m ((c : Thread nD τ).loc main_arg2)) G) ∧ (∃ K, Reads (m ((c : Thread nD τ).loc main_arg3)) K)
  ∧ (∃ W, Reads3 (m ((c : Thread nD τ).loc main_arg4)) W) ∧ ∃ U, Reads (m ((c : Thread nD τ).loc main_arg5)) U

variable {m} {c : Dev nD} (h : Launched m c)

include h in
/-- The gradients of the first norm's input. -/
theorem same_rows : Cert.Reference7Ideal.Read.val_main_v82 (F := Ideal) (m ((c : Thread nD τ).loc main_arg0)) (m ((c : Thread nD τ).loc main_arg2))
    (m ((c : Thread nD τ).loc main_arg4)) (m ((c : Thread nD τ).loc main_arg5)) = (dats m 0 c).arrAt 8 cfg0.N := by
  obtain ⟨⟨X, hx⟩, ⟨Y, hy⟩, ⟨G, hg⟩, ⟨K, hk⟩, ⟨W, hw⟩, U, hd⟩ := h
  rw [array8 m hd hw hx hy hg hk]
  exact funext fun i => Cert.Reference7Ideal.Mix.rows hx hg hw hd i

include h in
/-- The gradients of the second norm's input. -/
theorem same_rows' : Cert.Reference7Ideal.Read.val_main_v83 (F := Ideal) (m ((c : Thread nD τ).loc main_arg1)) (m ((c : Thread nD τ).loc main_arg3))
    (m ((c : Thread nD τ).loc main_arg4)) (m ((c : Thread nD τ).loc main_arg5)) = (dats m 0 c).arrAt 9 cfg0.N := by
  obtain ⟨⟨X, hx⟩, ⟨Y, hy⟩, ⟨G, hg⟩, ⟨K, hk⟩, ⟨W, hw⟩, U, hd⟩ := h
  rw [array9 m hd hw hx hy hg hk]
  exact funext fun i => Cert.Reference7Ideal.Mix.rows' hy hk hw hd i

include h in
/-- The gradients of the first norm's gains. -/
theorem same_gains : Cert.Reference7Ideal.Read.val_main_v81 (F := Ideal) (m ((c : Thread nD τ).loc main_arg0)) (m ((c : Thread nD τ).loc main_arg4))
    (m ((c : Thread nD τ).loc main_arg5)) = (dats m 0 c).arrAt 10 cfg0.N := by
  obtain ⟨⟨X, hx⟩, ⟨Y, hy⟩, ⟨G, hg⟩, ⟨K, hk⟩, ⟨W, hw⟩, U, hd⟩ := h
  rw [array10 m hd hw hx hy hg hk]
  exact funext fun i => Cert.Reference7Ideal.Mix.gains hx hw hd i

include h in
/-- The gradients of the second norm's gains. -/
theorem same_gains' : Cert.Reference7Ideal.Read.val_main_v60 (F := Ideal) (m ((c : Thread nD τ).loc main_arg1)) (m ((c : Thread nD τ).loc main_arg4))
    (m ((c : Thread nD τ).loc main_arg5)) = (dats m 0 c).arrAt 11 cfg0.N := by
  obtain ⟨⟨X, hx⟩, ⟨Y, hy⟩, ⟨G, hg⟩, ⟨K, hk⟩, ⟨W, hw⟩, U, hd⟩ := h
  rw [array11 m hd hw hx hy hg hk]
  exact funext fun i => Cert.Reference7Ideal.Mix.gains' hy hw hd i

include h in
/-- The row sums of the first norm's input times its gradient. -/
theorem same_sums : Cert.Reference7Ideal.Read.val_main_v88 (F := Ideal) (m ((c : Thread nD τ).loc main_arg0)) (m ((c : Thread nD τ).loc main_arg2))
    (m ((c : Thread nD τ).loc main_arg4)) (m ((c : Thread nD τ).loc main_arg5)) = (dats m 0 c).arrAt 12 cfg0.N := by
  obtain ⟨⟨X, hx⟩, ⟨Y, hy⟩, ⟨G, hg⟩, ⟨K, hk⟩, ⟨W, hw⟩, U, hd⟩ := h
  rw [array12 m hd hw hx hy hg hk]
  exact funext fun i => Cert.Reference7Ideal.Mix.padded (hx.mul (Cert.Reference7Ideal.Mix.rows hx hg hw hd)) i

include h in
/-- The row sums of the second norm's input times its gradient. -/
theorem same_sums' : Cert.Reference7Ideal.Read.val_main_v93 (F := Ideal) (m ((c : Thread nD τ).loc main_arg1)) (m ((c : Thread nD τ).loc main_arg3))
    (m ((c : Thread nD τ).loc main_arg4)) (m ((c : Thread nD τ).loc main_arg5)) = (dats m 0 c).arrAt 13 cfg0.N := by
  obtain ⟨⟨X, hx⟩, ⟨Y, hy⟩, ⟨G, hg⟩, ⟨K, hk⟩, ⟨W, hw⟩, U, hd⟩ := h
  rw [array13 m hd hw hx hy hg hk]
  exact funext fun i => Cert.Reference7Ideal.Mix.padded (hy.mul (Cert.Reference7Ideal.Mix.rows' hy hk hw hd)) i

include h in
/-- The turned gradients of the first norm's input. -/
theorem same_turned : Cert.Reference7Ideal.Read.val_main_v96 (F := Ideal) (m ((c : Thread nD τ).loc main_arg0)) (m ((c : Thread nD τ).loc main_arg2))
    (m ((c : Thread nD τ).loc main_arg4)) (m ((c : Thread nD τ).loc main_arg5)) = (dats m 0 c).arrAt 14 cfg0.N := by
  obtain ⟨⟨X, hx⟩, ⟨Y, hy⟩, ⟨G, hg⟩, ⟨K, hk⟩, ⟨W, hw⟩, U, hd⟩ := h
  rw [array14 m hd hw hx hy hg hk]
  exact funext fun i => Cert.Reference7Ideal.Mix.turned (Cert.Reference7Ideal.Mix.rows hx hg hw hd) i

include h in
/-- The turned gradients of the second norm's input. -/
theorem same_turned' : Cert.Reference7Ideal.Read.val_main_v99 (F := Ideal) (m ((c : Thread nD τ).loc main_arg1)) (m ((c : Thread nD τ).loc main_arg3))
    (m ((c : Thread nD τ).loc main_arg4)) (m ((c : Thread nD τ).loc main_arg5)) = (dats m 0 c).arrAt 15 cfg0.N := by
  obtain ⟨⟨X, hx⟩, ⟨Y, hy⟩, ⟨G, hg⟩, ⟨K, hk⟩, ⟨W, hw⟩, U, hd⟩ := h
  rw [array15 m hd hw hx hy hg hk]
  exact funext fun i => Cert.Reference7Ideal.Mix.turned (Cert.Reference7Ideal.Mix.rows' hy hk hw hd) i

end Cert.Kernel7Ideal.Mix

namespace Cert.Proof

open Idealize.ShloMosaic Idealize.ShloMosaic.Tactic Idealize.SL.Sem

/-- The output norms' gradient: the reference's run leaves every semaphore at zero and its arguments as they were. -/
theorem mix_reference_frame : Cert.quiescent_Reference7Ideal (hReference7Ideal := Cert.Reference7Ideal.Gen.facts) := fun m ρ _ =>
  (θ_run Cert.Reference7Ideal.defs _ _).mono
    (fun r h => ⟨fun c => (h c).2.2.2.2.2.2.2.2, Idealize.ShloMosaic.sem_eq_zero_of_no_sems (by decide) r.2⟩)
    (Cert.Reference7Ideal.Value.run (F := Ideal) m ρ)

/-- The shapes of the finiteness test fit. -/
theorem mix_finite_facts : Cert.Pre_finite7.Facts := ⟨by decide, by decide, by decide, by decide⟩

/-- The output norms' gradient: the finite arguments hold real numbers. -/
theorem mix_launched (m : (ℓ : Loc Cert.Kernel7Ideal.nD Cert.Kernel7Ideal.τ Cert.Kernel7Ideal.sig) → Buf (Elt Ideal) ℓ)
    (h : Cert.Pre_Kernel7Ideal_finite7 (hPre_finite7 := mix_finite_facts) m) (c : Dev Cert.Kernel7Ideal.nD) : Cert.Kernel7Ideal.Mix.Launched m c := by
  obtain ⟨h0, h1, h2, h3, h4, h5⟩ := h c
  exact ⟨⟨_, Cert.Reals.reads_of_finite (fun _ => Cert.Reals.word_top) h0⟩, ⟨_, Cert.Reals.reads_of_finite (fun _ => Cert.Reals.word_top) h1⟩,
    ⟨_, Cert.Reals.reads_of_finite (fun _ => Cert.Reals.word_top) h2⟩, ⟨_, Cert.Reals.reads_of_finite (fun _ => Cert.Reals.word_top) h3⟩,
    Cert.Reals.reads3_of_finite (fun _ => Cert.Reals.word_top) h4, ⟨_, Cert.Reals.reads_of_finite (fun _ => Cert.Reals.word_top) h5⟩⟩

/-- The output norms' gradient: kernel and reference end with the same eight arrays. -/
theorem mix_algebraic : Cert.algebraic_Kernel7Ideal_Reference7Ideal_pre_finite7 (hKernel7Ideal := Cert.Kernel7Ideal.Gen.facts)
    (hReference7Ideal := Cert.Reference7Ideal.Gen.facts) (hPre_finite7 := mix_finite_facts) := fun m ρ m' ρ' hp hag =>
  ⟨_, _, _, _, _, _, _, _, Cert.Kernel7Ideal.Value.run_blocks m ρ,
    (θ_run Cert.Reference7Ideal.defs _ _).mono
      (fun _ h c => by
        have hl := mix_launched m hp c
        obtain ⟨a0, a1, a2, a3, a4, a5⟩ := hag c
        obtain ⟨r0, r1, r2, r3, r4, r5, r6, r7, kept⟩ := h c
        refine ⟨r0.trans ?_, r1.trans ?_, r2.trans ?_, r3.trans ?_, r4.trans ?_, r5.trans ?_, r6.trans ?_, r7.trans ?_, kept⟩
        · rw [Cert.Reference7Ideal.Read.val_main_v82_eq, a0, a2, a4, a5]
          exact Cert.Kernel7Ideal.Mix.same_rows hl
        · rw [Cert.Reference7Ideal.Read.val_main_v83_eq, a1, a3, a4, a5]
          exact Cert.Kernel7Ideal.Mix.same_rows' hl
        · rw [Cert.Reference7Ideal.Read.val_main_v81_eq, a0, a4, a5]
          exact Cert.Kernel7Ideal.Mix.same_gains hl
        · rw [Cert.Reference7Ideal.Read.val_main_v60_eq, a1, a4, a5]
          exact Cert.Kernel7Ideal.Mix.same_gains' hl
        · rw [Cert.Reference7Ideal.Read.val_main_v88_eq, a0, a2, a4, a5]
          exact Cert.Kernel7Ideal.Mix.same_sums hl
        · rw [Cert.Reference7Ideal.Read.val_main_v93_eq, a1, a3, a4, a5]
          exact Cert.Kernel7Ideal.Mix.same_sums' hl
        · rw [Cert.Reference7Ideal.Read.val_main_v96_eq, a0, a2, a4, a5]
          exact Cert.Kernel7Ideal.Mix.same_turned hl
        · rw [Cert.Reference7Ideal.Read.val_main_v99_eq, a1, a3, a4, a5]
          exact Cert.Kernel7Ideal.Mix.same_turned' hl)
      (Cert.Reference7Ideal.Value.run (F := Ideal) m' ρ')⟩

end Cert.Proof

end
-- ==== Proof.Gate.Block.lean ====
/- The gate's reversed running sum, one block of rows, over real numbers. -/
module

public import proofs.«01_k».proof.Proof.Gen.Kernel8Ideal.Value
public import proofs.«01_k».proof.Proof.Real.Forget

@[expose] public section

set_option maxRecDepth 16384

noncomputable section

namespace Cert.Reals

open Idealize.ShloMosaic Idealize.ShloMosaic.Tactic

/-- Ones on and above the diagonal. -/
theorem Reads.upper (h0 : (⟨2, ![512, 512]⟩ : Shape).Iotas .tc 32 [0]) (h1 : (⟨2, ![512, 512]⟩ : Shape).Iotas .tc 32 [1]) :
    Reads (select (cmpi .sle (iota .tc ⟨2, ![512, 512]⟩ 32 [0] h0) (iota .tc ⟨2, ![512, 512]⟩ 32 [1] h1))
      (broadcast ⟨2, ![512, 512]⟩ (Scalar.ofBits .f32 0x3F800000#32)) (broadcast ⟨2, ![512, 512]⟩ (Scalar.ofBits .f32 0x00000000#32)) : FVec Ideal ⟨2, ![512, 512]⟩ .f32)
      fun r c => if r ≤ c then 1 else 0 := fun i => by
  have l0 : (i 0).val < 512 := (i 0).isLt
  have l1 : (i 1).val < 512 := (i 1).isLt
  show Scalar.select (IntOp.cmpi .sle (BitVec.ofNat 32 (0 * 512 + (i 0).val)) (BitVec.ofNat 32 (0 * 512 + (i 1).val)))
    (Ideal.ofBits .f32 0x3F800000#32) (Ideal.ofBits .f32 0x00000000#32) = _
  beta_reduce
  by_cases h : (i 0).val ≤ (i 1).val
  · rw [if_pos h, show IntOp.cmpi .sle (BitVec.ofNat 32 (0 * 512 + (i 0).val)) (BitVec.ofNat 32 (0 * 512 + (i 1).val)) = 1#1 by word_cmp]
    show Ideal.ofBits .f32 0x3F800000#32 = _
    simp [Ideal.ofBits, Ideal.ieee, -EReal.coe_mul]
    norm_num
  · rw [if_neg h, show IntOp.cmpi .sle (BitVec.ofNat 32 (0 * 512 + (i 0).val)) (BitVec.ofNat 32 (0 * 512 + (i 1).val)) = 0#1 by word_cmp]
    exact Ideal.ofBits_zero_f32.trans EReal.coe_zero.symm

/-- The rows of a block from `r` on, and all rows after the block, are all rows from `r` on. -/
theorem tail_sum (f : ℕ → ℝ) {b r N : ℕ} (hr : r ≤ 512) (hb : b + 512 ≤ N) :
    (∑ l ∈ Finset.range 512, (if r ≤ l then 1 else 0) * f (b + l)) + ∑ k ∈ Finset.Ico (b + 512) N, f k = ∑ k ∈ Finset.Ico (b + r) N, f k := by
  rw [← Finset.sum_Ico_consecutive f (Nat.add_le_add_left hr b) hb]
  congr 1
  rw [Nat.add_comm b r, Nat.add_comm b 512, ← Finset.sum_Ico_add' f r 512 b]
  simp only [ite_mul, one_mul, zero_mul]
  rw [← Finset.sum_filter]
  refine Finset.sum_congr (Finset.ext fun l => ?_) fun l _ => by rw [Nat.add_comm]
  simp only [Finset.mem_filter, Finset.mem_range, Finset.mem_Ico]
  omega

end Cert.Reals

namespace Cert.Kernel8Ideal.Gate

open Idealize.ShloMosaic Idealize.ShloMosaic.Tactic Cert.Kernel8Ideal Cert.Kernel8Ideal.Gen Cert.Reals

variable {x : FVec Ideal S512x128 .f32} {q : FVec Ideal S1x128 .f32} {f g : ℕ → ℕ → ℝ}

/-- A block's sums from each row on, and what the rows after the block add. -/
theorem sums (hx : Reads x f) (hq : Reads q g) : Reads (m := 512) (n := 128) (k0_pay2 (F := Ideal) x q)
    fun r c => (∑ l ∈ Finset.range 512, (if r ≤ l then 1 else 0) * f l c) + g 0 c :=
  have hi : Reads (m := 512) (n := 128) (truncf (F := Ideal) .bf16 x bitsLt_bf16_f32) f := hx
  have d : Reads (m := 512) (n := 128) (subf (F := Ideal) x (extf .f32 (truncf .bf16 x bitsLt_bf16_f32) bitsLt_bf16_f32)) fun r c => f r c - f r c := hx.sub hx
  have mid : Reads (m := 512) (n := 128) (truncf (F := Ideal) .bf16 (subf x (extf .f32 (truncf .bf16 x bitsLt_bf16_f32) bitsLt_bf16_f32)) bitsLt_bf16_f32)
    fun r c => f r c - f r c := d
  have lo := d.sub d
  have u : Reads (m := 512) (n := 512) (truncf (F := Ideal) .bf16 (select (cmpi .sle (iota .tc S512x512 32 [0] iota_S512x512_d0_w32) (iota .tc S512x512 32 [1] iota_S512x512_d1_w32))
      (broadcast S512x512 (Scalar.ofBits .f32 0x3F800000#32)) (broadcast S512x512 (Scalar.ofBits .f32 0x00000000#32))) bitsLt_bf16_f32)
      fun r c => if r ≤ c then 1 else 0 := Reads.upper _ _
  Reads.congr ((((Reads.dot (φ := .bf16) (φ' := .bf16) u hi rfl).add (Reads.dot (φ := .bf16) (φ' := .bf16) u mid rfl)).add
    (Reads.dot (φ := .bf16) (φ' := .bf16) u lo rfl)).add (hq.under (by decide) broadcasts_S1x128_S512x128)) fun r c _ _ => by
      simp only [sub_self, mul_zero, Finset.sum_const_zero, add_zero]

/-- Its first row. -/
theorem first (hx : Reads x f) (hq : Reads q g) : Reads (m := 1) (n := 128) (k0_pay3 (F := Ideal) x q)
    fun _ c => (∑ l ∈ Finset.range 512, (if 0 ≤ l then 1 else 0) * f l c) + g 0 c :=
  Reads.congr (((sums hx hq).cut slices_S512x128_o0_0_S1x128).same shapeCasts_S1x128_S1x128) fun r c hr _ => by
    obtain rfl : r = 0 := by omega
    simp only [Nat.zero_add]

end Cert.Kernel8Ideal.Gate

end
-- ==== Proof.Gate.Cases.lean ====
/- What each point of the grid leaves in the output's block and in the row it carries to the next point. -/
module

public import proofs.«01_k».proof.Proof.Gate.Block
public import Idealize.ShloMosaic.Lib.Pipeline.ReadBack

@[expose] public section

set_option maxRecDepth 16384

noncomputable section

namespace Cert.Kernel8Ideal.Gate

open Idealize.ShloMosaic Idealize.ShloMosaic.Tactic Idealize.ShloMosaic.TcCoe Cert.Kernel8Ideal Cert.Kernel8Ideal.Gen Cert.Reals

variable (m : (ℓ : Loc nD τ sig) → Buf (Elt Ideal) ℓ)

/-- The zero offsets of a load or store of a whole block. -/
theorem hz : (![0, 0] : Fin 2 → Nat) = fun _ => 0 := by funext a; fin_cases a <;> rfl

/-- The first row of the carried block. -/
abbrev top (x : Vec Ideal S8x128 .f32) : Vec Ideal S1x128 .f32 := View.ld x (Rect.unit (s := S8x128) ![0, 0] S1x128.size inb_S8x128_S1x128_0_0)

/-- The first point: the output. -/
theorem out_first (c : Dev nD) (t : Fin cfg0.N) (h0 : t.val % 8 = 0) :
    (outsAt0 m c t.val t.isLt).1 = k0_pay2 (F := Ideal) (iblk m c 0 t) (top (k0_pay1 (F := Ideal))) := by
  rw [outsAt0_A m c t h0]
  dsimp only
  unfold out0_A_1
  rw [View.read_writes_eq_canon _ _ _ (cover0_A_1 _ _ _ _ _ _ _ _ _ _)]
  unfold kernelRun0_A
  dsimp only
  sl_unfold_words
  rw [View.canon_unit_zero hz]
  simp only [View.readAt_eq_ld, (hs0_0 t).read_unread, View.ld_unit_zero (S := S512x128) hz]
  exact congrArg (k0_pay2 (F := Ideal) (iblk m c 0 t)) (View.readCov_fill (s := S8x128) (off := ![0, 0]) _ _ _ _ _ (congrFun hz))

/-- The first point: the carried row. -/
theorem carry_first (c : Dev nD) (t : Fin cfg0.N) (h0 : t.val % 8 = 0) :
    top (outsAt0 m c t.val t.isLt).2 = k0_pay3 (F := Ideal) (iblk m c 0 t) (top (k0_pay1 (F := Ideal))) := by
  rw [outsAt0_A m c t h0]
  dsimp only
  unfold sout0_A_0
  unfold kernelRun0_A
  dsimp only
  sl_unfold_words
  funext y
  refine (View.read_writes_cons_emb _ _ (Rect.unit (s := S8x128) ![0, 0] S1x128.size inb_S8x128_S1x128_0_0) _ _ y).trans ?_
  simp only [View.readAt_eq_ld, (hs0_0 t).read_unread, View.ld_unit_zero (S := S512x128) hz]
  exact congrFun (congrArg (k0_pay3 (F := Ideal) (iblk m c 0 t)) (View.readCov_fill (s := S8x128) (off := ![0, 0]) _ _ _ _ _ (congrFun hz))) y

/-- A later point: the output. -/
theorem out_later (c : Dev nD) (t : Fin cfg0.N) (h0 : ¬t.val % 8 = 0) :
    (outsAt0 m c t.val t.isLt).1
      = k0_pay2 (F := Ideal) (iblk m c 0 t) (top (outsAt0 m c (t.val - 1) (Nat.lt_of_le_of_lt (Nat.sub_le _ _) t.isLt)).2) := by
  rw [outsAt0_B m c t h0]
  dsimp only
  unfold out0_B_1
  rw [View.read_writes_eq_canon _ _ _ (cover0_B_1 _ _ _ _ _ _ _ _ _ _ _)]
  unfold kernelRun0_B
  dsimp only
  sl_unfold_words
  rw [View.canon_unit_zero hz]
  simp only [View.readAt_eq_ld, (hs0_0 t).read_unread, (Memref.isWhole_whole cc0_scratch0).read_unread, View.ld_unit_zero (S := S512x128) hz]

/-- A later point: the carried row. -/
theorem carry_later (c : Dev nD) (t : Fin cfg0.N) (h0 : ¬t.val % 8 = 0) :
    top (outsAt0 m c t.val t.isLt).2
      = k0_pay3 (F := Ideal) (iblk m c 0 t) (top (outsAt0 m c (t.val - 1) (Nat.lt_of_le_of_lt (Nat.sub_le _ _) t.isLt)).2) := by
  rw [outsAt0_B m c t h0]
  dsimp only
  unfold sout0_B_0
  unfold kernelRun0_B
  dsimp only
  sl_unfold_words
  funext y
  refine (View.read_writes_cons_emb _ _ (Rect.unit (s := S8x128) ![0, 0] S1x128.size inb_S8x128_S1x128_0_0) _ _ y).trans ?_
  simp only [View.readAt_eq_ld, (hs0_0 t).read_unread, (Memref.isWhole_whole cc0_scratch0).read_unread, View.ld_unit_zero (S := S512x128) hz]

end Cert.Kernel8Ideal.Gate

end
-- ==== Proof.Gate.Kernel.lean ====
/- The gate's reversed running sum, the whole array: each row holds the sum of the rows from it on. -/
module

public import proofs.«01_k».proof.Proof.Gate.Cases

@[expose] public section

set_option maxRecDepth 16384

noncomputable section

namespace Cert.Kernel8Ideal.Gate

open Idealize.ShloMosaic Idealize.ShloMosaic.Tactic Idealize.ShloMosaic.TcCoe Cert.Kernel8Ideal Cert.Kernel8Ideal.Gen Cert.Reals Idealize.SL.Sem

variable (m : (ℓ : Loc nD τ sig) → Buf (Elt Ideal) ℓ)

/-- Point `t` takes and writes block `7 - t` of the rows: the last rows first. -/
theorem idx0 : ∀ t : Fin cfg0.N, win0_0.index t 0 = 7 - t.val ∧ win0_0.index t 1 = 0 :=
  (by decide +kernel : ∀ t : Fin grid0.N, win0_0.index t 0 = 7 - t.val ∧ win0_0.index t 1 = 0)
theorem idx1 : ∀ t : Fin cfg0.N, win0_1.index t 0 = 7 - t.val ∧ win0_1.index t 1 = 0 :=
  (by decide +kernel : ∀ t : Fin grid0.N, win0_1.index t 0 = 7 - t.val ∧ win0_1.index t 1 = 0)

variable {c : Dev nD} {X : ℕ → ℕ → ℝ}

/-- A block of the argument. -/
theorem blk0 (h : Reads (m ((c : Thread nD τ).loc main_arg0)) X) (t : Fin cfg0.N) :
    Reads (m := 512) (n := 128) (iblk m c 0 t) fun r k => X ((7 - t.val) * 512 + r) k := fun i => by
  unfold iblk; rw [View.read_apply]
  refine (congrFun (V_main_arg0 m c) _).trans ((h _).trans ?_)
  show ((X (win0_0.index t 0 * 512 + 1 * (i 0).val) (win0_0.index t 1 * 128 + 1 * (i 1).val) : ℝ) : EReal) = _
  rw [(idx0 t).1, (idx0 t).2, one_mul, one_mul, Nat.zero_mul, Nat.zero_add]

/-- The sum of the rows from `r` on. -/
def tail (X : ℕ → ℕ → ℝ) (r k : ℕ) : ℝ := ∑ j ∈ Finset.Ico r 4096, X j k

/-- A block's sums and the sum of the rows after it. -/
theorem block_tail (X : ℕ → ℕ → ℝ) {b r : ℕ} (k : ℕ) (hr : r ≤ 512) (hb : b + 512 ≤ 4096) :
    (∑ l ∈ Finset.range 512, (if r ≤ l then 1 else 0) * X (b + l) k) + tail X (b + 512) k = tail X (b + r) k :=
  tail_sum (fun j => X j k) hr hb

/-- Past the last row nothing is left. -/
theorem tail_end (X : ℕ → ℕ → ℝ) {r : ℕ} (k : ℕ) (hr : 4096 ≤ r) : tail X r k = 0 := by
  unfold tail
  rw [Finset.Ico_eq_empty (by omega), Finset.sum_empty]

/-- The zeros the first point starts from. -/
theorem zeros : Reads (m := 1) (n := 128) (top (k0_pay1 (F := Ideal))) fun _ _ => 0 := fun i => Ideal.ofBits_zero_f32.trans EReal.coe_zero.symm

/-- The row the first point passes on. -/
theorem carried_first (hx : Reads (m ((c : Thread nD τ).loc main_arg0)) X) (t : Fin cfg0.N) (h0 : t.val = 0) :
    Reads (m := 1) (n := 128) (top (outsAt0 m c t.val t.isLt).2) fun _ k => tail X ((7 - t.val) * 512) k := by
  rw [carry_first m c t (by omega)]
  refine Reads.congr (first (blk0 m hx t) zeros) fun r k _ _ => ?_
  beta_reduce
  have e := block_tail X (b := (7 - t.val) * 512) (r := 0) k (by omega) (by omega)
  rw [tail_end X k (by omega), Nat.add_zero] at e
  exact e

/-- The row a later point passes on. -/
theorem carried_later (hx : Reads (m ((c : Thread nD τ).loc main_arg0)) X) (t : Fin cfg0.N) (h0 : ¬t.val % 8 = 0)
    (hp : Reads (m := 1) (n := 128) (top (outsAt0 m c (t.val - 1) (Nat.lt_of_le_of_lt (Nat.sub_le _ _) t.isLt)).2) fun _ k => tail X ((7 - (t.val - 1)) * 512) k) :
    Reads (m := 1) (n := 128) (top (outsAt0 m c t.val t.isLt).2) fun _ k => tail X ((7 - t.val) * 512) k := by
  have hN : cfg0.N = 8 := N_0
  have hl := t.isLt
  rw [carry_later m c t h0]
  refine Reads.congr (first (blk0 m hx t) hp) fun r k _ _ => ?_
  beta_reduce
  rw [show (7 - (t.val - 1)) * 512 = (7 - t.val) * 512 + 512 by omega, block_tail X k (by omega) (by omega), Nat.add_zero]

/-- The row carried past point `n`. -/
theorem carried (hx : Reads (m ((c : Thread nD τ).loc main_arg0)) X) (n : ℕ) : ∀ (h : n < cfg0.N),
    Reads (m := 1) (n := 128) (top (outsAt0 m c n h).2) fun _ k => tail X ((7 - n) * 512) k := by
  have hN : cfg0.N = 8 := N_0
  induction n with
  | zero => exact fun h => carried_first m hx ⟨0, h⟩ rfl
  | succ n ih => exact fun h => carried_later m hx ⟨n + 1, h⟩ (by show ¬(n + 1) % 8 = 0; omega) (ih (Nat.lt_of_succ_lt h))

/-- What a point leaves in the output. -/
theorem out_at (hx : Reads (m ((c : Thread nD τ).loc main_arg0)) X) (t : Fin cfg0.N) :
    Reads (m := 512) (n := 128) (outsAt0 m c t.val t.isLt).1 fun r k => tail X ((7 - t.val) * 512 + r) k := by
  have hN : cfg0.N = 8 := N_0
  have hl := t.isLt
  by_cases h0 : t.val % 8 = 0
  · rw [out_first m c t h0]
    refine Reads.congr (sums (blk0 m hx t) zeros) fun r k hr _ => ?_
    beta_reduce
    have e := block_tail X (b := (7 - t.val) * 512) (r := r) k (by omega) (by omega)
    rw [tail_end X k (by omega)] at e
    exact e
  · rw [out_later m c t h0]
    refine Reads.congr (sums (blk0 m hx t) (carried m hx (t.val - 1) _)) fun r k hr _ => ?_
    beta_reduce
    rw [show (7 - (t.val - 1)) * 512 = (7 - t.val) * 512 + 512 by omega, block_tail X k (by omega) (by omega)]

/-- The result as a function of the argument. -/
def out (X : ℕ → ℕ → ℝ) (i : S4096x128.Idx) : EReal := ((tail X (i 0).val (i 1).val : ℝ) : EReal)

/-- The result. -/
theorem array1 (hx : Reads (m ((c : Thread nD τ).loc main_arg0)) X) : (dats m 0 c).arrAt 1 cfg0.N = out X :=
  (dats m 0 c).arrAt_eq_of_cover 1 (out X) (fun t _ => by
    rw [Value.flushed1]
    funext y
    rw [View.read_apply]
    refine (out_at m hx t y).trans ?_
    show _ = ((tail X (win0_1.index t 0 * 512 + 1 * (y 0).val) (win0_1.index t 1 * 128 + 1 * (y 1).val) : ℝ) : EReal)
    rw [(idx1 t).1, (idx1 t).2, one_mul, one_mul, Nat.zero_mul, Nat.zero_add]) fun i => by
  have h0 : (i 0).val < 4096 := (i 0).isLt
  have h1 : (i 1).val < 128 := (i 1).isLt
  refine ⟨⟨7 - (i 0).val / 512, by have hN : cfg0.N = 8 := N_0; omega⟩, flush0_1 _, ?_⟩
  generalize ht : (⟨7 - (i 0).val / 512, _⟩ : Fin cfg0.N) = t
  have hv : t.val = 7 - (i 0).val / 512 := by rw [← ht]
  show i ∈ ((View.whole main_v0).slice (win0_1.rect t)).set
  rw [View.set_slice_whole, Rect.mem_set_unit]
  intro a
  match a with
  | ⟨0, _⟩ => show win0_1.index t 0 * 512 ≤ (i 0).val ∧ (i 0).val < win0_1.index t 0 * 512 + 512; rw [(idx1 t).1]; omega
  | ⟨1, _⟩ => show win0_1.index t 1 * 128 ≤ (i 1).val ∧ (i 1).val < win0_1.index t 1 * 128 + 128; rw [(idx1 t).2]; omega

end Cert.Kernel8Ideal.Gate

end
-- ==== Proof.Gate.Reference.lean ====
/- The reference of the gate's reversed running sum over real numbers: a sum over a window that starts at each row and reaches past the last. -/
module

public import proofs.«01_k».proof.Proof.Gen.Reference8Ideal.Read
public import proofs.«01_k».proof.Proof.Real.Reads

@[expose] public section

set_option maxRecDepth 16384

noncomputable section

namespace Cert.Reals

open Idealize.ShloMosaic Idealize.ShloMosaic.Tactic

/-- Adding up a list from a start. -/
theorem foldl_sum {α : Type} (g : α → EReal) : ∀ (l : List α) (v : EReal), l.foldl (fun r n => r + g n) v = v + (l.map g).sum
  | [], v => (add_zero v).symm
  | a :: l, v => by rw [List.foldl_cons, foldl_sum g l, List.map_cons, List.sum_cons, add_assoc]

/-- A sum over the places of one column. -/
theorem sum_column {m : ℕ} (g : (⟨2, ![m, 1]⟩ : Shape).Idx → EReal) {f : ℕ → ℝ} (h : ∀ i, g i = ((f (i 0).val : ℝ) : EReal)) :
    ∑ i, g i = ((∑ k ∈ Finset.range m, f k : ℝ) : EReal) := by
  rw [Finset.sum_range, coe_sum]
  refine Fintype.sum_bijective (fun j : (⟨2, ![m, 1]⟩ : Shape).Idx => (j 0 : Fin m)) ⟨fun a b e => funext fun k => ?_, fun k => ⟨ValueIdx.ix2 k 0, rfl⟩⟩ _ _ h
  match k with
  | ⟨0, _⟩ => exact e
  | ⟨1, _⟩ =>
    refine Fin.ext ?_
    have ha : (a 1).val < 1 := (a 1).isLt
    have hb : (b 1).val < 1 := (b 1).isLt
    show (a 1).val = (b 1).val
    omega

/-- The rows from `r` on, counted from `r`. -/
theorem range_tail (f : ℕ → ℝ) (m r : ℕ) : ∑ k ∈ Finset.range m, (if r + k < m then f (r + k) else 0) = ∑ k ∈ Finset.Ico r m, f k := by
  rw [← Finset.sum_filter, Finset.sum_Ico_eq_sum_range]
  refine Finset.sum_congr (Finset.ext fun k => ?_) fun _ _ => rfl
  simp only [Finset.mem_filter, Finset.mem_range]
  omega

/-- A sum over a window that reaches from a row past the last one, zeros beyond. -/
theorem Reads.window {m n p : ℕ} {u : Shape} {x : FVec Ideal ⟨2, ![m, n]⟩ .f32} {f : ℕ → ℕ → ℝ} (hx : Reads x f) {z : u.Idx → Ideal .f32} (hz : ∀ i, z i = 0)
    (h : (⟨2, ![m, n]⟩ : Shape).ReduceWindows ![m, 1] ![1, 1] ![0, 0] ![p, 0] ⟨2, ![m, n]⟩) (hu : 0 < u.numel) :
    Reads (Host.reduceWindowAdd ![m, 1] ![1, 1] ![0, 0] ![p, 0] x z h hu) fun r c => ∑ k ∈ Finset.Ico r m, f k c := fun j => by
  have j1 : (j 1).val < n := (j 1).isLt
  show Ideal.hostReduceWindowAdd ![m, 1] ![1, 1] ![0, 0] ![p, 0] h x (z (Shape.Idx.first hu)) j = _
  rw [hz]
  unfold Ideal.hostReduceWindowAdd Host.reduceWindow
  dsimp only
  rw [foldl_sum, zero_add, ← Fin.sum_univ_def]
  let G (i : (⟨2, ![m, 1]⟩ : Shape).Idx) : EReal := (((if (j 0).val + (i 0).val < m then f ((j 0).val + (i 0).val) (j 1).val else 0) : ℝ) : EReal)
  refine (Finset.sum_congr (g := fun l => G ((⟨2, ![m, 1]⟩ : Shape).rowMajor.symm l)) rfl fun l _ => ?_).trans ((Equiv.sum_comp _ G).trans
    ((sum_column (f := fun k => if (j 0).val + k < m then f ((j 0).val + k) (j 1).val else 0) G fun _ => rfl).trans
      (congrArg _ (range_tail (fun k => f k (j 1).val) m _))))
  let i : (⟨2, ![m, 1]⟩ : Shape).Idx := (⟨2, ![m, 1]⟩ : Shape).rowMajor.symm l
  show _ = (((if (j 0).val + (i 0).val < m then f ((j 0).val + (i 0).val) (j 1).val else 0) : ℝ) : EReal)
  have i1 : (i 1).val < 1 := (i 1).isLt
  split
  · next hin =>
    have b : (j 0).val * 1 + (i 0).val - 0 < m := (hin 0).2
    rw [if_pos (show (j 0).val + (i 0).val < m by omega), hx]
    show ((f ((j 0).val * 1 + (i 0).val - 0) ((j 1).val * 1 + (i 1).val - 0) : ℝ) : EReal) = _
    rw [show (j 0).val * 1 + (i 0).val - 0 = (j 0).val + (i 0).val by omega, show (j 1).val * 1 + (i 1).val - 0 = (j 1).val by omega]
  · next hin =>
    rw [if_neg fun b => hin fun a => ?_, EReal.coe_zero]
    match a with
    | ⟨0, _⟩ => exact ⟨Nat.zero_le _, show (j 0).val * 1 + (i 0).val - 0 < m by omega⟩
    | ⟨1, _⟩ => exact ⟨Nat.zero_le _, show (j 1).val * 1 + (i 1).val - 0 < n by omega⟩

end Cert.Reals

namespace Cert.Reference8Ideal.Gate

open Idealize.ShloMosaic Idealize.ShloMosaic.Tactic Cert.Reference8Ideal Cert.Reference8Ideal.Gen Cert.Reference8Ideal.Read Cert.Reals

/-- The result. -/
theorem result {x : (⟨S4096x128, .f32⟩ : BufTy).Contents (Elt Ideal)} {X : ℕ → ℕ → ℝ} (hx : Reads x X) :
    Reads (val_main_v1 (F := Ideal) x) fun r c => ∑ k ∈ Finset.Ico r 4096, X k c :=
  Reads.window hx (fun i => Ideal.ofBits_zero_f32) reduceWindows_S4096x128_S4096x128_w4096s1p0_4095_w1s1p0_0 h_S_

end Cert.Reference8Ideal.Gate

end
-- ==== Proof.Gate.Equation.lean ====
/- The gate's reversed running sum: kernel and reference hold the same array. -/
module

public import proofs.«01_k».proof.Defs
public import proofs.«01_k».proof.Proof.Gen.Reference8Ideal.Run
public import proofs.«01_k».proof.Proof.Gate.Kernel
public import proofs.«01_k».proof.Proof.Gate.Reference
public import proofs.«01_k».proof.Proof.Real.Finite3

@[expose] public section

set_option maxRecDepth 16384

noncomputable section

namespace Cert.Kernel8Ideal.Gate

open Idealize.ShloMosaic Idealize.ShloMosaic.Tactic Idealize.ShloMosaic.TcCoe Cert.Kernel8Ideal Cert.Kernel8Ideal.Gen Cert.Reals Idealize.SL.Sem

variable (m : (ℓ : Loc nD τ sig) → Buf (Elt Ideal) ℓ) {c : Dev nD}

/-- The same array. -/
theorem same {X : ℕ → ℕ → ℝ} (hx : Reads (m ((c : Thread nD τ).loc main_arg0)) X) :
    Cert.Reference8Ideal.Read.val_main_v1 (F := Ideal) (m ((c : Thread nD τ).loc main_arg0)) = (dats m 0 c).arrAt 1 cfg0.N := by
  rw [array1 m hx]
  exact funext fun i => Cert.Reference8Ideal.Gate.result hx i

end Cert.Kernel8Ideal.Gate

namespace Cert.Proof

open Idealize.ShloMosaic Idealize.ShloMosaic.Tactic Idealize.SL.Sem

/-- The gate's gradient: the reference's run leaves every semaphore at zero and its arguments as they were. -/
theorem gate_reference_frame : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The shapes of the finiteness test fit. -/
theorem gate_finite_facts : Cert.Pre_finite8.Facts := ⟨by decide⟩

/-- The gate's gradient: kernel and reference end with the same array. -/
theorem gate_algebraic : Cert.algebraic_Kernel8Ideal_Reference8Ideal_pre_finite8 (hKernel8Ideal := Cert.Kernel8Ideal.Gen.facts)
    (hReference8Ideal := Cert.Reference8Ideal.Gen.facts) (hPre_finite8 := gate_finite_facts) := fun m ρ m' ρ' hp hag =>
  ⟨_, Cert.Kernel8Ideal.Value.run_blocks m ρ,
    (θ_run Cert.Reference8Ideal.defs _ _).mono
      (fun _ h c => by
        refine ⟨(h c).1.trans ?_, (h c).2⟩
        rw [Cert.Reference8Ideal.Read.val_main_v1_eq, hag c]
        exact Cert.Kernel8Ideal.Gate.same m (Cert.Reals.reads_of_finite (fun _ => Cert.Reals.word_top) (hp c)))
      (Cert.Reference8Ideal.Value.run (F := Ideal) m' ρ')⟩

end Cert.Proof

end
-- ==== Proof.lean ====
/- The claims, put together from the modules below. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Relu.Reference
public import proofs.«01_k».proof.Proof.Mla.Printed
public import proofs.«01_k».proof.Proof.Mla.Equation
public import proofs.«01_k».proof.Proof.Fox.Printed
public import proofs.«01_k».proof.Proof.Fox.Equation
public import proofs.«01_k».proof.Proof.Real.Finite
public import Idealize.ShloMosaic.Adequacy
public import Idealize.ShloMosaic.Init
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Up.Equation
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Down.Equation
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Proj.Equation
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Mix.Equation
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gate.Equation
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame

@[expose] public section

noncomputable section

namespace Cert.Proof

open Idealize.ShloMosaic Idealize.SL.Sem Cert.Kernel

/-- The squared relu's gradient: the reference's run leaves every semaphore at zero and its arguments as they were. -/
theorem relu_reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The squared relu's gradient: kernel and reference end with the same array. -/
theorem relu_algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.ReluValue.G m c, Cert.KernelIdeal.ReluValue.run m ρ,
    (θ_run Cert.ReferenceIdeal.defs _ _).mono
      (fun _ h c => ⟨(h c).1.trans (by
        rw [(hag c).1, (hag c).2.1, (hag c).2.2, Cert.ReferenceIdeal.Read.val_main_v13_eq]
        exact Cert.ReferenceIdeal.ReluValue.value _ _ _), (h c).2⟩)
      (Cert.ReferenceIdeal.Value.run (F := Ideal) m' ρ')⟩

/-- The attention gradient: the reference's run leaves every semaphore at zero and its arguments as they were. -/
theorem mla_reference_frame : Cert.quiescent_Reference2Ideal (hReference2Ideal := Cert.Reference2Ideal.Gen.facts) := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- The attention gradient: each named constant has the value its name says. -/
theorem mla_preserves : Cert.preserves_Kernel2_Kernel2Ideal :=
  ⟨IdealRules.named_const.statement Cert.Kernel2Ideal.κ "s2" .f32 0x3E16C740#32 _ rfl,
   IdealRules.named_const.statement Cert.Kernel2Ideal.κ "ln2" .f32 0x3F317218#32 _ rfl⟩

/-- The shapes of the finiteness test fit. -/
theorem finite_facts : Cert.Pre_finite2.Facts := ⟨by decide, by decide⟩

/-- The attention gradient: the finite arguments hold real numbers, and the masked logits' rows have real maxima. -/
theorem mla_launched (m : (ℓ : Loc Cert.Kernel2Ideal.nD Cert.Kernel2Ideal.τ Cert.Kernel2Ideal.sig) → Buf (Elt Ideal) ℓ)
    (h : Cert.Pre_Kernel2Ideal_finite2 (hPre_finite2 := finite_facts) m) (c : Dev Cert.Kernel2Ideal.nD) :
    ∃ A B C O M, Cert.Kernel2Ideal.Mla.Launched m c A B C O M := by
  obtain ⟨h0, h1, h2, h3⟩ := h c
  have r0 := Cert.Reals.reads_of_finite (fun _ => Cert.Reals.word_top) h0
  have r1 := Cert.Reals.reads_of_finite (fun _ => Cert.Reals.word_top) h1
  have r2 := Cert.Reals.reads_of_finite (fun _ => Cert.Reals.word_top) h2
  have r3 := Cert.Reals.reads_of_finite (fun _ => Cert.Reals.word_top) h3
  obtain ⟨M, hM⟩ := Cert.Reference2Ideal.Mla.row_max r0 r1
  exact ⟨_, _, _, _, M, r0, r1, r2, r3, hM⟩

/-- The attention gradient: kernel and reference end with the same three arrays. -/
theorem mla_algebraic : Cert.algebraic_Kernel2Ideal_Reference2Ideal_pre_finite2 (hKernel2Ideal := Cert.Kernel2Ideal.Gen.facts)
    (hReference2Ideal := Cert.Reference2Ideal.Gen.facts) (hPre_finite2 := finite_facts) := fun m ρ m' ρ' hp hag =>
  ⟨_, _, _, Cert.Kernel2Ideal.Mla.run_results m ρ,
    (θ_run Cert.Reference2Ideal.defs _ _).mono
      (fun _ h c => by
        obtain ⟨A, B, C, O, M, hl⟩ := mla_launched m hp c
        obtain ⟨a0, a1, a2, a3⟩ := hag c
        refine ⟨(h c).1.trans ?_, (h c).2.1.trans ?_, (h c).2.2.1.trans ?_, (h c).2.2.2⟩
        · rw [Cert.Reference2Ideal.Read.val_main_v75_eq, a0, a1, a2, a3]
          exact Cert.Kernel2Ideal.Mla.same_q m c hl
        · rw [Cert.Reference2Ideal.Read.val_main_v76_eq, a0, a1, a2, a3]
          exact Cert.Kernel2Ideal.Mla.same_k m c hl
        · rw [Cert.Reference2Ideal.Read.val_main_v77_eq, a0, a1, a3]
          exact Cert.Kernel2Ideal.Mla.same_v m c hl)
      (Cert.Reference2Ideal.Value.run (F := Ideal) m' ρ')⟩

/-- The forgetting attention's gradient: the reference's run leaves every semaphore at zero and its arguments as they were. -/
theorem fox_reference_frame : Cert.quiescent_Reference3Ideal (hReference3Ideal := Cert.Reference3Ideal.Gen.facts) := fun m ρ _ =>
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m ρ)

/-- The forgetting attention's gradient: each named constant has the value its name says. -/
theorem fox_preserves : Cert.preserves_Kernel3_Kernel3Ideal :=
  ⟨IdealRules.named_const.statement Cert.Kernel3Ideal.κ "log2e" .f32 0x3FB8AA3B#32 _ rfl,
   IdealRules.named_const.statement Cert.Kernel3Ideal.κ "s2" .f32 0x3E38AA3B#32 _ rfl,
   IdealRules.named_const.statement Cert.Kernel3Ideal.κ "ln2" .f32 0x3F317218#32 _ rfl⟩

/-- The shapes of its finiteness test fit. -/
theorem fox_finite_facts : Cert.Pre_finite3.Facts := ⟨by decide, by decide⟩

/-- The forgetting attention's gradient: the finite arguments hold real numbers, and the masked logits' rows have real maxima. -/
theorem fox_launched (m : (ℓ : Loc Cert.Kernel3Ideal.nD Cert.Kernel3Ideal.τ Cert.Kernel3Ideal.sig) → Buf (Elt Ideal) ℓ)
    (h : Cert.Pre_Kernel3Ideal_finite3 (hPre_finite3 := fox_finite_facts) m) (c : Dev Cert.Kernel3Ideal.nD) :
    ∃ A B C O L M, Cert.Kernel3Ideal.Fox.Launched m c A B C O L M := by
  obtain ⟨h0, h1, h2, h3, h4⟩ := h c
  have r0 := Cert.Reals.reads_of_finite (fun _ => Cert.Reals.word_top) h0
  have r1 := Cert.Reals.reads_of_finite (fun _ => Cert.Reals.word_top) h1
  have r2 := Cert.Reals.reads_of_finite (fun _ => Cert.Reals.word_top) h2
  have r3 := Cert.Reals.reads_of_finite (fun _ => Cert.Reals.word_top) h3
  have r4 := Cert.Reals.reads_of_finite (fun _ => Cert.Reals.word_top) h4
  obtain ⟨M, hM⟩ := Cert.Kernel3Ideal.Fox.hostMax_reads r0 r1 r3
  exact ⟨_, _, _, _, _, M, r0, r1, r2, r3, r4, hM⟩

/-- The forgetting attention's gradient: kernel and reference end with the same four arrays. -/
theorem fox_algebraic : Cert.algebraic_Kernel3Ideal_Reference3Ideal_pre_finite3 (hKernel3Ideal := Cert.Kernel3Ideal.Gen.facts)
    (hReference3Ideal := Cert.Reference3Ideal.Gen.facts) (hPre_finite3 := fox_finite_facts) := fun m ρ m' ρ' hp hag =>
  ⟨_, _, _, _, Cert.Kernel3Ideal.Fox.run_results m ρ,
    (θ_run Cert.Reference3Ideal.defs _ _).mono
      (fun _ h c => by
        obtain ⟨A, B, C, O, L, M, hl⟩ := fox_launched m hp c
        obtain ⟨a0, a1, a2, a3, a4⟩ := hag c
        refine ⟨(h c).1.trans ?_, (h c).2.1.trans ?_, (h c).2.2.1.trans ?_, (h c).2.2.2.1.trans ?_, (h c).2.2.2.2⟩
        · rw [Cert.Reference3Ideal.Read.val_main_v93_eq, a0, a1, a2, a3, a4]
          exact Cert.Kernel3Ideal.Fox.same_q m c hl
        · rw [Cert.Reference3Ideal.Read.val_main_v94_eq, a0, a1, a2, a3, a4]
          exact Cert.Kernel3Ideal.Fox.same_k m c hl
        · rw [Cert.Reference3Ideal.Read.val_main_v95_eq, a0, a1, a3, a4]
          exact Cert.Kernel3Ideal.Fox.same_v m c hl
        · rw [Cert.Reference3Ideal.Read.val_main_v85_eq, a0, a1, a2, a3, a4]
          exact Cert.Kernel3Ideal.Fox.same_f m c hl)
      (Cert.Reference3Ideal.Value.run (F := Ideal) m' ρ')⟩

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts,
  finite_facts, fox_finite_facts, up_finite_facts, down_finite_facts, proj_finite_facts, mix_finite_facts, gate_finite_facts,
  fun m ρ _ => Cert.Kernel.Gen.frame m ρ, fun m ρ _ => Cert.KernelIdeal.Gen.frame m ρ, relu_reference_frame,
  Cert.Kernel2Ideal.Mla.frame_printed, fun m ρ _ => Cert.Kernel2Ideal.Mla.frame_main m ρ,
  fun m ρ _ => Cert.Kernel2Ideal.Mla.frame_main m ρ, mla_reference_frame, fun m ρ _ => mla_reference_frame m ρ trivial,
  Cert.Kernel3Ideal.Fox.frame_printed, fun m ρ _ => Cert.Kernel3Ideal.Fox.frame_main m ρ,
  fun m ρ _ => Cert.Kernel3Ideal.Fox.frame_main m ρ, fox_reference_frame, fun m ρ _ => fox_reference_frame m ρ trivial,
  fun m ρ _ => Cert.Kernel4.Gen.frame m ρ, fun m ρ _ => Cert.Kernel4Ideal.Gen.frame m ρ,
  fun m ρ _ => Cert.Kernel4Ideal.Gen.frame m ρ, up_reference_frame, fun m ρ _ => up_reference_frame m ρ trivial,
  fun m ρ _ => Cert.Kernel5.Gen.frame m ρ, fun m ρ _ => Cert.Kernel5Ideal.Gen.frame m ρ,
  fun m ρ _ => Cert.Kernel5Ideal.Gen.frame m ρ, down_reference_frame, fun m ρ _ => down_reference_frame m ρ trivial,
  fun m ρ _ => Cert.Kernel6.Gen.frame m ρ, fun m ρ _ => Cert.Kernel6Ideal.Gen.frame m ρ,
  fun m ρ _ => Cert.Kernel6Ideal.Gen.frame m ρ, proj_reference_frame, fun m ρ _ => proj_reference_frame m ρ trivial,
  fun m ρ _ => Cert.Kernel7.Gen.frame m ρ, fun m ρ _ => Cert.Kernel7Ideal.Gen.frame m ρ,
  fun m ρ _ => Cert.Kernel7Ideal.Gen.frame m ρ, mix_reference_frame, fun m ρ _ => mix_reference_frame m ρ trivial,
  fun m ρ _ => Cert.Kernel8.Gen.frame m ρ, fun m ρ _ => Cert.Kernel8Ideal.Gen.frame m ρ,
  fun m ρ _ => Cert.Kernel8Ideal.Gen.frame m ρ, gate_reference_frame, fun m ρ _ => gate_reference_frame m ρ trivial,
  fun m ρ _ => Cert.Kernel9.Gen.frame m ρ, fun m ρ _ => Cert.Kernel9Ideal.Gen.frame m ρ,
  trivial, relu_algebraic, mla_preserves, mla_algebraic, fox_preserves, fox_algebraic, trivial, up_algebraic, trivial, down_algebraic, trivial, proj_algebraic, trivial, mix_algebraic, trivial, gate_algebraic⟩

end Cert.Proof

end
